-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12))).2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12))).2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12))).2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12))).2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11)) (m ((c.tc : Thread Cert.Kernel9Ideal.nD Cert.Kernel9Ideal.τ).loc Cert.Kernel9Ideal.main_arg12)) (m ((c.tc : Thread Cert.Kernel9Ideal.nD Cert.Kernel9Ideal.τ).loc Cert.Kernel9Ideal.main_arg13))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11)) (m ((c.tc : Thread Cert.Kernel9Ideal.nD Cert.Kernel9Ideal.τ).loc Cert.Kernel9Ideal.main_arg12)) (m ((c.tc : Thread Cert.Kernel9Ideal.nD Cert.Kernel9Ideal.τ).loc Cert.Kernel9Ideal.main_arg13))).2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11)) (m ((c.tc : Thread Cert.Kernel9Ideal.nD Cert.Kernel9Ideal.τ).loc Cert.Kernel9Ideal.main_arg12)) (m ((c.tc : Thread Cert.Kernel9Ideal.nD Cert.Kernel9Ideal.τ).loc Cert.Kernel9Ideal.main_arg13))).2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10)) (m ((c.tc : Thread Cert.Reference9Ideal.nD Cert.Reference9Ideal.τ).loc Cert.Reference9Ideal.main_arg11)) (m ((c.tc : Thread Cert.Reference9Ideal.nD Cert.Reference9Ideal.τ).loc Cert.Reference9Ideal.main_arg12)) (m ((c.tc : Thread Cert.Reference9Ideal.nD Cert.Reference9Ideal.τ).loc Cert.Reference9Ideal.main_arg13))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10)) (m ((c.tc : Thread Cert.Reference9Ideal.nD Cert.Reference9Ideal.τ).loc Cert.Reference9Ideal.main_arg11)) (m ((c.tc : Thread Cert.Reference9Ideal.nD Cert.Reference9Ideal.τ).loc Cert.Reference9Ideal.main_arg12)) (m ((c.tc : Thread Cert.Reference9Ideal.nD Cert.Reference9Ideal.τ).loc Cert.Reference9Ideal.main_arg13))).2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10)) (m ((c.tc : Thread Cert.Reference9Ideal.nD Cert.Reference9Ideal.τ).loc Cert.Reference9Ideal.main_arg11)) (m ((c.tc : Thread Cert.Reference9Ideal.nD Cert.Reference9Ideal.τ).loc Cert.Reference9Ideal.main_arg12)) (m ((c.tc : Thread Cert.Reference9Ideal.nD Cert.Reference9Ideal.τ).loc Cert.Reference9Ideal.main_arg13))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11)
      ∧ r.2.mem ((c.tc : Thread Cert.Kernel9.nD Cert.Kernel9.τ).loc Cert.Kernel9.main_arg12) = m ((c.tc : Thread Cert.Kernel9.nD Cert.Kernel9.τ).loc Cert.Kernel9.main_arg12)
      ∧ r.2.mem ((c.tc : Thread Cert.Kernel9.nD Cert.Kernel9.τ).loc Cert.Kernel9.main_arg13) = m ((c.tc : Thread Cert.Kernel9.nD Cert.Kernel9.τ).loc Cert.Kernel9.main_arg13))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
      ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
      ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
      ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
      ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11)
      ∧ r.2.mem ((c.tc : Thread Cert.Reference9Ideal.nD Cert.Reference9Ideal.τ).loc Cert.Reference9Ideal.main_arg12) = m ((c.tc : Thread Cert.Reference9Ideal.nD Cert.Reference9Ideal.τ).loc Cert.Reference9Ideal.main_arg12)
      ∧ r.2.mem ((c.tc : Thread Cert.Reference9Ideal.nD Cert.Reference9Ideal.τ).loc Cert.Reference9Ideal.main_arg13) = m ((c.tc : Thread Cert.Reference9Ideal.nD Cert.Reference9Ideal.τ).loc Cert.Reference9Ideal.main_arg13))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11)
      ∧ r.2.mem ((c.tc : Thread Cert.Reference9Ideal.nD Cert.Reference9Ideal.τ).loc Cert.Reference9Ideal.main_arg12) = m ((c.tc : Thread Cert.Reference9Ideal.nD Cert.Reference9Ideal.τ).loc Cert.Reference9Ideal.main_arg12)
      ∧ r.2.mem ((c.tc : Thread Cert.Reference9Ideal.nD Cert.Reference9Ideal.τ).loc Cert.Reference9Ideal.main_arg13) = m ((c.tc : Thread Cert.Reference9Ideal.nD Cert.Reference9Ideal.τ).loc Cert.Reference9Ideal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v23_0)) (v1 : (c : Dev Cert.Kernel2Ideal.nD) → Buf (Elt Ideal) ((c.tc : Thread Cert.Kernel2Ideal.nD Cert.Kernel2Ideal.τ).loc Cert.Kernel2Ideal.main_v23_1)) (v2 : (c : Dev Cert.Kernel2Ideal.nD) → Buf (Elt Ideal) ((c.tc : Thread Cert.Kernel2Ideal.nD Cert.Kernel2Ideal.τ).loc Cert.Kernel2Ideal.main_v23_2)) (v3 : (c : Dev Cert.Kernel2Ideal.nD) → Buf (Elt Ideal) ((c.tc : Thread Cert.Kernel2Ideal.nD Cert.Kernel2Ideal.τ).loc Cert.Kernel2Ideal.main_v23_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23_0) = v0 c
          ∧ r.2.mem ((c.tc : Thread Cert.Kernel2Ideal.nD Cert.Kernel2Ideal.τ).loc Cert.Kernel2Ideal.main_v23_1) = v1 c
          ∧ r.2.mem ((c.tc : Thread Cert.Kernel2Ideal.nD Cert.Kernel2Ideal.τ).loc Cert.Kernel2Ideal.main_v23_2) = v2 c
          ∧ r.2.mem ((c.tc : Thread Cert.Kernel2Ideal.nD Cert.Kernel2Ideal.τ).loc Cert.Kernel2Ideal.main_v23_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_v79) = v1 c
          ∧ r.2.mem ((c.tc : Thread Cert.Reference2Ideal.nD Cert.Reference2Ideal.τ).loc Cert.Reference2Ideal.main_v80) = v2 c
          ∧ r.2.mem ((c.tc : Thread Cert.Reference2Ideal.nD Cert.Reference2Ideal.τ).loc Cert.Reference2Ideal.main_v81) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_v42) = v1 c
          ∧ r.2.mem ((c.tc : Thread Cert.Reference3Ideal.nD Cert.Reference3Ideal.τ).loc Cert.Reference3Ideal.main_v43) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)) (v2 : (c : Dev Cert.Kernel4Ideal.nD) → Buf (Elt Ideal) ((c.tc : Thread Cert.Kernel4Ideal.nD Cert.Kernel4Ideal.τ).loc Cert.Kernel4Ideal.main_v9_3)) (v3 : (c : Dev Cert.Kernel4Ideal.nD) → Buf (Elt Ideal) ((c.tc : Thread Cert.Kernel4Ideal.nD Cert.Kernel4Ideal.τ).loc Cert.Kernel4Ideal.main_v9_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_v9_3) = v2 c
          ∧ r.2.mem ((c.tc : Thread Cert.Kernel4Ideal.nD Cert.Kernel4Ideal.τ).loc Cert.Kernel4Ideal.main_v9_4) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_v73) = v1 c
          ∧ r.2.mem ((c.tc : Thread Cert.Reference4Ideal.nD Cert.Reference4Ideal.τ).loc Cert.Reference4Ideal.main_v74) = v2 c
          ∧ r.2.mem ((c.tc : Thread Cert.Reference4Ideal.nD Cert.Reference4Ideal.τ).loc Cert.Reference4Ideal.main_v75) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v304)) (v1 : (c : Dev Cert.Kernel5Ideal.nD) → Buf (Elt Ideal) ((c.tc : Thread Cert.Kernel5Ideal.nD Cert.Kernel5Ideal.τ).loc Cert.Kernel5Ideal.main_v305)) (v2 : (c : Dev Cert.Kernel5Ideal.nD) → Buf (Elt Ideal) ((c.tc : Thread Cert.Kernel5Ideal.nD Cert.Kernel5Ideal.τ).loc Cert.Kernel5Ideal.main_v306)) (v3 : (c : Dev Cert.Kernel5Ideal.nD) → Buf (Elt Ideal) ((c.tc : Thread Cert.Kernel5Ideal.nD Cert.Kernel5Ideal.τ).loc Cert.Kernel5Ideal.main_v307)) (v4 : (c : Dev Cert.Kernel5Ideal.nD) → Buf (Elt Ideal) ((c.tc : Thread Cert.Kernel5Ideal.nD Cert.Kernel5Ideal.τ).loc Cert.Kernel5Ideal.main_v303_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v304) = v0 c
          ∧ r.2.mem ((c.tc : Thread Cert.Kernel5Ideal.nD Cert.Kernel5Ideal.τ).loc Cert.Kernel5Ideal.main_v305) = v1 c
          ∧ r.2.mem ((c.tc : Thread Cert.Kernel5Ideal.nD Cert.Kernel5Ideal.τ).loc Cert.Kernel5Ideal.main_v306) = v2 c
          ∧ r.2.mem ((c.tc : Thread Cert.Kernel5Ideal.nD Cert.Kernel5Ideal.τ).loc Cert.Kernel5Ideal.main_v307) = v3 c
          ∧ r.2.mem ((c.tc : Thread Cert.Kernel5Ideal.nD Cert.Kernel5Ideal.τ).loc Cert.Kernel5Ideal.main_v303_2) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v167) = v0 c
          ∧ r.2.mem ((c.tc : Thread Cert.Reference5Ideal.nD Cert.Reference5Ideal.τ).loc Cert.Reference5Ideal.main_v168) = v1 c
          ∧ r.2.mem ((c.tc : Thread Cert.Reference5Ideal.nD Cert.Reference5Ideal.τ).loc Cert.Reference5Ideal.main_v169) = v2 c
          ∧ r.2.mem ((c.tc : Thread Cert.Reference5Ideal.nD Cert.Reference5Ideal.τ).loc Cert.Reference5Ideal.main_v170) = v3 c
          ∧ r.2.mem ((c.tc : Thread Cert.Reference5Ideal.nD Cert.Reference5Ideal.τ).loc Cert.Reference5Ideal.main_v120) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v8_0)) (v1 : (c : Dev Cert.Kernel6Ideal.nD) → Buf (Elt Ideal) ((c.tc : Thread Cert.Kernel6Ideal.nD Cert.Kernel6Ideal.τ).loc Cert.Kernel6Ideal.main_v8_1)) (v2 : (c : Dev Cert.Kernel6Ideal.nD) → Buf (Elt Ideal) ((c.tc : Thread Cert.Kernel6Ideal.nD Cert.Kernel6Ideal.τ).loc Cert.Kernel6Ideal.main_v8_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8_0) = v0 c
          ∧ r.2.mem ((c.tc : Thread Cert.Kernel6Ideal.nD Cert.Kernel6Ideal.τ).loc Cert.Kernel6Ideal.main_v8_1) = v1 c
          ∧ r.2.mem ((c.tc : Thread Cert.Kernel6Ideal.nD Cert.Kernel6Ideal.τ).loc Cert.Kernel6Ideal.main_v8_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_v17) = v1 c
          ∧ r.2.mem ((c.tc : Thread Cert.Reference6Ideal.nD Cert.Reference6Ideal.τ).loc Cert.Reference6Ideal.main_v20) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)) →
    ∃ (v0 : (c : Dev Cert.Kernel7Ideal.nD) → Buf (Elt Ideal) ((c.tc : Thread Cert.Kernel7Ideal.nD Cert.Kernel7Ideal.τ).loc Cert.Kernel7Ideal.main_v40_0)) (v1 : (c : Dev Cert.Kernel7Ideal.nD) → Buf (Elt Ideal) ((c.tc : Thread Cert.Kernel7Ideal.nD Cert.Kernel7Ideal.τ).loc Cert.Kernel7Ideal.main_v41)) (v2 : (c : Dev Cert.Kernel7Ideal.nD) → Buf (Elt Ideal) ((c.tc : Thread Cert.Kernel7Ideal.nD Cert.Kernel7Ideal.τ).loc Cert.Kernel7Ideal.main_v42)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v40_0) = v0 c
          ∧ r.2.mem ((c.tc : Thread Cert.Kernel7Ideal.nD Cert.Kernel7Ideal.τ).loc Cert.Kernel7Ideal.main_v41) = v1 c
          ∧ r.2.mem ((c.tc : Thread Cert.Kernel7Ideal.nD Cert.Kernel7Ideal.τ).loc Cert.Kernel7Ideal.main_v42) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_v73) = v1 c
          ∧ r.2.mem ((c.tc : Thread Cert.Reference7Ideal.nD Cert.Reference7Ideal.τ).loc Cert.Reference7Ideal.main_v87) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_v2) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)
      ∧ m' ((c.tc : Thread Cert.Reference9Ideal.nD Cert.Reference9Ideal.τ).loc Cert.Reference9Ideal.main_arg12) = m ((c.tc : Thread Cert.Kernel9Ideal.nD Cert.Kernel9Ideal.τ).loc Cert.Kernel9Ideal.main_arg12)
      ∧ m' ((c.tc : Thread Cert.Reference9Ideal.nD Cert.Reference9Ideal.τ).loc Cert.Reference9Ideal.main_arg13) = m ((c.tc : Thread Cert.Kernel9Ideal.nD Cert.Kernel9Ideal.τ).loc Cert.Kernel9Ideal.main_arg13)) →
    ∃ (v0 : (c : Dev Cert.Kernel9Ideal.nD) → Buf (Elt Ideal) ((c.tc : Thread Cert.Kernel9Ideal.nD Cert.Kernel9Ideal.τ).loc Cert.Kernel9Ideal.main_v41)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v41) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
          ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
          ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v91) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11)
          ∧ r.2.mem ((c.tc : Thread Cert.Reference9Ideal.nD Cert.Reference9Ideal.τ).loc Cert.Reference9Ideal.main_arg12) = m' ((c.tc : Thread Cert.Reference9Ideal.nD Cert.Reference9Ideal.τ).loc Cert.Reference9Ideal.main_arg12)
          ∧ r.2.mem ((c.tc : Thread Cert.Reference9Ideal.nD Cert.Reference9Ideal.τ).loc Cert.Reference9Ideal.main_arg13) = m' ((c.tc : Thread Cert.Reference9Ideal.nD Cert.Reference9Ideal.τ).loc Cert.Reference9Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite2 : Cert.Pre_finite2.Facts) (hPre_finite3 : Cert.Pre_finite3.Facts) (hPre_finite5 : Cert.Pre_finite5.Facts) (hPre_finite9 : Cert.Pre_finite9.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
-- ==== Pre_finite2.lean ====
abbrev S8208x1024 : Shape := ⟨2, ![8208, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S8208x1024 : S_.BroadcastsInDim S8208x1024 (![] : Fin 0 → Fin S8208x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S4096x1024 : S_.BroadcastsInDim S4096x1024 (![] : Fin 0 → Fin S4096x1024.rank)

variable [Facts]

def fn {F : FTy → Type} [FloatOps F] (main_arg0 : FVec F S8208x1024 .f32) (main_arg1 : FVec F S1024 .f32) (main_arg2 : FVec F S1024x4096 .f32) (main_arg3 : FVec F S4096x1024 .f32) (main_arg4 : FVec F S8208x1024 .f32) : IVec S8208x1024 1 × IVec S1024 1 × IVec S1024x4096 1 × IVec S4096x1024 1 × IVec S8208x1024 1 :=
  let main_v0 : FVec F S8208x1024 .f32 := Host.absf main_arg0
  let main_cst : FVec F S_ .f32 := constant S_ .f32 0x7F800000#32
  let main_v1 : FVec F S8208x1024 .f32 := broadcastInDim S8208x1024 ![] bcast_S_S8208x1024 main_cst
  let main_v2 : IVec S8208x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S8208x1024 .f32 := Host.absf main_arg4
  let main_cst_3 : FVec F S_ .f32 := constant S_ .f32 0x7F800000#32
  let main_v13 : FVec F S8208x1024 .f32 := broadcastInDim S8208x1024 ![] bcast_S_S8208x1024 main_cst_3
  let main_v14 : IVec S8208x1024 1 := cmpf .olt main_v12 main_v13
  (main_v2, main_v5, main_v8, main_v11, main_v14)
-- ==== Pre_finite3.lean ====
abbrev S8208x1536 : Shape := ⟨2, ![8208, 1536]⟩
abbrev S8208x1024 : Shape := ⟨2, ![8208, 1024]⟩
abbrev S1024 : Shape := ⟨1, ![1024]⟩
abbrev S1024x1536 : Shape := ⟨2, ![1024, 1536]⟩
abbrev S_ : Shape := ⟨0, ![]⟩

class Facts : Prop where
  bcast_S_S8208x1536 : S_.BroadcastsInDim S8208x1536 (![] : Fin 0 → Fin S8208x1536.rank)
  bcast_S_S8208x1024 : S_.BroadcastsInDim S8208x1024 (![] : Fin 0 → Fin S8208x1024.rank)
  bcast_S_S1024 : S_.BroadcastsInDim S1024 (![] : Fin 0 → Fin S1024.rank)
  bcast_S_S1024x1536 : S_.BroadcastsInDim S1024x1536 (![] : Fin 0 → Fin S1024x1536.rank)

variable [Facts]

def fn {F : FTy → Type} [FloatOps F] (main_arg0 : FVec F S8208x1536 .f32) (main_arg1 : FVec F S8208x1024 .f32) (main_arg2 : FVec F S1024 .f32) (main_arg3 : FVec F S1024x1536 .f32) (main_arg4 : FVec F S8208x1024 .f32) : IVec S8208x1536 1 × IVec S8208x1024 1 × IVec S1024 1 × IVec S1024x1536 1 :=
  let main_v0 : FVec F S8208x1536 .f32 := Host.absf main_arg0
  let main_cst : FVec F S_ .f32 := constant S_ .f32 0x7F800000#32
  let main_v1 : FVec F S8208x1536 .f32 := broadcastInDim S8208x1536 ![] bcast_S_S8208x1536 main_cst
  let main_v2 : IVec S8208x1536 1 := cmpf .olt main_v0 main_v1
  let main_v3 : FVec F S8208x1024 .f32 := Host.absf main_arg1
  let main_cst_0 : FVec F S_ .f32 := constant S_ .f32 0x7F800000#32
  let main_v4 : FVec F S8208x1024 .f32 := broadcastInDim S8208x1024 ![] bcast_S_S8208x1024 main_cst_0
  let main_v5 : IVec S8208x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x1536 .f32 := Host.absf main_arg3
  let main_cst_2 : FVec F S_ .f32 := constant S_ .f32 0x7F800000#32
  let main_v10 : FVec F S1024x1536 .f32 := broadcastInDim S1024x1536 ![] bcast_S_S1024x1536 main_cst_2
  let main_v11 : IVec S1024x1536 1 := cmpf .olt main_v9 main_v10
  (main_v2, main_v5, main_v8, main_v11)
-- ==== Pre_finite5.lean ====
abbrev S8208x1024 : Shape := ⟨2, ![8208, 1024]⟩
abbrev S8208x1536 : Shape := ⟨2, ![8208, 1536]⟩
abbrev S4x128x128 : Shape := ⟨3, ![4, 128, 128]⟩
abbrev S512 : Shape := ⟨1, ![512]⟩
abbrev S4x512 : Shape := ⟨2, ![4, 512]⟩
abbrev S8x64x64 : Shape := ⟨3, ![8, 64, 64]⟩
abbrev S1024 : Shape := ⟨1, ![1024]⟩
abbrev S_ : Shape := ⟨0, ![]⟩

class Facts : Prop where
  bcast_S_S8208x1024 : S_.BroadcastsInDim S8208x1024 (![] : Fin 0 → Fin S8208x1024.rank)
  bcast_S_S8208x1536 : S_.BroadcastsInDim S8208x1536 (![] : Fin 0 → Fin S8208x1536.rank)
  bcast_S_S4x128x128 : S_.BroadcastsInDim S4x128x128 (![] : Fin 0 → Fin S4x128x128.rank)
  bcast_S_S512 : S_.BroadcastsInDim S512 (![] : Fin 0 → Fin S512.rank)
  bcast_S_S1024 : S_.BroadcastsInDim S1024 (![] : Fin 0 → Fin S1024.rank)

variable [Facts]

def fn {F : FTy → Type} [FloatOps F] (main_arg0 : FVec F S8208x1024 .f32) (main_arg1 : FVec F S8208x1536 .f32) (main_arg2 : FVec F S4x128x128 .f32) (main_arg3 : FVec F S512 .f32) (main_arg4 : FVec F S512 .f32) (main_arg5 : FVec F S4x512 .f32) (main_arg6 : FVec F S512 .f32) (main_arg7 : FVec F S8x64x64 .f32) (main_arg8 : FVec F S512 .f32) (main_arg9 : FVec F S8x64x64 .f32) (main_arg10 : FVec F S512 .f32) (main_arg11 : FVec F S512 .f32) (main_arg12 : FVec F S1024 .f32) : IVec S8208x1024 1 × IVec S8208x1536 1 × IVec S4x128x128 1 × IVec S512 1 × IVec S512 1 × IVec S1024 1 :=
  let main_v0 : FVec F S8208x1024 .f32 := Host.absf main_arg0
  let main_cst : FVec F S_ .f32 := constant S_ .f32 0x7F800000#32
  let main_v1 : FVec F S8208x1024 .f32 := broadcastInDim S8208x1024 ![] bcast_S_S8208x1024 main_cst
  let main_v2 : IVec S8208x1024 1 := cmpf .olt main_v0 main_v1
  let main_v3 : FVec F S8208x1536 .f32 := Host.absf main_arg1
  let main_cst_0 : FVec F S_ .f32 := constant S_ .f32 0x7F800000#32
  let main_v4 : FVec F S8208x1536 .f32 := broadcastInDim S8208x1536 ![] bcast_S_S8208x1536 main_cst_0
  let main_v5 : IVec S8208x1536 1 := cmpf .olt main_v3 main_v4
  let main_v6 : FVec F S4x128x128 .f32 := Host.absf main_arg2
  let main_cst_1 : FVec F S_ .f32 := constant S_ .f32 0x7F800000#32
  let main_v7 : FVec F S4x128x128 .f32 := broadcastInDim S4x128x128 ![] bcast_S_S4x128x128 main_cst_1
  let main_v8 : IVec S4x128x128 1 := cmpf .olt main_v6 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_v12 : FVec F S512 .f32 := Host.absf main_arg4
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  let main_v15 : FVec F S1024 .f32 := Host.absf main_arg12
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  (main_v2, main_v5, main_v8, main_v11, main_v14, main_v17)
-- ==== Pre_finite9.lean ====
abbrev S8208x1024 : Shape := ⟨2, ![8208, 1024]⟩
abbrev S1024 : Shape := ⟨1, ![1024]⟩
abbrev S1024x1536 : Shape := ⟨2, ![1024, 1536]⟩
abbrev S4x128x128 : Shape := ⟨3, ![4, 128, 128]⟩
abbrev S512 : Shape := ⟨1, ![512]⟩
abbrev S4x512 : Shape := ⟨2, ![4, 512]⟩
abbrev S8x64x64 : Shape := ⟨3, ![8, 64, 64]⟩
abbrev S_ : Shape := ⟨0, ![]⟩

class Facts : Prop where
  bcast_S_S8208x1024 : S_.BroadcastsInDim S8208x1024 (![] : Fin 0 → Fin S8208x1024.rank)
  bcast_S_S1024 : S_.BroadcastsInDim S1024 (![] : Fin 0 → Fin S1024.rank)
  bcast_S_S1024x1536 : S_.BroadcastsInDim S1024x1536 (![] : Fin 0 → Fin S1024x1536.rank)

variable [Facts]

def fn {F : FTy → Type} [FloatOps F] (main_arg0 : FVec F S8208x1024 .f32) (main_arg1 : FVec F S1024 .f32) (main_arg2 : FVec F S1024x1536 .f32) (main_arg3 : FVec F S4x128x128 .f32) (main_arg4 : FVec F S512 .f32) (main_arg5 : FVec F S512 .f32) (main_arg6 : FVec F S4x512 .f32) (main_arg7 : FVec F S512 .f32) (main_arg8 : FVec F S8x64x64 .f32) (main_arg9 : FVec F S512 .f32) (main_arg10 : FVec F S8x64x64 .f32) (main_arg11 : FVec F S512 .f32) (main_arg12 : FVec F S512 .f32) (main_arg13 : FVec F S1024 .f32) : IVec S8208x1024 1 × IVec S1024 1 × IVec S1024x1536 1 :=
  let main_v0 : FVec F S8208x1024 .f32 := Host.absf main_arg0
  let main_cst : FVec F S_ .f32 := constant S_ .f32 0x7F800000#32
  let main_v1 : FVec F S8208x1024 .f32 := broadcastInDim S8208x1024 ![] bcast_S_S8208x1024 main_cst
  let main_v2 : IVec S8208x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1536 .f32 := Host.absf main_arg2
  let main_cst_1 : FVec F S_ .f32 := constant S_ .f32 0x7F800000#32
  let main_v7 : FVec F S1024x1536 .f32 := broadcastInDim S1024x1536 ![] bcast_S_S1024x1536 main_cst_1
  let main_v8 : IVec S1024x1536 1 := cmpf .olt main_v6 main_v7
  (main_v2, main_v5, main_v8)
-- ==== Kernel.lean ====
abbrev S8208x1024 : Shape := ⟨2, ![8208, 1024]⟩
abbrev S1024 : Shape := ⟨1, ![1024]⟩
abbrev S1024x4096 : Shape := ⟨2, ![1024, 4096]⟩
abbrev S4096x1024 : Shape := ⟨2, ![4096, 1024]⟩
abbrev S8208x4096 : Shape := ⟨2, ![8208, 4096]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S4x1024x1024 : Shape := ⟨3, ![4, 1024, 1024]⟩
abbrev S912x1024 : Shape := ⟨2, ![912, 1024]⟩
abbrev S1x1024x1024 : Shape := ⟨3, ![1, 1024, 1024]⟩
abbrev S1024x1024 : Shape := ⟨2, ![1024, 1024]⟩

abbrev nBuf : Space → Nat
  | .hbm => 29
  | .vmem => 12
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8208x4096, .f32⟩
  | .hbm, ⟨5, _⟩ => ⟨S8208x1024, .f32⟩
  | .hbm, ⟨6, _⟩ => ⟨S8208x1024, .f32⟩
  | .hbm, ⟨7, _⟩ => ⟨S_, .f32⟩
  | .hbm, ⟨8, _⟩ => ⟨S8208, .f32⟩
  | .hbm, ⟨9, _⟩ => ⟨S8208x1, .f32⟩
  | .hbm, ⟨10, _⟩ => ⟨S_, .f32⟩
  | .hbm, ⟨11, _⟩ => ⟨S8208x1, .f32⟩
  | .hbm, ⟨12, _⟩ => ⟨S8208x1, .f32⟩
  | .hbm, ⟨13, _⟩ => ⟨S_, .f32⟩
  | .hbm, ⟨14, _⟩ => ⟨S8208x1, .f32⟩
  | .hbm, ⟨15, _⟩ => ⟨S8208x1, .f32⟩
  | .hbm, ⟨16, _⟩ => ⟨S8208x1, .f32⟩
  | .hbm, ⟨17, _⟩ => ⟨S8208x1024, .f32⟩
  | .hbm, ⟨18, _⟩ => ⟨S8208x1024, .f32⟩
  | .hbm, ⟨19, _⟩ => ⟨S1x1024, .f32⟩
  | .hbm, ⟨20, _⟩ => ⟨S8208x1024, .f32⟩
  | .hbm, ⟨21, _⟩ => ⟨S8208x1024, .f32⟩
  | .hbm, ⟨22, _⟩ => ⟨S8208x1024, .bf16⟩
  | .hbm, ⟨23, _⟩ => ⟨S1024x4096, .bf16⟩
  | .hbm, ⟨24, _⟩ => ⟨S8208x4096, .f32⟩
  | .hbm, ⟨25, _⟩ => ⟨S8208x4096, .bf16⟩
  | .hbm, ⟨26, _⟩ => ⟨S8208x4096, .bf16⟩
  | .hbm, ⟨27, _⟩ => ⟨S4x1024x1024, .f32⟩
  | .hbm, ⟨28, _⟩ => ⟨S4x1024x1024, .f32⟩
  | .local _ .vmem, ⟨0, _⟩ => ⟨S912x1024, .bf16⟩
  | .local _ .vmem, ⟨1, _⟩ => ⟨S912x1024, .bf16⟩
  | .local _ .vmem, ⟨2, _⟩ => ⟨S912x1024, .bf16⟩
  | .local _ .vmem, ⟨3, _⟩ => ⟨S912x1024, .bf16⟩
  | .local _ .vmem, ⟨4, _⟩ => ⟨S912x1024, .bf16⟩
  | .local _ .vmem, ⟨5, _⟩ => ⟨S912x1024, .bf16⟩
  | .local _ .vmem, ⟨6, _⟩ => ⟨S912x1024, .f32⟩
  | .local _ .vmem, ⟨7, _⟩ => ⟨S912x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1x1024x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S912x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S912x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S912x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S912x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S8208x1024 : Shape := ⟨2, ![8208, 1024]⟩
abbrev S1024 : Shape := ⟨1, ![1024]⟩
abbrev S1024x4096 : Shape := ⟨2, ![1024, 4096]⟩
abbrev S4096x1024 : Shape := ⟨2, ![4096, 1024]⟩
abbrev S8208x4096 : Shape := ⟨2, ![8208, 4096]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S1024x4x1024 : Shape := ⟨3, ![1024, 4, 1024]⟩
abbrev S4x1024x1024 : Shape := ⟨3, ![4, 1024, 1024]⟩

abbrev nBuf : Space → Nat
  | .hbm => 35
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8208x4096, .f32⟩
  | .hbm, ⟨5, _⟩ => ⟨S8208x1024, .f32⟩
  | .hbm, ⟨6, _⟩ => ⟨S8208x1024, .f32⟩
  | .hbm, ⟨7, _⟩ => ⟨S_, .f32⟩
  | .hbm, ⟨8, _⟩ => ⟨S8208, .f32⟩
  | .hbm, ⟨9, _⟩ => ⟨S8208x1, .f32⟩
  | .hbm, ⟨10, _⟩ => ⟨S_, .f32⟩
  | .hbm, ⟨11, _⟩ => ⟨S8208x1, .f32⟩
  | .hbm, ⟨12, _⟩ => ⟨S8208x1, .f32⟩
  | .hbm, ⟨13, _⟩ => ⟨S_, .f32⟩
  | .hbm, ⟨14, _⟩ => ⟨S8208x1, .f32⟩
  | .hbm, ⟨15, _⟩ => ⟨S8208x1, .f32⟩
  | .hbm, ⟨16, _⟩ => ⟨S8208x1, .f32⟩
  | .hbm, ⟨17, _⟩ => ⟨S8208x1024, .f32⟩
  | .hbm, ⟨18, _⟩ => ⟨S8208x1024, .f32⟩
  | .hbm, ⟨19, _⟩ => ⟨S1x1024, .f32⟩
  | .hbm, ⟨20, _⟩ => ⟨S8208x1024, .f32⟩
  | .hbm, ⟨21, _⟩ => ⟨S8208x1024, .f32⟩
  | .hbm, ⟨22, _⟩ => ⟨S8208x4096, .f32⟩
  | .hbm, ⟨23, _⟩ => ⟨S4096x1024, .f32⟩
  | .hbm, ⟨24, _⟩ => ⟨S1024x4096, .f32⟩
  | .hbm, ⟨25, _⟩ => ⟨S_, .f32⟩
  | .hbm, ⟨26, _⟩ => ⟨S8208x4096, .f32⟩
  | .hbm, ⟨27, _⟩ => ⟨S8208x4096, .f32⟩
  | .hbm, ⟨28, _⟩ => ⟨S8208x4096, .f32⟩
  | .hbm, ⟨29, _⟩ => ⟨S8208x1024, .f32⟩
  | .hbm, ⟨30, _⟩ => ⟨S1024x4096, .f32⟩
  | .hbm, ⟨31, _⟩ => ⟨S4096x1024, .f32⟩
  | .hbm, ⟨32, _⟩ => ⟨S1024x4x1024, .f32⟩
  | .hbm, ⟨33, _⟩ => ⟨S4x1024x1024, .f32⟩
  | .hbm, ⟨34, _⟩ => ⟨S4x1024x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Kernel2.lean ====
abbrev S8208x1024 : Shape := ⟨2, ![8208, 1024]⟩
abbrev S1024 : Shape := ⟨1, ![1024]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8208x4096 : Shape := ⟨2, ![8208, 4096]⟩
abbrev S432x1024 : Shape := ⟨2, ![432, 1024]⟩
abbrev S432x4096 : Shape := ⟨2, ![432, 4096]⟩
abbrev S432 : Shape := ⟨1, ![432]⟩
abbrev S432x1 : Shape := ⟨2, ![432, 1]⟩
abbrev S1x1024x1024 : Shape := ⟨3, ![1, 1024, 1024]⟩
abbrev S1024x1024 : Shape := ⟨2, ![1024, 1024]⟩

abbrev nBuf : Space → Nat
  | .hbm => 35
  | .vmem => 16
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8208x1024, .f32⟩
  | .hbm, ⟨5, _⟩ => ⟨S1024x4096, .bf16⟩
  | .hbm, ⟨6, _⟩ => ⟨S1024x4x1024, .bf16⟩
  | .hbm, ⟨7, _⟩ => ⟨S4x1024x1024, .bf16⟩
  | .hbm, ⟨8, _⟩ => ⟨S4096x1024, .bf16⟩
  | .hbm, ⟨9, _⟩ => ⟨S4x1024x1024, .bf16⟩
  | .hbm, ⟨10, _⟩ => ⟨S8208x1024, .f32⟩
  | .hbm, ⟨11, _⟩ => ⟨S_, .f32⟩
  | .hbm, ⟨12, _⟩ => ⟨S8208, .f32⟩
  | .hbm, ⟨13, _⟩ => ⟨S8208x1, .f32⟩
  | .hbm, ⟨14, _⟩ => ⟨S_, .f32⟩
  | .hbm, ⟨15, _⟩ => ⟨S8208x1, .f32⟩
  | .hbm, ⟨16, _⟩ => ⟨S8208x1, .f32⟩
  | .hbm, ⟨17, _⟩ => ⟨S_, .f32⟩
  | .hbm, ⟨18, _⟩ => ⟨S8208x1, .f32⟩
  | .hbm, ⟨19, _⟩ => ⟨S8208x1, .f32⟩
  | .hbm, ⟨20, _⟩ => ⟨S8208x1, .f32⟩
  | .hbm, ⟨21, _⟩ => ⟨S8208x1024, .f32⟩
  | .hbm, ⟨22, _⟩ => ⟨S8208x1024, .f32⟩
  | .hbm, ⟨23, _⟩ => ⟨S1x1024, .f32⟩
  | .hbm, ⟨24, _⟩ => ⟨S8208x1024, .f32⟩
  | .hbm, ⟨25, _⟩ => ⟨S8208x1024, .f32⟩
  | .hbm, ⟨26, _⟩ => ⟨S8208x1024, .bf16⟩
  | .hbm, ⟨27, _⟩ => ⟨S1024x4096, .bf16⟩
  | .hbm, ⟨28, _⟩ => ⟨S8208x4096, .f32⟩
  | .hbm, ⟨29, _⟩ => ⟨S8208x4096, .bf16⟩
  | .hbm, ⟨30, _⟩ => ⟨S1x1024, .f32⟩
  | .hbm, ⟨31, _⟩ => ⟨S8208x1024, .f32⟩
  | .hbm, ⟨32, _⟩ => ⟨S8208x4096, .bf16⟩
  | .hbm, ⟨33, _⟩ => ⟨S8208x1024, .bf16⟩
  | .hbm, ⟨34, _⟩ => ⟨S1x1024, .f32⟩
  | .local _ .vmem, ⟨0, _⟩ => ⟨S432x1024, .f32⟩
  | .local _ .vmem, ⟨1, _⟩ => ⟨S432x1024, .f32⟩
  | .local _ .vmem, ⟨2, _⟩ => ⟨S432x1024, .f32⟩
  | .local _ .vmem, ⟨3, _⟩ => ⟨S432x1024, .f32⟩
  | .local _ .vmem, ⟨4, _⟩ => ⟨S432x4096, .bf16⟩
  | .local _ .vmem, ⟨5, _⟩ => ⟨S432x4096, .bf16⟩
  | .local _ .vmem, ⟨6, _⟩ => ⟨S1x1024, .f32⟩
  | .local _ .vmem, ⟨7, _⟩ => ⟨S4x1024x1024, .bf16⟩
  | .local _ .vmem, ⟨8, _⟩ => ⟨S4x1024x1024, .bf16⟩
  | .local _ .vmem, ⟨9, _⟩ => ⟨S432x1024, .f32⟩
  | .local _ .vmem, ⟨10, _⟩ => ⟨S432x1024, .f32⟩
  | .local _ .vmem, ⟨11, _⟩ => ⟨S432x4096, .bf16⟩
  | .local _ .vmem, ⟨12, _⟩ => ⟨S432x4096, .bf16⟩
  | .local _ .vmem, ⟨13, _⟩ => ⟨S432x1024, .bf16⟩
  | .local _ .vmem, ⟨14, _⟩ => ⟨S432x1024, .bf16⟩
  | .local _ .vmem, ⟨15, _⟩ => ⟨S1x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev main_v23_2 : Ref sig .tc := ⟨.hbm, 33, rfl⟩
abbrev main_v23_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S432x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S432x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S432x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S432x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S432x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S432x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S8208x1024 : Shape := ⟨2, ![8208, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8208x4096 : Shape := ⟨2, ![8208, 4096]⟩

abbrev nBuf : Space → Nat
  | .hbm => 109
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8208x1024, .f32⟩
  | .hbm, ⟨5, _⟩ => ⟨S8208x1024, .f32⟩
  | .hbm, ⟨6, _⟩ => ⟨S_, .f32⟩
  | .hbm, ⟨7, _⟩ => ⟨S8208, .f32⟩
  | .hbm, ⟨8, _⟩ => ⟨S8208x1, .f32⟩
  | .hbm, ⟨9, _⟩ => ⟨S_, .f32⟩
  | .hbm, ⟨10, _⟩ => ⟨S8208x1, .f32⟩
  | .hbm, ⟨11, _⟩ => ⟨S8208x1, .f32⟩
  | .hbm, ⟨12, _⟩ => ⟨S_, .f32⟩
  | .hbm, ⟨13, _⟩ => ⟨S8208x1, .f32⟩
  | .hbm, ⟨14, _⟩ => ⟨S8208x1, .f32⟩
  | .hbm, ⟨15, _⟩ => ⟨S8208x1, .f32⟩
  | .hbm, ⟨16, _⟩ => ⟨S8208x1, .f32⟩
  | .hbm, ⟨17, _⟩ => ⟨S_, .f32⟩
  | .hbm, ⟨18, _⟩ => ⟨S8208x1, .f32⟩
  | .hbm, ⟨19, _⟩ => ⟨S8208x1, .f32⟩
  | .hbm, ⟨20, _⟩ => ⟨S8208x1024, .f32⟩
  | .hbm, ⟨21, _⟩ => ⟨S8208x1024, .f32⟩
  | .hbm, ⟨22, _⟩ => ⟨S1x1024, .f32⟩
  | .hbm, ⟨23, _⟩ => ⟨S8208x1024, .f32⟩
  | .hbm, ⟨24, _⟩ => ⟨S8208x1024, .f32⟩
  | .hbm, ⟨25, _⟩ => ⟨S8208x4096, .f32⟩
  | .hbm, ⟨26, _⟩ => ⟨S_, .f32⟩
  | .hbm, ⟨27, _⟩ => ⟨S8208x4096, .f32⟩
  | .hbm, ⟨28, _⟩ => ⟨S8208x4096, .f32⟩
  | .hbm, ⟨29, _⟩ => ⟨S_, .f32⟩
  | .hbm, ⟨30, _⟩ => ⟨S8208x4096, .f32⟩
  | .hbm, ⟨31, _⟩ => ⟨S8208x4096, .i1⟩
  | .hbm, ⟨32, _⟩ => ⟨S_, .f32⟩
  | .hbm, ⟨33, _⟩ => ⟨S8208x4096, .f32⟩
  | .hbm, ⟨34, _⟩ => ⟨S8208x4096, .f32⟩
  | .hbm, ⟨35, _⟩ => ⟨S8208x1024, .f32⟩
  | .hbm, ⟨36, _⟩ => ⟨S8208x1024, .f32⟩
  | .hbm, ⟨37, _⟩ => ⟨S8208x1024, .f32⟩
  | .hbm, ⟨38, _⟩ => ⟨S8208x4096, .f32⟩
  | .hbm, ⟨39, _⟩ => ⟨S8208x4096, .f32⟩
  | .hbm, ⟨40, _⟩ => ⟨S8208x4096, .f32⟩
  | .hbm, ⟨41, _⟩ => ⟨S8208x4096, .f32⟩
  | .hbm, ⟨42, _⟩ => ⟨S_, .f32⟩
  | .hbm, ⟨43, _⟩ => ⟨S8208x4096, .f32⟩
  | .hbm, ⟨44, _⟩ => ⟨S8208x4096, .f32⟩
  | .hbm, ⟨45, _⟩ => ⟨S8208x1024, .f32⟩
  | .hbm, ⟨46, _⟩ => ⟨S8208x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8208x1024, .f32⟩
  | .hbm, ⟨51, _⟩ => ⟨S8208x1024, .f32⟩
  | .hbm, ⟨52, _⟩ => ⟨S_, .f32⟩
  | .hbm, ⟨53, _⟩ => ⟨S1024, .f32⟩
  | .hbm, ⟨54, _⟩ => ⟨S8208x1024, .f32⟩
  | .hbm, ⟨55, _⟩ => ⟨S_, .f32⟩
  | .hbm, ⟨56, _⟩ => ⟨S8208, .f32⟩
  | .hbm, ⟨57, _⟩ => ⟨S8208x1, .f32⟩
  | .hbm, ⟨58, _⟩ => ⟨S8208x1024, .f32⟩
  | .hbm, ⟨59, _⟩ => ⟨S8208x1024, .f32⟩
  | .hbm, ⟨60, _⟩ => ⟨S8208x1024, .f32⟩
  | .hbm, ⟨61, _⟩ => ⟨S8208x1, .f32⟩
  | .hbm, ⟨62, _⟩ => ⟨S_, .f32⟩
  | .hbm, ⟨63, _⟩ => ⟨S8208x1, .f32⟩
  | .hbm, ⟨64, _⟩ => ⟨S8208x1, .f32⟩
  | .hbm, ⟨65, _⟩ => ⟨S_, .f32⟩
  | .hbm, ⟨66, _⟩ => ⟨S8208, .f32⟩
  | .hbm, ⟨67, _⟩ => ⟨S8208x1024, .f32⟩
  | .hbm, ⟨68, _⟩ => ⟨S8208x1024, .f32⟩
  | .hbm, ⟨69, _⟩ => ⟨S8208x1024, .f32⟩
  | .hbm, ⟨70, _⟩ => ⟨S8208x1024, .f32⟩
  | .hbm, ⟨71, _⟩ => ⟨S8208x1024, .f32⟩
  | .hbm, ⟨72, _⟩ => ⟨S8208x1024, .f32⟩
  | .hbm, ⟨73, _⟩ => ⟨S_, .f32⟩
  | .hbm, ⟨74, _⟩ => ⟨S8208, .f32⟩
  | .hbm, ⟨75, _⟩ => ⟨S8208x1, .f32⟩
  | .hbm, ⟨76, _⟩ => ⟨S_, .f32⟩
  | .hbm, ⟨77, _⟩ => ⟨S8208x1, .f32⟩
  | .hbm, ⟨78, _⟩ => ⟨S8208x1, .f32⟩
  | .hbm, ⟨79, _⟩ => ⟨S_, .f32⟩
  | .hbm, ⟨80, _⟩ => ⟨S8208x1, .f32⟩
  | .hbm, ⟨81, _⟩ => ⟨S8208x1, .f32⟩
  | .hbm, ⟨82, _⟩ => ⟨S8208x1, .f32⟩
  | .hbm, ⟨83, _⟩ => ⟨S8208x1024, .f32⟩
  | .hbm, ⟨84, _⟩ => ⟨S8208x1024, .f32⟩
  | .hbm, ⟨85, _⟩ => ⟨S1x1024, .f32⟩
  | .hbm, ⟨86, _⟩ => ⟨S8208x1024, .f32⟩
  | .hbm, ⟨87, _⟩ => ⟨S8208x1024, .f32⟩
  | .hbm, ⟨88, _⟩ => ⟨S8208x4096, .f32⟩
  | .hbm, ⟨89, _⟩ => ⟨S_, .f32⟩
  | .hbm, ⟨90, _⟩ => ⟨S8208x4096, .f32⟩
  | .hbm, ⟨91, _⟩ => ⟨S8208x4096, .f32⟩
  | .hbm, ⟨92, _⟩ => ⟨S_, .f32⟩
  | .hbm, ⟨93, _⟩ => ⟨S8208x4096, .f32⟩
  | .hbm, ⟨94, _⟩ => ⟨S8208x4096, .i1⟩
  | .hbm, ⟨95, _⟩ => ⟨S_, .f32⟩
  | .hbm, ⟨96, _⟩ => ⟨S8208x4096, .f32⟩
  | .hbm, ⟨97, _⟩ => ⟨S8208x4096, .f32⟩
  | .hbm, ⟨98, _⟩ => ⟨S8208x1024, .f32⟩
  | .hbm, ⟨99, _⟩ => ⟨S8208x4096, .f32⟩
  | .hbm, ⟨100, _⟩ => ⟨S8208x4096, .f32⟩
  | .hbm, ⟨101, _⟩ => ⟨S8208x4096, .f32⟩
  | .hbm, ⟨102, _⟩ => ⟨S8208x4096, .f32⟩
  | .hbm, ⟨103, _⟩ => ⟨S_, .f32⟩
  | .hbm, ⟨104, _⟩ => ⟨S8208x4096, .f32⟩
  | .hbm, ⟨105, _⟩ => ⟨S8208x4096, .f32⟩
  | .hbm, ⟨106, _⟩ => ⟨S8208x4096, .bf16⟩
  | .hbm, ⟨107, _⟩ => ⟨S8208x1024, .bf16⟩
  | .hbm, ⟨108, _⟩ => ⟨S1x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_cst_12 : Ref sig .tc := ⟨.hbm, 76, rfl⟩
abbrev main_v56 : Ref sig .tc := ⟨.hbm, 77, rfl⟩
abbrev main_v57 : Ref sig .tc := ⟨.hbm, 78, rfl⟩
abbrev main_cst_13 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_call1_cst : Ref sig .tc := ⟨.hbm, 89, rfl⟩
abbrev main_call1_v0 : Ref sig .tc := ⟨.hbm, 90, rfl⟩
abbrev main_v67 : Ref sig .tc := ⟨.hbm, 91, rfl⟩
abbrev main_cst_14 : Ref sig .tc := ⟨.hbm, 92, rfl⟩
abbrev main_v68 : Ref sig .tc := ⟨.hbm, 93, rfl⟩
abbrev main_v69 : Ref sig .tc := ⟨.hbm, 94, rfl⟩
abbrev main_cst_15 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_16 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩

abbrev nD : Nat := 1
abbrev τ : Topo := Topo.v7x

variable {F : FTy → Type} [FloatOps F]
-- ==== Kernel3.lean ====
abbrev S8208x1536 : Shape := ⟨2, ![8208, 1536]⟩
abbrev S8208x1024 : Shape := ⟨2, ![8208, 1024]⟩
abbrev S1024 : Shape := ⟨1, ![1024]⟩
abbrev S1024x1536 : Shape := ⟨2, ![1024, 1536]⟩
abbrev S1024x4x384 : Shape := ⟨3, ![1024, 4, 384]⟩
abbrev S4x1024x384 : Shape := ⟨3, ![4, 1024, 384]⟩
abbrev S1x1024 : Shape := ⟨2, ![1, 1024]⟩
abbrev S432x1536 : Shape := ⟨2, ![432, 1536]⟩
abbrev S432x1024 : Shape := ⟨2, ![432, 1024]⟩
abbrev S1x1024x384 : Shape := ⟨3, ![1, 1024, 384]⟩
abbrev S1024x384 : Shape := ⟨2, ![1024, 384]⟩
abbrev S432 : Shape := ⟨1, ![432]⟩
abbrev S432x1 : Shape := ⟨2, ![432, 1]⟩

abbrev nBuf : Space → Nat
  | .hbm => 13
  | .vmem => 14
  | .smem => 0
  | _ => 0

abbrev bufTy : (tb : Table) → Fin (tcTables nBuf tb) → BufTy
  | .hbm, ⟨0, _⟩ => ⟨S8208x1536, .f32⟩
  | .hbm, ⟨1, _⟩ => ⟨S8208x1024, .f32⟩
  | .hbm, ⟨2, _⟩ => ⟨S1024, .f32⟩
  | .hbm, ⟨3, _⟩ => ⟨S1024x1536, .f32⟩
  | .hbm, ⟨4, _⟩ => ⟨S8208x1024, .f32⟩
  | .hbm, ⟨5, _⟩ => ⟨S1024x1536, .bf16⟩
  | .hbm, ⟨6, _⟩ => ⟨S1024x4x384, .bf16⟩
  | .hbm, ⟨7, _⟩ => ⟨S4x1024x384, .bf16⟩
  | .hbm, ⟨8, _⟩ => ⟨S8208x1536, .bf16⟩
  | .hbm, ⟨9, _⟩ => ⟨S1x1024, .f32⟩
  | .hbm, ⟨10, _⟩ => ⟨S8208x1024, .f32⟩
  | .hbm, ⟨11, _⟩ => ⟨S4x1024x384, .f32⟩
  | .hbm, ⟨12, _⟩ => ⟨S1x1024, .f32⟩
  | .local _ .vmem, ⟨0, _⟩ => ⟨S432x1536, .bf16⟩
  | .local _ .vmem, ⟨1, _⟩ => ⟨S432x1536, .bf16⟩
  | .local _ .vmem, ⟨2, _⟩ => ⟨S432x1024, .f32⟩
  | .local _ .vmem, ⟨3, _⟩ => ⟨S432x1024, .f32⟩
  | .local _ .vmem, ⟨4, _⟩ => ⟨S1x1024, .f32⟩
  | .local _ .vmem, ⟨5, _⟩ => ⟨S4x1024x384, .bf16⟩
  | .local _ .vmem, ⟨6, _⟩ => ⟨S432x1024, .f32⟩
  | .local _ .vmem, ⟨7, _⟩ => ⟨S432x1024, .f32⟩
  | .local _ .vmem, ⟨8, _⟩ => ⟨S432x1024, .f32⟩
  | .local _ .vmem, ⟨9, _⟩ => ⟨S432x1024, .f32⟩
  | .local _ .vmem, ⟨10, _⟩ => ⟨S4x1024x384, .f32⟩
  | .local _ .vmem, ⟨11, _⟩ => ⟨S1x1024, .f32⟩
  | .local _ .vmem, ⟨12, _⟩ => ⟨S1024x1536, .bf16⟩
  | .local _ .vmem, ⟨13, _⟩ => ⟨S1024x1536, .f32⟩
  | _, _ => ⟨S8208x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![19], ![false]⟩

def k0_cond2 (i : grid0.Coords) : BitVec 1 :=
  let arg0 : BitVec 32 := BitVec.ofNat 32 (i 0).val
  let c18_i32 : BitVec 32 := 18#32
  let v51 : BitVec 1 := Scalar.cmpi .eq arg0 c18_i32
  let v52 : BitVec 32 := Scalar.extui v51
  let c0_i32_27 : BitVec 32 := 0#32
  let v53 : BitVec 1 := Scalar.cmpi .ne v52 c0_i32_27
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S432x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S432x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S432x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S432x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference3Ideal.lean ====
abbrev S8208x1536 : Shape := ⟨2, ![8208, 1536]⟩
abbrev S8208x1024 : Shape := ⟨2, ![8208, 1024]⟩
abbrev S1024 : Shape := ⟨1, ![1024]⟩
abbrev S1024x1536 : Shape := ⟨2, ![1024, 1536]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S1536x1024 : Shape := ⟨2, ![1536, 1024]⟩
abbrev S1024x4x384 : Shape := ⟨3, ![1024, 4, 384]⟩
abbrev S4x1024x384 : Shape := ⟨3, ![4, 1024, 384]⟩

abbrev nBuf : Space → Nat
  | .hbm => 58
  | .vmem => 0
  | .smem => 0
  | _ => 0

abbrev bufTy : (tb : Table) → Fin (tcTables nBuf tb) → BufTy
  | .hbm, ⟨0, _⟩ => ⟨S8208x1536, .f32⟩
  | .hbm, ⟨1, _⟩ => ⟨S8208x1024, .f32⟩
  | .hbm, ⟨2, _⟩ => ⟨S1024, .f32⟩
  | .hbm, ⟨3, _⟩ => ⟨S1024x1536, .f32⟩
  | .hbm, ⟨4, _⟩ => ⟨S8208x1024, .f32⟩
  | .hbm, ⟨5, _⟩ => ⟨S8208x1024, .f32⟩
  | .hbm, ⟨6, _⟩ => ⟨S_, .f32⟩
  | .hbm, ⟨7, _⟩ => ⟨S8208, .f32⟩
  | .hbm, ⟨8, _⟩ => ⟨S8208x1, .f32⟩
  | .hbm, ⟨9, _⟩ => ⟨S_, .f32⟩
  | .hbm, ⟨10, _⟩ => ⟨S8208x1, .f32⟩
  | .hbm, ⟨11, _⟩ => ⟨S8208x1, .f32⟩
  | .hbm, ⟨12, _⟩ => ⟨S_, .f32⟩
  | .hbm, ⟨13, _⟩ => ⟨S8208x1, .f32⟩
  | .hbm, ⟨14, _⟩ => ⟨S8208x1, .f32⟩
  | .hbm, ⟨15, _⟩ => ⟨S8208x1, .f32⟩
  | .hbm, ⟨16, _⟩ => ⟨S8208x1, .f32⟩
  | .hbm, ⟨17, _⟩ => ⟨S_, .f32⟩
  | .hbm, ⟨18, _⟩ => ⟨S8208x1, .f32⟩
  | .hbm, ⟨19, _⟩ => ⟨S8208x1, .f32⟩
  | .hbm, ⟨20, _⟩ => ⟨S8208x1024, .f32⟩
  | .hbm, ⟨21, _⟩ => ⟨S8208x1024, .f32⟩
  | .hbm, ⟨22, _⟩ => ⟨S1x1024, .f32⟩
  | .hbm, ⟨23, _⟩ => ⟨S8208x1024, .f32⟩
  | .hbm, ⟨24, _⟩ => ⟨S8208x1024, .f32⟩
  | .hbm, ⟨25, _⟩ => ⟨S8208x1536, .f32⟩
  | .hbm, ⟨26, _⟩ => ⟨S1536x1024, .f32⟩
  | .hbm, ⟨27, _⟩ => ⟨S1024x1536, .f32⟩
  | .hbm, ⟨28, _⟩ => ⟨S8208x1024, .f32⟩
  | .hbm, ⟨29, _⟩ => ⟨S8208x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8208x1024, .f32⟩
  | .hbm, ⟨34, _⟩ => ⟨S8208x1024, .f32⟩
  | .hbm, ⟨35, _⟩ => ⟨S_, .f32⟩
  | .hbm, ⟨36, _⟩ => ⟨S1024, .f32⟩
  | .hbm, ⟨37, _⟩ => ⟨S8208x1024, .f32⟩
  | .hbm, ⟨38, _⟩ => ⟨S_, .f32⟩
  | .hbm, ⟨39, _⟩ => ⟨S8208, .f32⟩
  | .hbm, ⟨40, _⟩ => ⟨S8208x1, .f32⟩
  | .hbm, ⟨41, _⟩ => ⟨S8208x1024, .f32⟩
  | .hbm, ⟨42, _⟩ => ⟨S8208x1024, .f32⟩
  | .hbm, ⟨43, _⟩ => ⟨S8208x1024, .f32⟩
  | .hbm, ⟨44, _⟩ => ⟨S8208x1, .f32⟩
  | .hbm, ⟨45, _⟩ => ⟨S_, .f32⟩
  | .hbm, ⟨46, _⟩ => ⟨S8208x1, .f32⟩
  | .hbm, ⟨47, _⟩ => ⟨S8208x1, .f32⟩
  | .hbm, ⟨48, _⟩ => ⟨S_, .f32⟩
  | .hbm, ⟨49, _⟩ => ⟨S8208, .f32⟩
  | .hbm, ⟨50, _⟩ => ⟨S8208x1024, .f32⟩
  | .hbm, ⟨51, _⟩ => ⟨S8208x1024, .f32⟩
  | .hbm, ⟨52, _⟩ => ⟨S8208x1024, .f32⟩
  | .hbm, ⟨53, _⟩ => ⟨S8208x1024, .f32⟩
  | .hbm, ⟨54, _⟩ => ⟨S8208x1024, .f32⟩
  | .hbm, ⟨55, _⟩ => ⟨S1024x4x384, .f32⟩
  | .hbm, ⟨56, _⟩ => ⟨S4x1024x384, .f32⟩
  | .hbm, ⟨57, _⟩ => ⟨S1x1024, .f32⟩
  | _, _ => ⟨S8208x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel4.lean ====
abbrev S8208x1024 : Shape := ⟨2, ![8208, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S8192x1024 : Shape := ⟨2, ![8192, 1024]⟩
abbrev S1024x4x1024 : Shape := ⟨3, ![1024, 4, 1024]⟩
abbrev S4x1024x1024 : Shape := ⟨3, ![4, 1024, 1024]⟩
abbrev S1x1024 : Shape := ⟨2, ![1, 1024]⟩
abbrev S8208x4096 : Shape := ⟨2, ![8208, 4096]⟩
abbrev S1x1 : Shape := ⟨2, ![1, 1]⟩
abbrev S432x1024 : Shape := ⟨2, ![432, 1024]⟩
abbrev S16x1024 : Shape := ⟨2, ![16, 1024]⟩
abbrev S432x4096 : Shape := ⟨2, ![432, 4096]⟩
abbrev S432 : Shape := ⟨1, ![432]⟩
abbrev S432x1 : Shape := ⟨2, ![432, 1]⟩
abbrev S1x1024x1024 : Shape := ⟨3, ![1, 1024, 1024]⟩
abbrev S416x1024 : Shape := ⟨2, ![416, 1024]⟩
abbrev S1 : Shape := ⟨1, ![1]⟩

abbrev nBuf : Space → Nat
  | .hbm => 22
  | .vmem => 21
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S8192x1024, .f32⟩
  | .hbm, ⟨8, _⟩ => ⟨S1024x1024, .bf16⟩
  | .hbm, ⟨9, _⟩ => ⟨S1024x4096, .bf16⟩
  | .hbm, ⟨10, _⟩ => ⟨S1024x4x1024, .bf16⟩
  | .hbm, ⟨11, _⟩ => ⟨S4x1024x1024, .bf16⟩
  | .hbm, ⟨12, _⟩ => ⟨S4096x1024, .bf16⟩
  | .hbm, ⟨13, _⟩ => ⟨S4x1024x1024, .bf16⟩
  | .hbm, ⟨14, _⟩ => ⟨S8208x1024, .bf16⟩
  | .hbm, ⟨15, _⟩ => ⟨S1x1024, .f32⟩
  | .hbm, ⟨16, _⟩ => ⟨S1x1024, .f32⟩
  | .hbm, ⟨17, _⟩ => ⟨S8208x1024, .f32⟩
  | .hbm, ⟨18, _⟩ => ⟨S8208x4096, .bf16⟩
  | .hbm, ⟨19, _⟩ => ⟨S8208x1024, .f32⟩
  | .hbm, ⟨20, _⟩ => ⟨S1x1024, .f32⟩
  | .hbm, ⟨21, _⟩ => ⟨S1x1, .f32⟩
  | .local _ .vmem, ⟨0, _⟩ => ⟨S432x1024, .f32⟩
  | .local _ .vmem, ⟨1, _⟩ => ⟨S432x1024, .f32⟩
  | .local _ .vmem, ⟨2, _⟩ => ⟨S432x1024, .bf16⟩
  | .local _ .vmem, ⟨3, _⟩ => ⟨S432x1024, .bf16⟩
  | .local _ .vmem, ⟨4, _⟩ => ⟨S1024x1024, .bf16⟩
  | .local _ .vmem, ⟨5, _⟩ => ⟨S1x1024, .f32⟩
  | .local _ .vmem, ⟨6, _⟩ => ⟨S4x1024x1024, .bf16⟩
  | .local _ .vmem, ⟨7, _⟩ => ⟨S4x1024x1024, .bf16⟩
  | .local _ .vmem, ⟨8, _⟩ => ⟨S1x1024, .f32⟩
  | .local _ .vmem, ⟨9, _⟩ => ⟨S16x1024, .f32⟩
  | .local _ .vmem, ⟨10, _⟩ => ⟨S16x1024, .f32⟩
  | .local _ .vmem, ⟨11, _⟩ => ⟨S432x1024, .f32⟩
  | .local _ .vmem, ⟨12, _⟩ => ⟨S432x1024, .f32⟩
  | .local _ .vmem, ⟨13, _⟩ => ⟨S432x1024, .f32⟩
  | .local _ .vmem, ⟨14, _⟩ => ⟨S432x1024, .f32⟩
  | .local _ .vmem, ⟨15, _⟩ => ⟨S432x4096, .bf16⟩
  | .local _ .vmem, ⟨16, _⟩ => ⟨S432x4096, .bf16⟩
  | .local _ .vmem, ⟨17, _⟩ => ⟨S432x1024, .f32⟩
  | .local _ .vmem, ⟨18, _⟩ => ⟨S432x1024, .f32⟩
  | .local _ .vmem, ⟨19, _⟩ => ⟨S1x1024, .f32⟩
  | .local _ .vmem, ⟨20, _⟩ => ⟨S1x1, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c27_i32 : BitVec 32 := 27#32
  let v0 : BitVec 32 := Scalar.muli arg0 c27_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S432x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S432x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S432x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S432x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S432x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S432x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference4Ideal.lean ====
abbrev S8208x1024 : Shape := ⟨2, ![8208, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S8192x1024 : Shape := ⟨2, ![8192, 1024]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8208x4096 : Shape := ⟨2, ![8208, 4096]⟩
abbrev S8192 : Shape := ⟨1, ![8192]⟩
abbrev S1x1 : Shape := ⟨2, ![1, 1]⟩

abbrev nBuf : Space → Nat
  | .hbm => 107
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S8192x1024, .f32⟩
  | .hbm, ⟨8, _⟩ => ⟨S8208x1024, .f32⟩
  | .hbm, ⟨9, _⟩ => ⟨S8208x1024, .f32⟩
  | .hbm, ⟨10, _⟩ => ⟨S8208x1024, .f32⟩
  | .hbm, ⟨11, _⟩ => ⟨S_, .f32⟩
  | .hbm, ⟨12, _⟩ => ⟨S8208, .f32⟩
  | .hbm, ⟨13, _⟩ => ⟨S8208x1, .f32⟩
  | .hbm, ⟨14, _⟩ => ⟨S_, .f32⟩
  | .hbm, ⟨15, _⟩ => ⟨S8208x1, .f32⟩
  | .hbm, ⟨16, _⟩ => ⟨S8208x1, .f32⟩
  | .hbm, ⟨17, _⟩ => ⟨S_, .f32⟩
  | .hbm, ⟨18, _⟩ => ⟨S8208x1, .f32⟩
  | .hbm, ⟨19, _⟩ => ⟨S8208x1, .f32⟩
  | .hbm, ⟨20, _⟩ => ⟨S8208x1, .f32⟩
  | .hbm, ⟨21, _⟩ => ⟨S8208x1024, .f32⟩
  | .hbm, ⟨22, _⟩ => ⟨S8208x1024, .f32⟩
  | .hbm, ⟨23, _⟩ => ⟨S1x1024, .f32⟩
  | .hbm, ⟨24, _⟩ => ⟨S8208x1024, .f32⟩
  | .hbm, ⟨25, _⟩ => ⟨S8208x1024, .f32⟩
  | .hbm, ⟨26, _⟩ => ⟨S8208x4096, .f32⟩
  | .hbm, ⟨27, _⟩ => ⟨S_, .f32⟩
  | .hbm, ⟨28, _⟩ => ⟨S8208x4096, .f32⟩
  | .hbm, ⟨29, _⟩ => ⟨S8208x4096, .f32⟩
  | .hbm, ⟨30, _⟩ => ⟨S8208x4096, .f32⟩
  | .hbm, ⟨31, _⟩ => ⟨S8208x1024, .f32⟩
  | .hbm, ⟨32, _⟩ => ⟨S8208x1024, .f32⟩
  | .hbm, ⟨33, _⟩ => ⟨S8208x1024, .f32⟩
  | .hbm, ⟨34, _⟩ => ⟨S_, .f32⟩
  | .hbm, ⟨35, _⟩ => ⟨S8208, .f32⟩
  | .hbm, ⟨36, _⟩ => ⟨S8208x1, .f32⟩
  | .hbm, ⟨37, _⟩ => ⟨S_, .f32⟩
  | .hbm, ⟨38, _⟩ => ⟨S8208x1, .f32⟩
  | .hbm, ⟨39, _⟩ => ⟨S8208x1, .f32⟩
  | .hbm, ⟨40, _⟩ => ⟨S_, .f32⟩
  | .hbm, ⟨41, _⟩ => ⟨S8208x1, .f32⟩
  | .hbm, ⟨42, _⟩ => ⟨S8208x1, .f32⟩
  | .hbm, ⟨43, _⟩ => ⟨S8208x1, .f32⟩
  | .hbm, ⟨44, _⟩ => ⟨S8208x1, .f32⟩
  | .hbm, ⟨45, _⟩ => ⟨S_, .f32⟩
  | .hbm, ⟨46, _⟩ => ⟨S8208x1, .f32⟩
  | .hbm, ⟨47, _⟩ => ⟨S8208x1, .f32⟩
  | .hbm, ⟨48, _⟩ => ⟨S8208x1024, .f32⟩
  | .hbm, ⟨49, _⟩ => ⟨S8208x1024, .f32⟩
  | .hbm, ⟨50, _⟩ => ⟨S1x1024, .f32⟩
  | .hbm, ⟨51, _⟩ => ⟨S8208x1024, .f32⟩
  | .hbm, ⟨52, _⟩ => ⟨S8208x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8208x1024, .f32⟩
  | .hbm, ⟨79, _⟩ => ⟨S8208x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S8208x1024, .f32⟩
  | .hbm, ⟨84, _⟩ => ⟨S8208x1024, .f32⟩
  | .hbm, ⟨85, _⟩ => ⟨S_, .f32⟩
  | .hbm, ⟨86, _⟩ => ⟨S1024, .f32⟩
  | .hbm, ⟨87, _⟩ => ⟨S8208x1024, .f32⟩
  | .hbm, ⟨88, _⟩ => ⟨S_, .f32⟩
  | .hbm, ⟨89, _⟩ => ⟨S8208, .f32⟩
  | .hbm, ⟨90, _⟩ => ⟨S8208x1, .f32⟩
  | .hbm, ⟨91, _⟩ => ⟨S8208x1024, .f32⟩
  | .hbm, ⟨92, _⟩ => ⟨S8208x1024, .f32⟩
  | .hbm, ⟨93, _⟩ => ⟨S8208x1, .f32⟩
  | .hbm, ⟨94, _⟩ => ⟨S_, .f32⟩
  | .hbm, ⟨95, _⟩ => ⟨S8208x1, .f32⟩
  | .hbm, ⟨96, _⟩ => ⟨S8208x1, .f32⟩
  | .hbm, ⟨97, _⟩ => ⟨S_, .f32⟩
  | .hbm, ⟨98, _⟩ => ⟨S8208, .f32⟩
  | .hbm, ⟨99, _⟩ => ⟨S8208x1024, .f32⟩
  | .hbm, ⟨100, _⟩ => ⟨S8208x1024, .f32⟩
  | .hbm, ⟨101, _⟩ => ⟨S8208x1024, .f32⟩
  | .hbm, ⟨102, _⟩ => ⟨S8208x1024, .f32⟩
  | .hbm, ⟨103, _⟩ => ⟨S8208x1024, .f32⟩
  | .hbm, ⟨104, _⟩ => ⟨S8208x4096, .bf16⟩
  | .hbm, ⟨105, _⟩ => ⟨S1x1024, .f32⟩
  | .hbm, ⟨106, _⟩ => ⟨S1x1, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_cst : Ref sig .tc := ⟨.hbm, 27, rfl⟩
abbrev main_call0_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_cst_11 : Ref sig .tc := ⟨.hbm, 68, rfl⟩
abbrev main_cst_12 : Ref sig .tc := ⟨.hbm, 69, rfl⟩
abbrev main_v46 : Ref sig .tc := ⟨.hbm, 70, rfl⟩
abbrev main_v47 : Ref sig .tc := ⟨.hbm, 71, rfl⟩
abbrev main_cst_13 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_14 : Ref sig .tc := ⟨.hbm, 77, rfl⟩
abbrev main_v52 : Ref sig .tc := ⟨.hbm, 78, rfl⟩
abbrev main_v53 : Ref sig .tc := ⟨.hbm, 79, rfl⟩
abbrev main_cst_15 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_16 : Ref sig .tc := ⟨.hbm, 85, rfl⟩
abbrev main_v58 : Ref sig .tc := ⟨.hbm, 86, rfl⟩
abbrev main_v59 : Ref sig .tc := ⟨.hbm, 87, rfl⟩
abbrev main_cst_17 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_18 : Ref sig .tc := ⟨.hbm, 94, rfl⟩
abbrev main_v65 : Ref sig .tc := ⟨.hbm, 95, rfl⟩
abbrev main_v66 : Ref sig .tc := ⟨.hbm, 96, rfl⟩
abbrev main_cst_19 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩

abbrev nD : Nat := 1
abbrev τ : Topo := Topo.v7x

variable {F : FTy → Type} [FloatOps F]
-- ==== Kernel5.lean ====
abbrev S8208x1024 : Shape := ⟨2, ![8208, 1024]⟩
abbrev S8208x1536 : Shape := ⟨2, ![8208, 1536]⟩
abbrev S4x128x128 : Shape := ⟨3, ![4, 128, 128]⟩
abbrev S512 : Shape := ⟨1, ![512]⟩
abbrev S4x512 : Shape := ⟨2, ![4, 512]⟩
abbrev S8x64x64 : Shape := ⟨3, ![8, 64, 64]⟩
abbrev S1024 : Shape := ⟨1, ![1024]⟩
abbrev S1x512 : Shape := ⟨2, ![1, 512]⟩
abbrev S2x512 : Shape := ⟨2, ![2, 512]⟩
abbrev S_ : Shape := ⟨0, ![]⟩
abbrev S16x512 : Shape := ⟨2, ![16, 512]⟩
abbrev S4x4 : Shape := ⟨2, ![4, 4]⟩
abbrev S1x4x1x4x1 : Shape := ⟨5, ![1, 4, 1, 4, 1]⟩
abbrev S2x4x64x1x64 : Shape := ⟨5, ![2, 4, 64, 1, 64]⟩
abbrev S2x4x64x4x64 : Shape := ⟨5, ![2, 4, 64, 4, 64]⟩
abbrev S2x256x256 : Shape := ⟨3, ![2, 256, 256]⟩
abbrev S16x1536 : Shape := ⟨2, ![16, 1536]⟩
abbrev S8224x1536 : Shape := ⟨2, ![8224, 1536]⟩
abbrev S8208x1 : Shape := ⟨2, ![8208, 1]⟩
abbrev S8224x512 : Shape := ⟨2, ![8224, 512]⟩
abbrev S8223x512 : Shape := ⟨2, ![8223, 512]⟩
abbrev S8208x128 : Shape := ⟨2, ![8208, 128]⟩
abbrev S8221x512 : Shape := ⟨2, ![8221, 512]⟩
abbrev S8217x512 : Shape := ⟨2, ![8217, 512]⟩
abbrev S8209x512 : Shape := ⟨2, ![8209, 512]⟩
abbrev S8208x512 : Shape := ⟨2, ![8208, 512]⟩
abbrev S8208x4x128 : Shape := ⟨3, ![8208, 4, 128]⟩
abbrev S4x128x8208 : Shape := ⟨3, ![4, 128, 8208]⟩
abbrev S8208x2x256 : Shape := ⟨3, ![8208, 2, 256]⟩
abbrev S2x256x8208 : Shape := ⟨3, ![2, 256, 8208]⟩
abbrev S16383x512 : Shape := ⟨2, ![16383, 512]⟩
abbrev S24591x512 : Shape := ⟨2, ![24591, 512]⟩
abbrev S24590x512 : Shape := ⟨2, ![24590, 512]⟩
abbrev S24588x512 : Shape := ⟨2, ![24588, 512]⟩
abbrev S24584x512 : Shape := ⟨2, ![24584, 512]⟩
abbrev S24576x512 : Shape := ⟨2, ![24576, 512]⟩
abbrev S24560x512 : Shape := ⟨2, ![24560, 512]⟩
abbrev S24528x512 : Shape := ⟨2, ![24528, 512]⟩
abbrev S24464x512 : Shape := ⟨2, ![24464, 512]⟩
abbrev S24336x512 : Shape := ⟨2, ![24336, 512]⟩
abbrev S24080x512 : Shape := ⟨2, ![24080, 512]⟩
abbrev S23568x512 : Shape := ⟨2, ![23568, 512]⟩
abbrev S22544x512 : Shape := ⟨2, ![22544, 512]⟩
abbrev S20496x512 : Shape := ⟨2, ![20496, 512]⟩
abbrev S16400x512 : Shape := ⟨2, ![16400, 512]⟩
abbrev S8208x4608 : Shape := ⟨2, ![8208, 4608]⟩
abbrev S432x1024 : Shape := ⟨2, ![432, 1024]⟩
abbrev S432x1536 : Shape := ⟨2, ![432, 1536]⟩
abbrev S432x512 : Shape := ⟨2, ![432, 512]⟩
abbrev S432x4608 : Shape := ⟨2, ![432, 4608]⟩
abbrev S8x512 : Shape := ⟨2, ![8, 512]⟩
abbrev S448x512 : Shape := ⟨2, ![448, 512]⟩
abbrev S432x1 : Shape := ⟨2, ![432, 1]⟩
abbrev S432x128 : Shape := ⟨2, ![432, 128]⟩
abbrev S1x128 : Shape := ⟨2, ![1, 128]⟩
abbrev S432 : Shape := ⟨1, ![432]⟩
abbrev S128 : Shape := ⟨1, ![128]⟩
abbrev S1x128x128 : Shape := ⟨3, ![1, 128, 128]⟩
abbrev S128x128 : Shape := ⟨2, ![128, 128]⟩
abbrev S16x128 : Shape := ⟨2, ![16, 128]⟩
abbrev S448x128 : Shape := ⟨2, ![448, 128]⟩
abbrev S1x256x256 : Shape := ⟨3, ![1, 256, 256]⟩
abbrev S256x256 : Shape := ⟨2, ![256, 256]⟩
abbrev S432x256 : Shape := ⟨2, ![432, 256]⟩

abbrev nBuf : Space → Nat
  | .hbm => 352
  | .vmem => 25
  | .smem => 0
  | _ => 0

abbrev hbmTy0_0 (i : Nat) : BufTy := match i % 128 with
  | 0 => ⟨S8208x1024, .f32⟩
  | 1 => ⟨S8208x1536, .f32⟩
  | 2 => ⟨S4x128x128, .f32⟩
  | 3 => ⟨S512, .f32⟩
  | 4 => ⟨S512, .f32⟩
  | 5 => ⟨S4x512, .f32⟩
  | 6 => ⟨S512, .f32⟩
  | 7 => ⟨S8x64x64, .f32⟩
  | 8 => ⟨S512, .f32⟩
  | 9 => ⟨S8x64x64, .f32⟩
  | 10 => ⟨S512, .f32⟩
  | 11 => ⟨S512, .f32⟩
  | 12 => ⟨S1024, .f32⟩
  | 13 => ⟨S1x512, .f32⟩
  | 14 => ⟨S1x512, .f32⟩
  | 15 => ⟨S1x512, .f32⟩
  | 16 => ⟨S1x512, .f32⟩
  | 17 => ⟨S1x512, .f32⟩
  | 18 => ⟨S1x512, .f32⟩
  | 19 => ⟨S2x512, .f32⟩
  | 20 => ⟨S_, .f32⟩
  | 21 => ⟨S4x512, .f32⟩
  | 22 => ⟨S16x512, .f32⟩
  | 23 => ⟨S4x128x128, .bf16⟩
  | 24 => ⟨S4x4, .i32⟩
  | 25 => ⟨S4x4, .i32⟩
  | 26 => ⟨S_, .i32⟩
  | 27 => ⟨S4x4, .i32⟩
  | 28 => ⟨S4x4, .i32⟩
  | 29 => ⟨S4x4, .i1⟩
  | 30 => ⟨S4x4, .f32⟩
  | 31 => ⟨S1x4x1x4x1, .f32⟩
  | 32 => ⟨S2x4x64x1x64, .f32⟩
  | 33 => ⟨S2x4x64x4x64, .f32⟩
  | 34 => ⟨S2x4x64x4x64, .f32⟩
  | 35 => ⟨S2x4x64x4x64, .f32⟩
  | 36 => ⟨S2x256x256, .f32⟩
  | 37 => ⟨S2x256x256, .bf16⟩
  | 38 => ⟨S4x4, .i32⟩
  | 39 => ⟨S4x4, .i32⟩
  | 40 => ⟨S_, .i32⟩
  | 41 => ⟨S4x4, .i32⟩
  | 42 => ⟨S4x4, .i32⟩
  | 43 => ⟨S4x4, .i1⟩
  | 44 => ⟨S4x4, .f32⟩
  | 45 => ⟨S1x4x1x4x1, .f32⟩
  | 46 => ⟨S2x4x64x1x64, .f32⟩
  | 47 => ⟨S2x4x64x4x64, .f32⟩
  | 48 => ⟨S2x4x64x4x64, .f32⟩
  | 49 => ⟨S2x4x64x4x64, .f32⟩
  | 50 => ⟨S2x256x256, .f32⟩
  | 51 => ⟨S2x256x256, .bf16⟩
  | 52 => ⟨S_, .f32⟩
  | 53 => ⟨S16x1536, .f32⟩
  | 54 => ⟨S8224x1536, .f32⟩
  | 55 => ⟨S8208x1, .i32⟩
  | 56 => ⟨S8208x1, .f32⟩
  | 57 => ⟨S_, .f32⟩
  | 58 => ⟨S8208x1, .f32⟩
  | 59 => ⟨S8208x1, .f32⟩
  | 60 => ⟨S8224x512, .f32⟩
  | 61 => ⟨S8223x512, .f32⟩
  | 62 => ⟨S8223x512, .f32⟩
  | 63 => ⟨S8223x512, .f32⟩
  | 64 => ⟨S_, .f32⟩
  | 65 => ⟨S8208x1, .f32⟩
  | 66 => ⟨S8208x1, .f32⟩
  | 67 => ⟨S_, .f32⟩
  | 68 => ⟨S8208x1, .f32⟩
  | 69 => ⟨S8208x1, .f32⟩
  | 70 => ⟨S8208x128, .f32⟩
  | 71 => ⟨S8208x128, .f32⟩
  | 72 => ⟨S8208x128, .f32⟩
  | 73 => ⟨S8208x128, .f32⟩
  | 74 => ⟨S8208x128, .f32⟩
  | 75 => ⟨S8221x512, .f32⟩
  | 76 => ⟨S8221x512, .f32⟩
  | 77 => ⟨S8221x512, .f32⟩
  | 78 => ⟨S_, .f32⟩
  | 79 => ⟨S8208x1, .f32⟩
  | 80 => ⟨S8208x1, .f32⟩
  | 81 => ⟨S_, .f32⟩
  | 82 => ⟨S8208x1, .f32⟩
  | 83 => ⟨S8208x1, .f32⟩
  | 84 => ⟨S8208x128, .f32⟩
  | 85 => ⟨S8208x128, .f32⟩
  | 86 => ⟨S8208x128, .f32⟩
  | 87 => ⟨S8208x128, .f32⟩
  | 88 => ⟨S8208x128, .f32⟩
  | 89 => ⟨S8217x512, .f32⟩
  | 90 => ⟨S8217x512, .f32⟩
  | 91 => ⟨S8217x512, .f32⟩
  | 92 => ⟨S_, .f32⟩
  | 93 => ⟨S8208x1, .f32⟩
  | 94 => ⟨S8208x1, .f32⟩
  | 95 => ⟨S_, .f32⟩
  | 96 => ⟨S8208x1, .f32⟩
  | 97 => ⟨S8208x1, .f32⟩
  | 98 => ⟨S8208x128, .f32⟩
  | 99 => ⟨S8208x128, .f32⟩
  | 100 => ⟨S8208x128, .f32⟩
  | 101 => ⟨S8208x128, .f32⟩
  | 102 => ⟨S8208x128, .f32⟩
  | 103 => ⟨S8209x512, .f32⟩
  | 104 => ⟨S8209x512, .f32⟩
  | 105 => ⟨S8209x512, .f32⟩
  | 106 => ⟨S_, .f32⟩
  | 107 => ⟨S8208x1, .f32⟩
  | 108 => ⟨S8208x1, .f32⟩
  | 109 => ⟨S_, .f32⟩
  | 110 => ⟨S8208x1, .f32⟩
  | 111 => ⟨S8208x1, .f32⟩
  | 112 => ⟨S8208x128, .f32⟩
  | 113 => ⟨S8208x128, .f32⟩
  | 114 => ⟨S8208x128, .f32⟩
  | 115 => ⟨S8208x128, .f32⟩
  | 116 => ⟨S8208x128, .f32⟩
  | 117 => ⟨S8208x512, .f32⟩
  | 118 => ⟨S8208x512, .bf16⟩
  | 119 => ⟨S8208x4x128, .bf16⟩
  | 120 => ⟨S4x128x8208, .f32⟩
  | 121 => ⟨S8208x4x128, .f32⟩
  | 122 => ⟨S8208x512, .f32⟩
  | 123 => ⟨S1x512, .f32⟩
  | 124 => ⟨S8208x512, .f32⟩
  | 125 => ⟨S8208x512, .f32⟩
  | 126 => ⟨S8224x512, .f32⟩
  | 127 => ⟨S8208x512, .f32⟩
  | _ => ⟨S8208x1024, .f32⟩

abbrev hbmTy0_1 (i : Nat) : BufTy := match i % 128 with
  | 0 => ⟨S8208x512, .f32⟩
  | 1 => ⟨S8208x512, .f32⟩
  | 2 => ⟨S8208x512, .f32⟩
  | 3 => ⟨S1x512, .f32⟩
  | 4 => ⟨S1x512, .f32⟩
  | 5 => ⟨S8208x512, .f32⟩
  | 6 => ⟨S8208x512, .f32⟩
  | 7 => ⟨S1x512, .f32⟩
  | 8 => ⟨S8208x512, .f32⟩
  | 9 => ⟨S8208x512, .f32⟩
  | 10 => ⟨S8208x512, .f32⟩
  | 11 => ⟨S1x512, .f32⟩
  | 12 => ⟨S8208x512, .f32⟩
  | 13 => ⟨S8208x512, .f32⟩
  | 14 => ⟨S8208x512, .f32⟩
  | 15 => ⟨S1x512, .f32⟩
  | 16 => ⟨S8208x512, .f32⟩
  | 17 => ⟨S8208x512, .f32⟩
  | 18 => ⟨S8208x512, .f32⟩
  | 19 => ⟨S8208x512, .f32⟩
  | 20 => ⟨S8208x512, .f32⟩
  | 21 => ⟨S8208x512, .bf16⟩
  | 22 => ⟨S8208x2x256, .bf16⟩
  | 23 => ⟨S2x256x8208, .f32⟩
  | 24 => ⟨S8208x2x256, .f32⟩
  | 25 => ⟨S8208x512, .f32⟩
  | 26 => ⟨S1x512, .f32⟩
  | 27 => ⟨S8208x512, .f32⟩
  | 28 => ⟨S8208x512, .f32⟩
  | 29 => ⟨S8208x512, .f32⟩
  | 30 => ⟨S8208x512, .f32⟩
  | 31 => ⟨S_, .f32⟩
  | 32 => ⟨S8208x512, .f32⟩
  | 33 => ⟨S8208x512, .f32⟩
  | 34 => ⟨S_, .f32⟩
  | 35 => ⟨S8208x512, .f32⟩
  | 36 => ⟨S8208x512, .f32⟩
  | 37 => ⟨S2x256x8208, .f32⟩
  | 38 => ⟨S8208x2x256, .f32⟩
  | 39 => ⟨S8208x512, .f32⟩
  | 40 => ⟨S1x512, .f32⟩
  | 41 => ⟨S8208x512, .f32⟩
  | 42 => ⟨S8208x512, .f32⟩
  | 43 => ⟨S8208x512, .f32⟩
  | 44 => ⟨S8208x512, .f32⟩
  | 45 => ⟨S_, .f32⟩
  | 46 => ⟨S8208x512, .f32⟩
  | 47 => ⟨S8208x512, .f32⟩
  | 48 => ⟨S_, .f32⟩
  | 49 => ⟨S8208x512, .f32⟩
  | 50 => ⟨S8208x512, .f32⟩
  | 51 => ⟨S_, .f32⟩
  | 52 => ⟨S8208x512, .f32⟩
  | 53 => ⟨S8208x512, .f32⟩
  | 54 => ⟨S1x512, .f32⟩
  | 55 => ⟨S1x512, .f32⟩
  | 56 => ⟨S_, .f32⟩
  | 57 => ⟨S1x512, .f32⟩
  | 58 => ⟨S1x512, .f32⟩
  | 59 => ⟨S1x512, .f32⟩
  | 60 => ⟨S1x512, .f32⟩
  | 61 => ⟨S1x512, .f32⟩
  | 62 => ⟨S1x512, .f32⟩
  | 63 => ⟨S1x512, .f32⟩
  | 64 => ⟨S8208x512, .f32⟩
  | 65 => ⟨S8208x512, .f32⟩
  | 66 => ⟨S8208x512, .f32⟩
  | 67 => ⟨S8208x512, .f32⟩
  | 68 => ⟨S_, .f32⟩
  | 69 => ⟨S8208x512, .f32⟩
  | 70 => ⟨S8208x512, .f32⟩
  | 71 => ⟨S_, .f32⟩
  | 72 => ⟨S8208x512, .f32⟩
  | 73 => ⟨S8208x512, .f32⟩
  | 74 => ⟨S8208x512, .f32⟩
  | 75 => ⟨S8208x512, .f32⟩
  | 76 => ⟨S8208x512, .f32⟩
  | 77 => ⟨S_, .f32⟩
  | 78 => ⟨S8208x512, .f32⟩
  | 79 => ⟨S8208x512, .f32⟩
  | 80 => ⟨S8208x512, .f32⟩
  | 81 => ⟨S8208x512, .f32⟩
  | 82 => ⟨S8208x512, .f32⟩
  | 83 => ⟨S_, .f32⟩
  | 84 => ⟨S8208x512, .f32⟩
  | 85 => ⟨S8208x512, .f32⟩
  | 86 => ⟨S8208x512, .f32⟩
  | 87 => ⟨S_, .f32⟩
  | 88 => ⟨S8208x512, .f32⟩
  | 89 => ⟨S8208x512, .f32⟩
  | 90 => ⟨S_, .f32⟩
  | 91 => ⟨S8208x512, .f32⟩
  | 92 => ⟨S8208x512, .f32⟩
  | 93 => ⟨S8208x512, .f32⟩
  | 94 => ⟨S8208x512, .f32⟩
  | 95 => ⟨S8208x512, .f32⟩
  | 96 => ⟨S_, .f32⟩
  | 97 => ⟨S16383x512, .f32⟩
  | 98 => ⟨S24591x512, .f32⟩
  | 99 => ⟨S_, .f32⟩
  | 100 => ⟨S16383x512, .f32⟩
  | 101 => ⟨S24591x512, .f32⟩
  | 102 => ⟨S24590x512, .f32⟩
  | 103 => ⟨S24590x512, .f32⟩
  | 104 => ⟨S24590x512, .f32⟩
  | 105 => ⟨S24590x512, .f32⟩
  | 106 => ⟨S24590x512, .f32⟩
  | 107 => ⟨S24590x512, .f32⟩
  | 108 => ⟨S24590x512, .f32⟩
  | 109 => ⟨S24590x512, .f32⟩
  | 110 => ⟨S24588x512, .f32⟩
  | 111 => ⟨S24588x512, .f32⟩
  | 112 => ⟨S24588x512, .f32⟩
  | 113 => ⟨S24588x512, .f32⟩
  | 114 => ⟨S24588x512, .f32⟩
  | 115 => ⟨S24588x512, .f32⟩
  | 116 => ⟨S24588x512, .f32⟩
  | 117 => ⟨S24588x512, .f32⟩
  | 118 => ⟨S24584x512, .f32⟩
  | 119 => ⟨S24584x512, .f32⟩
  | 120 => ⟨S24584x512, .f32⟩
  | 121 => ⟨S24584x512, .f32⟩
  | 122 => ⟨S24584x512, .f32⟩
  | 123 => ⟨S24584x512, .f32⟩
  | 124 => ⟨S24584x512, .f32⟩
  | 125 => ⟨S24584x512, .f32⟩
  | 126 => ⟨S24576x512, .f32⟩
  | 127 => ⟨S24576x512, .f32⟩
  | _ => ⟨S8208x1024, .f32⟩

abbrev hbmTy0_2 (i : Nat) : BufTy := match i % 128 with
  | 0 => ⟨S24576x512, .f32⟩
  | 1 => ⟨S24576x512, .f32⟩
  | 2 => ⟨S24576x512, .f32⟩
  | 3 => ⟨S24576x512, .f32⟩
  | 4 => ⟨S24576x512, .f32⟩
  | 5 => ⟨S24576x512, .f32⟩
  | 6 => ⟨S24560x512, .f32⟩
  | 7 => ⟨S24560x512, .f32⟩
  | 8 => ⟨S24560x512, .f32⟩
  | 9 => ⟨S24560x512, .f32⟩
  | 10 => ⟨S24560x512, .f32⟩
  | 11 => ⟨S24560x512, .f32⟩
  | 12 => ⟨S24560x512, .f32⟩
  | 13 => ⟨S24560x512, .f32⟩
  | 14 => ⟨S24528x512, .f32⟩
  | 15 => ⟨S24528x512, .f32⟩
  | 16 => ⟨S24528x512, .f32⟩
  | 17 => ⟨S24528x512, .f32⟩
  | 18 => ⟨S24528x512, .f32⟩
  | 19 => ⟨S24528x512, .f32⟩
  | 20 => ⟨S24528x512, .f32⟩
  | 21 => ⟨S24528x512, .f32⟩
  | 22 => ⟨S24464x512, .f32⟩
  | 23 => ⟨S24464x512, .f32⟩
  | 24 => ⟨S24464x512, .f32⟩
  | 25 => ⟨S24464x512, .f32⟩
  | 26 => ⟨S24464x512, .f32⟩
  | 27 => ⟨S24464x512, .f32⟩
  | 28 => ⟨S24464x512, .f32⟩
  | 29 => ⟨S24464x512, .f32⟩
  | 30 => ⟨S24336x512, .f32⟩
  | 31 => ⟨S24336x512, .f32⟩
  | 32 => ⟨S24336x512, .f32⟩
  | 33 => ⟨S24336x512, .f32⟩
  | 34 => ⟨S24336x512, .f32⟩
  | 35 => ⟨S24336x512, .f32⟩
  | 36 => ⟨S24336x512, .f32⟩
  | 37 => ⟨S24336x512, .f32⟩
  | 38 => ⟨S24080x512, .f32⟩
  | 39 => ⟨S24080x512, .f32⟩
  | 40 => ⟨S24080x512, .f32⟩
  | 41 => ⟨S24080x512, .f32⟩
  | 42 => ⟨S24080x512, .f32⟩
  | 43 => ⟨S24080x512, .f32⟩
  | 44 => ⟨S24080x512, .f32⟩
  | 45 => ⟨S24080x512, .f32⟩
  | 46 => ⟨S23568x512, .f32⟩
  | 47 => ⟨S23568x512, .f32⟩
  | 48 => ⟨S23568x512, .f32⟩
  | 49 => ⟨S23568x512, .f32⟩
  | 50 => ⟨S23568x512, .f32⟩
  | 51 => ⟨S23568x512, .f32⟩
  | 52 => ⟨S23568x512, .f32⟩
  | 53 => ⟨S23568x512, .f32⟩
  | 54 => ⟨S22544x512, .f32⟩
  | 55 => ⟨S22544x512, .f32⟩
  | 56 => ⟨S22544x512, .f32⟩
  | 57 => ⟨S22544x512, .f32⟩
  | 58 => ⟨S22544x512, .f32⟩
  | 59 => ⟨S22544x512, .f32⟩
  | 60 => ⟨S22544x512, .f32⟩
  | 61 => ⟨S22544x512, .f32⟩
  | 62 => ⟨S20496x512, .f32⟩
  | 63 => ⟨S20496x512, .f32⟩
  | 64 => ⟨S20496x512, .f32⟩
  | 65 => ⟨S20496x512, .f32⟩
  | 66 => ⟨S20496x512, .f32⟩
  | 67 => ⟨S20496x512, .f32⟩
  | 68 => ⟨S20496x512, .f32⟩
  | 69 => ⟨S20496x512, .f32⟩
  | 70 => ⟨S16400x512, .f32⟩
  | 71 => ⟨S16400x512, .f32⟩
  | 72 => ⟨S16400x512, .f32⟩
  | 73 => ⟨S16400x512, .f32⟩
  | 74 => ⟨S16400x512, .f32⟩
  | 75 => ⟨S16400x512, .f32⟩
  | 76 => ⟨S16400x512, .f32⟩
  | 77 => ⟨S16400x512, .f32⟩
  | 78 => ⟨S8208x512, .f32⟩
  | 79 => ⟨S8208x512, .f32⟩
  | 80 => ⟨S8208x512, .f32⟩
  | 81 => ⟨S8208x512, .f32⟩
  | 82 => ⟨S8208x512, .f32⟩
  | 83 => ⟨S8208x512, .f32⟩
  | 84 => ⟨S8208x512, .f32⟩
  | 85 => ⟨S8208x512, .f32⟩
  | 86 => ⟨S8208x4608, .f32⟩
  | 87 => ⟨S8208x1536, .bf16⟩
  | 88 => ⟨S16x512, .f32⟩
  | 89 => ⟨S4x128x128, .f32⟩
  | 90 => ⟨S2x256x256, .f32⟩
  | 91 => ⟨S2x256x256, .f32⟩
  | 92 => ⟨S8208x512, .bf16⟩
  | 93 => ⟨S1x512, .f32⟩
  | 94 => ⟨S1x512, .f32⟩
  | 95 => ⟨S1x512, .f32⟩
  | _ => ⟨S8208x1024, .f32⟩

abbrev hbmTy (i : Nat) : BufTy := match i / 128 with
  | 0 => hbmTy0_0 i
  | 1 => hbmTy0_1 i
  | 2 => hbmTy0_2 i
  | _ => ⟨S8208x1024, .f32⟩

abbrev bufTy : (tb : Table) → Fin (tcTables nBuf tb) → BufTy
  | .hbm, ⟨i, _⟩ => hbmTy i
  | .local _ .vmem, ⟨0, _⟩ => ⟨S432x1024, .f32⟩
  | .local _ .vmem, ⟨1, _⟩ => ⟨S432x1024, .f32⟩
  | .local _ .vmem, ⟨2, _⟩ => ⟨S432x1536, .f32⟩
  | .local _ .vmem, ⟨3, _⟩ => ⟨S432x1536, .f32⟩
  | .local _ .vmem, ⟨4, _⟩ => ⟨S16x1536, .f32⟩
  | .local _ .vmem, ⟨5, _⟩ => ⟨S16x1536, .f32⟩
  | .local _ .vmem, ⟨6, _⟩ => ⟨S432x512, .f32⟩
  | .local _ .vmem, ⟨7, _⟩ => ⟨S432x512, .f32⟩
  | .local _ .vmem, ⟨8, _⟩ => ⟨S16x512, .f32⟩
  | .local _ .vmem, ⟨9, _⟩ => ⟨S16x512, .f32⟩
  | .local _ .vmem, ⟨10, _⟩ => ⟨S432x4608, .f32⟩
  | .local _ .vmem, ⟨11, _⟩ => ⟨S432x4608, .f32⟩
  | .local _ .vmem, ⟨12, _⟩ => ⟨S16x512, .f32⟩
  | .local _ .vmem, ⟨13, _⟩ => ⟨S4x128x128, .bf16⟩
  | .local _ .vmem, ⟨14, _⟩ => ⟨S2x256x256, .bf16⟩
  | .local _ .vmem, ⟨15, _⟩ => ⟨S2x256x256, .bf16⟩
  | .local _ .vmem, ⟨16, _⟩ => ⟨S432x1536, .bf16⟩
  | .local _ .vmem, ⟨17, _⟩ => ⟨S432x1536, .bf16⟩
  | .local _ .vmem, ⟨18, _⟩ => ⟨S16x512, .f32⟩
  | .local _ .vmem, ⟨19, _⟩ => ⟨S4x128x128, .f32⟩
  | .local _ .vmem, ⟨20, _⟩ => ⟨S2x256x256, .f32⟩
  | .local _ .vmem, ⟨21, _⟩ => ⟨S2x256x256, .f32⟩
  | .local _ .vmem, ⟨22, _⟩ => ⟨S8x512, .f32⟩
  | .local _ .vmem, ⟨23, _⟩ => ⟨S16x512, .f32⟩
  | .local _ .vmem, ⟨24, _⟩ => ⟨S16x512, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_1 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_2 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_3 : Ref sig .tc := ⟨.hbm, 64, rfl⟩
abbrev main_v46 : Ref sig .tc := ⟨.hbm, 65, rfl⟩
abbrev main_v47 : Ref sig .tc := ⟨.hbm, 66, rfl⟩
abbrev main_cst_4 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_5 : Ref sig .tc := ⟨.hbm, 78, rfl⟩
abbrev main_v58 : Ref sig .tc := ⟨.hbm, 79, rfl⟩
abbrev main_v59 : Ref sig .tc := ⟨.hbm, 80, rfl⟩
abbrev main_cst_6 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_7 : Ref sig .tc := ⟨.hbm, 92, rfl⟩
abbrev main_v70 : Ref sig .tc := ⟨.hbm, 93, rfl⟩
abbrev main_v71 : Ref sig .tc := ⟨.hbm, 94, rfl⟩
abbrev main_cst_8 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_9 : Ref sig .tc := ⟨.hbm, 106, rfl⟩
abbrev main_v82 : Ref sig .tc := ⟨.hbm, 107, rfl⟩
abbrev main_v83 : Ref sig .tc := ⟨.hbm, 108, rfl⟩
abbrev main_cst_10 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_cst_11 : Ref sig .tc := ⟨.hbm, 159, rfl⟩
abbrev main_v133 : Ref sig .tc := ⟨.hbm, 160, rfl⟩
abbrev main_v134 : Ref sig .tc := ⟨.hbm, 161, rfl⟩
abbrev main_cst_12 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_cst_13 : Ref sig .tc := ⟨.hbm, 173, rfl⟩
abbrev main_v145 : Ref sig .tc := ⟨.hbm, 174, rfl⟩
abbrev main_v146 : Ref sig .tc := ⟨.hbm, 175, rfl⟩
abbrev main_cst_14 : Ref sig .tc := ⟨.hbm, 176, rfl⟩
abbrev main_v147 : Ref sig .tc := ⟨.hbm, 177, rfl⟩
abbrev main_v148 : Ref sig .tc := ⟨.hbm, 178, rfl⟩
abbrev main_cst_15 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_cst_16 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_cst_17 : Ref sig .tc := ⟨.hbm, 196, rfl⟩
abbrev main_v164 : Ref sig .tc := ⟨.hbm, 197, rfl⟩
abbrev main_v165 : Ref sig .tc := ⟨.hbm, 198, rfl⟩
abbrev main_cst_18 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_cst_19 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_cst_20 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_cst_21 : Ref sig .tc := ⟨.hbm, 215, rfl⟩
abbrev main_v179 : Ref sig .tc := ⟨.hbm, 216, rfl⟩
abbrev main_v180 : Ref sig .tc := ⟨.hbm, 217, rfl⟩
abbrev main_cst_22 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_cst_23 : Ref sig .tc := ⟨.hbm, 224, rfl⟩
abbrev main_v186 : Ref sig .tc := ⟨.hbm, 225, rfl⟩
abbrev main_v187 : Ref sig .tc := ⟨.hbm, 226, rfl⟩
abbrev main_cst_24 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_v223 : Ref sig .tc := ⟨.hbm, 263, rfl⟩
abbrev main_v224 : Ref sig .tc := ⟨.hbm, 264, rfl⟩
abbrev main_v225 : Ref sig .tc := ⟨.hbm, 265, rfl⟩
abbrev main_v226 : Ref sig .tc := ⟨.hbm, 266, rfl⟩
abbrev main_v227 : Ref sig .tc := ⟨.hbm, 267, rfl⟩
abbrev main_v228 : Ref sig .tc := ⟨.hbm, 268, rfl⟩
abbrev main_v229 : Ref sig .tc := ⟨.hbm, 269, rfl⟩
abbrev main_v230 : Ref sig .tc := ⟨.hbm, 270, rfl⟩
abbrev main_v231 : Ref sig .tc := ⟨.hbm, 271, rfl⟩
abbrev main_v232 : Ref sig .tc := ⟨.hbm, 272, rfl⟩
abbrev main_v233 : Ref sig .tc := ⟨.hbm, 273, rfl⟩
abbrev main_v234 : Ref sig .tc := ⟨.hbm, 274, rfl⟩
abbrev main_v235 : Ref sig .tc := ⟨.hbm, 275, rfl⟩
abbrev main_v236 : Ref sig .tc := ⟨.hbm, 276, rfl⟩
abbrev main_v237 : Ref sig .tc := ⟨.hbm, 277, rfl⟩
abbrev main_v238 : Ref sig .tc := ⟨.hbm, 278, rfl⟩
abbrev main_v239 : Ref sig .tc := ⟨.hbm, 279, rfl⟩
abbrev main_v240 : Ref sig .tc := ⟨.hbm, 280, rfl⟩
abbrev main_v241 : Ref sig .tc := ⟨.hbm, 281, rfl⟩
abbrev main_v242 : Ref sig .tc := ⟨.hbm, 282, rfl⟩
abbrev main_v243 : Ref sig .tc := ⟨.hbm, 283, rfl⟩
abbrev main_v244 : Ref sig .tc := ⟨.hbm, 284, rfl⟩
abbrev main_v245 : Ref sig .tc := ⟨.hbm, 285, rfl⟩
abbrev main_v246 : Ref sig .tc := ⟨.hbm, 286, rfl⟩
abbrev main_v247 : Ref sig .tc := ⟨.hbm, 287, rfl⟩
abbrev main_v248 : Ref sig .tc := ⟨.hbm, 288, rfl⟩
abbrev main_v249 : Ref sig .tc := ⟨.hbm, 289, rfl⟩
abbrev main_v250 : Ref sig .tc := ⟨.hbm, 290, rfl⟩
abbrev main_v251 : Ref sig .tc := ⟨.hbm, 291, rfl⟩
abbrev main_v252 : Ref sig .tc := ⟨.hbm, 292, rfl⟩
abbrev main_v253 : Ref sig .tc := ⟨.hbm, 293, rfl⟩
abbrev main_v254 : Ref sig .tc := ⟨.hbm, 294, rfl⟩
abbrev main_v255 : Ref sig .tc := ⟨.hbm, 295, rfl⟩
abbrev main_v256 : Ref sig .tc := ⟨.hbm, 296, rfl⟩
abbrev main_v257 : Ref sig .tc := ⟨.hbm, 297, rfl⟩
abbrev main_v258 : Ref sig .tc := ⟨.hbm, 298, rfl⟩
abbrev main_v259 : Ref sig .tc := ⟨.hbm, 299, rfl⟩
abbrev main_v260 : Ref sig .tc := ⟨.hbm, 300, rfl⟩
abbrev main_v261 : Ref sig .tc := ⟨.hbm, 301, rfl⟩
abbrev main_v262 : Ref sig .tc := ⟨.hbm, 302, rfl⟩
abbrev main_v263 : Ref sig .tc := ⟨.hbm, 303, rfl⟩
abbrev main_v264 : Ref sig .tc := ⟨.hbm, 304, rfl⟩
abbrev main_v265 : Ref sig .tc := ⟨.hbm, 305, rfl⟩
abbrev main_v266 : Ref sig .tc := ⟨.hbm, 306, rfl⟩
abbrev main_v267 : Ref sig .tc := ⟨.hbm, 307, rfl⟩
abbrev main_v268 : Ref sig .tc := ⟨.hbm, 308, rfl⟩
abbrev main_v269 : Ref sig .tc := ⟨.hbm, 309, rfl⟩
abbrev main_v270 : Ref sig .tc := ⟨.hbm, 310, rfl⟩
abbrev main_v271 : Ref sig .tc := ⟨.hbm, 311, rfl⟩
abbrev main_v272 : Ref sig .tc := ⟨.hbm, 312, rfl⟩
abbrev main_v273 : Ref sig .tc := ⟨.hbm, 313, rfl⟩
abbrev main_v274 : Ref sig .tc := ⟨.hbm, 314, rfl⟩
abbrev main_v275 : Ref sig .tc := ⟨.hbm, 315, rfl⟩
abbrev main_v276 : Ref sig .tc := ⟨.hbm, 316, rfl⟩
abbrev main_v277 : Ref sig .tc := ⟨.hbm, 317, rfl⟩
abbrev main_v278 : Ref sig .tc := ⟨.hbm, 318, rfl⟩
abbrev main_v279 : Ref sig .tc := ⟨.hbm, 319, rfl⟩
abbrev main_v280 : Ref sig .tc := ⟨.hbm, 320, rfl⟩
abbrev main_v281 : Ref sig .tc := ⟨.hbm, 321, rfl⟩
abbrev main_v282 : Ref sig .tc := ⟨.hbm, 322, rfl⟩
abbrev main_v283 : Ref sig .tc := ⟨.hbm, 323, rfl⟩
abbrev main_v284 : Ref sig .tc := ⟨.hbm, 324, rfl⟩
abbrev main_v285 : Ref sig .tc := ⟨.hbm, 325, rfl⟩
abbrev main_v286 : Ref sig .tc := ⟨.hbm, 326, rfl⟩
abbrev main_v287 : Ref sig .tc := ⟨.hbm, 327, rfl⟩
abbrev main_v288 : Ref sig .tc := ⟨.hbm, 328, rfl⟩
abbrev main_v289 : Ref sig .tc := ⟨.hbm, 329, rfl⟩
abbrev main_v290 : Ref sig .tc := ⟨.hbm, 330, rfl⟩
abbrev main_v291 : Ref sig .tc := ⟨.hbm, 331, rfl⟩
abbrev main_v292 : Ref sig .tc := ⟨.hbm, 332, rfl⟩
abbrev main_v293 : Ref sig .tc := ⟨.hbm, 333, rfl⟩
abbrev main_v294 : Ref sig .tc := ⟨.hbm, 334, rfl⟩
abbrev main_v295 : Ref sig .tc := ⟨.hbm, 335, rfl⟩
abbrev main_v296 : Ref sig .tc := ⟨.hbm, 336, rfl⟩
abbrev main_v297 : Ref sig .tc := ⟨.hbm, 337, rfl⟩
abbrev main_v298 : Ref sig .tc := ⟨.hbm, 338, rfl⟩
abbrev main_v299 : Ref sig .tc := ⟨.hbm, 339, rfl⟩
abbrev main_v300 : Ref sig .tc := ⟨.hbm, 340, rfl⟩
abbrev main_v301 : Ref sig .tc := ⟨.hbm, 341, rfl⟩
abbrev main_v302 : Ref sig .tc := ⟨.hbm, 342, rfl⟩
abbrev main_v303_0 : Ref sig .tc := ⟨.hbm, 343, rfl⟩
abbrev main_v303_1 : Ref sig .tc := ⟨.hbm, 344, rfl⟩
abbrev main_v303_2 : Ref sig .tc := ⟨.hbm, 345, rfl⟩
abbrev main_v303_3 : Ref sig .tc := ⟨.hbm, 346, rfl⟩
abbrev main_v303_4 : Ref sig .tc := ⟨.hbm, 347, rfl⟩
abbrev main_v304 : Ref sig .tc := ⟨.hbm, 348, rfl⟩
abbrev main_v305 : Ref sig .tc := ⟨.hbm, 349, rfl⟩
abbrev main_v306 : Ref sig .tc := ⟨.hbm, 350, rfl⟩
abbrev main_v307 : Ref sig .tc := ⟨.hbm, 351, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c18_i32 : BitVec 32 := 18#32
  let v0 : BitVec 32 := Scalar.subi c18_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c18_i32 : BitVec 32 := 18#32
  let v0 : BitVec 32 := Scalar.subi c18_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c18_i32 : BitVec 32 := 18#32
  let v0 : BitVec 32 := Scalar.subi c18_i32 arg0
  let c27_i32 : BitVec 32 := 27#32
  let v1 : BitVec 32 := Scalar.muli v0 c27_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c18_i32 : BitVec 32 := 18#32
  let v0 : BitVec 32 := Scalar.subi c18_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c18_i32 : BitVec 32 := 18#32
  let v0 : BitVec 32 := Scalar.subi c18_i32 arg0
  let c27_i32 : BitVec 32 := 27#32
  let v1 : BitVec 32 := Scalar.muli v0 c27_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c18_i32 : BitVec 32 := 18#32
  let v0 : BitVec 32 := Scalar.subi c18_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c18_i32 : BitVec 32 := 18#32
  let v0 : BitVec 32 := Scalar.subi c18_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S432x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S432x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S432x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S432x4608 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S432x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S16x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference5Ideal.lean ====
abbrev S8208x1024 : Shape := ⟨2, ![8208, 1024]⟩
abbrev S8208x1536 : Shape := ⟨2, ![8208, 1536]⟩
abbrev S4x128x128 : Shape := ⟨3, ![4, 128, 128]⟩
abbrev S512 : Shape := ⟨1, ![512]⟩
abbrev S4x512 : Shape := ⟨2, ![4, 512]⟩
abbrev S8x64x64 : Shape := ⟨3, ![8, 64, 64]⟩
abbrev S1024 : Shape := ⟨1, ![1024]⟩
abbrev S8208x512 : Shape := ⟨2, ![8208, 512]⟩
abbrev S_ : Shape := ⟨0, ![]⟩
abbrev S1x512 : Shape := ⟨2, ![1, 512]⟩
abbrev S8209x512 : Shape := ⟨2, ![8209, 512]⟩
abbrev S8208 : Shape := ⟨1, ![8208]⟩
abbrev S8208x1 : Shape := ⟨2, ![8208, 1]⟩
abbrev S1x128 : Shape := ⟨2, ![1, 128]⟩
abbrev S8207x128 : Shape := ⟨2, ![8207, 128]⟩
abbrev S8208x128 : Shape := ⟨2, ![8208, 128]⟩
abbrev S3x128 : Shape := ⟨2, ![3, 128]⟩
abbrev S8205x128 : Shape := ⟨2, ![8205, 128]⟩
abbrev S7x128 : Shape := ⟨2, ![7, 128]⟩
abbrev S8201x128 : Shape := ⟨2, ![8201, 128]⟩
abbrev S15x128 : Shape := ⟨2, ![15, 128]⟩
abbrev S8193x128 : Shape := ⟨2, ![8193, 128]⟩
abbrev S8208x4x128 : Shape := ⟨3, ![8208, 4, 128]⟩
abbrev S4x128x8208 : Shape := ⟨3, ![4, 128, 8208]⟩
abbrev S4x8208x128 : Shape := ⟨3, ![4, 8208, 128]⟩

abbrev nBuf : Space → Nat
  | .hbm => 228
  | .vmem => 0
  | .smem => 0
  | _ => 0

abbrev hbmTy0_0 (i : Nat) : BufTy := match i % 128 with
  | 0 => ⟨S8208x1024, .f32⟩
  | 1 => ⟨S8208x1536, .f32⟩
  | 2 => ⟨S4x128x128, .f32⟩
  | 3 => ⟨S512, .f32⟩
  | 4 => ⟨S512, .f32⟩
  | 5 => ⟨S4x512, .f32⟩
  | 6 => ⟨S512, .f32⟩
  | 7 => ⟨S8x64x64, .f32⟩
  | 8 => ⟨S512, .f32⟩
  | 9 => ⟨S8x64x64, .f32⟩
  | 10 => ⟨S512, .f32⟩
  | 11 => ⟨S512, .f32⟩
  | 12 => ⟨S1024, .f32⟩
  | 13 => ⟨S8208x512, .f32⟩
  | 14 => ⟨S512, .f32⟩
  | 15 => ⟨S_, .f32⟩
  | 16 => ⟨S1x512, .f32⟩
  | 17 => ⟨S_, .f32⟩
  | 18 => ⟨S_, .f32⟩
  | 19 => ⟨S8208x512, .f32⟩
  | 20 => ⟨S8209x512, .f32⟩
  | 21 => ⟨S_, .f32⟩
  | 22 => ⟨S1x512, .f32⟩
  | 23 => ⟨S8208x512, .f32⟩
  | 24 => ⟨S8208, .f32⟩
  | 25 => ⟨S8208x1, .f32⟩
  | 26 => ⟨S_, .f32⟩
  | 27 => ⟨S1x128, .f32⟩
  | 28 => ⟨S8207x128, .f32⟩
  | 29 => ⟨S8208x128, .f32⟩
  | 30 => ⟨S_, .f32⟩
  | 31 => ⟨S1x128, .f32⟩
  | 32 => ⟨S_, .f32⟩
  | 33 => ⟨S8208x1, .f32⟩
  | 34 => ⟨S8208x1, .f32⟩
  | 35 => ⟨S_, .f32⟩
  | 36 => ⟨S8208x1, .f32⟩
  | 37 => ⟨S8208x1, .f32⟩
  | 38 => ⟨S8208x128, .f32⟩
  | 39 => ⟨S8208x128, .f32⟩
  | 40 => ⟨S8208x128, .f32⟩
  | 41 => ⟨S8208x128, .f32⟩
  | 42 => ⟨S_, .f32⟩
  | 43 => ⟨S3x128, .f32⟩
  | 44 => ⟨S8205x128, .f32⟩
  | 45 => ⟨S8208x128, .f32⟩
  | 46 => ⟨S_, .f32⟩
  | 47 => ⟨S3x128, .f32⟩
  | 48 => ⟨S_, .f32⟩
  | 49 => ⟨S8208x1, .f32⟩
  | 50 => ⟨S8208x1, .f32⟩
  | 51 => ⟨S_, .f32⟩
  | 52 => ⟨S8208x1, .f32⟩
  | 53 => ⟨S8208x1, .f32⟩
  | 54 => ⟨S8208x128, .f32⟩
  | 55 => ⟨S8208x128, .f32⟩
  | 56 => ⟨S8208x128, .f32⟩
  | 57 => ⟨S8208x128, .f32⟩
  | 58 => ⟨S_, .f32⟩
  | 59 => ⟨S7x128, .f32⟩
  | 60 => ⟨S8201x128, .f32⟩
  | 61 => ⟨S8208x128, .f32⟩
  | 62 => ⟨S_, .f32⟩
  | 63 => ⟨S7x128, .f32⟩
  | 64 => ⟨S_, .f32⟩
  | 65 => ⟨S8208x1, .f32⟩
  | 66 => ⟨S8208x1, .f32⟩
  | 67 => ⟨S_, .f32⟩
  | 68 => ⟨S8208x1, .f32⟩
  | 69 => ⟨S8208x1, .f32⟩
  | 70 => ⟨S8208x128, .f32⟩
  | 71 => ⟨S8208x128, .f32⟩
  | 72 => ⟨S8208x128, .f32⟩
  | 73 => ⟨S8208x128, .f32⟩
  | 74 => ⟨S_, .f32⟩
  | 75 => ⟨S15x128, .f32⟩
  | 76 => ⟨S8193x128, .f32⟩
  | 77 => ⟨S8208x128, .f32⟩
  | 78 => ⟨S_, .f32⟩
  | 79 => ⟨S15x128, .f32⟩
  | 80 => ⟨S_, .f32⟩
  | 81 => ⟨S8208x1, .f32⟩
  | 82 => ⟨S8208x1, .f32⟩
  | 83 => ⟨S_, .f32⟩
  | 84 => ⟨S8208x1, .f32⟩
  | 85 => ⟨S8208x1, .f32⟩
  | 86 => ⟨S8208x128, .f32⟩
  | 87 => ⟨S8208x128, .f32⟩
  | 88 => ⟨S8208x128, .f32⟩
  | 89 => ⟨S8208x128, .f32⟩
  | 90 => ⟨S8208x512, .f32⟩
  | 91 => ⟨S8208x512, .f32⟩
  | 92 => ⟨S8208x4x128, .f32⟩
  | 93 => ⟨S4x128x8208, .f32⟩
  | 94 => ⟨S8208x4x128, .f32⟩
  | 95 => ⟨S8208x512, .f32⟩
  | 96 => ⟨S1x512, .f32⟩
  | 97 => ⟨S8208x512, .f32⟩
  | 98 => ⟨S8208x512, .f32⟩
  | 99 => ⟨S1x512, .f32⟩
  | 100 => ⟨S8208x512, .f32⟩
  | 101 => ⟨S8208x512, .f32⟩
  | 102 => ⟨S8208x512, .f32⟩
  | 103 => ⟨S_, .f32⟩
  | 104 => ⟨S8208, .f32⟩
  | 105 => ⟨S8208x1, .f32⟩
  | 106 => ⟨S_, .f32⟩
  | 107 => ⟨S8208x1, .f32⟩
  | 108 => ⟨S8208x1, .f32⟩
  | 109 => ⟨S_, .f32⟩
  | 110 => ⟨S8208x1, .f32⟩
  | 111 => ⟨S8208x1, .f32⟩
  | 112 => ⟨S8208x1, .f32⟩
  | 113 => ⟨S8208x1, .f32⟩
  | 114 => ⟨S_, .f32⟩
  | 115 => ⟨S8208x1, .f32⟩
  | 116 => ⟨S8208x1, .f32⟩
  | 117 => ⟨S8208x512, .f32⟩
  | 118 => ⟨S8208x512, .f32⟩
  | 119 => ⟨S1x512, .f32⟩
  | 120 => ⟨S8208x512, .f32⟩
  | 121 => ⟨S8208x512, .f32⟩
  | 122 => ⟨S8208x512, .f32⟩
  | 123 => ⟨S8208x512, .f32⟩
  | 124 => ⟨S_, .f32⟩
  | 125 => ⟨S512, .f32⟩
  | 126 => ⟨S1x512, .f32⟩
  | 127 => ⟨S8208x512, .f32⟩
  | _ => ⟨S8208x1024, .f32⟩

abbrev hbmTy0_1 (i : Nat) : BufTy := match i % 128 with
  | 0 => ⟨S8208x512, .f32⟩
  | 1 => ⟨S_, .f32⟩
  | 2 => ⟨S512, .f32⟩
  | 3 => ⟨S8208x512, .f32⟩
  | 4 => ⟨S_, .f32⟩
  | 5 => ⟨S8208, .f32⟩
  | 6 => ⟨S8208x1, .f32⟩
  | 7 => ⟨S8208x512, .f32⟩
  | 8 => ⟨S8208x512, .f32⟩
  | 9 => ⟨S8208x1, .f32⟩
  | 10 => ⟨S_, .f32⟩
  | 11 => ⟨S8208x1, .f32⟩
  | 12 => ⟨S8208x1, .f32⟩
  | 13 => ⟨S_, .f32⟩
  | 14 => ⟨S8208, .f32⟩
  | 15 => ⟨S8208x512, .f32⟩
  | 16 => ⟨S8208x512, .f32⟩
  | 17 => ⟨S8208x512, .f32⟩
  | 18 => ⟨S8208x512, .f32⟩
  | 19 => ⟨S8208x512, .f32⟩
  | 20 => ⟨S8208x512, .f32⟩
  | 21 => ⟨S_, .f32⟩
  | 22 => ⟨S512, .f32⟩
  | 23 => ⟨S1x512, .f32⟩
  | 24 => ⟨S8208x512, .f32⟩
  | 25 => ⟨S8208x512, .f32⟩
  | 26 => ⟨S_, .f32⟩
  | 27 => ⟨S512, .f32⟩
  | 28 => ⟨S_, .f32⟩
  | 29 => ⟨S512, .f32⟩
  | 30 => ⟨S1x512, .f32⟩
  | 31 => ⟨S_, .f32⟩
  | 32 => ⟨S512, .f32⟩
  | 33 => ⟨S8208x4x128, .f32⟩
  | 34 => ⟨S4x128x8208, .f32⟩
  | 35 => ⟨S4x8208x128, .f32⟩
  | 36 => ⟨S8208x4x128, .f32⟩
  | 37 => ⟨S4x128x128, .f32⟩
  | 38 => ⟨S4x128x128, .f32⟩
  | 39 => ⟨S8208x512, .f32⟩
  | 40 => ⟨S8208x512, .f32⟩
  | 41 => ⟨S8208x128, .f32⟩
  | 42 => ⟨S8208x128, .f32⟩
  | 43 => ⟨S8208x128, .f32⟩
  | 44 => ⟨S8208x128, .f32⟩
  | 45 => ⟨S8208x128, .f32⟩
  | 46 => ⟨S8208x128, .f32⟩
  | 47 => ⟨S8208x128, .f32⟩
  | 48 => ⟨S_, .f32⟩
  | 49 => ⟨S8208x512, .f32⟩
  | 50 => ⟨S15x128, .f32⟩
  | 51 => ⟨S8193x128, .f32⟩
  | 52 => ⟨S_, .f32⟩
  | 53 => ⟨S8209x512, .f32⟩
  | 54 => ⟨S8208x128, .f32⟩
  | 55 => ⟨S8208x128, .f32⟩
  | 56 => ⟨S8208x128, .f32⟩
  | 57 => ⟨S_, .f32⟩
  | 58 => ⟨S8208x512, .f32⟩
  | 59 => ⟨S8208x512, .f32⟩
  | 60 => ⟨S7x128, .f32⟩
  | 61 => ⟨S8201x128, .f32⟩
  | 62 => ⟨S_, .f32⟩
  | 63 => ⟨S8209x512, .f32⟩
  | 64 => ⟨S8209x512, .f32⟩
  | 65 => ⟨S8208x128, .f32⟩
  | 66 => ⟨S8208x128, .f32⟩
  | 67 => ⟨S8208x128, .f32⟩
  | 68 => ⟨S_, .f32⟩
  | 69 => ⟨S8208x512, .f32⟩
  | 70 => ⟨S8208x512, .f32⟩
  | 71 => ⟨S3x128, .f32⟩
  | 72 => ⟨S8205x128, .f32⟩
  | 73 => ⟨S_, .f32⟩
  | 74 => ⟨S8209x512, .f32⟩
  | 75 => ⟨S8209x512, .f32⟩
  | 76 => ⟨S8208x128, .f32⟩
  | 77 => ⟨S8208x128, .f32⟩
  | 78 => ⟨S8208x128, .f32⟩
  | 79 => ⟨S_, .f32⟩
  | 80 => ⟨S8208x512, .f32⟩
  | 81 => ⟨S8208x512, .f32⟩
  | 82 => ⟨S1x128, .f32⟩
  | 83 => ⟨S8207x128, .f32⟩
  | 84 => ⟨S_, .f32⟩
  | 85 => ⟨S8209x512, .f32⟩
  | 86 => ⟨S8209x512, .f32⟩
  | 87 => ⟨S_, .f32⟩
  | 88 => ⟨S8209x512, .f32⟩
  | 89 => ⟨S8209x512, .f32⟩
  | 90 => ⟨S1x512, .f32⟩
  | 91 => ⟨S8208x512, .f32⟩
  | 92 => ⟨S_, .f32⟩
  | 93 => ⟨S_, .f32⟩
  | 94 => ⟨S8208x512, .f32⟩
  | 95 => ⟨S8208x512, .f32⟩
  | 96 => ⟨S8208x512, .bf16⟩
  | 97 => ⟨S1x512, .f32⟩
  | 98 => ⟨S1x512, .f32⟩
  | 99 => ⟨S1x512, .f32⟩
  | _ => ⟨S8208x1024, .f32⟩

abbrev hbmTy (i : Nat) : BufTy := match i / 128 with
  | 0 => hbmTy0_0 i
  | 1 => hbmTy0_1 i
  | _ => ⟨S8208x1024, .f32⟩

abbrev bufTy : (tb : Table) → Fin (tcTables nBuf tb) → BufTy
  | .hbm, ⟨i, _⟩ => hbmTy i
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_call0_call0_cst : Ref sig .tc := ⟨.hbm, 17, rfl⟩
abbrev main_call0_call0_v0 : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_cst_3 : Ref sig .tc := ⟨.hbm, 32, rfl⟩
abbrev main_v13 : Ref sig .tc := ⟨.hbm, 33, rfl⟩
abbrev main_v14 : Ref sig .tc := ⟨.hbm, 34, rfl⟩
abbrev main_cst_4 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_6 : Ref sig .tc := ⟨.hbm, 46, rfl⟩
abbrev main_v24 : Ref sig .tc := ⟨.hbm, 47, rfl⟩
abbrev main_cst_7 : Ref sig .tc := ⟨.hbm, 48, rfl⟩
abbrev main_v25 : Ref sig .tc := ⟨.hbm, 49, rfl⟩
abbrev main_v26 : Ref sig .tc := ⟨.hbm, 50, rfl⟩
abbrev main_cst_8 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_9 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_10 : Ref sig .tc := ⟨.hbm, 62, rfl⟩
abbrev main_v36 : Ref sig .tc := ⟨.hbm, 63, rfl⟩
abbrev main_cst_11 : Ref sig .tc := ⟨.hbm, 64, rfl⟩
abbrev main_v37 : Ref sig .tc := ⟨.hbm, 65, rfl⟩
abbrev main_v38 : Ref sig .tc := ⟨.hbm, 66, rfl⟩
abbrev main_cst_12 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_13 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_14 : Ref sig .tc := ⟨.hbm, 78, rfl⟩
abbrev main_v48 : Ref sig .tc := ⟨.hbm, 79, rfl⟩
abbrev main_cst_15 : Ref sig .tc := ⟨.hbm, 80, rfl⟩
abbrev main_v49 : Ref sig .tc := ⟨.hbm, 81, rfl⟩
abbrev main_v50 : Ref sig .tc := ⟨.hbm, 82, rfl⟩
abbrev main_cst_16 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_17 : Ref sig .tc := ⟨.hbm, 103, rfl⟩
abbrev main_v70 : Ref sig .tc := ⟨.hbm, 104, rfl⟩
abbrev main_v71 : Ref sig .tc := ⟨.hbm, 105, rfl⟩
abbrev main_cst_18 : Ref sig .tc := ⟨.hbm, 106, rfl⟩
abbrev main_v72 : Ref sig .tc := ⟨.hbm, 107, rfl⟩
abbrev main_v73 : Ref sig .tc := ⟨.hbm, 108, rfl⟩
abbrev main_cst_19 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_20 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_21 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_22 : Ref sig .tc := ⟨.hbm, 129, rfl⟩
abbrev main_v91 : Ref sig .tc := ⟨.hbm, 130, rfl⟩
abbrev main_v92 : Ref sig .tc := ⟨.hbm, 131, rfl⟩
abbrev main_cst_23 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_24 : Ref sig .tc := ⟨.hbm, 138, rfl⟩
abbrev main_v98 : Ref sig .tc := ⟨.hbm, 139, rfl⟩
abbrev main_v99 : Ref sig .tc := ⟨.hbm, 140, rfl⟩
abbrev main_cst_25 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_cst_26 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_27 : Ref sig .tc := ⟨.hbm, 154, rfl⟩
abbrev main_v111 : Ref sig .tc := ⟨.hbm, 155, rfl⟩
abbrev main_cst_28 : Ref sig .tc := ⟨.hbm, 156, rfl⟩
abbrev main_v112 : Ref sig .tc := ⟨.hbm, 157, rfl⟩
abbrev main_v113 : Ref sig .tc := ⟨.hbm, 158, rfl⟩
abbrev main_cst_29 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_cst_30 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_cst_31 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_cst_32 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_cst_33 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_cst_34 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_cst_35 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_cst_36 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_cst_37 : Ref sig .tc := ⟨.hbm, 212, rfl⟩
abbrev main_v159 : Ref sig .tc := ⟨.hbm, 213, rfl⟩
abbrev main_v160 : Ref sig .tc := ⟨.hbm, 214, rfl⟩
abbrev main_cst_38 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_call1_call0_cst : Ref sig .tc := ⟨.hbm, 220, rfl⟩
abbrev main_call1_call0_v0 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩

abbrev nD : Nat := 1
abbrev τ : Topo := Topo.v7x

variable {F : FTy → Type} [FloatOps F]
-- ==== Kernel6.lean ====
abbrev S8208x1024 : Shape := ⟨2, ![8208, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S1x1024 : Shape := ⟨2, ![1, 1024]⟩
abbrev S8208x4096 : Shape := ⟨2, ![8208, 4096]⟩
abbrev S432x1024 : Shape := ⟨2, ![432, 1024]⟩
abbrev S432x4096 : Shape := ⟨2, ![432, 4096]⟩
abbrev S432 : Shape := ⟨1, ![432]⟩
abbrev S432x1 : Shape := ⟨2, ![432, 1]⟩
abbrev S1x1024x1024 : Shape := ⟨3, ![1, 1024, 1024]⟩

abbrev nBuf : Space → Nat
  | .hbm => 17
  | .vmem => 14
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024x1024, .bf16⟩
  | .hbm, ⟨7, _⟩ => ⟨S1024x4096, .bf16⟩
  | .hbm, ⟨8, _⟩ => ⟨S1024x4x1024, .bf16⟩
  | .hbm, ⟨9, _⟩ => ⟨S4x1024x1024, .bf16⟩
  | .hbm, ⟨10, _⟩ => ⟨S4096x1024, .bf16⟩
  | .hbm, ⟨11, _⟩ => ⟨S4x1024x1024, .bf16⟩
  | .hbm, ⟨12, _⟩ => ⟨S8208x1024, .bf16⟩
  | .hbm, ⟨13, _⟩ => ⟨S1x1024, .f32⟩
  | .hbm, ⟨14, _⟩ => ⟨S8208x1024, .f32⟩
  | .hbm, ⟨15, _⟩ => ⟨S8208x4096, .bf16⟩
  | .hbm, ⟨16, _⟩ => ⟨S8208x1024, .f32⟩
  | .local _ .vmem, ⟨0, _⟩ => ⟨S432x1024, .f32⟩
  | .local _ .vmem, ⟨1, _⟩ => ⟨S432x1024, .f32⟩
  | .local _ .vmem, ⟨2, _⟩ => ⟨S432x1024, .bf16⟩
  | .local _ .vmem, ⟨3, _⟩ => ⟨S432x1024, .bf16⟩
  | .local _ .vmem, ⟨4, _⟩ => ⟨S1024x1024, .bf16⟩
  | .local _ .vmem, ⟨5, _⟩ => ⟨S1x1024, .f32⟩
  | .local _ .vmem, ⟨6, _⟩ => ⟨S4x1024x1024, .bf16⟩
  | .local _ .vmem, ⟨7, _⟩ => ⟨S4x1024x1024, .bf16⟩
  | .local _ .vmem, ⟨8, _⟩ => ⟨S432x1024, .f32⟩
  | .local _ .vmem, ⟨9, _⟩ => ⟨S432x1024, .f32⟩
  | .local _ .vmem, ⟨10, _⟩ => ⟨S432x4096, .bf16⟩
  | .local _ .vmem, ⟨11, _⟩ => ⟨S432x4096, .bf16⟩
  | .local _ .vmem, ⟨12, _⟩ => ⟨S432x1024, .f32⟩
  | .local _ .vmem, ⟨13, _⟩ => ⟨S432x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S432x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S432x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S432x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S432x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S432x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S8208x1024 : Shape := ⟨2, ![8208, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8208x4096 : Shape := ⟨2, ![8208, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S8208x1024, .f32⟩
  | .hbm, ⟨7, _⟩ => ⟨S8208x1024, .f32⟩
  | .hbm, ⟨8, _⟩ => ⟨S8208x1024, .f32⟩
  | .hbm, ⟨9, _⟩ => ⟨S_, .f32⟩
  | .hbm, ⟨10, _⟩ => ⟨S8208, .f32⟩
  | .hbm, ⟨11, _⟩ => ⟨S8208x1, .f32⟩
  | .hbm, ⟨12, _⟩ => ⟨S_, .f32⟩
  | .hbm, ⟨13, _⟩ => ⟨S8208x1, .f32⟩
  | .hbm, ⟨14, _⟩ => ⟨S8208x1, .f32⟩
  | .hbm, ⟨15, _⟩ => ⟨S_, .f32⟩
  | .hbm, ⟨16, _⟩ => ⟨S8208x1, .f32⟩
  | .hbm, ⟨17, _⟩ => ⟨S8208x1, .f32⟩
  | .hbm, ⟨18, _⟩ => ⟨S8208x1, .f32⟩
  | .hbm, ⟨19, _⟩ => ⟨S8208x1024, .f32⟩
  | .hbm, ⟨20, _⟩ => ⟨S8208x1024, .f32⟩
  | .hbm, ⟨21, _⟩ => ⟨S1x1024, .f32⟩
  | .hbm, ⟨22, _⟩ => ⟨S8208x1024, .f32⟩
  | .hbm, ⟨23, _⟩ => ⟨S8208x1024, .f32⟩
  | .hbm, ⟨24, _⟩ => ⟨S8208x4096, .f32⟩
  | .hbm, ⟨25, _⟩ => ⟨S_, .f32⟩
  | .hbm, ⟨26, _⟩ => ⟨S8208x4096, .f32⟩
  | .hbm, ⟨27, _⟩ => ⟨S8208x4096, .f32⟩
  | .hbm, ⟨28, _⟩ => ⟨S8208x4096, .bf16⟩
  | .hbm, ⟨29, _⟩ => ⟨S8208x4096, .f32⟩
  | .hbm, ⟨30, _⟩ => ⟨S8208x1024, .f32⟩
  | .hbm, ⟨31, _⟩ => ⟨S8208x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Kernel7.lean ====
abbrev S8208x1024 : Shape := ⟨2, ![8208, 1024]⟩
abbrev S1024 : Shape := ⟨1, ![1024]⟩
abbrev S1024x1536 : Shape := ⟨2, ![1024, 1536]⟩
abbrev S4x128x128 : Shape := ⟨3, ![4, 128, 128]⟩
abbrev S512 : Shape := ⟨1, ![512]⟩
abbrev S4x512 : Shape := ⟨2, ![4, 512]⟩
abbrev S8x64x64 : Shape := ⟨3, ![8, 64, 64]⟩
abbrev S1024x4x384 : Shape := ⟨3, ![1024, 4, 384]⟩
abbrev S4x1024x384 : Shape := ⟨3, ![4, 1024, 384]⟩
abbrev S1x512 : Shape := ⟨2, ![1, 512]⟩
abbrev S2x512 : Shape := ⟨2, ![2, 512]⟩
abbrev S_ : Shape := ⟨0, ![]⟩
abbrev S16x512 : Shape := ⟨2, ![16, 512]⟩
abbrev S1x1024 : Shape := ⟨2, ![1, 1024]⟩
abbrev S4x4 : Shape := ⟨2, ![4, 4]⟩
abbrev S1x4x1x4x1 : Shape := ⟨5, ![1, 4, 1, 4, 1]⟩
abbrev S2x4x64x1x64 : Shape := ⟨5, ![2, 4, 64, 1, 64]⟩
abbrev S2x4x64x4x64 : Shape := ⟨5, ![2, 4, 64, 4, 64]⟩
abbrev S2x256x256 : Shape := ⟨3, ![2, 256, 256]⟩
abbrev S8208x1536 : Shape := ⟨2, ![8208, 1536]⟩
abbrev S8208x512 : Shape := ⟨2, ![8208, 512]⟩
abbrev S8208x4608 : Shape := ⟨2, ![8208, 4608]⟩
abbrev S432x1024 : Shape := ⟨2, ![432, 1024]⟩
abbrev S432x1536 : Shape := ⟨2, ![432, 1536]⟩
abbrev S432x512 : Shape := ⟨2, ![432, 512]⟩
abbrev S432x4608 : Shape := ⟨2, ![432, 4608]⟩
abbrev S16x1536 : Shape := ⟨2, ![16, 1536]⟩
abbrev S8x512 : Shape := ⟨2, ![8, 512]⟩
abbrev S1x1024x384 : Shape := ⟨3, ![1, 1024, 384]⟩
abbrev S1024x384 : Shape := ⟨2, ![1024, 384]⟩
abbrev S432 : Shape := ⟨1, ![432]⟩
abbrev S432x1 : Shape := ⟨2, ![432, 1]⟩
abbrev S448x1536 : Shape := ⟨2, ![448, 1536]⟩
abbrev S448x128 : Shape := ⟨2, ![448, 128]⟩
abbrev S432x128 : Shape := ⟨2, ![432, 128]⟩
abbrev S1x128x128 : Shape := ⟨3, ![1, 128, 128]⟩
abbrev S128x128 : Shape := ⟨2, ![128, 128]⟩
abbrev S1x128 : Shape := ⟨2, ![1, 128]⟩
abbrev S448x512 : Shape := ⟨2, ![448, 512]⟩
abbrev S432x256 : Shape := ⟨2, ![432, 256]⟩
abbrev S1x256x256 : Shape := ⟨3, ![1, 256, 256]⟩
abbrev S256x256 : Shape := ⟨2, ![256, 256]⟩

abbrev nBuf : Space → Nat
  | .hbm => 63
  | .vmem => 19
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S1024x1536, .f32⟩
  | .hbm, ⟨3, _⟩ => ⟨S4x128x128, .f32⟩
  | .hbm, ⟨4, _⟩ => ⟨S512, .f32⟩
  | .hbm, ⟨5, _⟩ => ⟨S512, .f32⟩
  | .hbm, ⟨6, _⟩ => ⟨S4x512, .f32⟩
  | .hbm, ⟨7, _⟩ => ⟨S512, .f32⟩
  | .hbm, ⟨8, _⟩ => ⟨S8x64x64, .f32⟩
  | .hbm, ⟨9, _⟩ => ⟨S512, .f32⟩
  | .hbm, ⟨10, _⟩ => ⟨S8x64x64, .f32⟩
  | .hbm, ⟨11, _⟩ => ⟨S512, .f32⟩
  | .hbm, ⟨12, _⟩ => ⟨S512, .f32⟩
  | .hbm, ⟨13, _⟩ => ⟨S1024, .f32⟩
  | .hbm, ⟨14, _⟩ => ⟨S1024x1536, .bf16⟩
  | .hbm, ⟨15, _⟩ => ⟨S1024x4x384, .bf16⟩
  | .hbm, ⟨16, _⟩ => ⟨S4x1024x384, .bf16⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S2x512, .f32⟩
  | .hbm, ⟨24, _⟩ => ⟨S_, .f32⟩
  | .hbm, ⟨25, _⟩ => ⟨S4x512, .f32⟩
  | .hbm, ⟨26, _⟩ => ⟨S16x512, .f32⟩
  | .hbm, ⟨27, _⟩ => ⟨S1x1024, .f32⟩
  | .hbm, ⟨28, _⟩ => ⟨S4x128x128, .bf16⟩
  | .hbm, ⟨29, _⟩ => ⟨S4x4, .i32⟩
  | .hbm, ⟨30, _⟩ => ⟨S4x4, .i32⟩
  | .hbm, ⟨31, _⟩ => ⟨S_, .i32⟩
  | .hbm, ⟨32, _⟩ => ⟨S4x4, .i32⟩
  | .hbm, ⟨33, _⟩ => ⟨S4x4, .i32⟩
  | .hbm, ⟨34, _⟩ => ⟨S4x4, .i1⟩
  | .hbm, ⟨35, _⟩ => ⟨S4x4, .f32⟩
  | .hbm, ⟨36, _⟩ => ⟨S1x4x1x4x1, .f32⟩
  | .hbm, ⟨37, _⟩ => ⟨S2x4x64x1x64, .f32⟩
  | .hbm, ⟨38, _⟩ => ⟨S2x4x64x4x64, .f32⟩
  | .hbm, ⟨39, _⟩ => ⟨S2x4x64x4x64, .f32⟩
  | .hbm, ⟨40, _⟩ => ⟨S2x4x64x4x64, .f32⟩
  | .hbm, ⟨41, _⟩ => ⟨S2x256x256, .f32⟩
  | .hbm, ⟨42, _⟩ => ⟨S2x256x256, .bf16⟩
  | .hbm, ⟨43, _⟩ => ⟨S4x4, .i32⟩
  | .hbm, ⟨44, _⟩ => ⟨S4x4, .i32⟩
  | .hbm, ⟨45, _⟩ => ⟨S_, .i32⟩
  | .hbm, ⟨46, _⟩ => ⟨S4x4, .i32⟩
  | .hbm, ⟨47, _⟩ => ⟨S4x4, .i32⟩
  | .hbm, ⟨48, _⟩ => ⟨S4x4, .i1⟩
  | .hbm, ⟨49, _⟩ => ⟨S4x4, .f32⟩
  | .hbm, ⟨50, _⟩ => ⟨S1x4x1x4x1, .f32⟩
  | .hbm, ⟨51, _⟩ => ⟨S2x4x64x1x64, .f32⟩
  | .hbm, ⟨52, _⟩ => ⟨S2x4x64x4x64, .f32⟩
  | .hbm, ⟨53, _⟩ => ⟨S2x4x64x4x64, .f32⟩
  | .hbm, ⟨54, _⟩ => ⟨S2x4x64x4x64, .f32⟩
  | .hbm, ⟨55, _⟩ => ⟨S2x256x256, .f32⟩
  | .hbm, ⟨56, _⟩ => ⟨S2x256x256, .bf16⟩
  | .hbm, ⟨57, _⟩ => ⟨S8208x1536, .f32⟩
  | .hbm, ⟨58, _⟩ => ⟨S8208x1024, .bf16⟩
  | .hbm, ⟨59, _⟩ => ⟨S8208x512, .f32⟩
  | .hbm, ⟨60, _⟩ => ⟨S8208x4608, .f32⟩
  | .hbm, ⟨61, _⟩ => ⟨S8208x1536, .f32⟩
  | .hbm, ⟨62, _⟩ => ⟨S8208x512, .f32⟩
  | .local _ .vmem, ⟨0, _⟩ => ⟨S432x1024, .f32⟩
  | .local _ .vmem, ⟨1, _⟩ => ⟨S432x1024, .f32⟩
  | .local _ .vmem, ⟨2, _⟩ => ⟨S1x1024, .f32⟩
  | .local _ .vmem, ⟨3, _⟩ => ⟨S4x1024x384, .bf16⟩
  | .local _ .vmem, ⟨4, _⟩ => ⟨S16x512, .f32⟩
  | .local _ .vmem, ⟨5, _⟩ => ⟨S4x128x128, .bf16⟩
  | .local _ .vmem, ⟨6, _⟩ => ⟨S2x256x256, .bf16⟩
  | .local _ .vmem, ⟨7, _⟩ => ⟨S2x256x256, .bf16⟩
  | .local _ .vmem, ⟨8, _⟩ => ⟨S432x1536, .f32⟩
  | .local _ .vmem, ⟨9, _⟩ => ⟨S432x1536, .f32⟩
  | .local _ .vmem, ⟨10, _⟩ => ⟨S432x1024, .bf16⟩
  | .local _ .vmem, ⟨11, _⟩ => ⟨S432x1024, .bf16⟩
  | .local _ .vmem, ⟨12, _⟩ => ⟨S432x512, .f32⟩
  | .local _ .vmem, ⟨13, _⟩ => ⟨S432x512, .f32⟩
  | .local _ .vmem, ⟨14, _⟩ => ⟨S432x4608, .f32⟩
  | .local _ .vmem, ⟨15, _⟩ => ⟨S432x4608, .f32⟩
  | .local _ .vmem, ⟨16, _⟩ => ⟨S1024x1536, .bf16⟩
  | .local _ .vmem, ⟨17, _⟩ => ⟨S16x1536, .f32⟩
  | .local _ .vmem, ⟨18, _⟩ => ⟨S8x512, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40_0 : Ref sig .tc := ⟨.hbm, 57, rfl⟩
abbrev main_v40_1 : Ref sig .tc := ⟨.hbm, 58, rfl⟩
abbrev main_v40_2 : Ref sig .tc := ⟨.hbm, 59, rfl⟩
abbrev main_v40_3 : Ref sig .tc := ⟨.hbm, 60, rfl⟩
abbrev main_v41 : Ref sig .tc := ⟨.hbm, 61, rfl⟩
abbrev main_v42 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S432x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S432x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S432x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S432x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S432x4608 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference7Ideal.lean ====
abbrev S8208x1024 : Shape := ⟨2, ![8208, 1024]⟩
abbrev S1024 : Shape := ⟨1, ![1024]⟩
abbrev S1024x1536 : Shape := ⟨2, ![1024, 1536]⟩
abbrev S4x128x128 : Shape := ⟨3, ![4, 128, 128]⟩
abbrev S512 : Shape := ⟨1, ![512]⟩
abbrev S4x512 : Shape := ⟨2, ![4, 512]⟩
abbrev S8x64x64 : Shape := ⟨3, ![8, 64, 64]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8208x1536 : Shape := ⟨2, ![8208, 1536]⟩
abbrev S8208x512 : Shape := ⟨2, ![8208, 512]⟩
abbrev S8211x512 : Shape := ⟨2, ![8211, 512]⟩
abbrev S1x512 : Shape := ⟨2, ![1, 512]⟩
abbrev S8208x8x64 : Shape := ⟨3, ![8208, 8, 64]⟩
abbrev S8x64x8208 : Shape := ⟨3, ![8, 64, 8208]⟩

abbrev nBuf : Space → Nat
  | .hbm => 116
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S1024x1536, .f32⟩
  | .hbm, ⟨3, _⟩ => ⟨S4x128x128, .f32⟩
  | .hbm, ⟨4, _⟩ => ⟨S512, .f32⟩
  | .hbm, ⟨5, _⟩ => ⟨S512, .f32⟩
  | .hbm, ⟨6, _⟩ => ⟨S4x512, .f32⟩
  | .hbm, ⟨7, _⟩ => ⟨S512, .f32⟩
  | .hbm, ⟨8, _⟩ => ⟨S8x64x64, .f32⟩
  | .hbm, ⟨9, _⟩ => ⟨S512, .f32⟩
  | .hbm, ⟨10, _⟩ => ⟨S8x64x64, .f32⟩
  | .hbm, ⟨11, _⟩ => ⟨S512, .f32⟩
  | .hbm, ⟨12, _⟩ => ⟨S512, .f32⟩
  | .hbm, ⟨13, _⟩ => ⟨S1024, .f32⟩
  | .hbm, ⟨14, _⟩ => ⟨S8208x1024, .f32⟩
  | .hbm, ⟨15, _⟩ => ⟨S_, .f32⟩
  | .hbm, ⟨16, _⟩ => ⟨S8208, .f32⟩
  | .hbm, ⟨17, _⟩ => ⟨S8208x1, .f32⟩
  | .hbm, ⟨18, _⟩ => ⟨S_, .f32⟩
  | .hbm, ⟨19, _⟩ => ⟨S8208x1, .f32⟩
  | .hbm, ⟨20, _⟩ => ⟨S8208x1, .f32⟩
  | .hbm, ⟨21, _⟩ => ⟨S_, .f32⟩
  | .hbm, ⟨22, _⟩ => ⟨S8208x1, .f32⟩
  | .hbm, ⟨23, _⟩ => ⟨S8208x1, .f32⟩
  | .hbm, ⟨24, _⟩ => ⟨S8208x1, .f32⟩
  | .hbm, ⟨25, _⟩ => ⟨S8208x1024, .f32⟩
  | .hbm, ⟨26, _⟩ => ⟨S8208x1024, .f32⟩
  | .hbm, ⟨27, _⟩ => ⟨S1x1024, .f32⟩
  | .hbm, ⟨28, _⟩ => ⟨S8208x1024, .f32⟩
  | .hbm, ⟨29, _⟩ => ⟨S8208x1024, .f32⟩
  | .hbm, ⟨30, _⟩ => ⟨S8208x1536, .f32⟩
  | .hbm, ⟨31, _⟩ => ⟨S8208x512, .f32⟩
  | .hbm, ⟨32, _⟩ => ⟨S_, .i32⟩
  | .hbm, ⟨33, _⟩ => ⟨S_, .f32⟩
  | .hbm, ⟨34, _⟩ => ⟨S8211x512, .f32⟩
  | .hbm, ⟨35, _⟩ => ⟨S8208x512, .f32⟩
  | .hbm, ⟨36, _⟩ => ⟨S1x512, .f32⟩
  | .hbm, ⟨37, _⟩ => ⟨S512, .f32⟩
  | .hbm, ⟨38, _⟩ => ⟨S1x512, .f32⟩
  | .hbm, ⟨39, _⟩ => ⟨S8208x512, .f32⟩
  | .hbm, ⟨40, _⟩ => ⟨S8208x512, .f32⟩
  | .hbm, ⟨41, _⟩ => ⟨S_, .f32⟩
  | .hbm, ⟨42, _⟩ => ⟨S8208x512, .f32⟩
  | .hbm, ⟨43, _⟩ => ⟨S8208x512, .f32⟩
  | .hbm, ⟨44, _⟩ => ⟨S8208x512, .f32⟩
  | .hbm, ⟨45, _⟩ => ⟨S1x512, .f32⟩
  | .hbm, ⟨46, _⟩ => ⟨S512, .f32⟩
  | .hbm, ⟨47, _⟩ => ⟨S1x512, .f32⟩
  | .hbm, ⟨48, _⟩ => ⟨S8208x512, .f32⟩
  | .hbm, ⟨49, _⟩ => ⟨S8208x512, .f32⟩
  | .hbm, ⟨50, _⟩ => ⟨S8208x512, .f32⟩
  | .hbm, ⟨51, _⟩ => ⟨S8208x512, .f32⟩
  | .hbm, ⟨52, _⟩ => ⟨S1x512, .f32⟩
  | .hbm, ⟨53, _⟩ => ⟨S512, .f32⟩
  | .hbm, ⟨54, _⟩ => ⟨S1x512, .f32⟩
  | .hbm, ⟨55, _⟩ => ⟨S8208x512, .f32⟩
  | .hbm, ⟨56, _⟩ => ⟨S8208x512, .f32⟩
  | .hbm, ⟨57, _⟩ => ⟨S8208x512, .f32⟩
  | .hbm, ⟨58, _⟩ => ⟨S8208x512, .f32⟩
  | .hbm, ⟨59, _⟩ => ⟨S1x512, .f32⟩
  | .hbm, ⟨60, _⟩ => ⟨S512, .f32⟩
  | .hbm, ⟨61, _⟩ => ⟨S1x512, .f32⟩
  | .hbm, ⟨62, _⟩ => ⟨S8208x512, .f32⟩
  | .hbm, ⟨63, _⟩ => ⟨S8208x512, .f32⟩
  | .hbm, ⟨64, _⟩ => ⟨S8208x512, .f32⟩
  | .hbm, ⟨65, _⟩ => ⟨S1x512, .f32⟩
  | .hbm, ⟨66, _⟩ => ⟨S8208x512, .f32⟩
  | .hbm, ⟨67, _⟩ => ⟨S8208x512, .f32⟩
  | .hbm, ⟨68, _⟩ => ⟨S8208x8x64, .f32⟩
  | .hbm, ⟨69, _⟩ => ⟨S8x64x8208, .f32⟩
  | .hbm, ⟨70, _⟩ => ⟨S8208x8x64, .f32⟩
  | .hbm, ⟨71, _⟩ => ⟨S8208x512, .f32⟩
  | .hbm, ⟨72, _⟩ => ⟨S1x512, .f32⟩
  | .hbm, ⟨73, _⟩ => ⟨S8208x512, .f32⟩
  | .hbm, ⟨74, _⟩ => ⟨S8208x512, .f32⟩
  | .hbm, ⟨75, _⟩ => ⟨S8208x512, .f32⟩
  | .hbm, ⟨76, _⟩ => ⟨S8208x512, .f32⟩
  | .hbm, ⟨77, _⟩ => ⟨S_, .f32⟩
  | .hbm, ⟨78, _⟩ => ⟨S8208x512, .f32⟩
  | .hbm, ⟨79, _⟩ => ⟨S8208x512, .f32⟩
  | .hbm, ⟨80, _⟩ => ⟨S_, .f32⟩
  | .hbm, ⟨81, _⟩ => ⟨S8208x512, .f32⟩
  | .hbm, ⟨82, _⟩ => ⟨S8208x512, .f32⟩
  | .hbm, ⟨83, _⟩ => ⟨S8x64x8208, .f32⟩
  | .hbm, ⟨84, _⟩ => ⟨S8208x8x64, .f32⟩
  | .hbm, ⟨85, _⟩ => ⟨S8208x512, .f32⟩
  | .hbm, ⟨86, _⟩ => ⟨S1x512, .f32⟩
  | .hbm, ⟨87, _⟩ => ⟨S8208x512, .f32⟩
  | .hbm, ⟨88, _⟩ => ⟨S8208x512, .f32⟩
  | .hbm, ⟨89, _⟩ => ⟨S8208x512, .f32⟩
  | .hbm, ⟨90, _⟩ => ⟨S8208x512, .f32⟩
  | .hbm, ⟨91, _⟩ => ⟨S_, .f32⟩
  | .hbm, ⟨92, _⟩ => ⟨S8208x512, .f32⟩
  | .hbm, ⟨93, _⟩ => ⟨S8208x512, .f32⟩
  | .hbm, ⟨94, _⟩ => ⟨S_, .f32⟩
  | .hbm, ⟨95, _⟩ => ⟨S8208x512, .f32⟩
  | .hbm, ⟨96, _⟩ => ⟨S8208x512, .f32⟩
  | .hbm, ⟨97, _⟩ => ⟨S8208x1536, .f32⟩
  | .hbm, ⟨98, _⟩ => ⟨S8208x512, .f32⟩
  | .hbm, ⟨99, _⟩ => ⟨S8208x512, .f32⟩
  | .hbm, ⟨100, _⟩ => ⟨S8208x512, .f32⟩
  | .hbm, ⟨101, _⟩ => ⟨S_, .f32⟩
  | .hbm, ⟨102, _⟩ => ⟨S8208x512, .f32⟩
  | .hbm, ⟨103, _⟩ => ⟨S8208x512, .f32⟩
  | .hbm, ⟨104, _⟩ => ⟨S8208x512, .f32⟩
  | .hbm, ⟨105, _⟩ => ⟨S_, .f32⟩
  | .hbm, ⟨106, _⟩ => ⟨S8208x512, .f32⟩
  | .hbm, ⟨107, _⟩ => ⟨S8208x512, .f32⟩
  | .hbm, ⟨108, _⟩ => ⟨S8208x512, .f32⟩
  | .hbm, ⟨109, _⟩ => ⟨S_, .f32⟩
  | .hbm, ⟨110, _⟩ => ⟨S8208x512, .f32⟩
  | .hbm, ⟨111, _⟩ => ⟨S8208x512, .f32⟩
  | .hbm, ⟨112, _⟩ => ⟨S_, .f32⟩
  | .hbm, ⟨113, _⟩ => ⟨S8208x512, .f32⟩
  | .hbm, ⟨114, _⟩ => ⟨S8208x512, .f32⟩
  | .hbm, ⟨115, _⟩ => ⟨S8208x512, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_call0_v0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_3 : Ref sig .tc := ⟨.hbm, 77, rfl⟩
abbrev main_v57 : Ref sig .tc := ⟨.hbm, 78, rfl⟩
abbrev main_v58 : Ref sig .tc := ⟨.hbm, 79, rfl⟩
abbrev main_cst_4 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_5 : Ref sig .tc := ⟨.hbm, 91, rfl⟩
abbrev main_v69 : Ref sig .tc := ⟨.hbm, 92, rfl⟩
abbrev main_v70 : Ref sig .tc := ⟨.hbm, 93, rfl⟩
abbrev main_cst_6 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_7 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_8 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_9 : Ref sig .tc := ⟨.hbm, 109, rfl⟩
abbrev main_v83 : Ref sig .tc := ⟨.hbm, 110, rfl⟩
abbrev main_v84 : Ref sig .tc := ⟨.hbm, 111, rfl⟩
abbrev main_cst_10 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩

abbrev nD : Nat := 1
abbrev τ : Topo := Topo.v7x

variable {F : FTy → Type} [FloatOps F]
-- ==== Kernel8.lean ====
abbrev S8208x1024 : Shape := ⟨2, ![8208, 1024]⟩
abbrev S1024x1024 : Shape := ⟨2, ![1024, 1024]⟩
abbrev S432x1024 : Shape := ⟨2, ![432, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S1024x1024, .f32⟩
  | .hbm, ⟨3, _⟩ => ⟨S8208x1024, .bf16⟩
  | .hbm, ⟨4, _⟩ => ⟨S1024x1024, .bf16⟩
  | .hbm, ⟨5, _⟩ => ⟨S8208x1024, .f32⟩
  | .hbm, ⟨6, _⟩ => ⟨S1024x1024, .f32⟩
  | .local _ .vmem, ⟨0, _⟩ => ⟨S432x1024, .f32⟩
  | .local _ .vmem, ⟨1, _⟩ => ⟨S432x1024, .f32⟩
  | .local _ .vmem, ⟨2, _⟩ => ⟨S432x1024, .bf16⟩
  | .local _ .vmem, ⟨3, _⟩ => ⟨S432x1024, .bf16⟩
  | .local _ .vmem, ⟨4, _⟩ => ⟨S1024x1024, .bf16⟩
  | .local _ .vmem, ⟨5, _⟩ => ⟨S432x1024, .f32⟩
  | .local _ .vmem, ⟨6, _⟩ => ⟨S432x1024, .f32⟩
  | .local _ .vmem, ⟨7, _⟩ => ⟨S1024x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S432x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S432x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S432x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference8Ideal.lean ====
abbrev S8208x1024 : Shape := ⟨2, ![8208, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S1024x1024, .f32⟩
  | .hbm, ⟨3, _⟩ => ⟨S8208x1024, .f32⟩
  | .hbm, ⟨4, _⟩ => ⟨S1024x1024, .f32⟩
  | .hbm, ⟨5, _⟩ => ⟨S1024x1024, .f32⟩
  | .hbm, ⟨6, _⟩ => ⟨S8208x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S8208x1024 : Shape := ⟨2, ![8208, 1024]⟩
abbrev S1024 : Shape := ⟨1, ![1024]⟩
abbrev S1024x1536 : Shape := ⟨2, ![1024, 1536]⟩
abbrev S4x128x128 : Shape := ⟨3, ![4, 128, 128]⟩
abbrev S512 : Shape := ⟨1, ![512]⟩
abbrev S4x512 : Shape := ⟨2, ![4, 512]⟩
abbrev S8x64x64 : Shape := ⟨3, ![8, 64, 64]⟩
abbrev S1024x4x384 : Shape := ⟨3, ![1024, 4, 384]⟩
abbrev S4x1024x384 : Shape := ⟨3, ![4, 1024, 384]⟩
abbrev S1x512 : Shape := ⟨2, ![1, 512]⟩
abbrev S2x512 : Shape := ⟨2, ![2, 512]⟩
abbrev S_ : Shape := ⟨0, ![]⟩
abbrev S16x512 : Shape := ⟨2, ![16, 512]⟩
abbrev S1x1024 : Shape := ⟨2, ![1, 1024]⟩
abbrev S4x4 : Shape := ⟨2, ![4, 4]⟩
abbrev S1x4x1x4x1 : Shape := ⟨5, ![1, 4, 1, 4, 1]⟩
abbrev S2x4x64x1x64 : Shape := ⟨5, ![2, 4, 64, 1, 64]⟩
abbrev S2x4x64x4x64 : Shape := ⟨5, ![2, 4, 64, 4, 64]⟩
abbrev S2x256x256 : Shape := ⟨3, ![2, 256, 256]⟩
abbrev S8208x1536 : Shape := ⟨2, ![8208, 1536]⟩
abbrev S8208x512 : Shape := ⟨2, ![8208, 512]⟩
abbrev S8208x4608 : Shape := ⟨2, ![8208, 4608]⟩
abbrev S432x1024 : Shape := ⟨2, ![432, 1024]⟩
abbrev S432x1536 : Shape := ⟨2, ![432, 1536]⟩
abbrev S432x512 : Shape := ⟨2, ![432, 512]⟩
abbrev S432x4608 : Shape := ⟨2, ![432, 4608]⟩
abbrev S16x1536 : Shape := ⟨2, ![16, 1536]⟩
abbrev S8x512 : Shape := ⟨2, ![8, 512]⟩
abbrev S1x1024x384 : Shape := ⟨3, ![1, 1024, 384]⟩
abbrev S1024x384 : Shape := ⟨2, ![1024, 384]⟩
abbrev S432 : Shape := ⟨1, ![432]⟩
abbrev S432x1 : Shape := ⟨2, ![432, 1]⟩
abbrev S448x1536 : Shape := ⟨2, ![448, 1536]⟩
abbrev S448x128 : Shape := ⟨2, ![448, 128]⟩
abbrev S432x128 : Shape := ⟨2, ![432, 128]⟩
abbrev S1x128x128 : Shape := ⟨3, ![1, 128, 128]⟩
abbrev S128x128 : Shape := ⟨2, ![128, 128]⟩
abbrev S1x128 : Shape := ⟨2, ![1, 128]⟩
abbrev S448x512 : Shape := ⟨2, ![448, 512]⟩
abbrev S432x256 : Shape := ⟨2, ![432, 256]⟩
abbrev S1x256x256 : Shape := ⟨3, ![1, 256, 256]⟩
abbrev S256x256 : Shape := ⟨2, ![256, 256]⟩

abbrev nBuf : Space → Nat
  | .hbm => 62
  | .vmem => 19
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S1024x1536, .f32⟩
  | .hbm, ⟨3, _⟩ => ⟨S4x128x128, .f32⟩
  | .hbm, ⟨4, _⟩ => ⟨S512, .f32⟩
  | .hbm, ⟨5, _⟩ => ⟨S512, .f32⟩
  | .hbm, ⟨6, _⟩ => ⟨S4x512, .f32⟩
  | .hbm, ⟨7, _⟩ => ⟨S512, .f32⟩
  | .hbm, ⟨8, _⟩ => ⟨S8x64x64, .f32⟩
  | .hbm, ⟨9, _⟩ => ⟨S512, .f32⟩
  | .hbm, ⟨10, _⟩ => ⟨S8x64x64, .f32⟩
  | .hbm, ⟨11, _⟩ => ⟨S512, .f32⟩
  | .hbm, ⟨12, _⟩ => ⟨S512, .f32⟩
  | .hbm, ⟨13, _⟩ => ⟨S1024, .f32⟩
  | .hbm, ⟨14, _⟩ => ⟨S1024x1536, .bf16⟩
  | .hbm, ⟨15, _⟩ => ⟨S1024x4x384, .bf16⟩
  | .hbm, ⟨16, _⟩ => ⟨S4x1024x384, .bf16⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S2x512, .f32⟩
  | .hbm, ⟨24, _⟩ => ⟨S_, .f32⟩
  | .hbm, ⟨25, _⟩ => ⟨S4x512, .f32⟩
  | .hbm, ⟨26, _⟩ => ⟨S16x512, .f32⟩
  | .hbm, ⟨27, _⟩ => ⟨S1x1024, .f32⟩
  | .hbm, ⟨28, _⟩ => ⟨S4x128x128, .bf16⟩
  | .hbm, ⟨29, _⟩ => ⟨S4x4, .i32⟩
  | .hbm, ⟨30, _⟩ => ⟨S4x4, .i32⟩
  | .hbm, ⟨31, _⟩ => ⟨S_, .i32⟩
  | .hbm, ⟨32, _⟩ => ⟨S4x4, .i32⟩
  | .hbm, ⟨33, _⟩ => ⟨S4x4, .i32⟩
  | .hbm, ⟨34, _⟩ => ⟨S4x4, .i1⟩
  | .hbm, ⟨35, _⟩ => ⟨S4x4, .f32⟩
  | .hbm, ⟨36, _⟩ => ⟨S1x4x1x4x1, .f32⟩
  | .hbm, ⟨37, _⟩ => ⟨S2x4x64x1x64, .f32⟩
  | .hbm, ⟨38, _⟩ => ⟨S2x4x64x4x64, .f32⟩
  | .hbm, ⟨39, _⟩ => ⟨S2x4x64x4x64, .f32⟩
  | .hbm, ⟨40, _⟩ => ⟨S2x4x64x4x64, .f32⟩
  | .hbm, ⟨41, _⟩ => ⟨S2x256x256, .f32⟩
  | .hbm, ⟨42, _⟩ => ⟨S2x256x256, .bf16⟩
  | .hbm, ⟨43, _⟩ => ⟨S4x4, .i32⟩
  | .hbm, ⟨44, _⟩ => ⟨S4x4, .i32⟩
  | .hbm, ⟨45, _⟩ => ⟨S_, .i32⟩
  | .hbm, ⟨46, _⟩ => ⟨S4x4, .i32⟩
  | .hbm, ⟨47, _⟩ => ⟨S4x4, .i32⟩
  | .hbm, ⟨48, _⟩ => ⟨S4x4, .i1⟩
  | .hbm, ⟨49, _⟩ => ⟨S4x4, .f32⟩
  | .hbm, ⟨50, _⟩ => ⟨S1x4x1x4x1, .f32⟩
  | .hbm, ⟨51, _⟩ => ⟨S2x4x64x1x64, .f32⟩
  | .hbm, ⟨52, _⟩ => ⟨S2x4x64x4x64, .f32⟩
  | .hbm, ⟨53, _⟩ => ⟨S2x4x64x4x64, .f32⟩
  | .hbm, ⟨54, _⟩ => ⟨S2x4x64x4x64, .f32⟩
  | .hbm, ⟨55, _⟩ => ⟨S2x256x256, .f32⟩
  | .hbm, ⟨56, _⟩ => ⟨S2x256x256, .bf16⟩
  | .hbm, ⟨57, _⟩ => ⟨S8208x1536, .f32⟩
  | .hbm, ⟨58, _⟩ => ⟨S8208x1024, .bf16⟩
  | .hbm, ⟨59, _⟩ => ⟨S8208x512, .f32⟩
  | .hbm, ⟨60, _⟩ => ⟨S8208x4608, .f32⟩
  | .hbm, ⟨61, _⟩ => ⟨S8208x512, .bf16⟩
  | .local _ .vmem, ⟨0, _⟩ => ⟨S432x1024, .f32⟩
  | .local _ .vmem, ⟨1, _⟩ => ⟨S432x1024, .f32⟩
  | .local _ .vmem, ⟨2, _⟩ => ⟨S1x1024, .f32⟩
  | .local _ .vmem, ⟨3, _⟩ => ⟨S4x1024x384, .bf16⟩
  | .local _ .vmem, ⟨4, _⟩ => ⟨S16x512, .f32⟩
  | .local _ .vmem, ⟨5, _⟩ => ⟨S4x128x128, .bf16⟩
  | .local _ .vmem, ⟨6, _⟩ => ⟨S2x256x256, .bf16⟩
  | .local _ .vmem, ⟨7, _⟩ => ⟨S2x256x256, .bf16⟩
  | .local _ .vmem, ⟨8, _⟩ => ⟨S432x1536, .f32⟩
  | .local _ .vmem, ⟨9, _⟩ => ⟨S432x1536, .f32⟩
  | .local _ .vmem, ⟨10, _⟩ => ⟨S432x1024, .bf16⟩
  | .local _ .vmem, ⟨11, _⟩ => ⟨S432x1024, .bf16⟩
  | .local _ .vmem, ⟨12, _⟩ => ⟨S432x512, .f32⟩
  | .local _ .vmem, ⟨13, _⟩ => ⟨S432x512, .f32⟩
  | .local _ .vmem, ⟨14, _⟩ => ⟨S432x4608, .f32⟩
  | .local _ .vmem, ⟨15, _⟩ => ⟨S432x4608, .f32⟩
  | .local _ .vmem, ⟨16, _⟩ => ⟨S1024x1536, .bf16⟩
  | .local _ .vmem, ⟨17, _⟩ => ⟨S16x1536, .f32⟩
  | .local _ .vmem, ⟨18, _⟩ => ⟨S8x512, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40_0 : Ref sig .tc := ⟨.hbm, 57, rfl⟩
abbrev main_v40_1 : Ref sig .tc := ⟨.hbm, 58, rfl⟩
abbrev main_v40_2 : Ref sig .tc := ⟨.hbm, 59, rfl⟩
abbrev main_v40_3 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S432x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S432x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S432x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S432x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S432x4608 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference9Ideal.lean ====
abbrev S8208x1024 : Shape := ⟨2, ![8208, 1024]⟩
abbrev S1024 : Shape := ⟨1, ![1024]⟩
abbrev S1024x1536 : Shape := ⟨2, ![1024, 1536]⟩
abbrev S4x128x128 : Shape := ⟨3, ![4, 128, 128]⟩
abbrev S512 : Shape := ⟨1, ![512]⟩
abbrev S4x512 : Shape := ⟨2, ![4, 512]⟩
abbrev S8x64x64 : Shape := ⟨3, ![8, 64, 64]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8208x1536 : Shape := ⟨2, ![8208, 1536]⟩
abbrev S8208x512 : Shape := ⟨2, ![8208, 512]⟩
abbrev S1x512 : Shape := ⟨2, ![1, 512]⟩
abbrev S8209x512 : Shape := ⟨2, ![8209, 512]⟩
abbrev S1x128 : Shape := ⟨2, ![1, 128]⟩
abbrev S8207x128 : Shape := ⟨2, ![8207, 128]⟩
abbrev S8208x128 : Shape := ⟨2, ![8208, 128]⟩
abbrev S3x128 : Shape := ⟨2, ![3, 128]⟩
abbrev S8205x128 : Shape := ⟨2, ![8205, 128]⟩
abbrev S7x128 : Shape := ⟨2, ![7, 128]⟩
abbrev S8201x128 : Shape := ⟨2, ![8201, 128]⟩
abbrev S15x128 : Shape := ⟨2, ![15, 128]⟩
abbrev S8193x128 : Shape := ⟨2, ![8193, 128]⟩
abbrev S8208x4x128 : Shape := ⟨3, ![8208, 4, 128]⟩
abbrev S4x128x8208 : Shape := ⟨3, ![4, 128, 8208]⟩

abbrev nBuf : Space → Nat
  | .hbm => 127
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S1024x1536, .f32⟩
  | .hbm, ⟨3, _⟩ => ⟨S4x128x128, .f32⟩
  | .hbm, ⟨4, _⟩ => ⟨S512, .f32⟩
  | .hbm, ⟨5, _⟩ => ⟨S512, .f32⟩
  | .hbm, ⟨6, _⟩ => ⟨S4x512, .f32⟩
  | .hbm, ⟨7, _⟩ => ⟨S512, .f32⟩
  | .hbm, ⟨8, _⟩ => ⟨S8x64x64, .f32⟩
  | .hbm, ⟨9, _⟩ => ⟨S512, .f32⟩
  | .hbm, ⟨10, _⟩ => ⟨S8x64x64, .f32⟩
  | .hbm, ⟨11, _⟩ => ⟨S512, .f32⟩
  | .hbm, ⟨12, _⟩ => ⟨S512, .f32⟩
  | .hbm, ⟨13, _⟩ => ⟨S1024, .f32⟩
  | .hbm, ⟨14, _⟩ => ⟨S8208x1024, .f32⟩
  | .hbm, ⟨15, _⟩ => ⟨S_, .f32⟩
  | .hbm, ⟨16, _⟩ => ⟨S8208, .f32⟩
  | .hbm, ⟨17, _⟩ => ⟨S8208x1, .f32⟩
  | .hbm, ⟨18, _⟩ => ⟨S_, .f32⟩
  | .hbm, ⟨19, _⟩ => ⟨S8208x1, .f32⟩
  | .hbm, ⟨20, _⟩ => ⟨S8208x1, .f32⟩
  | .hbm, ⟨21, _⟩ => ⟨S_, .f32⟩
  | .hbm, ⟨22, _⟩ => ⟨S8208x1, .f32⟩
  | .hbm, ⟨23, _⟩ => ⟨S8208x1, .f32⟩
  | .hbm, ⟨24, _⟩ => ⟨S8208x1, .f32⟩
  | .hbm, ⟨25, _⟩ => ⟨S8208x1024, .f32⟩
  | .hbm, ⟨26, _⟩ => ⟨S8208x1024, .f32⟩
  | .hbm, ⟨27, _⟩ => ⟨S1x1024, .f32⟩
  | .hbm, ⟨28, _⟩ => ⟨S8208x1024, .f32⟩
  | .hbm, ⟨29, _⟩ => ⟨S8208x1024, .f32⟩
  | .hbm, ⟨30, _⟩ => ⟨S8208x1536, .f32⟩
  | .hbm, ⟨31, _⟩ => ⟨S8208x512, .f32⟩
  | .hbm, ⟨32, _⟩ => ⟨S512, .f32⟩
  | .hbm, ⟨33, _⟩ => ⟨S_, .f32⟩
  | .hbm, ⟨34, _⟩ => ⟨S1x512, .f32⟩
  | .hbm, ⟨35, _⟩ => ⟨S_, .f32⟩
  | .hbm, ⟨36, _⟩ => ⟨S_, .f32⟩
  | .hbm, ⟨37, _⟩ => ⟨S8208x512, .f32⟩
  | .hbm, ⟨38, _⟩ => ⟨S8209x512, .f32⟩
  | .hbm, ⟨39, _⟩ => ⟨S8208x512, .f32⟩
  | .hbm, ⟨40, _⟩ => ⟨S8208, .f32⟩
  | .hbm, ⟨41, _⟩ => ⟨S8208x1, .f32⟩
  | .hbm, ⟨42, _⟩ => ⟨S_, .f32⟩
  | .hbm, ⟨43, _⟩ => ⟨S1x128, .f32⟩
  | .hbm, ⟨44, _⟩ => ⟨S8207x128, .f32⟩
  | .hbm, ⟨45, _⟩ => ⟨S8208x128, .f32⟩
  | .hbm, ⟨46, _⟩ => ⟨S_, .f32⟩
  | .hbm, ⟨47, _⟩ => ⟨S8208x1, .f32⟩
  | .hbm, ⟨48, _⟩ => ⟨S8208x1, .f32⟩
  | .hbm, ⟨49, _⟩ => ⟨S_, .f32⟩
  | .hbm, ⟨50, _⟩ => ⟨S8208x1, .f32⟩
  | .hbm, ⟨51, _⟩ => ⟨S8208x1, .f32⟩
  | .hbm, ⟨52, _⟩ => ⟨S8208x128, .f32⟩
  | .hbm, ⟨53, _⟩ => ⟨S8208x128, .f32⟩
  | .hbm, ⟨54, _⟩ => ⟨S8208x128, .f32⟩
  | .hbm, ⟨55, _⟩ => ⟨S8208x128, .f32⟩
  | .hbm, ⟨56, _⟩ => ⟨S_, .f32⟩
  | .hbm, ⟨57, _⟩ => ⟨S3x128, .f32⟩
  | .hbm, ⟨58, _⟩ => ⟨S8205x128, .f32⟩
  | .hbm, ⟨59, _⟩ => ⟨S8208x128, .f32⟩
  | .hbm, ⟨60, _⟩ => ⟨S_, .f32⟩
  | .hbm, ⟨61, _⟩ => ⟨S8208x1, .f32⟩
  | .hbm, ⟨62, _⟩ => ⟨S8208x1, .f32⟩
  | .hbm, ⟨63, _⟩ => ⟨S_, .f32⟩
  | .hbm, ⟨64, _⟩ => ⟨S8208x1, .f32⟩
  | .hbm, ⟨65, _⟩ => ⟨S8208x1, .f32⟩
  | .hbm, ⟨66, _⟩ => ⟨S8208x128, .f32⟩
  | .hbm, ⟨67, _⟩ => ⟨S8208x128, .f32⟩
  | .hbm, ⟨68, _⟩ => ⟨S8208x128, .f32⟩
  | .hbm, ⟨69, _⟩ => ⟨S8208x128, .f32⟩
  | .hbm, ⟨70, _⟩ => ⟨S_, .f32⟩
  | .hbm, ⟨71, _⟩ => ⟨S7x128, .f32⟩
  | .hbm, ⟨72, _⟩ => ⟨S8201x128, .f32⟩
  | .hbm, ⟨73, _⟩ => ⟨S8208x128, .f32⟩
  | .hbm, ⟨74, _⟩ => ⟨S_, .f32⟩
  | .hbm, ⟨75, _⟩ => ⟨S8208x1, .f32⟩
  | .hbm, ⟨76, _⟩ => ⟨S8208x1, .f32⟩
  | .hbm, ⟨77, _⟩ => ⟨S_, .f32⟩
  | .hbm, ⟨78, _⟩ => ⟨S8208x1, .f32⟩
  | .hbm, ⟨79, _⟩ => ⟨S8208x1, .f32⟩
  | .hbm, ⟨80, _⟩ => ⟨S8208x128, .f32⟩
  | .hbm, ⟨81, _⟩ => ⟨S8208x128, .f32⟩
  | .hbm, ⟨82, _⟩ => ⟨S8208x128, .f32⟩
  | .hbm, ⟨83, _⟩ => ⟨S8208x128, .f32⟩
  | .hbm, ⟨84, _⟩ => ⟨S_, .f32⟩
  | .hbm, ⟨85, _⟩ => ⟨S15x128, .f32⟩
  | .hbm, ⟨86, _⟩ => ⟨S8193x128, .f32⟩
  | .hbm, ⟨87, _⟩ => ⟨S8208x128, .f32⟩
  | .hbm, ⟨88, _⟩ => ⟨S_, .f32⟩
  | .hbm, ⟨89, _⟩ => ⟨S8208x1, .f32⟩
  | .hbm, ⟨90, _⟩ => ⟨S8208x1, .f32⟩
  | .hbm, ⟨91, _⟩ => ⟨S_, .f32⟩
  | .hbm, ⟨92, _⟩ => ⟨S8208x1, .f32⟩
  | .hbm, ⟨93, _⟩ => ⟨S8208x1, .f32⟩
  | .hbm, ⟨94, _⟩ => ⟨S8208x128, .f32⟩
  | .hbm, ⟨95, _⟩ => ⟨S8208x128, .f32⟩
  | .hbm, ⟨96, _⟩ => ⟨S8208x128, .f32⟩
  | .hbm, ⟨97, _⟩ => ⟨S8208x128, .f32⟩
  | .hbm, ⟨98, _⟩ => ⟨S8208x512, .f32⟩
  | .hbm, ⟨99, _⟩ => ⟨S8208x512, .f32⟩
  | .hbm, ⟨100, _⟩ => ⟨S8208x4x128, .f32⟩
  | .hbm, ⟨101, _⟩ => ⟨S4x128x8208, .f32⟩
  | .hbm, ⟨102, _⟩ => ⟨S8208x4x128, .f32⟩
  | .hbm, ⟨103, _⟩ => ⟨S8208x512, .f32⟩
  | .hbm, ⟨104, _⟩ => ⟨S1x512, .f32⟩
  | .hbm, ⟨105, _⟩ => ⟨S8208x512, .f32⟩
  | .hbm, ⟨106, _⟩ => ⟨S8208x512, .f32⟩
  | .hbm, ⟨107, _⟩ => ⟨S1x512, .f32⟩
  | .hbm, ⟨108, _⟩ => ⟨S8208x512, .f32⟩
  | .hbm, ⟨109, _⟩ => ⟨S8208x512, .f32⟩
  | .hbm, ⟨110, _⟩ => ⟨S8208x512, .f32⟩
  | .hbm, ⟨111, _⟩ => ⟨S_, .f32⟩
  | .hbm, ⟨112, _⟩ => ⟨S8208, .f32⟩
  | .hbm, ⟨113, _⟩ => ⟨S8208x1, .f32⟩
  | .hbm, ⟨114, _⟩ => ⟨S_, .f32⟩
  | .hbm, ⟨115, _⟩ => ⟨S8208x1, .f32⟩
  | .hbm, ⟨116, _⟩ => ⟨S8208x1, .f32⟩
  | .hbm, ⟨117, _⟩ => ⟨S_, .f32⟩
  | .hbm, ⟨118, _⟩ => ⟨S8208x1, .f32⟩
  | .hbm, ⟨119, _⟩ => ⟨S8208x1, .f32⟩
  | .hbm, ⟨120, _⟩ => ⟨S8208x1, .f32⟩
  | .hbm, ⟨121, _⟩ => ⟨S8208x512, .f32⟩
  | .hbm, ⟨122, _⟩ => ⟨S8208x512, .f32⟩
  | .hbm, ⟨123, _⟩ => ⟨S1x512, .f32⟩
  | .hbm, ⟨124, _⟩ => ⟨S8208x512, .f32⟩
  | .hbm, ⟨125, _⟩ => ⟨S8208x512, .f32⟩
  | .hbm, ⟨126, _⟩ => ⟨S8208x512, .bf16⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_call0_call0_cst : Ref sig .tc := ⟨.hbm, 35, rfl⟩
abbrev main_call0_call0_v0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_cst_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_6 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_v37 : Ref sig .tc := ⟨.hbm, 62, rfl⟩
abbrev main_cst_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_10 : Ref sig .tc := ⟨.hbm, 74, rfl⟩
abbrev main_v47 : Ref sig .tc := ⟨.hbm, 75, rfl⟩
abbrev main_v48 : Ref sig .tc := ⟨.hbm, 76, rfl⟩
abbrev main_cst_11 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_12 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_13 : Ref sig .tc := ⟨.hbm, 88, rfl⟩
abbrev main_v58 : Ref sig .tc := ⟨.hbm, 89, rfl⟩
abbrev main_v59 : Ref sig .tc := ⟨.hbm, 90, rfl⟩
abbrev main_cst_14 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_15 : Ref sig .tc := ⟨.hbm, 111, rfl⟩
abbrev main_v79 : Ref sig .tc := ⟨.hbm, 112, rfl⟩
abbrev main_v80 : Ref sig .tc := ⟨.hbm, 113, rfl⟩
abbrev main_cst_16 : Ref sig .tc := ⟨.hbm, 114, rfl⟩
abbrev main_v81 : Ref sig .tc := ⟨.hbm, 115, rfl⟩
abbrev main_v82 : Ref sig .tc := ⟨.hbm, 116, rfl⟩
abbrev main_cst_17 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩

abbrev nD : Nat := 1
abbrev τ : Topo := Topo.v7x

variable {F : FTy → Type} [FloatOps F]
-- ==== Proof.MixRun.lean ====
/-
  The run of the mixer's backward call at any float model, by hand: what its five results and its three carried
  buffers hold after each of the nineteen grid points is a recursion over the points (`state`), each step one run
  of the body on the blocks of that point and on what the point before left; from it the proof data, the body's
  obligation, the run with the five results named, and the frame.
-/
module

public import proofs.«01_k».proof.Proof.Gen.Kernel5Ideal.Frame.RunC
public import Idealize.ShloMosaic.Lib.Claim

@[expose] public section

set_option maxRecDepth 16384

noncomputable section

namespace Cert.Kernel5Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point leaves: the five result blocks, then the three carried buffers. -/
abbrev St (F : FTy → Type) : Type :=
  Vec F S432x1536 .bf16 × Vec F S16x512 .f32 × Vec F S4x128x128 .f32 × Vec F S2x256x256 .f32 × Vec F S2x256x256 .f32
    × Vec F S8x512 .f32 × Vec F S16x512 .f32 × Vec F S16x512 .f32

/-- Stores that cover a buffer leave it at what they spell, whatever it held and wherever it lies. -/
theorem owns_of_stores {S : Shape} {e} (c : Dev nD) (M : Memref sig .tc .vmem S e)
    (v : View sig .tc .vmem S e) (L : List (View.Piece (Elt F) S e)) (h : ∀ y, ∃ pc ∈ L, y ∈ pc.1.set) :
    (iprop(∃ f, M.view.loc (c : Thread nD τ) ↦[M.view.set]{fullShare} M.view.writes (Elt F) f L) : sProp 𝕄)
      ⊢ owns (c : Thread nD τ) M fullShare (v.read (Elt F) (v.writes (Elt F) v.junk L)) := by
  iintro ⟨%f, H⟩
  unfold owns; iexists _; isplitr
  swap; · iexact H
  ipureintro; exact View.read_writes_of_cover _ _ _ _ _ h

/-- The body's run at the first point. -/
def runA (c : Dev nD) (t : Fin cfg0.N) (h0 : cond0_0 (grid0.coords t)) (h1 : ¬cond0_1 (grid0.coords t)) :=
  kernelRun0_A (F := F) c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) h0 h1
    (iblk m c 0 t) (iblk m c 1 t) (iblk m c 2 t) (iblk m c 3 t) (iblk m c 4 t) (iblk m c 5 t) (iblk m c 6 t) (iblk m c 7 t) (iblk m c 8 t) (iblk m c 9 t)

/-- What the first point leaves. -/
def stA (c : Dev nD) (t : Fin cfg0.N) (h0 : cond0_0 (grid0.coords t)) (h1 : ¬cond0_1 (grid0.coords t)) : St F :=
  (VO0_10.read (Elt F) (VO0_10.writes (Elt F) VO0_10.junk (runA m c t h0 h1).1),
   VO0_11.read (Elt F) (VO0_11.writes (Elt F) VO0_11.junk (runA m c t h0 h1).2.1),
   VO0_12.read (Elt F) (VO0_12.writes (Elt F) VO0_12.junk (runA m c t h0 h1).2.2.1),
   VO0_13.read (Elt F) (VO0_13.writes (Elt F) VO0_13.junk (runA m c t h0 h1).2.2.2.1),
   VO0_14.read (Elt F) (VO0_14.writes (Elt F) VO0_14.junk (runA m c t h0 h1).2.2.2.2.1),
   VS0_0.read (Elt F) (VS0_0.writes (Elt F) VS0_0.junk (runA m c t h0 h1).2.2.2.2.2.1),
   VS0_1.read (Elt F) (VS0_1.writes (Elt F) VS0_1.junk (runA m c t h0 h1).2.2.2.2.2.2.1),
   VS0_2.read (Elt F) (VS0_2.writes (Elt F) VS0_2.junk (runA m c t h0 h1).2.2.2.2.2.2.2.1))

theorem covA0 (c : Dev nD) (t : Fin cfg0.N) (h0 : cond0_0 (grid0.coords t)) (h1 : ¬cond0_1 (grid0.coords t)) :
    ∀ y, ∃ pc ∈ (runA m c t h0 h1).1, y ∈ pc.1.set :=
  View.cover_of_tiledBy _ ![432, 128] (by sl_kernel_rfl)

theorem covA1 (c : Dev nD) (t : Fin cfg0.N) (h0 : cond0_0 (grid0.coords t)) (h1 : ¬cond0_1 (grid0.coords t)) :
    ∀ y, ∃ pc ∈ (runA m c t h0 h1).2.1, y ∈ pc.1.set :=
  View.cover_of_tiledBy _ ![1, 128] (by sl_kernel_rfl)

theorem covA2 (c : Dev nD) (t : Fin cfg0.N) (h0 : cond0_0 (grid0.coords t)) (h1 : ¬cond0_1 (grid0.coords t)) :
    ∀ y, ∃ pc ∈ (runA m c t h0 h1).2.2.1, y ∈ pc.1.set :=
  View.cover_of_tiledBy _ ![1, 128, 128] (by sl_kernel_rfl)

theorem covA3 (c : Dev nD) (t : Fin cfg0.N) (h0 : cond0_0 (grid0.coords t)) (h1 : ¬cond0_1 (grid0.coords t)) :
    ∀ y, ∃ pc ∈ (runA m c t h0 h1).2.2.2.1, y ∈ pc.1.set :=
  View.cover_of_tiledBy _ ![1, 256, 256] (by sl_kernel_rfl)

theorem covA4 (c : Dev nD) (t : Fin cfg0.N) (h0 : cond0_0 (grid0.coords t)) (h1 : ¬cond0_1 (grid0.coords t)) :
    ∀ y, ∃ pc ∈ (runA m c t h0 h1).2.2.2.2.1, y ∈ pc.1.set :=
  View.cover_of_tiledBy _ ![1, 256, 256] (by sl_kernel_rfl)

theorem covA5 (c : Dev nD) (t : Fin cfg0.N) (h0 : cond0_0 (grid0.coords t)) (h1 : ¬cond0_1 (grid0.coords t)) :
    ∀ y, ∃ pc ∈ (runA m c t h0 h1).2.2.2.2.2.1, y ∈ pc.1.set :=
  View.cover_of_wholeMem _ (by sl_whole_mem)

theorem covA6 (c : Dev nD) (t : Fin cfg0.N) (h0 : cond0_0 (grid0.coords t)) (h1 : ¬cond0_1 (grid0.coords t)) :
    ∀ y, ∃ pc ∈ (runA m c t h0 h1).2.2.2.2.2.2.1, y ∈ pc.1.set :=
  View.cover_of_wholeMem _ (by sl_whole_mem)

theorem covA7 (c : Dev nD) (t : Fin cfg0.N) (h0 : cond0_0 (grid0.coords t)) (h1 : ¬cond0_1 (grid0.coords t)) :
    ∀ y, ∃ pc ∈ (runA m c t h0 h1).2.2.2.2.2.2.2.1, y ∈ pc.1.set :=
  View.cover_of_tiledL _ S16x512.size (by sl_kernel_rfl)

/-- The body's run at a point between. -/
def runB (c : Dev nD) (t : Fin cfg0.N) (h0 : ¬cond0_0 (grid0.coords t)) (h1 : ¬cond0_1 (grid0.coords t)) (p : St F) :=
  kernelRun0_B (F := F) c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) h0 h1
    (iblk m c 0 t) (iblk m c 1 t) (iblk m c 2 t) (iblk m c 3 t) (iblk m c 4 t) (iblk m c 5 t) (iblk m c 6 t) (iblk m c 7 t) (iblk m c 8 t) (iblk m c 9 t) p.2.1 p.2.2.1 p.2.2.2.1 p.2.2.2.2.1 p.2.2.2.2.2.1 p.2.2.2.2.2.2.1 p.2.2.2.2.2.2.2

/-- What a point between leaves. -/
def stB (c : Dev nD) (t : Fin cfg0.N) (h0 : ¬cond0_0 (grid0.coords t)) (h1 : ¬cond0_1 (grid0.coords t)) (p : St F) : St F :=
  (VO0_10.read (Elt F) (VO0_10.writes (Elt F) VO0_10.junk (runB m c t h0 h1 p).1),
   VO0_11.read (Elt F) (VO0_11.writes (Elt F) VO0_11.junk (runB m c t h0 h1 p).2.1),
   VO0_12.read (Elt F) (VO0_12.writes (Elt F) VO0_12.junk (runB m c t h0 h1 p).2.2.1),
   VO0_13.read (Elt F) (VO0_13.writes (Elt F) VO0_13.junk (runB m c t h0 h1 p).2.2.2.1),
   VO0_14.read (Elt F) (VO0_14.writes (Elt F) VO0_14.junk (runB m c t h0 h1 p).2.2.2.2.1),
   VS0_0.read (Elt F) (VS0_0.writes (Elt F) ((Memref.isWhole_whole _ : scM0_0.IsWhole).unread p.2.2.2.2.2.1) (runB m c t h0 h1 p).2.2.2.2.2.1),
   VS0_1.read (Elt F) (VS0_1.writes (Elt F) VS0_1.junk (runB m c t h0 h1 p).2.2.2.2.2.2.1),
   VS0_2.read (Elt F) (VS0_2.writes (Elt F) VS0_2.junk (runB m c t h0 h1 p).2.2.2.2.2.2.2.1))

theorem covB0 (c : Dev nD) (t : Fin cfg0.N) (h0 : ¬cond0_0 (grid0.coords t)) (h1 : ¬cond0_1 (grid0.coords t)) (p : St F) :
    ∀ y, ∃ pc ∈ (runB m c t h0 h1 p).1, y ∈ pc.1.set :=
  View.cover_of_tiledBy _ ![432, 128] (by sl_kernel_rfl)

theorem covB1 (c : Dev nD) (t : Fin cfg0.N) (h0 : ¬cond0_0 (grid0.coords t)) (h1 : ¬cond0_1 (grid0.coords t)) (p : St F) :
    ∀ y, ∃ pc ∈ (runB m c t h0 h1 p).2.1, y ∈ pc.1.set :=
  View.cover_of_tiledBy _ ![1, 128] (by sl_kernel_rfl)

theorem covB2 (c : Dev nD) (t : Fin cfg0.N) (h0 : ¬cond0_0 (grid0.coords t)) (h1 : ¬cond0_1 (grid0.coords t)) (p : St F) :
    ∀ y, ∃ pc ∈ (runB m c t h0 h1 p).2.2.1, y ∈ pc.1.set :=
  View.cover_of_tiledL _ S1x128x128.size (by sl_kernel_rfl)

theorem covB3 (c : Dev nD) (t : Fin cfg0.N) (h0 : ¬cond0_0 (grid0.coords t)) (h1 : ¬cond0_1 (grid0.coords t)) (p : St F) :
    ∀ y, ∃ pc ∈ (runB m c t h0 h1 p).2.2.2.1, y ∈ pc.1.set :=
  View.cover_of_tiledL _ S1x256x256.size (by sl_kernel_rfl)

theorem covB4 (c : Dev nD) (t : Fin cfg0.N) (h0 : ¬cond0_0 (grid0.coords t)) (h1 : ¬cond0_1 (grid0.coords t)) (p : St F) :
    ∀ y, ∃ pc ∈ (runB m c t h0 h1 p).2.2.2.2.1, y ∈ pc.1.set :=
  View.cover_of_tiledL _ S1x256x256.size (by sl_kernel_rfl)

theorem covB6 (c : Dev nD) (t : Fin cfg0.N) (h0 : ¬cond0_0 (grid0.coords t)) (h1 : ¬cond0_1 (grid0.coords t)) (p : St F) :
    ∀ y, ∃ pc ∈ (runB m c t h0 h1 p).2.2.2.2.2.2.1, y ∈ pc.1.set :=
  View.cover_of_tiledL _ S16x128.size (by sl_kernel_rfl)

theorem covB7 (c : Dev nD) (t : Fin cfg0.N) (h0 : ¬cond0_0 (grid0.coords t)) (h1 : ¬cond0_1 (grid0.coords t)) (p : St F) :
    ∀ y, ∃ pc ∈ (runB m c t h0 h1 p).2.2.2.2.2.2.2.1, y ∈ pc.1.set :=
  View.cover_of_tiledL _ S16x512.size (by sl_kernel_rfl)

/-- The body's run at the last point. -/
def runC (c : Dev nD) (t : Fin cfg0.N) (h0 : ¬cond0_0 (grid0.coords t)) (h1 : cond0_1 (grid0.coords t)) (p : St F) :=
  kernelRun0_C (F := F) c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) h0 h1
    (iblk m c 0 t) (iblk m c 1 t) (iblk m c 2 t) (iblk m c 3 t) (iblk m c 4 t) (iblk m c 5 t) (iblk m c 6 t) (iblk m c 7 t) (iblk m c 8 t) (iblk m c 9 t) p.2.1 p.2.2.1 p.2.2.2.1 p.2.2.2.2.1 p.2.2.2.2.2.1 p.2.2.2.2.2.2.1 p.2.2.2.2.2.2.2

/-- What the last point leaves. -/
def stC (c : Dev nD) (t : Fin cfg0.N) (h0 : ¬cond0_0 (grid0.coords t)) (h1 : cond0_1 (grid0.coords t)) (p : St F) : St F :=
  (VO0_10.read (Elt F) (VO0_10.writes (Elt F) VO0_10.junk (runC m c t h0 h1 p).1),
   VO0_11.read (Elt F) (VO0_11.writes (Elt F) VO0_11.junk (runC m c t h0 h1 p).2.1),
   VO0_12.read (Elt F) (VO0_12.writes (Elt F) VO0_12.junk (runC m c t h0 h1 p).2.2.1),
   VO0_13.read (Elt F) (VO0_13.writes (Elt F) VO0_13.junk (runC m c t h0 h1 p).2.2.2.1),
   VO0_14.read (Elt F) (VO0_14.writes (Elt F) VO0_14.junk (runC m c t h0 h1 p).2.2.2.2.1),
   VS0_0.read (Elt F) (VS0_0.writes (Elt F) ((Memref.isWhole_whole _ : scM0_0.IsWhole).unread p.2.2.2.2.2.1) (runC m c t h0 h1 p).2.2.2.2.2.1),
   VS0_1.read (Elt F) (VS0_1.writes (Elt F) VS0_1.junk (runC m c t h0 h1 p).2.2.2.2.2.2.1),
   VS0_2.read (Elt F) (VS0_2.writes (Elt F) VS0_2.junk (runC m c t h0 h1 p).2.2.2.2.2.2.2.1))

theorem covC0 (c : Dev nD) (t : Fin cfg0.N) (h0 : ¬cond0_0 (grid0.coords t)) (h1 : cond0_1 (grid0.coords t)) (p : St F) :
    ∀ y, ∃ pc ∈ (runC m c t h0 h1 p).1, y ∈ pc.1.set :=
  View.cover_of_tiledBy _ ![432, 128] (by sl_kernel_rfl)

theorem covC1 (c : Dev nD) (t : Fin cfg0.N) (h0 : ¬cond0_0 (grid0.coords t)) (h1 : cond0_1 (grid0.coords t)) (p : St F) :
    ∀ y, ∃ pc ∈ (runC m c t h0 h1 p).2.1, y ∈ pc.1.set :=
  View.cover_of_tiledBy _ ![1, 128] (by sl_kernel_rfl)

theorem covC2 (c : Dev nD) (t : Fin cfg0.N) (h0 : ¬cond0_0 (grid0.coords t)) (h1 : cond0_1 (grid0.coords t)) (p : St F) :
    ∀ y, ∃ pc ∈ (runC m c t h0 h1 p).2.2.1, y ∈ pc.1.set :=
  View.cover_of_tiledL _ S1x128x128.size (by sl_kernel_rfl)

theorem covC3 (c : Dev nD) (t : Fin cfg0.N) (h0 : ¬cond0_0 (grid0.coords t)) (h1 : cond0_1 (grid0.coords t)) (p : St F) :
    ∀ y, ∃ pc ∈ (runC m c t h0 h1 p).2.2.2.1, y ∈ pc.1.set :=
  View.cover_of_tiledL _ S1x256x256.size (by sl_kernel_rfl)

theorem covC4 (c : Dev nD) (t : Fin cfg0.N) (h0 : ¬cond0_0 (grid0.coords t)) (h1 : cond0_1 (grid0.coords t)) (p : St F) :
    ∀ y, ∃ pc ∈ (runC m c t h0 h1 p).2.2.2.2.1, y ∈ pc.1.set :=
  View.cover_of_tiledL _ S1x256x256.size (by sl_kernel_rfl)

theorem covC6 (c : Dev nD) (t : Fin cfg0.N) (h0 : ¬cond0_0 (grid0.coords t)) (h1 : cond0_1 (grid0.coords t)) (p : St F) :
    ∀ y, ∃ pc ∈ (runC m c t h0 h1 p).2.2.2.2.2.2.1, y ∈ pc.1.set :=
  View.cover_of_tiledL _ S16x128.size (by sl_kernel_rfl)

theorem covC7 (c : Dev nD) (t : Fin cfg0.N) (h0 : ¬cond0_0 (grid0.coords t)) (h1 : cond0_1 (grid0.coords t)) (p : St F) :
    ∀ y, ∃ pc ∈ (runC m c t h0 h1 p).2.2.2.2.2.2.2.1, y ∈ pc.1.set :=
  View.cover_of_tiledL _ S16x512.size (by sl_kernel_rfl)

theorem not_first (n : ℕ) (hn : n + 1 < cfg0.N) : ¬cond0_0 (grid0.coords ⟨n + 1, hn⟩) := fun h => by
  have h' := (hcond0_0 _).mp h
  have : n + 1 < 19 := lt_of_lt_of_eq hn N_0
  dsimp only at h'; omega

theorem first_not_last (hn : 0 < cfg0.N) : ¬cond0_1 (grid0.coords ⟨0, hn⟩) := fun h => by
  have h' := (hcond0_1 _).mp h
  dsimp only at h'; omega

open Classical in
/-- What the results and the carried buffers hold after each point. -/
def state (c : Dev nD) : (n : ℕ) → n < cfg0.N → St F
  | 0, hn => stA m c ⟨0, hn⟩ ((hcond0_0 _).mpr rfl) (first_not_last hn)
  | n + 1, hn =>
    if h1 : cond0_1 (grid0.coords ⟨n + 1, hn⟩) then
      stC m c ⟨n + 1, hn⟩ (not_first n hn) h1 (state c n (Nat.lt_of_succ_lt hn))
    else stB m c ⟨n + 1, hn⟩ (not_first n hn) h1 (state c n (Nat.lt_of_succ_lt hn))

theorem state_A (c : Dev nD) (t : Fin cfg0.N) (hz : t.val = 0) (h0 : cond0_0 (grid0.coords t))
    (h1 : ¬cond0_1 (grid0.coords t)) : state m c t.val t.isLt = stA m c t h0 h1 := by
  obtain ⟨n, hn⟩ := t; dsimp only at hz; subst hz; rw [state]

theorem state_B (c : Dev nD) (t : Fin cfg0.N) (hz : t.val ≠ 0) (h0 : ¬cond0_0 (grid0.coords t))
    (h1 : ¬cond0_1 (grid0.coords t)) :
    state m c t.val t.isLt = stB m c t h0 h1 (state m c (t.val - 1) (lt_of_le_of_lt (Nat.sub_le _ _) t.isLt)) := by
  obtain ⟨n, hn⟩ := t
  cases n with
  | zero => exact absurd rfl hz
  | succ n => rw [state, dif_neg h1]; rfl

theorem state_C (c : Dev nD) (t : Fin cfg0.N) (hz : t.val ≠ 0) (h0 : ¬cond0_0 (grid0.coords t))
    (h1 : cond0_1 (grid0.coords t)) :
    state m c t.val t.isLt = stC m c t h0 h1 (state m c (t.val - 1) (lt_of_le_of_lt (Nat.sub_le _ _) t.isLt)) := by
  obtain ⟨n, hn⟩ := t
  cases n with
  | zero => exact absurd rfl hz
  | succ n => rw [state, dif_pos h1]; rfl

/-- The three carried buffers at a state, and the generator register. -/
def carried (c : Dev nD) (p : St F) : sProp 𝕄 :=
  iprop(iprop(owns (c : Thread nD τ) scM0_0 fullShare p.2.2.2.2.2.1 ∗ owns (c : Thread nD τ) scM0_1 fullShare p.2.2.2.2.2.2.1
    ∗ owns (c : Thread nD τ) scM0_2 fullShare p.2.2.2.2.2.2.2) ∗ (∃ r, prngReg c r))

/-- What the run holds between points. -/
def Held (c : Dev nD) : (n : ℕ) → n ≤ cfg0.N → sProp 𝕄
  | 0, _ => Pipeline.ΦA spec0 c
  | n + 1, hn => carried c (state m c n hn)

theorem Held_zero (c : Dev nD) (n : ℕ) (h : n ≤ cfg0.N) (hz : n = 0) : Held m c n h = Pipeline.ΦA spec0 c := by
  subst hz; rfl

theorem Held_pos (c : Dev nD) (n : ℕ) (h : n ≤ cfg0.N) (hz : n ≠ 0) :
    Held m c n h = carried c (state m c (n - 1) (by omega)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (state m c t.val t.isLt).1
    | ⟨11, _⟩ => (state m c t.val t.isLt).2.1
    | ⟨12, _⟩ => (state m c t.val t.isLt).2.2.1
    | ⟨13, _⟩ => (state m c t.val t.isLt).2.2.2.1
    | ⟨14, _⟩ => (state m c t.val t.isLt).2.2.2.2.1
  Φ t := Held m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Held_castSucc (c : Dev nD) (t : Fin cfg0.N) :
    (dats m 0 c).Φ t.castSucc = Held m c t.val (Nat.le_of_lt t.isLt) := by
  dsimp only [dats]; exact Pipeline.Dat.Φ_castSucc (Held m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = (state m c t.val t.isLt).1 := by dsimp only [dats]
theorem after11 (c : Dev nD) (t : Fin cfg0.N) : (dats m 0 c).after 11 t = (state m c t.val t.isLt).2.1 := by dsimp only [dats]
theorem after12 (c : Dev nD) (t : Fin cfg0.N) : (dats m 0 c).after 12 t = (state m c t.val t.isLt).2.2.1 := by dsimp only [dats]
theorem after13 (c : Dev nD) (t : Fin cfg0.N) : (dats m 0 c).after 13 t = (state m c t.val t.isLt).2.2.2.1 := by dsimp only [dats]
theorem after14 (c : Dev nD) (t : Fin cfg0.N) : (dats m 0 c).after 14 t = (state m c t.val t.isLt).2.2.2.2.1 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before11 (c : Dev nD) (t : Fin cfg0.N) (h : t.val ≠ 0) (d) :
    (dats m 0 c).before 11 t d = (state m c (t.val - 1) (lt_of_le_of_lt (Nat.sub_le _ _) t.isLt)).2.1 := by
  have : t.val < 19 := lt_of_lt_of_eq t.isLt N_0
  rw [Dat.before_out_kept _ 11 rfl t (by omega) (Bool.eq_false_iff.mpr fun h => by
    have := (flush0_11 _).mp h; dsimp only at this; omega) (fun _ => rfl) (fun _ _ => rfl)]
  dsimp only [dats]
theorem before12 (c : Dev nD) (t : Fin cfg0.N) (h : t.val ≠ 0) (d) :
    (dats m 0 c).before 12 t d = (state m c (t.val - 1) (lt_of_le_of_lt (Nat.sub_le _ _) t.isLt)).2.2.1 := by
  have : t.val < 19 := lt_of_lt_of_eq t.isLt N_0
  rw [Dat.before_out_kept _ 12 rfl t (by omega) (Bool.eq_false_iff.mpr fun h => by
    have := (flush0_12 _).mp h; dsimp only at this; omega) (fun _ => rfl) (fun _ _ => rfl)]
  dsimp only [dats]
theorem before13 (c : Dev nD) (t : Fin cfg0.N) (h : t.val ≠ 0) (d) :
    (dats m 0 c).before 13 t d = (state m c (t.val - 1) (lt_of_le_of_lt (Nat.sub_le _ _) t.isLt)).2.2.2.1 := by
  have : t.val < 19 := lt_of_lt_of_eq t.isLt N_0
  rw [Dat.before_out_kept _ 13 rfl t (by omega) (Bool.eq_false_iff.mpr fun h => by
    have := (flush0_13 _).mp h; dsimp only at this; omega) (fun _ => rfl) (fun _ _ => rfl)]
  dsimp only [dats]
theorem before14 (c : Dev nD) (t : Fin cfg0.N) (h : t.val ≠ 0) (d) :
    (dats m 0 c).before 14 t d = (state m c (t.val - 1) (lt_of_le_of_lt (Nat.sub_le _ _) t.isLt)).2.2.2.2.1 := by
  have : t.val < 19 := lt_of_lt_of_eq t.isLt N_0
  rw [Dat.before_out_kept _ 14 rfl t (by omega) (Bool.eq_false_iff.mpr fun h => by
    have := (flush0_14 _).mp h; dsimp only at this; omega) (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 19200000 in
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).owesAt () t.succ = (dats m 0 c).owesAt () t.castSucc from rfl,
    after0, after1, after2, after3, after4, after5, after6, after7, after8, after9, after10, after11, after12, after13, after14,
    show (dats m 0 c).Φ t.succ = carried c (state m c t.val t.isLt) from rfl, Held_castSucc m c t]
  have hN : t.val < 19 := lt_of_lt_of_eq t.isLt (show cfg0.N = 19 from N_0)
  by_cases h0 : cond0_0 (grid0.coords t)
  · have hz : t.val = 0 := by have := (hcond0_0 t).mp h0; omega
    have h1 : ¬cond0_1 (grid0.coords t) := fun h => by have := (hcond0_1 t).mp h; omega
    rw [Held_zero m c _ _ hz, PhiA0_eq, state_A m c t hz h0 h1]
    unfold carried stA; dsimp only
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((runA m c t h0 h1).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexact HS0
    isplitl [HS1]; · iexact HS1
    isplitl [HS2]; · iexact HS2
    iintro ⟨H0, H1, H2, H3, H4, H5, H6, H7, H8, H9, H10, H11, H12, H13, H14, HS0, HS1, HS2⟩
    isplitl [HS0 HS1 HS2 Hg]
    · isplitl [HS0 HS1 HS2]
      · isplitl [HS0]
        · iapply (owns_of_stores c scM0_0 VS0_0 _ (covA5 m c t h0 h1)); iexact HS0
        isplitl [HS1]
        · iapply (owns_of_stores c scM0_1 VS0_1 _ (covA6 m c t h0 h1)); iexact HS1
        iapply (owns_of_stores c scM0_2 VS0_2 _ (covA7 m c t h0 h1)); iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply (owns_of_stores c (ms0_10 t) VO0_10 _ (covA0 m c t h0 h1)); iexact H10
    isplitl [H11]; · iapply (owns_of_stores c (ms0_11 t) VO0_11 _ (covA1 m c t h0 h1)); iexact H11
    isplitl [H12]; · iapply (owns_of_stores c (ms0_12 t) VO0_12 _ (covA2 m c t h0 h1)); iexact H12
    isplitl [H13]; · iapply (owns_of_stores c (ms0_13 t) VO0_13 _ (covA3 m c t h0 h1)); iexact H13
    iapply (owns_of_stores c (ms0_14 t) VO0_14 _ (covA4 m c t h0 h1)); iexact H14
  · have hz : t.val ≠ 0 := fun h => h0 ((hcond0_0 t).mpr (by omega))
    by_cases h1 : cond0_1 (grid0.coords t)
    · simp only [before11 m c t hz, before12 m c t hz, before13 m c t hz, before14 m c t hz]
      rw [Held_pos m c _ _ hz, state_C m c t hz h0 h1]
      unfold carried stC; dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((runC m c t h0 h1 _).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexact H11
      isplitl [H12]; · iexact H12
      isplitl [H13]; · iexact H13
      isplitl [H14]; · iexact H14
      isplitl [HS0]; · iexact HS0
      isplitl [HS1]; · iexact HS1
      isplitl [HS2]; · iexact HS2
      iintro ⟨H0, H1, H2, H3, H4, H5, H6, H7, H8, H9, H10, H11, H12, H13, H14, HS0, HS1, HS2⟩
      isplitl [HS0 HS1 HS2 Hg]
      · isplitl [HS0 HS1 HS2]
        · isplitl [HS0]
          · unfold owns; iexists _; isplitr
            swap; · iexact HS0
            ipureintro; rfl
          isplitl [HS1]
          · iapply (owns_of_stores c scM0_1 VS0_1 _ (covC6 m c t h0 h1 _)); iexact HS1
          iapply (owns_of_stores c scM0_2 VS0_2 _ (covC7 m c t h0 h1 _)); iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iapply (owns_of_stores c (ms0_10 t) VO0_10 _ (covC0 m c t h0 h1 _)); iexact H10
      isplitl [H11]; · iapply (owns_of_stores c (ms0_11 t) VO0_11 _ (covC1 m c t h0 h1 _)); iexact H11
      isplitl [H12]; · iapply (owns_of_stores c (ms0_12 t) VO0_12 _ (covC2 m c t h0 h1 _)); iexact H12
      isplitl [H13]; · iapply (owns_of_stores c (ms0_13 t) VO0_13 _ (covC3 m c t h0 h1 _)); iexact H13
      iapply (owns_of_stores c (ms0_14 t) VO0_14 _ (covC4 m c t h0 h1 _)); iexact H14
    · simp only [before11 m c t hz, before12 m c t hz, before13 m c t hz, before14 m c t hz]
      rw [Held_pos m c _ _ hz, state_B m c t hz h0 h1]
      unfold carried stB; dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((runB m c t h0 h1 _).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexact H11
      isplitl [H12]; · iexact H12
      isplitl [H13]; · iexact H13
      isplitl [H14]; · iexact H14
      isplitl [HS0]; · iexact HS0
      isplitl [HS1]; · iexact HS1
      isplitl [HS2]; · iexact HS2
      iintro ⟨H0, H1, H2, H3, H4, H5, H6, H7, H8, H9, H10, H11, H12, H13, H14, HS0, HS1, HS2⟩
      isplitl [HS0 HS1 HS2 Hg]
      · isplitl [HS0 HS1 HS2]
        · isplitl [HS0]
          · unfold owns; iexists _; isplitr
            swap; · iexact HS0
            ipureintro; rfl
          isplitl [HS1]
          · iapply (owns_of_stores c scM0_1 VS0_1 _ (covB6 m c t h0 h1 _)); iexact HS1
          iapply (owns_of_stores c scM0_2 VS0_2 _ (covB7 m c t h0 h1 _)); iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iapply (owns_of_stores c (ms0_10 t) VO0_10 _ (covB0 m c t h0 h1 _)); iexact H10
      isplitl [H11]; · iapply (owns_of_stores c (ms0_11 t) VO0_11 _ (covB1 m c t h0 h1 _)); iexact H11
      isplitl [H12]; · iapply (owns_of_stores c (ms0_12 t) VO0_12 _ (covB2 m c t h0 h1 _)); iexact H12
      isplitl [H13]; · iapply (owns_of_stores c (ms0_13 t) VO0_13 _ (covB3 m c t h0 h1 _)); iexact H13
      iapply (owns_of_stores c (ms0_14 t) VO0_14 _ (covB4 m c t h0 h1 _)); iexact H14

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (body_sound m c t) rfl .rfl fun _ => .rfl

theorem hin (c : Dev nD) : Pipeline.ΦA spec0 c ⊢ (dats m 0 c).Φ 0 := by
  rw [show (dats m 0 c).Φ 0 = Held m c 0 (Nat.zero_le _) from rfl, Held_zero m c 0 _ rfl]

theorem hout (c : Dev nD) : (dats m 0 c).Φ (Fin.last cfg0.N) ⊢ Pipeline.ΦA spec0 c := by
  rw [show (dats m 0 c).Φ (Fin.last cfg0.N) = Held m c cfg0.N le_rfl from rfl,
    Held_pos m c _ _ (by have : cfg0.N = 19 := N_0; omega), PhiA0_eq]
  unfold carried
  iintro ⟨⟨HS0, HS1, HS2⟩, Hg⟩
  isplitl [HS0 HS1 HS2]
  · isplitl [HS0]; · iexists _; iexact HS0
    isplitl [HS1]; · iexists _; iexact HS1
    iexists _; iexact HS2
  iexact Hg

set_option backward.isDefEq.respectTransparency.types false in
/-- Every run ends, with every array of the call at what the proof data say and every counter at zero. -/
theorem run_main : θ_run defs (onTc (τ := τ) (main (F := F))) (s₀ m ρ)
    (fun r => (Pipeline.FramePost cfgs (dats m) 0 (Pipeline.afterTail₀ cfgs (dats m) 0 (V0 m) [hostOps1])) r
      ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl) (howed := fun _ _ => rfl)
    (V₀ := V0 m) (opss := [hostOps1]) (hsub := sfx_sub) (hfresh := sfx_fresh) (hkeep := sfx_keeps)
    (hmain := hmain m Variants.none) (hA := A_eq m) (hin := hin m) (hout := hout m)

theorem run_post : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main m ρ)

/-- The frame at any float model. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) (run_post m ρ))
    ((θ_run defs _ _).mono (fun _ h => h.2) (run_main m ρ))

end Cert.Kernel5Ideal.Mix

end
-- ==== Proof.Common.lean ====
/- Facts shared by the value proofs: a fold of adding steps read at an index as a sum, and a sum over rows cut into tiles. -/
module

public import Idealize.ShloMosaic.Lib.Pipeline.Value
public import Idealize.ShloMosaic.Lib.Pipeline.ValueKit
public import Idealize.ShloMosaic.Lib.Pointwise

@[expose] public section

set_option maxRecDepth 16384

noncomputable section

namespace Cert.Proof

open Idealize.ShloMosaic Idealize.ShloMosaic.TcCoe Idealize.SL.Sem

/-- A run whose reset leaves the first addend at an index and whose every step adds its point's addend there holds the sum of the
    addends of the run's points. -/
theorem accAt_eq_sum {ι : Type} {N : Nat} (a : (n : Nat) → n < N → ι → EReal) (g : (n : Nat) → n < N → (ι → EReal) → ι → EReal) (i : ι)
    (P : Nat → EReal) (ha : ∀ n h, a n h i = P n) (hg : ∀ n h acc, g n h acc i = acc i + P n) (b : Nat) :
    ∀ (j : Nat) (h : b + j < N), Pipeline.accAt a g b j h i = ∑ l ∈ Finset.range (j + 1), P (b + l)
  | 0, h => by rw [Pipeline.accAt_zero, ha]; simp
  | j + 1, h => by
    rw [Pipeline.accAt_succ, hg, accAt_eq_sum a g i P ha hg b j, Finset.sum_range_succ _ (j + 1)]

/-- A sum over the rows is the sum over the tiles of the sum over each tile's rows, the tiles taken in order. -/
theorem sum_tiles {n J T : Nat} (hn : J * T = n) (f : Fin n → EReal) (P : Nat → EReal)
    (h : ∀ (j : Nat) (hj : j < J), P j = ∑ s : Fin T, f ⟨j * T + s.val, by
      have h1 := s.isLt; have h2 := Nat.mul_le_mul_right T (Nat.succ_le_of_lt hj); rw [Nat.succ_mul] at h2; omega⟩) :
    ∑ l ∈ Finset.range J, P l = ∑ t : Fin n, f t := by
  subst hn
  rw [Finset.sum_range, Fin.sum_univ_tiles J T rfl f]
  exact Finset.sum_congr rfl fun j _ => h j.val j.isLt

end Cert.Proof

end
-- ==== Proof.Dw.lean ====
/- The gradients of the MLP's two matrices: the kernel walks the rows in nine tiles and adds each tile's products to the block of one
   quarter of the hidden columns; the reference takes each product whole. No finiteness is needed: addition on the extended reals is
   associative and commutative. -/
module

public import proofs.«01_k».proof.Proof.Common
public import proofs.«01_k».proof.Proof.Gen.KernelIdeal.Value
public import proofs.«01_k».proof.Proof.Gen.ReferenceIdeal.Read

@[expose] public section

set_option maxRecDepth 16384

noncomputable section

namespace Cert.Proof.Dw

open Idealize.ShloMosaic Idealize.ShloMosaic.TcCoe Idealize.SL.Sem

open Cert.KernelIdeal Cert.KernelIdeal.Gen Cert.KernelIdeal.Value

open Cert.ReferenceIdeal.Read (val_main_v12 val_main_v13 val_main_v22 val_main_v23)

variable (m : (ℓ : Loc nD τ sig) → Buf (Elt Ideal) ℓ) (c : Dev nD)

/-- The normalised rows before the region are the reference's. -/
theorem entry_xn : (V m c main_v13 : FVec Ideal S8208x1024 .bf16)
    = val_main_v12 (F := Ideal) (m ((c : Thread nD τ).loc main_arg0)) (m ((c : Thread nD τ).loc main_arg1)) := by
  show StableHlo.after hostOps0 _ _ = _
  after_results_simp
  rfl

/-- The hidden rows before the gate. -/
theorem entry_a : (V m c main_v16 : FVec Ideal S8208x4096 .bf16)
    = val_main_v13 (F := Ideal) (m ((c : Thread nD τ).loc main_arg0)) (m ((c : Thread nD τ).loc main_arg1)) (m ((c : Thread nD τ).loc main_arg2)) := by
  show StableHlo.after hostOps0 _ _ = _
  after_results_simp
  rfl

/-- The cotangent of the hidden rows is the argument itself. -/
theorem entry_da : (V m c main_v17 : FVec Ideal S8208x4096 .bf16) = m ((c : Thread nD τ).loc main_arg4) := by
  show StableHlo.after hostOps0 _ _ = _
  after_results_simp
  rfl

/-- The entry arrays and the two results at their own types. -/
def XN : S8208x1024.Idx → EReal := V m c main_v13
def DA : S8208x4096.Idx → EReal := V m c main_v17
def AA : S8208x4096.Idx → EReal := V m c main_v16
def DH : S8208x1024.Idx → EReal := V m c main_arg5
def DWU : S4x1024x1024.Idx → EReal := G4 m c
def DWD : S4x1024x1024.Idx → EReal := G5 m c

/-- The windows' block indices in closed form: the rows' tile is the second grid coordinate, the hidden columns' quarter the first. -/
theorem idx : ∀ t : Fin cfg0.N, win0_0.index t = ![t.val % 9, 0] ∧ win0_1.index t = ![t.val % 9, t.val / 9]
    ∧ win0_2.index t = ![t.val % 9, t.val / 9] ∧ win0_3.index t = ![t.val % 9, 0] :=
  (by decide +kernel : ∀ t : Fin grid0.N, _)

/-- One tile's product for the first matrix, added to what the block held. -/
theorem pay3 (acc : FVec Ideal S1x1024x1024 .f32) (x y : FVec Ideal S912x1024 .bf16) (r k : Fin 1024) :
    k0_pay3 (F := Ideal) acc x y (ix3 0 r k) = acc (ix3 0 r k) + ∑ s : Fin 912, x (ix2 s r) * y (ix2 s k) := by
  pointwise [k0_pay3]

/-- One tile's product for the second matrix, added to what the block held. -/
theorem pay4 (a : FVec Ideal S912x1024 .bf16) (acc : FVec Ideal S1x1024x1024 .f32) (y : FVec Ideal S912x1024 .f32) (r k : Fin 1024) :
    k0_pay4 (F := Ideal) a acc y (ix3 0 r k)
      = acc (ix3 0 r k) + ∑ s : Fin 912, (max (a (ix2 s r)) 0 * max (a (ix2 s r)) 0) * y (ix2 s k) := by
  pointwise [k0_pay4]

/-- The block starts at zero. -/
theorem pay1 (i : S1x1024x1024.Idx) : k0_pay1 (F := Ideal) i = 0 := by
  idx_vars i
  pointwise [k0_pay1]

theorem pay2 (i : S1x1024x1024.Idx) : k0_pay2 (F := Ideal) i = 0 := by
  idx_vars i
  pointwise [k0_pay2]

/-- Row `s` of tile `n`, as a row of the array. -/
abbrev row (n : Nat) (hn : n < cfg0.N) (s : Fin 912) : Fin 8208 :=
  ⟨n % 9 * 912 + s.val, by have := s.isLt; have := Nat.mod_lt n (show 9 > 0 by decide); omega⟩

/-- Column `k` of quarter `n / 9`, as a column of the array. -/
abbrev col (n : Nat) (hn : n < cfg0.N) (k : Fin 1024) : Fin 4096 :=
  ⟨n / 9 * 1024 + k.val, by have := k.isLt; have := lt_of_lt_of_eq hn (show cfg0.N = 36 from N_0); omega⟩

theorem blk0 (n : Nat) (h : n < cfg0.N) (s : Fin 912) (k : Fin 1024) :
    (iblk m c 0 ⟨n, h⟩ : FVec Ideal S912x1024 .bf16) (ix2 s k) = XN m c (ix2 (row n h s) k) := by
  blk_ext [iblk, XN, DA, AA, DH, idx ⟨n, h⟩]

theorem blk1 (n : Nat) (h : n < cfg0.N) (s : Fin 912) (k : Fin 1024) :
    (iblk m c 1 ⟨n, h⟩ : FVec Ideal S912x1024 .bf16) (ix2 s k) = DA m c (ix2 (row n h s) (col n h k)) := by
  blk_ext [iblk, XN, DA, AA, DH, idx ⟨n, h⟩]

theorem blk2 (n : Nat) (h : n < cfg0.N) (s : Fin 912) (k : Fin 1024) :
    (iblk m c 2 ⟨n, h⟩ : FVec Ideal S912x1024 .bf16) (ix2 s k) = AA m c (ix2 (row n h s) (col n h k)) := by
  blk_ext [iblk, XN, DA, AA, DH, idx ⟨n, h⟩]

theorem blk3 (n : Nat) (h : n < cfg0.N) (s : Fin 912) (k : Fin 1024) :
    (iblk m c 3 ⟨n, h⟩ : FVec Ideal S912x1024 .f32) (ix2 s k) = DH m c (ix2 (row n h s) k) := by
  blk_ext [iblk, XN, DA, AA, DH, idx ⟨n, h⟩]

/-- A fold over one quarter's nine tiles, each step adding the tile's products, is the sum over all the rows. -/
theorem fold (a : (n : Nat) → n < cfg0.N → FVec Ideal S1x1024x1024 .f32)
    (g : (n : Nat) → n < cfg0.N → FVec Ideal S1x1024x1024 .f32 → FVec Ideal S1x1024x1024 .f32) (r k : Fin 1024) (f : Fin 8208 → Fin 4096 → EReal)
    (e : Fin 1024) (ha : ∀ n h, a n h (ix3 0 r k) = ∑ s : Fin 912, f (row n h s) (col n h e))
    (hg : ∀ n h acc, g n h acc (ix3 0 r k) = acc (ix3 0 r k) + ∑ s : Fin 912, f (row n h s) (col n h e)) (q : Fin 4) (h : 9 * q.val + 8 < cfg0.N) :
    Pipeline.accAt a g (9 * q.val) 8 h (ix3 0 r k) = ∑ t : Fin 8208, f t ⟨q.val * 1024 + e.val, by have := q.isLt; have := e.isLt; omega⟩ := by
  have hN : cfg0.N = 36 := N_0
  rw [accAt_eq_sum a g (ix3 0 r k) (fun n => if h : n < cfg0.N then ∑ s : Fin 912, f (row n h s) (col n h e) else 0)
    (fun n h => by rw [dif_pos h]; exact ha n h) (fun n h acc => by rw [dif_pos h]; exact hg n h acc)]
  refine sum_tiles (J := 9) (T := 912) rfl (fun t => f t _) _ fun j hj => ?_
  have hq := q.isLt
  have hp : 9 * q.val + j < cfg0.N := by omega
  show dite _ _ _ = _
  rw [dif_pos hp]
  refine Finset.sum_congr rfl fun s _ => congrArg₂ f (Fin.ext ?_) (Fin.ext ?_)
  · show (9 * q.val + j) % 9 * 912 + s.val = j * 912 + s.val
    omega
  · show (9 * q.val + j) / 9 * 1024 + e.val = q.val * 1024 + e.val
    omega

theorem G4_apply (q : Fin 4) (r k : Fin 1024) :
    DWU m c (ix3 q r k)
      = ∑ t : Fin 8208, XN m c (ix2 t r)
          * DA m c (ix2 t ⟨q.val * 1024 + k.val, by have := q.isLt; have := k.isLt; omega⟩) := by
  have hN : cfg0.N = 36 := N_0
  have hq := q.isLt
  have hr : run4Of (ix3 q r k) = q.val := by
    show 1 * (q.val / 1 - 0) + 1 * (r.val / 1024 - 0) + 1 * (k.val / 1024 - 0) = q.val
    have := r.isLt; have := k.isLt; omega
  have hl : loc4Of (ix3 q r k) = ix3 0 r k := by
    funext a
    apply Fin.ext
    have := r.isLt; have := k.isLt
    match a with
    | ⟨0, _⟩ => show q.val % 1 = 0; omega
    | ⟨1, _⟩ => show r.val % 1024 = r.val; omega
    | ⟨2, _⟩ => show k.val % 1024 = k.val; omega
  have hb : 9 * q.val + 8 < cfg0.N := by omega
  have key : ∀ (n : Nat) (l : S1x1024x1024.Idx) (h : 9 * n + 8 < cfg0.N), n = q.val → l = ix3 0 r k →
      Pipeline.accAt (reset4 m c) (step4 m c) (9 * n) 8 h l = Pipeline.accAt (reset4 m c) (step4 m c) (9 * q.val) 8 hb (ix3 0 r k) := by
    rintro n l h rfl rfl
    rfl
  refine ((dif_pos (by rw [hr]; exact hb)).trans (key _ _ _ hr hl)).trans ?_
  refine fold (reset4 m c) (step4 m c) r k (fun t e => XN m c (ix2 t r)
    * DA m c (ix2 t e)) k ?_ ?_ q hb
  · intro n h
    unfold reset4
    rw [pay3, pay1, zero_add]
    exact Finset.sum_congr rfl fun s _ => congrArg₂ (· * ·) (blk0 m c n h s r) (blk1 m c n h s k)
  · intro n h acc
    unfold step4
    rw [pay3]
    exact congrArg _ (Finset.sum_congr rfl fun s _ => congrArg₂ (· * ·) (blk0 m c n h s r) (blk1 m c n h s k))

theorem G5_apply (q : Fin 4) (r k : Fin 1024) :
    DWD m c (ix3 q r k)
      = ∑ t : Fin 8208, (max (AA m c (ix2 t ⟨q.val * 1024 + r.val, by have := q.isLt; have := r.isLt; omega⟩)) 0
          * max (AA m c (ix2 t ⟨q.val * 1024 + r.val, by have := q.isLt; have := r.isLt; omega⟩)) 0)
          * DH m c (ix2 t k) := by
  have hN : cfg0.N = 36 := N_0
  have hq := q.isLt
  have hr : run5Of (ix3 q r k) = q.val := by
    show 1 * (q.val / 1 - 0) + 1 * (r.val / 1024 - 0) + 1 * (k.val / 1024 - 0) = q.val
    have := r.isLt; have := k.isLt; omega
  have hl : loc5Of (ix3 q r k) = ix3 0 r k := by
    funext a
    apply Fin.ext
    have := r.isLt; have := k.isLt
    match a with
    | ⟨0, _⟩ => show q.val % 1 = 0; omega
    | ⟨1, _⟩ => show r.val % 1024 = r.val; omega
    | ⟨2, _⟩ => show k.val % 1024 = k.val; omega
  have hb : 9 * q.val + 8 < cfg0.N := by omega
  have key : ∀ (n : Nat) (l : S1x1024x1024.Idx) (h : 9 * n + 8 < cfg0.N), n = q.val → l = ix3 0 r k →
      Pipeline.accAt (reset5 m c) (step5 m c) (9 * n) 8 h l = Pipeline.accAt (reset5 m c) (step5 m c) (9 * q.val) 8 hb (ix3 0 r k) := by
    rintro n l h rfl rfl
    rfl
  refine ((dif_pos (by rw [hr]; exact hb)).trans (key _ _ _ hr hl)).trans ?_
  refine fold (reset5 m c) (step5 m c) r k (fun t e => (max (AA m c (ix2 t e)) 0
    * max (AA m c (ix2 t e)) 0) * DH m c (ix2 t k)) r ?_ ?_ q hb
  · intro n h
    unfold reset5
    rw [pay4, pay2, zero_add]
    exact Finset.sum_congr rfl fun s _ => congrArg₂ (fun x y : EReal => (max x 0 * max x 0) * y) (blk2 m c n h s r) (blk3 m c n h s k)
  · intro n h acc
    unfold step5
    rw [pay4]
    exact congrArg _ (Finset.sum_congr rfl fun s _ => congrArg₂ (fun x y : EReal => (max x 0 * max x 0) * y) (blk2 m c n h s r) (blk3 m c n h s k))

/-- The first matrix's gradient is the reference's. -/
theorem dwu : DWU m c
    = val_main_v22 (F := Ideal) (m ((c : Thread nD τ).loc main_arg0)) (m ((c : Thread nD τ).loc main_arg1)) (m ((c : Thread nD τ).loc main_arg4)) := by
  funext i
  idx_vars i
  rw [G4_apply]
  simp only [Cert.ReferenceIdeal.Read.val_main_v22_apply, Cert.ReferenceIdeal.Read.val_main_v21_apply,
    Cert.ReferenceIdeal.Read.val_main_v15_apply, Cert.ReferenceIdeal.Read.val_main_v14_apply]
  refine Finset.sum_congr rfl fun t _ => ?_
  rw [mul_comm]
  refine congrArg₂ (· * ·) ((congrFun (entry_da m c) _).trans (congrArg _ ?_)) ((congrFun (entry_xn m c) _).trans (congrArg _ ?_))
  · have := i0.isLt; have := i1.isLt; have := i2.isLt
    funext a
    apply Fin.ext
    match a with
    | ⟨0, _⟩ => rfl
    | ⟨1, _⟩ => show i0.val * 1024 + i2.val = ((i1.val * 4 + i0.val) * 1024 + i2.val) % 4096; omega
  · have := i0.isLt; have := i1.isLt; have := i2.isLt
    funext a
    apply Fin.ext
    match a with
    | ⟨0, _⟩ => rfl
    | ⟨1, _⟩ => show i1.val = ((i1.val * 4 + i0.val) * 1024 + i2.val) / 4096; omega

/-- The second matrix's gradient is the reference's. -/
theorem dwd : (DWD m c)
    = val_main_v23 (F := Ideal) (m ((c : Thread nD τ).loc main_arg0)) (m ((c : Thread nD τ).loc main_arg1)) (m ((c : Thread nD τ).loc main_arg2))
        (m ((c : Thread nD τ).loc main_arg5)) := by
  funext i
  idx_vars i
  rw [G5_apply]
  simp only [Cert.ReferenceIdeal.Read.val_main_v23_apply, Cert.ReferenceIdeal.Read.val_main_v20_apply,
    Cert.ReferenceIdeal.Read.val_main_v19_apply, Cert.ReferenceIdeal.Read.val_main_v17_apply, Cert.ReferenceIdeal.Read.val_main_v16_apply,
    Cert.ReferenceIdeal.Read.val_main_call0_v0_apply]
  refine Finset.sum_congr rfl fun t _ => ?_
  rw [mul_comm]
  have hz : (0 : EReal) = Ideal.ofBits .f32 0x00000000#32 := by simp [Ideal.ofBits, Ideal.ieee]
  have := i0.isLt; have := i1.isLt; have := i2.isLt
  have ha : ix2 t ⟨i0.val * 1024 + i1.val, by omega⟩ = ReferenceIdeal.Read.ridx_main_v19
      (ReferenceIdeal.Read.idx_main_v20 (ReferenceIdeal.Read.idx_main_v23 (ix3 i0 i1 i2))) t := by
    funext a
    apply Fin.ext
    match a with
    | ⟨0, _⟩ => rfl
    | ⟨1, _⟩ => show i0.val * 1024 + i1.val = ((i0.val * 1024 + i1.val) * 1024 + i2.val) / 1024; omega
  have hd : ix2 t i2 = ReferenceIdeal.Read.lidx_main_v19
      (ReferenceIdeal.Read.idx_main_v20 (ReferenceIdeal.Read.idx_main_v23 (ix3 i0 i1 i2))) t := by
    funext a
    apply Fin.ext
    match a with
    | ⟨0, _⟩ => rfl
    | ⟨1, _⟩ => show i2.val = ((i0.val * 1024 + i1.val) * 1024 + i2.val) % 1024; omega
  refine congrArg₂ (· * ·) ((congrFun (V_main_arg5 m c) _).trans (congrArg _ hd)) ?_
  have h := (congrFun (entry_a m c) _).trans (congrArg _ ha)
  exact congrArg₂ (fun x z : EReal => max x z * max x z) h hz

end Cert.Proof.Dw

end
-- ==== Proof.Real.lean ====
/- Real values among the extended reals, and the derivative of the root-mean-square norm of one row: the kernels' hand-written form and
   the vector-Jacobian product's agree where the row and the cotangent are real numbers. -/
module

public import Idealize.ShloMosaic.Lib.Pointwise
public import Mathlib.Tactic.FieldSimp
public import Mathlib.Tactic.LinearCombination

@[expose] public section

set_option maxRecDepth 16384

noncomputable section

namespace Cert.Proof

open Idealize.ShloMosaic

/-- An extended real that is a real number. -/
def IsReal (x : EReal) : Prop := ∃ r : ℝ, x = r

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

namespace IsReal

theorem coe (r : ℝ) : IsReal r := ⟨r, rfl⟩
theorem zero : IsReal 0 := ⟨0, rfl⟩
theorem two : IsReal 2 := ⟨2, rfl⟩

theorem add {x y : EReal} : IsReal x → IsReal y → IsReal (x + y) := by
  rintro ⟨a, rfl⟩ ⟨b, rfl⟩
  exact ⟨a + b, (EReal.coe_add a b).symm⟩

theorem mul {x y : EReal} : IsReal x → IsReal y → IsReal (x * y) := by
  rintro ⟨a, rfl⟩ ⟨b, rfl⟩
  exact ⟨a * b, (EReal.coe_mul a b).symm⟩

theorem max {x y : EReal} : IsReal x → IsReal y → IsReal (max x y) := by
  rintro hx hy
  rcases le_total x y with h | h
  · rwa [max_eq_right h]
  · rwa [max_eq_left h]

theorem sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- What lies strictly between the infinities is real. -/
theorem of_abs_lt {x : EReal} (h : Max.max x (-x) < ⊤) : IsReal x := by
  induction x with
  | bot => simp at h
  | top => simp at h
  | coe r => exact ⟨r, rfl⟩

/-- The printed test of finiteness: every entry's absolute value lies below infinity. -/
theorem of_finite {s : Shape} (x : FVec Ideal s .f32) (hb : (⟨0, ![]⟩ : Shape).BroadcastsInDim s ![])
    (h : cmpf (F := Ideal) .olt (Host.absf x) (broadcastInDim s ![] hb (constant ⟨0, ![]⟩ .f32 0x7F800000#32)) = fun _ => 1#1) (i : s.Idx) :
    IsReal (x i) := by
  have e := congrFun h i
  change BitVec.ofBool (decide (Max.max (x i) (-(x i)) < Ideal.ofBits .f32 0x7F800000#32)) = 1#1 at e
  have ht : Ideal.ofBits .f32 0x7F800000#32 = ⊤ := by simp [Ideal.ofBits, Ideal.ieee]
  rw [ht] at e
  refine of_abs_lt ?_
  by_contra hn
  rw [decide_eq_false (p := Max.max (x i) (-(x i)) < ⊤) hn] at e
  exact absurd e (by decide)

end IsReal

theorem bits_two : Ideal.ofBits .f32 0x40000000#32 = 2 := by
  simp [Ideal.ofBits, Ideal.ieee]
  rw [← EReal.coe_mul]
  norm_num
  rfl

theorem bits_rows : Ideal.ofBits .f32 0x44800000#32 = ((1024 : ℝ) : EReal) := by
  simp [Ideal.ofBits, Ideal.ieee]
  rw [← EReal.coe_mul]
  norm_num

theorem bits_neg_half : Ideal.ofBits .f32 0xBF000000#32 = ((-(1 / 2) : ℝ) : EReal) := by
  simp [Ideal.ofBits, Ideal.ieee]
  rw [← EReal.coe_mul]
  norm_num

theorem bits_eps : ∃ e : ℝ, 0 < e ∧ Ideal.ofBits .f32 0x358637BD#32 = (e : EReal) := by
  refine ⟨8796093 * (2 ^ 43)⁻¹, by positivity, ?_⟩
  simp [Ideal.ofBits, Ideal.ieee]

/-- The mean square of a row of real numbers plus the small constant is a positive real. -/
theorem var_pos {n : Nat} (x : Fin n → EReal) (hx : ∀ j, IsReal (x j)) : ∃ v : ℝ, 0 < v ∧
    Ideal.div (∑ j, x j * x j) (Ideal.ofBits .f32 0x44800000#32) + Ideal.ofBits .f32 0x358637BD#32 = (v : EReal) := by
  choose f hf using hx
  obtain ⟨e, he, h⟩ := bits_eps
  refine ⟨(∑ j, f j * f j) * (1 / 1024) + e, ?_, ?_⟩
  · have : 0 ≤ ∑ j, f j * f j := Finset.sum_nonneg fun j _ => mul_self_nonneg _
    positivity
  · rw [h, bits_rows, Ideal.div_coe (by norm_num), EReal.coe_add, EReal.coe_mul, coe_sum]
    simp only [hf, EReal.coe_mul]

/-- The reciprocal root of a positive real, as a real. -/
theorem rsqrt_pos {v : ℝ} (h : 0 < v) : Ideal.rsqrt (v : EReal) = (((√v)⁻¹ : ℝ) : EReal) := by
  rw [Ideal.rsqrt_coe, if_neg (not_lt.mpr h.le), if_neg h.ne']

theorem rsqrt_real {n : Nat} (x : Fin n → EReal) (hx : ∀ j, IsReal (x j)) : IsReal
    (Ideal.rsqrt (Ideal.div (∑ j, x j * x j) (Ideal.ofBits .f32 0x44800000#32) + Ideal.ofBits .f32 0x358637BD#32)) := by
  obtain ⟨v, hv, h⟩ := var_pos x hx
  rw [h, rsqrt_pos hv]
  exact .coe _

/-- One row of the norm's derivative. `x` is the row, `y` the cotangent times the gain, `v` the mean square plus the constant. -/
theorem rms_row {n : Nat} (x y : Fin n → EReal) (hx : ∀ j, IsReal (x j)) (hy : ∀ j, IsReal (y j)) (ct v : EReal)
    (hv : v = Ideal.div (∑ j, x j * x j) (Ideal.ofBits .f32 0x44800000#32) + Ideal.ofBits .f32 0x358637BD#32) (k : Fin n) :
    ct + Ideal.rsqrt v * (y k - x k * Ideal.rsqrt v * Ideal.div (∑ j, y j * (x j * Ideal.rsqrt v)) (Ideal.ofBits .f32 0x44800000#32))
      = ct + y k * Ideal.rsqrt v
        + x k * Ideal.div ((∑ j, x j * y j) * (Ideal.ofBits .f32 0xBF000000#32 * Ideal.div (Ideal.rsqrt v) v)) (Ideal.ofBits .f32 0x44800000#32)
        + Ideal.div ((∑ j, x j * y j) * (Ideal.ofBits .f32 0xBF000000#32 * Ideal.div (Ideal.rsqrt v) v)) (Ideal.ofBits .f32 0x44800000#32) * x k := by
  obtain ⟨w, hw, e⟩ := var_pos x hx
  obtain rfl : v = (w : EReal) := hv.trans e
  clear hv e
  choose f hf using hx
  choose g hg using hy
  obtain rfl := funext hf
  obtain rfl := funext hg
  rw [rsqrt_pos hw, bits_rows, bits_neg_half, Ideal.div_coe hw.ne', Ideal.div_coe (by norm_num), Ideal.div_coe (by norm_num)]
  simp only [← EReal.coe_mul, ← coe_sum, ← EReal.coe_sub, add_assoc, ← EReal.coe_add]
  congr 2
  have h1 : (√w)⁻¹ * (√w)⁻¹ = 1 / w := by
    rw [← mul_inv, Real.mul_self_sqrt hw.le, one_div]
  have h2 : ∑ j, g j * (f j * (√w)⁻¹) = (∑ j, f j * g j) * (√w)⁻¹ := by
    rw [Finset.sum_mul]
    exact Finset.sum_congr rfl fun j _ => by ring
  rw [h2, ← h1]
  ring

end Cert.Proof

end
-- ==== Proof.Dx.lean ====
/- The gradient of the MLP's input: the kernel walks the rows in tiles, takes the hidden cotangent in four quarters and differentiates the
   norm by hand; the reference is the vector-Jacobian product of the forward lines. -/
module

public import proofs.«01_k».proof.Proof.Common
public import proofs.«01_k».proof.Proof.Real
public import proofs.«01_k».proof.Proof.Gen.Kernel2Ideal.Value
public import proofs.«01_k».proof.Proof.Gen.Reference2Ideal.Read

@[expose] public section

set_option maxRecDepth 16384

noncomputable section

namespace Cert.Proof.Dx

open Idealize.ShloMosaic Idealize.ShloMosaic.TcCoe Idealize.SL.Sem

open Cert.Kernel2Ideal Cert.Kernel2Ideal.Gen Cert.Kernel2Ideal.Value

open Cert.Reference2Ideal.Read

variable (m : (ℓ : Loc nD τ sig) → Buf (Elt Ideal) ℓ) (c : Dev nD)

/-- The hidden rows before the gate are the reference's. -/
theorem entry_a : (V m c main_v21 : FVec Ideal S8208x4096 .bf16)
    = val_main_v16 (F := Ideal) (m ((c : Thread nD τ).loc main_arg0)) (m ((c : Thread nD τ).loc main_arg1)) (m ((c : Thread nD τ).loc main_arg2)) := by
  show StableHlo.after hostOps0 _ _ = _
  after_results_simp
  rfl

/-- The arguments at their own types. -/
def H : S8208x1024.Idx → EReal := m ((c : Thread nD τ).loc main_arg0)
def G : S1024.Idx → EReal := m ((c : Thread nD τ).loc main_arg1)
def U : S1024x4096.Idx → EReal := m ((c : Thread nD τ).loc main_arg2)
def W : S4096x1024.Idx → EReal := m ((c : Thread nD τ).loc main_arg3)
def C : S8208x1024.Idx → EReal := m ((c : Thread nD τ).loc main_arg4)
/-- The region's entry arrays at their own types. -/
def EC : S8208x1024.Idx → EReal := V m c main_arg4
def EH : S8208x1024.Idx → EReal := V m c main_arg0
def EA : S8208x4096.Idx → EReal := V m c main_v21
def EG : S1x1024.Idx → EReal := V m c main_v22
def EU : S4x1024x1024.Idx → EReal := V m c main_v2
def EW : S4x1024x1024.Idx → EReal := V m c main_v4

theorem eC : EC m c = C m c := by
  show StableHlo.after hostOps0 _ _ = _
  after_results_simp
  rfl
theorem eH : EH m c = H m c := by
  show StableHlo.after hostOps0 _ _ = _
  after_results_simp
  rfl

theorem eG (k : Fin 1024) : EG m c (ix2 0 k) = G m c (ix1 k) := by
  have h : EG m c = broadcastInDim S1x1024 ![1] bcast_S1024_S1x1024_1 (G m c) := by
    show StableHlo.after hostOps0 _ _ = _
    after_results_simp
    rfl
  rw [h]
  pointwise []

/-- Column `k` of quarter `q`, as a hidden column. -/
abbrev hid (q : Fin 4) (e : Fin 1024) : Fin 4096 := ⟨q.val * 1024 + e.val, by have := q.isLt; have := e.isLt; omega⟩

theorem eU (q : Fin 4) (k e : Fin 1024) : EU m c (ix3 q k e) = U m c (ix2 k (hid q e)) := by
  have h : EU m c = transpose S4x1024x1024 [1, 0, 2]
      (shapeCast _ (truncf (F := Ideal) .bf16 (U m c : FVec Ideal S1024x4096 .f32) bitsLt_bf16_f32) shapeCasts_S1024x4096_S1024x4x1024)
      transposes_S1024x4x1024_S4x1024x1024_1_0_2 := by
    show StableHlo.after hostOps0 _ _ = _
    after_results_simp
    rfl
  rw [h]
  pointwise []

theorem eW (q : Fin 4) (e k : Fin 1024) : EW m c (ix3 q e k) = W m c (ix2 (hid q e) k) := by
  have h : EW m c = shapeCast _ (truncf (F := Ideal) .bf16 (W m c : FVec Ideal S4096x1024 .f32) bitsLt_bf16_f32) shapeCasts_S4096x1024_S4x1024x1024 := by
    show StableHlo.after hostOps0 _ _ = _
    after_results_simp
    rfl
  rw [h]
  pointwise []

/-- The windows' block indices: the rows' tile is the grid coordinate, the small arrays are whole. -/
theorem idx : ∀ t : Fin cfg0.N, win0_0.index t = ![t.val, 0] ∧ win0_1.index t = ![t.val, 0]
    ∧ win0_2.index t = ![t.val, 0] ∧ win0_3.index t = ![0, 0] ∧ win0_4.index t = ![0, 0, 0] ∧ win0_5.index t = ![0, 0, 0] :=
  (by decide +kernel : ∀ t : Fin grid0.N, _)

/-- Row `s` of tile `n`, as a row of the array. -/
abbrev row (n : Nat) (hn : n < cfg0.N) (s : Fin 432) : Fin 8208 :=
  ⟨n * 432 + s.val, by have := s.isLt; have := lt_of_lt_of_eq hn (show cfg0.N = 19 from N_0); omega⟩

theorem blk0 (n : Nat) (h : n < cfg0.N) (s : Fin 432) (k : Fin 1024) :
    (iblk m c 0 ⟨n, h⟩ : FVec Ideal S432x1024 .f32) (ix2 s k) = EC m c (ix2 (row n h s) k) := by
  blk_ext [iblk, EC, idx ⟨n, h⟩]

theorem blk1 (n : Nat) (h : n < cfg0.N) (s : Fin 432) (k : Fin 1024) :
    (iblk m c 1 ⟨n, h⟩ : FVec Ideal S432x1024 .f32) (ix2 s k) = EH m c (ix2 (row n h s) k) := by
  blk_ext [iblk, EH, idx ⟨n, h⟩]

theorem blk2 (n : Nat) (h : n < cfg0.N) (s : Fin 432) (k : Fin 4096) :
    (iblk m c 2 ⟨n, h⟩ : FVec Ideal S432x4096 .bf16) (ix2 s k) = EA m c (ix2 (row n h s) k) := by
  blk_ext [iblk, EA, idx ⟨n, h⟩]

theorem blk3 (n : Nat) (h : n < cfg0.N) (k : Fin 1024) :
    (iblk m c 3 ⟨n, h⟩ : FVec Ideal S1x1024 .f32) (ix2 0 k) = EG m c (ix2 0 k) := by
  blk_ext [iblk, EG, idx ⟨n, h⟩]

theorem blk4 (n : Nat) (h : n < cfg0.N) (q : Fin 4) (k e : Fin 1024) :
    (iblk m c 4 ⟨n, h⟩ : FVec Ideal S4x1024x1024 .bf16) (ix3 q k e) = EU m c (ix3 q k e) := by
  blk_ext [iblk, EU, idx ⟨n, h⟩]

theorem blk5 (n : Nat) (h : n < cfg0.N) (q : Fin 4) (k e : Fin 1024) :
    (iblk m c 5 ⟨n, h⟩ : FVec Ideal S4x1024x1024 .bf16) (ix3 q k e) = EW m c (ix3 q k e) := by
  blk_ext [iblk, EW, idx ⟨n, h⟩]

/-- Reads of one quarter of a block. -/
theorem ldA (n : Nat) (h : n < cfg0.N) (q : Fin 4) (o : Nat) (ho : o = q.val * 1024) (inb) (r : Fin 432) (e : Fin 1024) :
    View.ld (iblk m c 2 ⟨n, h⟩ : FVec Ideal S432x4096 .bf16) (Rect.unit ![0, o] ![432, 1024] inb) (ix2 r e) = EA m c (ix2 (row n h r) (hid q e)) := by
  subst ho
  refine Eq.trans (congrArg (iblk m c 2 ⟨n, h⟩ : FVec Ideal S432x4096 .bf16) ?_) (blk2 m c n h r (hid q e))
  funext a
  apply Fin.ext
  match a with
  | ⟨0, _⟩ => show 0 + 1 * r.val = r.val; omega
  | ⟨1, _⟩ => show q.val * 1024 + 1 * e.val = q.val * 1024 + e.val; omega

theorem ldU (n : Nat) (h : n < cfg0.N) (q : Fin 4) (o : Nat) (ho : o = q.val) (inb) (k e : Fin 1024) :
    View.ld (iblk m c 4 ⟨n, h⟩ : FVec Ideal S4x1024x1024 .bf16) (Rect.unit ![o, 0, 0] ![1, 1024, 1024] inb) (ix3 0 k e) = U m c (ix2 k (hid q e)) := by
  subst ho
  refine Eq.trans (congrArg (iblk m c 4 ⟨n, h⟩ : FVec Ideal S4x1024x1024 .bf16) ?_) ((blk4 m c n h q k e).trans (eU m c q k e))
  funext a
  apply Fin.ext
  match a with
  | ⟨0, _⟩ => show q.val + 1 * 0 = q.val; omega
  | ⟨1, _⟩ => show 0 + 1 * k.val = k.val; omega
  | ⟨2, _⟩ => show 0 + 1 * e.val = e.val; omega

theorem ldW (n : Nat) (h : n < cfg0.N) (q : Fin 4) (o : Nat) (ho : o = q.val) (inb) (e d : Fin 1024) :
    View.ld (iblk m c 5 ⟨n, h⟩ : FVec Ideal S4x1024x1024 .bf16) (Rect.unit ![o, 0, 0] ![1, 1024, 1024] inb) (ix3 0 e d) = W m c (ix2 (hid q e) d) := by
  subst ho
  refine Eq.trans (congrArg (iblk m c 5 ⟨n, h⟩ : FVec Ideal S4x1024x1024 .bf16) ?_) ((blk5 m c n h q e d).trans (eW m c q e d))
  funext a
  apply Fin.ext
  match a with
  | ⟨0, _⟩ => show q.val + 1 * 0 = q.val; omega
  | ⟨1, _⟩ => show 0 + 1 * e.val = e.val; omega
  | ⟨2, _⟩ => show 0 + 1 * d.val = d.val; omega

/-- A quarter's gated cotangent, at an entry: the product with the quarter's rows of the second matrix times twice the rectified value. -/
def quart (x : FVec Ideal S432x1024 .f32) (a : FVec Ideal S432x1024 .bf16) (w : FVec Ideal S1x1024x1024 .bf16) : FVec Ideal S432x1024 .bf16 :=
  k0_pay9 x a w

theorem quart_apply (x : FVec Ideal S432x1024 .f32) (a : FVec Ideal S432x1024 .bf16) (w : FVec Ideal S1x1024x1024 .bf16) (r : Fin 432) (e : Fin 1024) :
    quart x a w (ix2 r e) = (∑ d : Fin 1024, x (ix2 r d) * w (ix3 0 e d)) * (2 * max (a (ix2 r e)) 0) := by
  pointwise [quart, k0_pay9, k0_pay7]
  rw [bits_two]

theorem pay10 (x : FVec Ideal S432x1024 .f32) (a : FVec Ideal S432x1024 .bf16) (w : FVec Ideal S1x1024x1024 .bf16) :
    k0_pay10 (F := Ideal) (k0_pay7 x) a w = quart x a w := rfl
theorem pay14 (x : FVec Ideal S432x1024 .f32) (a : FVec Ideal S432x1024 .bf16) (w : FVec Ideal S1x1024x1024 .bf16) :
    k0_pay14 (F := Ideal) (k0_pay12 a) (k0_pay13 (k0_pay7 x) w) (FloatOps.ofBits FTy.f32 1073741824#32) = quart x a w := rfl
theorem pay15 (x : FVec Ideal S432x1024 .f32) (a : FVec Ideal S432x1024 .bf16) (w : FVec Ideal S1x1024x1024 .bf16) :
    k0_pay15 (F := Ideal) (k0_pay7 x) a w = quart x a w := rfl

/-- The hidden cotangent and the normalised rows' cotangent, of the arguments. -/
def DAv (t : Fin 8208) (e : Fin 4096) : EReal := (∑ d : Fin 1024, C m c (ix2 t d) * W m c (ix2 e d)) * (2 * max (EA m c (ix2 t e)) 0)
def DXN (t : Fin 8208) (k : Fin 1024) : EReal := ∑ e : Fin 4096, DAv m c t e * U m c (ix2 k e)

/-- Quarter `q` of the hidden cotangent in tile `n`. -/
theorem quart_blk (n : Nat) (h : n < cfg0.N) (q : Fin 4) (o p : Nat) (ho : o = q.val * 1024) (hp : p = q.val) (i j) (r : Fin 432) (e : Fin 1024) :
    quart (iblk m c 0 ⟨n, h⟩) (View.ld (iblk m c 2 ⟨n, h⟩ : FVec Ideal S432x4096 .bf16) (Rect.unit ![0, o] ![432, 1024] i))
      (View.ld (iblk m c 5 ⟨n, h⟩ : FVec Ideal S4x1024x1024 .bf16) (Rect.unit ![p, 0, 0] ![1, 1024, 1024] j)) (ix2 r e) = DAv m c (row n h r) (hid q e) := by
  rw [quart_apply, ldA m c n h q o ho i]
  refine congrArg (· * _) (Finset.sum_congr rfl fun d _ => ?_)
  rw [ldW m c n h q p hp j]
  exact congrArg (· * _) ((blk0 m c n h r d).trans (congrFun (eC m c) _))

/-- The four quarters' products with the first matrix, added up in order. -/
theorem pay16 (x : FVec Ideal S432x1024 .f32) (a0 a1 a2 a3 : FVec Ideal S432x1024 .bf16) (w0 u0 w1 u1 w2 u2 w3 u3 : FVec Ideal S1x1024x1024 .bf16) (r : Fin 432) (k : Fin 1024) :
    k0_pay16 (F := Ideal) (k0_pay7 x) (k0_pay11 (k0_pay7 x) k0_pay8 (k0_pay9 x a0 w0) u0 a1 w1 u1) (k0_pay12 a2) (k0_pay13 (k0_pay7 x) w2) (FloatOps.ofBits FTy.f32 1073741824#32) u2 a3 w3 u3 (ix2 r k)
      = ((((∑ e : Fin 1024, quart x a0 w0 (ix2 r e) * u0 (ix3 0 k e)) + ∑ e : Fin 1024, quart x a1 w1 (ix2 r e) * u1 (ix3 0 k e))
        + ∑ e : Fin 1024, quart x a2 w2 (ix2 r e) * u2 (ix3 0 k e)) + ∑ e : Fin 1024, quart x a3 w3 (ix2 r e) * u3 (ix3 0 k e)) := by
  pointwise [k0_pay16, k0_pay11, k0_pay8]
  simp only [← pay14, ← pay15, ← pay10]
  rfl

/-- The normalised rows' cotangent as the body holds it in tile `t`. -/
def dxnB (t : Fin cfg0.N) : FVec Ideal S432x1024 .f32 :=
  k0_pay16 (k0_pay7 (iblk m c 0 t))
    (k0_pay11 (k0_pay7 (iblk m c 0 t)) k0_pay8
      (k0_pay9 (iblk m c 0 t) (View.ld (iblk m c 2 t) (Rect.unit ![0, 0] ![432, 1024] inb_S432x4096_S432x1024_0_0))
        (View.ld (iblk m c 5 t) (Rect.unit ![0, 0, 0] ![1, 1024, 1024] inb_S4x1024x1024_S1x1024x1024_0_0_0)))
      (View.ld (iblk m c 4 t) (Rect.unit ![0, 0, 0] ![1, 1024, 1024] inb_S4x1024x1024_S1x1024x1024_0_0_0))
      (View.ld (iblk m c 2 t) (Rect.unit ![0, 1024] ![432, 1024] inb_S432x4096_S432x1024_0_1024))
      (View.ld (iblk m c 5 t) (Rect.unit ![1, 0, 0] ![1, 1024, 1024] inb_S4x1024x1024_S1x1024x1024_1_0_0))
      (View.ld (iblk m c 4 t) (Rect.unit ![1, 0, 0] ![1, 1024, 1024] inb_S4x1024x1024_S1x1024x1024_1_0_0)))
    (k0_pay12 (View.ld (iblk m c 2 t) (Rect.unit ![0, 2048] ![432, 1024] inb_S432x4096_S432x1024_0_2048)))
    (k0_pay13 (k0_pay7 (iblk m c 0 t))
      (View.ld (iblk m c 5 t) (Rect.unit ![2, 0, 0] ![1, 1024, 1024] inb_S4x1024x1024_S1x1024x1024_2_0_0)))
    (FloatOps.ofBits FTy.f32 1073741824#32)
    (View.ld (iblk m c 4 t) (Rect.unit ![2, 0, 0] ![1, 1024, 1024] inb_S4x1024x1024_S1x1024x1024_2_0_0))
    (View.ld (iblk m c 2 t) (Rect.unit ![0, 3072] ![432, 1024] inb_S432x4096_S432x1024_0_3072))
    (View.ld (iblk m c 5 t) (Rect.unit ![3, 0, 0] ![1, 1024, 1024] inb_S4x1024x1024_S1x1024x1024_3_0_0))
    (View.ld (iblk m c 4 t) (Rect.unit ![3, 0, 0] ![1, 1024, 1024] inb_S4x1024x1024_S1x1024x1024_3_0_0))

theorem dxnB_apply (n : Nat) (h : n < cfg0.N) (r : Fin 432) (k : Fin 1024) : dxnB m c ⟨n, h⟩ (ix2 r k) = DXN m c (row n h r) k := by
  unfold dxnB
  rw [pay16]
  refine Eq.trans ?_ (Fin.sum_univ_tiles 4 1024 rfl _).symm
  rw [Fin.sum_univ_four]
  refine congrArg₂ (· + ·) (congrArg₂ (· + ·) (congrArg₂ (· + ·) ?_ ?_) ?_) ?_
  · exact Finset.sum_congr rfl fun e _ => congrArg₂ (· * ·) (quart_blk m c n h 0 _ _ rfl rfl _ _ r e) (ldU m c n h 0 _ rfl _ k e)
  · exact Finset.sum_congr rfl fun e _ => congrArg₂ (· * ·) (quart_blk m c n h 1 _ _ rfl rfl _ _ r e) (ldU m c n h 1 _ rfl _ k e)
  · exact Finset.sum_congr rfl fun e _ => congrArg₂ (· * ·) (quart_blk m c n h 2 _ _ rfl rfl _ _ r e) (ldU m c n h 2 _ rfl _ k e)
  · exact Finset.sum_congr rfl fun e _ => congrArg₂ (· * ·) (quart_blk m c n h 3 _ _ rfl rfl _ _ r e) (ldU m c n h 3 _ rfl _ k e)
/-- Twice a value, from its two copies. -/
theorem dbl (s x : EReal) : s * x + s * x = s * (2 * x) := by
  rw [mul_left_comm]
  generalize s * x = y
  induction y with
  | bot => rw [show (2 : EReal) = ((2 : ℝ) : EReal) from rfl, EReal.coe_mul_bot_of_pos (by norm_num)]; rfl
  | top => rw [show (2 : EReal) = ((2 : ℝ) : EReal) from rfl, EReal.coe_mul_top_of_pos (by norm_num)]; rfl
  | coe r => rw [show (2 : EReal) = ((2 : ℝ) : EReal) from rfl, ← EReal.coe_add, ← EReal.coe_mul, two_mul]

/-- The gate's derivative: the cotangent's product from either side of the square, kept where the value is positive. -/
theorem gate (a s : EReal) : (if 0 < a then max a 0 * s + s * max a 0 else 0) = s * (2 * max a 0) := by
  split_ifs with h
  · rw [mul_comm (max a 0) s, dbl]
  · rw [max_eq_right (not_lt.mp h), mul_zero, mul_zero]

theorem ref_da (t : Fin 8208) (e : Fin 4096) : val_main_v30 (F := Ideal) (H m c) (G m c) (U m c) (W m c) (C m c) (ix2 t e) = DAv m c t e := by
  refine Eq.trans ?_ (gate _ _)
  unfold EA
  rw [entry_a]
  pointwise [val_main_v30, val_main_v29, val_main_v28, val_main_v27, val_main_v26, val_main_v25, val_main_v24, val_main_v19, val_main_v18, val_main_v17, val_main_cst_3, val_main_cst_5, val_main_call0_v0, val_main_call0_cst, H, G, U]

theorem ref_da' : val_main_v79 (F := Ideal) (H m c) (G m c) (U m c) (W m c) (C m c) = val_main_v30 (F := Ideal) (H m c) (G m c) (U m c) (W m c) (C m c) := by
  have h : val_main_v24 (F := Ideal) (C m c) = C m c := by
    funext i
    idx_vars i
    pointwise [val_main_v24]
  have e : val_main_v25 (F := Ideal) (W m c) (C m c) = val_main_v73 (F := Ideal) (W m c) (C m c) := by
    unfold val_main_v25
    rw [h]
    rfl
  unfold val_main_v30 val_main_v28 val_main_v26 val_main_v27
  rw [e]
  rfl

theorem ref_dxn (t : Fin 8208) (k : Fin 1024) : val_main_v31 (F := Ideal) (H m c) (G m c) (U m c) (W m c) (C m c) (ix2 t k) = DXN m c t k := by
  pointwise [val_main_v31]
  exact Finset.sum_congr rfl fun e _ => congrArg (· * _) (ref_da m c t e)

/-- The mean square of a row plus the constant, and its reciprocal root. -/
def VV (t : Fin 8208) : EReal :=
  Ideal.div (∑ j : Fin 1024, H m c (ix2 t j) * H m c (ix2 t j)) (Ideal.ofBits .f32 0x44800000#32) + Ideal.ofBits .f32 0x358637BD#32

theorem ref_v (t : Fin 8208) : val_main_v6 (F := Ideal) (H m c) (ix2 t 0) = VV m c t := by
  pointwise [val_main_v6, val_main_v5, val_main_v4, val_main_v3, val_main_v2, val_main_v1, val_main_v0, val_main_cst, val_main_cst_0, val_main_cst_1, VV]

theorem ref_n (t : Fin 8208) (k : Fin 1024) : val_main_v12 (F := Ideal) (H m c) (ix2 t k) = H m c (ix2 t k) * Ideal.rsqrt (VV m c t) := by
  pointwise [val_main_v12, val_main_v11, val_main_v7, ref_v]

theorem ref_y (t : Fin 8208) (k : Fin 1024) : val_main_v36 (F := Ideal) (H m c) (G m c) (U m c) (W m c) (C m c) (ix2 t k) = DXN m c t k * G m c (ix1 k) := by
  pointwise [val_main_v36, val_main_v35, val_main_v13, ref_dxn]

theorem ref_dh (t : Fin 8208) (k : Fin 1024) : val_main_v52 (F := Ideal) (H m c) (G m c) (U m c) (W m c) (C m c) (ix2 t k)
    = C m c (ix2 t k) + DXN m c t k * G m c (ix1 k) * Ideal.rsqrt (VV m c t)
      + H m c (ix2 t k) * Ideal.div ((∑ j : Fin 1024, H m c (ix2 t j) * (DXN m c t j * G m c (ix1 j)))
          * (Ideal.ofBits .f32 0xBF000000#32 * Ideal.div (Ideal.rsqrt (VV m c t)) (VV m c t))) (Ideal.ofBits .f32 0x44800000#32)
      + Ideal.div ((∑ j : Fin 1024, H m c (ix2 t j) * (DXN m c t j * G m c (ix1 j)))
          * (Ideal.ofBits .f32 0xBF000000#32 * Ideal.div (Ideal.rsqrt (VV m c t)) (VV m c t))) (Ideal.ofBits .f32 0x44800000#32) * H m c (ix2 t k) := by
  pointwise [val_main_v52, val_main_v51, val_main_v50, val_main_v49, val_main_v48, val_main_v47, val_main_v46, val_main_v45, val_main_v44, val_main_v43, val_main_v42, val_main_v41, val_main_v40, val_main_v39, val_main_v38, val_main_v10, val_main_v9, val_main_v8, val_main_v7, val_main_cst_8, val_main_cst_9, val_main_cst_10, val_main_cst_2, ref_y, ref_v]
  simp only [Finset.univ_unique, Finset.sum_singleton, Fin.default_eq_zero, ref_v]

theorem nB (n : Nat) (h : n < cfg0.N) (s : Fin 432) (k : Fin 1024) : k0_pay4 (F := Ideal) (iblk m c 1 ⟨n, h⟩) (ix2 s k)
    = H m c (ix2 (row n h s) k) * Ideal.rsqrt (VV m c (row n h s)) := by
  pointwise [k0_pay4, k0_pay3, VV, blk1, eH]

/-- The array's first result: the cotangent plus the norm's derivative, row by row. -/
theorem after6 (t : Fin cfg0.N) : (outsAt0 m c t.val t.isLt).1
    = k0_pay1 (F := Ideal) (k0_pay3 (iblk m c 1 t)) (k0_pay4 (iblk m c 1 t)) (k0_pay5 (iblk m c 3 t)) (iblk m c 0 t) (dxnB m c t) := by
  by_cases h0 : t.val % 19 = 0
  · rw [outsAt0_A m c t h0]
    frame_out
    rfl
  · rw [outsAt0_B m c t h0]
    frame_out
    rfl

theorem row6 (n : Nat) (h : n < cfg0.N) (s : Fin 432) (k : Fin 1024) :
    k0_pay1 (F := Ideal) (k0_pay3 (iblk m c 1 ⟨n, h⟩)) (k0_pay4 (iblk m c 1 ⟨n, h⟩)) (k0_pay5 (iblk m c 3 ⟨n, h⟩)) (iblk m c 0 ⟨n, h⟩) (dxnB m c ⟨n, h⟩) (ix2 s k)
      = C m c (ix2 (row n h s) k) + Ideal.rsqrt (VV m c (row n h s)) * (DXN m c (row n h s) k * G m c (ix1 k)
        - H m c (ix2 (row n h s) k) * Ideal.rsqrt (VV m c (row n h s))
          * Ideal.div (∑ j, DXN m c (row n h s) j * G m c (ix1 j) * (H m c (ix2 (row n h s) j) * Ideal.rsqrt (VV m c (row n h s)))) (Ideal.ofBits .f32 0x44800000#32)) := by
  have hr : k0_pay3 (F := Ideal) (iblk m c 1 ⟨n, h⟩) (ix2 s 0) = Ideal.rsqrt (VV m c (row n h s)) := by
    pointwise [k0_pay3, VV, blk1, eH]
  pointwise [k0_pay1, k0_pay5, nB, hr, dxnB_apply, blk0, blk3, eC, eG]

/-- The results' tiles, as the arguments': the rows' tile is the grid coordinate. -/
theorem idxo : ∀ t : Fin cfg0.N, win0_6.index t = ![t.val, 0] ∧ win0_7.index t = ![t.val, 0] ∧ win0_8.index t = ![t.val, 0] ∧ win0_9.index t = ![0, 0] :=
  (by decide +kernel : ∀ t : Fin grid0.N, _)

theorem emb6 (n : Nat) (h : n < cfg0.N) (s : Fin 432) (k : Fin 1024) :
    (win0_6.blk ⟨n, h⟩).view.emb (ix2 s k) = (ix2 (row n h s) k : S8208x1024.Idx) := by
  blk_ext [idxo ⟨n, h⟩]

theorem emb7 (n : Nat) (h : n < cfg0.N) (s : Fin 432) (k : Fin 4096) :
    (win0_7.blk ⟨n, h⟩).view.emb (ix2 s k) = (ix2 (row n h s) k : S8208x4096.Idx) := by
  blk_ext [idxo ⟨n, h⟩]

theorem emb8 (n : Nat) (h : n < cfg0.N) (s : Fin 432) (k : Fin 1024) :
    (win0_8.blk ⟨n, h⟩).view.emb (ix2 s k) = (ix2 (row n h s) k : S8208x1024.Idx) := by
  blk_ext [idxo ⟨n, h⟩]

theorem emb9 (t : Fin cfg0.N) (k : Fin 1024) :
    (win0_9.blk t).view.emb (ix2 0 k) = (ix2 0 k : S1x1024.Idx) := by
  blk_ext [idxo t]

/-- The whole array's rows are the tiles' rows. -/
theorem arr6 (hH : ∀ i, IsReal (H m c i)) (hy : ∀ t k, IsReal (DXN m c t k * G m c (ix1 k))) :
    (dats m 0 c).arrAt 6 cfg0.N = val_main_v52 (F := Ideal) (H m c) (G m c) (U m c) (W m c) (C m c) := by
  refine (dats m 0 c).arrAt_eq_of_covers 6 _ (by decide +kernel) fun t hf y => ?_
  blk_simp
  rw [after0_6, after6]
  obtain ⟨n, h⟩ := t
  idx_vars y
  refine Eq.trans ?_ (congrArg (val_main_v52 (F := Ideal) (H m c) (G m c) (U m c) (W m c) (C m c)) (emb6 n h y0 y1).symm)
  exact (row6 m c n h y0 y1).trans ((rms_row (fun j => H m c (ix2 (row n h y0) j)) (fun j => DXN m c (row n h y0) j * G m c (ix1 j))
    (fun j => hH _) (fun j => hy _ j) _ _ rfl y1).trans (ref_dh m c (row n h y0) y1).symm)

theorem after7 (n : Nat) (l : n < cfg0.N) (s : Fin 432) (e : Fin 4096) : (outsAt0 m c n l).2.1 (ix2 s e) = DAv m c (row n l s) e := by
  have key : ∀ (q : Fin 4) (o p : Nat) (ho : o = q.val * 1024) (hp : p = q.val) (i) (j) (x : S432x1024.Idx), s.val = (x 0).val → e.val = o + (x 1).val →
      quart (iblk m c 0 ⟨n, l⟩) (View.ld (iblk m c 2 ⟨n, l⟩ : FVec Ideal S432x4096 .bf16) (Rect.unit ![0, o] ![432, 1024] i))
        (View.ld (iblk m c 5 ⟨n, l⟩ : FVec Ideal S4x1024x1024 .bf16) (Rect.unit ![p, 0, 0] ![1, 1024, 1024] j)) x = DAv m c (row n l s) e := by
    intro q o p ho hp i j x e0 e1
    idx_vars x
    rw [quart_blk m c n l q o p ho hp]
    refine congrArg₂ (DAv m c) (Fin.ext ?_) (Fin.ext ?_)
    · show n * 432 + x0.val = n * 432 + s.val
      exact congrArg _ e0.symm
    · show q.val * 1024 + x1.val = e.val
      rw [← ho]
      exact e1.symm
  by_cases z : (⟨n, l⟩ : Fin cfg0.N).val % 19 = 0
  · rw [outsAt0_A m c ⟨n, l⟩ z]
    frame_out
    canon_tiles x h
    · exact key 3 _ _ rfl rfl _ _ x h0 h1
    · exact key 2 _ _ rfl rfl _ _ x h0 h1
    · exact key 1 _ _ rfl rfl _ _ x h0 h1
    · exact key 0 _ _ rfl rfl _ _ x h0 (h1.trans (Nat.zero_add _).symm)
  · rw [outsAt0_B m c ⟨n, l⟩ z]
    frame_out
    canon_tiles x h
    · exact key 3 _ _ rfl rfl _ _ x h0 h1
    · exact key 2 _ _ rfl rfl _ _ x h0 h1
    · exact key 1 _ _ rfl rfl _ _ x h0 h1
    · exact key 0 _ _ rfl rfl _ _ x h0 (h1.trans (Nat.zero_add _).symm)

theorem arr7 : (dats m 0 c).arrAt 7 cfg0.N = val_main_v79 (F := Ideal) (H m c) (G m c) (U m c) (W m c) (C m c) := by
  refine (dats m 0 c).arrAt_eq_of_covers 7 _ (by decide +kernel) fun t hf y => ?_
  blk_simp
  rw [after0_7]
  obtain ⟨n, h⟩ := t
  idx_vars y
  refine Eq.trans ?_ (congrArg (val_main_v79 (F := Ideal) (H m c) (G m c) (U m c) (W m c) (C m c)) (emb7 n h y0 y1).symm)
  rw [ref_da']
  exact (after7 m c n h y0 y1).trans (ref_da m c (row n h y0) y1).symm

theorem arr8 : (dats m 0 c).arrAt 8 cfg0.N = val_main_v80 (F := Ideal) (H m c) (G m c) := by
  refine (dats m 0 c).arrAt_eq_of_covers 8 _ (by decide +kernel) fun t hf y => ?_
  blk_simp
  rw [after0_8]
  have e : (outsAt0 m c t.val t.isLt).2.2.1 = k0_pay6 (F := Ideal) (iblk m c 1 t) (iblk m c 3 t) := by
    by_cases z : t.val % 19 = 0
    · rw [outsAt0_A m c t z]
      frame_out
    · rw [outsAt0_B m c t z]
      frame_out
  rw [e]
  obtain ⟨n, h⟩ := t
  idx_vars y
  refine Eq.trans ?_ (congrArg (val_main_v80 (F := Ideal) (H m c) (G m c)) (emb8 n h y0 y1).symm)
  show _ = val_main_v15 (F := Ideal) (H m c) (G m c) (ix2 (row n h y0) y1)
  pointwise [k0_pay6, k0_pay5, nB, blk3, eG, val_main_v15, val_main_v14, val_main_v13, ref_n]

/-- The gain's gradient: the tiles' column sums, added up over the grid. -/
theorem arr9 : (dats m 0 c).arrAt 9 cfg0.N = val_main_v81 (F := Ideal) (H m c) (G m c) (U m c) (W m c) (C m c) := by
  refine (dats m 0 c).arrAt_eq_of_covers 9 _ (by decide +kernel) fun t hf y => ?_
  blk_simp
  rw [after0_9]
  have ht : t.val + 1 = cfg0.N := by
    have h1 := (flush0_9 t).mp hf
    have h2 := lt_of_lt_of_eq t.isLt (show cfg0.N = 19 from N_0)
    rw [show cfg0.N = 19 from N_0]
    omega
  rw [Pipeline.eq_sum_fin_of_reset_step_apply_last (fun n h => (outsAt0 m c n h).2.2.2) 19 (fun _ => 0)
    (fun t (i : S1x1024.Idx) => ∑ s : Fin 432, dxnB m c t (ix2 s (i 1)) * k0_pay4 (F := Ideal) (iblk m c 1 t) (ix2 s (i 1)))
    (fun t z i => ?_) (fun t z i => ?_) (le_of_eq N_0) t ht]
  · idx_vars y
    obtain rfl : y0 = 0 := Subsingleton.elim _ _
    refine Eq.trans ?_ (congrArg (val_main_v81 (F := Ideal) (H m c) (G m c) (U m c) (W m c) (C m c)) (emb9 t y1).symm)
    have e : val_main_v81 (F := Ideal) (H m c) (G m c) (U m c) (W m c) (C m c) (ix2 0 y1)
        = ∑ t : Fin 8208, H m c (ix2 t y1) * Ideal.rsqrt (VV m c t) * DXN m c t y1 := by
      pointwise [val_main_v81, val_main_v37, val_main_v34, val_main_v33, val_main_v32, val_main_cst_6, val_main_cst_7, ref_n, ref_dxn]
      rw [Finset.univ_unique, Finset.sum_singleton]
    rw [e, Fin.sum_univ_tiles 19 432 rfl]
    have hs : (∑ p : Fin 19, ∑ s : Fin 432, (dxnB m c p (ix2 s y1) * k0_pay4 (F := Ideal) (iblk m c 1 p) (ix2 s y1) : EReal))
        = ∑ p : Fin 19, ∑ s : Fin 432, H m c (ix2 (row p.val p.isLt s) y1) * Ideal.rsqrt (VV m c (row p.val p.isLt s)) * DXN m c (row p.val p.isLt s) y1 :=
      Finset.sum_congr rfl fun p _ => Finset.sum_congr rfl fun s _ =>
        (congrArg₂ (· * ·) (dxnB_apply m c p.val p.isLt s y1) (nB m c p.val p.isLt s y1)).trans (mul_comm _ _)
    exact (zero_add (_ : EReal)).trans hs
  · rw [outsAt0_A m c t z]
    frame_out
    idx_vars i
    pointwise [k0_pay17, k0_pay2]
    rfl
  · rw [outsAt0_B m c t z]
    frame_out
    idx_vars i
    pointwise [k0_pay17]
    rfl

/-- Where every argument is a real number, so are the rows' cotangents. -/
theorem real_y (hH : ∀ i, IsReal (H m c i)) (hG : ∀ i, IsReal (G m c i)) (hU : ∀ i, IsReal (U m c i)) (hW : ∀ i, IsReal (W m c i))
    (hC : ∀ i, IsReal (C m c i)) (t : Fin 8208) (k : Fin 1024) : IsReal (DXN m c t k * G m c (ix1 k)) := by
  have hr : IsReal (Ideal.rsqrt (VV m c t)) := rsqrt_real (fun j => H m c (ix2 t j)) fun j => hH _
  have ha : ∀ e, IsReal (EA m c (ix2 t e)) := by
    intro e
    unfold EA
    rw [entry_a]
    have : val_main_v16 (F := Ideal) (H m c) (G m c) (U m c) (ix2 t e)
        = ∑ j : Fin 1024, H m c (ix2 t j) * Ideal.rsqrt (VV m c t) * G m c (ix1 j) * U m c (ix2 j e) := by
      pointwise [val_main_v16, val_main_v15, val_main_v14, val_main_v13, ref_n]
    exact this ▸ .sum _ fun j => (((hH _).mul hr).mul (hG _)).mul (hU _)
  exact (IsReal.sum _ fun e => ((IsReal.sum _ fun d => (hC _).mul (hW _)).mul (IsReal.two.mul ((ha e).max .zero))).mul (hU _)).mul (hG _)

end Cert.Proof.Dx

end
-- ==== Proof.In.lean ====
/- The gradient of the mixer's input projection: the kernel walks the rows in tiles, keeps the projection's matrix and its gradient in scratch
   and differentiates the norm by hand; the reference is the vector-Jacobian product of the forward lines. -/
module

public import proofs.«01_k».proof.Proof.Common
public import proofs.«01_k».proof.Proof.Real
public import proofs.«01_k».proof.Proof.Gen.Kernel3Ideal.Value
public import proofs.«01_k».proof.Proof.Gen.Reference3Ideal.Read
public import Idealize.ShloMosaic.Lib.Pipeline.ReadBack

@[expose] public section

set_option maxRecDepth 16384

noncomputable section

namespace Cert.Proof.In

open Idealize.ShloMosaic Idealize.ShloMosaic.TcCoe Idealize.SL.Sem

open Cert.Kernel3Ideal Cert.Kernel3Ideal.Gen Cert.Kernel3Ideal.Value

open Cert.Reference3Ideal.Read

variable (m : (ℓ : Loc nD τ sig) → Buf (Elt Ideal) ℓ) (c : Dev nD)

/-- The arguments at their own types. -/
def P : S8208x1536.Idx → EReal := m ((c : Thread nD τ).loc main_arg0)
def H : S8208x1024.Idx → EReal := m ((c : Thread nD τ).loc main_arg1)
def G : S1024.Idx → EReal := m ((c : Thread nD τ).loc main_arg2)
def W : S1024x1536.Idx → EReal := m ((c : Thread nD τ).loc main_arg3)
def C : S8208x1024.Idx → EReal := m ((c : Thread nD τ).loc main_arg4)
/-- The region's entry arrays at their own types. -/
def EP : S8208x1536.Idx → EReal := V m c main_v3
def EH : S8208x1024.Idx → EReal := V m c main_arg1
def EG : S1x1024.Idx → EReal := V m c main_v4
def EW : S4x1024x384.Idx → EReal := V m c main_v2
def EC : S8208x1024.Idx → EReal := V m c main_arg4

theorem eP : EP m c = P m c := by
  show StableHlo.after hostOps0 _ _ = _
  after_results_simp
  rfl
theorem eH : EH m c = H m c := by
  show StableHlo.after hostOps0 _ _ = _
  after_results_simp
  rfl
theorem eC : EC m c = C m c := by
  show StableHlo.after hostOps0 _ _ = _
  after_results_simp
  rfl

theorem eG (k : Fin 1024) : EG m c (ix2 0 k) = G m c (ix1 k) := by
  have h : EG m c = broadcastInDim S1x1024 ![1] bcast_S1024_S1x1024_1 (G m c) := by
    show StableHlo.after hostOps0 _ _ = _
    after_results_simp
    rfl
  rw [h]
  pointwise []

/-- Column `e` of quarter `q`, as a column of the projection. -/
abbrev col (q : Fin 4) (e : Fin 384) : Fin 1536 := ⟨q.val * 384 + e.val, by have := q.isLt; have := e.isLt; omega⟩

theorem eW (q : Fin 4) (k : Fin 1024) (e : Fin 384) : EW m c (ix3 q k e) = W m c (ix2 k (col q e)) := by
  have h : EW m c = transpose S4x1024x384 [1, 0, 2]
      (shapeCast _ (truncf (F := Ideal) .bf16 (W m c : FVec Ideal S1024x1536 .f32) bitsLt_bf16_f32) shapeCasts_S1024x1536_S1024x4x384)
      transposes_S1024x4x384_S4x1024x384_1_0_2 := by
    show StableHlo.after hostOps0 _ _ = _
    after_results_simp
    rfl
  rw [h]
  pointwise []

/-- The windows' block indices: the rows' tile is the grid coordinate, the small arrays are whole. -/
theorem idx : ∀ t : Fin cfg0.N, win0_0.index t = ![t.val, 0] ∧ win0_1.index t = ![t.val, 0]
    ∧ win0_2.index t = ![0, 0] ∧ win0_3.index t = ![0, 0, 0] ∧ win0_4.index t = ![t.val, 0] ∧ win0_5.index t = ![t.val, 0]
    ∧ win0_6.index t = ![0, 0, 0] ∧ win0_7.index t = ![0, 0] :=
  (by decide +kernel : ∀ t : Fin grid0.N, _)

/-- Row `s` of tile `n`, as a row of the array. -/
abbrev row (n : Nat) (hn : n < cfg0.N) (s : Fin 432) : Fin 8208 :=
  ⟨n * 432 + s.val, by have := s.isLt; have := lt_of_lt_of_eq hn (show cfg0.N = 19 from N_0); omega⟩

theorem blk0 (n : Nat) (h : n < cfg0.N) (s : Fin 432) (k : Fin 1536) :
    (iblk m c 0 ⟨n, h⟩ : FVec Ideal S432x1536 .bf16) (ix2 s k) = EP m c (ix2 (row n h s) k) := by
  blk_ext [iblk, EP, idx ⟨n, h⟩]

theorem blk1 (n : Nat) (h : n < cfg0.N) (s : Fin 432) (k : Fin 1024) :
    (iblk m c 1 ⟨n, h⟩ : FVec Ideal S432x1024 .f32) (ix2 s k) = EH m c (ix2 (row n h s) k) := by
  blk_ext [iblk, EH, idx ⟨n, h⟩]

theorem blk2 (n : Nat) (h : n < cfg0.N) (k : Fin 1024) :
    (iblk m c 2 ⟨n, h⟩ : FVec Ideal S1x1024 .f32) (ix2 0 k) = EG m c (ix2 0 k) := by
  blk_ext [iblk, EG, idx ⟨n, h⟩]

theorem blk3 (n : Nat) (h : n < cfg0.N) (q : Fin 4) (k : Fin 1024) (e : Fin 384) :
    (iblk m c 3 ⟨n, h⟩ : FVec Ideal S4x1024x384 .bf16) (ix3 q k e) = EW m c (ix3 q k e) := by
  blk_ext [iblk, EW, idx ⟨n, h⟩]

theorem blk4 (n : Nat) (h : n < cfg0.N) (s : Fin 432) (k : Fin 1024) :
    (iblk m c 4 ⟨n, h⟩ : FVec Ideal S432x1024 .f32) (ix2 s k) = EC m c (ix2 (row n h s) k) := by
  blk_ext [iblk, EC, idx ⟨n, h⟩]

theorem ldW (n : Nat) (h : n < cfg0.N) (q : Fin 4) (o : Nat) (ho : o = q.val) (inb) (k : Fin 1024) (e : Fin 384) :
    View.ld (iblk m c 3 ⟨n, h⟩ : FVec Ideal S4x1024x384 .bf16) (Rect.unit ![o, 0, 0] ![1, 1024, 384] inb) (ix3 0 k e) = W m c (ix2 k (col q e)) := by
  subst ho
  refine Eq.trans (congrArg (iblk m c 3 ⟨n, h⟩ : FVec Ideal S4x1024x384 .bf16) ?_) ((blk3 m c n h q k e).trans (eW m c q k e))
  funext a
  apply Fin.ext
  match a with
  | ⟨0, _⟩ => show q.val + 1 * 0 = q.val; omega
  | ⟨1, _⟩ => show 0 + 1 * k.val = k.val; omega
  | ⟨2, _⟩ => show 0 + 1 * e.val = e.val; omega

/-- The normalised rows' cotangent, of the arguments. -/
def DXN (t : Fin 8208) (k : Fin 1024) : EReal := ∑ e : Fin 1536, P m c (ix2 t e) * W m c (ix2 k e)

/-- The mean square of a row plus the constant. -/
def VV (t : Fin 8208) : EReal :=
  Ideal.div (∑ j : Fin 1024, H m c (ix2 t j) * H m c (ix2 t j)) (Ideal.ofBits .f32 0x44800000#32) + Ideal.ofBits .f32 0x358637BD#32

theorem ref_dxn (t : Fin 8208) (k : Fin 1024) : val_main_v19 (F := Ideal) (P m c) (W m c) (ix2 t k) = DXN m c t k := by
  pointwise [val_main_v19, DXN]

theorem ref_v (t : Fin 8208) : val_main_v6 (F := Ideal) (H m c) (ix2 t 0) = VV m c t := by
  pointwise [val_main_v6, val_main_v5, val_main_v4, val_main_v3, val_main_v2, val_main_v1, val_main_v0, val_main_cst, val_main_cst_0, val_main_cst_1, VV]

theorem ref_n (t : Fin 8208) (k : Fin 1024) : val_main_v12 (F := Ideal) (H m c) (ix2 t k) = H m c (ix2 t k) * Ideal.rsqrt (VV m c t) := by
  pointwise [val_main_v12, val_main_v11, val_main_v7, ref_v]

theorem ref_y (t : Fin 8208) (k : Fin 1024) : val_main_v24 (F := Ideal) (P m c) (G m c) (W m c) (ix2 t k) = DXN m c t k * G m c (ix1 k) := by
  pointwise [val_main_v24, val_main_v23, val_main_v13, ref_dxn]

theorem ref_dh (t : Fin 8208) (k : Fin 1024) : val_main_v40 (F := Ideal) (P m c) (H m c) (G m c) (W m c) (C m c) (ix2 t k)
    = C m c (ix2 t k) + DXN m c t k * G m c (ix1 k) * Ideal.rsqrt (VV m c t)
      + H m c (ix2 t k) * Ideal.div ((∑ j : Fin 1024, H m c (ix2 t j) * (DXN m c t j * G m c (ix1 j)))
          * (Ideal.ofBits .f32 0xBF000000#32 * Ideal.div (Ideal.rsqrt (VV m c t)) (VV m c t))) (Ideal.ofBits .f32 0x44800000#32)
      + Ideal.div ((∑ j : Fin 1024, H m c (ix2 t j) * (DXN m c t j * G m c (ix1 j)))
          * (Ideal.ofBits .f32 0xBF000000#32 * Ideal.div (Ideal.rsqrt (VV m c t)) (VV m c t))) (Ideal.ofBits .f32 0x44800000#32) * H m c (ix2 t k) := by
  pointwise [val_main_v40, val_main_v39, val_main_v38, val_main_v37, val_main_v36, val_main_v35, val_main_v34, val_main_v33, val_main_v32, val_main_v31, val_main_v30, val_main_v29, val_main_v28, val_main_v27, val_main_v26, val_main_v10, val_main_v9, val_main_v8, val_main_v7, val_main_cst_5, val_main_cst_6, val_main_cst_7, val_main_cst_2, ref_y, ref_v]
  simp only [Finset.univ_unique, Finset.sum_singleton, Fin.default_eq_zero, ref_v]

theorem nB (n : Nat) (h : n < cfg0.N) (s : Fin 432) (k : Fin 1024) : k0_pay13 (F := Ideal) (iblk m c 1 ⟨n, h⟩) (ix2 s k)
    = H m c (ix2 (row n h s) k) * Ideal.rsqrt (VV m c (row n h s)) := by
  pointwise [k0_pay13, k0_pay12, VV, blk1, eH]

/-- The four quarters the first tile stores into the scratch. -/
def pcs (t : Fin cfg0.N) : List (View.Piece (Elt Ideal) S1024x1536 .bf16) :=
  [⟨Rect.unit ![0, 1152] ![1024, 384] inb_S1024x1536_S1024x384_0_1152,
      k0_pay9 (View.ld (iblk m c 3 t) (Rect.unit ![3, 0, 0] ![1, 1024, 384] inb_S4x1024x384_S1x1024x384_3_0_0))⟩,
    ⟨Rect.unit ![0, 768] ![1024, 384] inb_S1024x1536_S1024x384_0_768,
      k0_pay8 (View.ld (iblk m c 3 t) (Rect.unit ![2, 0, 0] ![1, 1024, 384] inb_S4x1024x384_S1x1024x384_2_0_0))⟩,
    ⟨Rect.unit ![0, 384] ![1024, 384] inb_S1024x1536_S1024x384_0_384,
      k0_pay7 (View.ld (iblk m c 3 t) (Rect.unit ![1, 0, 0] ![1, 1024, 384] inb_S4x1024x384_S1x1024x384_1_0_0))⟩,
    ⟨Rect.unit ![0, 0] ![1024, 384] inb_S1024x1536_S1024x384_0_0,
      k0_pay6 (View.ld (iblk m c 3 t) (Rect.unit ![0, 0, 0] ![1, 1024, 384] inb_S4x1024x384_S1x1024x384_0_0_0))⟩]

theorem pay6 (w : FVec Ideal S1x1024x384 .bf16) (k : Fin 1024) (e : Fin 384) : k0_pay6 (F := Ideal) w (ix2 k e) = w (ix3 0 k e) := by
  pointwise [k0_pay6]

/-- Together they are the projection's matrix. -/
theorem pcs_canon (t : Fin cfg0.N) : View.canon (pcs m c t) = W m c := by
  obtain ⟨n, l⟩ := t
  have key : ∀ (q : Fin 4) (o p : Nat) (ho : o = q.val * 384) (hp : p = q.val) (i) (x : S1024x384.Idx) (k : Fin 1024) (e : Fin 1536), k.val = (x 0).val → e.val = o + (x 1).val →
      k0_pay6 (F := Ideal) (View.ld (iblk m c 3 ⟨n, l⟩ : FVec Ideal S4x1024x384 .bf16) (Rect.unit ![p, 0, 0] ![1, 1024, 384] i)) x = W m c (ix2 k e) := by
    intro q o p ho hp i x k e e0 e1
    idx_vars x
    rw [pay6, ldW m c n l q p hp]
    refine congrArg (W m c) (congrArg₂ ix2 (Fin.ext e0.symm) (Fin.ext ?_))
    show q.val * 384 + x1.val = e.val
    rw [← ho]
    exact e1.symm
  funext y
  idx_vars y
  unfold pcs
  canon_tiles x h
  · exact key 3 _ _ rfl rfl _ x _ _ h0 h1
  · exact key 2 _ _ rfl rfl _ x _ _ h0 h1
  · exact key 1 _ _ rfl rfl _ x _ _ h0 h1
  · exact key 0 _ _ rfl rfl _ x _ _ h0 (h1.trans (Nat.zero_add _).symm)

theorem pcs_read (t : Fin cfg0.N) (inb) : (View.whole cc0_scratch0).readCov (Val := Elt Ideal) (pcs m c t) (Rect.unit ![0, 0] ![1024, 1536] inb).toLoadRect = W m c := by
  rw [View.readCov_eq_canon', pcs_canon]
  funext j
  refine congrArg (W m c) ?_
  funext a
  apply Fin.ext
  match a with
  | ⟨0, _⟩ => show 0 + 1 * (j 0).val = (j 0).val; omega
  | ⟨1, _⟩ => show 0 + 1 * (j 1).val = (j 1).val; omega

/-- The scratch holds the projection's matrix from the first tile on. -/
theorem wf (n : Nat) (h : n < cfg0.N) : (outsAt0 m c n h).2.2.2.1 = W m c := by
  induction n with
  | zero =>
    rw [outsAt0_A m c ⟨0, h⟩ rfl (show ¬ 0 % 19 = 18 by decide)]
    frame_out
    exact pcs_canon m c ⟨0, h⟩
  | succ n ih =>
    have z' : ¬ (n + 1) % 19 = 0 := by have := lt_of_lt_of_eq h (show cfg0.N = 19 from N_0); omega
    by_cases z : (n + 1) % 19 = 18
    · rw [outsAt0_C m c ⟨n + 1, h⟩ z' z]
      refine Eq.trans ?_ (ih (Nat.lt_of_succ_lt h))
      unfold sout0_C_0
      rfl
    · rw [outsAt0_B m c ⟨n + 1, h⟩ z' z]
      refine Eq.trans ?_ (ih (Nat.lt_of_succ_lt h))
      unfold sout0_B_0
      rfl

/-- The normalised rows' cotangent as the body holds it in tile `t`. -/
def dxnB (t : Fin cfg0.N) : FVec Ideal S432x1024 .f32 := k0_pay16 (iblk m c 0 t) (W m c : FVec Ideal S1024x1536 .bf16)

theorem dxnB_apply (n : Nat) (h : n < cfg0.N) (r : Fin 432) (k : Fin 1024) : dxnB m c ⟨n, h⟩ (ix2 r k) = DXN m c (row n h r) k := by
  pointwise [dxnB, k0_pay16, k0_pay15, blk0, eP, DXN]

theorem after5 (t : Fin cfg0.N) : (outsAt0 m c t.val t.isLt).1
    = k0_pay1 (F := Ideal) (k0_pay12 (iblk m c 1 t)) (k0_pay13 (iblk m c 1 t)) (k0_pay14 (iblk m c 2 t)) (dxnB m c t) (iblk m c 4 t) := by
  unfold dxnB
  by_cases z : t.val % 19 = 0
  · rw [outsAt0_A m c t z (by omega)]
    frame_out
    rw [← pcs_read m c t inb_S1024x1536_S1024x1536_0_0]
    rfl
  · by_cases z' : t.val % 19 = 18
    · rw [outsAt0_C m c t z z']
      frame_out
      rw [read_unread_whole, wf]
    · rw [outsAt0_B m c t z z']
      frame_out
      rw [read_unread_whole, wf]

theorem row5 (n : Nat) (h : n < cfg0.N) (s : Fin 432) (k : Fin 1024) :
    k0_pay1 (F := Ideal) (k0_pay12 (iblk m c 1 ⟨n, h⟩)) (k0_pay13 (iblk m c 1 ⟨n, h⟩)) (k0_pay14 (iblk m c 2 ⟨n, h⟩)) (dxnB m c ⟨n, h⟩) (iblk m c 4 ⟨n, h⟩) (ix2 s k)
      = C m c (ix2 (row n h s) k) + Ideal.rsqrt (VV m c (row n h s)) * (DXN m c (row n h s) k * G m c (ix1 k)
        - H m c (ix2 (row n h s) k) * Ideal.rsqrt (VV m c (row n h s))
          * Ideal.div (∑ j, DXN m c (row n h s) j * G m c (ix1 j) * (H m c (ix2 (row n h s) j) * Ideal.rsqrt (VV m c (row n h s)))) (Ideal.ofBits .f32 0x44800000#32)) := by
  have hr : k0_pay12 (F := Ideal) (iblk m c 1 ⟨n, h⟩) (ix2 s 0) = Ideal.rsqrt (VV m c (row n h s)) := by
    pointwise [k0_pay12, VV, blk1, eH]
  pointwise [k0_pay1, k0_pay14, nB, hr, dxnB_apply, blk4, blk2, eC, eG]

theorem emb5 (n : Nat) (h : n < cfg0.N) (s : Fin 432) (k : Fin 1024) :
    (win0_5.blk ⟨n, h⟩).view.emb (ix2 s k) = (ix2 (row n h s) k : S8208x1024.Idx) := by
  blk_ext [idx ⟨n, h⟩]

theorem emb6 (t : Fin cfg0.N) (q : Fin 4) (k : Fin 1024) (e : Fin 384) :
    (win0_6.blk t).view.emb (ix3 q k e) = (ix3 q k e : S4x1024x384.Idx) := by
  blk_ext [idx t]

theorem emb7 (t : Fin cfg0.N) (k : Fin 1024) :
    (win0_7.blk t).view.emb (ix2 0 k) = (ix2 0 k : S1x1024.Idx) := by
  blk_ext [idx t]

/-- The whole array's rows are the tiles' rows. -/
theorem arr5 (hH : ∀ i, IsReal (H m c i)) (hy : ∀ t k, IsReal (DXN m c t k * G m c (ix1 k))) :
    (dats m 0 c).arrAt 5 cfg0.N = val_main_v40 (F := Ideal) (P m c) (H m c) (G m c) (W m c) (C m c) := by
  refine (dats m 0 c).arrAt_eq_of_covers 5 _ (by decide +kernel) fun t hf y => ?_
  blk_simp
  rw [after0_5, after5]
  obtain ⟨n, h⟩ := t
  idx_vars y
  refine Eq.trans ?_ (congrArg (val_main_v40 (F := Ideal) (P m c) (H m c) (G m c) (W m c) (C m c)) (emb5 n h y0 y1).symm)
  exact (row5 m c n h y0 y1).trans ((rms_row (fun j => H m c (ix2 (row n h y0) j)) (fun j => DXN m c (row n h y0) j * G m c (ix1 j))
    (fun j => hH _) (fun j => hy _ j) _ _ rfl y1).trans (ref_dh m c (row n h y0) y1).symm)

/-- The last tile. -/
theorem last (t : Fin cfg0.N) (z : t.val % 19 = 18) : t.val + 1 = cfg0.N := by
  have h := lt_of_lt_of_eq t.isLt (show cfg0.N = 19 from N_0)
  exact (show t.val + 1 = 19 by omega).trans N_0.symm

/-- The matrix's gradient gathered in scratch, after the last tile. -/
theorem acc_last (t : Fin cfg0.N) (z : t.val % 19 = 18) (k : Fin 1024) (e : Fin 1536) : (outsAt0 m c t.val t.isLt).2.2.2.2 (ix2 k e)
    = ∑ s : Fin 8208, H m c (ix2 s k) * Ideal.rsqrt (VV m c s) * G m c (ix1 k) * P m c (ix2 s e) := by
  rw [Pipeline.eq_sum_fin_of_reset_step_apply_last (fun n h => (outsAt0 m c n h).2.2.2.2) 19 (fun _ => 0)
    (fun t (i : S1024x1536.Idx) => k0_pay17 (F := Ideal) (iblk m c 1 t) (iblk m c 2 t) (iblk m c 0 t) (fun _ => 0) i)
    (fun t z i => ?_) (fun t z i => ?_) (le_of_eq N_0) t (last t z), Fin.sum_univ_tiles 19 432 rfl]
  · have hs : (∑ p : Fin 19, k0_pay17 (F := Ideal) (iblk m c 1 p) (iblk m c 2 p) (iblk m c 0 p) (fun _ => 0) (ix2 k e) : EReal)
        = ∑ p : Fin 19, ∑ s : Fin 432, H m c (ix2 (row p.val p.isLt s) k) * Ideal.rsqrt (VV m c (row p.val p.isLt s)) * G m c (ix1 k) * P m c (ix2 (row p.val p.isLt s) e) := by
      refine Finset.sum_congr rfl fun p _ => ?_
      obtain ⟨n, h⟩ := p
      pointwise [k0_pay17, k0_pay15, k0_pay14, nB, blk0, blk2, eG, eP]
    exact (zero_add (_ : EReal)).trans hs
  · rw [outsAt0_A m c t z (by omega)]
    frame_out
    idx_vars i
    pointwise [k0_pay17, k0_pay10]
  · by_cases z' : t.val % 19 = 18
    · rw [outsAt0_C m c t z z']
      frame_out
      rw [read_unread_whole]
      idx_vars i
      pointwise [k0_pay17]
    · rw [outsAt0_B m c t z z']
      frame_out
      rw [read_unread_whole]
      idx_vars i
      pointwise [k0_pay17]

theorem arr6 : (dats m 0 c).arrAt 6 cfg0.N = val_main_v42 (F := Ideal) (P m c) (H m c) (G m c) := by
  refine (dats m 0 c).arrAt_eq_of_covers 6 _ (by decide +kernel) fun t hf y => ?_
  blk_simp
  rw [after0_6]
  have z : t.val % 19 = 18 := by have := (flush0_6 t).mp hf; omega
  idx_vars y
  refine Eq.trans ?_ (congrArg (val_main_v42 (F := Ideal) (P m c) (H m c) (G m c)) (emb6 t y0 y1 y2).symm)
  have e : val_main_v42 (F := Ideal) (P m c) (H m c) (G m c) (ix3 y0 y1 y2)
      = ∑ s : Fin 8208, H m c (ix2 s y1) * Ideal.rsqrt (VV m c s) * G m c (ix1 y1) * P m c (ix2 s (col y0 y2)) := by
    pointwise [val_main_v42, val_main_v41, val_main_v18, val_main_v17, val_main_v15, val_main_v14, val_main_v13, ref_n]
    exact Finset.sum_congr rfl fun s _ => mul_comm _ _
  rw [e, ← acc_last m c t z]
  have z0 : ¬ t.val % 19 = 0 := by omega
  rw [outsAt0_C m c t z0 z]
  frame_out
  generalize (k0_pay17 (F := Ideal) (iblk m c 1 t) (iblk m c 2 t) (iblk m c 0 t) _ : S1024x1536.Idx → Elt Ideal .f32) = A
  have key : ∀ (q : Fin 4) (o : Nat) (ho : o = q.val * 384) (i : ∀ a, (![0, o] : Fin 2 → Nat) a + (![1024, 384] : Fin 2 → Nat) a ≤ S1024x1536.size a) (x : S1x1024x384.Idx) (b : Fin 4) (k : Fin 1024) (e : Fin 384), b.val = q.val + (x 0).val → k.val = (x 1).val → e.val = (x 2).val →
      k0_pay2 (F := Ideal) (View.ld A (Rect.unit (s := S1024x1536) ![0, o] ![1024, 384] i)) x = A (ix2 k (col b e)) := by
    intro q o ho i x b k e e0 e1 e2
    subst ho
    idx_vars x
    obtain rfl : x0 = 0 := Subsingleton.elim _ _
    obtain rfl : b = q := Fin.ext e0
    obtain rfl : k = x1 := Fin.ext e1
    obtain rfl : e = x2 := Fin.ext e2
    pointwise [k0_pay2]
  canon_tiles x h
  · rw [View.readCov_fill _ _ _ _ _ (by decide)]
    exact key 3 _ rfl _ x _ _ _ h0 h1 h2
  · rw [View.readCov_fill _ _ _ _ _ (by decide)]
    exact key 2 _ rfl _ x _ _ _ h0 h1 h2
  · rw [View.readCov_fill _ _ _ _ _ (by decide)]
    exact key 1 _ rfl _ x _ _ _ h0 h1 h2
  · rw [View.readCov_fill _ _ _ _ _ (by decide)]
    exact key 0 _ rfl _ x _ _ _ (h0.trans (Nat.zero_add _).symm) h1 h2

/-- The gain's gradient: the tiles' column sums, added up over the grid. -/
theorem arr7 : (dats m 0 c).arrAt 7 cfg0.N = val_main_v43 (F := Ideal) (P m c) (H m c) (W m c) := by
  refine (dats m 0 c).arrAt_eq_of_covers 7 _ (by decide +kernel) fun t hf y => ?_
  blk_simp
  rw [after0_7]
  have z : t.val % 19 = 18 := by have := (flush0_7 t).mp hf; omega
  rw [Pipeline.eq_sum_fin_of_reset_step_apply_last (fun n h => (outsAt0 m c n h).2.2.1) 19 (fun _ => 0)
    (fun t (i : S1x1024.Idx) => ∑ s : Fin 432, dxnB m c t (ix2 s (i 1)) * k0_pay13 (F := Ideal) (iblk m c 1 t) (ix2 s (i 1)))
    (fun t z i => ?_) (fun t z i => ?_) (le_of_eq N_0) t (last t z)]
  · idx_vars y
    obtain rfl : y0 = 0 := Subsingleton.elim _ _
    refine Eq.trans ?_ (congrArg (val_main_v43 (F := Ideal) (P m c) (H m c) (W m c)) (emb7 t y1).symm)
    have e : val_main_v43 (F := Ideal) (P m c) (H m c) (W m c) (ix2 0 y1)
        = ∑ t : Fin 8208, H m c (ix2 t y1) * Ideal.rsqrt (VV m c t) * DXN m c t y1 := by
      pointwise [val_main_v43, val_main_v25, val_main_v22, val_main_v21, val_main_v20, val_main_cst_3, val_main_cst_4, ref_n, ref_dxn]
      rw [Finset.univ_unique, Finset.sum_singleton]
    rw [e, Fin.sum_univ_tiles 19 432 rfl]
    have hs : (∑ p : Fin 19, ∑ s : Fin 432, (dxnB m c p (ix2 s y1) * k0_pay13 (F := Ideal) (iblk m c 1 p) (ix2 s y1) : EReal))
        = ∑ p : Fin 19, ∑ s : Fin 432, H m c (ix2 (row p.val p.isLt s) y1) * Ideal.rsqrt (VV m c (row p.val p.isLt s)) * DXN m c (row p.val p.isLt s) y1 :=
      Finset.sum_congr rfl fun p _ => Finset.sum_congr rfl fun s _ =>
        (congrArg₂ (· * ·) (dxnB_apply m c p.val p.isLt s y1) (nB m c p.val p.isLt s y1)).trans (mul_comm _ _)
    exact (zero_add (_ : EReal)).trans hs
  · rw [outsAt0_A m c t z (by omega)]
    frame_out
    idx_vars i
    refine Eq.trans (congrArg (fun w : Vec Ideal S1024x1536 .bf16 => k0_pay18 (F := Ideal) (iblk m c 1 t) (iblk m c 0 t) w (k0_pay11 (F := Ideal)) (ix2 i0 i1)) (pcs_read m c t inb_S1024x1536_S1024x1536_0_0)) ?_
    pointwise [k0_pay18, k0_pay11, dxnB]
  · by_cases z' : t.val % 19 = 18
    · rw [outsAt0_C m c t z z']
      frame_out
      rw [read_unread_whole, wf]
      idx_vars i
      pointwise [k0_pay18]
      rfl
    · rw [outsAt0_B m c t z z']
      frame_out
      rw [read_unread_whole, wf]
      idx_vars i
      pointwise [k0_pay18]
      rfl

/-- Where the arguments of the norm's branch are real numbers, so are the rows' cotangents. -/
theorem real_y (hP : ∀ i, IsReal (P m c i)) (hG : ∀ i, IsReal (G m c i)) (hW : ∀ i, IsReal (W m c i))
    (t : Fin 8208) (k : Fin 1024) : IsReal (DXN m c t k * G m c (ix1 k)) :=
  (IsReal.sum _ fun e => (hP _).mul (hW _)).mul (hG _)

end Cert.Proof.In

end
-- ==== Proof.PostRunA.lean ====
/-
  The run of the body of the forward call after the mixer, with the loss, at the first grid point.
-/
module

public import proofs.«01_k».proof.Proof.Gen.Kernel4Ideal.Frame
public import proofs.«01_k».proof.Proof.Gen.Kernel4Ideal.Skeleton
public import Idealize.ShloMosaic.Lib.Pipeline.FrameBody
public import Idealize.ShloMosaic.Lib.Claim
public import Idealize.ShloMosaic.Lib.Tactic

@[expose] public section

set_option maxRecDepth 16384

noncomputable section

namespace Cert.Kernel4Ideal.Post

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel4Ideal.Gen

variable {F : FTy → Type} [FloatOps F]

local notation "𝕄" => MT nD τ sig Unit (Elt F) ℕ (UR sig nD τ) ℕ

/-- The body's one condition. -/
abbrev cond0_0 (i : grid0.Coords) : Prop := (Scalar.cmpi .ne (Scalar.extui (Scalar.cmpi .eq (BitVec.ofNat 32 (i 0).val) 0#32)) 0#32) = 1#1

/-- A point's one coordinate is its number. -/
theorem coord0 : ∀ t : Fin grid0.N, ((grid0.coords t) 0).val = t.val := by decide

/-- It holds at the first point only. -/
theorem hcond0_0 : ∀ t : Fin cfg0.N, cond0_0 (grid0.coords t) ↔ t.val % 19 = 0 :=
  (fun t => by
    have ht : t.val < 19 := Nat.lt_of_lt_of_eq t.isLt N_0
    simp only [cond0_0, coord0]
    word_cmp
   : ∀ t : Fin grid0.N, cond0_0 (grid0.coords t) ↔ t.val % 19 = 0)

set_option maxHeartbeats 4000000 in
/-- The body's run at the first point: on whole staging buffers, what its stores leave in each of the five result
    buffers, found by the run, and the triple. -/
noncomputable def runA (c : Dev nD) (i : grid0.Coords) (arg1 : Memref sig .tc .vmem S432x1024 .f32) (harg1 : arg1.IsWhole) (arg2 : Memref sig .tc .vmem S432x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S4x1024x1024 .bf16) (harg5 : arg5.IsWhole) (arg6 : Memref sig .tc .vmem S4x1024x1024 .bf16) (harg6 : arg6.IsWhole) (arg7 : Memref sig .tc .vmem S1x1024 .f32) (harg7 : arg7.IsWhole) (arg8 : Memref sig .tc .vmem S16x1024 .f32) (harg8 : arg8.IsWhole) (arg9 : Memref sig .tc .vmem S432x1024 .f32) (harg9 : arg9.IsWhole) (arg10 : Memref sig .tc .vmem S432x1024 .f32) (harg10 : arg10.IsWhole) (arg11 : Memref sig .tc .vmem S432x4096 .bf16) (harg11 : arg11.IsWhole) (arg12 : Memref sig .tc .vmem S432x1024 .f32) (harg12 : arg12.IsWhole) (arg13 : Memref sig .tc .vmem S1x1024 .f32) (harg13 : arg13.IsWhole) (arg14 : Memref sig .tc .vmem S1x1 .f32) (harg14 : arg14.IsWhole) (hc0 : cond0_0 i)
    (x0 : Vec F S432x1024 .f32) (x1 : Vec F S432x1024 .bf16) (x2 : Vec F S1024x1024 .bf16) (x3 : Vec F S1x1024 .f32) (x4 : Vec F S4x1024x1024 .bf16) (x5 : Vec F S4x1024x1024 .bf16) (x6 : Vec F S1x1024 .f32) (x7 : Vec F S16x1024 .f32) (x8 : Vec F S432x1024 .f32) :
    Σ' (L9 : List (View.Piece (Elt F) S432x1024 .f32)), Σ' (L10 : List (View.Piece (Elt F) S432x4096 .bf16)), Σ' (L11 : List (View.Piece (Elt F) S432x1024 .f32)), Σ' (L12 : List (View.Piece (Elt F) S1x1024 .f32)), { L13 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13)) -∗ K ⟨⟩))
          ⊢ wp frame (wpE (defs₀ (F := F)) Variants.none c none) E (cc0_fwd_post i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0_fwd_post_eq_skeleton]; unfold cc0_fwd_post_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [H12]; · iexists _; iexact H12
    iexists _; iexact H13

end Cert.Kernel4Ideal.Post

end
-- ==== Proof.PostRunB.lean ====
/-
  The run of the body of the forward call after the mixer, with the loss, at a later grid point.
-/
module

public import proofs.«01_k».proof.Proof.PostRunA

@[expose] public section

set_option maxRecDepth 16384

noncomputable section

namespace Cert.Kernel4Ideal.Post

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel4Ideal.Gen

variable {F : FTy → Type} [FloatOps F]

local notation "𝕄" => MT nD τ sig Unit (Elt F) ℕ (UR sig nD τ) ℕ

set_option maxHeartbeats 4000000 in
/-- The body's run at a later point: on whole staging buffers, what its stores leave in each of the five result
    buffers, found by the run, and the triple. The two sums are read before they are written. -/
noncomputable def runB (c : Dev nD) (i : grid0.Coords) (arg1 : Memref sig .tc .vmem S432x1024 .f32) (harg1 : arg1.IsWhole) (arg2 : Memref sig .tc .vmem S432x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S4x1024x1024 .bf16) (harg5 : arg5.IsWhole) (arg6 : Memref sig .tc .vmem S4x1024x1024 .bf16) (harg6 : arg6.IsWhole) (arg7 : Memref sig .tc .vmem S1x1024 .f32) (harg7 : arg7.IsWhole) (arg8 : Memref sig .tc .vmem S16x1024 .f32) (harg8 : arg8.IsWhole) (arg9 : Memref sig .tc .vmem S432x1024 .f32) (harg9 : arg9.IsWhole) (arg10 : Memref sig .tc .vmem S432x1024 .f32) (harg10 : arg10.IsWhole) (arg11 : Memref sig .tc .vmem S432x4096 .bf16) (harg11 : arg11.IsWhole) (arg12 : Memref sig .tc .vmem S432x1024 .f32) (harg12 : arg12.IsWhole) (arg13 : Memref sig .tc .vmem S1x1024 .f32) (harg13 : arg13.IsWhole) (arg14 : Memref sig .tc .vmem S1x1 .f32) (harg14 : arg14.IsWhole) (hc0 : ¬cond0_0 i)
    (x0 : Vec F S432x1024 .f32) (x1 : Vec F S432x1024 .bf16) (x2 : Vec F S1024x1024 .bf16) (x3 : Vec F S1x1024 .f32) (x4 : Vec F S4x1024x1024 .bf16) (x5 : Vec F S4x1024x1024 .bf16) (x6 : Vec F S1x1024 .f32) (x7 : Vec F S16x1024 .f32) (x8 : Vec F S432x1024 .f32) (x12 : Vec F S1x1024 .f32) (x13 : Vec F S1x1 .f32) :
    Σ' (L9 : List (View.Piece (Elt F) S432x1024 .f32)), Σ' (L10 : List (View.Piece (Elt F) S432x4096 .bf16)), Σ' (L11 : List (View.Piece (Elt F) S432x1024 .f32)), Σ' (L12 : List (View.Piece (Elt F) S1x1024 .f32)), { L13 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare x12 ∗ owns (c : Thread nD τ) arg14 fullShare x13
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13)) -∗ K ⟨⟩))
          ⊢ wp frame (wpE (defs₀ (F := F)) Variants.none c none) E (cc0_fwd_post i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0_fwd_post_eq_skeleton]; unfold cc0_fwd_post_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%f13, %hf13, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hf12; obtain rfl := harg14.eq_unread hf13
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [H12]; · iexists _; iexact H12
    iexists _; iexact H13

end Cert.Kernel4Ideal.Post

end
-- ==== Proof.PostRun.lean ====
/-
  The run of the forward call after the mixer, with the loss, at any float model: the state after each grid
  point, the proof data, the body's obligation and the frame. The last target block overhangs its array; the body
  reads only the rows inside, so that what it leaves does not depend on the rest.
-/
module

public import proofs.«01_k».proof.Proof.PostRunB
public import Idealize.ShloMosaic.Lib.WholeRead

@[expose] public section

set_option maxRecDepth 16384

noncomputable section

namespace Cert.Kernel4Ideal.Post

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point leaves: the five result blocks. -/
abbrev St (F : FTy → Type) : Type :=
  Vec F S432x1024 .f32 × Vec F S432x4096 .bf16 × Vec F S432x1024 .f32 × Vec F S1x1024 .f32 × Vec F S1x1 .f32

/-- Stores that cover a buffer leave it at what they spell, whatever it held and wherever it lies. -/
theorem owns_of_stores {S : Shape} {e} (c : Dev nD) (M : Memref sig .tc .vmem S e)
    (v : View sig .tc .vmem S e) (L : List (View.Piece (Elt F) S e)) (h : ∀ y, ∃ pc ∈ L, y ∈ pc.1.set) :
    (iprop(∃ f, M.view.loc (c : Thread nD τ) ↦[M.view.set]{fullShare} M.view.writes (Elt F) f L) : sProp 𝕄)
      ⊢ owns (c : Thread nD τ) M fullShare (v.read (Elt F) (v.writes (Elt F) v.junk L)) := by
  iintro ⟨%f, H⟩
  unfold owns; iexists _; isplitr
  swap; · iexact H
  ipureintro; exact View.read_writes_of_cover _ _ _ _ _ h

abbrev VO9 : View sig .tc .vmem S432x1024 .f32 := (Memref.whole cc0_stg9_0 : Memref sig .tc .vmem S432x1024 .f32).view
abbrev VO10 : View sig .tc .vmem S432x4096 .bf16 := (Memref.whole cc0_stg10_0 : Memref sig .tc .vmem S432x4096 .bf16).view
abbrev VO11 : View sig .tc .vmem S432x1024 .f32 := (Memref.whole cc0_stg11_0 : Memref sig .tc .vmem S432x1024 .f32).view
abbrev VO12 : View sig .tc .vmem S1x1024 .f32 := (Memref.whole cc0_stg12_0 : Memref sig .tc .vmem S1x1024 .f32).view
abbrev VO13 : View sig .tc .vmem S1x1 .f32 := (Memref.whole cc0_stg13_0 : Memref sig .tc .vmem S1x1 .f32).view

/-- The body's run at the first point, on that point's blocks; the target block's buffer at `x`. -/
def attA (c : Dev nD) (t : Fin cfg0.N) (h0 : cond0_0 (grid0.coords t)) (x : Vec F S432x1024 .f32) :=
  runA (F := F) c (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (win0_8.stage (cfg0.slots t 8)) (hstage0_8 ((cfg0.slots t 8).cast nbuf0_8))
    (win0_9.stage (cfg0.slots t 9)) (hstage0_9 ((cfg0.slots t 9).cast nbuf0_9))
    (win0_10.stage (cfg0.slots t 10)) (hstage0_10 ((cfg0.slots t 10).cast nbuf0_10))
    (win0_11.stage (cfg0.slots t 11)) (hstage0_11 ((cfg0.slots t 11).cast nbuf0_11))
    (win0_12.stage (cfg0.slots t 12)) (hstage0_12 ((cfg0.slots t 12).cast nbuf0_12))
    (win0_13.stage (cfg0.slots t 13)) (hstage0_13 ((cfg0.slots t 13).cast nbuf0_13)) h0
    (iblk m c 0 t) (iblk m c 1 t) (iblk m c 2 t) (iblk m c 3 t) (iblk m c 4 t) (iblk m c 5 t) (iblk m c 6 t) (iblk m c 7 t) x

def stA (c : Dev nD) (t : Fin cfg0.N) (h0 : cond0_0 (grid0.coords t)) (x : Vec F S432x1024 .f32) : St F :=
  (VO9.read (Elt F) (VO9.writes (Elt F) VO9.junk (attA m c t h0 x).1),
   VO10.read (Elt F) (VO10.writes (Elt F) VO10.junk (attA m c t h0 x).2.1),
   VO11.read (Elt F) (VO11.writes (Elt F) VO11.junk (attA m c t h0 x).2.2.1),
   VO12.read (Elt F) (VO12.writes (Elt F) VO12.junk (attA m c t h0 x).2.2.2.1),
   VO13.read (Elt F) (VO13.writes (Elt F) VO13.junk (attA m c t h0 x).2.2.2.2.1))

theorem covA0 (c : Dev nD) (t : Fin cfg0.N) (h0 : cond0_0 (grid0.coords t)) (x : Vec F S432x1024 .f32) :
    ∀ y, ∃ pc ∈ (attA m c t h0 x).1, y ∈ pc.1.set :=
  View.cover_of_tiledL _ S432x1024.size (by sl_kernel_rfl)
theorem covA1 (c : Dev nD) (t : Fin cfg0.N) (h0 : cond0_0 (grid0.coords t)) (x : Vec F S432x1024 .f32) :
    ∀ y, ∃ pc ∈ (attA m c t h0 x).2.1, y ∈ pc.1.set :=
  View.cover_of_tiledL _ S432x1024.size (by sl_kernel_rfl)
theorem covA2 (c : Dev nD) (t : Fin cfg0.N) (h0 : cond0_0 (grid0.coords t)) (x : Vec F S432x1024 .f32) :
    ∀ y, ∃ pc ∈ (attA m c t h0 x).2.2.1, y ∈ pc.1.set :=
  View.cover_of_tiledL _ S432x1024.size (by sl_kernel_rfl)
theorem covA3 (c : Dev nD) (t : Fin cfg0.N) (h0 : cond0_0 (grid0.coords t)) (x : Vec F S432x1024 .f32) :
    ∀ y, ∃ pc ∈ (attA m c t h0 x).2.2.2.1, y ∈ pc.1.set :=
  View.cover_of_tiledL _ S1x1024.size (by sl_kernel_rfl)
theorem covA4 (c : Dev nD) (t : Fin cfg0.N) (h0 : cond0_0 (grid0.coords t)) (x : Vec F S432x1024 .f32) :
    ∀ y, ∃ pc ∈ (attA m c t h0 x).2.2.2.2.1, y ∈ pc.1.set :=
  View.cover_of_tiledL _ S1x1.size (by sl_kernel_rfl)

/-- The body's run at a later point, on that point's blocks; the target block's buffer at `x`. -/
def attB (c : Dev nD) (t : Fin cfg0.N) (h0 : ¬cond0_0 (grid0.coords t)) (x : Vec F S432x1024 .f32) (p : St F) :=
  runB (F := F) c (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (win0_8.stage (cfg0.slots t 8)) (hstage0_8 ((cfg0.slots t 8).cast nbuf0_8))
    (win0_9.stage (cfg0.slots t 9)) (hstage0_9 ((cfg0.slots t 9).cast nbuf0_9))
    (win0_10.stage (cfg0.slots t 10)) (hstage0_10 ((cfg0.slots t 10).cast nbuf0_10))
    (win0_11.stage (cfg0.slots t 11)) (hstage0_11 ((cfg0.slots t 11).cast nbuf0_11))
    (win0_12.stage (cfg0.slots t 12)) (hstage0_12 ((cfg0.slots t 12).cast nbuf0_12))
    (win0_13.stage (cfg0.slots t 13)) (hstage0_13 ((cfg0.slots t 13).cast nbuf0_13)) h0
    (iblk m c 0 t) (iblk m c 1 t) (iblk m c 2 t) (iblk m c 3 t) (iblk m c 4 t) (iblk m c 5 t) (iblk m c 6 t) (iblk m c 7 t) x p.2.2.2.1 p.2.2.2.2

def stB (c : Dev nD) (t : Fin cfg0.N) (h0 : ¬cond0_0 (grid0.coords t)) (x : Vec F S432x1024 .f32) (p : St F) : St F :=
  (VO9.read (Elt F) (VO9.writes (Elt F) VO9.junk (attB m c t h0 x p).1),
   VO10.read (Elt F) (VO10.writes (Elt F) VO10.junk (attB m c t h0 x p).2.1),
   VO11.read (Elt F) (VO11.writes (Elt F) VO11.junk (attB m c t h0 x p).2.2.1),
   VO12.read (Elt F) (VO12.writes (Elt F) VO12.junk (attB m c t h0 x p).2.2.2.1),
   VO13.read (Elt F) (VO13.writes (Elt F) VO13.junk (attB m c t h0 x p).2.2.2.2.1))

theorem covB0 (c : Dev nD) (t : Fin cfg0.N) (h0 : ¬cond0_0 (grid0.coords t)) (x : Vec F S432x1024 .f32) (p : St F) :
    ∀ y, ∃ pc ∈ (attB m c t h0 x p).1, y ∈ pc.1.set :=
  View.cover_of_tiledL _ S432x1024.size (by sl_kernel_rfl)
theorem covB1 (c : Dev nD) (t : Fin cfg0.N) (h0 : ¬cond0_0 (grid0.coords t)) (x : Vec F S432x1024 .f32) (p : St F) :
    ∀ y, ∃ pc ∈ (attB m c t h0 x p).2.1, y ∈ pc.1.set :=
  View.cover_of_tiledL _ S432x1024.size (by sl_kernel_rfl)
theorem covB2 (c : Dev nD) (t : Fin cfg0.N) (h0 : ¬cond0_0 (grid0.coords t)) (x : Vec F S432x1024 .f32) (p : St F) :
    ∀ y, ∃ pc ∈ (attB m c t h0 x p).2.2.1, y ∈ pc.1.set :=
  View.cover_of_tiledL _ S432x1024.size (by sl_kernel_rfl)
theorem covB3 (c : Dev nD) (t : Fin cfg0.N) (h0 : ¬cond0_0 (grid0.coords t)) (x : Vec F S432x1024 .f32) (p : St F) :
    ∀ y, ∃ pc ∈ (attB m c t h0 x p).2.2.2.1, y ∈ pc.1.set :=
  View.cover_of_tiledL _ S1x1024.size (by sl_kernel_rfl)
theorem covB4 (c : Dev nD) (t : Fin cfg0.N) (h0 : ¬cond0_0 (grid0.coords t)) (x : Vec F S432x1024 .f32) (p : St F) :
    ∀ y, ∃ pc ∈ (attB m c t h0 x p).2.2.2.2.1, y ∈ pc.1.set :=
  View.cover_of_tiledL _ S1x1.size (by sl_kernel_rfl)

/-- The target block filled out past its array's end with zeros. -/
def tgt (c : Dev nD) (t : Fin cfg0.N) : Vec F S432x1024 .f32 :=
  win0_8.fill (grid0.coords t) (fun _ => Scalar.ofBits .f32 0#32) (iblk m c 8 t)

theorem inside : ∀ t : Fin grid0.N, 416 ≤ win0_8.xsize (grid0.coords t) 0 ∧ 1024 ≤ win0_8.xsize (grid0.coords t) 1 := by decide

/-- The rows the body reads of the target block's buffer are the array's, whatever lies past its end. -/
theorem load_tgt (c : Dev nD) (t : Fin cfg0.N) (M : Memref sig .tc .vmem S432x1024 .f32) (h : M.IsWhole)
    (d : Vec F S432x1024 .f32) :
    M.view.readAt (Elt F) (Rect.unit (s := S432x1024) ![0, 0] S416x1024.size inb_S432x1024_S416x1024_0_0).toLoadRect
        (h.unread (win0_8.fill (grid0.coords t) d (iblk m c 8 t)))
      = M.view.readAt (Elt F) (Rect.unit (s := S432x1024) ![0, 0] S416x1024.size inb_S432x1024_S416x1024_0_0).toLoadRect
        (h.unread (tgt m c t)) := by
  funext x
  rw [h.readAt_unread, h.readAt_unread]
  unfold tgt Window.fill
  have hm : win0_8.moved (grid0.coords t)
      ((Rect.unit (s := S432x1024) ![0, 0] S416x1024.size inb_S432x1024_S416x1024_0_0).toLoadRect.idx x) = true := by
    rw [Window.moved_iff]
    intro a
    have h0 : (x 0).val < 416 := (x 0).isLt
    have h1 : (x 1).val < 1024 := (x 1).isLt
    have hi := inside t
    match a with
    | ⟨0, _⟩ => exact lt_of_lt_of_le (by show 0 + 1 * (x 0).val < 416; omega) hi.1
    | ⟨1, _⟩ => exact lt_of_lt_of_le (by show 0 + 1 * (x 1).val < 1024; omega) hi.2
  rw [dif_pos hm, dif_pos hm]

/-- What the body leaves does not depend on the buffer past the target array's end. -/
theorem stA_tgt (c : Dev nD) (t : Fin cfg0.N) (h0 : cond0_0 (grid0.coords t)) (d : Vec F S432x1024 .f32) :
    stA m c t h0 (win0_8.fill (grid0.coords t) d (iblk m c 8 t)) = stA m c t h0 (tgt m c t) := by
  unfold stA attA runA; dsimp only
  unfold runA.sl.r_11 runA.sl.r_10
  rw [load_tgt m c t]

/-- What the body leaves does not depend on the buffer past the target array's end. -/
theorem stB_tgt (c : Dev nD) (t : Fin cfg0.N) (h0 : ¬cond0_0 (grid0.coords t)) (d : Vec F S432x1024 .f32) (p : St F) :
    stB m c t h0 (win0_8.fill (grid0.coords t) d (iblk m c 8 t)) p = stB m c t h0 (tgt m c t) p := by
  unfold stB attB runB; dsimp only
  unfold runB.sl.r_11 runB.sl.r_10
  rw [load_tgt m c t]

theorem not_first (n : ℕ) (hn : n + 1 < cfg0.N) : ¬cond0_0 (grid0.coords ⟨n + 1, hn⟩) := fun h => by
  have := (hcond0_0 ⟨n + 1, hn⟩).mp h; have : n + 1 < 19 := lt_of_lt_of_eq hn N_0; dsimp only at *; omega

/-- The five result blocks after each point. -/
def state (c : Dev nD) : (n : ℕ) → n < cfg0.N → St F
  | 0, hn => stA m c ⟨0, hn⟩ ((hcond0_0 _).mpr rfl) (tgt m c ⟨0, hn⟩)
  | n + 1, hn => stB m c ⟨n + 1, hn⟩ (not_first n hn) (tgt m c ⟨n + 1, hn⟩) (state c n (Nat.lt_of_succ_lt hn))

theorem state_A (c : Dev nD) (t : Fin cfg0.N) (hz : t.val = 0) (h0 : cond0_0 (grid0.coords t)) :
    state m c t.val t.isLt = stA m c t h0 (tgt m c t) := by
  obtain ⟨n, hn⟩ := t; dsimp only at hz; subst hz; rw [state]

theorem state_B (c : Dev nD) (t : Fin cfg0.N) (hz : t.val ≠ 0) (h0 : ¬cond0_0 (grid0.coords t)) :
    state m c t.val t.isLt
      = stB m c t h0 (tgt m c t) (state m c (t.val - 1) (lt_of_le_of_lt (Nat.sub_le _ _) t.isLt)) := by
  obtain ⟨n, hn⟩ := t
  cases n with
  | zero => exact absurd rfl hz
  | succ n => rw [state]; rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => tgt m c t
    | ⟨9, _⟩ => (state m c t.val t.isLt).1
    | ⟨10, _⟩ => (state m c t.val t.isLt).2.1
    | ⟨11, _⟩ => (state m c t.val t.isLt).2.2.1
    | ⟨12, _⟩ => (state m c t.val t.isLt).2.2.2.1
    | ⟨13, _⟩ => (state m c t.val t.isLt).2.2.2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = tgt m c t := by dsimp only [dats]
theorem after9 (c : Dev nD) (t : Fin cfg0.N) : (dats m 0 c).after 9 t = (state m c t.val t.isLt).1 := by dsimp only [dats]
theorem after10 (c : Dev nD) (t : Fin cfg0.N) : (dats m 0 c).after 10 t = (state m c t.val t.isLt).2.1 := by dsimp only [dats]
theorem after11 (c : Dev nD) (t : Fin cfg0.N) : (dats m 0 c).after 11 t = (state m c t.val t.isLt).2.2.1 := by dsimp only [dats]
theorem after12 (c : Dev nD) (t : Fin cfg0.N) : (dats m 0 c).after 12 t = (state m c t.val t.isLt).2.2.2.1 := by dsimp only [dats]
theorem after13 (c : Dev nD) (t : Fin cfg0.N) : (dats m 0 c).after 13 t = (state m c t.val t.isLt).2.2.2.2 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) :
    (dats m 0 c).before 8 t d = win0_8.fill (grid0.coords t) d (iblk m c 8 t) := by
  unfold Dat.before; rw [if_pos (fetch0_8 t)]; rfl
theorem before12 (c : Dev nD) (t : Fin cfg0.N) (h : t.val ≠ 0) (d) :
    (dats m 0 c).before 12 t d = (state m c (t.val - 1) (lt_of_le_of_lt (Nat.sub_le _ _) t.isLt)).2.2.2.1 := by
  have : t.val < 19 := lt_of_lt_of_eq t.isLt N_0
  rw [Dat.before_out_kept _ 12 rfl t (by omega) (Bool.eq_false_iff.mpr fun h => by
    have := (flush0_12 _).mp h; dsimp only at this; omega) (fun _ => rfl) (fun _ _ => rfl)]
  dsimp only [dats]
theorem before13 (c : Dev nD) (t : Fin cfg0.N) (h : t.val ≠ 0) (d) :
    (dats m 0 c).before 13 t d = (state m c (t.val - 1) (lt_of_le_of_lt (Nat.sub_le _ _) t.isLt)).2.2.2.2 := by
  have : t.val < 19 := lt_of_lt_of_eq t.isLt N_0
  rw [Dat.before_out_kept _ 13 rfl t (by omega) (Bool.eq_false_iff.mpr fun h => by
    have := (flush0_13 _).mp h; dsimp only at this; omega) (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ (∃ d, owns (c : Thread nD τ) (win0_8.stage (cfg0.slots t 8)) fullShare
        (win0_8.fill (grid0.coords t) d (win0_8.cut (grid0.coords t) ((dats m 0 c).after 8 t))))
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t))

set_option maxHeartbeats 19200000 in
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).owesAt () t.succ = (dats m 0 c).owesAt () t.castSucc from rfl,
    show (dats m 0 c).Φ t.succ = (dats m 0 c).Φ t.castSucc from rfl,
    after0, after1, after2, after3, after4, after5, after6, after7, after8, after9, after10, after11, after12, after13]
  have hcut : win0_8.cut (grid0.coords t) (tgt m c t) = iblk m c 8 t := win0_8.cut_fill _ _ _
  rw [hcut]
  have hN : t.val < 19 := lt_of_lt_of_eq t.isLt (show cfg0.N = 19 from N_0)
  by_cases h0 : cond0_0 (grid0.coords t)
  · have hz : t.val = 0 := by have := (hcond0_0 t).mp h0; omega
    rw [state_A m c t hz h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    rw [← stA_tgt m c t h0 d8]
    unfold stA; dsimp only
    iapply ((attA m c t h0 (win0_8.fill (grid0.coords t) d8 (iblk m c 8 t))).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists d8; iexact H8
    isplitl [H9]; · iapply (owns_of_stores c (win0_9.stage (cfg0.slots t 9)) VO9 _ (covA0 m c t h0 _)); iexact H9
    isplitl [H10]; · iapply (owns_of_stores c (win0_10.stage (cfg0.slots t 10)) VO10 _ (covA1 m c t h0 _)); iexact H10
    isplitl [H11]; · iapply (owns_of_stores c (win0_11.stage (cfg0.slots t 11)) VO11 _ (covA2 m c t h0 _)); iexact H11
    isplitl [H12]; · iapply (owns_of_stores c (win0_12.stage (cfg0.slots t 12)) VO12 _ (covA3 m c t h0 _)); iexact H12
    iapply (owns_of_stores c (win0_13.stage (cfg0.slots t 13)) VO13 _ (covA4 m c t h0 _)); iexact H13
  · have hz : t.val ≠ 0 := fun h => h0 ((hcond0_0 t).mpr (by rw [h]))
    simp only [before12 m c t hz, before13 m c t hz]
    rw [state_B m c t hz h0]
    generalize state m c (t.val - 1) (lt_of_le_of_lt (Nat.sub_le _ _) t.isLt) = p
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    rw [← stB_tgt m c t h0 d8 p]
    unfold stB; dsimp only
    iapply ((attB m c t h0 (win0_8.fill (grid0.coords t) d8 (iblk m c 8 t)) p).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexact H12
    isplitl [H13]; · iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists d8; iexact H8
    isplitl [H9]; · iapply (owns_of_stores c (win0_9.stage (cfg0.slots t 9)) VO9 _ (covB0 m c t h0 _ _)); iexact H9
    isplitl [H10]; · iapply (owns_of_stores c (win0_10.stage (cfg0.slots t 10)) VO10 _ (covB1 m c t h0 _ _)); iexact H10
    isplitl [H11]; · iapply (owns_of_stores c (win0_11.stage (cfg0.slots t 11)) VO11 _ (covB2 m c t h0 _ _)); iexact H11
    isplitl [H12]; · iapply (owns_of_stores c (win0_12.stage (cfg0.slots t 12)) VO12 _ (covB3 m c t h0 _ _)); iexact H12
    iapply (owns_of_stores c (win0_13.stage (cfg0.slots t 13)) VO13 _ (covB4 m c t h0 _ _)); iexact H13

theorem defs_row (t : Fin cfg0.N) : defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  rw [bigSep_W0, bigSep_W0, defs_row]
  exact body_sound m c t

set_option backward.isDefEq.respectTransparency.types false in
/-- Every run ends, with every array of the call at what the proof data say and every counter at zero. -/
theorem run_main : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := body_obligation m) (hq := fun _ _ _ => rfl) (howed := fun _ _ => rfl)
    (V := V m) (hmain := hmain m Variants.none) (hA := A_eq m) (hΦ := fun _ _ => rfl)

theorem run_post : θ_run defs (onTc (τ := τ) (main (F := F))) (s₀ m ρ) (Pipeline.FramePost cfgs (dats m) 0 (V m)) :=
  (θ_run defs _ _).mono (fun _ h => h.1) (run_main m ρ)

/-- The frame at any float model. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_post m ρ))
    ((θ_run defs _ _).mono (fun _ h => h.2) (run_main m ρ))

end Cert.Kernel4Ideal.Post

end
-- ==== Proof.PostA.lean ====
/- The tiles of the forward call after the mixer, read as functions of the arguments: the residual rows, the normalised rows, the
   hidden rows and the rows after the MLP. -/
module

public import proofs.«01_k».proof.Proof.Common
public import proofs.«01_k».proof.Proof.Real
public import proofs.«01_k».proof.Proof.PostRun
public import Idealize.ShloMosaic.Lib.Pipeline.ReadBack
public import Idealize.ShloMosaic.Lib.KernelVsHost
public import proofs.«01_k».proof.Proof.Gen.Reference4Ideal.Read

@[expose] public section

set_option maxRecDepth 16384
set_option maxHeartbeats 1000000

noncomputable section

namespace Cert.Proof.Post

open Idealize.ShloMosaic Idealize.ShloMosaic.TcCoe Idealize.ShloMosaic.Tactic Idealize.SL.Sem

open Cert.Kernel4Ideal Cert.Kernel4Ideal.Gen Cert.Kernel4Ideal.Post

open Cert.Reference4Ideal.Read

variable (m : (ℓ : Loc nD τ sig) → Buf (Elt Ideal) ℓ) (c : Dev nD)

/-- The arguments at their own types. -/
def H : S8208x1024.Idx → EReal := m ((c : Thread nD τ).loc main_arg0)
def Y : S8208x1024.Idx → EReal := m ((c : Thread nD τ).loc main_arg1)
def O : S1024x1024.Idx → EReal := m ((c : Thread nD τ).loc main_arg2)
def G : S1024.Idx → EReal := m ((c : Thread nD τ).loc main_arg3)
def U : S1024x4096.Idx → EReal := m ((c : Thread nD τ).loc main_arg4)
def W : S4096x1024.Idx → EReal := m ((c : Thread nD τ).loc main_arg5)
def B : S1024.Idx → EReal := m ((c : Thread nD τ).loc main_arg6)
def X : S8192x1024.Idx → EReal := m ((c : Thread nD τ).loc main_arg7)
/-- The region's entry arrays at their own types. -/
def EH : S8208x1024.Idx → EReal := V m c main_arg0
def EY : S8208x1024.Idx → EReal := V m c main_v6
def EO : S1024x1024.Idx → EReal := V m c main_v0
def EG : S1x1024.Idx → EReal := V m c main_v7
def EU : S4x1024x1024.Idx → EReal := V m c main_v3
def EW : S4x1024x1024.Idx → EReal := V m c main_v5
def EB : S1x1024.Idx → EReal := V m c main_v8
def EX : S8192x1024.Idx → EReal := V m c main_arg7

theorem eH : EH m c = H m c := by
  show StableHlo.after hostOps0 _ _ = _
  after_results_simp
  rfl
theorem eY : EY m c = Y m c := by
  show StableHlo.after hostOps0 _ _ = _
  after_results_simp
  rfl
theorem eO : EO m c = O m c := by
  show StableHlo.after hostOps0 _ _ = _
  after_results_simp
  rfl
theorem eX : EX m c = X m c := by
  show StableHlo.after hostOps0 _ _ = _
  after_results_simp
  rfl

theorem eG (k : Fin 1024) : EG m c (ix2 0 k) = G m c (ix1 k) := by
  have h : EG m c = broadcastInDim S1x1024 ![1] bcast_S1024_S1x1024_1 (G m c) := by
    show StableHlo.after hostOps0 _ _ = _
    after_results_simp
    rfl
  rw [h]
  pointwise []

theorem eB (k : Fin 1024) : EB m c (ix2 0 k) = B m c (ix1 k) := by
  have h : EB m c = broadcastInDim S1x1024 ![1] bcast_S1024_S1x1024_1 (B m c) := by
    show StableHlo.after hostOps0 _ _ = _
    after_results_simp
    rfl
  rw [h]
  pointwise []

/-- Column `k` of quarter `q`, as a hidden column. -/
abbrev hid (q : Fin 4) (e : Fin 1024) : Fin 4096 := ⟨q.val * 1024 + e.val, by have := q.isLt; have := e.isLt; omega⟩

theorem eU (q : Fin 4) (k e : Fin 1024) : EU m c (ix3 q k e) = U m c (ix2 k (hid q e)) := by
  have h : EU m c = transpose S4x1024x1024 [1, 0, 2]
      (shapeCast _ (truncf (F := Ideal) .bf16 (U m c : FVec Ideal S1024x4096 .f32) bitsLt_bf16_f32) shapeCasts_S1024x4096_S1024x4x1024)
      transposes_S1024x4x1024_S4x1024x1024_1_0_2 := by
    show StableHlo.after hostOps0 _ _ = _
    after_results_simp
    rfl
  rw [h]
  pointwise []

theorem eW (q : Fin 4) (e k : Fin 1024) : EW m c (ix3 q e k) = W m c (ix2 (hid q e) k) := by
  have h : EW m c = shapeCast _ (truncf (F := Ideal) .bf16 (W m c : FVec Ideal S4096x1024 .f32) bitsLt_bf16_f32) shapeCasts_S4096x1024_S4x1024x1024 := by
    show StableHlo.after hostOps0 _ _ = _
    after_results_simp
    rfl
  rw [h]
  pointwise []

theorem idx : ∀ t : Fin cfg0.N, win0_0.index t = ![t.val, 0] ∧ win0_1.index t = ![t.val, 0] ∧ win0_2.index t = ![0, 0]
    ∧ win0_3.index t = ![0, 0] ∧ win0_4.index t = ![0, 0, 0] ∧ win0_5.index t = ![0, 0, 0] ∧ win0_6.index t = ![0, 0]
    ∧ win0_9.index t = ![t.val, 0] ∧ win0_10.index t = ![t.val, 0] ∧ win0_12.index t = ![0, 0] ∧ win0_13.index t = ![0, 0] :=
  (by decide +kernel : ∀ t : Fin grid0.N, _)

/-- Row `s` of tile `n`, as a row of the array. -/
abbrev row (n : Nat) (hn : n < cfg0.N) (s : Fin 432) : Fin 8208 :=
  ⟨n * 432 + s.val, by have := s.isLt; have := lt_of_lt_of_eq hn (show cfg0.N = 19 from N_0); omega⟩

theorem blk0 (n : Nat) (h : n < cfg0.N) (s : Fin 432) (k : Fin 1024) :
    (iblk m c 0 ⟨n, h⟩ : FVec Ideal S432x1024 .f32) (ix2 s k) = EH m c (ix2 (row n h s) k) := by
  blk_ext [iblk, EH, idx ⟨n, h⟩]
theorem blk1 (n : Nat) (h : n < cfg0.N) (s : Fin 432) (k : Fin 1024) :
    (iblk m c 1 ⟨n, h⟩ : FVec Ideal S432x1024 .bf16) (ix2 s k) = EY m c (ix2 (row n h s) k) := by
  blk_ext [iblk, EY, idx ⟨n, h⟩]
theorem blk2 (n : Nat) (h : n < cfg0.N) (s k : Fin 1024) :
    (iblk m c 2 ⟨n, h⟩ : FVec Ideal S1024x1024 .bf16) (ix2 s k) = EO m c (ix2 s k) := by
  blk_ext [iblk, EO, idx ⟨n, h⟩]
theorem blk3 (n : Nat) (h : n < cfg0.N) (k : Fin 1024) :
    (iblk m c 3 ⟨n, h⟩ : FVec Ideal S1x1024 .f32) (ix2 0 k) = EG m c (ix2 0 k) := by
  blk_ext [iblk, EG, idx ⟨n, h⟩]
theorem blk4 (n : Nat) (h : n < cfg0.N) (q : Fin 4) (k e : Fin 1024) :
    (iblk m c 4 ⟨n, h⟩ : FVec Ideal S4x1024x1024 .bf16) (ix3 q k e) = EU m c (ix3 q k e) := by
  blk_ext [iblk, EU, idx ⟨n, h⟩]
theorem blk5 (n : Nat) (h : n < cfg0.N) (q : Fin 4) (k e : Fin 1024) :
    (iblk m c 5 ⟨n, h⟩ : FVec Ideal S4x1024x1024 .bf16) (ix3 q k e) = EW m c (ix3 q k e) := by
  blk_ext [iblk, EW, idx ⟨n, h⟩]
theorem blk6 (n : Nat) (h : n < cfg0.N) (k : Fin 1024) :
    (iblk m c 6 ⟨n, h⟩ : FVec Ideal S1x1024 .f32) (ix2 0 k) = EB m c (ix2 0 k) := by
  blk_ext [iblk, EB, idx ⟨n, h⟩]

theorem ldU (n : Nat) (h : n < cfg0.N) (q : Fin 4) (o : Nat) (ho : o = q.val) (inb) (k e : Fin 1024) :
    View.ld (iblk m c 4 ⟨n, h⟩ : FVec Ideal S4x1024x1024 .bf16) (Rect.unit ![o, 0, 0] ![1, 1024, 1024] inb) (ix3 0 k e) = U m c (ix2 k (hid q e)) := by
  subst ho
  refine Eq.trans (congrArg (iblk m c 4 ⟨n, h⟩ : FVec Ideal S4x1024x1024 .bf16) ?_) ((blk4 m c n h q k e).trans (eU m c q k e))
  funext a
  apply Fin.ext
  match a with
  | ⟨0, _⟩ => show q.val + 1 * 0 = q.val; omega
  | ⟨1, _⟩ => show 0 + 1 * k.val = k.val; omega
  | ⟨2, _⟩ => show 0 + 1 * e.val = e.val; omega

theorem ldW (n : Nat) (h : n < cfg0.N) (q : Fin 4) (o : Nat) (ho : o = q.val) (inb) (e d : Fin 1024) :
    View.ld (iblk m c 5 ⟨n, h⟩ : FVec Ideal S4x1024x1024 .bf16) (Rect.unit ![o, 0, 0] ![1, 1024, 1024] inb) (ix3 0 e d) = W m c (ix2 (hid q e) d) := by
  subst ho
  refine Eq.trans (congrArg (iblk m c 5 ⟨n, h⟩ : FVec Ideal S4x1024x1024 .bf16) ?_) ((blk5 m c n h q e d).trans (eW m c q e d))
  funext a
  apply Fin.ext
  match a with
  | ⟨0, _⟩ => show q.val + 1 * 0 = q.val; omega
  | ⟨1, _⟩ => show 0 + 1 * e.val = e.val; omega
  | ⟨2, _⟩ => show 0 + 1 * d.val = d.val; omega

/-- The residual rows, the mean square of a row plus the constant, the normalised and scaled rows, the hidden rows. -/
def H1 (t : Fin 8208) (k : Fin 1024) : EReal := H m c (ix2 t k) + ∑ j : Fin 1024, Y m c (ix2 t j) * O m c (ix2 j k)
def VV (t : Fin 8208) : EReal :=
  Ideal.div (∑ j : Fin 1024, H1 m c t j * H1 m c t j) (Ideal.ofBits .f32 0x44800000#32) + Ideal.ofBits .f32 0x358637BD#32
def XN (t : Fin 8208) (k : Fin 1024) : EReal := H1 m c t k * Ideal.rsqrt (VV m c t) * G m c (ix1 k)
def A (t : Fin 8208) (e : Fin 4096) : EReal := ∑ k : Fin 1024, XN m c t k * U m c (ix2 k e)
/-- The rows after the MLP. -/
def H2 (t : Fin 8208) (k : Fin 1024) : EReal := H1 m c t k + ∑ e : Fin 4096, max (A m c t e) 0 * max (A m c t e) 0 * W m c (ix2 e k)

theorem ref_h1 (t : Fin 8208) (k : Fin 1024) : val_main_v1 (F := Ideal) (H m c) (Y m c) (O m c) (ix2 t k) = H1 m c t k := by
  pointwise [val_main_v1, val_main_v0, H1]

theorem ref_v (t : Fin 8208) : val_main_v8 (F := Ideal) (H m c) (Y m c) (O m c) (ix2 t 0) = VV m c t := by
  pointwise [val_main_v8, val_main_v7, val_main_v6, val_main_v5, val_main_v4, val_main_v3, val_main_v2, val_main_cst, val_main_cst_0, val_main_cst_1, ref_h1, VV]

theorem ref_xn (t : Fin 8208) (k : Fin 1024) : val_main_v14 (F := Ideal) (H m c) (Y m c) (O m c) (G m c) (ix2 t k) = XN m c t k := by
  pointwise [val_main_v14, val_main_v13, val_main_v12, val_main_v11, val_main_v10, val_main_v9, ref_h1, ref_v, XN]

theorem ref_a (t : Fin 8208) (e : Fin 4096) : val_main_v15 (F := Ideal) (H m c) (Y m c) (O m c) (G m c) (U m c) (ix2 t e) = A m c t e := by
  pointwise [val_main_v15, ref_xn, A]

theorem ref_h2 (t : Fin 8208) (k : Fin 1024) : val_main_v19 (F := Ideal) (H m c) (Y m c) (O m c) (G m c) (U m c) (W m c) (ix2 t k) = H2 m c t k := by
  pointwise [val_main_v19, val_main_v18, val_main_v17, val_main_v16, val_main_call0_v0, val_main_call0_cst, ref_h1, ref_a, H2]

/-- The body's values in tile `t`: the residual rows, the normalised rows. -/
def h1B (t : Fin cfg0.N) : FVec Ideal S432x1024 .f32 := k0_pay1 (iblk m c 0 t) (iblk m c 1 t) (iblk m c 2 t)
def xnB (t : Fin cfg0.N) : FVec Ideal S432x1024 .bf16 := k0_pay2 (iblk m c 0 t) (iblk m c 1 t) (iblk m c 2 t) (iblk m c 3 t)

theorem h1B_apply (n : Nat) (h : n < cfg0.N) (s : Fin 432) (k : Fin 1024) : h1B m c ⟨n, h⟩ (ix2 s k) = H1 m c (row n h s) k := by
  pointwise [h1B, k0_pay1, blk0, blk1, blk2, eH, eY, eO, H1]

theorem xnB_apply (n : Nat) (h : n < cfg0.N) (s : Fin 432) (k : Fin 1024) : xnB m c ⟨n, h⟩ (ix2 s k) = XN m c (row n h s) k := by
  have e : ∀ j, k0_pay1 (F := Ideal) (iblk m c 0 ⟨n, h⟩) (iblk m c 1 ⟨n, h⟩) (iblk m c 2 ⟨n, h⟩) (ix2 s j) = H1 m c (row n h s) j := h1B_apply m c n h s
  pointwise [xnB, k0_pay2, e, blk3, eG, XN, VV]

theorem pay6 (x : FVec Ideal S432x1024 .bf16) (u : FVec Ideal S1x1024x1024 .bf16) (s : Fin 432) (e : Fin 1024) :
    k0_pay6 (F := Ideal) x u (ix2 s e) = ∑ k : Fin 1024, x (ix2 s k) * u (ix3 0 k e) := by
  pointwise [k0_pay6]

/-- A quarter of the hidden rows. -/
theorem aB_apply (n : Nat) (h : n < cfg0.N) (q : Fin 4) (o : Nat) (ho : o = q.val) (inb) (s : Fin 432) (e : Fin 1024) :
    k0_pay6 (F := Ideal) (xnB m c ⟨n, h⟩) (View.ld (iblk m c 4 ⟨n, h⟩ : FVec Ideal S4x1024x1024 .bf16) (Rect.unit ![o, 0, 0] ![1, 1024, 1024] inb)) (ix2 s e)
      = A m c (row n h s) (hid q e) := by
  rw [pay6]
  exact Finset.sum_congr rfl fun k _ => congrArg₂ (· * ·) (xnB_apply m c n h s k) (ldU m c n h q o ho inb k e)

theorem pay3 (v0 : FVec Ideal S432x1024 .f32) (v1 : FVec Ideal S432x1024 .bf16) (v3 : FVec Ideal S1024x1024 .bf16) (v18 : FVec Ideal S1x1024 .f32) (u : FVec Ideal S1x1024x1024 .bf16) :
    k0_pay3 (F := Ideal) v0 v1 v3 v18 u = k0_pay6 (F := Ideal) (k0_pay2 v0 v1 v3 v18) u := by
  unfold k0_pay3 k0_pay6
  rfl
theorem pay12 (x : FVec Ideal S432x1024 .bf16) (u : FVec Ideal S1x1024x1024 .bf16) :
    k0_pay12 (F := Ideal) x (k0_pay11 u) (constant S432x1024 .f32 0x00000000#32) = k0_pay6 (F := Ideal) x u := by
  unfold k0_pay12 k0_pay11 k0_pay6
  rfl
theorem pay8 (x : FVec Ideal S432x1024 .bf16) (u : FVec Ideal S1x1024x1024 .bf16) : k0_pay8 (F := Ideal) x u = k0_pay6 (F := Ideal) x u := by
  unfold k0_pay8 k0_pay6
  rfl
theorem pay4 (v0 : FVec Ideal S432x1024 .f32) (v1 : FVec Ideal S432x1024 .bf16) (v3 : FVec Ideal S1024x1024 .bf16) (v18 : FVec Ideal S1x1024 .f32) (u : FVec Ideal S1x1024x1024 .bf16)
    (i : S432x1024.Idx) : k0_pay4 (F := Ideal) v0 v1 v3 v18 u i = k0_pay6 (F := Ideal) (k0_pay2 v0 v1 v3 v18) u i := by
  unfold k0_pay4
  rw [pay3]
  rfl
theorem pay9 (x : FVec Ideal S432x1024 .bf16) (u : FVec Ideal S1x1024x1024 .bf16) (i : S432x1024.Idx) : k0_pay9 (F := Ideal) x u i = k0_pay6 (F := Ideal) x u i := by
  unfold k0_pay9
  rw [pay8]
  rfl
theorem pay13 (x : FVec Ideal S432x1024 .bf16) (u : FVec Ideal S1x1024x1024 .bf16) (i : S432x1024.Idx) :
    k0_pay13 (F := Ideal) x (k0_pay11 u) (constant S432x1024 .f32 0x00000000#32) i = k0_pay6 (F := Ideal) x u i := by
  unfold k0_pay13
  rw [pay12]
  rfl

/-- The square of a quarter's rectified rows times the quarter's rows of the second matrix. -/
def sq (x : FVec Ideal S432x1024 .bf16) (u w : FVec Ideal S1x1024x1024 .bf16) (s : Fin 432) (k : Fin 1024) : EReal :=
  ∑ e : Fin 1024, max (k0_pay6 (F := Ideal) x u (ix2 s e)) 0 * max (k0_pay6 (F := Ideal) x u (ix2 s e)) 0 * w (ix3 0 e k)

/-- The rows after the MLP: the residual rows, then the four quarters' products in order. -/
theorem pay14 (v0 : FVec Ideal S432x1024 .f32) (v1 : FVec Ideal S432x1024 .bf16) (v3 : FVec Ideal S1024x1024 .bf16) (v18 : FVec Ideal S1x1024 .f32)
    (u0 w0 u1 w1 u2 w2 u3 w3 : FVec Ideal S1x1024x1024 .bf16) (s : Fin 432) (k : Fin 1024) :
    k0_pay14 (F := Ideal) (k0_pay2 v0 v1 v3 v18) (k0_pay10 (k0_pay1 v0 v1 v3) (k0_pay2 v0 v1 v3 v18) (k0_pay5 v0 v1 v3 v18 u0) w0 u1 w1 u2 w2) (k0_pay11 u3)
        (constant S432x1024 .f32 0x00000000#32) w3 (ix2 s k)
      = k0_pay1 (F := Ideal) v0 v1 v3 (ix2 s k) + sq (k0_pay2 v0 v1 v3 v18) u0 w0 s k + sq (k0_pay2 v0 v1 v3 v18) u1 w1 s k
        + sq (k0_pay2 v0 v1 v3 v18) u2 w2 s k + sq (k0_pay2 v0 v1 v3 v18) u3 w3 s k := by
  unfold k0_pay14 k0_pay10 k0_pay5
  rw [pay3, pay8, pay12]
  generalize k0_pay2 (F := Ideal) v0 v1 v3 v18 = x
  generalize k0_pay1 (F := Ideal) v0 v1 v3 = y
  unfold sq
  generalize k0_pay6 (F := Ideal) x u0 = a0
  generalize k0_pay6 (F := Ideal) x u1 = a1
  generalize k0_pay6 (F := Ideal) x u2 = a2
  generalize k0_pay6 (F := Ideal) x u3 = a3
  pointwise []

theorem sq_blk (n : Nat) (h : n < cfg0.N) (q : Fin 4) (o : Nat) (ho : o = q.val) (i j) (s : Fin 432) (k : Fin 1024) :
    sq (xnB m c ⟨n, h⟩) (View.ld (iblk m c 4 ⟨n, h⟩ : FVec Ideal S4x1024x1024 .bf16) (Rect.unit ![o, 0, 0] ![1, 1024, 1024] i))
      (View.ld (iblk m c 5 ⟨n, h⟩ : FVec Ideal S4x1024x1024 .bf16) (Rect.unit ![o, 0, 0] ![1, 1024, 1024] j)) s k
      = ∑ e : Fin 1024, max (A m c (row n h s) (hid q e)) 0 * max (A m c (row n h s) (hid q e)) 0 * W m c (ix2 (hid q e) k) := by
  unfold sq
  refine Finset.sum_congr rfl fun e _ => ?_
  rw [aB_apply m c n h q o ho i, ldW m c n h q o ho j]

/-- The rows after the MLP as the body holds them in tile `t`. -/
def h2B (t : Fin cfg0.N) : FVec Ideal S432x1024 .f32 :=
  k0_pay14 (k0_pay2 (iblk m c 0 t) (iblk m c 1 t) (iblk m c 2 t) (iblk m c 3 t))
    (k0_pay10 (k0_pay1 (iblk m c 0 t) (iblk m c 1 t) (iblk m c 2 t)) (k0_pay2 (iblk m c 0 t) (iblk m c 1 t) (iblk m c 2 t) (iblk m c 3 t))
      (k0_pay5 (iblk m c 0 t) (iblk m c 1 t) (iblk m c 2 t) (iblk m c 3 t) (View.ld (iblk m c 4 t) (Rect.unit ![0, 0, 0] ![1, 1024, 1024] inb_S4x1024x1024_S1x1024x1024_0_0_0)))
      (View.ld (iblk m c 5 t) (Rect.unit ![0, 0, 0] ![1, 1024, 1024] inb_S4x1024x1024_S1x1024x1024_0_0_0))
      (View.ld (iblk m c 4 t) (Rect.unit ![1, 0, 0] ![1, 1024, 1024] inb_S4x1024x1024_S1x1024x1024_1_0_0))
      (View.ld (iblk m c 5 t) (Rect.unit ![1, 0, 0] ![1, 1024, 1024] inb_S4x1024x1024_S1x1024x1024_1_0_0))
      (View.ld (iblk m c 4 t) (Rect.unit ![2, 0, 0] ![1, 1024, 1024] inb_S4x1024x1024_S1x1024x1024_2_0_0))
      (View.ld (iblk m c 5 t) (Rect.unit ![2, 0, 0] ![1, 1024, 1024] inb_S4x1024x1024_S1x1024x1024_2_0_0)))
    (k0_pay11 (View.ld (iblk m c 4 t) (Rect.unit ![3, 0, 0] ![1, 1024, 1024] inb_S4x1024x1024_S1x1024x1024_3_0_0)))
    (constant S432x1024 .f32 0x00000000#32)
    (View.ld (iblk m c 5 t) (Rect.unit ![3, 0, 0] ![1, 1024, 1024] inb_S4x1024x1024_S1x1024x1024_3_0_0))

theorem h2B_apply (n : Nat) (h : n < cfg0.N) (s : Fin 432) (k : Fin 1024) : h2B m c ⟨n, h⟩ (ix2 s k) = H2 m c (row n h s) k := by
  unfold h2B H2
  rw [pay14, Fin.sum_univ_tiles 4 1024 rfl, Fin.sum_univ_four, ← add_assoc, ← add_assoc, ← add_assoc]
  refine congrArg₂ (· + ·) (congrArg₂ (· + ·) (congrArg₂ (· + ·) (congrArg₂ (· + ·) (h1B_apply m c n h s k) ?_) ?_) ?_) ?_
  · exact sq_blk m c n h 0 _ rfl _ _ s k
  · exact sq_blk m c n h 1 _ rfl _ _ s k
  · exact sq_blk m c n h 2 _ rfl _ _ s k
  · exact sq_blk m c n h 3 _ rfl _ _ s k

end Cert.Proof.Post

end
-- ==== Proof.PostB.lean ====
/- The forward call after the mixer: the residual rows and the hidden rows over the whole array. -/
module

public import proofs.«01_k».proof.Proof.PostA

@[expose] public section

set_option maxRecDepth 16384
set_option maxHeartbeats 1000000

noncomputable section

namespace Cert.Proof.Post

open Idealize.ShloMosaic Idealize.ShloMosaic.TcCoe Idealize.ShloMosaic.Tactic Idealize.SL.Sem

open Cert.Kernel4Ideal Cert.Kernel4Ideal.Gen Cert.Kernel4Ideal.Post

open Cert.Reference4Ideal.Read

variable (m : (ℓ : Loc nD τ sig) → Buf (Elt Ideal) ℓ) (c : Dev nD)

theorem isFirst {t : Fin cfg0.N} (h0 : cond0_0 (grid0.coords t)) : t.val = 0 := by
  have := (hcond0_0 t).mp h0
  have : t.val < 19 := lt_of_lt_of_eq t.isLt N_0
  omega
theorem notFirst {t : Fin cfg0.N} (h0 : ¬cond0_0 (grid0.coords t)) : t.val ≠ 0 := fun h => h0 ((hcond0_0 t).mpr (by rw [h]))

/-- The residual rows of a tile. -/
theorem out9 (t : Fin cfg0.N) : (state m c t.val t.isLt).1 = h1B m c t := by
  by_cases h0 : cond0_0 (grid0.coords t)
  · rw [state_A m c t (isFirst h0) h0]
    unfold stA attA runA; frame_out
    rfl
  · rw [state_B m c t (notFirst h0) h0]
    unfold stB attB runB; frame_out
    rfl

/-- A quarter's columns of the hidden rows. -/
theorem close_a (n : Nat) (l : n < cfg0.N) (y : S432x4096.Idx) (q : Fin 4) (o : Nat) (ho : o = q.val * 1024) (v : FVec Ideal S432x1024 .bf16)
    (hv : ∀ s e, v (ix2 s e) = A m c (row n l s) (hid q e)) (x : S432x1024.Idx) (e0 : (y 0).val = (x 0).val) (e1 : (y 1).val = o + (x 1).val) :
    v x = A m c (row n l (y 0)) (y 1) := by
  subst ho
  idx_vars x
  rw [hv]
  exact congrArg₂ (A m c) (Fin.ext (congrArg (n * 432 + ·) e0.symm)) (Fin.ext e1.symm)

theorem out10 (t : Fin cfg0.N) (y : S432x4096.Idx) : (state m c t.val t.isLt).2.1 y = A m c (row t.val t.isLt (y 0)) (y 1) := by
  have k0 : ∀ s e, k0_pay4 (F := Ideal) (iblk m c 0 t) (iblk m c 1 t) (iblk m c 2 t) (iblk m c 3 t)
      (View.ld (iblk m c 4 t : FVec Ideal S4x1024x1024 .bf16) (Rect.unit ![0, 0, 0] ![1, 1024, 1024] inb_S4x1024x1024_S1x1024x1024_0_0_0)) (ix2 s e) = A m c (row t.val t.isLt s) (hid 0 e) :=
    fun s e => (pay4 _ _ _ _ _ _).trans (aB_apply m c t.val t.isLt 0 0 rfl _ s e)
  have k1 : ∀ s e, k0_pay7 (F := Ideal) (xnB m c t)
      (View.ld (iblk m c 4 t : FVec Ideal S4x1024x1024 .bf16) (Rect.unit ![1, 0, 0] ![1, 1024, 1024] inb_S4x1024x1024_S1x1024x1024_1_0_0)) (ix2 s e) = A m c (row t.val t.isLt s) (hid 1 e) :=
    fun s e => aB_apply m c t.val t.isLt 1 1 rfl _ s e
  have k2 : ∀ s e, k0_pay9 (F := Ideal) (xnB m c t)
      (View.ld (iblk m c 4 t : FVec Ideal S4x1024x1024 .bf16) (Rect.unit ![2, 0, 0] ![1, 1024, 1024] inb_S4x1024x1024_S1x1024x1024_2_0_0)) (ix2 s e) = A m c (row t.val t.isLt s) (hid 2 e) :=
    fun s e => (pay9 _ _ _).trans (aB_apply m c t.val t.isLt 2 2 rfl _ s e)
  have k3 : ∀ s e, k0_pay13 (F := Ideal) (xnB m c t) (k0_pay11
      (View.ld (iblk m c 4 t : FVec Ideal S4x1024x1024 .bf16) (Rect.unit ![3, 0, 0] ![1, 1024, 1024] inb_S4x1024x1024_S1x1024x1024_3_0_0))) (constant S432x1024 .f32 0x00000000#32) (ix2 s e) = A m c (row t.val t.isLt s) (hid 3 e) :=
    fun s e => (pay13 _ _ _).trans (aB_apply m c t.val t.isLt 3 3 rfl _ s e)
  by_cases h0 : cond0_0 (grid0.coords t)
  · rw [state_A m c t (isFirst h0) h0]
    unfold stA attA runA; frame_out
    canon_tiles x e
    · exact close_a m c t.val t.isLt y 3 _ rfl _ k3 x e0 e1
    · exact close_a m c t.val t.isLt y 2 _ rfl _ k2 x e0 e1
    · exact close_a m c t.val t.isLt y 1 _ rfl _ k1 x e0 e1
    · exact close_a m c t.val t.isLt y 0 _ rfl _ k0 x e0 (e1.trans (Nat.zero_add _).symm)
  · rw [state_B m c t (notFirst h0) h0]
    unfold stB attB runB; frame_out
    canon_tiles x e
    · exact close_a m c t.val t.isLt y 3 _ rfl _ k3 x e0 e1
    · exact close_a m c t.val t.isLt y 2 _ rfl _ k2 x e0 e1
    · exact close_a m c t.val t.isLt y 1 _ rfl _ k1 x e0 e1
    · exact close_a m c t.val t.isLt y 0 _ rfl _ k0 x e0 (e1.trans (Nat.zero_add _).symm)

theorem emb9 (n : Nat) (h : n < cfg0.N) (s : Fin 432) (k : Fin 1024) :
    (win0_9.blk ⟨n, h⟩).view.emb (ix2 s k) = (ix2 (row n h s) k : S8208x1024.Idx) := by
  blk_ext [idx ⟨n, h⟩]
theorem emb10 (n : Nat) (h : n < cfg0.N) (s : Fin 432) (k : Fin 4096) :
    (win0_10.blk ⟨n, h⟩).view.emb (ix2 s k) = (ix2 (row n h s) k : S8208x4096.Idx) := by
  blk_ext [idx ⟨n, h⟩]
theorem emb12 (t : Fin cfg0.N) (k : Fin 1024) : (win0_12.blk t).view.emb (ix2 0 k) = (ix2 0 k : S1x1024.Idx) := by
  blk_ext [idx t]
theorem emb13 (t : Fin cfg0.N) : (win0_13.blk t).view.emb (ix2 0 0) = (ix2 0 0 : S1x1.Idx) := by
  blk_ext [idx t]

theorem arr9 : (dats m 0 c).arrAt 9 cfg0.N = val_main_v1 (F := Ideal) (H m c) (Y m c) (O m c) := by
  refine (dats m 0 c).arrAt_eq_of_covers 9 _ (by decide +kernel) fun t hf y => ?_
  blk_simp
  rw [after9, out9]
  obtain ⟨n, h⟩ := t
  idx_vars y
  refine Eq.trans ?_ (congrArg (val_main_v1 (F := Ideal) (H m c) (Y m c) (O m c)) (emb9 n h y0 y1).symm)
  exact (h1B_apply m c n h y0 y1).trans (ref_h1 m c _ _).symm

theorem arr10 : (dats m 0 c).arrAt 10 cfg0.N = val_main_v73 (F := Ideal) (H m c) (Y m c) (O m c) (G m c) (U m c) := by
  refine (dats m 0 c).arrAt_eq_of_covers 10 _ (by decide +kernel) fun t hf y => ?_
  blk_simp
  rw [after10]
  obtain ⟨n, h⟩ := t
  idx_vars y
  refine Eq.trans ?_ (congrArg (val_main_v73 (F := Ideal) (H m c) (Y m c) (O m c) (G m c) (U m c)) (emb10 n h y0 y1).symm)
  exact (out10 m c ⟨n, h⟩ (ix2 y0 y1)).trans (ref_a m c _ _).symm

end Cert.Proof.Post

end
-- ==== Proof.PostC.lean ====
/- The forward call after the mixer: the masked difference from the target, row by row. -/
module

public import proofs.«01_k».proof.Proof.PostB

@[expose] public section

set_option maxRecDepth 16384
set_option maxHeartbeats 1000000

noncomputable section

namespace Cert.Proof.Post

open Idealize.ShloMosaic Idealize.ShloMosaic.TcCoe Idealize.ShloMosaic.Tactic Idealize.SL.Sem

open Cert.Kernel4Ideal Cert.Kernel4Ideal.Gen Cert.Kernel4Ideal.Post

open Cert.Reference4Ideal.Read

variable (m : (ℓ : Loc nD τ sig) → Buf (Elt Ideal) ℓ) (c : Dev nD)

/-- The mean square of a row after the MLP plus the constant, the normalised row, and the scaled row less the target, zero in the
    rows that have no target. -/
def V2 (t : Fin 8208) : EReal :=
  Ideal.div (∑ j : Fin 1024, H2 m c t j * H2 m c t j) (Ideal.ofBits .f32 0x44800000#32) + Ideal.ofBits .f32 0x358637BD#32
def N2 (t : Fin 8208) (k : Fin 1024) : EReal := H2 m c t k * Ideal.rsqrt (V2 m c t)
def E (t : Fin 8208) (k : Fin 1024) : EReal :=
  if h : 16 ≤ t.val then N2 m c t k * B m c (ix1 k) - X m c (ix2 ⟨t.val - 16, by have := t.isLt; omega⟩ k) else 0

theorem idx7 : ∀ t : Fin cfg0.N, t.val ≠ 0 → win0_7.index t = ![27 * t.val - 1, 0] :=
  (by decide +kernel : ∀ t : Fin grid0.N, t.val ≠ 0 → _)
theorem idx8 : ∀ t : Fin cfg0.N, win0_8.index t = ![t.val, 0] := (by decide +kernel : ∀ t : Fin grid0.N, _)

/-- The sixteen target rows before a tile. -/
theorem blk7 (n : Nat) (h : n < cfg0.N) (hn : n ≠ 0) (s : Fin 16) (k : Fin 1024) :
    (iblk m c 7 ⟨n, h⟩ : FVec Ideal S16x1024 .f32) (ix2 s k)
      = EX m c (ix2 ⟨(27 * n - 1) * 16 + s.val, by have := s.isLt; have := lt_of_lt_of_eq h (show cfg0.N = 19 from N_0); omega⟩ k) := by
  blk_ext [iblk, EX, idx7 ⟨n, h⟩ hn]

/-- The tile's own first 416 target rows. -/
theorem blk8 (n : Nat) (h : n < cfg0.N) (inb) (s : Fin 416) (k : Fin 1024) :
    View.ld (tgt m c ⟨n, h⟩ : FVec Ideal S432x1024 .f32) (Rect.unit ![0, 0] ![416, 1024] inb) (ix2 s k)
      = EX m c (ix2 ⟨n * 432 + s.val, by have := s.isLt; have := lt_of_lt_of_eq h (show cfg0.N = 19 from N_0); omega⟩ k) := by
  show tgt m c ⟨n, h⟩ ((Rect.unit (s := S432x1024) ![0, 0] ![416, 1024] inb).toLoadRect.idx (ix2 s k)) = _
  have hm : win0_8.moved (grid0.coords ⟨n, h⟩) ((Rect.unit (s := S432x1024) ![0, 0] ![416, 1024] inb).toLoadRect.idx (ix2 s k)) = true := by
    rw [Pipeline.Window.moved_iff]
    intro a
    have h0 := s.isLt
    have h1 := k.isLt
    have hi := inside ⟨n, h⟩
    match a with
    | ⟨0, _⟩ => exact lt_of_lt_of_le (show 0 + 1 * s.val < 416 by omega) hi.1
    | ⟨1, _⟩ => exact lt_of_lt_of_le (show 0 + 1 * k.val < 1024 by omega) hi.2
  unfold tgt Pipeline.Window.fill
  rw [dif_pos hm]
  refine congrArg (EX m c) ?_
  funext a
  apply Fin.ext
  have e := idx8 ⟨n, h⟩
  match a with
  | ⟨0, _⟩ =>
    have e0 : win0_8.index ⟨n, h⟩ 0 = n := by rw [e]; rfl
    show win0_8.index ⟨n, h⟩ 0 * 432 + 1 * (0 + 1 * s.val) = n * 432 + s.val
    rw [e0]; omega
  | ⟨1, _⟩ =>
    have e0 : win0_8.index ⟨n, h⟩ 1 = 0 := by rw [e]; rfl
    show win0_8.index ⟨n, h⟩ 1 * 1024 + 1 * (0 + 1 * k.val) = k.val
    rw [e0]; omega

theorem pay17 (x : FVec Ideal S432x1024 .bf16) (a : FVec Ideal S432x1024 .f32) (b : FVec Ideal S1024x1024 .bf16) (z : FVec Ideal S432x1024 .f32)
    (w : FVec Ideal S1x1024x1024 .bf16) (s : Fin 432) :
    k0_pay17 (F := Ideal) x a b z w (ix2 s 0)
      = Ideal.rsqrt (Ideal.div (∑ j : Fin 1024, k0_pay14 (F := Ideal) x a b z w (ix2 s j) * k0_pay14 (F := Ideal) x a b z w (ix2 s j))
          (Ideal.ofBits .f32 0x44800000#32) + Ideal.ofBits .f32 0x358637BD#32) := by
  unfold k0_pay17
  generalize k0_pay14 (F := Ideal) x a b z w = y
  pointwise []
theorem pay18 (x : FVec Ideal S432x1024 .bf16) (a : FVec Ideal S432x1024 .f32) (b : FVec Ideal S1024x1024 .bf16) (z : FVec Ideal S432x1024 .f32)
    (w : FVec Ideal S1x1024x1024 .bf16) (s : Fin 432) (k : Fin 1024) :
    k0_pay18 (F := Ideal) x a b z w (ix2 s k) = k0_pay14 (F := Ideal) x a b z w (ix2 s k) * k0_pay17 (F := Ideal) x a b z w (ix2 s 0) := by
  unfold k0_pay18
  generalize k0_pay14 (F := Ideal) x a b z w = y
  generalize k0_pay17 (F := Ideal) x a b z w = r
  pointwise []

/-- The two target pieces one under the other. -/
def cat (u : FVec Ideal S16x1024 .f32) (v : FVec Ideal S416x1024 .f32) (s : Fin 432) (k : Fin 1024) : EReal :=
  if h : s.val < 16 then u (ix2 ⟨s.val, h⟩ k) else v (ix2 ⟨s.val - 16, by have := s.isLt; omega⟩ k)

theorem pay21 (x : FVec Ideal S432x1024 .bf16) (a : FVec Ideal S432x1024 .f32) (b : FVec Ideal S1024x1024 .bf16) (z : FVec Ideal S432x1024 .f32)
    (w : FVec Ideal S1x1024x1024 .bf16) (g : FVec Ideal S1x1024 .f32) (u : FVec Ideal S16x1024 .f32) (v : FVec Ideal S416x1024 .f32) (s : Fin 432) (k : Fin 1024) :
    k0_pay21 (F := Ideal) x a b z w g u v (ix2 s k) = k0_pay18 (F := Ideal) x a b z w (ix2 s k) * g (ix2 0 k) - cat u v s k := by
  unfold k0_pay21 k0_pay19
  generalize k0_pay18 (F := Ideal) x a b z w = y
  unfold cat
  pointwise []

theorem pay20 (n : Nat) (h : n < 19) (s : Fin 432) : k0_pay20 (BitVec.ofNat 32 n) (ix2 s 0) = BitVec.ofBool (decide (16 ≤ n * 432 + s.val)) := by
  have hs := s.isLt
  have e : k0_pay20 (BitVec.ofNat 32 n) (ix2 s 0)
      = BitVec.ofBool (decide ((16#32).toInt ≤ (BitVec.ofNat 32 n * BitVec.ofNat 32 432 + BitVec.ofNat 32 s.val).toInt)) := by
    pointwise [k0_pay20]
    rfl
  rw [e, ← BitVec.ofNat_mul, ← BitVec.ofNat_add]
  have hl : (n * 432 + s.val) % 2 ^ 32 = n * 432 + s.val := Nat.mod_eq_of_lt (by omega)
  have hi : (BitVec.ofNat 32 (n * 432 + s.val)).toInt = ((n * 432 + s.val : Nat) : Int) := by
    rw [BitVec.toInt_eq_toNat_of_lt (by rw [BitVec.toNat_ofNat, hl]; omega), BitVec.toNat_ofNat, hl]
  rw [hi]
  refine congrArg BitVec.ofBool (decide_eq_decide.mpr ?_)
  show (16 : Int) ≤ _ ↔ _
  omega

/-- The body's difference in a tile, masked. -/
theorem pay22 (q : IVec S432x1 1) (y : FVec Ideal S432x1024 .f32) (b : Bool) (s : Fin 432) (k : Fin 1024) (hq : q (ix2 s 0) = BitVec.ofBool b) :
    k0_pay22 (F := Ideal) q y (ix2 s k) = if b then y (ix2 s k) else 0 := by
  have : k0_pay22 (F := Ideal) q y (ix2 s k) = Scalar.select (q (ix2 s 0)) (y (ix2 s k)) 0 := by
    pointwise [k0_pay22]
  rw [this, hq]
  cases b <;> rfl

/-- The normalised rows and the difference as the body holds them in tile `t`. -/
def n2B (t : Fin cfg0.N) : FVec Ideal S432x1024 .f32 :=
  k0_pay18 (k0_pay2 (iblk m c 0 t) (iblk m c 1 t) (iblk m c 2 t) (iblk m c 3 t))
    (k0_pay10 (k0_pay1 (iblk m c 0 t) (iblk m c 1 t) (iblk m c 2 t)) (k0_pay2 (iblk m c 0 t) (iblk m c 1 t) (iblk m c 2 t) (iblk m c 3 t))
      (k0_pay5 (iblk m c 0 t) (iblk m c 1 t) (iblk m c 2 t) (iblk m c 3 t) (View.ld (iblk m c 4 t) (Rect.unit ![0, 0, 0] ![1, 1024, 1024] inb_S4x1024x1024_S1x1024x1024_0_0_0)))
      (View.ld (iblk m c 5 t) (Rect.unit ![0, 0, 0] ![1, 1024, 1024] inb_S4x1024x1024_S1x1024x1024_0_0_0))
      (View.ld (iblk m c 4 t) (Rect.unit ![1, 0, 0] ![1, 1024, 1024] inb_S4x1024x1024_S1x1024x1024_1_0_0))
      (View.ld (iblk m c 5 t) (Rect.unit ![1, 0, 0] ![1, 1024, 1024] inb_S4x1024x1024_S1x1024x1024_1_0_0))
      (View.ld (iblk m c 4 t) (Rect.unit ![2, 0, 0] ![1, 1024, 1024] inb_S4x1024x1024_S1x1024x1024_2_0_0))
      (View.ld (iblk m c 5 t) (Rect.unit ![2, 0, 0] ![1, 1024, 1024] inb_S4x1024x1024_S1x1024x1024_2_0_0)))
    (k0_pay11 (View.ld (iblk m c 4 t) (Rect.unit ![3, 0, 0] ![1, 1024, 1024] inb_S4x1024x1024_S1x1024x1024_3_0_0)))
    (constant S432x1024 .f32 0x00000000#32)
    (View.ld (iblk m c 5 t) (Rect.unit ![3, 0, 0] ![1, 1024, 1024] inb_S4x1024x1024_S1x1024x1024_3_0_0))
def dB (t : Fin cfg0.N) : FVec Ideal S432x1024 .f32 :=
  k0_pay21 (k0_pay2 (iblk m c 0 t) (iblk m c 1 t) (iblk m c 2 t) (iblk m c 3 t))
    (k0_pay10 (k0_pay1 (iblk m c 0 t) (iblk m c 1 t) (iblk m c 2 t)) (k0_pay2 (iblk m c 0 t) (iblk m c 1 t) (iblk m c 2 t) (iblk m c 3 t))
      (k0_pay5 (iblk m c 0 t) (iblk m c 1 t) (iblk m c 2 t) (iblk m c 3 t) (View.ld (iblk m c 4 t) (Rect.unit ![0, 0, 0] ![1, 1024, 1024] inb_S4x1024x1024_S1x1024x1024_0_0_0)))
      (View.ld (iblk m c 5 t) (Rect.unit ![0, 0, 0] ![1, 1024, 1024] inb_S4x1024x1024_S1x1024x1024_0_0_0))
      (View.ld (iblk m c 4 t) (Rect.unit ![1, 0, 0] ![1, 1024, 1024] inb_S4x1024x1024_S1x1024x1024_1_0_0))
      (View.ld (iblk m c 5 t) (Rect.unit ![1, 0, 0] ![1, 1024, 1024] inb_S4x1024x1024_S1x1024x1024_1_0_0))
      (View.ld (iblk m c 4 t) (Rect.unit ![2, 0, 0] ![1, 1024, 1024] inb_S4x1024x1024_S1x1024x1024_2_0_0))
      (View.ld (iblk m c 5 t) (Rect.unit ![2, 0, 0] ![1, 1024, 1024] inb_S4x1024x1024_S1x1024x1024_2_0_0)))
    (k0_pay11 (View.ld (iblk m c 4 t) (Rect.unit ![3, 0, 0] ![1, 1024, 1024] inb_S4x1024x1024_S1x1024x1024_3_0_0)))
    (constant S432x1024 .f32 0x00000000#32)
    (View.ld (iblk m c 5 t) (Rect.unit ![3, 0, 0] ![1, 1024, 1024] inb_S4x1024x1024_S1x1024x1024_3_0_0))
    (iblk m c 6 t) (iblk m c 7 t) (View.ld (tgt m c t) (Rect.unit ![0, 0] ![416, 1024] inb_S432x1024_S416x1024_0_0))
def kB (t : Fin cfg0.N) : IVec S432x1 1 := k0_pay20 (BitVec.ofNat 32 ((grid0.coords t) 0).val)
def eB' (t : Fin cfg0.N) : FVec Ideal S432x1024 .f32 := k0_pay22 (kB t) (dB m c t)

theorem n2B_apply (n : Nat) (h : n < cfg0.N) (s : Fin 432) (k : Fin 1024) : n2B m c ⟨n, h⟩ (ix2 s k) = N2 m c (row n h s) k := by
  unfold n2B
  rw [pay18, pay17]
  have e : ∀ j, _ = H2 m c (row n h s) j := h2B_apply m c n h s
  unfold h2B at e
  unfold N2 V2
  rw [e]
  simp only [e]

theorem target (n : Nat) (h : n < cfg0.N) (s : Fin 432) (k : Fin 1024) (hs : 16 ≤ n * 432 + s.val) :
    cat (iblk m c 7 ⟨n, h⟩) (View.ld (tgt m c ⟨n, h⟩ : FVec Ideal S432x1024 .f32) (Rect.unit ![0, 0] ![416, 1024] inb_S432x1024_S416x1024_0_0)) s k
      = X m c (ix2 ⟨n * 432 + s.val - 16, by have := (row n h s).isLt; dsimp only at this; omega⟩ k) := by
  unfold cat
  split
  · rename_i h1
    rw [blk7 m c n h (by rintro rfl; omega), eX]
    refine congrArg (fun r => X m c (ix2 r k)) (Fin.ext ?_)
    show (27 * n - 1) * 16 + s.val = n * 432 + s.val - 16
    have : n ≠ 0 := by rintro rfl; omega
    omega
  · rename_i h1
    rw [blk8 m c n h, eX]
    refine congrArg (fun r => X m c (ix2 r k)) (Fin.ext ?_)
    show n * 432 + (s.val - 16) = n * 432 + s.val - 16
    omega

theorem eB'_apply (n : Nat) (h : n < cfg0.N) (s : Fin 432) (k : Fin 1024) : eB' m c ⟨n, h⟩ (ix2 s k) = E m c (row n h s) k := by
  have hk : kB ⟨n, h⟩ (ix2 s 0) = BitVec.ofBool (decide (16 ≤ n * 432 + s.val)) := by
    unfold kB
    rw [coord0 ⟨n, h⟩]
    exact pay20 n (lt_of_lt_of_eq h (show cfg0.N = 19 from N_0)) s
  unfold eB' E
  rw [pay22 _ _ _ s k hk]
  by_cases hs : 16 ≤ n * 432 + s.val
  · rw [if_pos (decide_eq_true hs), dif_pos hs]
    unfold dB
    rw [pay21, target m c n h s k hs]
    exact congrArg (· - _) (congrArg₂ (· * ·) (n2B_apply m c n h s k) ((blk6 m c n h k).trans (eB m c k)))
  · rw [if_neg (by simpa using hs), dif_neg hs]

end Cert.Proof.Post

end
-- ==== Proof.PostD.lean ====
/- The forward call after the mixer: the loss and the gradient of the last gain over every tile. -/
module

public import proofs.«01_k».proof.Proof.PostC

@[expose] public section

set_option maxRecDepth 16384
set_option maxHeartbeats 1000000

noncomputable section

namespace Cert.Proof.Post

open Idealize.ShloMosaic Idealize.ShloMosaic.TcCoe Idealize.ShloMosaic.Tactic Idealize.SL.Sem

open Cert.Kernel4Ideal Cert.Kernel4Ideal.Gen Cert.Kernel4Ideal.Post

open Cert.Reference4Ideal.Read

variable (m : (ℓ : Loc nD τ sig) → Buf (Elt Ideal) ℓ) (c : Dev nD)

theorem bits_inv : Ideal.ofBits .f32 0x3A800000#32 = ((1 / 1024 : ℝ) : EReal) := by
  simp [Ideal.ofBits, Ideal.ieee]
  rw [← EReal.coe_mul]
  norm_num
theorem bits_half : Ideal.ofBits .f32 0x3F000000#32 = ((1 / 2 : ℝ) : EReal) := by
  simp [Ideal.ofBits, Ideal.ieee]
  rw [← EReal.coe_mul]
  norm_num
theorem bits_unit : Ideal.ofBits .f32 0x3F800000#32 = ((1 : ℝ) : EReal) := by
  simp [Ideal.ofBits, Ideal.ieee]
  rw [← EReal.coe_mul]
  norm_num

/-- A half of a sum is the sum of the halves. -/
theorem half_sum {ι : Type} (s : Finset ι) (f : ι → EReal) :
    ((1 / 2 : ℝ) : EReal) * ∑ i ∈ s, f i = ∑ i ∈ s, ((1 / 2 : ℝ) : EReal) * f i := by
  classical
  induction s using Finset.induction_on with
  | empty => simp
  | insert a s ha ih =>
    rw [Finset.sum_insert ha, Finset.sum_insert ha, ← ih]
    exact EReal.left_distrib_of_nonneg_of_ne_top (by exact_mod_cast (by norm_num : (0 : ℝ) ≤ 1 / 2)) (EReal.coe_ne_top _) _ _

/-- Row `t` of the target, as a row of the array. -/
abbrev up (t : Fin 8192) : Fin 8208 := ⟨16 + t.val, by have := t.isLt; omega⟩

/-- A sum over all rows whose first sixteen terms vanish. -/
theorem sum_up (f : Fin 8208 → EReal) (hf : ∀ t : Fin 8208, t.val < 16 → f t = 0) : ∑ t : Fin 8208, f t = ∑ t : Fin 8192, f (up t) := by
  have h := Fin.sum_univ_add (a := 16) (b := 8192) (f := f)
  refine h.trans ?_
  rw [Finset.sum_eq_zero fun i _ => hf _ i.isLt, zero_add]
  rfl

theorem E_up (t : Fin 8192) (k : Fin 1024) : E m c (up t) k = N2 m c (up t) k * B m c (ix1 k) - X m c (ix2 t k) := by
  unfold E
  rw [dif_pos (show 16 ≤ (up t).val by show 16 ≤ 16 + t.val; omega)]
  refine congrArg (fun r => N2 m c (up t) k * B m c (ix1 k) - X m c (ix2 r k)) (Fin.ext ?_)
  show 16 + t.val - 16 = t.val
  omega
theorem E_low (t : Fin 8208) (h : t.val < 16) (k : Fin 1024) : E m c t k = 0 := by
  unfold E
  rw [dif_neg (by omega)]

/-- What a tile adds to the loss and to the gradient. -/
def addL (t : Fin cfg0.N) : EReal :=
  Ideal.ofBits .f32 0x3F000000#32 * ∑ s : Fin 432, (∑ k : Fin 1024, eB' m c t (ix2 s k) * eB' m c t (ix2 s k)) * Ideal.ofBits .f32 0x3A800000#32
def addG (t : Fin cfg0.N) (k : Fin 1024) : EReal :=
  ∑ s : Fin 432, eB' m c t (ix2 s k) * Ideal.ofBits .f32 0x3A800000#32 * n2B m c t (ix2 s k)

theorem pay23 (q : IVec S432x1 1) (y : FVec Ideal S432x1024 .f32) (v : FVec Ideal S1x1 .f32) :
    k0_pay23 (F := Ideal) q y v (ix2 0 0) = v (ix2 0 0) + Ideal.ofBits .f32 0x3F000000#32 *
      ∑ s : Fin 432, (∑ k : Fin 1024, k0_pay22 (F := Ideal) q y (ix2 s k) * k0_pay22 (F := Ideal) q y (ix2 s k)) * Ideal.ofBits .f32 0x3A800000#32 := by
  unfold k0_pay23
  generalize k0_pay22 (F := Ideal) q y = e
  pointwise []
theorem pay25 (z : FVec Ideal S432x1024 .f32) (q : IVec S432x1 1) (y : FVec Ideal S432x1024 .f32) (v : FVec Ideal S1x1024 .f32) (k : Fin 1024) :
    k0_pay25 (F := Ideal) z q y v (ix2 0 k) = v (ix2 0 k) +
      ∑ s : Fin 432, k0_pay22 (F := Ideal) q y (ix2 s k) * Ideal.ofBits .f32 0x3A800000#32 * z (ix2 s k) := by
  unfold k0_pay25 k0_pay24
  generalize k0_pay22 (F := Ideal) q y = e
  pointwise []

theorem lossA (t : Fin cfg0.N) (h0 : cond0_0 (grid0.coords t)) :
    (state m c t.val t.isLt).2.2.2.2 = k0_pay23 (F := Ideal) (kB t) (dB m c t) (k0_pay16 (F := Ideal)) := by
  rw [state_A m c t (isFirst h0) h0]
  unfold stA attA runA; frame_out
  rfl
theorem lossB (t : Fin cfg0.N) (h0 : ¬cond0_0 (grid0.coords t)) :
    (state m c t.val t.isLt).2.2.2.2 = k0_pay23 (F := Ideal) (kB t) (dB m c t)
      (state m c (t.val - 1) (lt_of_le_of_lt (Nat.sub_le _ _) t.isLt)).2.2.2.2 := by
  rw [state_B m c t (notFirst h0) h0]
  unfold stB attB runB; frame_out
  rfl
theorem gradA (t : Fin cfg0.N) (h0 : cond0_0 (grid0.coords t)) :
    (state m c t.val t.isLt).2.2.2.1 = k0_pay25 (F := Ideal) (n2B m c t) (kB t) (dB m c t) (k0_pay15 (F := Ideal)) := by
  rw [state_A m c t (isFirst h0) h0]
  unfold stA attA runA; frame_out
  rfl
theorem gradB (t : Fin cfg0.N) (h0 : ¬cond0_0 (grid0.coords t)) :
    (state m c t.val t.isLt).2.2.2.1 = k0_pay25 (F := Ideal) (n2B m c t) (kB t) (dB m c t)
      (state m c (t.val - 1) (lt_of_le_of_lt (Nat.sub_le _ _) t.isLt)).2.2.2.1 := by
  rw [state_B m c t (notFirst h0) h0]
  unfold stB attB runB; frame_out
  rfl

theorem isLast (t : Fin cfg0.N) (z : t.val % 19 = 18) : t.val + 1 = cfg0.N := by
  have h2 := lt_of_lt_of_eq t.isLt (show cfg0.N = 19 from N_0)
  have h3 : cfg0.N = 19 := N_0
  omega

/-- The loss and the gradient after the last tile. -/
theorem loss_last (t : Fin cfg0.N) (z : t.val % 19 = 18) :
    (state m c t.val t.isLt).2.2.2.2 (ix2 0 0) = ∑ p : Fin cfg0.N, addL m c p := by
  refine (Pipeline.eq_sum_fin_of_reset_step_apply_last (fun n h (_ : Unit) => ((state m c n h).2.2.2.2 (ix2 0 0) : EReal)) 19 (fun _ => 0)
    (fun t _ => addL m c t) (fun t z j => ?_) (fun t z j => ?_) (le_of_eq N_0) t (isLast t z) ()).trans (zero_add _)
  · have h0 : cond0_0 (grid0.coords t) := (hcond0_0 t).mpr (by omega)
    show (state m c t.val t.isLt).2.2.2.2 (ix2 0 0) = 0 + addL m c t
    rw [lossA m c t h0, pay23]
    refine congrArg₂ (· + ·) ?_ rfl
    pointwise [k0_pay16]
  · have h0 : ¬cond0_0 (grid0.coords t) := fun h => z (by have := (hcond0_0 t).mp h; omega)
    show (state m c t.val t.isLt).2.2.2.2 (ix2 0 0) = _ + addL m c t
    rw [lossB m c t h0, pay23]
    rfl
theorem grad_last (t : Fin cfg0.N) (z : t.val % 19 = 18) (k : Fin 1024) :
    (state m c t.val t.isLt).2.2.2.1 (ix2 0 k) = ∑ p : Fin cfg0.N, addG m c p k := by
  refine (Pipeline.eq_sum_fin_of_reset_step_apply_last (fun n h (k : Fin 1024) => ((state m c n h).2.2.2.1 (ix2 0 k) : EReal)) 19 (fun _ => 0)
    (fun t k => addG m c t k) (fun t z j => ?_) (fun t z j => ?_) (le_of_eq N_0) t (isLast t z) k).trans (zero_add _)
  · have h0 : cond0_0 (grid0.coords t) := (hcond0_0 t).mpr (by omega)
    show (state m c t.val t.isLt).2.2.2.1 (ix2 0 j) = 0 + addG m c t j
    rw [gradA m c t h0, pay25]
    refine congrArg₂ (· + ·) ?_ rfl
    pointwise [k0_pay15]
  · have h0 : ¬cond0_0 (grid0.coords t) := fun h => z (by have := (hcond0_0 t).mp h; omega)
    show (state m c t.val t.isLt).2.2.2.1 (ix2 0 j) = _ + addG m c t j
    rw [gradB m c t h0, pay25]
    rfl

theorem ref_v2 (t : Fin 8208) : val_main_v26 (F := Ideal) (H m c) (Y m c) (O m c) (G m c) (U m c) (W m c) (ix2 t 0) = V2 m c t := by
  pointwise [val_main_v26, val_main_v25, val_main_v24, val_main_v23, val_main_v22, val_main_v21, val_main_v20, val_main_cst_2, val_main_cst_3, val_main_cst_4, ref_h2, V2]
theorem ref_n2 (t : Fin 8208) (k : Fin 1024) : val_main_v32 (F := Ideal) (H m c) (Y m c) (O m c) (G m c) (U m c) (W m c) (ix2 t k) = N2 m c t k := by
  pointwise [val_main_v32, val_main_v31, val_main_v27, ref_h2, ref_v2, N2]
theorem ref_e (t : Fin 8192) (k : Fin 1024) :
    val_main_v37 (F := Ideal) (H m c) (Y m c) (O m c) (G m c) (U m c) (W m c) (B m c) (X m c) (ix2 t k) = E m c (up t) k := by
  rw [E_up]
  pointwise [val_main_v37, val_main_v36, val_main_v35, val_main_v34, val_main_v33, ref_n2]

/-- The reference's loss. -/
theorem ref_loss : val_main_v75 (F := Ideal) (H m c) (Y m c) (O m c) (G m c) (U m c) (W m c) (B m c) (X m c) (ix2 0 0)
    = Ideal.ofBits .f32 0x3F000000#32 * ∑ t : Fin 8192, Ideal.div (∑ k : Fin 1024, E m c (up t) k * E m c (up t) k) (Ideal.ofBits .f32 0x44800000#32) := by
  pointwise [val_main_v75, val_main_v45, val_main_v44, val_main_v43, val_main_v42, val_main_v41, val_main_v38, val_main_cst_7, val_main_cst_8, val_main_cst_9, val_main_cst_10, ref_e]

/-- The reference's cotangent of the scaled rows: zero in the rows that have no target. -/
theorem ref_pad (t : Fin 8208) (k : Fin 1024) :
    val_main_v52 (F := Ideal) (H m c) (Y m c) (O m c) (G m c) (U m c) (W m c) (B m c) (X m c) (ix2 t k)
      = Ideal.ofBits .f32 0x3A800000#32 * E m c t k := by
  have hv : ∀ (r : Fin 8192), val_main_v51 (F := Ideal) (H m c) (Y m c) (O m c) (G m c) (U m c) (W m c) (B m c) (X m c) (ix2 r k)
      = Ideal.ofBits .f32 0x3A800000#32 * E m c (up r) k := by
    intro r
    have e : val_main_v51 (F := Ideal) (H m c) (Y m c) (O m c) (G m c) (U m c) (W m c) (B m c) (X m c) (ix2 r k)
        = Ideal.div (Ideal.ofBits .f32 0x3F000000#32 * Ideal.ofBits .f32 0x3F800000#32) (Ideal.ofBits .f32 0x44800000#32)
          * (Ideal.ofBits .f32 0x40000000#32 * E m c (up r) k) := by
      pointwise [val_main_v51, val_main_v50, val_main_v49, val_main_v48, val_main_v47, val_main_v46, val_main_v40, val_main_v39, val_main_cst_6, val_main_cst_11, val_main_cst_12,
        val_main_cst_13, ref_e]
    rw [e, ← mul_assoc]
    refine congrArg (· * _) ?_
    rw [bits_half, bits_unit, bits_rows, bits_inv, Ideal.div_coe (by norm_num), bits_two, show (2 : EReal) = ((2 : ℝ) : EReal) from rfl,
      ← EReal.coe_mul, ← EReal.coe_mul, ← EReal.coe_mul]
    norm_num
  unfold val_main_v52
  by_cases h : 16 ≤ t.val
  · have ht := t.isLt
    obtain ⟨r, rfl⟩ : ∃ r : Fin 8192, t = up r := ⟨⟨t.val - 16, by omega⟩, Fin.ext (show t.val = 16 + (t.val - 16) by omega)⟩
    refine Eq.trans (pad_apply_of_inside _ _ _ _ _ _ _ _ (ix2 r k) ?_) (hv r)
    intro a
    match a with
    | ⟨0, _⟩ => show 16 + r.val = 16 + r.val * (0 + 1); omega
    | ⟨1, _⟩ => show k.val = 0 + k.val * (0 + 1); omega
  · rw [E_low m c t (by omega), mul_zero]
    refine Eq.trans (pad_apply_of_not_inside _ _ _ _ _ _ _ _ 0 (fun ha => h ha.1)) ?_
    pointwise [val_main_cst_14]

/-- The reference's gradient of the last gain. -/
theorem ref_grad (k : Fin 1024) : val_main_v74 (F := Ideal) (H m c) (Y m c) (O m c) (G m c) (U m c) (W m c) (B m c) (X m c) (ix2 0 k)
    = ∑ t : Fin 8208, N2 m c t k * (Ideal.ofBits .f32 0x3A800000#32 * E m c t k) := by
  pointwise [val_main_v74, val_main_v58, val_main_v55, val_main_v54, val_main_v53, val_main_cst_15, val_main_cst_16, ref_n2, ref_pad]
  rw [Finset.univ_unique, Finset.sum_singleton]

theorem arr12 : (dats m 0 c).arrAt 12 cfg0.N = val_main_v74 (F := Ideal) (H m c) (Y m c) (O m c) (G m c) (U m c) (W m c) (B m c) (X m c) := by
  refine (dats m 0 c).arrAt_eq_of_covers 12 _ (by decide +kernel) fun t hf y => ?_
  blk_simp
  rw [after12]
  have z : t.val % 19 = 18 := (flush0_12 t).mp hf
  idx_vars y
  obtain rfl : y0 = 0 := Subsingleton.elim _ _
  refine (grad_last m c t z y1).trans (Eq.trans ?_ (congrArg (val_main_v74 (F := Ideal) (H m c) (Y m c) (O m c) (G m c) (U m c) (W m c) (B m c) (X m c)) (emb12 t y1).symm))
  rw [ref_grad, Fin.sum_univ_tiles 19 432 rfl]
  refine Finset.sum_congr rfl fun p _ => Finset.sum_congr rfl fun s _ => ?_
  refine (congrArg₂ (fun a b : EReal => a * Ideal.ofBits .f32 0x3A800000#32 * b) (eB'_apply m c p.val p.isLt s y1) (n2B_apply m c p.val p.isLt s y1)).trans ?_
  rw [mul_comm, mul_comm (E m c _ _)]

theorem arr13 : (dats m 0 c).arrAt 13 cfg0.N = val_main_v75 (F := Ideal) (H m c) (Y m c) (O m c) (G m c) (U m c) (W m c) (B m c) (X m c) := by
  refine (dats m 0 c).arrAt_eq_of_covers 13 _ (by decide +kernel) fun t hf y => ?_
  blk_simp
  rw [after13]
  have z : t.val % 19 = 18 := (flush0_13 t).mp hf
  idx_vars y
  obtain rfl : y0 = 0 := Subsingleton.elim _ _
  obtain rfl : y1 = 0 := Subsingleton.elim _ _
  refine (loss_last m c t z).trans (Eq.trans ?_ (congrArg (val_main_v75 (F := Ideal) (H m c) (Y m c) (O m c) (G m c) (U m c) (W m c) (B m c) (X m c)) (emb13 t).symm))
  have hz : ∀ t : Fin 8208, t.val < 16 → (∑ k : Fin 1024, E m c t k * E m c t k) * Ideal.ofBits .f32 0x3A800000#32 = 0 := fun t h => by
    rw [Finset.sum_eq_zero fun k _ => by rw [E_low m c t h, mul_zero], zero_mul]
  have hd : ∀ t : Fin 8192, Ideal.div (∑ k : Fin 1024, E m c (up t) k * E m c (up t) k) (Ideal.ofBits .f32 0x44800000#32)
      = (∑ k : Fin 1024, E m c (up t) k * E m c (up t) k) * Ideal.ofBits .f32 0x3A800000#32 := fun t => by
    rw [bits_rows, Ideal.div_coe (by norm_num), bits_inv]
  rw [ref_loss, Finset.sum_congr rfl fun t _ => hd t, ← sum_up (fun t => (∑ k : Fin 1024, E m c t k * E m c t k) * Ideal.ofBits .f32 0x3A800000#32) hz,
    Fin.sum_univ_tiles 19 432 rfl, bits_half, half_sum]
  refine Finset.sum_congr rfl fun p _ => ?_
  unfold addL
  rw [bits_half]
  refine congrArg (((1 / 2 : ℝ) : EReal) * ·) (Finset.sum_congr rfl fun s _ => congrArg (· * _) (Finset.sum_congr rfl fun k _ => ?_))
  exact congrArg₂ (· * ·) (eB'_apply m c p.val p.isLt s k) (eB'_apply m c p.val p.isLt s k)

end Cert.Proof.Post

end
-- ==== Proof.Post.lean ====
/- The forward call after the mixer: its results and its arguments after the run. -/
module

public import proofs.«01_k».proof.Proof.PostD

@[expose] public section

set_option maxRecDepth 16384
set_option maxHeartbeats 1000000

noncomputable section

namespace Cert.Proof.Post

open Idealize.ShloMosaic Idealize.ShloMosaic.TcCoe Idealize.ShloMosaic.Tactic Idealize.SL.Sem

open Cert.Kernel4Ideal Cert.Kernel4Ideal.Gen Cert.Kernel4Ideal.Post

variable (m : (ℓ : Loc nD τ sig) → Buf (Elt Ideal) ℓ) (ρ : Dev nD → PrngReg)

theorem run_named : θ_run defs (onTc (τ := τ) (main (F := Ideal))) ⟨m, fun _ => 0, ρ⟩ (fun r => ∀ c : Dev nD,
      r.2.mem ((c.tc : Thread nD τ).loc main_v9_0) = (dats m 0 c).arrAt 9 cfg0.N
      ∧ r.2.mem ((c.tc : Thread nD τ).loc main_v9_1) = (dats m 0 c).arrAt 10 cfg0.N
      ∧ r.2.mem ((c.tc : Thread nD τ).loc main_v9_3) = (dats m 0 c).arrAt 12 cfg0.N
      ∧ r.2.mem ((c.tc : Thread nD τ).loc main_v9_4) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h.1 c).1 9, (h.1 c).1 10, (h.1 c).1 12, (h.1 c).1 13, h.2 c⟩)
    (θ_run_and (run_post m ρ) (frame_of m ρ (dats m) (A_eq m) (run_post m ρ)))

end Cert.Proof.Post

end
-- ==== Proof.Windows.lean ====
/- Running sums and windows of rows: the host's cumulative sums read at an index, the sum of the last `k` rows as a difference of two running
   sums, the sum of the next `k` rows as a sum of differences, and the norm's derivative over half a row. -/
module

public import proofs.«01_k».proof.Proof.Real
public import Idealize.ShloMosaic.Lib.Pipeline.Value
public import Idealize.ShloMosaic.Lib.Pipeline.ValueKit

@[expose] public section

set_option maxRecDepth 16384

noncomputable section

namespace Cert.Proof

open Idealize.ShloMosaic

attribute [-instance] FinRange.decidableForall

theorem foldl_add_eq_sum {n : Nat} (f : Fin n → EReal) (z : EReal) : (List.finRange n).foldl (fun r i => r + f i) z = z + ∑ i, f i := by
  rw [← List.sum_ofFn, List.ofFn_eq_map, ← List.foldl_map]
  generalize List.map f (List.finRange n) = l
  induction l generalizing z with
  | nil => simp
  | cons a l ih => rw [List.foldl_cons, ih, List.sum_cons, add_assoc]

/-- A window one column wide and `n` rows high is a sum over the rows. -/
theorem window_sum (n : Nat) (P : (⟨2, ![n, 1]⟩ : Shape).Idx → EReal) :
    ∑ q : Fin (⟨2, ![n, 1]⟩ : Shape).numel, P ((⟨2, ![n, 1]⟩ : Shape).rowMajor.symm q) = ∑ s : Fin n, P (ix2 s 0) := by
  rw [Equiv.sum_comp (⟨2, ![n, 1]⟩ : Shape).rowMajor.symm P]
  refine (Fintype.sum_equiv ⟨fun s : Fin n => (ix2 s (0 : Fin 1) : (⟨2, ![n, 1]⟩ : Shape).Idx), fun i => i 0, fun s => rfl, fun i => ?_⟩ _ _ fun s => rfl).symm
  funext a
  match a with
  | ⟨0, _⟩ => rfl
  | ⟨1, _⟩ => exact Subsingleton.elim (α := Fin 1) _ _

/-- The rows of one column as a sequence, zero past the end. -/
def seq {n : Nat} (f : Fin n → EReal) (s : Nat) : EReal := if h : s < n then f ⟨s, h⟩ else 0

theorem seq_of_lt {n : Nat} (f : Fin n → EReal) {s : Nat} (h : s < n) : seq f s = f ⟨s, h⟩ := dif_pos h
theorem seq_of_ge {n : Nat} (f : Fin n → EReal) {s : Nat} (h : n ≤ s) : seq f s = 0 := dif_neg (not_lt.mpr h)

/-- The printed running sum: the rows up to and with `t`. -/
theorem cumsum_apply {n d : Nat} (x : (⟨2, ![n, d]⟩ : Shape).Idx → EReal) (z : (⟨0, ![]⟩ : Shape).Idx → EReal) (hz : ∀ i, z i = 0)
    (lo : Nat) (hlo : lo + 1 = n) (h : (⟨2, ![n, d]⟩ : Shape).ReduceWindows ![n, 1] ![1, 1] ![lo, 0] ![0, 0] ⟨2, ![n, d]⟩) (hu) (t : Fin n) (j : Fin d) :
    Host.reduceWindowAdd (F := Ideal) (φ := .f32) ![n, 1] ![1, 1] ![lo, 0] ![0, 0] x z h hu (ix2 t j)
      = ∑ s ∈ Finset.range (t.val + 1), seq (fun s => x (ix2 s j)) s := by
  show (List.finRange _).foldl _ _ = _
  rw [foldl_add_eq_sum, hz, zero_add]
  refine (window_sum n (fun i => if hin : ∀ a : Fin 2, (![lo, 0] : Fin 2 → Nat) a ≤ ((ix2 t j : (⟨2, ![n, d]⟩ : Shape).Idx) a).val * (![1, 1] : Fin 2 → Nat) a + (i a).val ∧ ((ix2 t j : (⟨2, ![n, d]⟩ : Shape).Idx) a).val * (![1, 1] : Fin 2 → Nat) a + (i a).val - (![lo, 0] : Fin 2 → Nat) a < (![n, d] : Fin 2 → Nat) a
    then x (fun a => ⟨_, (hin a).2⟩) else 0)).trans ?_
  have key : ∀ s : Fin n, (if hin : ∀ a : Fin 2, (![lo, 0] : Fin 2 → Nat) a ≤ ((ix2 t j : (⟨2, ![n, d]⟩ : Shape).Idx) a).val * (![1, 1] : Fin 2 → Nat) a + ((ix2 s (0 : Fin 1) : (⟨2, ![n, 1]⟩ : Shape).Idx) a).val ∧ ((ix2 t j : (⟨2, ![n, d]⟩ : Shape).Idx) a).val * (![1, 1] : Fin 2 → Nat) a + ((ix2 s (0 : Fin 1) : (⟨2, ![n, 1]⟩ : Shape).Idx) a).val - (![lo, 0] : Fin 2 → Nat) a < (![n, d] : Fin 2 → Nat) a
      then x (fun a => ⟨_, (hin a).2⟩) else 0) = if lo ≤ t.val + s.val then seq (fun s => x (ix2 s j)) (t.val + s.val - lo) else 0 := by
    intro s
    have ht := t.isLt
    have hs := s.isLt
    by_cases hc : lo ≤ t.val + s.val
    · rw [if_pos hc, seq_of_lt _ (by omega), dif_pos]
      · refine congrArg x ?_
        funext a
        match a with
        | ⟨0, _⟩ => exact Fin.ext (by show t.val * 1 + s.val - lo = _; simp)
        | ⟨1, _⟩ => exact Fin.ext (by show j.val * 1 + 0 - 0 = _; simp)
      · intro a
        match a with
        | ⟨0, _⟩ => exact ⟨by show lo ≤ t.val * 1 + s.val; omega, by show t.val * 1 + s.val - lo < n; omega⟩
        | ⟨1, _⟩ => exact ⟨by show 0 ≤ _; omega, by show j.val * 1 + 0 - 0 < d; have := j.isLt; omega⟩
    · rw [if_neg hc, dif_neg]
      intro hin
      have := (hin 0).1
      exact hc (by have e : lo ≤ t.val * 1 + s.val := this; omega)
  rw [Finset.sum_congr rfl fun s _ => key s]
  rw [Fin.sum_univ_eq_sum_range (fun s => if lo ≤ t.val + s then seq (fun s => x (ix2 s j)) (t.val + s - lo) else 0) n]
  rw [← Finset.sum_filter]
  have ht := t.isLt
  refine Finset.sum_bij' (fun s _ => t.val + s - lo) (fun s _ => s + lo - t.val) ?_ ?_ ?_ ?_ (fun _ _ => rfl) <;>
    intro s hs <;> simp only [Finset.mem_filter, Finset.mem_range] at hs ⊢ <;> omega

/-- The printed running sum from the end: the rows from `t` on. -/
theorem cumsum_rev_apply {n d : Nat} (x : (⟨2, ![n, d]⟩ : Shape).Idx → EReal) (z : (⟨0, ![]⟩ : Shape).Idx → EReal) (hz : ∀ i, z i = 0)
    (hi : Nat) (hhi : hi + 1 = n) (h : (⟨2, ![n, d]⟩ : Shape).ReduceWindows ![n, 1] ![1, 1] ![0, 0] ![hi, 0] ⟨2, ![n, d]⟩) (hu) (t : Fin n) (j : Fin d) :
    Host.reduceWindowAdd (F := Ideal) (φ := .f32) ![n, 1] ![1, 1] ![0, 0] ![hi, 0] x z h hu (ix2 t j)
      = ∑ s ∈ Finset.range n, seq (fun s => x (ix2 s j)) (t.val + s) := by
  show (List.finRange _).foldl _ _ = _
  rw [foldl_add_eq_sum, hz, zero_add]
  refine (window_sum n (fun i => if hin : ∀ a : Fin 2, (![0, 0] : Fin 2 → Nat) a ≤ ((ix2 t j : (⟨2, ![n, d]⟩ : Shape).Idx) a).val * (![1, 1] : Fin 2 → Nat) a + (i a).val ∧ ((ix2 t j : (⟨2, ![n, d]⟩ : Shape).Idx) a).val * (![1, 1] : Fin 2 → Nat) a + (i a).val - (![0, 0] : Fin 2 → Nat) a < (![n, d] : Fin 2 → Nat) a
    then x (fun a => ⟨_, (hin a).2⟩) else 0)).trans ?_
  rw [← Fin.sum_univ_eq_sum_range (fun s => seq (fun s => x (ix2 s j)) (t.val + s)) n]
  refine Finset.sum_congr rfl fun s _ => ?_
  by_cases hc : t.val + s.val < n
  · rw [seq_of_lt _ hc, dif_pos]
    · refine congrArg x ?_
      funext a
      match a with
      | ⟨0, _⟩ => exact Fin.ext (by show t.val * 1 + s.val - 0 = _; simp)
      | ⟨1, _⟩ => exact Fin.ext (by show j.val * 1 + 0 - 0 = _; simp)
    · intro a
      match a with
      | ⟨0, _⟩ => exact ⟨by show 0 ≤ _; omega, by show t.val * 1 + s.val - 0 < n; omega⟩
      | ⟨1, _⟩ => exact ⟨by show 0 ≤ _; omega, by show j.val * 1 + 0 - 0 < d; have := j.isLt; omega⟩
  · rw [seq_of_ge _ (by omega), dif_neg]
    intro hin
    have := (hin 0).2
    exact hc (by have e : t.val * 1 + s.val - 0 < n := this; omega)

/-- The running sum up to row `t` is the one `k` rows earlier and the last `k` rows. -/
theorem prefix_split (f : Nat → EReal) (t k : Nat) :
    ∑ s ∈ Finset.range (t + 1), f s = ∑ s ∈ Finset.range (t + 1 - k), f s + ∑ i ∈ Finset.range k, if i ≤ t then f (t - i) else 0 := by
  induction k with
  | zero => simp
  | succ k ih =>
    rw [Finset.sum_range_succ _ k, ih]
    by_cases h : k ≤ t
    · rw [if_pos h, show t + 1 - k = (t + 1 - (k + 1)) + 1 by omega, Finset.sum_range_succ _ (t + 1 - (k + 1)), show t + 1 - (k + 1) = t - k by omega]
      rw [add_assoc, add_comm (f (t - k))]
    · rw [if_neg h, show t + 1 - k = t + 1 - (k + 1) by omega, add_zero]

/-- The difference of two running sums of real numbers is the window between them. -/
theorem window_eq (f : Nat → EReal) (hf : ∀ s, IsReal (f s)) (t k : Nat) :
    ∑ s ∈ Finset.range (t + 1), f s - ∑ s ∈ Finset.range (t + 1 - k), f s = ∑ i ∈ Finset.range k, if i ≤ t then f (t - i) else 0 := by
  obtain ⟨a, ha⟩ : IsReal (∑ s ∈ Finset.range (t + 1 - k), f s) := IsReal.sum _ hf
  obtain ⟨b, hb⟩ : IsReal (∑ i ∈ Finset.range k, if i ≤ t then f (t - i) else 0) := IsReal.sum _ fun i => by
    split
    · exact hf _
    · exact .zero
  rw [prefix_split f t k, ha, hb, ← EReal.coe_add, ← EReal.coe_sub, add_sub_cancel_left]

/-- Rows from `t` on of a sequence minus its rows from `t + k` on: the next `k` rows. -/
theorem telescope (q : Nat → EReal) (hq : ∀ s, IsReal (q s)) (n t k : Nat) (hz : ∀ s, n ≤ s → q s = 0) :
    ∑ s ∈ Finset.range n, (q (t + s) + -q (t + s + k)) = ∑ i ∈ Finset.range k, q (t + i) := by
  choose r hr using hq
  have hr' : ∀ s, n ≤ s → r s = 0 := fun s h => by
    have := (hr s).symm.trans (hz s h)
    exact_mod_cast this
  simp only [hr, ← EReal.coe_neg, ← EReal.coe_add, ← coe_sum]
  congr 1
  rw [Finset.sum_add_distrib, Finset.sum_neg_distrib]
  have h1 : ∑ s ∈ Finset.range (n + k), r (t + s) = ∑ s ∈ Finset.range n, r (t + s) := by
    rw [Finset.sum_range_add]
    rw [Finset.sum_eq_zero (s := Finset.range k) fun i _ => hr' _ (by omega), add_zero]
  have h2 : ∑ s ∈ Finset.range (n + k), r (t + s) = ∑ i ∈ Finset.range k, r (t + i) + ∑ s ∈ Finset.range n, r (t + s + k) := by
    rw [Nat.add_comm n k, Finset.sum_range_add]
    refine congrArg₂ (· + ·) rfl (Finset.sum_congr rfl fun s _ => ?_)
    congr 1
    omega
  linarith

theorem bits_half_rows : Ideal.ofBits .f32 0x44000000#32 = ((512 : ℝ) : EReal) := by
  simp [Ideal.ofBits, Ideal.ieee]
  rw [← EReal.coe_mul]
  norm_num

theorem bits_inv_half_rows : Ideal.ofBits .f32 0x3B000000#32 = ((1 / 512 : ℝ) : EReal) := by
  simp [Ideal.ofBits, Ideal.ieee]
  rw [← EReal.coe_mul]
  norm_num

/-- Dividing by 512 is multiplying by its reciprocal. -/
theorem div_half_rows (x : EReal) : Ideal.div x (Ideal.ofBits .f32 0x44000000#32) = x * Ideal.ofBits .f32 0x3B000000#32 := by
  rw [bits_half_rows, bits_inv_half_rows, Ideal.div_coe (by norm_num)]

/-- The mean square of half a row of real numbers plus the small constant is a positive real. -/
theorem var_pos_half {n : Nat} (x : Fin n → EReal) (hx : ∀ j, IsReal (x j)) : ∃ v : ℝ, 0 < v ∧
    (∑ j, x j * x j) * Ideal.ofBits .f32 0x3B000000#32 + Ideal.ofBits .f32 0x358637BD#32 = (v : EReal) := by
  choose f hf using hx
  obtain ⟨e, he, h⟩ := bits_eps
  refine ⟨(∑ j, f j * f j) * (1 / 512) + e, ?_, ?_⟩
  · have : 0 ≤ ∑ j, f j * f j := Finset.sum_nonneg fun j _ => mul_self_nonneg _
    positivity
  · rw [h, bits_inv_half_rows, EReal.coe_add, EReal.coe_mul, coe_sum]
    simp only [hf, EReal.coe_mul]

/-- One entry of the derivative of the norm of half a row. -/
theorem rms_half {n : Nat} (x y : Fin n → EReal) (hx : ∀ j, IsReal (x j)) (hy : ∀ j, IsReal (y j)) (v : EReal)
    (hv : v = (∑ j, x j * x j) * Ideal.ofBits .f32 0x3B000000#32 + Ideal.ofBits .f32 0x358637BD#32) (k : Fin n) :
    Ideal.rsqrt v * (y k - x k * Ideal.rsqrt v * ((∑ j, y j * (x j * Ideal.rsqrt v)) * Ideal.ofBits .f32 0x3B000000#32))
      = y k * Ideal.rsqrt v
        + x k * (((∑ j, x j * y j) * (Ideal.ofBits .f32 0xBF000000#32 * Ideal.div (Ideal.rsqrt v) v)) * Ideal.ofBits .f32 0x3B000000#32)
        + (((∑ j, x j * y j) * (Ideal.ofBits .f32 0xBF000000#32 * Ideal.div (Ideal.rsqrt v) v)) * Ideal.ofBits .f32 0x3B000000#32) * x k := by
  obtain ⟨w, hw, e⟩ := var_pos_half x hx
  obtain rfl : v = (w : EReal) := hv.trans e
  clear hv e
  choose f hf using hx
  choose g hg using hy
  obtain rfl := funext hf
  obtain rfl := funext hg
  rw [rsqrt_pos hw, bits_inv_half_rows, bits_neg_half, Ideal.div_coe hw.ne']
  simp only [← EReal.coe_mul, ← coe_sum, ← EReal.coe_sub, add_assoc, ← EReal.coe_add]
  congr 1
  have h1 : (√w)⁻¹ * (√w)⁻¹ = 1 / w := by
    rw [← mul_inv, Real.mul_self_sqrt hw.le, one_div]
  have h2 : ∑ j, g j * (f j * (√w)⁻¹) = (∑ j, f j * g j) * (√w)⁻¹ := by
    rw [Finset.sum_mul]
    exact Finset.sum_congr rfl fun j _ => by ring
  rw [h2, ← h1]
  ring

end Cert.Proof

end
-- ==== Proof.PoolMath.lean ====
/- The pool half of the mixer and its gradient as functions of the arguments, and the reference's results as these functions. -/
module

public import proofs.«01_k».proof.Proof.Windows
public import proofs.«01_k».proof.Proof.Gen.Reference5Ideal.Read

@[expose] public section

set_option maxRecDepth 16384

noncomputable section

namespace Cert.Proof.Pool

open Idealize.ShloMosaic Idealize.ShloMosaic.TcCoe

/-- Column `e` of group `g`, a column's group and its place in the group. -/
abbrev col (g : Fin 4) (e : Fin 128) : Fin 512 := ⟨g.val * 128 + e.val, by have := g.isLt; have := e.isLt; omega⟩
def grp (j : Fin 512) : Fin 4 := ⟨j.val / 128, by have := j.isLt; omega⟩
def lane (j : Fin 512) : Fin 128 := ⟨j.val % 128, by omega⟩
theorem col_grp (j : Fin 512) : col (grp j) (lane j) = j := Fin.ext (by show j.val / 128 * 128 + j.val % 128 = j.val; omega)
theorem grp_col (g : Fin 4) (e : Fin 128) : grp (col g e) = g := Fin.ext (by show (g.val * 128 + e.val) / 128 = g.val; have := e.isLt; omega)
theorem lane_col (g : Fin 4) (e : Fin 128) : lane (col g e) = e := Fin.ext (by show (g.val * 128 + e.val) % 128 = e.val; have := e.isLt; omega)

/-- The number of rows a group's window holds. -/
def K (g : Fin 4) : Nat := 2 ^ (g.val + 1)

/-- One over the number of rows in the window that ends at row `t`. -/
def cnt (k t : Nat) : ℝ := ((min (t + 1) k : Nat) : ℝ)

theorem cnt_ne {k t : Nat} (hk : 0 < k) : cnt k t ≠ 0 := by
  unfold cnt
  have : 0 < min (t + 1) k := by omega
  exact_mod_cast this.ne'

def inv (k t : Nat) : EReal := ((1 / cnt k t : ℝ) : EReal)

theorem bits_one : Ideal.ofBits .f32 0x3F800000#32 = ((1 : ℝ) : EReal) := by
  simp [Ideal.ofBits, Ideal.ieee]
  rw [← EReal.coe_mul]
  norm_num

theorem bits_2 : Ideal.ofBits .f32 0x40000000#32 = ((2 : ℕ) : ℝ) := by
  simp [Ideal.ofBits, Ideal.ieee]
  rw [← EReal.coe_mul]
  norm_num

theorem bits_4 : Ideal.ofBits .f32 0x40800000#32 = ((4 : ℕ) : ℝ) := by
  simp [Ideal.ofBits, Ideal.ieee]
  rw [← EReal.coe_mul]
  norm_num

theorem bits_8 : Ideal.ofBits .f32 0x41000000#32 = ((8 : ℕ) : ℝ) := by
  simp [Ideal.ofBits, Ideal.ieee]
  rw [← EReal.coe_mul]
  norm_num

theorem bits_16 : Ideal.ofBits .f32 0x41800000#32 = ((16 : ℕ) : ℝ) := by
  simp [Ideal.ofBits, Ideal.ieee]
  rw [← EReal.coe_mul]
  norm_num

theorem min_cnt (k t : Nat) : min (((t : ℝ) : EReal) + ((1 : ℝ) : EReal)) (((k : ℕ) : ℝ) : EReal) = ((cnt k t : ℝ) : EReal) := by
  rw [← EReal.coe_add]
  unfold cnt
  rcases le_total (t + 1) k with h | h
  · rw [min_eq_left h, min_eq_left (by exact_mod_cast h)]
    push_cast
    rfl
  · rw [min_eq_right h, min_eq_right (by exact_mod_cast h)]

open Cert.Reference5Ideal Cert.Reference5Ideal.Read

variable (DY : S8208x1024.Idx → EReal) (PJ : S8208x1536.Idx → EReal) (PW : S4x128x128.Idx → EReal) (PB PS : S512.Idx → EReal)
  (GN : S1024.Idx → EReal)

abbrev wide (j : Fin 512) : Fin 1024 := ⟨j.val, by have := j.isLt; omega⟩
/-- The pool's input. -/
def U (t : Fin 8208) (j : Fin 512) : EReal := PJ (ix2 t ⟨j.val, by have := j.isLt; omega⟩)
/-- The window's mean less the row. -/
def PL (t : Fin 8208) (j : Fin 512) : EReal :=
  (∑ i ∈ Finset.range (K (grp j)), if i ≤ t.val then seq (fun s => U PJ s j) (t.val - i) else 0) * inv (K (grp j)) t.val - U PJ t j
/-- The group's matrix and the bias. -/
def M (t : Fin 8208) (j : Fin 512) : EReal := ∑ i : Fin 128, PW (ix3 (grp j) i (lane j)) * PL PJ t (col (grp j) i) + PB (ix1 j)
def Y (t : Fin 8208) (j : Fin 512) : EReal := M PJ PW PB t j * PS (ix1 j)
/-- The mean square plus the constant. -/
def VV (t : Fin 8208) : EReal := (∑ j : Fin 512, Y PJ PW PB PS t j * Y PJ PW PB PS t j) * Ideal.ofBits .f32 0x3B000000#32 + Ideal.ofBits .f32 0x358637BD#32
def N (t : Fin 8208) (j : Fin 512) : EReal := Y PJ PW PB PS t j * Ideal.rsqrt (VV PJ PW PB PS t)
def DN (t : Fin 8208) (j : Fin 512) : EReal := DY (ix2 t (wide j)) * GN (ix1 (wide j))
def MD (t : Fin 8208) : EReal := (∑ j : Fin 512, DN DY GN t j * N PJ PW PB PS t j) * Ideal.ofBits .f32 0x3B000000#32
/-- The gradients of the scaled rows, of the mapped rows, of the pooled rows. -/
def DYP (t : Fin 8208) (j : Fin 512) : EReal :=
  Ideal.rsqrt (VV PJ PW PB PS t) * (DN DY GN t j - N PJ PW PB PS t j * MD DY PJ PW PB PS GN t)
def DM (t : Fin 8208) (j : Fin 512) : EReal := DYP DY PJ PW PB PS GN t j * PS (ix1 j)
def DP (t : Fin 8208) (j : Fin 512) : EReal := ∑ e : Fin 128, DM DY PJ PW PB PS GN t (col (grp j) e) * PW (ix3 (grp j) (lane j) e)
def Q (t : Fin 8208) (j : Fin 512) : EReal := DP DY PJ PW PB PS GN t j * inv (K (grp j)) t.val
def DU (t : Fin 8208) (j : Fin 512) : EReal :=
  ∑ i ∈ Finset.range (K (grp j)), seq (fun s => Q DY PJ PW PB PS GN s j) (t.val + i) - DP DY PJ PW PB PS GN t j

theorem ref_sum (t : Fin 8208) (j : Fin 512) : val_main_v3 (F := Ideal) PJ (ix2 t j) = ∑ s ∈ Finset.range (t.val + 1), seq (fun s => U PJ s j) s := by
  unfold val_main_v3
  rw [cumsum_apply _ _ (fun i => by pointwise [val_main_call0_call0_v0, val_main_call0_call0_cst]) 8207 rfl]
  refine Finset.sum_congr rfl fun s hs => congrArg (fun f => seq f s) (funext fun s => ?_)
  pointwise [val_main_v0, U]

/-- The running sums with the empty one in front. -/
theorem ref_cs (n : Fin 8209) (j : Fin 512) : val_main_v4 (F := Ideal) PJ (ix2 n j) = ∑ s ∈ Finset.range n.val, seq (fun s => U PJ s j) s := by
  unfold val_main_v4
  rw [concatenate_apply]
  pointwise [val_main_v2, val_main_cst]
  split
  · next h =>
    obtain h : n.val < 1 := h
    have e : n.val = 0 := by omega
    rw [e]
    simp
  · next h =>
    obtain h : ¬ n.val < 1 := h
    rw [ref_sum, show ((⟨n.val - 1, _⟩ : Fin 8208).val + 1) = n.val from Nat.sub_add_cancel (by omega)]

theorem ref_cnt (g : Fin 4) (t : Fin 8208) : (![val_main_v16 (F := Ideal) (ix2 t 0), val_main_v28 (F := Ideal) (ix2 t 0), val_main_v40 (F := Ideal) (ix2 t 0), val_main_v52 (F := Ideal) (ix2 t 0)] : Fin 4 → EReal) g = ((cnt (K g) t.val : ℝ) : EReal) := by
  have e : val_main_v8 (F := Ideal) (ix2 t 0) = ((t.val : ℝ) : EReal) := by
    pointwise [val_main_v8, val_main_v7]
    show ((((BitVec.ofNat 32 t.val).toInt : ℤ) : ℝ) : EReal) = _
    have ht := t.isLt
    rw [BitVec.toInt_eq_toNat_of_lt (by rw [BitVec.toNat_ofNat]; omega), BitVec.toNat_ofNat, Nat.mod_eq_of_lt (by omega)]
    rfl
  have h : ∀ k : Nat, min (val_main_v8 (F := Ideal) (ix2 t 0) + Ideal.ofBits .f32 0x3F800000#32) (((k : ℕ) : ℝ) : EReal) = ((cnt k t.val : ℝ) : EReal) := by
    intro k
    rw [e, bits_one, min_cnt]
  match g with
  | ⟨0, _⟩ =>
    refine Eq.trans ?_ (h 2)
    pointwise [val_main_v16, val_main_v15, val_main_v14, val_main_v13, val_main_cst_3, val_main_cst_4, bits_2]
  | ⟨1, _⟩ =>
    refine Eq.trans ?_ (h 4)
    pointwise [val_main_v28, val_main_v27, val_main_v26, val_main_v25, val_main_cst_7, val_main_cst_8, bits_4]
  | ⟨2, _⟩ =>
    refine Eq.trans ?_ (h 8)
    pointwise [val_main_v40, val_main_v39, val_main_v38, val_main_v37, val_main_cst_11, val_main_cst_12, bits_8]
  | ⟨3, _⟩ =>
    refine Eq.trans ?_ (h 16)
    pointwise [val_main_v52, val_main_v51, val_main_v50, val_main_v49, val_main_cst_15, val_main_cst_16, bits_16]

theorem seqU_real (hu : ∀ i, IsReal (PJ i)) (j : Fin 512) (s : Nat) : IsReal (seq (fun s => U PJ s j) s) := by
  unfold seq
  split
  · exact hu _
  · exact ⟨0, rfl⟩

/-- The reference's mean over a window, from the running sums. -/
theorem mean_eq (hu : ∀ i, IsReal (PJ i)) (t : Fin 8208) (j : Fin 512) (k : Nat) (hk : 0 < k) :
    Ideal.div (∑ s ∈ Finset.range (t.val + 1), seq (fun s => U PJ s j) s - ∑ s ∈ Finset.range (t.val + 1 - k), seq (fun s => U PJ s j) s)
      ((cnt k t.val : ℝ) : EReal) =
    (∑ i ∈ Finset.range k, if i ≤ t.val then seq (fun s => U PJ s j) (t.val - i) else 0) * inv k t.val := by
  rw [Ideal.div_coe (cnt_ne hk), window_eq _ (seqU_real PJ hu j)]
  rfl

theorem pool_step (hu : ∀ i, IsReal (PJ i)) (t : Fin 8208) (k : Nat) (hk : 0 < k) {j j' : Fin 512} (hj : j' = j) {low d u : EReal}
    (hl : low = ∑ s ∈ Finset.range (t.val + 1 - k), seq (fun s => U PJ s j) s) (hd : d = ((cnt k t.val : ℝ) : EReal)) (hv : u = U PJ t j) :
    Ideal.div (∑ s ∈ Finset.range (1 + t.val), seq (fun s => U PJ s j') s - low) d - u =
      (∑ i ∈ Finset.range k, if i ≤ t.val then seq (fun s => U PJ s j) (t.val - i) else 0) * inv k t.val - U PJ t j := by
  subst hj
  rw [hl, hd, hv, Nat.add_comm 1, mean_eq PJ hu t _ k hk]

theorem low_eq (t : Fin 8208) (n k : Nat) (hk : k = n + 1) {j j' : Fin 512} (hj : j' = j) :
    ∑ s ∈ Finset.range (t.val - n), seq (fun s => U PJ s j') s = ∑ s ∈ Finset.range (t.val + 1 - k), seq (fun s => U PJ s j) s := by
  subst hj hk
  rw [Nat.add_sub_add_right]

theorem bits_zero : Ideal.ofBits .f32 0x0#32 = 0 := by simp [Ideal.ofBits, Ideal.ieee]

theorem ref_pool (hu : ∀ i, IsReal (PJ i)) (t : Fin 8208) (g : Fin 4) (e : Fin 128) : val_main_v58 (F := Ideal) PJ (ix2 t (col g e)) = PL PJ t (col g e) := by
  unfold PL
  rw [grp_col]
  match g with
  | ⟨0, _⟩ =>
    pointwise [val_main_v58, val_main_v57, val_main_v20, val_main_v19, val_main_v18, val_main_v17, val_main_v11, val_main_v10, val_main_v9, val_main_v6, ref_cs]
    refine pool_step PJ hu t 2 (by decide) ?_ ?_ (ref_cnt 0 t) ?_
    · exact Fin.ext (by dsimp only; omega)
    · split
      · next h => exact bits_zero.trans (by rw [Nat.sub_eq_zero_of_le (by omega), Finset.range_zero, Finset.sum_empty])
      · exact low_eq PJ t 1 _ rfl (Fin.ext (by dsimp only; omega))
    · pointwise [val_main_v0, U]
  | ⟨1, _⟩ =>
    pointwise [val_main_v58, val_main_v57, val_main_v32, val_main_v31, val_main_v30, val_main_v29, val_main_v23, val_main_v22, val_main_v21, val_main_v6, ref_cs]
    refine pool_step PJ hu t 4 (by decide) ?_ ?_ (ref_cnt 1 t) ?_
    · exact Fin.ext (by dsimp only; omega)
    · split
      · next h => exact bits_zero.trans (by rw [Nat.sub_eq_zero_of_le (by omega), Finset.range_zero, Finset.sum_empty])
      · exact low_eq PJ t 3 _ rfl (Fin.ext (by dsimp only; omega))
    · pointwise [val_main_v0, U]
  | ⟨2, _⟩ =>
    pointwise [val_main_v58, val_main_v57, val_main_v44, val_main_v43, val_main_v42, val_main_v41, val_main_v35, val_main_v34, val_main_v33, val_main_v6, ref_cs]
    have he := e.isLt
    rw [dif_neg (show ¬ (256 + e.val < 128) by omega), dif_neg (show ¬ (256 + e.val - 128 < 128) by omega), dif_pos (show 256 + e.val - 128 - 128 < 128 by omega)]
    refine pool_step PJ hu t 8 (by decide) ?_ ?_ (ref_cnt 2 t) ?_
    · exact Fin.ext (by dsimp only; omega)
    · split
      · next h => exact bits_zero.trans (by rw [Nat.sub_eq_zero_of_le (by omega), Finset.range_zero, Finset.sum_empty])
      · exact low_eq PJ t 7 _ rfl (Fin.ext (by dsimp only; omega))
    · pointwise [val_main_v0, U]
  | ⟨3, _⟩ =>
    pointwise [val_main_v58, val_main_v57, val_main_v56, val_main_v55, val_main_v54, val_main_v53, val_main_v47, val_main_v46, val_main_v45, val_main_v6, ref_cs]
    have he := e.isLt
    rw [dif_neg (show ¬ (384 + e.val < 128) by omega), dif_neg (show ¬ (384 + e.val - 128 < 128) by omega), dif_neg (show ¬ (384 + e.val - 128 - 128 < 128) by omega)]
    refine pool_step PJ hu t 16 (by decide) ?_ ?_ (ref_cnt 3 t) ?_
    · exact Fin.ext (by dsimp only; omega)
    · split
      · next h => exact bits_zero.trans (by rw [Nat.sub_eq_zero_of_le (by omega), Finset.range_zero, Finset.sum_empty])
      · exact low_eq PJ t 15 _ rfl (Fin.ext (by dsimp only; omega))
    · pointwise [val_main_v0, U]

theorem ref_pool' (hu : ∀ i, IsReal (PJ i)) (t : Fin 8208) (j : Fin 512) : val_main_v58 (F := Ideal) PJ (ix2 t j) = PL PJ t j := by
  rw [← col_grp j]
  exact ref_pool PJ hu t _ _

theorem inv_real (k t : Nat) : IsReal (inv k t) := ⟨_, rfl⟩

theorem sub_real {x y : EReal} : IsReal x → IsReal y → IsReal (x - y) := by
  rintro ⟨a, rfl⟩ ⟨b, rfl⟩
  exact ⟨a - b, (EReal.coe_sub a b).symm⟩

theorem pl_real (hu : ∀ i, IsReal (PJ i)) (t : Fin 8208) (j : Fin 512) : IsReal (PL PJ t j) := by
  refine sub_real ((IsReal.sum _ fun i => ?_).mul (inv_real _ _)) (hu _)
  split
  · exact seqU_real PJ hu j _
  · exact ⟨0, rfl⟩

theorem m_real (hu : ∀ i, IsReal (PJ i)) (hw : ∀ i, IsReal (PW i)) (hb : ∀ i, IsReal (PB i)) (t : Fin 8208) (j : Fin 512) : IsReal (M PJ PW PB t j) :=
  (IsReal.sum _ fun _ => (hw _).mul (pl_real PJ hu t _)).add (hb _)

theorem y_real (hu : ∀ i, IsReal (PJ i)) (hw : ∀ i, IsReal (PW i)) (hb : ∀ i, IsReal (PB i)) (hs : ∀ i, IsReal (PS i)) (t : Fin 8208) (j : Fin 512) :
    IsReal (Y PJ PW PB PS t j) := (m_real PJ PW PB hu hw hb t j).mul (hs _)

theorem ref_m (hu : ∀ i, IsReal (PJ i)) (t : Fin 8208) (j : Fin 512) : val_main_v65 (F := Ideal) PJ PW PB (ix2 t j) = M PJ PW PB t j := by
  unfold M
  simp only [← ref_pool' PJ hu]
  pointwise [val_main_v65, val_main_v64, val_main_v63, val_main_v62, val_main_v61, val_main_v60, val_main_v59]
  rfl

theorem ref_y (hu : ∀ i, IsReal (PJ i)) (t : Fin 8208) (j : Fin 512) : val_main_v68 (F := Ideal) PJ PW PB PS (ix2 t j) = Y PJ PW PB PS t j := by
  unfold Y
  rw [← ref_m PJ PW PB hu]
  pointwise [val_main_v68, val_main_v67, val_main_v66]

theorem ref_v (hu : ∀ i, IsReal (PJ i)) (t : Fin 8208) : val_main_v75 (F := Ideal) PJ PW PB PS (ix2 t 0) = VV PJ PW PB PS t := by
  unfold VV
  simp only [← ref_y PJ PW PB PS hu]
  pointwise [val_main_v75, val_main_v74, val_main_v73, val_main_v72, val_main_v71, val_main_v70, val_main_v69, val_main_cst_17, val_main_cst_18, val_main_cst_19]
  rw [div_half_rows]

theorem ref_n (hu : ∀ i, IsReal (PJ i)) (t : Fin 8208) (j : Fin 512) : val_main_v81 (F := Ideal) PJ PW PB PS (ix2 t j) = N PJ PW PB PS t j := by
  unfold N
  rw [← ref_y PJ PW PB PS hu, ← ref_v PJ PW PB PS hu]
  pointwise [val_main_v81, val_main_v80, val_main_v76]

theorem ref_dn (t : Fin 8208) (j : Fin 512) : val_main_v90 (F := Ideal) DY GN (ix2 t j) = DN DY GN t j := by
  unfold DN
  pointwise [val_main_v90, val_main_v89, val_main_v82, val_main_v83, val_main_v1, val_main_v85]

theorem ref_dyp (hu : ∀ i, IsReal (PJ i)) (hd : ∀ i, IsReal (DY i)) (hw : ∀ i, IsReal (PW i)) (hb : ∀ i, IsReal (PB i)) (hs : ∀ i, IsReal (PS i)) (hg : ∀ i, IsReal (GN i))
    (t : Fin 8208) (j : Fin 512) : val_main_v105 (F := Ideal) DY PJ PW PB PS GN (ix2 t j) = DYP DY PJ PW PB PS GN t j := by
  pointwise [val_main_v105, val_main_v104, val_main_v103, val_main_v102, val_main_v101, val_main_v100, val_main_v99, val_main_v98, val_main_v97, val_main_v96, val_main_v95, val_main_v94, val_main_v93, val_main_v92, val_main_v79, val_main_v78, val_main_v77, val_main_v76, ref_dn, ref_y PJ PW PB PS hu, ref_v PJ PW PB PS hu, val_main_cst_25, val_main_cst_23, val_main_cst_24, val_main_cst_20]
  rw [Fin.sum_univ_one]
  simp only [ref_v PJ PW PB PS hu, div_half_rows]
  unfold DYP MD N
  exact (rms_half (Y PJ PW PB PS t) (DN DY GN t) (fun j => y_real PJ PW PB PS hu hw hb hs t j) (fun j => (hd _).mul (hg _)) _ rfl j).symm

theorem ref_dm (h : ∀ t j, val_main_v105 (F := Ideal) DY PJ PW PB PS GN (ix2 t j) = DYP DY PJ PW PB PS GN t j)
    (t : Fin 8208) (j : Fin 512) : val_main_v110 (F := Ideal) DY PJ PW PB PS GN (ix2 t j) = DM DY PJ PW PB PS GN t j := by
  unfold DM
  rw [← h]
  pointwise [val_main_v110, val_main_v109, val_main_v66]

theorem ref_dp (h : ∀ t j, val_main_v105 (F := Ideal) DY PJ PW PB PS GN (ix2 t j) = DYP DY PJ PW PB PS GN t j)
    (t : Fin 8208) (j : Fin 512) : val_main_v121 (F := Ideal) DY PJ PW PB PS GN (ix2 t j) = DP DY PJ PW PB PS GN t j := by
  unfold DP
  simp only [← ref_dm DY PJ PW PB PS GN h]
  pointwise [val_main_v121, val_main_v118, val_main_v117, val_main_v116, val_main_v115]
  rfl

theorem ref_dps (hu : ∀ i, IsReal (PJ i)) (h : ∀ t j, val_main_v105 (F := Ideal) DY PJ PW PB PS GN (ix2 t j) = DYP DY PJ PW PB PS GN t j)
    (j : Fin 512) : val_main_v168 (F := Ideal) DY PJ PW PB PS GN (ix2 0 j) = ∑ t : Fin 8208, DYP DY PJ PW PB PS GN t j * M PJ PW PB t j := by
  simp only [← ref_m PJ PW PB hu, ← h]
  pointwise [val_main_v168, val_main_v111, val_main_v108, val_main_v107, val_main_v106, val_main_cst_26, val_main_cst_27]
  rw [Fin.sum_univ_one]
  exact Finset.sum_congr rfl fun _ _ => mul_comm _ _

theorem ref_dpb (h : ∀ t j, val_main_v105 (F := Ideal) DY PJ PW PB PS GN (ix2 t j) = DYP DY PJ PW PB PS GN t j)
    (j : Fin 512) : val_main_v169 (F := Ideal) DY PJ PW PB PS GN (ix2 0 j) = ∑ t : Fin 8208, DM DY PJ PW PB PS GN t j := by
  simp only [← ref_dm DY PJ PW PB PS GN h]
  pointwise [val_main_v169, val_main_v114, val_main_v113, val_main_v112, val_main_cst_28, val_main_cst_29]
  rw [Fin.sum_univ_one]

theorem ref_dgn (hu : ∀ i, IsReal (PJ i)) (j : Fin 512) : val_main_v170 (F := Ideal) DY PJ PW PB PS (ix2 0 j) = ∑ t : Fin 8208, DY (ix2 t (wide j)) * N PJ PW PB PS t j := by
  simp only [← ref_n PJ PW PB PS hu]
  pointwise [val_main_v170, val_main_v91, val_main_v88, val_main_v87, val_main_v86, val_main_v85, val_main_cst_21, val_main_cst_22]
  rw [Fin.sum_univ_one]
  exact Finset.sum_congr rfl fun _ _ => mul_comm _ _

theorem ref_dpw (hu : ∀ i, IsReal (PJ i)) (h : ∀ t j, val_main_v105 (F := Ideal) DY PJ PW PB PS GN (ix2 t j) = DYP DY PJ PW PB PS GN t j)
    (g : Fin 4) (i e : Fin 128) : val_main_v120 (F := Ideal) DY PJ PW PB PS GN (ix3 g i e) = ∑ t : Fin 8208, PL PJ t (col g i) * DM DY PJ PW PB PS GN t (col g e) := by
  simp only [← ref_dm DY PJ PW PB PS GN h, ← ref_pool' PJ hu]
  pointwise [val_main_v120, val_main_v119, val_main_v116, val_main_v115, val_main_v59]
  exact Finset.sum_congr rfl fun _ _ => mul_comm _ _

end Cert.Proof.Pool

end
-- ==== Proof.PoolHost.lean ====
/- What the host hands the mixer's backward kernel for its pool half: the pooled rows by doubled sums, the mapped rows and the packed vectors. -/
module

public import proofs.«01_k».proof.Proof.PoolMath
public import proofs.«01_k».proof.Proof.MixRun
public import Idealize.ShloMosaic.Lib.StableHlo.RunRead

@[expose] public section

set_option maxRecDepth 65536
set_option maxHeartbeats 4000000

noncomputable section

namespace Cert.Proof.Pool

open Idealize.ShloMosaic Idealize.ShloMosaic.TcCoe Idealize.SL.Sem

open Cert.Kernel5Ideal Cert.Kernel5Ideal.Gen Cert.Kernel5Ideal.Mix

section Rows

variable (PJ : S8208x1536.Idx → EReal) (PW : S4x128x128.Idx → EReal) (PB PS : S512.Idx → EReal) (GN : S1024.Idx → EReal)

def X37 : S8224x1536.Idx → EReal :=
  concatenate S8224x1536 0 [⟨S16x1536, broadcastInDim S16x1536 ![] bcast_S_S16x1536 (constant (F := Ideal) S_ .f32 0x00000000#32)⟩, ⟨S8208x1536, PJ⟩]
    concatenates_S16x1536_S8208x1536_S8224x1536_d0
def X42 : S8224x512.Idx → EReal := extractStridedSlice S8224x512 ![0, 0] (X37 PJ) slices_S8224x1536_S8224x512_0_0
def X45 : FVec Ideal S8223x512 .f32 := addf (extractStridedSlice S8223x512 ![1, 0] (X42 PJ) slices_S8224x512_S8223x512_1_0) (extractStridedSlice S8223x512 ![0, 0] (X42 PJ) slices_S8224x512_S8223x512_0_0)
def X57 : FVec Ideal S8221x512 .f32 := addf (extractStridedSlice S8221x512 ![2, 0] (X45 PJ) slices_S8223x512_S8221x512_2_0) (extractStridedSlice S8221x512 ![0, 0] (X45 PJ) slices_S8223x512_S8221x512_0_0)
def X69 : FVec Ideal S8217x512 .f32 := addf (extractStridedSlice S8217x512 ![4, 0] (X57 PJ) slices_S8221x512_S8217x512_4_0) (extractStridedSlice S8217x512 ![0, 0] (X57 PJ) slices_S8221x512_S8217x512_0_0)
def X81 : FVec Ideal S8209x512 .f32 := addf (extractStridedSlice S8209x512 ![8, 0] (X69 PJ) slices_S8217x512_S8209x512_8_0) (extractStridedSlice S8209x512 ![0, 0] (X69 PJ) slices_S8217x512_S8209x512_0_0)
def XI (b : BitVec 32) : FVec Ideal S8208x1 .f32 :=
  Host.divf (broadcastInDim S8208x1 ![] bcast_S_S8208x1 (constant (F := Ideal) S_ .f32 0x3F800000#32))
    (minimumf (addf (sitofp .f32 (iotaInDim S8208x1 32 0)) (broadcastInDim S8208x1 ![] bcast_S_S8208x1 (constant (F := Ideal) S_ .f32 0x3F800000#32)))
      (broadcastInDim S8208x1 ![] bcast_S_S8208x1 (constant (F := Ideal) S_ .f32 b)))
def X54 : FVec Ideal S8208x128 .f32 := subf (mulf (extractStridedSlice S8208x128 ![15, 0] (X45 PJ) slices_S8223x512_S8208x128_15_0) (broadcastInDim S8208x128 ![0, 1] bcast_S8208x1_S8208x128_0_1 (XI 0x40000000#32)))
  (extractStridedSlice S8208x128 ![16, 0] (X37 PJ) slices_S8224x1536_S8208x128_16_0)
def X66 : FVec Ideal S8208x128 .f32 := subf (mulf (extractStridedSlice S8208x128 ![13, 128] (X57 PJ) slices_S8221x512_S8208x128_13_128) (broadcastInDim S8208x128 ![0, 1] bcast_S8208x1_S8208x128_0_1 (XI 0x40800000#32)))
  (extractStridedSlice S8208x128 ![16, 128] (X37 PJ) slices_S8224x1536_S8208x128_16_128)
def X78 : FVec Ideal S8208x128 .f32 := subf (mulf (extractStridedSlice S8208x128 ![9, 256] (X69 PJ) slices_S8217x512_S8208x128_9_256) (broadcastInDim S8208x128 ![0, 1] bcast_S8208x1_S8208x128_0_1 (XI 0x41000000#32)))
  (extractStridedSlice S8208x128 ![16, 256] (X37 PJ) slices_S8224x1536_S8208x128_16_256)
def X90 : FVec Ideal S8208x128 .f32 := subf (mulf (extractStridedSlice S8208x128 ![1, 384] (X81 PJ) slices_S8209x512_S8208x128_1_384) (broadcastInDim S8208x128 ![0, 1] bcast_S8208x1_S8208x128_0_1 (XI 0x41800000#32)))
  (extractStridedSlice S8208x128 ![16, 384] (X37 PJ) slices_S8224x1536_S8208x128_16_384)
def X91 : FVec Ideal S8208x512 .f32 :=
  concatenate S8208x512 1 [⟨S8208x128, X54 PJ⟩, ⟨S8208x128, X66 PJ⟩, ⟨S8208x128, X78 PJ⟩, ⟨S8208x128, X90 PJ⟩] concatenates_S8208x128_S8208x128_S8208x128_S8208x128_S8208x512_d1
def X96 : FVec Ideal S8208x512 .f32 :=
  shapeCast S8208x512 (transpose S8208x4x128 [2, 0, 1] (Host.dotGeneral (F := Ideal) dot_S4x128x128_S8208x4x128_S4x128x8208_1_2_2_0_0_1 none (truncf .bf16 PW bitsLt_bf16_f32)
    (shapeCast S8208x4x128 (truncf .bf16 (X91 PJ) bitsLt_bf16_f32) shapeCasts_S8208x512_S8208x4x128)) transposes_S4x128x8208_S8208x4x128_2_0_1) shapeCasts_S8208x4x128_S8208x512

/-- The padded column as a sequence. -/
def Z (j : Fin 512) (n : Nat) : EReal := if 16 ≤ n then seq (fun s => U PJ s j) (n - 16) else 0

theorem x42 (n : Fin 8224) (j : Fin 512) : X42 PJ (ix2 n j) = Z PJ j n.val := by
  have hn := n.isLt
  unfold X42 Z
  pointwise [X37]
  split
  · next h =>
    obtain h : n.val < 16 := h
    rw [if_neg (by omega)]
  · next h =>
    obtain h : ¬ n.val < 16 := h
    refine Eq.trans ?_ (Eq.trans (if_pos (by omega)) (seq_of_lt _ (by omega))).symm
    rfl

/-- A doubled sum. -/
theorem dbl (f : Nat → EReal) (k n : Nat) : ∑ i ∈ Finset.range k, f (n + k + i) + ∑ i ∈ Finset.range k, f (n + i) = ∑ i ∈ Finset.range (k + k), f (n + i) := by
  rw [Finset.sum_range_add, add_comm]
  simp only [Nat.add_assoc]

theorem x45 (n : Fin 8223) (j : Fin 512) : X45 PJ (ix2 n j) = ∑ i ∈ Finset.range 2, Z PJ j (n.val + i) := by
  unfold X45
  pointwise [x42]
  rw [Finset.sum_range_succ, Finset.sum_range_one, add_comm, Nat.add_comm 1]
  rfl

theorem x57 (n : Fin 8221) (j : Fin 512) : X57 PJ (ix2 n j) = ∑ i ∈ Finset.range 4, Z PJ j (n.val + i) := by
  unfold X57
  pointwise [x45]
  rw [Nat.add_comm 2]
  exact dbl (Z PJ j) 2 n.val

theorem x69 (n : Fin 8217) (j : Fin 512) : X69 PJ (ix2 n j) = ∑ i ∈ Finset.range 8, Z PJ j (n.val + i) := by
  unfold X69
  pointwise [x57]
  rw [Nat.add_comm 4]
  exact dbl (Z PJ j) 4 n.val

theorem x81 (n : Fin 8209) (j : Fin 512) : X81 PJ (ix2 n j) = ∑ i ∈ Finset.range 16, Z PJ j (n.val + i) := by
  unfold X81
  pointwise [x69]
  rw [Nat.add_comm 8]
  exact dbl (Z PJ j) 8 n.val

theorem xi (k : Nat) (hk : 0 < k) (b : BitVec 32) (hb : Ideal.ofBits .f32 b = (((k : ℕ) : ℝ) : EReal)) (t : Fin 8208) : XI b (ix2 t 0) = inv k t.val := by
  have e : (FloatOps.sitofp (F := Ideal) FTy.f32 (BitVec.ofNat 32 t.val) : EReal) = ((t.val : ℝ) : EReal) := by
    show ((((BitVec.ofNat 32 t.val).toInt : ℤ) : ℝ) : EReal) = _
    have ht := t.isLt
    rw [BitVec.toInt_eq_toNat_of_lt (by rw [BitVec.toNat_ofNat]; omega), BitVec.toNat_ofNat, Nat.mod_eq_of_lt (by omega)]
    rfl
  unfold XI inv
  pointwise [e, hb]
  rw [show (1 : EReal) = ((1 : ℝ) : EReal) from rfl, min_cnt, Ideal.div_coe (cnt_ne hk)]
  exact one_mul _

/-- The window's sum from the padded rows. -/
theorem win (t : Fin 8208) (j : Fin 512) (k : Nat) (hk : k ≤ 16) : ∑ i ∈ Finset.range k, Z PJ j (17 - k + t.val + i) =
    ∑ i ∈ Finset.range k, if i ≤ t.val then seq (fun s => U PJ s j) (t.val - i) else 0 := by
  rw [← Finset.sum_range_reflect]
  refine Finset.sum_congr rfl fun i hi => ?_
  have hi := Finset.mem_range.mp hi
  unfold Z
  rw [show 17 - k + t.val + (k - 1 - i) = 16 + t.val - i by omega]
  by_cases h : i ≤ t.val
  · rw [if_pos (by omega), if_pos h, show 16 + t.val - i - 16 = t.val - i by omega]
  · rw [if_neg (by omega), if_neg h]

theorem sub_at (t : Fin 8208) {j j' : Fin 512} (hj : j' = j) (k n : Nat) (x : EReal) (h : j'.val < 1536) :
    (∑ i ∈ Finset.range k, Z PJ j' (n + i)) * x - PJ (ix2 t ⟨j'.val, h⟩) = (∑ i ∈ Finset.range k, Z PJ j (n + i)) * x - U PJ t j := by
  subst hj
  rfl

theorem x91 (t : Fin 8208) (g : Fin 4) (e : Fin 128) : X91 PJ (ix2 t (col g e)) = PL PJ t (col g e) := by
  have he := e.isLt
  unfold PL X91
  rw [grp_col]
  match g with
  | ⟨0, _⟩ =>
    rw [show K ⟨0, _⟩ = 2 from rfl, ← win PJ t _ 2 (by decide), ← xi 2 (by decide) _ bits_2]
    pointwise [X54, x45, X37]
    exact sub_at PJ t (Fin.ext (by dsimp only; omega)) _ _ _ _
  | ⟨1, _⟩ =>
    rw [show K ⟨1, _⟩ = 4 from rfl, ← win PJ t _ 4 (by decide), ← xi 4 (by decide) _ bits_4]
    pointwise [X66, x57, X37]
    exact sub_at PJ t (Fin.ext (by dsimp only; omega)) _ _ _ _
  | ⟨2, _⟩ =>
    rw [show K ⟨2, _⟩ = 8 from rfl, ← win PJ t _ 8 (by decide), ← xi 8 (by decide) _ bits_8]
    pointwise [X78, x69, X37]
    rw [dif_neg (show ¬ (256 + e.val < 128) by omega), dif_neg (show ¬ (256 + e.val - 128 < 128) by omega), dif_pos (show 256 + e.val - 128 - 128 < 128 by omega)]
    exact sub_at PJ t (Fin.ext (by dsimp only; omega)) _ _ _ _
  | ⟨3, _⟩ =>
    rw [show K ⟨3, _⟩ = 16 from rfl, ← win PJ t _ 16 (by decide), ← xi 16 (by decide) _ bits_16]
    pointwise [X90, x81, X37]
    rw [dif_neg (show ¬ (384 + e.val < 128) by omega), dif_neg (show ¬ (384 + e.val - 128 < 128) by omega), dif_neg (show ¬ (384 + e.val - 128 - 128 < 128) by omega)]
    exact sub_at PJ t (Fin.ext (by dsimp only; omega)) _ _ _ _

end Rows

variable (m : (ℓ : Loc nD τ sig) → Buf (Elt Ideal) ℓ) (c : Dev nD)

/-- The arguments at their own types. -/
def ADY : S8208x1024.Idx → EReal := m ((c : Thread nD τ).loc main_arg0)
def APJ : S8208x1536.Idx → EReal := m ((c : Thread nD τ).loc main_arg1)
def APW : S4x128x128.Idx → EReal := m ((c : Thread nD τ).loc main_arg2)
def APB : S512.Idx → EReal := m ((c : Thread nD τ).loc main_arg3)
def APS : S512.Idx → EReal := m ((c : Thread nD τ).loc main_arg4)
def AGN : S1024.Idx → EReal := m ((c : Thread nD τ).loc main_arg12)
/-- The region's entry arrays. -/
def EDY : S8208x1024.Idx → EReal := V m c main_arg0
def EA : S8208x4608.Idx → EReal := V m c main_v302
def EV : S16x512.Idx → EReal := V m c main_v8
def EW : S4x128x128.Idx → EReal := V m c main_v9

theorem eDY : EDY m c = ADY m c := by
  show StableHlo.after hostOps0 _ _ = _
  after_reads_simp
  rfl
theorem eW : EW m c = APW m c := by
  show StableHlo.after hostOps0 _ _ = _
  after_reads_simp
  rfl

theorem read54 : (StableHlo.upto hostOps0 (fun b => m (c, b)) 104 (Proc.devRef .tc main_v54) : S8208x128.Idx → EReal) = X54 (APJ m c) := by
  after_reads_simp
  rfl

theorem read66 : (StableHlo.upto hostOps0 (fun b => m (c, b)) 104 (Proc.devRef .tc main_v66) : S8208x128.Idx → EReal) = X66 (APJ m c) := by
  after_reads_simp
  rfl

theorem read78 : (StableHlo.upto hostOps0 (fun b => m (c, b)) 104 (Proc.devRef .tc main_v78) : S8208x128.Idx → EReal) = X78 (APJ m c) := by
  after_reads_simp
  rfl

theorem read90 : (StableHlo.upto hostOps0 (fun b => m (c, b)) 104 (Proc.devRef .tc main_v90) : S8208x128.Idx → EReal) = X90 (APJ m c) := by
  after_reads_simp
  rfl

theorem cut91 (x : S8208x512.Idx → EReal) (hx : x = concatenate S8208x512 1
      [⟨S8208x128, (StableHlo.upto hostOps0 (fun b => m (c, b)) 104 (Proc.devRef .tc main_v54) : S8208x128.Idx → EReal)⟩,
        ⟨S8208x128, (StableHlo.upto hostOps0 (fun b => m (c, b)) 104 (Proc.devRef .tc main_v66) : S8208x128.Idx → EReal)⟩,
        ⟨S8208x128, (StableHlo.upto hostOps0 (fun b => m (c, b)) 104 (Proc.devRef .tc main_v78) : S8208x128.Idx → EReal)⟩,
        ⟨S8208x128, (StableHlo.upto hostOps0 (fun b => m (c, b)) 104 (Proc.devRef .tc main_v90) : S8208x128.Idx → EReal)⟩]
      concatenates_S8208x128_S8208x128_S8208x128_S8208x128_S8208x512_d1) : x = X91 (APJ m c) := by
  subst hx
  rw [read54, read66, read78, read90]
  rfl

theorem read91 : StableHlo.upto hostOps0 (fun b => m (c, b)) 329 (Proc.devRef .tc main_v91) = X91 (APJ m c) := by
  after_reads_simp
  exact cut91 m c _ rfl

theorem read91' : StableHlo.upto hostOps0 (fun b => m (c, b)) 105 (no_index (Proc.devRef .tc main_v91)) = X91 (APJ m c) := by
  after_reads_simp
  exact cut91 m c _ rfl

/-- The packed vectors. -/
def XV : S16x512.Idx → EReal := concatenate S16x512 0
  [⟨S1x512, broadcastInDim S1x512 ![1] bcast_S512_S1x512_1 (APB m c)⟩, ⟨S1x512, broadcastInDim S1x512 ![1] bcast_S512_S1x512_1 (APS m c)⟩,
    ⟨S1x512, (StableHlo.upto hostOps0 (fun b => m (c, b)) 9 (Proc.devRef .tc main_v2) : S1x512.Idx → EReal)⟩,
    ⟨S1x512, (StableHlo.upto hostOps0 (fun b => m (c, b)) 9 (Proc.devRef .tc main_v3) : S1x512.Idx → EReal)⟩,
    ⟨S1x512, (StableHlo.upto hostOps0 (fun b => m (c, b)) 9 (Proc.devRef .tc main_v4) : S1x512.Idx → EReal)⟩,
    ⟨S1x512, (StableHlo.upto hostOps0 (fun b => m (c, b)) 9 (Proc.devRef .tc main_v5) : S1x512.Idx → EReal)⟩,
    ⟨S4x512, (StableHlo.upto hostOps0 (fun b => m (c, b)) 9 (Proc.devRef .tc main_arg5) : S4x512.Idx → EReal)⟩,
    ⟨S2x512, shapeCast S2x512 (AGN m c) shapeCasts_S1024_S2x512⟩,
    ⟨S4x512, (StableHlo.upto hostOps0 (fun b => m (c, b)) 9 (Proc.devRef .tc main_v7) : S4x512.Idx → EReal)⟩]
  concatenates_S1x512_S1x512_S1x512_S1x512_S1x512_S1x512_S4x512_S2x512_S4x512_S16x512_d0

theorem read0 : (StableHlo.upto hostOps0 (fun b => m (c, b)) 9 (Proc.devRef .tc main_v0) : S1x512.Idx → EReal) = broadcastInDim S1x512 ![1] bcast_S512_S1x512_1 (APB m c) := by
  after_reads_simp
  rfl
theorem read1 : (StableHlo.upto hostOps0 (fun b => m (c, b)) 9 (Proc.devRef .tc main_v1) : S1x512.Idx → EReal) = broadcastInDim S1x512 ![1] bcast_S512_S1x512_1 (APS m c) := by
  after_reads_simp
  rfl
theorem read6 : (StableHlo.upto hostOps0 (fun b => m (c, b)) 9 (Proc.devRef .tc main_v6) : S2x512.Idx → EReal) = shapeCast S2x512 (AGN m c) shapeCasts_S1024_S2x512 := by
  after_reads_simp
  rfl

theorem cut8 (x : S16x512.Idx → EReal) (hx : x = concatenate S16x512 0
      [⟨S1x512, (StableHlo.upto hostOps0 (fun b => m (c, b)) 9 (Proc.devRef .tc main_v0) : S1x512.Idx → EReal)⟩,
        ⟨S1x512, (StableHlo.upto hostOps0 (fun b => m (c, b)) 9 (Proc.devRef .tc main_v1) : S1x512.Idx → EReal)⟩,
        ⟨S1x512, (StableHlo.upto hostOps0 (fun b => m (c, b)) 9 (Proc.devRef .tc main_v2) : S1x512.Idx → EReal)⟩,
        ⟨S1x512, (StableHlo.upto hostOps0 (fun b => m (c, b)) 9 (Proc.devRef .tc main_v3) : S1x512.Idx → EReal)⟩,
        ⟨S1x512, (StableHlo.upto hostOps0 (fun b => m (c, b)) 9 (Proc.devRef .tc main_v4) : S1x512.Idx → EReal)⟩,
        ⟨S1x512, (StableHlo.upto hostOps0 (fun b => m (c, b)) 9 (Proc.devRef .tc main_v5) : S1x512.Idx → EReal)⟩,
        ⟨S4x512, (StableHlo.upto hostOps0 (fun b => m (c, b)) 9 (Proc.devRef .tc main_arg5) : S4x512.Idx → EReal)⟩,
        ⟨S2x512, (StableHlo.upto hostOps0 (fun b => m (c, b)) 9 (Proc.devRef .tc main_v6) : S2x512.Idx → EReal)⟩,
        ⟨S4x512, (StableHlo.upto hostOps0 (fun b => m (c, b)) 9 (Proc.devRef .tc main_v7) : S4x512.Idx → EReal)⟩]
      concatenates_S1x512_S1x512_S1x512_S1x512_S1x512_S1x512_S4x512_S2x512_S4x512_S16x512_d0) : x = XV m c := by
  subst hx
  rw [read0, read1, read6]
  rfl

theorem eV : EV m c = XV m c := by
  show StableHlo.after hostOps0 _ _ = _
  after_reads_simp
  exact cut8 m c _ rfl

theorem read8 : StableHlo.upto hostOps0 (fun b => m (c, b)) 110 (no_index (Proc.devRef .tc main_v8)) = XV m c := by
  after_reads_simp
  exact cut8 m c _ rfl

theorem read99 : (StableHlo.upto hostOps0 (fun b => m (c, b)) 329 (Proc.devRef .tc main_v99) : S8208x512.Idx → EReal) =
    addf (F := Ideal) (s := S8208x512) (φ := .f32) (X96 (APJ m c) (APW m c)) (broadcastInDim S8208x512 ![0, 1] bcast_S1x512_S8208x512_0_1 (extractStridedSlice S1x512 ![0, 0] (XV m c) slices_S16x512_S1x512_0_0)) := by
  after_reads_simp [read91', read8]
  rfl

theorem xv0 (j : Fin 512) : XV m c (ix2 0 j) = APB m c (ix1 j) := by
  unfold XV
  pointwise []

theorem xv1 (j : Fin 512) : XV m c (ix2 1 j) = APS m c (ix1 j) := by
  unfold XV
  pointwise []

theorem xv10 (j : Fin 512) : XV m c (ix2 10 j) = AGN m c (ix1 (wide j)) := by
  unfold XV
  pointwise []

theorem x96 (t : Fin 8208) (j : Fin 512) : X96 (APJ m c) (APW m c) (ix2 t j) = ∑ i : Fin 128, APW m c (ix3 (grp j) i (lane j)) * PL (APJ m c) t (col (grp j) i) := by
  simp only [← x91]
  unfold X96
  pointwise []
  rfl

theorem eA (t : Fin 8208) (j : Fin 512) : EA m c (ix2 t ⟨j.val, by have := j.isLt; omega⟩) = PL (APJ m c) t j
    ∧ EA m c (ix2 t ⟨512 + j.val, by have := j.isLt; omega⟩) = M (APJ m c) (APW m c) (APB m c) t j := by
  have hj := j.isLt
  obtain ⟨x2, x3, x4, x5, x6, x7, x8, e⟩ : ∃ x2 x3 x4 x5 x6 x7 x8 : S8208x512.Idx → EReal, EA m c = concatenate S8208x4608 1
      [⟨S8208x512, (StableHlo.upto hostOps0 (fun b => m (c, b)) 329 (Proc.devRef .tc main_v91) : S8208x512.Idx → EReal)⟩,
        ⟨S8208x512, (StableHlo.upto hostOps0 (fun b => m (c, b)) 329 (Proc.devRef .tc main_v99) : S8208x512.Idx → EReal)⟩,
        ⟨S8208x512, x2⟩, ⟨S8208x512, x3⟩, ⟨S8208x512, x4⟩, ⟨S8208x512, x5⟩, ⟨S8208x512, x6⟩, ⟨S8208x512, x7⟩, ⟨S8208x512, x8⟩]
      concatenates_S8208x512_S8208x512_S8208x512_S8208x512_S8208x512_S8208x512_S8208x512_S8208x512_S8208x512_S8208x4608_d1 := by
    refine ⟨StableHlo.upto hostOps0 (fun b => m (c, b)) 329 (Proc.devRef .tc main_v122), StableHlo.upto hostOps0 (fun b => m (c, b)) 329 (Proc.devRef .tc main_v136), StableHlo.upto hostOps0 (fun b => m (c, b)) 329 (Proc.devRef .tc main_v148), StableHlo.upto hostOps0 (fun b => m (c, b)) 329 (Proc.devRef .tc main_v162), StableHlo.upto hostOps0 (fun b => m (c, b)) 329 (Proc.devRef .tc main_v169), StableHlo.upto hostOps0 (fun b => m (c, b)) 329 (Proc.devRef .tc main_v183), StableHlo.upto hostOps0 (fun b => m (c, b)) 329 (Proc.devRef .tc main_v178), ?_⟩
    show StableHlo.after hostOps0 _ _ = _
    simp (disch := decide) only [StableHlo.readAfter, StableHlo.nary_result']
    rfl
  rw [read91, read99] at e
  rw [e]
  constructor
  · refine Eq.trans ?_ ((congrArg (fun j => X91 (APJ m c) (ix2 t j)) (col_grp j).symm).trans ((x91 (APJ m c) t (grp j) (lane j)).trans (congrArg (PL (APJ m c) t) (col_grp j))))
    pointwise []
  · unfold M
    rw [← x96, ← xv0]
    pointwise []

end Cert.Proof.Pool

end
-- ==== Proof.PoolPay.lean ====
/- The blocks of one tile as the mixer's body computes them, read as the pool's functions of the arguments. -/
module

public import proofs.«01_k».proof.Proof.PoolHost
public import Idealize.ShloMosaic.Lib.Pipeline.ReadBack
public import Idealize.ShloMosaic.Lib.KernelVsHost

@[expose] public section

set_option maxRecDepth 16384
set_option maxHeartbeats 1000000

noncomputable section

namespace Cert.Proof.Pool

open Idealize.ShloMosaic Idealize.ShloMosaic.TcCoe
open Cert.Kernel5Ideal Cert.Kernel5Ideal.Gen

variable (DY : S8208x1024.Idx → EReal) (PJ : S8208x1536.Idx → EReal) (PW : S4x128x128.Idx → EReal) (PB PS : S512.Idx → EReal) (GN : S1024.Idx → EReal)
  (ro : Fin 432 → Fin 8208) (x0 : S432x1024.Idx → EReal) (x5 : S432x4608.Idx → EReal) (x6 : S16x512.Idx → EReal) (x7 : S4x128x128.Idx → EReal)

/-- The blocks hold the rows `ro` of the arguments. -/
structure Tile : Prop where
  dy : ∀ r (j : Fin 1024), x0 (ix2 r j) = DY (ix2 (ro r) j)
  pl : ∀ r (j : Fin 512), x5 (ix2 r ⟨j.val, by have := j.isLt; omega⟩) = PL PJ (ro r) j
  mm : ∀ r (j : Fin 512), x5 (ix2 r ⟨512 + j.val, by have := j.isLt; omega⟩) = M PJ PW PB (ro r) j
  ps : ∀ j : Fin 512, x6 (ix2 1 j) = PS (ix1 j)
  gn : ∀ j : Fin 512, x6 (ix2 10 j) = GN (ix1 (wide j))
  pw : ∀ g a b, x7 (ix3 g a b) = PW (ix3 g a b)

/-- A load of columns. -/
theorem ld_cols {n : Nat} (o w : Nat) (inb) (r : Fin 432) (j : Fin w) (j' : Fin n) (x : (Shape.mk 2 ![432, n]).Idx → EReal) (e : j'.val = o + j.val) :
    View.ld (Val := Elt Ideal) (e' := .f32) (x : FVec Ideal (Shape.mk 2 ![432, n]) .f32) (Rect.unit (s := Shape.mk 2 ![432, n]) ![0, o] ![432, w] inb) (ix2 r j) = x (ix2 r j') := by
  refine congrArg x ?_
  funext a
  apply Fin.ext
  match a with
  | ⟨0, _⟩ => show 0 + 1 * r.val = r.val; omega
  | ⟨1, _⟩ => show o + 1 * j.val = j'.val; omega

def rM0 : FVec Ideal S432x128 .f32 := (View.ld (Val := Elt Ideal) (e' := .f32) (x5 : FVec Ideal S432x4608 .f32) (Rect.unit (s := S432x4608) ![0, 512] ![432, 128] (by decide)) : FVec Ideal S432x128 .f32)
def vM0 : FVec Ideal S432x128 .f32 := k0_pay12 (F := Ideal) (rM0 x5)
def rP0 : FVec Ideal S432x128 .f32 := (View.ld (Val := Elt Ideal) (e' := .f32) (x5 : FVec Ideal S432x4608 .f32) (Rect.unit (s := S432x4608) ![0, 0] ![432, 128] (by decide)) : FVec Ideal S432x128 .f32)
def vP0 : FVec Ideal S432x128 .f32 := k0_pay18 (F := Ideal) (rP0 x5)
def vY0 : FVec Ideal S432x128 .f32 := k0_pay22 (F := Ideal) (k0_pay9 (F := Ideal) x6) (vM0 x5)

def rM1 : FVec Ideal S432x128 .f32 := (View.ld (Val := Elt Ideal) (e' := .f32) (x5 : FVec Ideal S432x4608 .f32) (Rect.unit (s := S432x4608) ![0, 640] ![432, 128] (by decide)) : FVec Ideal S432x128 .f32)
def vM1 : FVec Ideal S432x128 .f32 := k0_pay13 (F := Ideal) (rM1 x5)
def rP1 : FVec Ideal S432x128 .f32 := (View.ld (Val := Elt Ideal) (e' := .f32) (x5 : FVec Ideal S432x4608 .f32) (Rect.unit (s := S432x4608) ![0, 128] ![432, 128] (by decide)) : FVec Ideal S432x128 .f32)
def vP1 : FVec Ideal S432x128 .f32 := k0_pay19 (F := Ideal) (rP1 x5)
def vY1 : FVec Ideal S432x128 .f32 := k0_pay23 (F := Ideal) (k0_pay9 (F := Ideal) x6) (vM1 x5)

def rM2 : FVec Ideal S432x128 .f32 := (View.ld (Val := Elt Ideal) (e' := .f32) (x5 : FVec Ideal S432x4608 .f32) (Rect.unit (s := S432x4608) ![0, 768] ![432, 128] (by decide)) : FVec Ideal S432x128 .f32)
def vM2 : FVec Ideal S432x128 .f32 := k0_pay14 (F := Ideal) (rM2 x5)
def rP2 : FVec Ideal S432x128 .f32 := (View.ld (Val := Elt Ideal) (e' := .f32) (x5 : FVec Ideal S432x4608 .f32) (Rect.unit (s := S432x4608) ![0, 256] ![432, 128] (by decide)) : FVec Ideal S432x128 .f32)
def vP2 : FVec Ideal S432x128 .f32 := k0_pay20 (F := Ideal) (rP2 x5)
def vY2 : FVec Ideal S432x128 .f32 := k0_pay24 (F := Ideal) (k0_pay9 (F := Ideal) x6) (vM2 x5)

def rM3 : FVec Ideal S432x128 .f32 := (View.ld (Val := Elt Ideal) (e' := .f32) (x5 : FVec Ideal S432x4608 .f32) (Rect.unit (s := S432x4608) ![0, 896] ![432, 128] (by decide)) : FVec Ideal S432x128 .f32)
def vM3 : FVec Ideal S432x128 .f32 := k0_pay15 (F := Ideal) (rM3 x5)
def rP3 : FVec Ideal S432x128 .f32 := (View.ld (Val := Elt Ideal) (e' := .f32) (x5 : FVec Ideal S432x4608 .f32) (Rect.unit (s := S432x4608) ![0, 384] ![432, 128] (by decide)) : FVec Ideal S432x128 .f32)
def vP3 : FVec Ideal S432x128 .f32 := k0_pay21 (F := Ideal) (rP3 x5)
def vY3 : FVec Ideal S432x128 .f32 := k0_pay25 (F := Ideal) (k0_pay9 (F := Ideal) x6) (rM3 x5)

def vR : FVec Ideal S432x1 .f32 := k0_pay47 (F := Ideal) (vY0 x5 x6) (vY1 x5 x6) (vY2 x5 x6) (vY3 x5 x6)
def vN0 : FVec Ideal S432x128 .f32 := k0_pay48 (F := Ideal) (vY0 x5 x6) (vY1 x5 x6) (vY2 x5 x6) (vY3 x5 x6)
def vN1 : FVec Ideal S432x128 .f32 := k0_pay49 (F := Ideal) (vY0 x5 x6) (vY1 x5 x6) (vY2 x5 x6) (vY3 x5 x6)
def vN2 : FVec Ideal S432x128 .f32 := k0_pay50 (F := Ideal) (vY0 x5 x6) (vY1 x5 x6) (vY2 x5 x6) (vY3 x5 x6)
def vN3 : FVec Ideal S432x128 .f32 := k0_pay51 (F := Ideal) (vY0 x5 x6) (vY1 x5 x6) (vY2 x5 x6) (vY3 x5 x6)
def vD0 : FVec Ideal S432x128 .f32 := k0_pay52 (F := Ideal) x0 (k0_pay9 (F := Ideal) x6)
def vD1 : FVec Ideal S432x128 .f32 := k0_pay53 (F := Ideal) x0 (k0_pay9 (F := Ideal) x6)
def vD2 : FVec Ideal S432x128 .f32 := k0_pay54 (F := Ideal) x0 (k0_pay9 (F := Ideal) x6)
def vD3 : FVec Ideal S432x128 .f32 := k0_pay57 (F := Ideal) (k0_pay55 (F := Ideal) x0) (k0_pay56 (F := Ideal) (k0_pay9 (F := Ideal) x6))
def vE : FVec Ideal S432x1 .f32 := k0_pay58 (F := Ideal) (vN0 x5 x6) (vN1 x5 x6) (vN2 x5 x6) (vN3 x5 x6) (vD0 x0 x6) (vD1 x0 x6) (vD2 x0 x6) (k0_pay55 (F := Ideal) x0) (k0_pay56 (F := Ideal) (k0_pay9 (F := Ideal) x6))
def vG0 : FVec Ideal S432x128 .f32 := k0_pay60 (F := Ideal) (vR x5 x6) (vN0 x5 x6) (vN1 x5 x6) (vN2 x5 x6) (vN3 x5 x6) (vD0 x0 x6) (vD1 x0 x6) (vD2 x0 x6) (k0_pay55 (F := Ideal) x0) (k0_pay56 (F := Ideal) (k0_pay9 (F := Ideal) x6))
def vG1 : FVec Ideal S432x128 .f32 := k0_pay72 (F := Ideal) (vR x5 x6) (vN1 x5 x6) (vD1 x0 x6) (vE x0 x5 x6)
def vG2 : FVec Ideal S432x128 .f32 := k0_pay84 (F := Ideal) (vR x5 x6) (vN2 x5 x6) (vD2 x0 x6) (vE x0 x5 x6)
def vG3 : FVec Ideal S432x128 .f32 := k0_pay99 (F := Ideal) (vR x5 x6) (vN3 x5 x6) (vD3 x0 x6) (vE x0 x5 x6)
def vS : FVec Ideal S1x512 .f32 := k0_pay46 (F := Ideal) (k0_pay9 (F := Ideal) x6)
def vH0 : FVec Ideal S432x128 .f32 := k0_pay63 (F := Ideal) (vG0 x0 x5 x6) (k0_pay62 (F := Ideal) (vS x6))
def vH1 : FVec Ideal S432x128 .f32 := k0_pay74 (F := Ideal) (vS x6) (vR x5 x6) (vN1 x5 x6) (vD1 x0 x6) (vE x0 x5 x6)
def vH2 : FVec Ideal S432x128 .f32 := k0_pay88 (F := Ideal) (vS x6) (vG2 x0 x5 x6)
def vH3 : FVec Ideal S432x128 .f32 := k0_pay101 (F := Ideal) (vS x6) (vR x5 x6) (vN3 x5 x6) (vD3 x0 x6) (vE x0 x5 x6)

variable {DY PJ PW PB PS GN ro x0 x5 x6 x7}
section
variable (T : Tile DY PJ PW PB PS GN ro x0 x5 x6 x7)
include T

theorem rM0_apply (r : Fin 432) (e : Fin 128) : rM0 x5 (ix2 r e) = M PJ PW PB (ro r) (col 0 e) :=
  (ld_cols 512 128 _ r e ⟨512 + (col 0 e).val, by have := e.isLt; show 512 + (0 * 128 + e.val) < 4608; omega⟩ x5 (by show 512 + (0 * 128 + e.val) = 512 + e.val; omega)).trans (T.mm r (col 0 e))
theorem vM0_apply (r : Fin 432) (e : Fin 128) : vM0 x5 (ix2 r e) = M PJ PW PB (ro r) (col 0 e) := by
  rw [← rM0_apply T]
  pointwise [vM0, k0_pay12]
theorem vP0_apply (r : Fin 432) (e : Fin 128) : vP0 x5 (ix2 r e) = PL PJ (ro r) (col 0 e) := by
  have hr : rP0 x5 (ix2 r e) = PL PJ (ro r) (col 0 e) :=
    (ld_cols 0 128 _ r e ⟨(col 0 e).val, by have := e.isLt; show 0 * 128 + e.val < 4608; omega⟩ x5 (by show 0 * 128 + e.val = 0 + e.val; omega)).trans (T.pl r (col 0 e))
  rw [← hr]
  pointwise [vP0, k0_pay18]
theorem vY0_apply (r : Fin 432) (e : Fin 128) : vY0 x5 x6 (ix2 r e) = Y PJ PW PB PS (ro r) (col 0 e) := by
  unfold Y
  rw [← vM0_apply T, ← T.ps]
  have hc : (⟨e.val, by have := e.isLt; omega⟩ : Fin 512) = col 0 e := Fin.ext (by show e.val = 0 * 128 + e.val; omega)
  pointwise [vY0, k0_pay22, k0_pay16, k0_pay9]
  rw [hc]

theorem rM1_apply (r : Fin 432) (e : Fin 128) : rM1 x5 (ix2 r e) = M PJ PW PB (ro r) (col 1 e) :=
  (ld_cols 640 128 _ r e ⟨512 + (col 1 e).val, by have := e.isLt; show 512 + (1 * 128 + e.val) < 4608; omega⟩ x5 (by show 512 + (1 * 128 + e.val) = 640 + e.val; omega)).trans (T.mm r (col 1 e))
theorem vM1_apply (r : Fin 432) (e : Fin 128) : vM1 x5 (ix2 r e) = M PJ PW PB (ro r) (col 1 e) := by
  rw [← rM1_apply T]
  pointwise [vM1, k0_pay13]
theorem vP1_apply (r : Fin 432) (e : Fin 128) : vP1 x5 (ix2 r e) = PL PJ (ro r) (col 1 e) := by
  have hr : rP1 x5 (ix2 r e) = PL PJ (ro r) (col 1 e) :=
    (ld_cols 128 128 _ r e ⟨(col 1 e).val, by have := e.isLt; show 1 * 128 + e.val < 4608; omega⟩ x5 (by show 1 * 128 + e.val = 128 + e.val; omega)).trans (T.pl r (col 1 e))
  rw [← hr]
  pointwise [vP1, k0_pay19]
theorem vY1_apply (r : Fin 432) (e : Fin 128) : vY1 x5 x6 (ix2 r e) = Y PJ PW PB PS (ro r) (col 1 e) := by
  unfold Y
  rw [← vM1_apply T, ← T.ps]
  have hc : (⟨128 + e.val, by have := e.isLt; omega⟩ : Fin 512) = col 1 e := Fin.ext (by show 128 + e.val = 1 * 128 + e.val; omega)
  pointwise [vY1, k0_pay23, k0_pay16, k0_pay9]
  rw [hc]

theorem rM2_apply (r : Fin 432) (e : Fin 128) : rM2 x5 (ix2 r e) = M PJ PW PB (ro r) (col 2 e) :=
  (ld_cols 768 128 _ r e ⟨512 + (col 2 e).val, by have := e.isLt; show 512 + (2 * 128 + e.val) < 4608; omega⟩ x5 (by show 512 + (2 * 128 + e.val) = 768 + e.val; omega)).trans (T.mm r (col 2 e))
theorem vM2_apply (r : Fin 432) (e : Fin 128) : vM2 x5 (ix2 r e) = M PJ PW PB (ro r) (col 2 e) := by
  rw [← rM2_apply T]
  pointwise [vM2, k0_pay14]
theorem vP2_apply (r : Fin 432) (e : Fin 128) : vP2 x5 (ix2 r e) = PL PJ (ro r) (col 2 e) := by
  have hr : rP2 x5 (ix2 r e) = PL PJ (ro r) (col 2 e) :=
    (ld_cols 256 128 _ r e ⟨(col 2 e).val, by have := e.isLt; show 2 * 128 + e.val < 4608; omega⟩ x5 (by show 2 * 128 + e.val = 256 + e.val; omega)).trans (T.pl r (col 2 e))
  rw [← hr]
  pointwise [vP2, k0_pay20]
theorem vY2_apply (r : Fin 432) (e : Fin 128) : vY2 x5 x6 (ix2 r e) = Y PJ PW PB PS (ro r) (col 2 e) := by
  unfold Y
  rw [← vM2_apply T, ← T.ps]
  have hc : (⟨256 + e.val, by have := e.isLt; omega⟩ : Fin 512) = col 2 e := Fin.ext (by show 256 + e.val = 2 * 128 + e.val; omega)
  pointwise [vY2, k0_pay24, k0_pay16, k0_pay9]
  rw [hc]

theorem rM3_apply (r : Fin 432) (e : Fin 128) : rM3 x5 (ix2 r e) = M PJ PW PB (ro r) (col 3 e) :=
  (ld_cols 896 128 _ r e ⟨512 + (col 3 e).val, by have := e.isLt; show 512 + (3 * 128 + e.val) < 4608; omega⟩ x5 (by show 512 + (3 * 128 + e.val) = 896 + e.val; omega)).trans (T.mm r (col 3 e))
theorem vM3_apply (r : Fin 432) (e : Fin 128) : vM3 x5 (ix2 r e) = M PJ PW PB (ro r) (col 3 e) := by
  rw [← rM3_apply T]
  pointwise [vM3, k0_pay15]
theorem vP3_apply (r : Fin 432) (e : Fin 128) : vP3 x5 (ix2 r e) = PL PJ (ro r) (col 3 e) := by
  have hr : rP3 x5 (ix2 r e) = PL PJ (ro r) (col 3 e) :=
    (ld_cols 384 128 _ r e ⟨(col 3 e).val, by have := e.isLt; show 3 * 128 + e.val < 4608; omega⟩ x5 (by show 3 * 128 + e.val = 384 + e.val; omega)).trans (T.pl r (col 3 e))
  rw [← hr]
  pointwise [vP3, k0_pay21]
theorem vY3_apply (r : Fin 432) (e : Fin 128) : vY3 x5 x6 (ix2 r e) = Y PJ PW PB PS (ro r) (col 3 e) := by
  unfold Y
  rw [← rM3_apply T, ← T.ps]
  have hc : (⟨384 + e.val, by have := e.isLt; omega⟩ : Fin 512) = col 3 e := Fin.ext (by show 384 + e.val = 3 * 128 + e.val; omega)
  pointwise [vY3, k0_pay25, k0_pay16, k0_pay9, k0_pay15]
  rw [hc]

theorem vR_apply (r : Fin 432) : vR x5 x6 (ix2 r 0) = Ideal.rsqrt (VV PJ PW PB PS (ro r)) := by
  unfold VV
  rw [Fin.sum_univ_tiles 4 128 rfl, Fin.sum_univ_four]
  pointwise [vR, k0_pay47, vY0_apply T, vY1_apply T, vY2_apply T, vY3_apply T]
  try rfl

theorem vN0_apply (r : Fin 432) (e : Fin 128) : vN0 x5 x6 (ix2 r e) = N PJ PW PB PS (ro r) (col 0 e) := by
  unfold N
  rw [← vR_apply T, ← vY0_apply T]
  pointwise [vN0, k0_pay48, vR]
theorem vD0_apply (r : Fin 432) (e : Fin 128) : vD0 x0 x6 (ix2 r e) = DN DY GN (ro r) (col 0 e) := by
  unfold DN
  rw [← T.dy, ← T.gn]
  have hc : (⟨e.val, by have := e.isLt; omega⟩ : Fin 512) = col 0 e := Fin.ext (by show e.val = 0 * 128 + e.val; omega)
  have hc' : (⟨e.val, by have := e.isLt; omega⟩ : Fin 1024) = wide (col 0 e) := Fin.ext (by show e.val = 0 * 128 + e.val; omega)
  pointwise [vD0, k0_pay52, k0_pay45, k0_pay9]
  rw [hc, hc']

theorem vN1_apply (r : Fin 432) (e : Fin 128) : vN1 x5 x6 (ix2 r e) = N PJ PW PB PS (ro r) (col 1 e) := by
  unfold N
  rw [← vR_apply T, ← vY1_apply T]
  pointwise [vN1, k0_pay49, vR]
theorem vD1_apply (r : Fin 432) (e : Fin 128) : vD1 x0 x6 (ix2 r e) = DN DY GN (ro r) (col 1 e) := by
  unfold DN
  rw [← T.dy, ← T.gn]
  have hc : (⟨128 + e.val, by have := e.isLt; omega⟩ : Fin 512) = col 1 e := Fin.ext (by show 128 + e.val = 1 * 128 + e.val; omega)
  have hc' : (⟨128 + e.val, by have := e.isLt; omega⟩ : Fin 1024) = wide (col 1 e) := Fin.ext (by show 128 + e.val = 1 * 128 + e.val; omega)
  pointwise [vD1, k0_pay53, k0_pay45, k0_pay9]
  rw [hc, hc']

theorem vN2_apply (r : Fin 432) (e : Fin 128) : vN2 x5 x6 (ix2 r e) = N PJ PW PB PS (ro r) (col 2 e) := by
  unfold N
  rw [← vR_apply T, ← vY2_apply T]
  pointwise [vN2, k0_pay50, vR]
theorem vD2_apply (r : Fin 432) (e : Fin 128) : vD2 x0 x6 (ix2 r e) = DN DY GN (ro r) (col 2 e) := by
  unfold DN
  rw [← T.dy, ← T.gn]
  have hc : (⟨256 + e.val, by have := e.isLt; omega⟩ : Fin 512) = col 2 e := Fin.ext (by show 256 + e.val = 2 * 128 + e.val; omega)
  have hc' : (⟨256 + e.val, by have := e.isLt; omega⟩ : Fin 1024) = wide (col 2 e) := Fin.ext (by show 256 + e.val = 2 * 128 + e.val; omega)
  pointwise [vD2, k0_pay54, k0_pay45, k0_pay9]
  rw [hc, hc']

theorem vN3_apply (r : Fin 432) (e : Fin 128) : vN3 x5 x6 (ix2 r e) = N PJ PW PB PS (ro r) (col 3 e) := by
  unfold N
  rw [← vR_apply T, ← vY3_apply T]
  pointwise [vN3, k0_pay51, vR]
theorem vD3_apply (r : Fin 432) (e : Fin 128) : vD3 x0 x6 (ix2 r e) = DN DY GN (ro r) (col 3 e) := by
  unfold DN
  rw [← T.dy, ← T.gn]
  have hc : (⟨384 + e.val, by have := e.isLt; omega⟩ : Fin 512) = col 3 e := Fin.ext (by show 384 + e.val = 3 * 128 + e.val; omega)
  have hc' : (⟨384 + e.val, by have := e.isLt; omega⟩ : Fin 1024) = wide (col 3 e) := Fin.ext (by show 384 + e.val = 3 * 128 + e.val; omega)
  pointwise [vD3, k0_pay57, k0_pay55, k0_pay56, k0_pay45, k0_pay9]
  rw [hc, hc']

theorem vE_apply (r : Fin 432) : vE x0 x5 x6 (ix2 r 0) = MD DY PJ PW PB PS GN (ro r) := by
  unfold MD
  rw [Fin.sum_univ_tiles 4 128 rfl, Fin.sum_univ_four]
  have h3 : ∀ r e, k0_pay57 (F := Ideal) (k0_pay55 (F := Ideal) x0) (k0_pay56 (F := Ideal) (k0_pay9 (F := Ideal) x6)) (ix2 r e) = DN DY GN (ro r) (col 3 e) := vD3_apply T
  pointwise [vE, k0_pay58, vN0_apply T, vN1_apply T, vN2_apply T, vN3_apply T, vD0_apply T, vD1_apply T, vD2_apply T, h3]
  try rfl

theorem vG0_apply (r : Fin 432) (e : Fin 128) : vG0 x0 x5 x6 (ix2 r e) = DYP DY PJ PW PB PS GN (ro r) (col 0 e) := by
  unfold DYP
  rw [← vR_apply T, ← vD0_apply T, ← vN0_apply T, ← vE_apply T]
  pointwise [vG0, k0_pay60, vE]
theorem vH0_apply (r : Fin 432) (e : Fin 128) : vH0 x0 x5 x6 (ix2 r e) = DM DY PJ PW PB PS GN (ro r) (col 0 e) := by
  unfold DM
  rw [← vG0_apply T, ← T.ps]
  have hc : (⟨e.val, by have := e.isLt; omega⟩ : Fin 512) = col 0 e := Fin.ext (by show e.val = 0 * 128 + e.val; omega)
  pointwise [vH0, k0_pay63, k0_pay62, vS, k0_pay46, k0_pay9]
  rw [hc]

theorem vG1_apply (r : Fin 432) (e : Fin 128) : vG1 x0 x5 x6 (ix2 r e) = DYP DY PJ PW PB PS GN (ro r) (col 1 e) := by
  unfold DYP
  rw [← vR_apply T, ← vD1_apply T, ← vN1_apply T, ← vE_apply T]
  pointwise [vG1, k0_pay72]
theorem vH1_apply (r : Fin 432) (e : Fin 128) : vH1 x0 x5 x6 (ix2 r e) = DM DY PJ PW PB PS GN (ro r) (col 1 e) := by
  unfold DM
  rw [← vG1_apply T, ← T.ps]
  have hc : (⟨128 + e.val, by have := e.isLt; omega⟩ : Fin 512) = col 1 e := Fin.ext (by show 128 + e.val = 1 * 128 + e.val; omega)
  pointwise [vH1, k0_pay74, vG1, vS, k0_pay46, k0_pay9]
  rw [hc]

theorem vG2_apply (r : Fin 432) (e : Fin 128) : vG2 x0 x5 x6 (ix2 r e) = DYP DY PJ PW PB PS GN (ro r) (col 2 e) := by
  unfold DYP
  rw [← vR_apply T, ← vD2_apply T, ← vN2_apply T, ← vE_apply T]
  pointwise [vG2, k0_pay84]
theorem vH2_apply (r : Fin 432) (e : Fin 128) : vH2 x0 x5 x6 (ix2 r e) = DM DY PJ PW PB PS GN (ro r) (col 2 e) := by
  unfold DM
  rw [← vG2_apply T, ← T.ps]
  have hc : (⟨256 + e.val, by have := e.isLt; omega⟩ : Fin 512) = col 2 e := Fin.ext (by show 256 + e.val = 2 * 128 + e.val; omega)
  pointwise [vH2, k0_pay88, vS, k0_pay46, k0_pay9]
  rw [hc]

theorem vG3_apply (r : Fin 432) (e : Fin 128) : vG3 x0 x5 x6 (ix2 r e) = DYP DY PJ PW PB PS GN (ro r) (col 3 e) := by
  unfold DYP
  rw [← vR_apply T, ← vD3_apply T, ← vN3_apply T, ← vE_apply T]
  pointwise [vG3, k0_pay99]
theorem vH3_apply (r : Fin 432) (e : Fin 128) : vH3 x0 x5 x6 (ix2 r e) = DM DY PJ PW PB PS GN (ro r) (col 3 e) := by
  unfold DM
  rw [← vG3_apply T, ← T.ps]
  have hc : (⟨384 + e.val, by have := e.isLt; omega⟩ : Fin 512) = col 3 e := Fin.ext (by show 384 + e.val = 3 * 128 + e.val; omega)
  pointwise [vH3, k0_pay101, vG3, vS, k0_pay46, k0_pay9]
  rw [hc]

omit T in
/-- A load of one group's matrix. -/
theorem ld_mat (q : Nat) (g : Fin 4) (hq : q = g.val) (inb) (x : S4x128x128.Idx → EReal) (a b : Fin 128) :
    View.ld (Val := Elt Ideal) (e' := .bf16) (x : FVec Ideal S4x128x128 .bf16) (Rect.unit (s := S4x128x128) ![q, 0, 0] ![1, 128, 128] inb) (ix3 0 a b) = x (ix3 g a b) := by
  refine congrArg x ?_
  funext k
  apply Fin.ext
  match k with
  | ⟨0, _⟩ => show q + 1 * 0 = g.val; omega
  | ⟨1, _⟩ => show 0 + 1 * a.val = a.val; omega
  | ⟨2, _⟩ => show 0 + 1 * b.val = b.val; omega

omit T
theorem rot (s : Nat) (sb : BitVec 32) (hs : sb.toNat = 448 - s) (h0 : 0 < s) (x : FVec Ideal S448x128 .f32) (h) (n : Nat) (hn : n + s < 448) (e : Fin 128) :
    dynamicRotate 0 sb none x h (ix2 ⟨n, by omega⟩ e) = x (ix2 ⟨n + s, hn⟩ e) := by
  refine dynamicRotate_apply _ _ _ _ _ _ fun b => ?_
  match b with
  | ⟨0, _⟩ =>
    show n + s = (if (0 : Nat) = 0 then (n + 448 - sb.toNat % 448) % 448 else n)
    rw [if_pos rfl, hs]
    omega
  | ⟨1, _⟩ => rfl

theorem slice_at (x : FVec Ideal S448x128 .f32) (h) (r : Fin 432) (e : Fin 128) : extractStridedSlice S432x128 ![0, 0] x h (ix2 r e) = x (ix2 ⟨r.val, by have := r.isLt; omega⟩ e) := by
  pointwise []

/-- The rows plus the rows some places further on. -/
def roll (sb : BitVec 32) (x : FVec Ideal S448x128 .f32) : FVec Ideal S448x128 .f32 := addf (F := Ideal) x (dynamicRotate 0 sb none x rotates_S448x128_d0)

/-- A step that adds the rows `k` further on doubles the window. -/
theorem dbl_rows (f : Nat → EReal) (k : Nat) (sb : BitVec 32) (hs : sb.toNat = 448 - k) (h0 : 0 < k) (x : FVec Ideal S448x128 .f32) (h) (e : Fin 128)
    (hx : ∀ n (hn : n + k ≤ 448), x (ix2 ⟨n, by omega⟩ e) = ∑ i ∈ Finset.range k, f (n + i)) (n : Nat) (hn : n + (k + k) ≤ 448) :
    addf (F := Ideal) x (dynamicRotate 0 sb none x h) (ix2 ⟨n, by omega⟩ e) = ∑ i ∈ Finset.range (k + k), f (n + i) := by
  rw [← dbl, add_comm, ← hx n (by omega), ← hx (n + k) (by omega), ← rot k sb hs h0 x h n (by omega) e]
  rfl

theorem rows2 (f : Nat → EReal) (x : FVec Ideal S448x128 .f32) (e : Fin 128) (hx : ∀ n (hn : n + 1 ≤ 448), x (ix2 ⟨n, by omega⟩ e) = f n) (n : Nat) (hn : n + 2 ≤ 448) :
    (roll 447#32 x) (ix2 ⟨n, by omega⟩ e) = ∑ i ∈ Finset.range 2, f (n + i) :=
  dbl_rows f 1 447#32 rfl (by decide) x rotates_S448x128_d0 e (fun n hn => by rw [Finset.sum_range_one]; exact hx n hn) n hn

theorem rows4 (f : Nat → EReal) (x : FVec Ideal S448x128 .f32) (e : Fin 128) (hx : ∀ n (hn : n + 1 ≤ 448), x (ix2 ⟨n, by omega⟩ e) = f n) (n : Nat) (hn : n + 4 ≤ 448) :
    (roll 446#32 (roll 447#32 x)) (ix2 ⟨n, by omega⟩ e) = ∑ i ∈ Finset.range 4, f (n + i) :=
  dbl_rows f 2 446#32 rfl (by decide) (roll 447#32 x) rotates_S448x128_d0 e (rows2 f x e hx) n hn

theorem rows8 (f : Nat → EReal) (x : FVec Ideal S448x128 .f32) (e : Fin 128) (hx : ∀ n (hn : n + 1 ≤ 448), x (ix2 ⟨n, by omega⟩ e) = f n) (n : Nat) (hn : n + 8 ≤ 448) :
    (roll 444#32 (roll 446#32 (roll 447#32 x))) (ix2 ⟨n, by omega⟩ e) = ∑ i ∈ Finset.range 8, f (n + i) :=
  dbl_rows f 4 444#32 rfl (by decide) (roll 446#32 (roll 447#32 x)) rotates_S448x128_d0 e (rows4 f x e hx) n hn

theorem rows16 (f : Nat → EReal) (x : FVec Ideal S448x128 .f32) (e : Fin 128) (hx : ∀ n (hn : n + 1 ≤ 448), x (ix2 ⟨n, by omega⟩ e) = f n) (n : Nat) (hn : n + 16 ≤ 448) :
    (roll 440#32 (roll 444#32 (roll 446#32 (roll 447#32 x)))) (ix2 ⟨n, by omega⟩ e) = ∑ i ∈ Finset.range 16, f (n + i) :=
  dbl_rows f 8 440#32 rfl (by decide) (roll 444#32 (roll 446#32 (roll 447#32 x))) rotates_S448x128_d0 e (rows8 f x e hx) n hn

include T

theorem gn0 (p : FVec Ideal S1x128 .f32) (e : Fin 128) : k0_pay59 (F := Ideal) x0 (vN0 x5 x6) p (ix2 0 e) = p (ix2 0 e) + ∑ r : Fin 432, DY (ix2 (ro r) (wide (col 0 e))) * N PJ PW PB PS (ro r) (col 0 e) := by
  have hc' : (⟨e.val, by have := e.isLt; omega⟩ : Fin 1024) = wide (col 0 e) := Fin.ext (by show e.val = 0 * 128 + e.val; omega)
  pointwise [k0_pay59, vN0_apply T, T.dy, hc']
theorem ps0 (p : FVec Ideal S1x128 .f32) (e : Fin 128) : k0_pay61 (F := Ideal) (vM0 x5) (vR x5 x6) (vN0 x5 x6) (vN1 x5 x6) (vN2 x5 x6) (vN3 x5 x6) (vD0 x0 x6) (vD1 x0 x6) (vD2 x0 x6) (k0_pay55 (F := Ideal) x0) (k0_pay56 (F := Ideal) (k0_pay9 (F := Ideal) x6)) p (ix2 0 e) = p (ix2 0 e) + ∑ r : Fin 432, DYP DY PJ PW PB PS GN (ro r) (col 0 e) * M PJ PW PB (ro r) (col 0 e) := by
  have hg : ∀ r e, k0_pay60 (F := Ideal) (vR x5 x6) (vN0 x5 x6) (vN1 x5 x6) (vN2 x5 x6) (vN3 x5 x6) (vD0 x0 x6) (vD1 x0 x6) (vD2 x0 x6) (k0_pay55 (F := Ideal) x0) (k0_pay56 (F := Ideal) (k0_pay9 (F := Ideal) x6)) (ix2 r e) = DYP DY PJ PW PB PS GN (ro r) (col 0 e) := vG0_apply T
  pointwise [k0_pay61, hg, vM0_apply T]
theorem hb0 (r : Fin 432) (e : Fin 128) : k0_pay63 (F := Ideal) (vG0 x0 x5 x6) (k0_pay62 (F := Ideal) (vS x6)) (ix2 r e) = DM DY PJ PW PB PS GN (ro r) (col 0 e) := vH0_apply T r e
theorem pb0 (p : FVec Ideal S1x128 .f32) (e : Fin 128) : k0_pay64 (F := Ideal) (vG0 x0 x5 x6) (k0_pay62 (F := Ideal) (vS x6)) p (ix2 0 e) = p (ix2 0 e) + ∑ r : Fin 432, DM DY PJ PW PB PS GN (ro r) (col 0 e) := by
  pointwise [k0_pay64, hb0 T]
theorem pw0 (p : FVec Ideal S1x128x128 .f32) (a b : Fin 128) : k0_pay66 (F := Ideal) (vP0 x5) (vG0 x0 x5 x6) (k0_pay62 (F := Ideal) (vS x6)) p (ix3 0 a b) = p (ix3 0 a b) + ∑ r : Fin 432, PL PJ (ro r) (col 0 a) * DM DY PJ PW PB PS GN (ro r) (col 0 b) := by
  pointwise [k0_pay66, k0_pay65, hb0 T, vP0_apply T]
theorem dp0 (w : S1x128x128.Idx → EReal) (hw : ∀ a b, w (ix3 0 a b) = x7 (ix3 0 a b)) (r : Fin 432) (e : Fin 128) : k0_pay67 (F := Ideal) (vG0 x0 x5 x6) (k0_pay62 (F := Ideal) (vS x6)) (w : FVec Ideal S1x128x128 .bf16) (ix2 r e) = DP DY PJ PW PB PS GN (ro r) (col 0 e) := by
  unfold DP
  rw [grp_col, lane_col]
  pointwise [k0_pay67, k0_pay65, hb0 T, hw, T.pw]
theorem q0 (vi : FVec Ideal S432x1 .f32) (hi : ∀ r, vi (ix2 r 0) = inv (K 0) (ro r).val) (w : S1x128x128.Idx → EReal) (hw : ∀ a b, w (ix3 0 a b) = x7 (ix3 0 a b)) (r : Fin 432) (e : Fin 128) :
    k0_pay68 (F := Ideal) vi (vG0 x0 x5 x6) (k0_pay62 (F := Ideal) (vS x6)) (w : FVec Ideal S1x128x128 .bf16) (ix2 r e) = Q DY PJ PW PB PS GN (ro r) (col 0 e) := by
  unfold Q
  rw [grp_col]
  pointwise [k0_pay68, dp0 T w hw, hi]
theorem qs0 (vi : FVec Ideal S432x1 .f32) (hi : ∀ r, vi (ix2 r 0) = inv (K 0) (ro r).val) (w : S1x128x128.Idx → EReal) (hw : ∀ a b, w (ix3 0 a b) = x7 (ix3 0 a b)) (s : Fin 16) (e : Fin 128) :
    k0_pay69 (F := Ideal) vi (vG0 x0 x5 x6) (k0_pay62 (F := Ideal) (vS x6)) (w : FVec Ideal S1x128x128 .bf16) (ix2 s e) = Q DY PJ PW PB PS GN (ro ⟨s.val, by have := s.isLt; omega⟩) (col 0 e) := by
  pointwise [k0_pay69, q0 T vi hi w hw]
theorem du0 (bs : Nat) (hr : ∀ r, (ro r).val = bs + r.val) (v6 : FVec Ideal S16x512 .f32) (h6 : ∀ (s : Fin 16) (j : Fin 512), v6 (ix2 s j) = seq (fun t => Q DY PJ PW PB PS GN t j) (bs + 432 + s.val))
    (vi : FVec Ideal S432x1 .f32) (hi : ∀ r, vi (ix2 r 0) = inv (K 0) (ro r).val) (w : S1x128x128.Idx → EReal) (hw : ∀ a b, w (ix3 0 a b) = x7 (ix3 0 a b)) (r : Fin 432) (e : Fin 128) :
    k0_pay70 (F := Ideal) v6 vi (vG0 x0 x5 x6) (k0_pay62 (F := Ideal) (vS x6)) (w : FVec Ideal S1x128x128 .bf16) (ix2 r e) = DU DY PJ PW PB PS GN (ro r) (col 0 e) := by
  have hc : (⟨e.val, by have := e.isLt; omega⟩ : Fin 512) = col 0 e := Fin.ext (by show e.val = 0 * 128 + e.val; omega)
  have h1 : ∀ n (hn : n + 1 ≤ 448), (concatenate S448x128 0 [⟨S432x128, k0_pay68 (F := Ideal) vi (vG0 x0 x5 x6) (k0_pay62 (F := Ideal) (vS x6)) (w : FVec Ideal S1x128x128 .bf16)⟩, ⟨S16x128, extractStridedSlice S16x128 ![0, 0] v6 slices_S16x512_o0_0_S16x128⟩] concatenates_S432x128_S16x128_S448x128_d0 : FVec Ideal S448x128 .f32) (ix2 ⟨n, by omega⟩ e)
      = seq (fun t => Q DY PJ PW PB PS GN t (col 0 e)) (bs + n) := by
    intro n hn
    by_cases h : n < 432
    · have : (ro ⟨n, h⟩).val = bs + n := hr ⟨n, h⟩
      rw [← this, seq_of_lt _ (ro ⟨n, h⟩).isLt, ← q0 T vi hi w hw]
      pointwise [h]
    · have := h6 ⟨n - 432, by omega⟩ (col 0 e)
      rw [show bs + n = bs + 432 + (n - 432) by omega, ← this, ← hc]
      pointwise [h]
  have hk := rows2 (fun n => seq (fun t => Q DY PJ PW PB PS GN t (col 0 e)) (bs + n)) _ e h1 r.val (by omega)
  unfold DU
  rw [grp_col, ← dp0 T w hw, hr, Finset.sum_congr rfl fun i _ => by rw [Nat.add_assoc]]
  exact (congrArg (fun a : EReal => a - k0_pay67 (F := Ideal) (vG0 x0 x5 x6) (k0_pay62 (F := Ideal) (vS x6)) (w : FVec Ideal S1x128x128 .bf16) (ix2 r e)) ((slice_at _ slices_S448x128_o0_0_S432x128 r e).trans hk) :)

theorem gn1 (p : FVec Ideal S1x128 .f32) (e : Fin 128) : k0_pay71 (F := Ideal) x0 (vN1 x5 x6) p (ix2 0 e) = p (ix2 0 e) + ∑ r : Fin 432, DY (ix2 (ro r) (wide (col 1 e))) * N PJ PW PB PS (ro r) (col 1 e) := by
  have hc' : (⟨128 + e.val, by have := e.isLt; omega⟩ : Fin 1024) = wide (col 1 e) := Fin.ext (by show 128 + e.val = 1 * 128 + e.val; omega)
  pointwise [k0_pay71, vN1_apply T, T.dy, hc']
theorem ps1 (p : FVec Ideal S1x128 .f32) (e : Fin 128) : k0_pay73 (F := Ideal) (vM1 x5) (vR x5 x6) (vN1 x5 x6) (vD1 x0 x6) (vE x0 x5 x6) p (ix2 0 e) = p (ix2 0 e) + ∑ r : Fin 432, DYP DY PJ PW PB PS GN (ro r) (col 1 e) * M PJ PW PB (ro r) (col 1 e) := by
  have hg : ∀ r e, k0_pay72 (F := Ideal) (vR x5 x6) (vN1 x5 x6) (vD1 x0 x6) (vE x0 x5 x6) (ix2 r e) = DYP DY PJ PW PB PS GN (ro r) (col 1 e) := vG1_apply T
  pointwise [k0_pay73, hg, vM1_apply T]
theorem hb1 (r : Fin 432) (e : Fin 128) : k0_pay74 (F := Ideal) (vS x6) (vR x5 x6) (vN1 x5 x6) (vD1 x0 x6) (vE x0 x5 x6) (ix2 r e) = DM DY PJ PW PB PS GN (ro r) (col 1 e) := vH1_apply T r e
theorem pb1 (p : FVec Ideal S1x128 .f32) (e : Fin 128) : k0_pay75 (F := Ideal) (vS x6) (vR x5 x6) (vN1 x5 x6) (vD1 x0 x6) (vE x0 x5 x6) p (ix2 0 e) = p (ix2 0 e) + ∑ r : Fin 432, DM DY PJ PW PB PS GN (ro r) (col 1 e) := by
  pointwise [k0_pay75, hb1 T]
theorem pw1 (p : FVec Ideal S1x128x128 .f32) (a b : Fin 128) : k0_pay78 (F := Ideal) (k0_pay77 (F := Ideal) (vP1 x5) (vS x6) (vR x5 x6) (vN1 x5 x6) (vD1 x0 x6) (vE x0 x5 x6) p) (ix3 0 a b) = p (ix3 0 a b) + ∑ r : Fin 432, PL PJ (ro r) (col 1 a) * DM DY PJ PW PB PS GN (ro r) (col 1 b) := by
  pointwise [k0_pay78, k0_pay77, k0_pay76, hb1 T, vP1_apply T]
theorem dp1 (w : S1x128x128.Idx → EReal) (hw : ∀ a b, w (ix3 0 a b) = x7 (ix3 1 a b)) (r : Fin 432) (e : Fin 128) : k0_pay79 (F := Ideal) (k0_pay76 (F := Ideal) (vS x6) (vR x5 x6) (vN1 x5 x6) (vD1 x0 x6) (vE x0 x5 x6)) (w : FVec Ideal S1x128x128 .bf16) (ix2 r e) = DP DY PJ PW PB PS GN (ro r) (col 1 e) := by
  unfold DP
  rw [grp_col, lane_col]
  pointwise [k0_pay79, k0_pay76, hb1 T, hw, T.pw]
theorem q1 (vi : FVec Ideal S432x1 .f32) (hi : ∀ r, vi (ix2 r 0) = inv (K 1) (ro r).val) (w : S1x128x128.Idx → EReal) (hw : ∀ a b, w (ix3 0 a b) = x7 (ix3 1 a b)) (r : Fin 432) (e : Fin 128) :
    k0_pay80 (F := Ideal) vi (k0_pay76 (F := Ideal) (vS x6) (vR x5 x6) (vN1 x5 x6) (vD1 x0 x6) (vE x0 x5 x6)) (w : FVec Ideal S1x128x128 .bf16) (ix2 r e) = Q DY PJ PW PB PS GN (ro r) (col 1 e) := by
  unfold Q
  rw [grp_col]
  pointwise [k0_pay80, dp1 T w hw, hi]
theorem qs1 (vi : FVec Ideal S432x1 .f32) (hi : ∀ r, vi (ix2 r 0) = inv (K 1) (ro r).val) (w : S1x128x128.Idx → EReal) (hw : ∀ a b, w (ix3 0 a b) = x7 (ix3 1 a b)) (s : Fin 16) (e : Fin 128) :
    k0_pay81 (F := Ideal) vi (k0_pay76 (F := Ideal) (vS x6) (vR x5 x6) (vN1 x5 x6) (vD1 x0 x6) (vE x0 x5 x6)) (w : FVec Ideal S1x128x128 .bf16) (ix2 s e) = Q DY PJ PW PB PS GN (ro ⟨s.val, by have := s.isLt; omega⟩) (col 1 e) := by
  pointwise [k0_pay81, q1 T vi hi w hw]
theorem du1 (bs : Nat) (hr : ∀ r, (ro r).val = bs + r.val) (v6 : FVec Ideal S16x512 .f32) (h6 : ∀ (s : Fin 16) (j : Fin 512), v6 (ix2 s j) = seq (fun t => Q DY PJ PW PB PS GN t j) (bs + 432 + s.val))
    (vi : FVec Ideal S432x1 .f32) (hi : ∀ r, vi (ix2 r 0) = inv (K 1) (ro r).val) (w : S1x128x128.Idx → EReal) (hw : ∀ a b, w (ix3 0 a b) = x7 (ix3 1 a b)) (r : Fin 432) (e : Fin 128) :
    k0_pay82 (F := Ideal) v6 vi (k0_pay76 (F := Ideal) (vS x6) (vR x5 x6) (vN1 x5 x6) (vD1 x0 x6) (vE x0 x5 x6)) (w : FVec Ideal S1x128x128 .bf16) (ix2 r e) = DU DY PJ PW PB PS GN (ro r) (col 1 e) := by
  have hc : (⟨128 + e.val, by have := e.isLt; omega⟩ : Fin 512) = col 1 e := Fin.ext (by show 128 + e.val = 1 * 128 + e.val; omega)
  have h1 : ∀ n (hn : n + 1 ≤ 448), (concatenate S448x128 0 [⟨S432x128, k0_pay80 (F := Ideal) vi (k0_pay76 (F := Ideal) (vS x6) (vR x5 x6) (vN1 x5 x6) (vD1 x0 x6) (vE x0 x5 x6)) (w : FVec Ideal S1x128x128 .bf16)⟩, ⟨S16x128, extractStridedSlice S16x128 ![0, 128] v6 slices_S16x512_o0_128_S16x128⟩] concatenates_S432x128_S16x128_S448x128_d0 : FVec Ideal S448x128 .f32) (ix2 ⟨n, by omega⟩ e)
      = seq (fun t => Q DY PJ PW PB PS GN t (col 1 e)) (bs + n) := by
    intro n hn
    by_cases h : n < 432
    · have : (ro ⟨n, h⟩).val = bs + n := hr ⟨n, h⟩
      rw [← this, seq_of_lt _ (ro ⟨n, h⟩).isLt, ← q1 T vi hi w hw]
      pointwise [h]
    · have := h6 ⟨n - 432, by omega⟩ (col 1 e)
      rw [show bs + n = bs + 432 + (n - 432) by omega, ← this, ← hc]
      pointwise [h]
  have hk := rows4 (fun n => seq (fun t => Q DY PJ PW PB PS GN t (col 1 e)) (bs + n)) _ e h1 r.val (by omega)
  unfold DU
  rw [grp_col, ← dp1 T w hw, hr, Finset.sum_congr rfl fun i _ => by rw [Nat.add_assoc]]
  exact (congrArg (fun a : EReal => a - k0_pay79 (F := Ideal) (k0_pay76 (F := Ideal) (vS x6) (vR x5 x6) (vN1 x5 x6) (vD1 x0 x6) (vE x0 x5 x6)) (w : FVec Ideal S1x128x128 .bf16) (ix2 r e)) ((slice_at _ slices_S448x128_o0_0_S432x128 r e).trans hk) :)

theorem gn2 (p : FVec Ideal S1x128 .f32) (e : Fin 128) : k0_pay83 (F := Ideal) x0 (vN2 x5 x6) p (ix2 0 e) = p (ix2 0 e) + ∑ r : Fin 432, DY (ix2 (ro r) (wide (col 2 e))) * N PJ PW PB PS (ro r) (col 2 e) := by
  have hc' : (⟨256 + e.val, by have := e.isLt; omega⟩ : Fin 1024) = wide (col 2 e) := Fin.ext (by show 256 + e.val = 2 * 128 + e.val; omega)
  pointwise [k0_pay83, vN2_apply T, T.dy, hc']
theorem ps2 (p : FVec Ideal S1x128 .f32) (e : Fin 128) : k0_pay87 (F := Ideal) (k0_pay85 (F := Ideal) p) (k0_pay86 (F := Ideal) (vM2 x5) (vR x5 x6) (vN2 x5 x6) (vD2 x0 x6) (vE x0 x5 x6)) (ix2 0 e) = p (ix2 0 e) + ∑ r : Fin 432, DYP DY PJ PW PB PS GN (ro r) (col 2 e) * M PJ PW PB (ro r) (col 2 e) := by
  have hg : ∀ r e, k0_pay84 (F := Ideal) (vR x5 x6) (vN2 x5 x6) (vD2 x0 x6) (vE x0 x5 x6) (ix2 r e) = DYP DY PJ PW PB PS GN (ro r) (col 2 e) := vG2_apply T
  pointwise [k0_pay87, k0_pay85, k0_pay86, hg, vM2_apply T]
theorem hb2 (r : Fin 432) (e : Fin 128) : k0_pay88 (F := Ideal) (vS x6) (vG2 x0 x5 x6) (ix2 r e) = DM DY PJ PW PB PS GN (ro r) (col 2 e) := vH2_apply T r e
theorem pb2 (p : FVec Ideal S1x128 .f32) (e : Fin 128) : k0_pay89 (F := Ideal) (vS x6) (vG2 x0 x5 x6) p (ix2 0 e) = p (ix2 0 e) + ∑ r : Fin 432, DM DY PJ PW PB PS GN (ro r) (col 2 e) := by
  pointwise [k0_pay89, hb2 T]
theorem pw2 (p : FVec Ideal S1x128x128 .f32) (a b : Fin 128) : k0_pay91 (F := Ideal) (vP2 x5) (vS x6) (vG2 x0 x5 x6) p (ix3 0 a b) = p (ix3 0 a b) + ∑ r : Fin 432, PL PJ (ro r) (col 2 a) * DM DY PJ PW PB PS GN (ro r) (col 2 b) := by
  pointwise [k0_pay91, k0_pay90, hb2 T, vP2_apply T]
theorem dp2 (w : S1x128x128.Idx → EReal) (hw : ∀ a b, w (ix3 0 a b) = x7 (ix3 2 a b)) (r : Fin 432) (e : Fin 128) : k0_pay92 (F := Ideal) (vS x6) (vG2 x0 x5 x6) (w : FVec Ideal S1x128x128 .bf16) (ix2 r e) = DP DY PJ PW PB PS GN (ro r) (col 2 e) := by
  unfold DP
  rw [grp_col, lane_col]
  pointwise [k0_pay92, k0_pay90, hb2 T, hw, T.pw]
theorem q2 (vi : FVec Ideal S432x1 .f32) (hi : ∀ r, vi (ix2 r 0) = inv (K 2) (ro r).val) (w : S1x128x128.Idx → EReal) (hw : ∀ a b, w (ix3 0 a b) = x7 (ix3 2 a b)) (r : Fin 432) (e : Fin 128) :
    k0_pay93 (F := Ideal) vi (vS x6) (vG2 x0 x5 x6) (w : FVec Ideal S1x128x128 .bf16) (ix2 r e) = Q DY PJ PW PB PS GN (ro r) (col 2 e) := by
  unfold Q
  rw [grp_col]
  pointwise [k0_pay93, dp2 T w hw, hi]
theorem qs2 (vi : FVec Ideal S432x1 .f32) (hi : ∀ r, vi (ix2 r 0) = inv (K 2) (ro r).val) (w : S1x128x128.Idx → EReal) (hw : ∀ a b, w (ix3 0 a b) = x7 (ix3 2 a b)) (s : Fin 16) (e : Fin 128) :
    k0_pay96 (F := Ideal) (k0_pay95 (F := Ideal) vi (vS x6) (vG2 x0 x5 x6) (w : FVec Ideal S1x128x128 .bf16)) (ix2 s e) = Q DY PJ PW PB PS GN (ro ⟨s.val, by have := s.isLt; omega⟩) (col 2 e) := by
  pointwise [k0_pay96, k0_pay95, q2 T vi hi w hw]
theorem du2 (bs : Nat) (hr : ∀ r, (ro r).val = bs + r.val) (v6 : FVec Ideal S16x512 .f32) (h6 : ∀ (s : Fin 16) (j : Fin 512), v6 (ix2 s j) = seq (fun t => Q DY PJ PW PB PS GN t j) (bs + 432 + s.val))
    (vi : FVec Ideal S432x1 .f32) (hi : ∀ r, vi (ix2 r 0) = inv (K 2) (ro r).val) (w : S1x128x128.Idx → EReal) (hw : ∀ a b, w (ix3 0 a b) = x7 (ix3 2 a b)) (r : Fin 432) (e : Fin 128) :
    k0_pay97 (F := Ideal) (k0_pay92 (F := Ideal) (vS x6) (vG2 x0 x5 x6) (w : FVec Ideal S1x128x128 .bf16)) (k0_pay94 (F := Ideal) v6 vi (vS x6) (vG2 x0 x5 x6) (w : FVec Ideal S1x128x128 .bf16)) (ix2 r e) = DU DY PJ PW PB PS GN (ro r) (col 2 e) := by
  have hc : (⟨256 + e.val, by have := e.isLt; omega⟩ : Fin 512) = col 2 e := Fin.ext (by show 256 + e.val = 2 * 128 + e.val; omega)
  have h1 : ∀ n (hn : n + 1 ≤ 448), (concatenate S448x128 0 [⟨S432x128, k0_pay93 (F := Ideal) vi (vS x6) (vG2 x0 x5 x6) (w : FVec Ideal S1x128x128 .bf16)⟩, ⟨S16x128, extractStridedSlice S16x128 ![0, 256] v6 slices_S16x512_o0_256_S16x128⟩] concatenates_S432x128_S16x128_S448x128_d0 : FVec Ideal S448x128 .f32) (ix2 ⟨n, by omega⟩ e)
      = seq (fun t => Q DY PJ PW PB PS GN t (col 2 e)) (bs + n) := by
    intro n hn
    by_cases h : n < 432
    · have : (ro ⟨n, h⟩).val = bs + n := hr ⟨n, h⟩
      rw [← this, seq_of_lt _ (ro ⟨n, h⟩).isLt, ← q2 T vi hi w hw]
      pointwise [h]
    · have := h6 ⟨n - 432, by omega⟩ (col 2 e)
      rw [show bs + n = bs + 432 + (n - 432) by omega, ← this, ← hc]
      pointwise [h]
  have hk := rows8 (fun n => seq (fun t => Q DY PJ PW PB PS GN t (col 2 e)) (bs + n)) _ e h1 r.val (by omega)
  unfold DU
  rw [grp_col, ← dp2 T w hw, hr, Finset.sum_congr rfl fun i _ => by rw [Nat.add_assoc]]
  exact (congrArg (fun a : EReal => a - k0_pay92 (F := Ideal) (vS x6) (vG2 x0 x5 x6) (w : FVec Ideal S1x128x128 .bf16) (ix2 r e)) ((slice_at _ slices_S448x128_o0_0_S432x128 r e).trans hk) :)

theorem gn3 (p : FVec Ideal S1x128 .f32) (e : Fin 128) : k0_pay98 (F := Ideal) x0 (vN3 x5 x6) p (ix2 0 e) = p (ix2 0 e) + ∑ r : Fin 432, DY (ix2 (ro r) (wide (col 3 e))) * N PJ PW PB PS (ro r) (col 3 e) := by
  have hc' : (⟨384 + e.val, by have := e.isLt; omega⟩ : Fin 1024) = wide (col 3 e) := Fin.ext (by show 384 + e.val = 3 * 128 + e.val; omega)
  pointwise [k0_pay98, vN3_apply T, T.dy, hc']
theorem ps3 (p : FVec Ideal S1x128 .f32) (e : Fin 128) : k0_pay100 (F := Ideal) (vM3 x5) (vR x5 x6) (vN3 x5 x6) (vD3 x0 x6) (vE x0 x5 x6) p (ix2 0 e) = p (ix2 0 e) + ∑ r : Fin 432, DYP DY PJ PW PB PS GN (ro r) (col 3 e) * M PJ PW PB (ro r) (col 3 e) := by
  have hg : ∀ r e, k0_pay99 (F := Ideal) (vR x5 x6) (vN3 x5 x6) (vD3 x0 x6) (vE x0 x5 x6) (ix2 r e) = DYP DY PJ PW PB PS GN (ro r) (col 3 e) := vG3_apply T
  pointwise [k0_pay100, hg, vM3_apply T]
theorem hb3 (r : Fin 432) (e : Fin 128) : k0_pay101 (F := Ideal) (vS x6) (vR x5 x6) (vN3 x5 x6) (vD3 x0 x6) (vE x0 x5 x6) (ix2 r e) = DM DY PJ PW PB PS GN (ro r) (col 3 e) := vH3_apply T r e
theorem pb3 (p : FVec Ideal S1x128 .f32) (e : Fin 128) : k0_pay102 (F := Ideal) (vS x6) (vR x5 x6) (vN3 x5 x6) (vD3 x0 x6) (vE x0 x5 x6) p (ix2 0 e) = p (ix2 0 e) + ∑ r : Fin 432, DM DY PJ PW PB PS GN (ro r) (col 3 e) := by
  pointwise [k0_pay102, hb3 T]
theorem pw3 (p : FVec Ideal S1x128x128 .f32) (a b : Fin 128) : k0_pay104 (F := Ideal) (vP3 x5) (k0_pay103 (F := Ideal) (vS x6) (vR x5 x6) (vN3 x5 x6) (vD3 x0 x6) (vE x0 x5 x6)) p (ix3 0 a b) = p (ix3 0 a b) + ∑ r : Fin 432, PL PJ (ro r) (col 3 a) * DM DY PJ PW PB PS GN (ro r) (col 3 b) := by
  pointwise [k0_pay104, k0_pay103, hb3 T, vP3_apply T]
theorem dp3 (w : S1x128x128.Idx → EReal) (hw : ∀ a b, w (ix3 0 a b) = x7 (ix3 3 a b)) (r : Fin 432) (e : Fin 128) : k0_pay105 (F := Ideal) (k0_pay103 (F := Ideal) (vS x6) (vR x5 x6) (vN3 x5 x6) (vD3 x0 x6) (vE x0 x5 x6)) (w : FVec Ideal S1x128x128 .bf16) (ix2 r e) = DP DY PJ PW PB PS GN (ro r) (col 3 e) := by
  unfold DP
  rw [grp_col, lane_col]
  pointwise [k0_pay105, k0_pay103, hb3 T, hw, T.pw]
theorem q3 (vi : FVec Ideal S432x1 .f32) (hi : ∀ r, vi (ix2 r 0) = inv (K 3) (ro r).val) (w : S1x128x128.Idx → EReal) (hw : ∀ a b, w (ix3 0 a b) = x7 (ix3 3 a b)) (r : Fin 432) (e : Fin 128) :
    k0_pay106 (F := Ideal) vi (k0_pay103 (F := Ideal) (vS x6) (vR x5 x6) (vN3 x5 x6) (vD3 x0 x6) (vE x0 x5 x6)) (w : FVec Ideal S1x128x128 .bf16) (ix2 r e) = Q DY PJ PW PB PS GN (ro r) (col 3 e) := by
  unfold Q
  rw [grp_col]
  pointwise [k0_pay106, dp3 T w hw, hi]
theorem qs3 (vi : FVec Ideal S432x1 .f32) (hi : ∀ r, vi (ix2 r 0) = inv (K 3) (ro r).val) (w : S1x128x128.Idx → EReal) (hw : ∀ a b, w (ix3 0 a b) = x7 (ix3 3 a b)) (s : Fin 16) (e : Fin 128) :
    k0_pay107 (F := Ideal) vi (k0_pay103 (F := Ideal) (vS x6) (vR x5 x6) (vN3 x5 x6) (vD3 x0 x6) (vE x0 x5 x6)) (w : FVec Ideal S1x128x128 .bf16) (ix2 s e) = Q DY PJ PW PB PS GN (ro ⟨s.val, by have := s.isLt; omega⟩) (col 3 e) := by
  pointwise [k0_pay107, q3 T vi hi w hw]
theorem du3 (bs : Nat) (hr : ∀ r, (ro r).val = bs + r.val) (v6 : FVec Ideal S16x512 .f32) (h6 : ∀ (s : Fin 16) (j : Fin 512), v6 (ix2 s j) = seq (fun t => Q DY PJ PW PB PS GN t j) (bs + 432 + s.val))
    (vi : FVec Ideal S432x1 .f32) (hi : ∀ r, vi (ix2 r 0) = inv (K 3) (ro r).val) (w : S1x128x128.Idx → EReal) (hw : ∀ a b, w (ix3 0 a b) = x7 (ix3 3 a b)) (r : Fin 432) (e : Fin 128) :
    k0_pay108 (F := Ideal) v6 vi (k0_pay103 (F := Ideal) (vS x6) (vR x5 x6) (vN3 x5 x6) (vD3 x0 x6) (vE x0 x5 x6)) (w : FVec Ideal S1x128x128 .bf16) (ix2 r e) = DU DY PJ PW PB PS GN (ro r) (col 3 e) := by
  have hc : (⟨384 + e.val, by have := e.isLt; omega⟩ : Fin 512) = col 3 e := Fin.ext (by show 384 + e.val = 3 * 128 + e.val; omega)
  have h1 : ∀ n (hn : n + 1 ≤ 448), (concatenate S448x128 0 [⟨S432x128, k0_pay106 (F := Ideal) vi (k0_pay103 (F := Ideal) (vS x6) (vR x5 x6) (vN3 x5 x6) (vD3 x0 x6) (vE x0 x5 x6)) (w : FVec Ideal S1x128x128 .bf16)⟩, ⟨S16x128, extractStridedSlice S16x128 ![0, 384] v6 slices_S16x512_o0_384_S16x128⟩] concatenates_S432x128_S16x128_S448x128_d0 : FVec Ideal S448x128 .f32) (ix2 ⟨n, by omega⟩ e)
      = seq (fun t => Q DY PJ PW PB PS GN t (col 3 e)) (bs + n) := by
    intro n hn
    by_cases h : n < 432
    · have : (ro ⟨n, h⟩).val = bs + n := hr ⟨n, h⟩
      rw [← this, seq_of_lt _ (ro ⟨n, h⟩).isLt, ← q3 T vi hi w hw]
      pointwise [h]
    · have := h6 ⟨n - 432, by omega⟩ (col 3 e)
      rw [show bs + n = bs + 432 + (n - 432) by omega, ← this, ← hc]
      pointwise [h]
  have hk := rows16 (fun n => seq (fun t => Q DY PJ PW PB PS GN t (col 3 e)) (bs + n)) _ e h1 r.val (by omega)
  unfold DU
  rw [grp_col, ← dp3 T w hw, hr, Finset.sum_congr rfl fun i _ => by rw [Nat.add_assoc]]
  exact (congrArg (fun a : EReal => a - k0_pay105 (F := Ideal) (k0_pay103 (F := Ideal) (vS x6) (vR x5 x6) (vN3 x5 x6) (vD3 x0 x6) (vE x0 x5 x6)) (w : FVec Ideal S1x128x128 .bf16) (ix2 r e)) ((slice_at _ slices_S448x128_o0_0_S432x128 r e).trans hk) :)

end
end Cert.Proof.Pool
end
-- ==== Proof.PoolBlk.lean ====
/- The blocks the mixer's body reads at each tile hold that tile's rows; the tiles are taken from the last to the first. -/
module

public import proofs.«01_k».proof.Proof.PoolPay

@[expose] public section

set_option maxRecDepth 16384
set_option maxHeartbeats 1000000

noncomputable section

namespace Cert.Proof.Pool

open Idealize.ShloMosaic Idealize.ShloMosaic.TcCoe Idealize.ShloMosaic.Tactic
open Cert.Kernel5Ideal Cert.Kernel5Ideal.Gen

variable (m : (ℓ : Loc nD τ sig) → Buf (Elt Ideal) ℓ) (c : Dev nD)

theorem lt19 {n : Nat} (h : n < cfg0.N) : n < 19 := lt_of_lt_of_eq h (show cfg0.N = 19 from N_0)

/-- Row `r` of the tile taken at point `n`. -/
abbrev row (n : Nat) (r : Fin 432) : Fin 8208 := ⟨(18 - n) * 432 + r.val, by have := r.isLt; omega⟩

theorem idx : ∀ t : Fin cfg0.N, win0_0.index t = ![18 - t.val, 0] ∧ win0_5.index t = ![18 - t.val, 0]
    ∧ win0_6.index t = ![0, 0] ∧ win0_7.index t = ![0, 0, 0] ∧ win0_10.index t = ![18 - t.val, 0]
    ∧ win0_11.index t = ![0, 0] ∧ win0_12.index t = ![0, 0, 0] :=
  (by decide +kernel : ∀ t : Fin grid0.N, _)

theorem blk0 (n : Nat) (h : n < cfg0.N) (s : Fin 432) (k : Fin 1024) :
    (iblk m c 0 ⟨n, h⟩ : FVec Ideal S432x1024 .f32) (ix2 s k) = EDY m c (ix2 (row n s) k) := by
  blk_ext [iblk, EDY, idx ⟨n, h⟩]

theorem blk5 (n : Nat) (h : n < cfg0.N) (s : Fin 432) (k : Fin 4608) :
    (iblk m c 5 ⟨n, h⟩ : FVec Ideal S432x4608 .f32) (ix2 s k) = EA m c (ix2 (row n s) k) := by
  blk_ext [iblk, EA, idx ⟨n, h⟩]

theorem blk6 (n : Nat) (h : n < cfg0.N) (s : Fin 16) (k : Fin 512) :
    (iblk m c 6 ⟨n, h⟩ : FVec Ideal S16x512 .f32) (ix2 s k) = EV m c (ix2 s k) := by
  blk_ext [iblk, EV, idx ⟨n, h⟩]

theorem blk7 (n : Nat) (h : n < cfg0.N) (g : Fin 4) (a b : Fin 128) :
    (iblk m c 7 ⟨n, h⟩ : FVec Ideal S4x128x128 .bf16) (ix3 g a b) = EW m c (ix3 g a b) := by
  blk_ext [iblk, EW, idx ⟨n, h⟩]

theorem tile (n : Nat) (h : n < cfg0.N) : Tile (ADY m c) (APJ m c) (APW m c) (APB m c) (APS m c) (AGN m c) (row n)
    (iblk m c 0 ⟨n, h⟩) (iblk m c 5 ⟨n, h⟩) (iblk m c 6 ⟨n, h⟩) (iblk m c 7 ⟨n, h⟩) where
  dy r j := (blk0 m c n h r j).trans (congrFun (eDY m c) _)
  pl r j := (blk5 m c n h r _).trans (eA m c (row n r) j).1
  mm r j := (blk5 m c n h r _).trans (eA m c (row n r) j).2
  ps j := (blk6 m c n h 1 j).trans ((congrFun (eV m c) _).trans (xv1 m c j))
  gn j := (blk6 m c n h 10 j).trans ((congrFun (eV m c) _).trans (xv10 m c j))
  pw g a b := (blk7 m c n h g a b).trans (congrFun (eW m c) _)

theorem first_row : ∀ t : Fin cfg0.N, Scalar.muli (Scalar.subi 18#32 (BitVec.ofNat 32 ((grid0.coords t) 0).val)) 432#32 = BitVec.ofNat 32 ((18 - t.val) * 432) :=
  (by decide +kernel : ∀ t : Fin grid0.N, _)

/-- The rows' numbers plus one. -/
theorem num (n : Nat) (h : n < cfg0.N) (r : Fin 432) :
    k0_pay11 (F := Ideal) (grid0.coords ⟨n, h⟩) (ix2 r 0) = (((row n r).val : ℝ) : EReal) + ((1 : ℝ) : EReal) := by
  have hr := r.isLt
  have e : ((Scalar.muli (Scalar.subi 18#32 (BitVec.ofNat 32 ((grid0.coords ⟨n, h⟩) 0).val)) 432#32 + BitVec.ofNat 32 r.val).toInt : ℝ) = ((row n r).val : ℝ) := by
    rw [first_row ⟨n, h⟩, ← BitVec.ofNat_add]
    have : (BitVec.ofNat 32 ((18 - n) * 432 + r.val)).toInt = (((18 - n) * 432 + r.val : Nat) : Int) := by
      have hl : ((18 - n) * 432 + r.val) % 2 ^ 32 = (18 - n) * 432 + r.val := Nat.mod_eq_of_lt (by omega)
      rw [BitVec.toInt_eq_toNat_of_lt (by rw [BitVec.toNat_ofNat, hl]; omega), BitVec.toNat_ofNat, hl]
    show ((BitVec.ofNat 32 ((18 - n) * 432 + r.val)).toInt : ℝ) = _
    rw [this]
    push_cast
    rfl
  rw [← e, ← bits_one]
  pointwise [k0_pay11]
  rfl

/-- One over the count, per group. -/
theorem inv_of {k : Nat} (hk : 0 < k) (z : EReal) (t : Nat) (hz : z = ((t : ℝ) : EReal) + ((1 : ℝ) : EReal)) (b : EReal) (hb : b = (((k : ℕ) : ℝ) : EReal)) :
    Ideal.div ((1 : ℝ) : EReal) (min z b) = inv k t := by
  rw [hz, hb, min_cnt, Ideal.div_coe (cnt_ne hk)]
  unfold inv
  rw [← EReal.coe_mul, one_mul]

theorem inv0 (n : Nat) (h : n < cfg0.N) (r : Fin 432) : k0_pay26 (F := Ideal) (k0_pay11 (F := Ideal) (grid0.coords ⟨n, h⟩)) (ix2 r 0) = inv (K 0) (row n r).val := by
  refine Eq.trans ?_ (inv_of (by decide) _ _ (num n h r) _ bits_2)
  rw [← bits_one]
  rfl
theorem inv1 (n : Nat) (h : n < cfg0.N) (r : Fin 432) : k0_pay27 (F := Ideal) (k0_pay11 (F := Ideal) (grid0.coords ⟨n, h⟩)) (ix2 r 0) = inv (K 1) (row n r).val := by
  refine Eq.trans ?_ (inv_of (by decide) _ _ (num n h r) _ bits_4)
  rw [← bits_one]
  rfl
theorem inv2 (n : Nat) (h : n < cfg0.N) (r : Fin 432) : k0_pay28 (F := Ideal) (k0_pay11 (F := Ideal) (grid0.coords ⟨n, h⟩)) (ix2 r 0) = inv (K 2) (row n r).val := by
  refine Eq.trans ?_ (inv_of (by decide) _ _ (num n h r) _ bits_8)
  rw [← bits_one]
  rfl
theorem inv3 (n : Nat) (h : n < cfg0.N) (r : Fin 432) : k0_pay29 (F := Ideal) (k0_pay11 (F := Ideal) (grid0.coords ⟨n, h⟩)) (ix2 r 0) = inv (K 3) (row n r).val := by
  refine Eq.trans ?_ (inv_of (by decide) _ _ (num n h r) _ bits_16)
  rw [← bits_one]
  rfl

end Cert.Proof.Pool
end
-- ==== Proof.MixPool.lean ====
/- What each point of the mixer's grid leaves in the pool's columns, in the gradients gathered and in the carried rows, from the state the point before left. -/
module

public import proofs.«01_k».proof.Proof.MixRun
public import proofs.«01_k».proof.Proof.PoolBlk

@[expose] public section

set_option maxRecDepth 16384
set_option maxHeartbeats 8000000

noncomputable section

namespace Cert.Proof.Pool

open Idealize.ShloMosaic Idealize.ShloMosaic.TcCoe Idealize.ShloMosaic.Tactic
open Cert.Kernel5Ideal Cert.Kernel5Ideal.Gen Cert.Kernel5Ideal.Mix

/-- A row's stretch stored as what was there plus an addend. -/
theorem close_row {k o : Nat} (g : Fin 4) (ho : o = g.val * 128) {inb} (prev : FVec Ideal S16x512 .f32) (y : S16x512.Idx) (x : S1x128.Idx)
    (h0 : (y 0).val = k + (x 0).val) (h1 : (y 1).val = o + (x 1).val) (f : FVec Ideal S1x128 .f32 → FVec Ideal S1x128 .f32) (C : Nat → Fin 512 → EReal)
    (hv : ∀ p e, f p (ix2 0 e) = p (ix2 0 e) + C k (col g e)) :
    f (View.ld (Val := Elt Ideal) (e' := .f32) prev (Rect.unit (s := S16x512) ![k, o] ![1, 128] inb)) x = prev y + C (y 0).val (y 1) := by
  idx_vars x
  idx_vars y
  obtain rfl : x0 = 0 := Subsingleton.elim _ _
  have e0 : y0.val = k := h0
  have e1 : y1 = col g x1 := Fin.ext (by show y1.val = g.val * 128 + x1.val; rw [← ho]; exact h1)
  subst e1
  refine (hv _ x1).trans ?_
  show prev _ + _ = prev _ + C y0.val _
  rw [e0]
  refine congrArg (fun z => prev z + C k (col g x1)) ?_
  funext a
  apply Fin.ext
  match a with
  | ⟨0, _⟩ => show k + 1 * 0 = y0.val; omega
  | ⟨1, _⟩ => show o + 1 * x1.val = g.val * 128 + x1.val; omega

/-- A matrix stored as what was there plus an addend. -/
theorem close_mat {q : Nat} (g : Fin 4) (hq : q = g.val) {inb} (prev : FVec Ideal S4x128x128 .f32) (y : S4x128x128.Idx) (x : S1x128x128.Idx)
    (h0 : (y 0).val = q + (x 0).val) (h1 : (y 1).val = (x 1).val) (h2 : (y 2).val = (x 2).val) (f : FVec Ideal S1x128x128 .f32 → FVec Ideal S1x128x128 .f32)
    (C : Fin 4 → Fin 128 → Fin 128 → EReal) (hv : ∀ p a b, f p (ix3 0 a b) = p (ix3 0 a b) + C g a b) :
    f (View.ld (Val := Elt Ideal) (e' := .f32) prev (Rect.unit (s := S4x128x128) ![q, 0, 0] ![1, 128, 128] inb)) x = prev y + C (y 0) (y 1) (y 2) := by
  idx_vars x
  idx_vars y
  obtain rfl : x0 = 0 := Subsingleton.elim _ _
  obtain rfl : y0 = g := Fin.ext (by rw [← hq]; exact h0)
  obtain rfl : y1 = x1 := Fin.ext h1
  obtain rfl : y2 = x2 := Fin.ext h2
  refine (hv _ y1 y2).trans ?_
  refine congrArg (fun z => prev z + C y0 y1 y2) ?_
  funext a
  apply Fin.ext
  match a with
  | ⟨0, _⟩ => show q + 1 * 0 = y0.val; omega
  | ⟨1, _⟩ => show 0 + 1 * y1.val = y1.val; omega
  | ⟨2, _⟩ => show 0 + 1 * y2.val = y2.val; omega

/-- A stretch of columns stored whole. -/
theorem close_cols {n w o : Nat} (g : Fin 4) (ho : o = g.val * 128) (y : (Shape.mk 2 ![n, w]).Idx) (x : (Shape.mk 2 ![n, 128]).Idx) (h0 : (y 0).val = (x 0).val) (h1 : (y 1).val = o + (x 1).val)
    (f : (Shape.mk 2 ![n, 128]).Idx → EReal) (C : Nat → Nat → EReal) (hv : ∀ r e, f (ix2 r e) = C r.val (col g e).val) : f x = C (y 0).val (y 1).val := by
  have hx : x = ix2 (x 0) (x 1) := funext fun a => match a with
    | ⟨0, _⟩ => rfl
    | ⟨1, _⟩ => rfl
  refine (congrArg f hx).trans ((hv (x 0) (x 1)).trans ?_)
  rw [h0, h1, ho]

/-- Dropping the earliest store changes nothing under the later ones. -/
theorem canon_dropLast {s : Shape} {e : EltTy} : ∀ (L : List (View.Piece (Elt Ideal) s e)) (y : s.Idx), (∃ p ∈ L.dropLast, y ∈ p.1.set) → View.canon L y = View.canon L.dropLast y
  | [], _, h => rfl
  | [_], _, h => by obtain ⟨_, h, _⟩ := h; exact absurd h List.not_mem_nil
  | p :: q :: L, y, h => by
    rw [List.dropLast_cons_cons] at h ⊢
    by_cases hm : y ∈ p.1.set
    · obtain ⟨x, rfl⟩ := p.1.exists_idx_of_mem hm
      rw [show p.1.idx x = p.1.emb x from rfl, View.canon_cons_emb, View.canon_cons_emb]
    · rw [View.canon_cons_of_not_mem _ _ hm, View.canon_cons_of_not_mem _ _ hm]
      refine canon_dropLast (q :: L) y ?_
      obtain ⟨r, hr, hy⟩ := h
      rcases List.mem_cons.mp hr with rfl | hr
      · exact absurd hy hm
      · exact ⟨r, hr, hy⟩

variable (m : (ℓ : Loc nD τ sig) → Buf (Elt Ideal) ℓ) (c : Dev nD)

/-- The pool's functions at the arguments. -/
abbrev aM (t : Fin 8208) (j : Fin 512) : EReal := M (APJ m c) (APW m c) (APB m c) t j
abbrev aN (t : Fin 8208) (j : Fin 512) : EReal := N (APJ m c) (APW m c) (APB m c) (APS m c) t j
abbrev aY (t : Fin 8208) (j : Fin 512) : EReal := DYP (ADY m c) (APJ m c) (APW m c) (APB m c) (APS m c) (AGN m c) t j
abbrev aD (t : Fin 8208) (j : Fin 512) : EReal := DM (ADY m c) (APJ m c) (APW m c) (APB m c) (APS m c) (AGN m c) t j
abbrev aQ (t : Fin 8208) (j : Fin 512) : EReal := Q (ADY m c) (APJ m c) (APW m c) (APB m c) (APS m c) (AGN m c) t j
abbrev aU (t : Fin 8208) (j : Fin 512) : EReal := DU (ADY m c) (APJ m c) (APW m c) (APB m c) (APS m c) (AGN m c) t j

/-- What a tile adds to the vectors' gradients: rows 0, 1 and 10. -/
def addV (n : Nat) : Nat → Fin 512 → EReal
  | 0, j => ∑ r : Fin 432, aY m c (row n r) j * aM m c (row n r) j
  | 1, j => ∑ r : Fin 432, aD m c (row n r) j
  | _, j => ∑ r : Fin 432, ADY m c (ix2 (row n r) (wide j)) * aN m c (row n r) j

/-- What a tile adds to the matrices' gradients. -/
def addW (n : Nat) (g : Fin 4) (a b : Fin 128) : EReal := ∑ r : Fin 432, PL (APJ m c) (row n r) (col g a) * aD m c (row n r) (col g b)

/-- Rows from a tile's first on, by number. -/
def rowQ (n : Nat) (r j : Nat) : EReal := seq (fun j => seq (fun t => aQ m c t j) ((18 - n) * 432 + r)) j
def rowU (n : Nat) (r j : Nat) : EReal := seq (fun j => seq (fun t => aU m c t j) ((18 - n) * 432 + r)) j

theorem rowQ_at (n : Nat) (r : Fin 432) (j : Fin 512) : aQ m c (row n r) j = rowQ m c n r.val j.val := by
  unfold rowQ
  rw [seq_of_lt _ j.isLt, seq_of_lt _ (row n r).isLt]
theorem rowU_at (n : Nat) (r : Fin 432) (j : Fin 512) : aU m c (row n r) j = rowU m c n r.val j.val := by
  unfold rowU
  rw [seq_of_lt _ j.isLt, seq_of_lt _ (row n r).isLt]

section
variable (n : Nat) (h : n < cfg0.N)

theorem vecA (h0 : cond0_0 (grid0.coords ⟨n, h⟩)) (h1 : ¬cond0_1 (grid0.coords ⟨n, h⟩)) (y : S16x512.Idx) (hy : (y 0).val = 0 ∨ (y 0).val = 1 ∨ (y 0).val = 10) :
    (stA m c ⟨n, h⟩ h0 h1).2.1 y = (k0_pay2 : FVec Ideal S16x512 .f32) y + addV m c n (y 0).val (y 1) := by
  have T := tile m c n h
  unfold stA runA; frame_out
  refine (canon_dropLast _ y (View.cover_of_tiledBy _ ![1, 128] (by sl_kernel_rfl) y)).trans ?_
  dsimp only [List.dropLast]
  canon_tiles x e using View.cover_of_tiledBy _ ![1, 128] (by sl_kernel_rfl) y
  all_goals first | (exfalso; omega) | skip
  · (repeat rw [View.readCov_skip _ _ _ _ _ (by decide)]); rw [View.readCov_fill _ _ _ _ _ (by decide)]; exact close_row (k := 1) (o := 384) 3 rfl (k0_pay2 : FVec Ideal S16x512 .f32) y x (by omega) (by omega) _ (addV m c n) (pb3 T)
  · (repeat rw [View.readCov_skip _ _ _ _ _ (by decide)]); rw [View.readCov_fill _ _ _ _ _ (by decide)]; exact close_row (k := 0) (o := 384) 3 rfl (k0_pay2 : FVec Ideal S16x512 .f32) y x (by omega) (by omega) _ (addV m c n) (ps3 T)
  · (repeat rw [View.readCov_skip _ _ _ _ _ (by decide)]); rw [View.readCov_fill _ _ _ _ _ (by decide)]; exact close_row (k := 10) (o := 384) 3 rfl (k0_pay2 : FVec Ideal S16x512 .f32) y x (by omega) (by omega) _ (addV m c n) (gn3 T)
  · (repeat rw [View.readCov_skip _ _ _ _ _ (by decide)]); rw [View.readCov_fill _ _ _ _ _ (by decide)]; exact close_row (k := 1) (o := 256) 2 rfl (k0_pay2 : FVec Ideal S16x512 .f32) y x (by omega) (by omega) _ (addV m c n) (pb2 T)
  · (repeat rw [View.readCov_skip _ _ _ _ _ (by decide)]); rw [View.readCov_fill _ _ _ _ _ (by decide)]; exact close_row (k := 0) (o := 256) 2 rfl (k0_pay2 : FVec Ideal S16x512 .f32) y x (by omega) (by omega) _ (addV m c n) (ps2 T)
  · (repeat rw [View.readCov_skip _ _ _ _ _ (by decide)]); rw [View.readCov_fill _ _ _ _ _ (by decide)]; exact close_row (k := 10) (o := 256) 2 rfl (k0_pay2 : FVec Ideal S16x512 .f32) y x (by omega) (by omega) _ (addV m c n) (gn2 T)
  · (repeat rw [View.readCov_skip _ _ _ _ _ (by decide)]); rw [View.readCov_fill _ _ _ _ _ (by decide)]; exact close_row (k := 1) (o := 128) 1 rfl (k0_pay2 : FVec Ideal S16x512 .f32) y x (by omega) (by omega) _ (addV m c n) (pb1 T)
  · (repeat rw [View.readCov_skip _ _ _ _ _ (by decide)]); rw [View.readCov_fill _ _ _ _ _ (by decide)]; exact close_row (k := 0) (o := 128) 1 rfl (k0_pay2 : FVec Ideal S16x512 .f32) y x (by omega) (by omega) _ (addV m c n) (ps1 T)
  · (repeat rw [View.readCov_skip _ _ _ _ _ (by decide)]); rw [View.readCov_fill _ _ _ _ _ (by decide)]; exact close_row (k := 10) (o := 128) 1 rfl (k0_pay2 : FVec Ideal S16x512 .f32) y x (by omega) (by omega) _ (addV m c n) (gn1 T)
  · (repeat rw [View.readCov_skip _ _ _ _ _ (by decide)]); rw [View.readCov_fill _ _ _ _ _ (by decide)]; exact close_row (k := 1) (o := 0) 0 rfl (k0_pay2 : FVec Ideal S16x512 .f32) y x (by omega) (by omega) _ (addV m c n) (pb0 T)
  · (repeat rw [View.readCov_skip _ _ _ _ _ (by decide)]); rw [View.readCov_fill _ _ _ _ _ (by decide)]; exact close_row (k := 0) (o := 0) 0 rfl (k0_pay2 : FVec Ideal S16x512 .f32) y x (by omega) (by omega) _ (addV m c n) (ps0 T)
  · (repeat rw [View.readCov_skip _ _ _ _ _ (by decide)]); rw [View.readCov_fill _ _ _ _ _ (by decide)]; exact close_row (k := 10) (o := 0) 0 rfl (k0_pay2 : FVec Ideal S16x512 .f32) y x (by omega) (by omega) _ (addV m c n) (gn0 T)

theorem matA (h0 : cond0_0 (grid0.coords ⟨n, h⟩)) (h1 : ¬cond0_1 (grid0.coords ⟨n, h⟩)) (y : S4x128x128.Idx) :
    (stA m c ⟨n, h⟩ h0 h1).2.2.1 y = (k0_pay3 : FVec Ideal S4x128x128 .f32) y + addW m c n (y 0) (y 1) (y 2) := by
  have T := tile m c n h
  unfold stA runA; frame_out
  refine (canon_dropLast _ y (View.cover_of_tiledBy _ ![1, 128, 128] (by sl_kernel_rfl) y)).trans ?_
  dsimp only [List.dropLast]
  canon_tiles x e
  · (repeat rw [View.readCov_skip _ _ _ _ _ (by decide)]); rw [View.readCov_fill _ _ _ _ _ (by decide)]; exact close_mat 3 rfl (k0_pay3 : FVec Ideal S4x128x128 .f32) y x (by omega) (by omega) (by omega) _ (addW m c n) (pw3 T)
  · (repeat rw [View.readCov_skip _ _ _ _ _ (by decide)]); rw [View.readCov_fill _ _ _ _ _ (by decide)]; exact close_mat 2 rfl (k0_pay3 : FVec Ideal S4x128x128 .f32) y x (by omega) (by omega) (by omega) _ (addW m c n) (pw2 T)
  · (repeat rw [View.readCov_skip _ _ _ _ _ (by decide)]); rw [View.readCov_fill _ _ _ _ _ (by decide)]; exact close_mat 1 rfl (k0_pay3 : FVec Ideal S4x128x128 .f32) y x (by omega) (by omega) (by omega) _ (addW m c n) (pw1 T)
  · (repeat rw [View.readCov_skip _ _ _ _ _ (by decide)]); rw [View.readCov_fill _ _ _ _ _ (by decide)]; exact close_mat 0 rfl (k0_pay3 : FVec Ideal S4x128x128 .f32) y x (by omega) (by omega) (by omega) _ (addW m c n) (pw0 T)

theorem carA (h0 : cond0_0 (grid0.coords ⟨n, h⟩)) (h1 : ¬cond0_1 (grid0.coords ⟨n, h⟩)) (y : S16x512.Idx) :
    (stA m c ⟨n, h⟩ h0 h1).2.2.2.2.2.2.1 y = rowQ m c n (y 0).val (y 1).val := by
  have T := tile m c n h
  unfold stA runA; frame_out
  refine (canon_dropLast _ y (View.cover_of_tiledBy _ ![16, 128] (by sl_kernel_rfl) y)).trans ?_
  dsimp only [List.dropLast]
  canon_tiles x e
  · exact close_cols 3 rfl y x (by omega) (by omega) _ (rowQ m c n) fun r e => (qs3 T _ (inv3 n h) _ (ld_mat 3 3 rfl _ _) r e).trans (rowQ_at m c n _ _)
  · exact close_cols 2 rfl y x (by omega) (by omega) _ (rowQ m c n) fun r e => (qs2 T _ (inv2 n h) _ (ld_mat 2 2 rfl _ _) r e).trans (rowQ_at m c n _ _)
  · exact close_cols 1 rfl y x (by omega) (by omega) _ (rowQ m c n) fun r e => (qs1 T _ (inv1 n h) _ (ld_mat 1 1 rfl _ _) r e).trans (rowQ_at m c n _ _)
  · exact close_cols 0 rfl y x (by omega) (by omega) _ (rowQ m c n) fun r e => (qs0 T _ (inv0 n h) _ (ld_mat 0 0 rfl _ _) r e).trans (rowQ_at m c n _ _)

theorem outA (h0 : cond0_0 (grid0.coords ⟨n, h⟩)) (h1 : ¬cond0_1 (grid0.coords ⟨n, h⟩)) (y : S432x1536.Idx) (hy : (y 1).val < 512)
    (hp : ∀ (s : Fin 16) (j : Fin 512), (k0_pay7 : FVec Ideal S16x512 .f32) (ix2 s j) = seq (fun t => aQ m c t j) ((18 - n) * 432 + 432 + s.val)) :
    (stA m c ⟨n, h⟩ h0 h1).1 y = rowU m c n (y 0).val (y 1).val := by
  have T := tile m c n h
  unfold stA runA; frame_out
  canon_tiles x e using View.cover_of_tiledBy _ ![432, 128] (by sl_kernel_rfl) y
  all_goals first
    | (exfalso; omega)
    | skip
  · exact close_cols 3 rfl y x (by omega) (by omega) _ (rowU m c n) fun r e => (du3 T _ (fun _ => rfl) _ hp _ (inv3 n h) _ (ld_mat 3 3 rfl _ _) r e).trans (rowU_at m c n _ _)
  · exact close_cols 2 rfl y x (by omega) (by omega) _ (rowU m c n) fun r e => (du2 T _ (fun _ => rfl) _ hp _ (inv2 n h) _ (ld_mat 2 2 rfl _ _) r e).trans (rowU_at m c n _ _)
  · exact close_cols 1 rfl y x (by omega) (by omega) _ (rowU m c n) fun r e => (du1 T _ (fun _ => rfl) _ hp _ (inv1 n h) _ (ld_mat 1 1 rfl _ _) r e).trans (rowU_at m c n _ _)
  · exact close_cols 0 rfl y x (by omega) (by omega) _ (rowU m c n) fun r e => (du0 T _ (fun _ => rfl) _ hp _ (inv0 n h) _ (ld_mat 0 0 rfl _ _) r e).trans (rowU_at m c n _ _)

end

section
variable (n : Nat) (h : n < cfg0.N) (p : St Ideal)

theorem vecB (h0 : ¬cond0_0 (grid0.coords ⟨n, h⟩)) (h1 : ¬cond0_1 (grid0.coords ⟨n, h⟩)) (y : S16x512.Idx) (hy : (y 0).val = 0 ∨ (y 0).val = 1 ∨ (y 0).val = 10) :
    (stB m c ⟨n, h⟩ h0 h1 p).2.1 y = p.2.1 y + addV m c n (y 0).val (y 1) := by
  have T := tile m c n h
  unfold stB runB; frame_out
  canon_tiles x e using View.cover_of_tiledBy _ ![1, 128] (by sl_kernel_rfl) y
  all_goals first | (exfalso; omega) | skip
  · exact close_row (k := 1) (o := 384) 3 rfl p.2.1 y x (by omega) (by omega) _ (addV m c n) (pb3 T)
  · exact close_row (k := 0) (o := 384) 3 rfl p.2.1 y x (by omega) (by omega) _ (addV m c n) (ps3 T)
  · exact close_row (k := 10) (o := 384) 3 rfl p.2.1 y x (by omega) (by omega) _ (addV m c n) (gn3 T)
  · exact close_row (k := 1) (o := 256) 2 rfl p.2.1 y x (by omega) (by omega) _ (addV m c n) (pb2 T)
  · exact close_row (k := 0) (o := 256) 2 rfl p.2.1 y x (by omega) (by omega) _ (addV m c n) (ps2 T)
  · exact close_row (k := 10) (o := 256) 2 rfl p.2.1 y x (by omega) (by omega) _ (addV m c n) (gn2 T)
  · exact close_row (k := 1) (o := 128) 1 rfl p.2.1 y x (by omega) (by omega) _ (addV m c n) (pb1 T)
  · exact close_row (k := 0) (o := 128) 1 rfl p.2.1 y x (by omega) (by omega) _ (addV m c n) (ps1 T)
  · exact close_row (k := 10) (o := 128) 1 rfl p.2.1 y x (by omega) (by omega) _ (addV m c n) (gn1 T)
  · exact close_row (k := 1) (o := 0) 0 rfl p.2.1 y x (by omega) (by omega) _ (addV m c n) (pb0 T)
  · exact close_row (k := 0) (o := 0) 0 rfl p.2.1 y x (by omega) (by omega) _ (addV m c n) (ps0 T)
  · exact close_row (k := 10) (o := 0) 0 rfl p.2.1 y x (by omega) (by omega) _ (addV m c n) (gn0 T)

theorem matB (h0 : ¬cond0_0 (grid0.coords ⟨n, h⟩)) (h1 : ¬cond0_1 (grid0.coords ⟨n, h⟩)) (y : S4x128x128.Idx) :
    (stB m c ⟨n, h⟩ h0 h1 p).2.2.1 y = p.2.2.1 y + addW m c n (y 0) (y 1) (y 2) := by
  have T := tile m c n h
  unfold stB runB; frame_out
  canon_tiles x e
  · exact close_mat 3 rfl p.2.2.1 y x (by omega) (by omega) (by omega) _ (addW m c n) (pw3 T)
  · exact close_mat 2 rfl p.2.2.1 y x (by omega) (by omega) (by omega) _ (addW m c n) (pw2 T)
  · exact close_mat 1 rfl p.2.2.1 y x (by omega) (by omega) (by omega) _ (addW m c n) (pw1 T)
  · exact close_mat 0 rfl p.2.2.1 y x (by omega) (by omega) (by omega) _ (addW m c n) (pw0 T)

theorem carB (h0 : ¬cond0_0 (grid0.coords ⟨n, h⟩)) (h1 : ¬cond0_1 (grid0.coords ⟨n, h⟩)) (y : S16x512.Idx) :
    (stB m c ⟨n, h⟩ h0 h1 p).2.2.2.2.2.2.1 y = rowQ m c n (y 0).val (y 1).val := by
  have T := tile m c n h
  unfold stB runB; frame_out
  canon_tiles x e
  · exact close_cols 3 rfl y x (by omega) (by omega) _ (rowQ m c n) fun r e => (qs3 T _ (inv3 n h) _ (ld_mat 3 3 rfl _ _) r e).trans (rowQ_at m c n _ _)
  · exact close_cols 2 rfl y x (by omega) (by omega) _ (rowQ m c n) fun r e => (qs2 T _ (inv2 n h) _ (ld_mat 2 2 rfl _ _) r e).trans (rowQ_at m c n _ _)
  · exact close_cols 1 rfl y x (by omega) (by omega) _ (rowQ m c n) fun r e => (qs1 T _ (inv1 n h) _ (ld_mat 1 1 rfl _ _) r e).trans (rowQ_at m c n _ _)
  · exact close_cols 0 rfl y x (by omega) (by omega) _ (rowQ m c n) fun r e => (qs0 T _ (inv0 n h) _ (ld_mat 0 0 rfl _ _) r e).trans (rowQ_at m c n _ _)

theorem outB (h0 : ¬cond0_0 (grid0.coords ⟨n, h⟩)) (h1 : ¬cond0_1 (grid0.coords ⟨n, h⟩)) (y : S432x1536.Idx) (hy : (y 1).val < 512)
    (hp : ∀ (s : Fin 16) (j : Fin 512), p.2.2.2.2.2.2.1 (ix2 s j) = seq (fun t => aQ m c t j) ((18 - n) * 432 + 432 + s.val)) :
    (stB m c ⟨n, h⟩ h0 h1 p).1 y = rowU m c n (y 0).val (y 1).val := by
  have T := tile m c n h
  unfold stB runB; frame_out
  canon_tiles x e using View.cover_of_tiledBy _ ![432, 128] (by sl_kernel_rfl) y
  all_goals first
    | (exfalso; omega)
    | rw [read_unread_whole]
  · exact close_cols 3 rfl y x (by omega) (by omega) _ (rowU m c n) fun r e => (du3 T _ (fun _ => rfl) _ hp _ (inv3 n h) _ (ld_mat 3 3 rfl _ _) r e).trans (rowU_at m c n _ _)
  · exact close_cols 2 rfl y x (by omega) (by omega) _ (rowU m c n) fun r e => (du2 T _ (fun _ => rfl) _ hp _ (inv2 n h) _ (ld_mat 2 2 rfl _ _) r e).trans (rowU_at m c n _ _)
  · exact close_cols 1 rfl y x (by omega) (by omega) _ (rowU m c n) fun r e => (du1 T _ (fun _ => rfl) _ hp _ (inv1 n h) _ (ld_mat 1 1 rfl _ _) r e).trans (rowU_at m c n _ _)
  · exact close_cols 0 rfl y x (by omega) (by omega) _ (rowU m c n) fun r e => (du0 T _ (fun _ => rfl) _ hp _ (inv0 n h) _ (ld_mat 0 0 rfl _ _) r e).trans (rowU_at m c n _ _)

end

section
variable (n : Nat) (h : n < cfg0.N) (p : St Ideal)

theorem vecC (h0 : ¬cond0_0 (grid0.coords ⟨n, h⟩)) (h1 : cond0_1 (grid0.coords ⟨n, h⟩)) (y : S16x512.Idx) (hy : (y 0).val = 0 ∨ (y 0).val = 1 ∨ (y 0).val = 10) :
    (stC m c ⟨n, h⟩ h0 h1 p).2.1 y = p.2.1 y + addV m c n (y 0).val (y 1) := by
  have T := tile m c n h
  unfold stC runC; frame_out
  canon_tiles x e using View.cover_of_tiledBy _ ![1, 128] (by sl_kernel_rfl) y
  all_goals first | (exfalso; omega) | skip
  · exact close_row (k := 1) (o := 384) 3 rfl p.2.1 y x (by omega) (by omega) _ (addV m c n) (pb3 T)
  · exact close_row (k := 0) (o := 384) 3 rfl p.2.1 y x (by omega) (by omega) _ (addV m c n) (ps3 T)
  · exact close_row (k := 10) (o := 384) 3 rfl p.2.1 y x (by omega) (by omega) _ (addV m c n) (gn3 T)
  · exact close_row (k := 1) (o := 256) 2 rfl p.2.1 y x (by omega) (by omega) _ (addV m c n) (pb2 T)
  · exact close_row (k := 0) (o := 256) 2 rfl p.2.1 y x (by omega) (by omega) _ (addV m c n) (ps2 T)
  · exact close_row (k := 10) (o := 256) 2 rfl p.2.1 y x (by omega) (by omega) _ (addV m c n) (gn2 T)
  · exact close_row (k := 1) (o := 128) 1 rfl p.2.1 y x (by omega) (by omega) _ (addV m c n) (pb1 T)
  · exact close_row (k := 0) (o := 128) 1 rfl p.2.1 y x (by omega) (by omega) _ (addV m c n) (ps1 T)
  · exact close_row (k := 10) (o := 128) 1 rfl p.2.1 y x (by omega) (by omega) _ (addV m c n) (gn1 T)
  · exact close_row (k := 1) (o := 0) 0 rfl p.2.1 y x (by omega) (by omega) _ (addV m c n) (pb0 T)
  · exact close_row (k := 0) (o := 0) 0 rfl p.2.1 y x (by omega) (by omega) _ (addV m c n) (ps0 T)
  · exact close_row (k := 10) (o := 0) 0 rfl p.2.1 y x (by omega) (by omega) _ (addV m c n) (gn0 T)

theorem matC (h0 : ¬cond0_0 (grid0.coords ⟨n, h⟩)) (h1 : cond0_1 (grid0.coords ⟨n, h⟩)) (y : S4x128x128.Idx) :
    (stC m c ⟨n, h⟩ h0 h1 p).2.2.1 y = p.2.2.1 y + addW m c n (y 0) (y 1) (y 2) := by
  have T := tile m c n h
  unfold stC runC; frame_out
  canon_tiles x e
  · exact close_mat 3 rfl p.2.2.1 y x (by omega) (by omega) (by omega) _ (addW m c n) (pw3 T)
  · exact close_mat 2 rfl p.2.2.1 y x (by omega) (by omega) (by omega) _ (addW m c n) (pw2 T)
  · exact close_mat 1 rfl p.2.2.1 y x (by omega) (by omega) (by omega) _ (addW m c n) (pw1 T)
  · exact close_mat 0 rfl p.2.2.1 y x (by omega) (by omega) (by omega) _ (addW m c n) (pw0 T)

theorem carC (h0 : ¬cond0_0 (grid0.coords ⟨n, h⟩)) (h1 : cond0_1 (grid0.coords ⟨n, h⟩)) (y : S16x512.Idx) :
    (stC m c ⟨n, h⟩ h0 h1 p).2.2.2.2.2.2.1 y = rowQ m c n (y 0).val (y 1).val := by
  have T := tile m c n h
  unfold stC runC; frame_out
  canon_tiles x e
  · exact close_cols 3 rfl y x (by omega) (by omega) _ (rowQ m c n) fun r e => (qs3 T _ (inv3 n h) _ (ld_mat 3 3 rfl _ _) r e).trans (rowQ_at m c n _ _)
  · exact close_cols 2 rfl y x (by omega) (by omega) _ (rowQ m c n) fun r e => (qs2 T _ (inv2 n h) _ (ld_mat 2 2 rfl _ _) r e).trans (rowQ_at m c n _ _)
  · exact close_cols 1 rfl y x (by omega) (by omega) _ (rowQ m c n) fun r e => (qs1 T _ (inv1 n h) _ (ld_mat 1 1 rfl _ _) r e).trans (rowQ_at m c n _ _)
  · exact close_cols 0 rfl y x (by omega) (by omega) _ (rowQ m c n) fun r e => (qs0 T _ (inv0 n h) _ (ld_mat 0 0 rfl _ _) r e).trans (rowQ_at m c n _ _)

theorem outC (h0 : ¬cond0_0 (grid0.coords ⟨n, h⟩)) (h1 : cond0_1 (grid0.coords ⟨n, h⟩)) (y : S432x1536.Idx) (hy : (y 1).val < 512)
    (hp : ∀ (s : Fin 16) (j : Fin 512), p.2.2.2.2.2.2.1 (ix2 s j) = seq (fun t => aQ m c t j) ((18 - n) * 432 + 432 + s.val)) :
    (stC m c ⟨n, h⟩ h0 h1 p).1 y = rowU m c n (y 0).val (y 1).val := by
  have T := tile m c n h
  unfold stC runC; frame_out
  canon_tiles x e using View.cover_of_tiledBy _ ![432, 128] (by sl_kernel_rfl) y
  all_goals first
    | (exfalso; omega)
    | rw [read_unread_whole]
  · exact close_cols 3 rfl y x (by omega) (by omega) _ (rowU m c n) fun r e => (du3 T _ (fun _ => rfl) _ hp _ (inv3 n h) _ (ld_mat 3 3 rfl _ _) r e).trans (rowU_at m c n _ _)
  · exact close_cols 2 rfl y x (by omega) (by omega) _ (rowU m c n) fun r e => (du2 T _ (fun _ => rfl) _ hp _ (inv2 n h) _ (ld_mat 2 2 rfl _ _) r e).trans (rowU_at m c n _ _)
  · exact close_cols 1 rfl y x (by omega) (by omega) _ (rowU m c n) fun r e => (du1 T _ (fun _ => rfl) _ hp _ (inv1 n h) _ (ld_mat 1 1 rfl _ _) r e).trans (rowU_at m c n _ _)
  · exact close_cols 0 rfl y x (by omega) (by omega) _ (rowU m c n) fun r e => (du0 T _ (fun _ => rfl) _ hp _ (inv0 n h) _ (ld_mat 0 0 rfl _ _) r e).trans (rowU_at m c n _ _)

end

end Cert.Proof.Pool
end
-- ==== Proof.PoolGrad.lean ====
/- The gradient of the pool half's input in the reference: the shifted and padded differences of the window's means, summed from each row to the last. -/
module

public import proofs.«01_k».proof.Proof.PoolMath
public import Idealize.ShloMosaic.Lib.KernelVsHost

@[expose] public section

set_option maxRecDepth 16384

noncomputable section

namespace Cert.Proof.Pool

open Idealize.ShloMosaic Idealize.ShloMosaic.TcCoe

theorem pad_in {n d n' d' : Nat} (lo hi : Fin 2 → Nat) (x : (⟨2, ![n, d]⟩ : Shape).Idx → EReal) (v : (⟨0, ![]⟩ : Shape).Idx → EReal)
    (h : (⟨2, ![n, d]⟩ : Shape).Pads lo hi ![0, 0] ⟨2, ![n', d']⟩) (hu : 0 < (⟨0, ![]⟩ : Shape).numel) (t : Fin n') (j : Fin d') (t' : Fin n) (j' : Fin d)
    (ht : t.val = lo 0 + t'.val) (hj : j.val = lo 1 + j'.val) :
    pad (⟨2, ![n', d']⟩ : Shape) lo hi ![0, 0] x v h hu (ix2 t j) = x (ix2 t' j') :=
  pad_apply_of_inside lo hi ![0, 0] x v h hu (ix2 t j) (ix2 t' j') fun a => by
    match a with
    | ⟨0, _⟩ => exact ht.trans (by simp [ix2])
    | ⟨1, _⟩ => exact hj.trans (by simp [ix2])

theorem pad_out {n d n' d' : Nat} (lo hi : Fin 2 → Nat) (x : (⟨2, ![n, d]⟩ : Shape).Idx → EReal) (v : (⟨0, ![]⟩ : Shape).Idx → EReal)
    (h : (⟨2, ![n, d]⟩ : Shape).Pads lo hi ![0, 0] ⟨2, ![n', d']⟩) (hu : 0 < (⟨0, ![]⟩ : Shape).numel) (hv : v (Shape.Idx.first hu) = 0) (t : Fin n') (j : Fin d')
    (ho : (t.val < lo 0 ∨ lo 0 + n ≤ t.val) ∨ (j.val < lo 1 ∨ lo 1 + d ≤ j.val)) :
    pad (⟨2, ![n', d']⟩ : Shape) lo hi ![0, 0] x v h hu (ix2 t j) = 0 := by
  rcases ho with ho | ho
  · refine (pad_apply_of_not_inside lo hi ![0, 0] x v h hu (ix2 t j) 0 fun ⟨h1, _, h3⟩ => ?_).trans hv
    have h1 : lo 0 ≤ t.val := h1
    have h3 : (t.val - lo 0) / 1 < n := h3
    rw [Nat.div_one] at h3
    omega
  · refine (pad_apply_of_not_inside lo hi ![0, 0] x v h hu (ix2 t j) 1 fun ⟨h1, _, h3⟩ => ?_).trans hv
    have h1 : lo 1 ≤ j.val := h1
    have h3 : (j.val - lo 1) / 1 < d := h3
    rw [Nat.div_one] at h3
    omega

variable (DY : Cert.Reference5Ideal.S8208x1024.Idx → EReal) (PJ : Cert.Reference5Ideal.S8208x1536.Idx → EReal)
  (PW : Cert.Reference5Ideal.S4x128x128.Idx → EReal) (PB PS : Cert.Reference5Ideal.S512.Idx → EReal) (GN : Cert.Reference5Ideal.S1024.Idx → EReal)

open Cert.Reference5Ideal Cert.Reference5Ideal.Read

/-- A group's quotients placed in its columns, and their negatives shifted up. -/
theorem place_pos {n d n' d' : Nat} (hd : d = 128) (hn : n = n') (k : Fin 4) (lo hi : Fin 2 → Nat) (h0 : lo 0 = 0) (h1 : lo 1 = k.val * 128)
    (x : (⟨2, ![n, d]⟩ : Shape).Idx → EReal) (v : (⟨0, ![]⟩ : Shape).Idx → EReal)
    (h : (⟨2, ![n, d]⟩ : Shape).Pads lo hi ![0, 0] ⟨2, ![n', d']⟩) (hu : 0 < (⟨0, ![]⟩ : Shape).numel) (hv : v (Shape.Idx.first hu) = 0)
    (f : Fin n' → Fin 512 → EReal) (hx : ∀ (t : Fin n') (e : Fin 128), x (ix2 (t.cast hn.symm) (e.cast hd.symm)) = f t (col k e))
    (t : Fin n') (g : Fin 4) (e : Fin 128) (j : Fin d') (hj : j.val = g.val * 128 + e.val) :
    pad (⟨2, ![n', d']⟩ : Shape) lo hi ![0, 0] x v h hu (ix2 t j) = if g = k then f t (col g e) else 0 := by
  have he := e.isLt
  split
  · next hg =>
    subst hg
    rw [← hx]
    exact pad_in lo hi x v h hu t j _ _ (by rw [h0]; simp) (by rw [h1, hj]; rfl)
  · next hg =>
    have hg : g.val ≠ k.val := fun e => hg (Fin.ext e)
    exact pad_out lo hi x v h hu hv t j (Or.inr (by omega))

theorem place_neg {n d n' d' N : Nat} (hd : d = 128) (s : Nat) (hn : n + s = N) (hn' : n' = N + 1) (k : Fin 4) (lo hi : Fin 2 → Nat) (h0 : lo 0 = 0) (h1 : lo 1 = k.val * 128)
    (x : (⟨2, ![n, d]⟩ : Shape).Idx → EReal) (v : (⟨0, ![]⟩ : Shape).Idx → EReal)
    (h : (⟨2, ![n, d]⟩ : Shape).Pads lo hi ![0, 0] ⟨2, ![n', d']⟩) (hu : 0 < (⟨0, ![]⟩ : Shape).numel) (hv : v (Shape.Idx.first hu) = 0)
    (f : Fin N → Fin 512 → EReal) (hx : ∀ (t : Fin n) (e : Fin 128), x (ix2 t (e.cast hd.symm)) = -f ⟨t.val + s, by have := t.isLt; omega⟩ (col k e))
    (t : Fin n') (g : Fin 4) (e : Fin 128) (j : Fin d') (hj : j.val = g.val * 128 + e.val) :
    pad (⟨2, ![n', d']⟩ : Shape) lo hi ![0, 0] x v h hu (ix2 t j) = if g = k then -seq (fun t => f t (col g e)) (t.val + s) else 0 := by
  have he := e.isLt
  split
  · next hg =>
    subst hg
    by_cases ht : t.val < n
    · rw [seq_of_lt _ (by omega), ← hx ⟨t.val, ht⟩ e]
      exact pad_in lo hi x v h hu t j _ _ (by rw [h0]; simp) (by rw [h1, hj]; rfl)
    · rw [seq_of_ge _ (by omega), neg_zero]
      exact pad_out lo hi x v h hu hv t j (Or.inl (Or.inr (by omega)))
  · next hg =>
    have hg : g.val ≠ k.val := fun e => hg (Fin.ext e)
    exact pad_out lo hi x v h hu hv t j (Or.inr (by omega))

variable (h : ∀ t j, val_main_v105 (F := Ideal) DY PJ PW PB PS GN (ix2 t j) = DYP DY PJ PW PB PS GN t j)

/-- A quotient of the gradient of a pooled row by its count. -/
theorem quot {x y z : EReal} {k t : Nat} (hk : 0 < k) (hx : x = z) (hy : y = ((cnt k t : ℝ) : EReal)) : Ideal.div x y = z * inv k t := by
  rw [hx, hy, Ideal.div_coe (cnt_ne hk)]
  rfl

include h in
theorem ref_q (t : Fin 8208) (g : Fin 4) (e : Fin 128) :
    (![val_main_v153 (F := Ideal) DY PJ PW PB PS GN, val_main_v144 (F := Ideal) DY PJ PW PB PS GN, val_main_v135 (F := Ideal) DY PJ PW PB PS GN, val_main_v128 (F := Ideal) DY PJ PW PB PS GN] : Fin 4 → (S8208x128.Idx → EReal)) g (ix2 t e)
      = Q DY PJ PW PB PS GN t (col g e) := by
  unfold Q
  rw [grp_col, ← ref_dp DY PJ PW PB PS GN h]
  match g with
  | ⟨0, _⟩ =>
    refine Eq.trans ?_ (quot (k := 2) (by decide) rfl (ref_cnt 0 t))
    pointwise [val_main_v153, val_main_v152, val_main_v123]
    exact congrArg (fun j => Ideal.div (val_main_v121 (F := Ideal) DY PJ PW PB PS GN (ix2 t j)) _) (Fin.ext (by dsimp only; omega))
  | ⟨1, _⟩ =>
    refine Eq.trans ?_ (quot (k := 4) (by decide) rfl (ref_cnt 1 t))
    pointwise [val_main_v144, val_main_v143, val_main_v124]
    exact congrArg (fun j => Ideal.div (val_main_v121 (F := Ideal) DY PJ PW PB PS GN (ix2 t j)) _) (Fin.ext (by dsimp only; omega))
  | ⟨2, _⟩ =>
    refine Eq.trans ?_ (quot (k := 8) (by decide) rfl (ref_cnt 2 t))
    pointwise [val_main_v135, val_main_v134, val_main_v125]
    exact congrArg (fun j => Ideal.div (val_main_v121 (F := Ideal) DY PJ PW PB PS GN (ix2 t j)) _) (Fin.ext (by dsimp only; omega))
  | ⟨3, _⟩ =>
    refine Eq.trans ?_ (quot (k := 16) (by decide) rfl (ref_cnt 3 t))
    pointwise [val_main_v128, val_main_v127, val_main_v126]
    exact congrArg (fun j => Ideal.div (val_main_v121 (F := Ideal) DY PJ PW PB PS GN (ix2 t j)) _) (Fin.ext (by dsimp only; omega))

local notation "q" => Q DY PJ PW PB PS GN

include h in
theorem ref_pos (t : Fin 8208) (j : Fin 512) : val_main_v156 (F := Ideal) DY PJ PW PB PS GN (ix2 t j) = q t j := by
  rw [← col_grp j]
  generalize grp j = g
  generalize lane j = e
  have p0 : val_main_v155 (F := Ideal) DY PJ PW PB PS GN (ix2 t (col g e)) = if g = 0 then q t (col g e) else 0 :=
    place_pos rfl rfl 0 ![0, 0] ![0, 384] rfl rfl (val_main_v153 (F := Ideal) DY PJ PW PB PS GN) _ _ _ bits_zero (fun t j => q t j) (fun t e => ref_q DY PJ PW PB PS GN h t 0 e) t g e _ rfl
  have p1 : val_main_v146 (F := Ideal) DY PJ PW PB PS GN (ix2 t (col g e)) = if g = 1 then q t (col g e) else 0 :=
    place_pos rfl rfl 1 ![0, 128] ![0, 256] rfl rfl (val_main_v144 (F := Ideal) DY PJ PW PB PS GN) _ _ _ bits_zero (fun t j => q t j) (fun t e => ref_q DY PJ PW PB PS GN h t 1 e) t g e _ rfl
  have p2 : val_main_v137 (F := Ideal) DY PJ PW PB PS GN (ix2 t (col g e)) = if g = 2 then q t (col g e) else 0 :=
    place_pos rfl rfl 2 ![0, 256] ![0, 128] rfl rfl (val_main_v135 (F := Ideal) DY PJ PW PB PS GN) _ _ _ bits_zero (fun t j => q t j) (fun t e => ref_q DY PJ PW PB PS GN h t 2 e) t g e _ rfl
  have p3 : val_main_v130 (F := Ideal) DY PJ PW PB PS GN (ix2 t (col g e)) = if g = 3 then q t (col g e) else 0 :=
    place_pos rfl rfl 3 ![0, 384] ![0, 0] rfl rfl (val_main_v128 (F := Ideal) DY PJ PW PB PS GN) _ _ _ bits_zero (fun t j => q t j) (fun t e => ref_q DY PJ PW PB PS GN h t 3 e) t g e _ rfl
  rw [val_main_v156_apply, val_main_v147_apply, val_main_v138_apply, p0, p1, p2, p3]
  show (((if g = 3 then _ else (0 : EReal)) + (if g = 2 then _ else (0 : EReal))) + (if g = 1 then _ else (0 : EReal))) + (if g = 0 then _ else (0 : EReal)) = _
  fin_cases g <;> simp

include h in
theorem ref_neg (t : Fin 8209) (j : Fin 512) : val_main_v160 (F := Ideal) DY PJ PW PB PS GN (ix2 t j) = -seq (fun t => q t j) (t.val + (K (grp j) - 1)) := by
  rw [← col_grp j, grp_col]
  generalize grp j = g
  generalize lane j = e
  have p0 : val_main_v159 (F := Ideal) DY PJ PW PB PS GN (ix2 t (col g e)) = if g = 0 then -seq (fun t => q t (col g e)) (t.val + 1) else 0 :=
    place_neg rfl 1 rfl rfl 0 ![0, 0] ![2, 384] rfl rfl (val_main_v158 (F := Ideal) DY PJ PW PB PS GN) _ _ _ bits_zero (fun t j => q t j) (fun t e => by
      rw [← ref_q DY PJ PW PB PS GN h _ 0 e]
      pointwise [val_main_v158, val_main_v154]
      exact congrArg (fun r => -val_main_v153 (F := Ideal) DY PJ PW PB PS GN (ix2 r e)) (Fin.ext (Nat.add_comm _ _))) t g e _ rfl
  have p1 : val_main_v150 (F := Ideal) DY PJ PW PB PS GN (ix2 t (col g e)) = if g = 1 then -seq (fun t => q t (col g e)) (t.val + 3) else 0 :=
    place_neg rfl 3 rfl rfl 1 ![0, 128] ![4, 256] rfl rfl (val_main_v149 (F := Ideal) DY PJ PW PB PS GN) _ _ _ bits_zero (fun t j => q t j) (fun t e => by
      rw [← ref_q DY PJ PW PB PS GN h _ 1 e]
      pointwise [val_main_v149, val_main_v145]
      exact congrArg (fun r => -val_main_v144 (F := Ideal) DY PJ PW PB PS GN (ix2 r e)) (Fin.ext (Nat.add_comm _ _))) t g e _ rfl
  have p2 : val_main_v141 (F := Ideal) DY PJ PW PB PS GN (ix2 t (col g e)) = if g = 2 then -seq (fun t => q t (col g e)) (t.val + 7) else 0 :=
    place_neg rfl 7 rfl rfl 2 ![0, 256] ![8, 128] rfl rfl (val_main_v140 (F := Ideal) DY PJ PW PB PS GN) _ _ _ bits_zero (fun t j => q t j) (fun t e => by
      rw [← ref_q DY PJ PW PB PS GN h _ 2 e]
      pointwise [val_main_v140, val_main_v136]
      exact congrArg (fun r => -val_main_v135 (F := Ideal) DY PJ PW PB PS GN (ix2 r e)) (Fin.ext (Nat.add_comm _ _))) t g e _ rfl
  have p3 : val_main_v133 (F := Ideal) DY PJ PW PB PS GN (ix2 t (col g e)) = if g = 3 then -seq (fun t => q t (col g e)) (t.val + 15) else 0 :=
    place_neg rfl 15 rfl rfl 3 ![0, 384] ![16, 0] rfl rfl (val_main_v132 (F := Ideal) DY PJ PW PB PS GN) _ _ _ bits_zero (fun t j => q t j) (fun t e => by
      rw [← ref_q DY PJ PW PB PS GN h _ 3 e]
      pointwise [val_main_v132, val_main_v129]
      exact congrArg (fun r => -val_main_v128 (F := Ideal) DY PJ PW PB PS GN (ix2 r e)) (Fin.ext (Nat.add_comm _ _))) t g e _ rfl
  rw [val_main_v160_apply, val_main_v151_apply, val_main_v142_apply, p0, p1, p2, p3]
  show (((if g = 3 then _ else (0 : EReal)) + (if g = 2 then _ else (0 : EReal))) + (if g = 1 then _ else (0 : EReal))) + (if g = 0 then _ else (0 : EReal)) = _
  fin_cases g <;> simp [K]

include h in
theorem ref_diff (t : Fin 8208) (j : Fin 512) : val_main_v164 (F := Ideal) DY PJ PW PB PS GN (ix2 t j) = q t j + -seq (fun t => q t j) (t.val + K (grp j)) := by
  have hk : 0 < K (grp j) := Nat.two_pow_pos _
  have e1 : val_main_v161 (F := Ideal) DY PJ PW PB PS GN (ix2 ⟨1 + t.val, by omega⟩ j) = q t j :=
    (pad_in ![1, 0] ![0, 0] (val_main_v156 (F := Ideal) DY PJ PW PB PS GN) _ _ _ _ j t j rfl (by simp)).trans (ref_pos DY PJ PW PB PS GN h t j)
  pointwise [val_main_v164, val_main_v162, ref_neg DY PJ PW PB PS GN h, e1]
  rw [add_comm, show 1 + t.val + (K (grp j) - 1) = t.val + K (grp j) by omega]

theorem seq_real {n : Nat} (f : Fin n → EReal) (hf : ∀ t, IsReal (f t)) (s : Nat) : IsReal (seq f s) := by
  unfold seq
  split
  · exact hf _
  · exact ⟨0, rfl⟩

include h in
theorem ref_du (hq : ∀ t j, IsReal (q t j)) (t : Fin 8208) (j : Fin 512) : val_main_v167 (F := Ideal) DY PJ PW PB PS GN (ix2 t j) = DU DY PJ PW PB PS GN t j := by
  have e : val_main_v165 (F := Ideal) DY PJ PW PB PS GN (ix2 t j) = ∑ i ∈ Finset.range (K (grp j)), seq (fun s => q s j) (t.val + i) := by
    unfold val_main_v165
    rw [cumsum_rev_apply _ _ (fun i => by pointwise [val_main_call1_call0_v0, val_main_call1_call0_cst]) 8207 rfl,
      ← telescope (seq fun s => q s j) (seq_real _ fun t => hq t j) 8208 t.val (K (grp j)) fun s hs => seq_of_ge _ hs]
    refine Finset.sum_congr rfl fun s hs => ?_
    by_cases ht : t.val + s < 8208
    · rw [seq_of_lt _ ht, seq_of_lt _ ht, ref_diff DY PJ PW PB PS GN h]
    · rw [seq_of_ge _ (by omega), seq_of_ge _ (by omega), seq_of_ge _ (by omega), neg_zero, add_zero]
  unfold DU
  rw [← ref_dp DY PJ PW PB PS GN h, ← e]
  pointwise [val_main_v167, val_main_v166, val_main_v122]
  rw [add_comm, sub_eq_add_neg]

end Cert.Proof.Pool

end
-- ==== Proof.MixVal.lean ====
/- The pool half of the mixer's gradient: what the kernel's grid leaves in the arrays is the vector-Jacobian product of the forward lines. -/
module

public import proofs.«01_k».proof.Proof.MixPool
public import proofs.«01_k».proof.Proof.PoolGrad

@[expose] public section

set_option maxRecDepth 16384
set_option maxHeartbeats 4000000

noncomputable section

namespace Cert.Proof.Pool

open Idealize.ShloMosaic Idealize.ShloMosaic.TcCoe Idealize.ShloMosaic.Tactic Idealize.SL.Sem
open Cert.Kernel5Ideal Cert.Kernel5Ideal.Gen Cert.Kernel5Ideal.Mix
open Cert.Reference5Ideal.Read

variable (m : (ℓ : Loc nD τ sig) → Buf (Elt Ideal) ℓ) (c : Dev nD)

theorem zero2 (y : S16x512.Idx) : k0_pay2 (F := Ideal) y = 0 := bits_zero
theorem zero3 (y : S4x128x128.Idx) : k0_pay3 (F := Ideal) y = 0 := bits_zero
theorem zero7 (y : S16x512.Idx) : k0_pay7 (F := Ideal) y = 0 := bits_zero

/-- The state before a point that is not the first. -/
abbrev prev (t : Fin cfg0.N) : St Ideal := state m c (t.val - 1) (lt_of_le_of_lt (Nat.sub_le _ _) t.isLt)

theorem isFirst {t : Fin cfg0.N} (h0 : cond0_0 (grid0.coords t)) : t.val = 0 := by
  have := (hcond0_0 t).mp h0
  have := lt19 t.isLt
  omega
theorem notLast {t : Fin cfg0.N} (h0 : cond0_0 (grid0.coords t)) : ¬cond0_1 (grid0.coords t) := fun h => by
  have := (hcond0_0 t).mp h0
  have := (hcond0_1 t).mp h
  omega
theorem notZero {t : Fin cfg0.N} (h0 : ¬cond0_0 (grid0.coords t)) : t.val ≠ 0 := fun h => h0 ((hcond0_0 t).mpr (by omega))

/-- The rows carried to the next point. -/
theorem car (t : Fin cfg0.N) (y : S16x512.Idx) : (state m c t.val t.isLt).2.2.2.2.2.2.1 y = rowQ m c t.val (y 0).val (y 1).val := by
  by_cases h0 : cond0_0 (grid0.coords t)
  · rw [state_A m c t (isFirst h0) h0 (notLast h0)]
    exact carA m c t.val t.isLt h0 (notLast h0) y
  · by_cases h1 : cond0_1 (grid0.coords t)
    · rw [state_C m c t (notZero h0) h0 h1]
      exact carC m c t.val t.isLt _ h0 h1 y
    · rw [state_B m c t (notZero h0) h0 h1]
      exact carB m c t.val t.isLt _ h0 h1 y

/-- They are the rows that follow the next tile. -/
theorem car_prev (t : Fin cfg0.N) (h0 : ¬cond0_0 (grid0.coords t)) (s : Fin 16) (j : Fin 512) :
    (prev m c t).2.2.2.2.2.2.1 (ix2 s j) = seq (fun r => aQ m c r j) ((18 - t.val) * 432 + 432 + s.val) := by
  have hz := notZero h0
  have hl := lt19 t.isLt
  refine (car m c ⟨t.val - 1, lt_of_le_of_lt (Nat.sub_le _ _) t.isLt⟩ (ix2 s j)).trans ?_
  show rowQ m c (t.val - 1) s.val j.val = _
  unfold rowQ
  rw [seq_of_lt _ j.isLt]
  refine congrArg (seq fun r => aQ m c r j) ?_
  have : 18 - (t.val - 1) = 18 - t.val + 1 := by omega
  rw [this, Nat.add_mul, Nat.one_mul]

/-- The pool's columns of a tile. -/
theorem out (t : Fin cfg0.N) (y : S432x1536.Idx) (hy : (y 1).val < 512) : (state m c t.val t.isLt).1 y = rowU m c t.val (y 0).val (y 1).val := by
  by_cases h0 : cond0_0 (grid0.coords t)
  · rw [state_A m c t (isFirst h0) h0 (notLast h0)]
    refine outA m c t.val t.isLt h0 (notLast h0) y hy fun s j => ?_
    rw [seq_of_ge _ (by have := isFirst h0; omega)]
    exact zero7 _
  · by_cases h1 : cond0_1 (grid0.coords t)
    · rw [state_C m c t (notZero h0) h0 h1]
      exact outC m c t.val t.isLt _ h0 h1 y hy (car_prev m c t h0)
    · rw [state_B m c t (notZero h0) h0 h1]
      exact outB m c t.val t.isLt _ h0 h1 y hy (car_prev m c t h0)

/-- A sum over all rows, tile by tile from the last. -/
theorem sum_rows (f : Fin 8208 → EReal) : ∑ p : Fin cfg0.N, ∑ r : Fin 432, f (row p.val r) = ∑ t, f t := by
  rw [Fin.sum_univ_tiles 19 432 rfl f]
  show ∑ p : Fin 19, ∑ r : Fin 432, f (row p.val r) = _
  refine Fintype.sum_equiv Fin.revPerm _ _ fun p => Finset.sum_congr rfl fun r _ => congrArg f (Fin.ext ?_)
  have hp : (Fin.revPerm p).val = 18 - p.val := by
    rw [Fin.revPerm_apply, Fin.val_rev]
    omega
  show (18 - p.val) * 432 + r.val = (Fin.revPerm p).val * 432 + r.val
  rw [hp]

theorem last (t : Fin cfg0.N) (z : t.val % 19 = 18) : t.val + 1 = cfg0.N := by
  have := lt19 t.isLt
  exact (show t.val + 1 = 19 by omega).trans N_0.symm

/-- The vectors' gradients after the last tile. -/
theorem vec_last (t : Fin cfg0.N) (z : t.val % 19 = 18) (k : Fin 16) (hk : k.val = 0 ∨ k.val = 1 ∨ k.val = 10) (j : Fin 512) :
    (state m c t.val t.isLt).2.1 (ix2 k j) = ∑ p : Fin cfg0.N, addV m c p.val k.val j := by
  refine (Pipeline.eq_sum_fin_of_reset_step_apply_last (fun n h (j : Fin 512) => ((state m c n h).2.1 (ix2 k j) : EReal)) 19 (fun _ => 0)
    (fun t j => addV m c t.val k.val j) (fun t z j => ?_) (fun t z j => ?_) (le_of_eq N_0) t (last t z) j).trans (zero_add _)
  · have h0 : cond0_0 (grid0.coords t) := (hcond0_0 t).mpr (by omega)
    show (state m c t.val t.isLt).2.1 (ix2 k j) = 0 + addV m c t.val k.val j
    rw [state_A m c t (isFirst h0) h0 (notLast h0), ← zero2 (ix2 k j)]
    exact vecA m c t.val t.isLt h0 (notLast h0) (ix2 k j) hk
  · have h0 : ¬cond0_0 (grid0.coords t) := fun h => z (by have := (hcond0_0 t).mp h; omega)
    by_cases h1 : cond0_1 (grid0.coords t)
    · show (state m c t.val t.isLt).2.1 (ix2 k j) = (prev m c t).2.1 (ix2 k j) + addV m c t.val k.val j
      rw [state_C m c t (notZero h0) h0 h1]
      exact vecC m c t.val t.isLt _ h0 h1 (ix2 k j) hk
    · show (state m c t.val t.isLt).2.1 (ix2 k j) = (prev m c t).2.1 (ix2 k j) + addV m c t.val k.val j
      rw [state_B m c t (notZero h0) h0 h1]
      exact vecB m c t.val t.isLt _ h0 h1 (ix2 k j) hk

/-- The matrices' gradients after the last tile. -/
theorem mat_last (t : Fin cfg0.N) (z : t.val % 19 = 18) (y : S4x128x128.Idx) :
    (state m c t.val t.isLt).2.2.1 y = ∑ r : Fin 8208, PL (APJ m c) r (col (y 0) (y 1)) * aD m c r (col (y 0) (y 2)) := by
  refine ((Pipeline.eq_sum_fin_of_reset_step_apply_last (fun n h (y : S4x128x128.Idx) => ((state m c n h).2.2.1 y : EReal)) 19 (fun _ => 0)
    (fun t y => addW m c t.val (y 0) (y 1) (y 2)) (fun t z y => ?_) (fun t z y => ?_) (le_of_eq N_0) t (last t z) y).trans (zero_add _)).trans
    (sum_rows fun r => PL (APJ m c) r (col (y 0) (y 1)) * aD m c r (col (y 0) (y 2)))
  · have h0 : cond0_0 (grid0.coords t) := (hcond0_0 t).mpr (by omega)
    show (state m c t.val t.isLt).2.2.1 y = 0 + addW m c t.val (y 0) (y 1) (y 2)
    rw [state_A m c t (isFirst h0) h0 (notLast h0), ← zero3 y]
    exact matA m c t.val t.isLt h0 (notLast h0) y
  · have h0 : ¬cond0_0 (grid0.coords t) := fun h => z (by have := (hcond0_0 t).mp h; omega)
    show (state m c t.val t.isLt).2.2.1 y = (prev m c t).2.2.1 y + addW m c t.val (y 0) (y 1) (y 2)
    by_cases h1 : cond0_1 (grid0.coords t)
    · rw [state_C m c t (notZero h0) h0 h1]
      exact matC m c t.val t.isLt _ h0 h1 y
    · rw [state_B m c t (notZero h0) h0 h1]
      exact matB m c t.val t.isLt _ h0 h1 y

theorem emb10 (t : Fin cfg0.N) (r : Fin 432) (k : Fin 1536) : (win0_10.blk t).view.emb (ix2 r k) = (ix2 (row t.val r) k : S8208x1536.Idx) := by
  blk_ext [idx t]
theorem emb11 (t : Fin cfg0.N) (r : Fin 16) (k : Fin 512) : (win0_11.blk t).view.emb (ix2 r k) = (ix2 r k : S16x512.Idx) := by
  blk_ext [idx t]
theorem emb12 (t : Fin cfg0.N) (g : Fin 4) (a b : Fin 128) : (win0_12.blk t).view.emb (ix3 g a b) = (ix3 g a b : S4x128x128.Idx) := by
  blk_ext [idx t]

/-- What is said of an element in the pool's columns. -/
def At10 (i : S8208x1536.Idx) (v : EReal) : Prop := ∀ j : Fin 512, (i 1).val = j.val → v = aU m c (i 0) j

theorem arr10 (i : S8208x1536.Idx) : At10 m c i ((dats m 0 c).arrAt 10 cfg0.N i) := by
  refine (dats m 0 c).arrAt_forall_of_covers 10 (At10 m c) (by decide +kernel) (fun t hf y => ?_) i
  blk_simp
  rw [after10]
  idx_vars y
  refine Eq.mpr (congrArg (fun i => At10 m c i ((state m c t.val t.isLt).1 (ix2 y0 y1))) (emb10 t y0 y1)) fun j hj => ?_
  have hj : y1.val = j.val := hj
  refine (out m c t (ix2 y0 y1) (by show y1.val < 512; have := j.isLt; omega)).trans ?_
  show rowU m c t.val y0.val y1.val = aU m c (row t.val y0) j
  rw [rowU_at, hj]

/-- The vectors' gradients over all rows. -/
def total : Nat → Fin 512 → EReal
  | 0, j => ∑ t : Fin 8208, aY m c t j * aM m c t j
  | 1, j => ∑ t : Fin 8208, aD m c t j
  | _, j => ∑ t : Fin 8208, ADY m c (ix2 t (wide j)) * aN m c t j

theorem total_eq (k : Nat) (hk : k = 0 ∨ k = 1 ∨ k = 10) (j : Fin 512) : ∑ p : Fin cfg0.N, addV m c p.val k j = total m c k j := by
  rcases hk with rfl | rfl | rfl
  · exact sum_rows fun t => aY m c t j * aM m c t j
  · exact sum_rows fun t => aD m c t j
  · exact sum_rows fun t => ADY m c (ix2 t (wide j)) * aN m c t j

/-- What is said of an element in the rows of the pool's vectors. -/
def At11 (i : S16x512.Idx) (v : EReal) : Prop := ((i 0).val = 0 ∨ (i 0).val = 1 ∨ (i 0).val = 10) → v = total m c (i 0).val (i 1)

theorem arr11 (i : S16x512.Idx) : At11 m c i ((dats m 0 c).arrAt 11 cfg0.N i) := by
  refine (dats m 0 c).arrAt_forall_of_covers 11 (At11 m c) (by decide +kernel) (fun t hf y => ?_) i
  blk_simp
  rw [after11]
  have z : t.val % 19 = 18 := (flush0_11 t).mp hf
  idx_vars y
  refine Eq.mpr (congrArg (fun i => At11 m c i ((state m c t.val t.isLt).2.1 (ix2 y0 y1))) (emb11 t y0 y1)) fun hk => ?_
  exact (vec_last m c t z y0 hk y1).trans (total_eq m c _ hk _)

theorem arr12 : ((dats m 0 c).arrAt 12 cfg0.N : S4x128x128.Idx → EReal)
    = fun y : S4x128x128.Idx => ∑ r : Fin 8208, PL (APJ m c) r (col (y 0) (y 1)) * aD m c r (col (y 0) (y 2)) := by
  refine (dats m 0 c).arrAt_eq_of_covers 12 _ (by decide +kernel) fun t hf y => ?_
  blk_simp
  rw [after12]
  have z : t.val % 19 = 18 := (flush0_12 t).mp hf
  idx_vars y
  refine (mat_last m c t z (ix3 y0 y1 y2)).trans ?_
  exact (congrArg (fun y : S4x128x128.Idx => ∑ r : Fin 8208, PL (APJ m c) r (col (y 0) (y 1)) * aD m c r (col (y 0) (y 2))) (emb12 t y0 y1 y2)).symm

theorem left10 : Pipeline.withArrays spec0 c (V0 m c) (fun w => (dats m 0 c).arrAt w cfg0.N) (Proc.devRef .tc main_v303_0) = (dats m 0 c).arrAt 10 cfg0.N :=
  Pipeline.withArrays_arr_shared spec0 c (V0 m c) (fun w => (dats m 0 c).arrAt w cfg0.N) ((dats m 0 c).arrAt_sharedIn sharedIn0 (V0 m c) (fun w => A_eq m c w) cfg0.N) 10
theorem left11 : Pipeline.withArrays spec0 c (V0 m c) (fun w => (dats m 0 c).arrAt w cfg0.N) (Proc.devRef .tc main_v303_1) = (dats m 0 c).arrAt 11 cfg0.N :=
  Pipeline.withArrays_arr_shared spec0 c (V0 m c) (fun w => (dats m 0 c).arrAt w cfg0.N) ((dats m 0 c).arrAt_sharedIn sharedIn0 (V0 m c) (fun w => A_eq m c w) cfg0.N) 11

/-- What the host operations after the call leave: slices of the call's arrays. -/
theorem tail304 : Pipeline.afterTail₀ cfgs (dats m) 0 (V0 m) [hostOps1] c main_v304
    = extractStridedSlice S8208x512 ![0, 0] ((dats m 0 c).arrAt 10 cfg0.N : S8208x1536.Idx → EReal) slices_S8208x1536_S8208x512_0_0 := by
  unfold Pipeline.afterTail₀
  show StableHlo.after hostOps1 _ _ = _
  after_results_simp
  rw [left10]
theorem tail305 : Pipeline.afterTail₀ cfgs (dats m) 0 (V0 m) [hostOps1] c main_v305
    = extractStridedSlice S1x512 ![0, 0] ((dats m 0 c).arrAt 11 cfg0.N : S16x512.Idx → EReal) slices_S16x512_S1x512_0_0 := by
  unfold Pipeline.afterTail₀
  show StableHlo.after hostOps1 _ _ = _
  after_results_simp
  rw [left11]
theorem tail306 : Pipeline.afterTail₀ cfgs (dats m) 0 (V0 m) [hostOps1] c main_v306
    = extractStridedSlice S1x512 ![1, 0] ((dats m 0 c).arrAt 11 cfg0.N : S16x512.Idx → EReal) slices_S16x512_S1x512_1_0 := by
  unfold Pipeline.afterTail₀
  show StableHlo.after hostOps1 _ _ = _
  after_results_simp
  rw [left11]
theorem tail307 : Pipeline.afterTail₀ cfgs (dats m) 0 (V0 m) [hostOps1] c main_v307
    = extractStridedSlice S1x512 ![10, 0] ((dats m 0 c).arrAt 11 cfg0.N : S16x512.Idx → EReal) slices_S16x512_S1x512_10_0 := by
  unfold Pipeline.afterTail₀
  show StableHlo.after hostOps1 _ _ = _
  after_results_simp
  rw [left11]

section
variable (DY : S8208x1024.Idx → EReal) (PJ : S8208x1536.Idx → EReal) (PW : S4x128x128.Idx → EReal) (PB PS : S512.Idx → EReal) (GN : S1024.Idx → EReal)
  (hd : ∀ i, IsReal (DY i)) (hu : ∀ i, IsReal (PJ i)) (hw : ∀ i, IsReal (PW i)) (hb : ∀ i, IsReal (PB i)) (hs : ∀ i, IsReal (PS i)) (hg : ∀ i, IsReal (GN i))

include hu hw hb hs in
theorem scale_real (t : Fin 8208) : IsReal (Ideal.rsqrt (VV PJ PW PB PS t)) := by
  obtain ⟨v, hp, hv⟩ := var_pos_half (Y PJ PW PB PS t) fun j => y_real PJ PW PB PS hu hw hb hs t j
  unfold VV
  rw [hv, rsqrt_pos hp]
  exact .coe _

include hd hu hw hb hs hg in
theorem dm_real (t : Fin 8208) (j : Fin 512) : IsReal (DM DY PJ PW PB PS GN t j) := by
  have hr := scale_real PJ PW PB PS hu hw hb hs t
  have hn : ∀ j, IsReal (N PJ PW PB PS t j) := fun j => (y_real PJ PW PB PS hu hw hb hs t j).mul hr
  have hdn : ∀ j, IsReal (DN DY GN t j) := fun j => (hd _).mul (hg _)
  have hm : IsReal (MD DY PJ PW PB PS GN t) := (IsReal.sum _ fun j => (hdn j).mul (hn j)).mul (bits_inv_half_rows ▸ IsReal.coe _)
  exact (hr.mul (sub_real (hdn j) ((hn j).mul hm))).mul (hs _)

include hd hu hw hb hs hg in
theorem q_real (t : Fin 8208) (j : Fin 512) : IsReal (Q DY PJ PW PB PS GN t j) :=
  (IsReal.sum _ fun _ => (dm_real DY PJ PW PB PS GN hd hu hw hb hs hg t _).mul (hw _)).mul (inv_real _ _)
end

variable (hd : ∀ i, IsReal (ADY m c i)) (hu : ∀ i, IsReal (APJ m c i)) (hw : ∀ i, IsReal (APW m c i)) (hb : ∀ i, IsReal (APB m c i)) (hs : ∀ i, IsReal (APS m c i))
  (hg : ∀ i, IsReal (AGN m c i))

include hd hu hw hb hs hg

theorem res304 : Pipeline.afterTail₀ cfgs (dats m) 0 (V0 m) [hostOps1] c main_v304 = val_main_v167 (F := Ideal) (ADY m c) (APJ m c) (APW m c) (APB m c) (APS m c) (AGN m c) := by
  rw [tail304]
  refine funext fun (i : S8208x512.Idx) => ?_
  idx_vars i
  rw [ref_du _ _ _ _ _ _ (ref_dyp _ _ _ _ _ _ hu hd hw hb hs hg) (q_real _ _ _ _ _ _ hd hu hw hb hs hg)]
  refine Eq.trans ?_ (arr10 m c (ix2 i0 ⟨i1.val, by have := i1.isLt; omega⟩) i1 rfl)
  pointwise []

theorem res305 : Pipeline.afterTail₀ cfgs (dats m) 0 (V0 m) [hostOps1] c main_v305 = val_main_v168 (F := Ideal) (ADY m c) (APJ m c) (APW m c) (APB m c) (APS m c) (AGN m c) := by
  rw [tail305]
  refine funext fun (i : S1x512.Idx) => ?_
  idx_vars i
  obtain rfl : i0 = 0 := Subsingleton.elim _ _
  rw [ref_dps _ _ _ _ _ _ hu (ref_dyp _ _ _ _ _ _ hu hd hw hb hs hg)]
  refine Eq.trans ?_ (arr11 m c (ix2 0 i1) (Or.inl rfl))
  pointwise []

theorem res306 : Pipeline.afterTail₀ cfgs (dats m) 0 (V0 m) [hostOps1] c main_v306 = val_main_v169 (F := Ideal) (ADY m c) (APJ m c) (APW m c) (APB m c) (APS m c) (AGN m c) := by
  rw [tail306]
  refine funext fun (i : S1x512.Idx) => ?_
  idx_vars i
  obtain rfl : i0 = 0 := Subsingleton.elim _ _
  rw [ref_dpb _ _ _ _ _ _ (ref_dyp _ _ _ _ _ _ hu hd hw hb hs hg)]
  refine Eq.trans ?_ (arr11 m c (ix2 1 i1) (Or.inr (Or.inl rfl)))
  pointwise []

omit hd hw hb hs hg in
theorem res307 : Pipeline.afterTail₀ cfgs (dats m) 0 (V0 m) [hostOps1] c main_v307 = val_main_v170 (F := Ideal) (ADY m c) (APJ m c) (APW m c) (APB m c) (APS m c) := by
  rw [tail307]
  refine funext fun (i : S1x512.Idx) => ?_
  idx_vars i
  obtain rfl : i0 = 0 := Subsingleton.elim _ _
  rw [ref_dgn _ _ _ _ _ hu]
  refine Eq.trans ?_ (arr11 m c (ix2 10 i1) (Or.inr (Or.inr rfl)))
  pointwise []

theorem resPW : ((dats m 0 c).arrAt 12 cfg0.N : S4x128x128.Idx → EReal) = val_main_v120 (F := Ideal) (ADY m c) (APJ m c) (APW m c) (APB m c) (APS m c) (AGN m c) := by
  rw [arr12]
  refine funext fun (i : S4x128x128.Idx) => ?_
  idx_vars i
  rw [ref_dpw _ _ _ _ _ _ hu (ref_dyp _ _ _ _ _ _ hu hd hw hb hs hg)]

end Cert.Proof.Pool

namespace Cert.Kernel5Ideal.Mix

open Idealize.ShloMosaic Idealize.ShloMosaic.TcCoe Idealize.ShloMosaic.Tactic Idealize.SL.Sem
open Cert.Kernel5Ideal.Gen

variable (m : (ℓ : Loc nD τ sig) → Buf (Elt Ideal) ℓ) (ρ : Dev nD → PrngReg)

/-- The run with the results named. -/
theorem run_named : θ_run defs (onTc (τ := τ) (main (F := Ideal))) ⟨m, fun _ => 0, ρ⟩ (fun r => ∀ c : Dev nD,
      r.2.mem ((c.tc : Thread nD τ).loc main_v304) = Pipeline.afterTail₀ cfgs (dats m) 0 (V0 m) [hostOps1] c main_v304
      ∧ r.2.mem ((c.tc : Thread nD τ).loc main_v305) = Pipeline.afterTail₀ cfgs (dats m) 0 (V0 m) [hostOps1] c main_v305
      ∧ r.2.mem ((c.tc : Thread nD τ).loc main_v306) = Pipeline.afterTail₀ cfgs (dats m) 0 (V0 m) [hostOps1] c main_v306
      ∧ r.2.mem ((c.tc : Thread nD τ).loc main_v307) = Pipeline.afterTail₀ cfgs (dats m) 0 (V0 m) [hostOps1] c main_v307
      ∧ r.2.mem ((c.tc : Thread nD τ).loc main_v303_2) = (dats m 0 c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h.1 c).2 main_v304 (Pipeline.mem_restRefs_of main_v304 (by decide) (by decide)),
      (h.1 c).2 main_v305 (Pipeline.mem_restRefs_of main_v305 (by decide) (by decide)),
      (h.1 c).2 main_v306 (Pipeline.mem_restRefs_of main_v306 (by decide) (by decide)),
      (h.1 c).2 main_v307 (Pipeline.mem_restRefs_of main_v307 (by decide) (by decide)),
      (h.1 c).1 12, h.2 c⟩)
    (θ_run_and (run_post m ρ) (frame_of m ρ (dats m) (A_eq m) (run_post m ρ)))

end Cert.Kernel5Ideal.Mix
end
-- ==== Proof.Fore.lean ====
/- The forward call after the mixer in the layers before the last: it returns the residual rows, the hidden rows and the rows after
   the MLP, read here as functions of the arguments. -/
module

public import proofs.«01_k».proof.Proof.Common
public import proofs.«01_k».proof.Proof.Gen.Kernel6Ideal.Value
public import proofs.«01_k».proof.Proof.Gen.Reference6Ideal.Read
public import Idealize.ShloMosaic.Lib.Pipeline.ReadBack
public import Idealize.ShloMosaic.Lib.KernelVsHost

@[expose] public section

set_option maxRecDepth 16384
set_option maxHeartbeats 1000000

noncomputable section

namespace Cert.Proof.Fore

open Idealize.ShloMosaic Idealize.ShloMosaic.TcCoe Idealize.ShloMosaic.Tactic Idealize.SL.Sem

open Cert.Kernel6Ideal Cert.Kernel6Ideal.Gen

open Cert.Reference6Ideal.Read

variable (m : (ℓ : Loc nD τ sig) → Buf (Elt Ideal) ℓ) (c : Dev nD)

/-- The arguments: residual stream, mixed rows, output matrix, gain of the second norm, the two matrices of the MLP. -/
def H : S8208x1024.Idx → EReal := m ((c : Thread nD τ).loc main_arg0)
def Y : S8208x1024.Idx → EReal := m ((c : Thread nD τ).loc main_arg1)
def O : S1024x1024.Idx → EReal := m ((c : Thread nD τ).loc main_arg2)
def G : S1024.Idx → EReal := m ((c : Thread nD τ).loc main_arg3)
def U : S1024x4096.Idx → EReal := m ((c : Thread nD τ).loc main_arg4)
def W : S4096x1024.Idx → EReal := m ((c : Thread nD τ).loc main_arg5)

/-- Column `e` of quarter `q`, as a hidden column. -/
abbrev hid (q : Fin 4) (e : Fin 1024) : Fin 4096 := ⟨q.val * 1024 + e.val, by have := q.isLt; have := e.isLt; omega⟩

theorem idx : ∀ t : Fin cfg0.N, win0_0.index t = ![t.val, 0] ∧ win0_1.index t = ![t.val, 0] ∧ win0_2.index t = ![0, 0]
    ∧ win0_3.index t = ![0, 0] ∧ win0_4.index t = ![0, 0, 0] ∧ win0_5.index t = ![0, 0, 0] ∧ win0_6.index t = ![t.val, 0]
    ∧ win0_7.index t = ![t.val, 0] ∧ win0_8.index t = ![t.val, 0] :=
  (by decide +kernel : ∀ t : Fin grid0.N, _)

/-- Row `s` of tile `n`, as a row of the array. -/
abbrev row (n : Nat) (hn : n < cfg0.N) (s : Fin 432) : Fin 8208 :=
  ⟨n * 432 + s.val, by have := s.isLt; have := lt_of_lt_of_eq hn (show cfg0.N = 19 from N_0); omega⟩

theorem blk0 (n : Nat) (h : n < cfg0.N) (s : Fin 432) (k : Fin 1024) :
    (iblk m c 0 ⟨n, h⟩ : FVec Ideal S432x1024 .f32) (ix2 s k) = H m c (ix2 (row n h s) k) := by
  have e : (V m c main_arg0 : S8208x1024.Idx → EReal) = H m c := V_main_arg0 m c
  rw [← e]
  blk_ext [iblk, idx ⟨n, h⟩]
theorem blk1 (n : Nat) (h : n < cfg0.N) (s : Fin 432) (k : Fin 1024) :
    (iblk m c 1 ⟨n, h⟩ : FVec Ideal S432x1024 .bf16) (ix2 s k) = Y m c (ix2 (row n h s) k) := by
  have e : (V m c main_v6 : S8208x1024.Idx → EReal) = Y m c := by
    show StableHlo.after hostOps0 _ _ = _
    after_results_simp
    rfl
  rw [← e]
  blk_ext [iblk, idx ⟨n, h⟩]
theorem blk2 (n : Nat) (h : n < cfg0.N) (s k : Fin 1024) :
    (iblk m c 2 ⟨n, h⟩ : FVec Ideal S1024x1024 .bf16) (ix2 s k) = O m c (ix2 s k) := by
  have e : (V m c main_v0 : S1024x1024.Idx → EReal) = O m c := by
    show StableHlo.after hostOps0 _ _ = _
    after_results_simp
    rfl
  rw [← e]
  blk_ext [iblk, idx ⟨n, h⟩]
theorem blk3 (n : Nat) (h : n < cfg0.N) (k : Fin 1024) :
    (iblk m c 3 ⟨n, h⟩ : FVec Ideal S1x1024 .f32) (ix2 0 k) = G m c (ix1 k) := by
  have e : (V m c main_v7 : S1x1024.Idx → EReal) = broadcastInDim S1x1024 ![1] bcast_S1024_S1x1024_1 (G m c) := by
    show StableHlo.after hostOps0 _ _ = _
    after_results_simp
    rfl
  refine Eq.trans (b := (V m c main_v7 : S1x1024.Idx → EReal) (ix2 0 k)) ?_ ?_
  · blk_ext [iblk, idx ⟨n, h⟩]
  · rw [e]
    pointwise []
theorem blk4 (n : Nat) (h : n < cfg0.N) (q : Fin 4) (k e : Fin 1024) :
    (iblk m c 4 ⟨n, h⟩ : FVec Ideal S4x1024x1024 .bf16) (ix3 q k e) = U m c (ix2 k (hid q e)) := by
  have w : (V m c main_v3 : S4x1024x1024.Idx → EReal) = transpose S4x1024x1024 [1, 0, 2]
      (shapeCast _ (truncf (F := Ideal) .bf16 (U m c : FVec Ideal S1024x4096 .f32) bitsLt_bf16_f32) shapeCasts_S1024x4096_S1024x4x1024)
      transposes_S1024x4x1024_S4x1024x1024_1_0_2 := by
    show StableHlo.after hostOps0 _ _ = _
    after_results_simp
    rfl
  refine Eq.trans (b := (V m c main_v3 : S4x1024x1024.Idx → EReal) (ix3 q k e)) ?_ ?_
  · blk_ext [iblk, idx ⟨n, h⟩]
  · rw [w]
    pointwise []
theorem blk5 (n : Nat) (h : n < cfg0.N) (q : Fin 4) (e k : Fin 1024) :
    (iblk m c 5 ⟨n, h⟩ : FVec Ideal S4x1024x1024 .bf16) (ix3 q e k) = W m c (ix2 (hid q e) k) := by
  have w : (V m c main_v5 : S4x1024x1024.Idx → EReal)
      = shapeCast _ (truncf (F := Ideal) .bf16 (W m c : FVec Ideal S4096x1024 .f32) bitsLt_bf16_f32) shapeCasts_S4096x1024_S4x1024x1024 := by
    show StableHlo.after hostOps0 _ _ = _
    after_results_simp
    rfl
  refine Eq.trans (b := (V m c main_v5 : S4x1024x1024.Idx → EReal) (ix3 q e k)) ?_ ?_
  · blk_ext [iblk, idx ⟨n, h⟩]
  · rw [w]
    pointwise []

/-- One quarter of a stacked matrix, loaded. -/
theorem slab (x : Vec Ideal S4x1024x1024 .bf16) (q : Fin 4) (o : Nat) (ho : o = q.val) (inb) (k e : Fin 1024) :
    (View.ld x (Rect.unit ![o, 0, 0] ![1, 1024, 1024] inb) : FVec Ideal S1x1024x1024 .bf16) (ix3 0 k e) = x (ix3 q k e) := by
  subst ho
  refine congrArg x ?_
  funext a
  apply Fin.ext
  match a with
  | ⟨0, _⟩ => show q.val + 1 * 0 = q.val; omega
  | ⟨1, _⟩ => show 0 + 1 * k.val = k.val; omega
  | ⟨2, _⟩ => show 0 + 1 * e.val = e.val; omega

/-- The residual rows, the mean square plus the constant, the normalised rows, the hidden rows and the rows after the MLP. -/
def H1 (t : Fin 8208) (k : Fin 1024) : EReal := H m c (ix2 t k) + ∑ j : Fin 1024, Y m c (ix2 t j) * O m c (ix2 j k)
def VV (t : Fin 8208) : EReal :=
  Ideal.div (∑ k : Fin 1024, H1 m c t k * H1 m c t k) (Ideal.ofBits .f32 0x44800000#32) + Ideal.ofBits .f32 0x358637BD#32
def XN (t : Fin 8208) (k : Fin 1024) : EReal := H1 m c t k * Ideal.rsqrt (VV m c t) * G m c (ix1 k)
def A (t : Fin 8208) (e : Fin 4096) : EReal := ∑ k : Fin 1024, XN m c t k * U m c (ix2 k e)
def H2 (t : Fin 8208) (k : Fin 1024) : EReal := H1 m c t k + ∑ e : Fin 4096, max (A m c t e) 0 * max (A m c t e) 0 * W m c (ix2 e k)

theorem ref_h1 (t : Fin 8208) (k : Fin 1024) : val_main_v1 (F := Ideal) (H m c) (Y m c) (O m c) (ix2 t k) = H1 m c t k := by
  pointwise [val_main_v1, val_main_v0, H1]

theorem ref_v (t : Fin 8208) : val_main_v8 (F := Ideal) (H m c) (Y m c) (O m c) (ix2 t 0) = VV m c t := by
  pointwise [val_main_v8, val_main_v7, val_main_v6, val_main_v5, val_main_v4, val_main_v3, val_main_v2, val_main_cst, val_main_cst_0, val_main_cst_1, ref_h1, VV]

theorem ref_xn (t : Fin 8208) (k : Fin 1024) : val_main_v14 (F := Ideal) (H m c) (Y m c) (O m c) (G m c) (ix2 t k) = XN m c t k := by
  pointwise [val_main_v14, val_main_v13, val_main_v12, val_main_v11, val_main_v10, val_main_v9, ref_h1, ref_v, XN]

theorem ref_a (t : Fin 8208) (e : Fin 4096) : val_main_v15 (F := Ideal) (H m c) (Y m c) (O m c) (G m c) (U m c) (ix2 t e) = A m c t e := by
  pointwise [val_main_v15, ref_xn, A]

theorem ref_h2 (t : Fin 8208) (k : Fin 1024) : val_main_v20 (F := Ideal) (H m c) (Y m c) (O m c) (G m c) (U m c) (W m c) (ix2 t k) = H2 m c t k := by
  pointwise [val_main_v20, val_main_v19, val_main_v18, val_main_v16, val_main_call0_v0, val_main_call0_cst, ref_h1, ref_a, H2]

/-- The residual rows of tile `t` and its normalised rows, as the body holds them. -/
def h1B (t : Fin cfg0.N) : FVec Ideal S432x1024 .f32 := k0_pay4 (iblk m c 0 t) (iblk m c 1 t) (iblk m c 2 t)
def xnB (t : Fin cfg0.N) : FVec Ideal S432x1024 .bf16 := k0_pay5 (iblk m c 0 t) (iblk m c 1 t) (iblk m c 2 t) (iblk m c 3 t)

theorem h1B_apply (n : Nat) (h : n < cfg0.N) (s : Fin 432) (k : Fin 1024) : h1B m c ⟨n, h⟩ (ix2 s k) = H1 m c (row n h s) k := by
  pointwise [h1B, k0_pay4, blk0, blk1, blk2, H1]

theorem xnB_apply (n : Nat) (h : n < cfg0.N) (s : Fin 432) (k : Fin 1024) : xnB m c ⟨n, h⟩ (ix2 s k) = XN m c (row n h s) k := by
  have e : ∀ j, k0_pay4 (F := Ideal) (iblk m c 0 ⟨n, h⟩) (iblk m c 1 ⟨n, h⟩) (iblk m c 2 ⟨n, h⟩) (ix2 s j) = H1 m c (row n h s) j := h1B_apply m c n h s
  pointwise [xnB, k0_pay5, e, blk3, XN, VV]

/-- A quarter of the hidden rows: normalised rows times one slab. -/
def quarter (x : FVec Ideal S432x1024 .bf16) (u : FVec Ideal S1x1024x1024 .bf16) : FVec Ideal S432x1024 .f32 := k0_pay9 x u

theorem quarter_apply (n : Nat) (h : n < cfg0.N) (q : Fin 4) (o : Nat) (ho : o = q.val) (inb) (s : Fin 432) (e : Fin 1024) :
    quarter (xnB m c ⟨n, h⟩) (View.ld (iblk m c 4 ⟨n, h⟩ : FVec Ideal S4x1024x1024 .bf16) (Rect.unit ![o, 0, 0] ![1, 1024, 1024] inb)) (ix2 s e)
      = A m c (row n h s) (hid q e) := by
  have hu : ∀ k, View.ld (iblk m c 4 ⟨n, h⟩ : FVec Ideal S4x1024x1024 .bf16) (Rect.unit ![o, 0, 0] ![1, 1024, 1024] inb) (ix3 0 k e) = U m c (ix2 k (hid q e)) :=
    fun k => (slab _ q o ho inb k e).trans (blk4 m c n h q k e)
  refine Eq.trans (b := ∑ k : Fin 1024, xnB m c ⟨n, h⟩ (ix2 s k) * View.ld (iblk m c 4 ⟨n, h⟩ : FVec Ideal S4x1024x1024 .bf16) (Rect.unit ![o, 0, 0] ![1, 1024, 1024] inb) (ix3 0 k e)) ?_ ?_
  · generalize xnB m c ⟨n, h⟩ = x
    generalize View.ld (iblk m c 4 ⟨n, h⟩ : FVec Ideal S4x1024x1024 .bf16) (Rect.unit ![o, 0, 0] ![1, 1024, 1024] inb) = u
    pointwise [quarter, k0_pay9]
  · exact Finset.sum_congr rfl fun k _ => congrArg₂ (· * ·) (xnB_apply m c n h s k) (hu k)

/-- The rows after the MLP in the body: residual rows, then the four quarters' products in order. -/
theorem mlp (y : FVec Ideal S432x1024 .f32) (x : FVec Ideal S432x1024 .bf16) (a0 : FVec Ideal S432x1024 .bf16) (u1 u2 u3 w0 w1 w2 w3 : FVec Ideal S1x1024x1024 .bf16)
    (s : Fin 432) (k : Fin 1024) :
    k0_pay3 (F := Ideal) x (k0_pay13 y x a0 w0 u1 w1 u2 w2) (k0_pay14 u3) (constant S432x1024 .f32 0x00000000#32) w3 (ix2 s k)
      = y (ix2 s k) + (∑ e : Fin 1024, a0 (ix2 s e) * w0 (ix3 0 e k))
        + (∑ e : Fin 1024, max (quarter x u1 (ix2 s e)) 0 * max (quarter x u1 (ix2 s e)) 0 * w1 (ix3 0 e k))
        + (∑ e : Fin 1024, max (quarter x u2 (ix2 s e)) 0 * max (quarter x u2 (ix2 s e)) 0 * w2 (ix3 0 e k))
        + (∑ e : Fin 1024, max (quarter x u3 (ix2 s e)) 0 * max (quarter x u3 (ix2 s e)) 0 * w3 (ix3 0 e k)) := by
  have e1 : k0_pay9 (F := Ideal) x u1 = quarter x u1 := rfl
  have e2 : k0_pay11 (F := Ideal) x u2 = quarter x u2 := rfl
  have e3 : k0_pay1 (F := Ideal) x (k0_pay14 u3) (constant S432x1024 .f32 0x00000000#32) = quarter x u3 := rfl
  unfold k0_pay3 k0_pay13
  rw [e1, e2, e3]
  generalize quarter x u1 = b1
  generalize quarter x u2 = b2
  generalize quarter x u3 = b3
  pointwise []

theorem first (v0 : FVec Ideal S432x1024 .f32) (v1 : FVec Ideal S432x1024 .bf16) (v3 : FVec Ideal S1024x1024 .bf16) (v18 : FVec Ideal S1x1024 .f32)
    (u : FVec Ideal S1x1024x1024 .bf16) (i : S432x1024.Idx) :
    k0_pay8 (F := Ideal) v0 v1 v3 v18 u i = max (quarter (k0_pay5 v0 v1 v3 v18) u i) 0 * max (quarter (k0_pay5 v0 v1 v3 v18) u i) 0 := by
  have e : k0_pay6 (F := Ideal) v0 v1 v3 v18 u = quarter (k0_pay5 v0 v1 v3 v18) u := rfl
  unfold k0_pay8
  rw [e]
  generalize quarter (k0_pay5 v0 v1 v3 v18) u = b
  idx_vars i
  pointwise []

theorem after6 (t : Fin cfg0.N) : out0_6 (F := Ideal) (iblk m c 0 t) (iblk m c 1 t) (iblk m c 2 t) (iblk m c 3 t) (iblk m c 4 t) (iblk m c 5 t) = h1B m c t := by
  unfold_out out0_6
  frame_out
  rfl

/-- A quarter's columns of the hidden rows. -/
theorem close_a (n : Nat) (l : n < cfg0.N) (y : S432x4096.Idx) (q : Fin 4) (o : Nat) (ho : o = q.val * 1024) (v : FVec Ideal S432x1024 .bf16)
    (hv : ∀ s e, v (ix2 s e) = A m c (row n l s) (hid q e)) (x : S432x1024.Idx) (e0 : (y 0).val = (x 0).val) (e1 : (y 1).val = o + (x 1).val) :
    v x = A m c (row n l (y 0)) (y 1) := by
  subst ho
  idx_vars x
  rw [hv]
  exact congrArg₂ (A m c) (Fin.ext (congrArg (n * 432 + ·) e0.symm)) (Fin.ext e1.symm)

theorem after7 (t : Fin cfg0.N) (y : S432x4096.Idx) :
    out0_7 (F := Ideal) (iblk m c 0 t) (iblk m c 1 t) (iblk m c 2 t) (iblk m c 3 t) (iblk m c 4 t) (iblk m c 5 t) y = A m c (row t.val t.isLt (y 0)) (y 1) := by
  unfold_out out0_7
  frame_out
  canon_tiles x e
  · exact close_a m c t.val t.isLt y 3 _ rfl _ (quarter_apply m c t.val t.isLt 3 3 rfl _) x e0 e1
  · exact close_a m c t.val t.isLt y 2 _ rfl _ (quarter_apply m c t.val t.isLt 2 2 rfl _) x e0 e1
  · exact close_a m c t.val t.isLt y 1 _ rfl _ (quarter_apply m c t.val t.isLt 1 1 rfl _) x e0 e1
  · exact close_a m c t.val t.isLt y 0 _ rfl _ (quarter_apply m c t.val t.isLt 0 0 rfl _) x e0 (e1.trans (Nat.zero_add _).symm)

theorem after8 (n : Nat) (h : n < cfg0.N) (s : Fin 432) (k : Fin 1024) :
    out0_8 (F := Ideal) (iblk m c 0 ⟨n, h⟩) (iblk m c 1 ⟨n, h⟩) (iblk m c 2 ⟨n, h⟩) (iblk m c 3 ⟨n, h⟩) (iblk m c 4 ⟨n, h⟩) (iblk m c 5 ⟨n, h⟩) (ix2 s k)
      = H2 m c (row n h s) k := by
  have hw : ∀ (q : Fin 4) (o : Nat) (ho : o = q.val) (inb) (e : Fin 1024),
      View.ld (iblk m c 5 ⟨n, h⟩ : FVec Ideal S4x1024x1024 .bf16) (Rect.unit ![o, 0, 0] ![1, 1024, 1024] inb) (ix3 0 e k) = W m c (ix2 (hid q e) k) :=
    fun q o ho inb e => (slab _ q o ho inb e k).trans (blk5 m c n h q e k)
  unfold_out out0_8
  frame_out
  refine (mlp _ _ _ _ _ _ _ _ _ _ s k).trans ?_
  unfold H2
  rw [Fin.sum_univ_tiles 4 1024 rfl, Fin.sum_univ_four, ← add_assoc, ← add_assoc, ← add_assoc]
  refine congrArg₂ (· + ·) (congrArg₂ (· + ·) (congrArg₂ (· + ·) (congrArg₂ (· + ·) (h1B_apply m c n h s k) ?_) ?_) ?_) ?_
  · refine Finset.sum_congr rfl fun e _ => congrArg₂ (· * ·) ((first _ _ _ _ _ _).trans ?_) (hw 0 _ rfl _ e)
    have := quarter_apply m c n h 0 0 rfl inb_S4x1024x1024_S1x1024x1024_0_0_0 s e
    exact congrArg₂ (· * ·) (congrArg (max · 0) this) (congrArg (max · 0) this)
  · refine Finset.sum_congr rfl fun e _ => congrArg₂ (· * ·) ?_ (hw 1 _ rfl _ e)
    have := quarter_apply m c n h 1 1 rfl inb_S4x1024x1024_S1x1024x1024_1_0_0 s e
    exact congrArg₂ (· * ·) (congrArg (max · 0) this) (congrArg (max · 0) this)
  · refine Finset.sum_congr rfl fun e _ => congrArg₂ (· * ·) ?_ (hw 2 _ rfl _ e)
    have := quarter_apply m c n h 2 2 rfl inb_S4x1024x1024_S1x1024x1024_2_0_0 s e
    exact congrArg₂ (· * ·) (congrArg (max · 0) this) (congrArg (max · 0) this)
  · refine Finset.sum_congr rfl fun e _ => congrArg₂ (· * ·) ?_ (hw 3 _ rfl _ e)
    have := quarter_apply m c n h 3 3 rfl inb_S4x1024x1024_S1x1024x1024_3_0_0 s e
    exact congrArg₂ (· * ·) (congrArg (max · 0) this) (congrArg (max · 0) this)

theorem emb6 (n : Nat) (h : n < cfg0.N) (s : Fin 432) (k : Fin 1024) : (win0_6.blk ⟨n, h⟩).view.emb (ix2 s k) = (ix2 (row n h s) k : S8208x1024.Idx) := by
  blk_ext [idx ⟨n, h⟩]
theorem emb7 (n : Nat) (h : n < cfg0.N) (s : Fin 432) (k : Fin 4096) : (win0_7.blk ⟨n, h⟩).view.emb (ix2 s k) = (ix2 (row n h s) k : S8208x4096.Idx) := by
  blk_ext [idx ⟨n, h⟩]
theorem emb8 (n : Nat) (h : n < cfg0.N) (s : Fin 432) (k : Fin 1024) : (win0_8.blk ⟨n, h⟩).view.emb (ix2 s k) = (ix2 (row n h s) k : S8208x1024.Idx) := by
  blk_ext [idx ⟨n, h⟩]

theorem arr6 : (dats m 0 c).arrAt 6 cfg0.N = val_main_v1 (F := Ideal) (H m c) (Y m c) (O m c) := by
  refine (dats m 0 c).arrAt_eq_of_covers 6 _ (by decide +kernel) fun t hf y => ?_
  blk_simp
  rw [after0_6, after6]
  obtain ⟨n, h⟩ := t
  idx_vars y
  refine Eq.trans ?_ (congrArg (val_main_v1 (F := Ideal) (H m c) (Y m c) (O m c)) (emb6 n h y0 y1).symm)
  exact (h1B_apply m c n h y0 y1).trans (ref_h1 m c _ _).symm

theorem arr7 : (dats m 0 c).arrAt 7 cfg0.N = val_main_v17 (F := Ideal) (H m c) (Y m c) (O m c) (G m c) (U m c) := by
  refine (dats m 0 c).arrAt_eq_of_covers 7 _ (by decide +kernel) fun t hf y => ?_
  blk_simp
  rw [after0_7]
  obtain ⟨n, h⟩ := t
  idx_vars y
  refine Eq.trans ?_ (congrArg (val_main_v17 (F := Ideal) (H m c) (Y m c) (O m c) (G m c) (U m c)) (emb7 n h y0 y1).symm)
  exact (after7 m c ⟨n, h⟩ (ix2 y0 y1)).trans (ref_a m c _ _).symm

theorem arr8 : (dats m 0 c).arrAt 8 cfg0.N = val_main_v20 (F := Ideal) (H m c) (Y m c) (O m c) (G m c) (U m c) (W m c) := by
  refine (dats m 0 c).arrAt_eq_of_covers 8 _ (by decide +kernel) fun t hf y => ?_
  blk_simp
  rw [after0_8]
  obtain ⟨n, h⟩ := t
  idx_vars y
  refine Eq.trans ?_ (congrArg (val_main_v20 (F := Ideal) (H m c) (Y m c) (O m c) (G m c) (U m c) (W m c)) (emb8 n h y0 y1).symm)
  exact (after8 m c n h y0 y1).trans (ref_h2 m c _ _).symm

end Cert.Proof.Fore

end
-- ==== Proof.Conv.lean ====
/- The forward call before the MLP, read as functions of its arguments: the projected rows, the convolved rows and the two gates. -/
module

public import proofs.«01_k».proof.Proof.Common
public import proofs.«01_k».proof.Proof.Gen.Kernel7Ideal.Frame
public import proofs.«01_k».proof.Proof.Gen.Reference7Ideal.Read
public import Idealize.ShloMosaic.Lib.Pipeline.ReadBack
public import Idealize.ShloMosaic.Lib.KernelVsHost
public import Idealize.ShloMosaic.Lib.StableHlo.RunRead

@[expose] public section

set_option maxRecDepth 16384
set_option maxHeartbeats 1000000

noncomputable section

namespace Cert.Proof.Conv

open Idealize.ShloMosaic Idealize.ShloMosaic.TcCoe Idealize.ShloMosaic.Tactic Idealize.SL.Sem

open Cert.Kernel7Ideal Cert.Kernel7Ideal.Gen

open Cert.Reference7Ideal.Read

variable (m : (ℓ : Loc nD τ sig) → Buf (Elt Ideal) ℓ) (c : Dev nD)

/-- The arguments: residual stream, gain, projection, taps and offset of the convolution, blocks and offsets of the two gates. -/
def H : S8208x1024.Idx → EReal := m ((c : Thread nD τ).loc main_arg0)
def G : S1024.Idx → EReal := m ((c : Thread nD τ).loc main_arg1)
def W : S1024x1536.Idx → EReal := m ((c : Thread nD τ).loc main_arg2)
def PB : S512.Idx → EReal := m ((c : Thread nD τ).loc main_arg4)
def PS : S512.Idx → EReal := m ((c : Thread nD τ).loc main_arg5)
def CW : S4x512.Idx → EReal := m ((c : Thread nD τ).loc main_arg6)
def CB : S512.Idx → EReal := m ((c : Thread nD τ).loc main_arg7)
def RW : S8x64x64.Idx → EReal := m ((c : Thread nD τ).loc main_arg8)
def RB : S512.Idx → EReal := m ((c : Thread nD τ).loc main_arg9)
def IW : S8x64x64.Idx → EReal := m ((c : Thread nD τ).loc main_arg10)
def IB : S512.Idx → EReal := m ((c : Thread nD τ).loc main_arg11)

/-- Column `e` of quarter `q` of the projection. -/
abbrev col (q : Fin 4) (e : Fin 384) : Fin 1536 := ⟨q.val * 384 + e.val, by have := q.isLt; have := e.isLt; omega⟩
/-- Column `j` of the recurrent half, as a column of the projection. -/
abbrev rec (j : Fin 512) : Fin 1536 := ⟨512 + j.val, by have := j.isLt; omega⟩

theorem idx : ∀ t : Fin cfg0.N, win0_0.index t = ![t.val, 0] ∧ win0_1.index t = ![0, 0] ∧ win0_2.index t = ![0, 0, 0]
    ∧ win0_3.index t = ![0, 0] ∧ win0_5.index t = ![0, 0, 0] ∧ win0_6.index t = ![0, 0, 0] ∧ win0_7.index t = ![t.val, 0]
    ∧ win0_10.index t = ![t.val, 0] :=
  (by decide +kernel : ∀ t : Fin grid0.N, _)

/-- Row `s` of tile `n`, as a row of the array. -/
abbrev row (n : Nat) (hn : n < cfg0.N) (s : Fin 432) : Fin 8208 :=
  ⟨n * 432 + s.val, by have := s.isLt; have := lt_of_lt_of_eq hn (show cfg0.N = 19 from N_0); omega⟩

theorem blk0 (n : Nat) (h : n < cfg0.N) (s : Fin 432) (k : Fin 1024) :
    (iblk m c 0 ⟨n, h⟩ : FVec Ideal S432x1024 .f32) (ix2 s k) = H m c (ix2 (row n h s) k) := by
  have e : (V m c main_arg0 : S8208x1024.Idx → EReal) = H m c := V_main_arg0 m c
  rw [← e]
  blk_ext [iblk, idx ⟨n, h⟩]
theorem blk1 (n : Nat) (h : n < cfg0.N) (k : Fin 1024) :
    (iblk m c 1 ⟨n, h⟩ : FVec Ideal S1x1024 .f32) (ix2 0 k) = G m c (ix1 k) := by
  have e : (V m c main_v12 : S1x1024.Idx → EReal) = broadcastInDim S1x1024 ![1] bcast_S1024_S1x1024_1 (G m c) := by
    show StableHlo.after hostOps0 _ _ = _
    after_results_simp
    rfl
  refine Eq.trans (b := (V m c main_v12 : S1x1024.Idx → EReal) (ix2 0 k)) ?_ ?_
  · blk_ext [iblk, idx ⟨n, h⟩]
  · rw [e]
    pointwise []
theorem blk2 (n : Nat) (h : n < cfg0.N) (q : Fin 4) (k : Fin 1024) (e : Fin 384) :
    (iblk m c 2 ⟨n, h⟩ : FVec Ideal S4x1024x384 .bf16) (ix3 q k e) = W m c (ix2 k (col q e)) := by
  have w : (V m c main_v2 : S4x1024x384.Idx → EReal) = transpose S4x1024x384 [1, 0, 2]
      (shapeCast _ (truncf (F := Ideal) .bf16 (W m c : FVec Ideal S1024x1536 .f32) bitsLt_bf16_f32) shapeCasts_S1024x1536_S1024x4x384)
      transposes_S1024x4x384_S4x1024x384_1_0_2 := by
    show StableHlo.after hostOps0 _ _ = _
    after_results_simp
    rfl
  refine Eq.trans (b := (V m c main_v2 : S4x1024x384.Idx → EReal) (ix3 q k e)) ?_ ?_
  · blk_ext [iblk, idx ⟨n, h⟩]
  · rw [w]
    pointwise []

theorem ldW (n : Nat) (h : n < cfg0.N) (q : Fin 4) (o : Nat) (ho : o = q.val) (inb) (k : Fin 1024) (e : Fin 384) :
    View.ld (iblk m c 2 ⟨n, h⟩ : FVec Ideal S4x1024x384 .bf16) (Rect.unit ![o, 0, 0] ![1, 1024, 384] inb) (ix3 0 k e) = W m c (ix2 k (col q e)) := by
  subst ho
  refine Eq.trans (congrArg (iblk m c 2 ⟨n, h⟩ : FVec Ideal S4x1024x384 .bf16) ?_) (blk2 m c n h q k e)
  funext a
  apply Fin.ext
  match a with
  | ⟨0, _⟩ => show q.val + 1 * 0 = q.val; omega
  | ⟨1, _⟩ => show 0 + 1 * k.val = k.val; omega
  | ⟨2, _⟩ => show 0 + 1 * e.val = e.val; omega

/-- The mean square of a row plus the constant, the normalised rows and the projected rows. -/
def VV (t : Fin 8208) : EReal :=
  Ideal.div (∑ j : Fin 1024, H m c (ix2 t j) * H m c (ix2 t j)) (Ideal.ofBits .f32 0x44800000#32) + Ideal.ofBits .f32 0x358637BD#32
def XN (t : Fin 8208) (k : Fin 1024) : EReal := H m c (ix2 t k) * Ideal.rsqrt (VV m c t) * G m c (ix1 k)
def PJ (t : Fin 8208) (e : Fin 1536) : EReal := ∑ k : Fin 1024, XN m c t k * W m c (ix2 k e)

theorem ref_v (t : Fin 8208) : val_main_v6 (F := Ideal) (H m c) (ix2 t 0) = VV m c t := by
  pointwise [val_main_v6, val_main_v5, val_main_v4, val_main_v3, val_main_v2, val_main_v1, val_main_v0, val_main_cst, val_main_cst_0, val_main_cst_1, VV]

theorem ref_xn (t : Fin 8208) (k : Fin 1024) : val_main_v12 (F := Ideal) (H m c) (G m c) (ix2 t k) = XN m c t k := by
  pointwise [val_main_v12, val_main_v11, val_main_v10, val_main_v9, val_main_v8, val_main_v7, ref_v, XN]

theorem ref_pj (t : Fin 8208) (e : Fin 1536) : val_main_v13 (F := Ideal) (H m c) (G m c) (W m c) (ix2 t e) = PJ m c t e := by
  pointwise [val_main_v13, ref_xn, PJ]

/-- The four quarters the first tile stores into the scratch. -/
def pcs (t : Fin cfg0.N) : List (View.Piece (Elt Ideal) S1024x1536 .bf16) :=
  [⟨Rect.unit ![0, 1152] ![1024, 384] inb_S1024x1536_S1024x384_0_1152,
      k0_pay7 (View.ld (iblk m c 2 t) (Rect.unit ![3, 0, 0] ![1, 1024, 384] inb_S4x1024x384_S1x1024x384_3_0_0))⟩,
    ⟨Rect.unit ![0, 768] ![1024, 384] inb_S1024x1536_S1024x384_0_768,
      k0_pay6 (View.ld (iblk m c 2 t) (Rect.unit ![2, 0, 0] ![1, 1024, 384] inb_S4x1024x384_S1x1024x384_2_0_0))⟩,
    ⟨Rect.unit ![0, 384] ![1024, 384] inb_S1024x1536_S1024x384_0_384,
      k0_pay5 (View.ld (iblk m c 2 t) (Rect.unit ![1, 0, 0] ![1, 1024, 384] inb_S4x1024x384_S1x1024x384_1_0_0))⟩,
    ⟨Rect.unit ![0, 0] ![1024, 384] inb_S1024x1536_S1024x384_0_0,
      k0_pay4 (View.ld (iblk m c 2 t) (Rect.unit ![0, 0, 0] ![1, 1024, 384] inb_S4x1024x384_S1x1024x384_0_0_0))⟩]

theorem pay4 (w : FVec Ideal S1x1024x384 .bf16) (k : Fin 1024) (e : Fin 384) : k0_pay4 (F := Ideal) w (ix2 k e) = w (ix3 0 k e) := by
  pointwise [k0_pay4]

/-- Together they are the projection's matrix. -/
theorem pcs_canon (t : Fin cfg0.N) : View.canon (pcs m c t) = W m c := by
  obtain ⟨n, l⟩ := t
  have key : ∀ (q : Fin 4) (o p : Nat) (ho : o = q.val * 384) (hp : p = q.val) (i) (x : S1024x384.Idx) (k : Fin 1024) (e : Fin 1536), k.val = (x 0).val → e.val = o + (x 1).val →
      k0_pay4 (F := Ideal) (View.ld (iblk m c 2 ⟨n, l⟩ : FVec Ideal S4x1024x384 .bf16) (Rect.unit ![p, 0, 0] ![1, 1024, 384] i)) x = W m c (ix2 k e) := by
    intro q o p ho hp i x k e e0 e1
    idx_vars x
    rw [pay4, ldW m c n l q p hp]
    refine congrArg (W m c) (congrArg₂ ix2 (Fin.ext e0.symm) (Fin.ext ?_))
    show q.val * 384 + x1.val = e.val
    rw [← ho]
    exact e1.symm
  funext y
  idx_vars y
  unfold pcs
  canon_tiles x h
  · exact key 3 _ _ rfl rfl _ x _ _ h0 h1
  · exact key 2 _ _ rfl rfl _ x _ _ h0 h1
  · exact key 1 _ _ rfl rfl _ x _ _ h0 h1
  · exact key 0 _ _ rfl rfl _ x _ _ h0 (h1.trans (Nat.zero_add _).symm)

theorem pcs_read (t : Fin cfg0.N) (inb) : (View.whole cc0_scratch0).readCov (Val := Elt Ideal) (pcs m c t) (Rect.unit ![0, 0] ![1024, 1536] inb).toLoadRect = W m c := by
  rw [View.readCov_eq_canon', pcs_canon]
  funext j
  refine congrArg (W m c) ?_
  funext a
  apply Fin.ext
  match a with
  | ⟨0, _⟩ => show 0 + 1 * (j 0).val = (j 0).val; omega
  | ⟨1, _⟩ => show 0 + 1 * (j 1).val = (j 1).val; omega

/-- The scratch holds the projection's matrix from the first tile on. -/
theorem wf (n : Nat) (h : n < cfg0.N) : (outsAt0 m c n h).2.2.2.2.1 = W m c := by
  induction n with
  | zero =>
    rw [outsAt0_A m c ⟨0, h⟩ rfl]
    frame_out
    exact pcs_canon m c ⟨0, h⟩
  | succ n ih =>
    have z' : ¬ (n + 1) % 19 = 0 := by have := lt_of_lt_of_eq h (show cfg0.N = 19 from N_0); omega
    rw [outsAt0_B m c ⟨n + 1, h⟩ z']
    refine Eq.trans ?_ (ih (Nat.lt_of_succ_lt h))
    unfold sout0_B_0
    rfl

/-- The projected rows of tile `t` as the body holds them. -/
def pjB (t : Fin cfg0.N) : FVec Ideal S432x1536 .f32 := k0_pay10 (iblk m c 0 t) (iblk m c 1 t) (W m c : FVec Ideal S1024x1536 .bf16)

theorem pjB_apply (n : Nat) (h : n < cfg0.N) (s : Fin 432) (e : Fin 1536) : pjB m c ⟨n, h⟩ (ix2 s e) = PJ m c (row n h s) e := by
  pointwise [pjB, k0_pay10, blk0, blk1, PJ, XN, VV]

theorem after7 (t : Fin cfg0.N) : (outsAt0 m c t.val t.isLt).1 = pjB m c t := by
  unfold pjB
  by_cases z : t.val % 19 = 0
  · rw [outsAt0_A m c t z]
    frame_out
    rw [← pcs_read m c t inb_S1024x1536_S1024x1536_0_0]
    rfl
  · rw [outsAt0_B m c t z]
    frame_out
    rw [read_unread_whole, wf]

theorem emb7 (n : Nat) (h : n < cfg0.N) (s : Fin 432) (k : Fin 1536) :
    (win0_7.blk ⟨n, h⟩).view.emb (ix2 s k) = (ix2 (row n h s) k : S8208x1536.Idx) := by
  blk_ext [idx ⟨n, h⟩]

theorem arr7 : (dats m 0 c).arrAt 7 cfg0.N = val_main_v13 (F := Ideal) (H m c) (G m c) (W m c) := by
  refine (dats m 0 c).arrAt_eq_of_covers 7 _ (by decide +kernel) fun t hf y => ?_
  blk_simp
  rw [after0_7, after7]
  obtain ⟨n, h⟩ := t
  idx_vars y
  refine Eq.trans ?_ (congrArg (val_main_v13 (F := Ideal) (H m c) (G m c) (W m c)) (emb7 n h y0 y1).symm)
  exact (pjB_apply m c n h y0 y1).trans (ref_pj m c (row n h y0) y1).symm

/-- The unit matrix of the blocks as the host builds it, and the block-diagonal matrix made with it. -/
def unitB : S4x4.Idx → EReal := uitofp (F := Ideal) .f32 (cmpi .eq (addi (iotaInDim S4x4 32 0) (broadcastInDim S4x4 ![] bcast_S_S4x4 (constantI S_ 32 0#32))) (iotaInDim S4x4 32 1))
def block (A : S8x64x64.Idx → EReal) : S2x256x256.Idx → EReal :=
  truncf (F := Ideal) (φ := .f32) .bf16 (shapeCast S2x256x256
    (mulf (F := Ideal) (φ := .f32) (broadcastInDim S2x4x64x4x64 ![0, 1, 2, 3, 4] bcast_S2x4x64x1x64_S2x4x64x4x64_0_1_2_3_4 (shapeCast S2x4x64x1x64 A shapeCasts_S8x64x64_S2x4x64x1x64))
      (broadcastInDim S2x4x64x4x64 ![0, 1, 2, 3, 4] bcast_S1x4x1x4x1_S2x4x64x4x64_0_1_2_3_4 (broadcastInDim S1x4x1x4x1 ![1, 3] bcast_S4x4_S1x4x1x4x1_1_3 unitB)))
    shapeCasts_S2x4x64x4x64_S2x256x256) bitsLt_bf16_f32

theorem eR : (V m c main_v26 : S2x256x256.Idx → EReal) = block (RW m c) := by
  show StableHlo.after hostOps0 _ _ = _
  after_results_simp
  rfl
theorem eI : (V m c main_v39 : S2x256x256.Idx → EReal) = block (IW m c) := by
  show StableHlo.after hostOps0 _ _ = _
  after_results_simp
  rfl

theorem unitB_apply (a b : Fin 4) : unitB (ix2 a b) = if a = b then 1 else 0 := by
  have e : IntOp.cmpi .eq (IntOp.addi (BitVec.ofNat 32 a.val) 0#32) (BitVec.ofNat 32 b.val) = if a = b then 1#1 else 0#1 := by
    revert a b
    decide
  unfold unitB
  pointwise [e]
  split
  · show (((1#1 : BitVec 1).toNat : ℝ) : EReal) = 1
    simp
  · show (((0#1 : BitVec 1).toNat : ℝ) : EReal) = 0
    simp

theorem block_apply (A : S8x64x64.Idx → EReal) (h : Fin 2) (i j : Fin 256) :
    block A (ix3 h i j) = A (ix3 ⟨h.val * 4 + i.val / 64, by have := h.isLt; have := i.isLt; omega⟩ ⟨i.val % 64, Nat.mod_lt _ (by decide)⟩ ⟨j.val % 64, Nat.mod_lt _ (by decide)⟩)
      * unitB (ix2 ⟨i.val / 64, by have := i.isLt; omega⟩ ⟨j.val / 64, by have := j.isLt; omega⟩) := by
  unfold block
  generalize unitB = u
  pointwise []

/-- The packed vectors of the windows' third array. -/
def XV : S16x512.Idx → EReal := concatenate S16x512 0
  [⟨S1x512, (StableHlo.upto hostOps0 (fun b => m (c, b)) 12 (Proc.devRef .tc main_v3) : S1x512.Idx → EReal)⟩,
    ⟨S1x512, (StableHlo.upto hostOps0 (fun b => m (c, b)) 12 (Proc.devRef .tc main_v4) : S1x512.Idx → EReal)⟩,
    ⟨S1x512, broadcastInDim S1x512 ![1] bcast_S512_S1x512_1 (CB m c)⟩, ⟨S1x512, broadcastInDim S1x512 ![1] bcast_S512_S1x512_1 (RB m c)⟩,
    ⟨S1x512, broadcastInDim S1x512 ![1] bcast_S512_S1x512_1 (IB m c)⟩,
    ⟨S1x512, (StableHlo.upto hostOps0 (fun b => m (c, b)) 12 (Proc.devRef .tc main_v8) : S1x512.Idx → EReal)⟩,
    ⟨S4x512, CW m c⟩,
    ⟨S2x512, (StableHlo.upto hostOps0 (fun b => m (c, b)) 12 (Proc.devRef .tc main_v9) : S2x512.Idx → EReal)⟩,
    ⟨S4x512, (StableHlo.upto hostOps0 (fun b => m (c, b)) 12 (Proc.devRef .tc main_v10) : S4x512.Idx → EReal)⟩]
  concatenates_S1x512_S1x512_S1x512_S1x512_S1x512_S1x512_S4x512_S2x512_S4x512_S16x512_d0

theorem read5 : (StableHlo.upto hostOps0 (fun b => m (c, b)) 12 (Proc.devRef .tc main_v5) : S1x512.Idx → EReal) = broadcastInDim S1x512 ![1] bcast_S512_S1x512_1 (CB m c) := by
  after_reads_simp
  rfl
theorem read6 : (StableHlo.upto hostOps0 (fun b => m (c, b)) 12 (Proc.devRef .tc main_v6) : S1x512.Idx → EReal) = broadcastInDim S1x512 ![1] bcast_S512_S1x512_1 (RB m c) := by
  after_reads_simp
  rfl
theorem read7 : (StableHlo.upto hostOps0 (fun b => m (c, b)) 12 (Proc.devRef .tc main_v7) : S1x512.Idx → EReal) = broadcastInDim S1x512 ![1] bcast_S512_S1x512_1 (IB m c) := by
  after_reads_simp
  rfl
theorem readC : (StableHlo.upto hostOps0 (fun b => m (c, b)) 12 (Proc.devRef .tc main_arg6) : S4x512.Idx → EReal) = CW m c := by
  after_reads_simp
  rfl

theorem cut11 (x : S16x512.Idx → EReal) (hx : x = concatenate S16x512 0
      [⟨S1x512, (StableHlo.upto hostOps0 (fun b => m (c, b)) 12 (Proc.devRef .tc main_v3) : S1x512.Idx → EReal)⟩,
        ⟨S1x512, (StableHlo.upto hostOps0 (fun b => m (c, b)) 12 (Proc.devRef .tc main_v4) : S1x512.Idx → EReal)⟩,
        ⟨S1x512, (StableHlo.upto hostOps0 (fun b => m (c, b)) 12 (Proc.devRef .tc main_v5) : S1x512.Idx → EReal)⟩,
        ⟨S1x512, (StableHlo.upto hostOps0 (fun b => m (c, b)) 12 (Proc.devRef .tc main_v6) : S1x512.Idx → EReal)⟩,
        ⟨S1x512, (StableHlo.upto hostOps0 (fun b => m (c, b)) 12 (Proc.devRef .tc main_v7) : S1x512.Idx → EReal)⟩,
        ⟨S1x512, (StableHlo.upto hostOps0 (fun b => m (c, b)) 12 (Proc.devRef .tc main_v8) : S1x512.Idx → EReal)⟩,
        ⟨S4x512, (StableHlo.upto hostOps0 (fun b => m (c, b)) 12 (Proc.devRef .tc main_arg6) : S4x512.Idx → EReal)⟩,
        ⟨S2x512, (StableHlo.upto hostOps0 (fun b => m (c, b)) 12 (Proc.devRef .tc main_v9) : S2x512.Idx → EReal)⟩,
        ⟨S4x512, (StableHlo.upto hostOps0 (fun b => m (c, b)) 12 (Proc.devRef .tc main_v10) : S4x512.Idx → EReal)⟩]
      concatenates_S1x512_S1x512_S1x512_S1x512_S1x512_S1x512_S4x512_S2x512_S4x512_S16x512_d0) : x = XV m c := by
  subst hx
  rw [read5, read6, read7, readC]
  rfl

theorem eV : (V m c main_v11 : S16x512.Idx → EReal) = XV m c := by
  show StableHlo.after hostOps0 _ _ = _
  after_reads_simp
  exact cut11 m c _ rfl

theorem xv2 (j : Fin 512) : XV m c (ix2 2 j) = CB m c (ix1 j) := by
  unfold XV
  pointwise []
theorem xv3 (j : Fin 512) : XV m c (ix2 3 j) = RB m c (ix1 j) := by
  unfold XV
  pointwise []
theorem xv4 (j : Fin 512) : XV m c (ix2 4 j) = IB m c (ix1 j) := by
  unfold XV
  pointwise []
theorem xv6 (q : Fin 4) (j : Fin 512) : XV m c (ix2 ⟨6 + q.val, by have := q.isLt; omega⟩ j) = CW m c (ix2 q j) := by
  unfold XV
  fin_cases q <;> pointwise []

theorem blk3 (n : Nat) (h : n < cfg0.N) (r : Fin 16) (k : Fin 512) :
    (iblk m c 3 ⟨n, h⟩ : FVec Ideal S16x512 .f32) (ix2 r k) = XV m c (ix2 r k) := by
  rw [← eV]
  blk_ext [iblk, idx ⟨n, h⟩]
theorem blk5 (n : Nat) (h : n < cfg0.N) (a : Fin 2) (i j : Fin 256) :
    (iblk m c 5 ⟨n, h⟩ : FVec Ideal S2x256x256 .bf16) (ix3 a i j) = block (RW m c) (ix3 a i j) := by
  rw [← eR]
  blk_ext [iblk, idx ⟨n, h⟩]
theorem blk6 (n : Nat) (h : n < cfg0.N) (a : Fin 2) (i j : Fin 256) :
    (iblk m c 6 ⟨n, h⟩ : FVec Ideal S2x256x256 .bf16) (ix3 a i j) = block (IW m c) (ix3 a i j) := by
  rw [← eI]
  blk_ext [iblk, idx ⟨n, h⟩]

/-- One half of a stacked matrix, loaded. -/
theorem slab (x : Vec Ideal S2x256x256 .bf16) (q : Fin 2) (o : Nat) (ho : o = q.val) (inb) (k e : Fin 256) :
    (View.ld x (Rect.unit ![o, 0, 0] ![1, 256, 256] inb) : FVec Ideal S1x256x256 .bf16) (ix3 0 k e) = x (ix3 q k e) := by
  subst ho
  refine congrArg x ?_
  funext a
  apply Fin.ext
  match a with
  | ⟨0, _⟩ => show q.val + 1 * 0 = q.val; omega
  | ⟨1, _⟩ => show 0 + 1 * k.val = k.val; omega
  | ⟨2, _⟩ => show 0 + 1 * e.val = e.val; omega

/-- Row `k` of the projected rows with sixteen zero rows in front. -/
def Val (k : Nat) (e : Fin 1536) : EReal := if h : 16 ≤ k ∧ k < 8224 then PJ m c ⟨k - 16, by omega⟩ e else 0

omit m c in
theorem hread (t : Fin cfg0.N) (w : FVec Ideal S432x1536 .f32) (i i') (s : Fin 16) (e : Fin 1536) :
    k0_pay12 (F := Ideal) ((ms0_7 t).view.readCov (Val := Elt Ideal) [⟨Rect.unit ![0, 0] ![432, 1536] i, w⟩] (Rect.unit (s := S432x1536) ![416, 0] ![16, 1536] i').toLoadRect) (ix2 s e)
      = w (ix2 ⟨416 + s.val, by have := s.isLt; omega⟩ e) := by
  rw [View.readCov_eq_canon']
  have hx : ∀ x : FVec Ideal S16x1536 .f32, k0_pay12 (F := Ideal) x (ix2 s e) = x (ix2 s e) := fun x => by pointwise [k0_pay12]
  refine (hx _).trans ?_
  have hc := View.canon_cons_emb (Val := Elt Ideal) (e := .f32) (Rect.unit (s := S432x1536) ![0, 0] ![432, 1536] i) w [] (ix2 ⟨416 + s.val, by have := s.isLt; omega⟩ e)
  refine Eq.trans ?_ hc
  generalize View.canon (Val := Elt Ideal) [(⟨Rect.unit (s := S432x1536) ![0, 0] ![432, 1536] i, w⟩ : View.Piece (Elt Ideal) S432x1536 .f32)] = v
  refine congrArg v ?_
  funext a
  apply Fin.ext
  match a with
  | ⟨0, _⟩ => show 416 + 1 * s.val = 0 + 1 * (416 + s.val); omega
  | ⟨1, _⟩ => show 0 + 1 * e.val = 0 + 1 * e.val; omega

/-- The halo kept after tile `n`: the last rows of its projection. -/
theorem hl (n : Nat) (h : n < cfg0.N) (s : Fin 16) (e : Fin 1536) : (outsAt0 m c n h).2.2.2.2.2.1 (ix2 s e) = PJ m c (row n h ⟨416 + s.val, by have := s.isLt; omega⟩) e := by
  refine Eq.trans ?_ (pjB_apply m c n h ⟨416 + s.val, by have := s.isLt; omega⟩ e)
  unfold pjB
  by_cases z : n % 19 = 0
  · rw [outsAt0_A m c ⟨n, h⟩ z]
    frame_out
    rw [← pcs_read m c ⟨n, h⟩ inb_S1024x1536_S1024x1536_0_0]
    exact hread ⟨n, h⟩ _ _ _ s _
  · rw [outsAt0_B m c ⟨n, h⟩ z]
    frame_out
    rw [read_unread_whole, wf]
    exact hread ⟨n, h⟩ _ _ _ s _

/-- The halo a tile finds and the rows of its projection with the halo in front. -/
def hB : (n : Nat) → n < cfg0.N → FVec Ideal S16x1536 .f32
  | 0, _ => k0_pay9
  | n + 1, h => (outsAt0 m c n (Nat.lt_of_succ_lt h)).2.2.2.2.2.1
def uB (t : Fin cfg0.N) : FVec Ideal S448x1536 .f32 := k0_pay11 (iblk m c 0 t) (iblk m c 1 t) (W m c : FVec Ideal S1024x1536 .bf16) (hB m c t.val t.isLt)
def vB (t : Fin cfg0.N) : FVec Ideal S16x512 .f32 := k0_pay13 (iblk m c 3 t)

theorem hB_apply (n : Nat) (h : n < cfg0.N) (s : Fin 16) (e : Fin 1536) : hB m c n h (ix2 s e) = Val m c (n * 432 + s.val) e := by
  have hs := s.isLt
  have hN := lt_of_lt_of_eq h (show cfg0.N = 19 from N_0)
  unfold Val
  cases n with
  | zero =>
    rw [dif_neg (by omega)]
    pointwise [hB, k0_pay9]
  | succ n =>
    rw [dif_pos (by omega)]
    refine (hl m c n (Nat.lt_of_succ_lt h) s e).trans (congrArg (fun r => PJ m c r e) (Fin.ext ?_))
    show n * 432 + (416 + s.val) = (n + 1) * 432 + s.val - 16
    omega

theorem uB_apply (n : Nat) (h : n < cfg0.N) (s : Fin 448) (e : Fin 1536) : uB m c ⟨n, h⟩ (ix2 s e) = Val m c (n * 432 + s.val) e := by
  have hs := s.isLt
  have hN := lt_of_lt_of_eq h (show cfg0.N = 19 from N_0)
  have hp : ∀ s e, k0_pay10 (F := Ideal) (iblk m c 0 ⟨n, h⟩) (iblk m c 1 ⟨n, h⟩) (W m c : FVec Ideal S1024x1536 .bf16) (ix2 s e) = PJ m c (row n h s) e := pjB_apply m c n h
  unfold uB k0_pay11
  rw [concatenate_apply]
  pointwise [hB_apply, hp]
  split
  · rfl
  · next h16 =>
    have h16 : ¬ s.val < 16 := h16
    unfold Val
    rw [dif_pos (by omega)]
    refine congrArg (fun r => PJ m c r e) (Fin.ext ?_)
    show n * 432 + (s.val - 16) = n * 432 + s.val - 16
    omega

theorem vB_apply (n : Nat) (h : n < cfg0.N) (r : Fin 16) (j : Fin 512) : vB m c ⟨n, h⟩ (ix2 r j) = XV m c (ix2 r j) := by
  pointwise [vB, k0_pay13, blk3]

/-- The convolved rows. -/
def XC (t : Fin 8208) (j : Fin 512) : EReal :=
  CB m c (ix1 j) + (Val m c (t.val + 13) (rec j) * CW m c (ix2 0 j) + Val m c (t.val + 14) (rec j) * CW m c (ix2 1 j)
    + Val m c (t.val + 15) (rec j) * CW m c (ix2 2 j) + Val m c (t.val + 16) (rec j) * CW m c (ix2 3 j))

theorem xcB_apply (n : Nat) (h : n < cfg0.N) (s : Fin 432) (j : Fin 512) : k0_pay31 (F := Ideal) (uB m c ⟨n, h⟩) (vB m c ⟨n, h⟩) (ix2 s j) = XC m c (row n h s) j := by
  have hs := s.isLt
  have hu := uB_apply m c n h
  have w := fun q => xv6 m c q j
  have w0 := w 0
  have w1 := w 1
  have w2 := w 2
  have w3 := w 3
  have hv : ∀ r, vB m c ⟨n, h⟩ (ix2 r j) = XV m c (ix2 r j) := fun r => vB_apply m c n h r j
  generalize uB m c ⟨n, h⟩ = u at hu ⊢
  generalize vB m c ⟨n, h⟩ = v at hv ⊢
  have hu' : ∀ (p : Fin 448) (k : Nat), n * 432 + p.val = k → u (ix2 p (rec j)) = Val m c k (rec j) := fun p k e => by rw [hu, e]
  pointwise [k0_pay31]
  unfold XC
  refine congrArg₂ (fun a b : EReal => a + b) ((hv 2).trans (xv2 m c j)) (congrArg₂ (fun a b : EReal => a + b) (congrArg₂ (fun a b : EReal => a + b)
    (congrArg₂ (fun a b : EReal => a + b) ?_ ?_) ?_) ?_)
  · refine congrArg₂ (fun a b : EReal => a * b) (hu' _ _ ?_) ((hv 6).trans w0)
    show n * 432 + (16 + s.val + 448 - 3) % 448 = n * 432 + s.val + 13
    omega
  · refine congrArg₂ (fun a b : EReal => a * b) (hu' _ _ ?_) ((hv 7).trans w1)
    show n * 432 + (16 + s.val + 448 - 2) % 448 = n * 432 + s.val + 14
    omega
  · refine congrArg₂ (fun a b : EReal => a * b) (hu' _ _ ?_) ((hv 8).trans w2)
    show n * 432 + (16 + s.val + 448 - 1) % 448 = n * 432 + s.val + 15
    omega
  · refine congrArg₂ (fun a b : EReal => a * b) (hu' _ _ ?_) ((hv 9).trans w3)
    show n * 432 + (16 + s.val) = n * 432 + s.val + 16
    omega

/-- A column's head, its place in the head, and back. -/
abbrev hd (j : Fin 512) : Fin 8 := ⟨j.val / 64, by have := j.isLt; omega⟩
abbrev ln (j : Fin 512) : Fin 64 := ⟨j.val % 64, Nat.mod_lt _ (by decide)⟩
abbrev ch (a : Fin 8) (p : Fin 64) : Fin 512 := ⟨a.val * 64 + p.val, by have := a.isLt; have := p.isLt; omega⟩

/-- A gate before the logistic function. -/
def Z (A : S8x64x64.Idx → EReal) (t : Fin 8208) (j : Fin 512) : EReal := ∑ p : Fin 64, A (ix3 (hd j) p (ln j)) * XC m c t (ch (hd j) p)
def GT (A : S8x64x64.Idx → EReal) (B : S512.Idx → EReal) (t : Fin 8208) (j : Fin 512) : EReal := Ideal.logistic (Z m c A t j + B (ix1 j))

omit m c in
/-- A product with one half of the block-diagonal matrix takes one head. -/
theorem half (A : S8x64x64.Idx → EReal) (X : Fin 512 → EReal) (h : Fin 2) (b : Fin 256) (j : Fin 512) (hj : j.val = h.val * 256 + b.val) :
    ∑ i : Fin 256, X ⟨h.val * 256 + i.val, by have := h.isLt; have := i.isLt; omega⟩ * block A (ix3 h i b) = ∑ p : Fin 64, A (ix3 (hd j) p (ln j)) * X (ch (hd j) p) := by
  have hb := b.isLt
  have hh := h.isLt
  rw [Fin.sum_univ_tiles 4 64 rfl, Finset.sum_eq_single (⟨b.val / 64, by omega⟩ : Fin 4)]
  · refine Finset.sum_congr rfl fun p _ => ?_
    have hp := p.isLt
    rw [block_apply, unitB_apply, if_pos (Fin.ext (by show (b.val / 64 * 64 + p.val) / 64 = b.val / 64; omega)), mul_one, mul_comm]
    refine congrArg₂ (· * ·) (congrArg A ?_) (congrArg X (Fin.ext ?_))
    · refine congr (congr (congrArg ix3 (Fin.ext ?_)) (Fin.ext ?_)) (Fin.ext ?_)
      · show h.val * 4 + (b.val / 64 * 64 + p.val) / 64 = j.val / 64
        omega
      · show (b.val / 64 * 64 + p.val) % 64 = p.val
        omega
      · show b.val % 64 = j.val % 64
        omega
    · show h.val * 256 + (b.val / 64 * 64 + p.val) = j.val / 64 * 64 + p.val
      omega
  · intro a _ ha
    refine Finset.sum_eq_zero fun p _ => ?_
    have hp := p.isLt
    have ha' : ¬ a.val = b.val / 64 := fun e => ha (Fin.ext e)
    rw [block_apply, unitB_apply, if_neg (fun e => ha' (by have e := congrArg Fin.val e; have e : (a.val * 64 + p.val) / 64 = b.val / 64 := e; omega)), mul_zero, mul_zero]
  · intro ha
    exact absurd (Finset.mem_univ _) ha

omit m c in
theorem lo (x : Vec Ideal S2x256x256 .bf16) (A : S8x64x64.Idx → EReal) (i) (h : ∀ a k e, x (ix3 a k e) = block A (ix3 a k e)) (k e : Fin 256) :
    (View.ld x (Rect.unit ![0, 0, 0] ![1, 256, 256] i) : FVec Ideal S1x256x256 .bf16) (ix3 0 k e) = block A (ix3 0 k e) := (slab x 0 0 rfl i k e).trans (h 0 k e)
omit m c in
theorem hi (x : Vec Ideal S2x256x256 .bf16) (A : S8x64x64.Idx → EReal) (i) (h : ∀ a k e, x (ix3 a k e) = block A (ix3 a k e)) (k e : Fin 256) :
    (View.ld x (Rect.unit ![1, 0, 0] ![1, 256, 256] i) : FVec Ideal S1x256x256 .bf16) (ix3 0 k e) = block A (ix3 1 k e) := (slab x 1 1 rfl i k e).trans (h 1 k e)

omit m c in
/-- The two half products side by side. -/
theorem sides (A : S8x64x64.Idx → EReal) (x : S432x512.Idx → EReal) (d0 d1 : S1x256x256.Idx → EReal)
    (s0 : ∀ k e, d0 (ix3 0 k e) = block A (ix3 0 k e)) (s1 : ∀ k e, d1 (ix3 0 k e) = block A (ix3 1 k e)) (s : Fin 432) (X : Fin 512 → EReal) (hx : ∀ j, x (ix2 s j) = X j) (j : Fin 512) :
    (if h : j.val < 256 then ∑ k : Fin 256, x (ix2 s ⟨k.val, by have := k.isLt; omega⟩) * d0 (ix3 0 k ⟨j.val, h⟩)
      else ∑ k : Fin 256, x (ix2 s ⟨256 + k.val, by have := k.isLt; omega⟩) * d1 (ix3 0 k ⟨j.val - 256, by have := j.isLt; omega⟩))
      = ∑ p : Fin 64, A (ix3 (hd j) p (ln j)) * X (ch (hd j) p) := by
  have hj := j.isLt
  split
  · next h =>
    refine Eq.trans (Finset.sum_congr rfl fun k _ => ?_) (half A X 0 ⟨j.val, h⟩ j (by show j.val = 0 * 256 + j.val; omega))
    rw [hx, s0]
    refine congrArg (fun z : Fin 512 => X z * _) (Fin.ext ?_)
    show k.val = 0 * 256 + k.val
    omega
  · next h =>
    refine Eq.trans (Finset.sum_congr rfl fun k _ => ?_) (half A X 1 ⟨j.val - 256, by omega⟩ j (by show j.val = 1 * 256 + (j.val - 256); omega))
    rw [hx, s1]
    refine congrArg (fun z : Fin 512 => X z * _) (Fin.ext ?_)
    show 256 + k.val = 1 * 256 + k.val
    omega

theorem rB_apply (n : Nat) (h : n < cfg0.N) (i i') (s : Fin 432) (j : Fin 512) :
    k0_pay34 (F := Ideal) (vB m c ⟨n, h⟩) (k0_pay32 (uB m c ⟨n, h⟩) (vB m c ⟨n, h⟩)) (k0_pay33 (uB m c ⟨n, h⟩) (vB m c ⟨n, h⟩) (View.ld (iblk m c 5 ⟨n, h⟩ : FVec Ideal S2x256x256 .bf16) (Rect.unit ![0, 0, 0] ![1, 256, 256] i)))
      (View.ld (iblk m c 5 ⟨n, h⟩ : FVec Ideal S2x256x256 .bf16) (Rect.unit ![1, 0, 0] ![1, 256, 256] i')) (ix2 s j) = GT m c (RW m c) (RB m c) (row n h s) j := by
  have hv : ∀ r, vB m c ⟨n, h⟩ (ix2 r j) = XV m c (ix2 r j) := fun r => vB_apply m c n h r j
  have hx := xcB_apply m c n h
  have s0 := lo (iblk m c 5 ⟨n, h⟩) _ i (blk5 m c n h)
  have s1 := hi (iblk m c 5 ⟨n, h⟩) _ i' (blk5 m c n h)
  generalize (View.ld (iblk m c 5 ⟨n, h⟩ : FVec Ideal S2x256x256 .bf16) (Rect.unit ![0, 0, 0] ![1, 256, 256] i)) = d0 at s0 ⊢
  generalize (View.ld (iblk m c 5 ⟨n, h⟩ : FVec Ideal S2x256x256 .bf16) (Rect.unit ![1, 0, 0] ![1, 256, 256] i')) = d1 at s1 ⊢
  generalize uB m c ⟨n, h⟩ = u at hx ⊢
  generalize vB m c ⟨n, h⟩ = v at hv hx ⊢
  unfold k0_pay34 k0_pay33 k0_pay32
  generalize k0_pay31 u v = x at hx ⊢
  pointwise [hv, xv3]
  exact congrArg (fun z : EReal => Ideal.logistic (z + _)) (sides _ x d0 d1 s0 s1 s _ (hx s) j)

theorem iB_apply (n : Nat) (h : n < cfg0.N) (i i') (s : Fin 432) (j : Fin 512) :
    k0_pay35 (F := Ideal) (vB m c ⟨n, h⟩) (k0_pay32 (uB m c ⟨n, h⟩) (vB m c ⟨n, h⟩)) (View.ld (iblk m c 6 ⟨n, h⟩ : FVec Ideal S2x256x256 .bf16) (Rect.unit ![0, 0, 0] ![1, 256, 256] i))
      (View.ld (iblk m c 6 ⟨n, h⟩ : FVec Ideal S2x256x256 .bf16) (Rect.unit ![1, 0, 0] ![1, 256, 256] i')) (ix2 s j) = GT m c (IW m c) (IB m c) (row n h s) j := by
  have hv : ∀ r, vB m c ⟨n, h⟩ (ix2 r j) = XV m c (ix2 r j) := fun r => vB_apply m c n h r j
  have hx := xcB_apply m c n h
  have s0 := lo (iblk m c 6 ⟨n, h⟩) _ i (blk6 m c n h)
  have s1 := hi (iblk m c 6 ⟨n, h⟩) _ i' (blk6 m c n h)
  generalize (View.ld (iblk m c 6 ⟨n, h⟩ : FVec Ideal S2x256x256 .bf16) (Rect.unit ![0, 0, 0] ![1, 256, 256] i)) = d0 at s0 ⊢
  generalize (View.ld (iblk m c 6 ⟨n, h⟩ : FVec Ideal S2x256x256 .bf16) (Rect.unit ![1, 0, 0] ![1, 256, 256] i')) = d1 at s1 ⊢
  generalize uB m c ⟨n, h⟩ = u at hx ⊢
  generalize vB m c ⟨n, h⟩ = v at hv hx ⊢
  unfold k0_pay35 k0_pay32
  generalize k0_pay31 u v = x at hx ⊢
  pointwise [hv, xv4]
  exact congrArg (fun z : EReal => Ideal.logistic (z + _)) (sides _ x d0 d1 s0 s1 s _ (hx s) j)

/-- The reference's shifted rows, convolved rows and gates. -/
theorem ref_sh (k : Fin 8211) (j : Fin 512) : val_main_v15 (F := Ideal) (H m c) (G m c) (W m c) (ix2 k j) = Val m c (k.val + 13) (rec j) := by
  have hk := k.isLt
  have hj := j.isLt
  have hp : ∀ t, val_main_v14 (F := Ideal) (H m c) (G m c) (W m c) (ix2 t j) = PJ m c t (rec j) := fun t => by pointwise [val_main_v14, ref_pj]
  unfold val_main_v15 Val
  rw [pad_apply]
  split
  · next h =>
    have h : 3 ≤ k.val ∧ (k.val - 3) % 1 = 0 ∧ (k.val - 3) / 1 < 8208 := h 0
    rw [dif_pos (by omega)]
    refine Eq.trans (congrArg (val_main_v14 (F := Ideal) (H m c) (G m c) (W m c)) ?_) ((hp ⟨k.val - 3, by omega⟩).trans (congrArg (fun r => PJ m c r (rec j)) (Fin.ext ?_)))
    · refine (Shape.Idx.norm_def _).trans ?_
      funext a
      apply Fin.ext
      match a with
      | ⟨0, _⟩ => show (k.val - 3) / (0 + 1) = k.val - 3; omega
      | ⟨1, _⟩ => show (j.val - 0) / (0 + 1) = j.val; omega
    · show k.val - 3 = k.val + 13 - 16
      omega
  · next h =>
    rw [dif_neg (fun h' => h fun a => by
      match a with
      | ⟨0, _⟩ => show 3 ≤ k.val ∧ (k.val - 3) % 1 = 0 ∧ (k.val - 3) / 1 < 8208; omega
      | ⟨1, _⟩ => show 0 ≤ j.val ∧ (j.val - 0) % 1 = 0 ∧ (j.val - 0) / 1 < 512; omega)]
    pointwise [val_main_call0_v0, val_main_c]
    show (((0#32 : BitVec 32).toInt : ℝ) : EReal) = 0
    simp

theorem ref_xc (t : Fin 8208) (j : Fin 512) : val_main_v47 (F := Ideal) (H m c) (G m c) (W m c) (CW m c) (CB m c) (ix2 t j) = XC m c t j := by
  have hs : ∀ (k : Fin 8211) (a : Nat), k.val + 13 = a → val_main_v15 (F := Ideal) (H m c) (G m c) (W m c) (ix2 k j) = Val m c a (rec j) := fun k a e => by rw [ref_sh, e]
  pointwise [val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_cst_2, val_main_v21, val_main_v20, val_main_v19, val_main_v18, val_main_v17, val_main_v16]
  unfold XC
  rw [hs _ (t.val + 13) rfl, hs _ (t.val + 14) (by show 1 + t.val + 13 = _; omega), hs _ (t.val + 15) (by show 2 + t.val + 13 = _; omega), hs _ (t.val + 16) (by show 3 + t.val + 13 = _; omega)]

theorem ref_z (t : Fin 8208) (j : Fin 512) : val_main_v51 (F := Ideal) (H m c) (G m c) (W m c) (CW m c) (CB m c) (RW m c) (ix2 t j) = Z m c (RW m c) t j := by
  pointwise [val_main_v51, val_main_v50, val_main_v49, val_main_v48, ref_xc, Z]
theorem ref_y (t : Fin 8208) (j : Fin 512) : val_main_v63 (F := Ideal) (H m c) (G m c) (W m c) (CW m c) (CB m c) (IW m c) (ix2 t j) = Z m c (IW m c) t j := by
  pointwise [val_main_v63, val_main_v62, val_main_v61, val_main_v48, ref_xc, Z]
theorem ref_r (t : Fin 8208) (j : Fin 512) : val_main_v60 (F := Ideal) (H m c) (G m c) (W m c) (CW m c) (CB m c) (RW m c) (RB m c) (ix2 t j) = GT m c (RW m c) (RB m c) t j := by
  pointwise [val_main_v60, val_main_v59, val_main_v58, val_main_v57, val_main_v56, val_main_v55, val_main_v54, val_main_v53, val_main_v52, val_main_cst_3, val_main_cst_4, ref_z]
  rfl
theorem ref_i (t : Fin 8208) (j : Fin 512) : val_main_v72 (F := Ideal) (H m c) (G m c) (W m c) (CW m c) (CB m c) (IW m c) (IB m c) (ix2 t j) = GT m c (IW m c) (IB m c) t j := by
  pointwise [val_main_v72, val_main_v71, val_main_v70, val_main_v69, val_main_v68, val_main_v67, val_main_v66, val_main_v65, val_main_v64, val_main_cst_5, val_main_cst_6, ref_y]
  rfl

/-- The columns of the gate, and the gated unit of the forward pass. -/
def gc (j : Fin 512) : Fin 1536 := ⟨1024 + j.val, by have := j.isLt; omega⟩
def gelu (x : EReal) : EReal :=
  Ideal.ofBits .f32 0x3F000000#32 * x * (1 + Ideal.tanh (Ideal.ofBits .f32 0x3F4C422A#32 * (x + Ideal.ofBits .f32 0x3D372713#32 * x * x * x)))
def GU (t : Fin 8208) (j : Fin 512) : EReal := gelu (PJ m c t (gc j))

theorem gl_apply (n : Nat) (h : n < cfg0.N) (s : Fin 432) (j : Fin 512) : k0_pay44 (F := Ideal) (uB m c ⟨n, h⟩) (ix2 s j) = GU m c (row n h s) j := by
  have hs := s.isLt
  have hN := lt_of_lt_of_eq h (show cfg0.N = 19 from N_0)
  have hu := uB_apply m c n h ⟨16 + s.val, by omega⟩ (gc j)
  have hv : Val m c (n * 432 + (16 + s.val)) (gc j) = PJ m c (row n h s) (gc j) := by
    unfold Val
    rw [dif_pos (by omega)]
    refine congrArg (fun r => PJ m c r (gc j)) (Fin.ext ?_)
    show n * 432 + (16 + s.val) - 16 = n * 432 + s.val
    omega
  rw [hv] at hu
  generalize uB m c ⟨n, h⟩ = u at hu ⊢
  have hx : k0_pay42 (F := Ideal) u (ix2 s j) = PJ m c (row n h s) (gc j) := by
    refine Eq.trans ?_ hu
    pointwise [k0_pay42]
    rfl
  unfold GU
  generalize PJ m c (row n h s) (gc j) = x at hx ⊢
  pointwise [k0_pay44, k0_pay43, hx]
  rfl

theorem ref_gl (t : Fin 8208) (j : Fin 512) : val_main_v87 (F := Ideal) (H m c) (G m c) (W m c) (ix2 t j) = GU m c t j := by
  have hx : val_main_v74 (F := Ideal) (H m c) (G m c) (W m c) (ix2 t j) = PJ m c t (gc j) := by
    refine Eq.trans ?_ (ref_pj m c t (gc j))
    pointwise [val_main_v74]
    rfl
  unfold GU
  generalize PJ m c t (gc j) = x at hx ⊢
  have e : gelu x = x * (Ideal.ofBits .f32 0x3F000000#32 * (1 + Ideal.tanh (Ideal.ofBits .f32 0x3F4C422A#32 * (x + Ideal.ofBits .f32 0x3D372713#32 * (x * x * x))))) := by
    unfold gelu
    rw [mul_comm (Ideal.ofBits .f32 0x3F000000#32) x, mul_assoc x, mul_assoc (Ideal.ofBits .f32 0x3D372713#32 * x) x x, mul_assoc (Ideal.ofBits .f32 0x3D372713#32) x (x * x), ← mul_assoc x x x]
  rw [e]
  pointwise [val_main_v87, val_main_v86, val_main_v85, val_main_v84, val_main_v83, val_main_v82, val_main_v81, val_main_v80, val_main_v79, val_main_v78, val_main_v77,
    val_main_v76, val_main_v75, val_main_cst_7, val_main_cst_8, val_main_cst_9, val_main_cst_10, hx]

/-- The groups of columns that are returned: the convolved rows, the two gates and the gated unit. -/
def AX (q : Nat) (t : Fin 8208) (j : Fin 512) : EReal :=
  if q = 0 then XC m c t j else if q = 1 then GT m c (RW m c) (RB m c) t j else if q = 2 then GT m c (IW m c) (IB m c) t j else GU m c t j

theorem xc' (n : Nat) (h : n < cfg0.N) (q : Nat) (hq : q = 0) (w u) (hw : w = W m c) (hu : u = hB m c n h) (x : S432x512.Idx) (s : Fin 432) (j : Fin 512) (e0 : s.val = (x 0).val) (e1 : j.val = (x 1).val) :
    k0_pay31 (F := Ideal) (k0_pay11 (iblk m c 0 ⟨n, h⟩) (iblk m c 1 ⟨n, h⟩) w u) (k0_pay13 (iblk m c 3 ⟨n, h⟩)) x = AX m c q (row n h s) j := by
  subst hq hw hu
  idx_vars x
  obtain rfl : s = x0 := Fin.ext e0
  obtain rfl : j = x1 := Fin.ext e1
  exact xcB_apply m c n h s j
theorem r' (n : Nat) (h : n < cfg0.N) (q : Nat) (hq : q = 1) (w u) (hw : w = W m c) (hu : u = hB m c n h) (i i') (x : S432x512.Idx) (s : Fin 432) (j : Fin 512) (e0 : s.val = (x 0).val) (e1 : j.val = (x 1).val) :
    k0_pay34 (F := Ideal) (k0_pay13 (iblk m c 3 ⟨n, h⟩)) (k0_pay32 (k0_pay11 (iblk m c 0 ⟨n, h⟩) (iblk m c 1 ⟨n, h⟩) w u) (k0_pay13 (iblk m c 3 ⟨n, h⟩)))
      (k0_pay33 (k0_pay11 (iblk m c 0 ⟨n, h⟩) (iblk m c 1 ⟨n, h⟩) w u) (k0_pay13 (iblk m c 3 ⟨n, h⟩)) (View.ld (iblk m c 5 ⟨n, h⟩) (Rect.unit ![0, 0, 0] ![1, 256, 256] i)))
      (View.ld (iblk m c 5 ⟨n, h⟩) (Rect.unit ![1, 0, 0] ![1, 256, 256] i')) x = AX m c q (row n h s) j := by
  subst hq hw hu
  idx_vars x
  obtain rfl : s = x0 := Fin.ext e0
  obtain rfl : j = x1 := Fin.ext e1
  exact rB_apply m c n h i i' s j
theorem i' (n : Nat) (h : n < cfg0.N) (q : Nat) (hq : q = 2) (w u) (hw : w = W m c) (hu : u = hB m c n h) (i i') (x : S432x512.Idx) (s : Fin 432) (j : Fin 512) (e0 : s.val = (x 0).val) (e1 : j.val = (x 1).val) :
    k0_pay35 (F := Ideal) (k0_pay13 (iblk m c 3 ⟨n, h⟩)) (k0_pay32 (k0_pay11 (iblk m c 0 ⟨n, h⟩) (iblk m c 1 ⟨n, h⟩) w u) (k0_pay13 (iblk m c 3 ⟨n, h⟩)))
      (View.ld (iblk m c 6 ⟨n, h⟩) (Rect.unit ![0, 0, 0] ![1, 256, 256] i)) (View.ld (iblk m c 6 ⟨n, h⟩) (Rect.unit ![1, 0, 0] ![1, 256, 256] i')) x = AX m c q (row n h s) j := by
  subst hq hw hu
  idx_vars x
  obtain rfl : s = x0 := Fin.ext e0
  obtain rfl : j = x1 := Fin.ext e1
  exact iB_apply m c n h i i' s j

theorem g' (n : Nat) (h : n < cfg0.N) (q : Nat) (hq : q = 5) (w u) (hw : w = W m c) (hu : u = hB m c n h) (x : S432x512.Idx) (s : Fin 432) (j : Fin 512) (e0 : s.val = (x 0).val) (e1 : j.val = (x 1).val) :
    k0_pay44 (F := Ideal) (k0_pay11 (iblk m c 0 ⟨n, h⟩) (iblk m c 1 ⟨n, h⟩) w u) x = AX m c q (row n h s) j := by
  subst hq hw hu
  idx_vars x
  obtain rfl : s = x0 := Fin.ext e0
  obtain rfl : j = x1 := Fin.ext e1
  exact gl_apply m c n h s j

theorem out10 (n : Nat) (h : n < cfg0.N) (q : Nat) (hq : q < 3 ∨ q = 5) (s : Fin 432) (k : Fin 4608) (j : Fin 512) (hk : k.val = 1024 + q * 512 + j.val) :
    (outsAt0 m c n h).2.2.2.1 (ix2 s k) = AX m c q (row n h s) j := by
  have hj := j.isLt
  by_cases z : n % 19 = 0
  · obtain rfl : n = 0 := by have := lt_of_lt_of_eq h (show cfg0.N = 19 from N_0); omega
    rw [outsAt0_A m c ⟨0, h⟩ z]
    frame_out
    canon_tiles x e using View.cover_of_tiledBy _ ![432, 128] (by sl_kernel_rfl) (ix2 s k)
    case piece6 => exact xc' m c _ h q (by have e1 : k.val = _ := e1; omega) _ _ (pcs_read m c ⟨0, h⟩ _) rfl x s j e0 (by have e1 : k.val = _ := e1; omega)
    case piece5 => exact r' m c _ h q (by have e1 : k.val = _ := e1; omega) _ _ (pcs_read m c ⟨0, h⟩ _) rfl _ _ x s j e0 (by have e1 : k.val = _ := e1; omega)
    case piece1 => exact g' m c _ h q (by have e1 : k.val = _ := e1; omega) _ _ (pcs_read m c ⟨0, h⟩ _) rfl x s j e0 (by have e1 : k.val = _ := e1; omega)
    case piece4 => exact i' m c _ h q (by have e1 : k.val = _ := e1; omega) _ _ (pcs_read m c ⟨0, h⟩ _) rfl _ _ x s j e0 (by have e1 : k.val = _ := e1; omega)
    all_goals
      have e1 : k.val = _ := e1
      exfalso
      omega
  · rw [outsAt0_B m c ⟨n, h⟩ z]
    frame_out
    rw [read_unread_whole, wf, read_unread_whole]
    have hu : (outsAt0 m c (n - 1) (by omega)).2.2.2.2.2.1 = hB m c n h := by
      cases n with
      | zero => exact absurd rfl z
      | succ n => rfl
    canon_tiles x e using View.cover_of_tiledBy _ ![432, 128] (by sl_kernel_rfl) (ix2 s k)
    case piece6 => exact xc' m c _ h q (by have e1 : k.val = _ := e1; omega) _ _ rfl hu x s j e0 (by have e1 : k.val = _ := e1; omega)
    case piece5 => exact r' m c _ h q (by have e1 : k.val = _ := e1; omega) _ _ rfl hu _ _ x s j e0 (by have e1 : k.val = _ := e1; omega)
    case piece1 => exact g' m c _ h q (by have e1 : k.val = _ := e1; omega) _ _ rfl hu x s j e0 (by have e1 : k.val = _ := e1; omega)
    case piece4 => exact i' m c _ h q (by have e1 : k.val = _ := e1; omega) _ _ rfl hu _ _ x s j e0 (by have e1 : k.val = _ := e1; omega)
    all_goals
      have e1 : k.val = _ := e1
      exfalso
      omega

/-- What is said of an element in the returned columns. -/
def At10 (i : S8208x4608.Idx) (v : EReal) : Prop := ∀ (q : Nat) (_ : q < 3 ∨ q = 5) (j : Fin 512), (i 1).val = 1024 + q * 512 + j.val → v = AX m c q (i 0) j

theorem emb10 (n : Nat) (h : n < cfg0.N) (s : Fin 432) (k : Fin 4608) :
    (win0_10.blk ⟨n, h⟩).view.emb (ix2 s k) = (ix2 (row n h s) k : S8208x4608.Idx) := by
  blk_ext [idx ⟨n, h⟩]

theorem arr10 (i : S8208x4608.Idx) : At10 m c i ((dats m 0 c).arrAt 10 cfg0.N i) := by
  refine (dats m 0 c).arrAt_forall_of_covers 10 (At10 m c) (by decide +kernel) (fun t hf y => ?_) i
  blk_simp
  rw [after0_10]
  obtain ⟨n, h⟩ := t
  idx_vars y
  refine Eq.mpr (congrArg (fun i => At10 m c i ((outsAt0 m c n h).2.2.2.1 (ix2 y0 y1))) (emb10 n h y0 y1)) fun q hq j hj => ?_
  exact out10 m c n h q hq y0 y1 j hj

theorem left10 : Pipeline.withArrays spec0 c (V0 m c) (fun w => (dats m 0 c).arrAt w cfg0.N) (Proc.devRef .tc main_v40_3) = (dats m 0 c).arrAt 10 cfg0.N :=
  Pipeline.withArrays_arr spec0 (by decide +kernel) c (V0 m c) (fun w => (dats m 0 c).arrAt w cfg0.N) 10

theorem tail41 : Pipeline.afterTail₀ cfgs (dats m) 0 (V0 m) [hostOps1] c main_v41
    = extractStridedSlice S8208x1536 ![0, 1024] ((dats m 0 c).arrAt 10 cfg0.N : S8208x4608.Idx → EReal) slices_S8208x4608_S8208x1536_0_1024 := by
  unfold Pipeline.afterTail₀
  show StableHlo.after hostOps1 _ _ = _
  after_results_simp
  rw [left10]

theorem res41 : (extractStridedSlice S8208x1536 ![0, 1024] ((dats m 0 c).arrAt 10 cfg0.N : S8208x4608.Idx → EReal) slices_S8208x4608_S8208x1536_0_1024 : S8208x1536.Idx → EReal)
    = val_main_v73 (F := Ideal) (H m c) (G m c) (W m c) (CW m c) (CB m c) (RW m c) (RB m c) (IW m c) (IB m c) := by
  have ha := arr10 m c
  generalize (dats m 0 c).arrAt 10 cfg0.N = a at ha ⊢
  funext y
  idx_vars y
  have h1 := y1.isLt
  unfold val_main_v73
  rw [concatenate_apply]
  pointwise [ref_xc, ref_r, ref_i]
  split
  · next h => exact ha (ix2 y0 _) 0 (Or.inl (by decide)) ⟨y1.val, h⟩ (by show 1024 + y1.val = 1024 + 0 * 512 + y1.val; omega)
  · next h =>
    split
    · next h' => exact ha (ix2 y0 _) 1 (Or.inl (by decide)) ⟨y1.val - 512, h'⟩ (by show 1024 + y1.val = 1024 + 1 * 512 + (y1.val - 512); omega)
    · next h' => exact ha (ix2 y0 _) 2 (Or.inl (by decide)) ⟨y1.val - 512 - 512, by omega⟩ (by show 1024 + y1.val = 1024 + 2 * 512 + (y1.val - 512 - 512); omega)

theorem tail42 : Pipeline.afterTail₀ cfgs (dats m) 0 (V0 m) [hostOps1] c main_v42
    = extractStridedSlice S8208x512 ![0, 3584] ((dats m 0 c).arrAt 10 cfg0.N : S8208x4608.Idx → EReal) slices_S8208x4608_S8208x512_0_3584 := by
  unfold Pipeline.afterTail₀
  show StableHlo.after hostOps1 _ _ = _
  after_results_simp
  rw [left10]

theorem res42 : (extractStridedSlice S8208x512 ![0, 3584] ((dats m 0 c).arrAt 10 cfg0.N : S8208x4608.Idx → EReal) slices_S8208x4608_S8208x512_0_3584 : S8208x512.Idx → EReal)
    = val_main_v87 (F := Ideal) (H m c) (G m c) (W m c) := by
  have ha := arr10 m c
  generalize (dats m 0 c).arrAt 10 cfg0.N = a at ha ⊢
  funext y
  idx_vars y
  rw [ref_gl]
  pointwise []
  exact ha (ix2 y0 _) 5 (Or.inr rfl) y1 (by show 3584 + y1.val = 1024 + 5 * 512 + y1.val; omega)

/-- The call returns the projected rows, the convolved rows with the two gates, and the gated unit, and leaves its arguments alone. -/
theorem run_named (ρ : Dev nD → PrngReg) : θ_run defs (onTc (τ := τ) (main (F := Ideal))) ⟨m, fun _ => 0, ρ⟩ (fun r => ∀ c : Dev nD,
      r.2.mem ((c.tc : Thread nD τ).loc main_v40_0) = (dats m 0 c).arrAt 7 cfg0.N
      ∧ r.2.mem ((c.tc : Thread nD τ).loc main_v41) = Pipeline.afterTail₀ cfgs (dats m) 0 (V0 m) [hostOps1] c main_v41
      ∧ r.2.mem ((c.tc : Thread nD τ).loc main_v42) = Pipeline.afterTail₀ cfgs (dats m) 0 (V0 m) [hostOps1] c main_v42
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h.1 c).1 7, (h.1 c).2 main_v41 (Pipeline.mem_restRefs_of main_v41 (by decide) (by decide)),
      (h.1 c).2 main_v42 (Pipeline.mem_restRefs_of main_v42 (by decide) (by decide)), h.2 c⟩)
    (θ_run_and (run_main m ρ) (frame_of m ρ (dats m) (A_eq m) (run_main m ρ)))

end Cert.Proof.Conv

end
-- ==== Proof.Out.lean ====
/- The gradients of the output projection: the kernel walks the rows in nineteen tiles, takes the rows' cotangent tile by tile and adds each
   tile's product to the matrix's gradient; the reference takes each product whole. No finiteness is needed. -/
module

public import proofs.«01_k».proof.Proof.Common
public import proofs.«01_k».proof.Proof.Gen.Kernel8Ideal.Value
public import proofs.«01_k».proof.Proof.Gen.Reference8Ideal.Read

@[expose] public section

set_option maxRecDepth 16384

noncomputable section

namespace Cert.Proof.Out

open Idealize.ShloMosaic Idealize.ShloMosaic.TcCoe Idealize.SL.Sem

open Cert.Kernel8Ideal Cert.Kernel8Ideal.Gen Cert.Kernel8Ideal.Value

open Cert.Reference8Ideal.Read (val_main_v2 val_main_v1 val_main_v3)

variable (m : (ℓ : Loc nD τ sig) → Buf (Elt Ideal) ℓ) (c : Dev nD)

/-- The arguments at their own types. -/
def H : S8208x1024.Idx → EReal := m ((c : Thread nD τ).loc main_arg0)
def Y : S8208x1024.Idx → EReal := m ((c : Thread nD τ).loc main_arg1)
def W : S1024x1024.Idx → EReal := m ((c : Thread nD τ).loc main_arg2)
/-- The region's entry arrays at their own types. -/
def EH : S8208x1024.Idx → EReal := V m c main_arg0
def EY : S8208x1024.Idx → EReal := V m c main_v0
def EW : S1024x1024.Idx → EReal := V m c main_v1

theorem eH : EH m c = H m c := by
  show StableHlo.after hostOps0 _ _ = _
  after_results_simp
  rfl
theorem eY : EY m c = Y m c := by
  show StableHlo.after hostOps0 _ _ = _
  after_results_simp
  rfl
theorem eW : EW m c = W m c := by
  show StableHlo.after hostOps0 _ _ = _
  after_results_simp
  rfl

/-- The windows' block indices: the rows' tile is the grid coordinate, the matrices are whole. -/
theorem idx : ∀ t : Fin cfg0.N, win0_0.index t = ![t.val, 0] ∧ win0_1.index t = ![t.val, 0]
    ∧ win0_2.index t = ![0, 0] ∧ win0_3.index t = ![t.val, 0] ∧ win0_4.index t = ![0, 0] :=
  (by decide +kernel : ∀ t : Fin grid0.N, _)

/-- Row `s` of tile `n`, as a row of the array. -/
abbrev row (n : Nat) (hn : n < cfg0.N) (s : Fin 432) : Fin 8208 :=
  ⟨n * 432 + s.val, by have := s.isLt; have := lt_of_lt_of_eq hn (show cfg0.N = 19 from N_0); omega⟩

theorem blk0 (n : Nat) (h : n < cfg0.N) (s : Fin 432) (k : Fin 1024) :
    (iblk m c 0 ⟨n, h⟩ : FVec Ideal S432x1024 .f32) (ix2 s k) = EH m c (ix2 (row n h s) k) := by
  blk_ext [iblk, EH, idx ⟨n, h⟩]

theorem blk1 (n : Nat) (h : n < cfg0.N) (s : Fin 432) (k : Fin 1024) :
    (iblk m c 1 ⟨n, h⟩ : FVec Ideal S432x1024 .bf16) (ix2 s k) = EY m c (ix2 (row n h s) k) := by
  blk_ext [iblk, EY, idx ⟨n, h⟩]

theorem blk2 (n : Nat) (h : n < cfg0.N) (j k : Fin 1024) :
    (iblk m c 2 ⟨n, h⟩ : FVec Ideal S1024x1024 .bf16) (ix2 j k) = EW m c (ix2 j k) := by
  blk_ext [iblk, EW, idx ⟨n, h⟩]

theorem emb3 (n : Nat) (h : n < cfg0.N) (s : Fin 432) (k : Fin 1024) :
    (win0_3.blk ⟨n, h⟩).view.emb (ix2 s k) = (ix2 (row n h s) k : S8208x1024.Idx) := by
  blk_ext [idx ⟨n, h⟩]

theorem emb4 (t : Fin cfg0.N) (j k : Fin 1024) :
    (win0_4.blk t).view.emb (ix2 j k) = (ix2 j k : S1024x1024.Idx) := by
  blk_ext [idx t]

/-- One tile's rows of the cotangent. -/
theorem after3 (t : Fin cfg0.N) : (outsAt0 m c t.val t.isLt).1 = k0_pay3 (F := Ideal) (iblk m c 0 t) (iblk m c 2 t) := by
  by_cases z : t.val % 19 = 0
  · rw [outsAt0_A m c t z]
    frame_out
  · rw [outsAt0_B m c t z]
    frame_out

theorem arr3 : (dats m 0 c).arrAt 3 cfg0.N = val_main_v3 (F := Ideal) (H m c) (W m c) := by
  refine (dats m 0 c).arrAt_eq_of_covers 3 _ (by decide +kernel) fun t hf y => ?_
  blk_simp
  rw [after0_3, after3]
  obtain ⟨n, h⟩ := t
  idx_vars y
  refine Eq.trans ?_ (congrArg (val_main_v3 (F := Ideal) (H m c) (W m c)) (emb3 n h y0 y1).symm)
  pointwise [k0_pay3, k0_pay2, val_main_v3, blk0, blk2, eH, eW]

/-- The last tile. -/
theorem last (t : Fin cfg0.N) (z : t.val % 19 = 18) : t.val + 1 = cfg0.N := by
  have h := lt_of_lt_of_eq t.isLt (show cfg0.N = 19 from N_0)
  exact (show t.val + 1 = 19 by omega).trans N_0.symm

/-- The matrix's gradient: the tiles' products, added up over the grid. -/
theorem arr4 : (dats m 0 c).arrAt 4 cfg0.N = val_main_v2 (F := Ideal) (H m c) (Y m c) := by
  refine (dats m 0 c).arrAt_eq_of_covers 4 _ (by decide +kernel) fun t hf y => ?_
  blk_simp
  rw [after0_4]
  have z : t.val % 19 = 18 := by have := (flush0_4 t).mp hf; omega
  rw [Pipeline.eq_sum_fin_of_reset_step_apply_last (fun n h => (outsAt0 m c n h).2) 19 (fun _ => 0)
    (fun t (i : S1024x1024.Idx) => k0_pay4 (F := Ideal) (iblk m c 0 t) (fun _ => 0) (iblk m c 1 t) i)
    (fun t z i => ?_) (fun t z i => ?_) (le_of_eq N_0) t (last t z)]
  · idx_vars y
    refine Eq.trans ?_ (congrArg (val_main_v2 (F := Ideal) (H m c) (Y m c)) (emb4 t y0 y1).symm)
    have e : val_main_v2 (F := Ideal) (H m c) (Y m c) (ix2 y0 y1)
        = ∑ s : Fin 8208, Y m c (ix2 s y0) * H m c (ix2 s y1) := by
      pointwise [val_main_v2, val_main_v1]
      exact Finset.sum_congr rfl fun s _ => mul_comm _ _
    rw [e, Fin.sum_univ_tiles 19 432 rfl]
    have hs : (∑ p : Fin 19, k0_pay4 (F := Ideal) (iblk m c 0 p) (fun _ => 0) (iblk m c 1 p) (ix2 y0 y1) : EReal)
        = ∑ p : Fin 19, ∑ s : Fin 432, Y m c (ix2 (row p.val p.isLt s) y0) * H m c (ix2 (row p.val p.isLt s) y1) := by
      refine Finset.sum_congr rfl fun p _ => ?_
      obtain ⟨n, h⟩ := p
      pointwise [k0_pay4, k0_pay2, blk0, blk1, eH, eY]
    exact (zero_add (_ : EReal)).trans hs
  · rw [outsAt0_A m c t z]
    frame_out
    idx_vars i
    pointwise [k0_pay4, k0_pay2, k0_pay1]
  · rw [outsAt0_B m c t z]
    frame_out
    idx_vars i
    pointwise [k0_pay4, k0_pay2]

end Cert.Proof.Out

end
-- ==== Proof.Fpool.lean ====
/- The pool half of the forward call before the MLP, read as a function of its arguments. -/
module

public import proofs.«01_k».proof.Proof.PoolMath
public import proofs.«01_k».proof.Proof.Gen.Kernel9Ideal.Frame
public import proofs.«01_k».proof.Proof.Gen.Reference9Ideal.Read
public import Idealize.ShloMosaic.Lib.Pipeline.ReadBack
public import Idealize.ShloMosaic.Lib.KernelVsHost
public import Idealize.ShloMosaic.Lib.StableHlo.RunRead

@[expose] public section

set_option maxRecDepth 16384
set_option maxHeartbeats 1000000

noncomputable section

namespace Cert.Proof.Fpool

open Idealize.ShloMosaic Idealize.ShloMosaic.TcCoe Idealize.ShloMosaic.Tactic Idealize.SL.Sem

open Cert.Kernel9Ideal Cert.Kernel9Ideal.Gen

open Cert.Reference9Ideal.Read

variable (m : (ℓ : Loc nD τ sig) → Buf (Elt Ideal) ℓ) (c : Dev nD)

/-- The arguments: residual stream, gain, projection, the pool's matrices, offsets and scales, and the norm's gains. -/
def H : S8208x1024.Idx → EReal := m ((c : Thread nD τ).loc main_arg0)
def G : S1024.Idx → EReal := m ((c : Thread nD τ).loc main_arg1)
def W : S1024x1536.Idx → EReal := m ((c : Thread nD τ).loc main_arg2)
def PW : S4x128x128.Idx → EReal := m ((c : Thread nD τ).loc main_arg3)
def PB : S512.Idx → EReal := m ((c : Thread nD τ).loc main_arg4)
def PS : S512.Idx → EReal := m ((c : Thread nD τ).loc main_arg5)
def GN : S1024.Idx → EReal := m ((c : Thread nD τ).loc main_arg13)

/-- Column `e` of quarter `q` of the projection. -/
abbrev col (q : Fin 4) (e : Fin 384) : Fin 1536 := ⟨q.val * 384 + e.val, by have := q.isLt; have := e.isLt; omega⟩
theorem idx : ∀ t : Fin cfg0.N, win0_0.index t = ![t.val, 0] ∧ win0_1.index t = ![0, 0] ∧ win0_2.index t = ![0, 0, 0]
    ∧ win0_3.index t = ![0, 0] ∧ win0_4.index t = ![0, 0, 0] ∧ win0_8.index t = ![t.val, 0] :=
  (by decide +kernel : ∀ t : Fin grid0.N, _)

/-- Row `s` of tile `n`, as a row of the array. -/
abbrev row (n : Nat) (hn : n < cfg0.N) (s : Fin 432) : Fin 8208 :=
  ⟨n * 432 + s.val, by have := s.isLt; have := lt_of_lt_of_eq hn (show cfg0.N = 19 from N_0); omega⟩

theorem blk0 (n : Nat) (h : n < cfg0.N) (s : Fin 432) (k : Fin 1024) :
    (iblk m c 0 ⟨n, h⟩ : FVec Ideal S432x1024 .f32) (ix2 s k) = H m c (ix2 (row n h s) k) := by
  have e : (V m c main_arg0 : S8208x1024.Idx → EReal) = H m c := V_main_arg0 m c
  rw [← e]
  blk_ext [iblk, idx ⟨n, h⟩]
theorem blk1 (n : Nat) (h : n < cfg0.N) (k : Fin 1024) :
    (iblk m c 1 ⟨n, h⟩ : FVec Ideal S1x1024 .f32) (ix2 0 k) = G m c (ix1 k) := by
  have e : (V m c main_v12 : S1x1024.Idx → EReal) = broadcastInDim S1x1024 ![1] bcast_S1024_S1x1024_1 (G m c) := by
    show StableHlo.after hostOps0 _ _ = _
    after_results_simp
    rfl
  refine Eq.trans (b := (V m c main_v12 : S1x1024.Idx → EReal) (ix2 0 k)) ?_ ?_
  · blk_ext [iblk, idx ⟨n, h⟩]
  · rw [e]
    pointwise []
theorem blk2 (n : Nat) (h : n < cfg0.N) (q : Fin 4) (k : Fin 1024) (e : Fin 384) :
    (iblk m c 2 ⟨n, h⟩ : FVec Ideal S4x1024x384 .bf16) (ix3 q k e) = W m c (ix2 k (col q e)) := by
  have w : (V m c main_v2 : S4x1024x384.Idx → EReal) = transpose S4x1024x384 [1, 0, 2]
      (shapeCast _ (truncf (F := Ideal) .bf16 (W m c : FVec Ideal S1024x1536 .f32) bitsLt_bf16_f32) shapeCasts_S1024x1536_S1024x4x384)
      transposes_S1024x4x384_S4x1024x384_1_0_2 := by
    show StableHlo.after hostOps0 _ _ = _
    after_results_simp
    rfl
  refine Eq.trans (b := (V m c main_v2 : S4x1024x384.Idx → EReal) (ix3 q k e)) ?_ ?_
  · blk_ext [iblk, idx ⟨n, h⟩]
  · rw [w]
    pointwise []

theorem ldW (n : Nat) (h : n < cfg0.N) (q : Fin 4) (o : Nat) (ho : o = q.val) (inb) (k : Fin 1024) (e : Fin 384) :
    View.ld (iblk m c 2 ⟨n, h⟩ : FVec Ideal S4x1024x384 .bf16) (Rect.unit ![o, 0, 0] ![1, 1024, 384] inb) (ix3 0 k e) = W m c (ix2 k (col q e)) := by
  subst ho
  refine Eq.trans (congrArg (iblk m c 2 ⟨n, h⟩ : FVec Ideal S4x1024x384 .bf16) ?_) (blk2 m c n h q k e)
  funext a
  apply Fin.ext
  match a with
  | ⟨0, _⟩ => show q.val + 1 * 0 = q.val; omega
  | ⟨1, _⟩ => show 0 + 1 * k.val = k.val; omega
  | ⟨2, _⟩ => show 0 + 1 * e.val = e.val; omega

/-- The mean square of a row plus the constant, the normalised rows and the projected rows. -/
def VV (t : Fin 8208) : EReal :=
  Ideal.div (∑ j : Fin 1024, H m c (ix2 t j) * H m c (ix2 t j)) (Ideal.ofBits .f32 0x44800000#32) + Ideal.ofBits .f32 0x358637BD#32
def XN (t : Fin 8208) (k : Fin 1024) : EReal := H m c (ix2 t k) * Ideal.rsqrt (VV m c t) * G m c (ix1 k)
def PJ (t : Fin 8208) (e : Fin 1536) : EReal := ∑ k : Fin 1024, XN m c t k * W m c (ix2 k e)

theorem ref_v (t : Fin 8208) : val_main_v6 (F := Ideal) (H m c) (ix2 t 0) = VV m c t := by
  pointwise [val_main_v6, val_main_v5, val_main_v4, val_main_v3, val_main_v2, val_main_v1, val_main_v0, val_main_cst, val_main_cst_0, val_main_cst_1, VV]

theorem ref_xn (t : Fin 8208) (k : Fin 1024) : val_main_v12 (F := Ideal) (H m c) (G m c) (ix2 t k) = XN m c t k := by
  pointwise [val_main_v12, val_main_v11, val_main_v10, val_main_v9, val_main_v8, val_main_v7, ref_v, XN]

theorem ref_pj (t : Fin 8208) (e : Fin 1536) : val_main_v13 (F := Ideal) (H m c) (G m c) (W m c) (ix2 t e) = PJ m c t e := by
  pointwise [val_main_v13, ref_xn, PJ]

/-- The four quarters the first tile stores into the scratch. -/
def pcs (t : Fin cfg0.N) : List (View.Piece (Elt Ideal) S1024x1536 .bf16) :=
  [⟨Rect.unit ![0, 1152] ![1024, 384] inb_S1024x1536_S1024x384_0_1152,
      k0_pay7 (View.ld (iblk m c 2 t) (Rect.unit ![3, 0, 0] ![1, 1024, 384] inb_S4x1024x384_S1x1024x384_3_0_0))⟩,
    ⟨Rect.unit ![0, 768] ![1024, 384] inb_S1024x1536_S1024x384_0_768,
      k0_pay6 (View.ld (iblk m c 2 t) (Rect.unit ![2, 0, 0] ![1, 1024, 384] inb_S4x1024x384_S1x1024x384_2_0_0))⟩,
    ⟨Rect.unit ![0, 384] ![1024, 384] inb_S1024x1536_S1024x384_0_384,
      k0_pay5 (View.ld (iblk m c 2 t) (Rect.unit ![1, 0, 0] ![1, 1024, 384] inb_S4x1024x384_S1x1024x384_1_0_0))⟩,
    ⟨Rect.unit ![0, 0] ![1024, 384] inb_S1024x1536_S1024x384_0_0,
      k0_pay4 (View.ld (iblk m c 2 t) (Rect.unit ![0, 0, 0] ![1, 1024, 384] inb_S4x1024x384_S1x1024x384_0_0_0))⟩]

theorem pay4 (w : FVec Ideal S1x1024x384 .bf16) (k : Fin 1024) (e : Fin 384) : k0_pay4 (F := Ideal) w (ix2 k e) = w (ix3 0 k e) := by
  pointwise [k0_pay4]

/-- Together they are the projection's matrix. -/
theorem pcs_canon (t : Fin cfg0.N) : View.canon (pcs m c t) = W m c := by
  obtain ⟨n, l⟩ := t
  have key : ∀ (q : Fin 4) (o p : Nat) (ho : o = q.val * 384) (hp : p = q.val) (i) (x : S1024x384.Idx) (k : Fin 1024) (e : Fin 1536), k.val = (x 0).val → e.val = o + (x 1).val →
      k0_pay4 (F := Ideal) (View.ld (iblk m c 2 ⟨n, l⟩ : FVec Ideal S4x1024x384 .bf16) (Rect.unit ![p, 0, 0] ![1, 1024, 384] i)) x = W m c (ix2 k e) := by
    intro q o p ho hp i x k e e0 e1
    idx_vars x
    rw [pay4, ldW m c n l q p hp]
    refine congrArg (W m c) (congrArg₂ ix2 (Fin.ext e0.symm) (Fin.ext ?_))
    show q.val * 384 + x1.val = e.val
    rw [← ho]
    exact e1.symm
  funext y
  idx_vars y
  unfold pcs
  canon_tiles x h
  · exact key 3 _ _ rfl rfl _ x _ _ h0 h1
  · exact key 2 _ _ rfl rfl _ x _ _ h0 h1
  · exact key 1 _ _ rfl rfl _ x _ _ h0 h1
  · exact key 0 _ _ rfl rfl _ x _ _ h0 (h1.trans (Nat.zero_add _).symm)

theorem pcs_read (t : Fin cfg0.N) (inb) : (View.whole cc0_scratch0).readCov (Val := Elt Ideal) (pcs m c t) (Rect.unit ![0, 0] ![1024, 1536] inb).toLoadRect = W m c := by
  rw [View.readCov_eq_canon', pcs_canon]
  funext j
  refine congrArg (W m c) ?_
  funext a
  apply Fin.ext
  match a with
  | ⟨0, _⟩ => show 0 + 1 * (j 0).val = (j 0).val; omega
  | ⟨1, _⟩ => show 0 + 1 * (j 1).val = (j 1).val; omega

/-- The scratch holds the projection's matrix from the first tile on. -/
theorem wf (n : Nat) (h : n < cfg0.N) : (outsAt0 m c n h).2.2.2.2.1 = W m c := by
  induction n with
  | zero =>
    rw [outsAt0_A m c ⟨0, h⟩ rfl]
    frame_out
    exact pcs_canon m c ⟨0, h⟩
  | succ n ih =>
    have z' : ¬ (n + 1) % 19 = 0 := by have := lt_of_lt_of_eq h (show cfg0.N = 19 from N_0); omega
    rw [outsAt0_B m c ⟨n + 1, h⟩ z']
    refine Eq.trans ?_ (ih (Nat.lt_of_succ_lt h))
    unfold sout0_B_0
    rfl

/-- The projected rows of tile `t` as the body holds them. -/
def pjB (t : Fin cfg0.N) : FVec Ideal S432x1536 .f32 := k0_pay10 (iblk m c 0 t) (iblk m c 1 t) (W m c : FVec Ideal S1024x1536 .bf16)

theorem pjB_apply (n : Nat) (h : n < cfg0.N) (s : Fin 432) (e : Fin 1536) : pjB m c ⟨n, h⟩ (ix2 s e) = PJ m c (row n h s) e := by
  pointwise [pjB, k0_pay10, blk0, blk1, PJ, XN, VV]

/-- The packed vectors of the windows' third array. -/
def XV : S16x512.Idx → EReal := concatenate S16x512 0
  [⟨S1x512, broadcastInDim S1x512 ![1] bcast_S512_S1x512_1 (PB m c)⟩, ⟨S1x512, broadcastInDim S1x512 ![1] bcast_S512_S1x512_1 (PS m c)⟩,
    ⟨S1x512, (StableHlo.upto hostOps0 (fun b => m (c, b)) 12 (Proc.devRef .tc main_v5) : S1x512.Idx → EReal)⟩,
    ⟨S1x512, (StableHlo.upto hostOps0 (fun b => m (c, b)) 12 (Proc.devRef .tc main_v6) : S1x512.Idx → EReal)⟩,
    ⟨S1x512, (StableHlo.upto hostOps0 (fun b => m (c, b)) 12 (Proc.devRef .tc main_v7) : S1x512.Idx → EReal)⟩,
    ⟨S1x512, (StableHlo.upto hostOps0 (fun b => m (c, b)) 12 (Proc.devRef .tc main_v8) : S1x512.Idx → EReal)⟩,
    ⟨S4x512, (StableHlo.upto hostOps0 (fun b => m (c, b)) 12 (Proc.devRef .tc main_arg6) : S4x512.Idx → EReal)⟩,
    ⟨S2x512, shapeCast S2x512 (GN m c) shapeCasts_S1024_S2x512⟩,
    ⟨S4x512, (StableHlo.upto hostOps0 (fun b => m (c, b)) 12 (Proc.devRef .tc main_v10) : S4x512.Idx → EReal)⟩]
  concatenates_S1x512_S1x512_S1x512_S1x512_S1x512_S1x512_S4x512_S2x512_S4x512_S16x512_d0

theorem read3 : (StableHlo.upto hostOps0 (fun b => m (c, b)) 12 (Proc.devRef .tc main_v3) : S1x512.Idx → EReal) = broadcastInDim S1x512 ![1] bcast_S512_S1x512_1 (PB m c) := by
  after_reads_simp
  rfl
theorem read4 : (StableHlo.upto hostOps0 (fun b => m (c, b)) 12 (Proc.devRef .tc main_v4) : S1x512.Idx → EReal) = broadcastInDim S1x512 ![1] bcast_S512_S1x512_1 (PS m c) := by
  after_reads_simp
  rfl
theorem read9 : (StableHlo.upto hostOps0 (fun b => m (c, b)) 12 (Proc.devRef .tc main_v9) : S2x512.Idx → EReal) = shapeCast S2x512 (GN m c) shapeCasts_S1024_S2x512 := by
  after_reads_simp
  rfl

theorem cut11 (x : S16x512.Idx → EReal) (hx : x = concatenate S16x512 0
    [⟨S1x512, (StableHlo.upto hostOps0 (fun b => m (c, b)) 12 (Proc.devRef .tc main_v3) : S1x512.Idx → EReal)⟩,
    ⟨S1x512, (StableHlo.upto hostOps0 (fun b => m (c, b)) 12 (Proc.devRef .tc main_v4) : S1x512.Idx → EReal)⟩,
    ⟨S1x512, (StableHlo.upto hostOps0 (fun b => m (c, b)) 12 (Proc.devRef .tc main_v5) : S1x512.Idx → EReal)⟩,
    ⟨S1x512, (StableHlo.upto hostOps0 (fun b => m (c, b)) 12 (Proc.devRef .tc main_v6) : S1x512.Idx → EReal)⟩,
    ⟨S1x512, (StableHlo.upto hostOps0 (fun b => m (c, b)) 12 (Proc.devRef .tc main_v7) : S1x512.Idx → EReal)⟩,
    ⟨S1x512, (StableHlo.upto hostOps0 (fun b => m (c, b)) 12 (Proc.devRef .tc main_v8) : S1x512.Idx → EReal)⟩,
    ⟨S4x512, (StableHlo.upto hostOps0 (fun b => m (c, b)) 12 (Proc.devRef .tc main_arg6) : S4x512.Idx → EReal)⟩,
    ⟨S2x512, (StableHlo.upto hostOps0 (fun b => m (c, b)) 12 (Proc.devRef .tc main_v9) : S2x512.Idx → EReal)⟩,
    ⟨S4x512, (StableHlo.upto hostOps0 (fun b => m (c, b)) 12 (Proc.devRef .tc main_v10) : S4x512.Idx → EReal)⟩]
  concatenates_S1x512_S1x512_S1x512_S1x512_S1x512_S1x512_S4x512_S2x512_S4x512_S16x512_d0) : x = XV m c := by
  subst hx
  rw [read3, read4, read9]
  rfl

theorem eV : (V m c main_v11 : S16x512.Idx → EReal) = XV m c := by
  show StableHlo.after hostOps0 _ _ = _
  after_reads_simp
  exact cut11 m c _ rfl

theorem xv0 (j : Fin 512) : XV m c (ix2 0 j) = PB m c (ix1 j) := by
  unfold XV
  pointwise []
theorem xv1 (j : Fin 512) : XV m c (ix2 1 j) = PS m c (ix1 j) := by
  unfold XV
  pointwise []
theorem xv10 (j : Fin 512) : XV m c (ix2 10 j) = GN m c (ix1 (Pool.wide j)) := by
  unfold XV
  pointwise []

theorem eW : (V m c main_v13 : S4x128x128.Idx → EReal) = PW m c := by
  show StableHlo.after hostOps0 _ _ = _
  after_results_simp
  rfl
theorem blk4 (n : Nat) (h : n < cfg0.N) (g : Fin 4) (a b : Fin 128) :
    (iblk m c 4 ⟨n, h⟩ : FVec Ideal S4x128x128 .bf16) (ix3 g a b) = PW m c (ix3 g a b) := by
  rw [← eW]
  blk_ext [iblk, idx ⟨n, h⟩]

theorem blk3 (n : Nat) (h : n < cfg0.N) (r : Fin 16) (k : Fin 512) :
    (iblk m c 3 ⟨n, h⟩ : FVec Ideal S16x512 .f32) (ix2 r k) = XV m c (ix2 r k) := by
  rw [← eV]
  blk_ext [iblk, idx ⟨n, h⟩]
/-- Row `k` of the projected rows with sixteen zero rows in front. -/
def Val (k : Nat) (e : Fin 1536) : EReal := if h : 16 ≤ k ∧ k < 8224 then PJ m c ⟨k - 16, by omega⟩ e else 0

omit m c in
theorem hread (t : Fin cfg0.N) (w : FVec Ideal S432x1536 .f32) (i i') (s : Fin 16) (e : Fin 1536) :
    k0_pay12 (F := Ideal) ((ms0_7 t).view.readCov (Val := Elt Ideal) [⟨Rect.unit ![0, 0] ![432, 1536] i, w⟩] (Rect.unit (s := S432x1536) ![416, 0] ![16, 1536] i').toLoadRect) (ix2 s e)
      = w (ix2 ⟨416 + s.val, by have := s.isLt; omega⟩ e) := by
  rw [View.readCov_eq_canon']
  have hx : ∀ x : FVec Ideal S16x1536 .f32, k0_pay12 (F := Ideal) x (ix2 s e) = x (ix2 s e) := fun x => by pointwise [k0_pay12]
  refine (hx _).trans ?_
  have hc := View.canon_cons_emb (Val := Elt Ideal) (e := .f32) (Rect.unit (s := S432x1536) ![0, 0] ![432, 1536] i) w [] (ix2 ⟨416 + s.val, by have := s.isLt; omega⟩ e)
  refine Eq.trans ?_ hc
  generalize View.canon (Val := Elt Ideal) [(⟨Rect.unit (s := S432x1536) ![0, 0] ![432, 1536] i, w⟩ : View.Piece (Elt Ideal) S432x1536 .f32)] = v
  refine congrArg v ?_
  funext a
  apply Fin.ext
  match a with
  | ⟨0, _⟩ => show 416 + 1 * s.val = 0 + 1 * (416 + s.val); omega
  | ⟨1, _⟩ => show 0 + 1 * e.val = 0 + 1 * e.val; omega

/-- The halo kept after tile `n`: the last rows of its projection. -/
theorem hl (n : Nat) (h : n < cfg0.N) (s : Fin 16) (e : Fin 1536) : (outsAt0 m c n h).2.2.2.2.2.1 (ix2 s e) = PJ m c (row n h ⟨416 + s.val, by have := s.isLt; omega⟩) e := by
  refine Eq.trans ?_ (pjB_apply m c n h ⟨416 + s.val, by have := s.isLt; omega⟩ e)
  unfold pjB
  by_cases z : n % 19 = 0
  · rw [outsAt0_A m c ⟨n, h⟩ z]
    frame_out
    rw [← pcs_read m c ⟨n, h⟩ inb_S1024x1536_S1024x1536_0_0]
    exact hread ⟨n, h⟩ _ _ _ s _
  · rw [outsAt0_B m c ⟨n, h⟩ z]
    frame_out
    rw [read_unread_whole, wf]
    exact hread ⟨n, h⟩ _ _ _ s _

/-- The halo a tile finds and the rows of its projection with the halo in front. -/
def hB : (n : Nat) → n < cfg0.N → FVec Ideal S16x1536 .f32
  | 0, _ => k0_pay9
  | n + 1, h => (outsAt0 m c n (Nat.lt_of_succ_lt h)).2.2.2.2.2.1
def uB (t : Fin cfg0.N) : FVec Ideal S448x1536 .f32 := k0_pay11 (iblk m c 0 t) (iblk m c 1 t) (W m c : FVec Ideal S1024x1536 .bf16) (hB m c t.val t.isLt)
def vB (t : Fin cfg0.N) : FVec Ideal S16x512 .f32 := k0_pay13 (iblk m c 3 t)

theorem hB_apply (n : Nat) (h : n < cfg0.N) (s : Fin 16) (e : Fin 1536) : hB m c n h (ix2 s e) = Val m c (n * 432 + s.val) e := by
  have hs := s.isLt
  have hN := lt_of_lt_of_eq h (show cfg0.N = 19 from N_0)
  unfold Val
  cases n with
  | zero =>
    rw [dif_neg (by omega)]
    pointwise [hB, k0_pay9]
  | succ n =>
    rw [dif_pos (by omega)]
    refine (hl m c n (Nat.lt_of_succ_lt h) s e).trans (congrArg (fun r => PJ m c r e) (Fin.ext ?_))
    show n * 432 + (416 + s.val) = (n + 1) * 432 + s.val - 16
    omega

theorem uB_apply (n : Nat) (h : n < cfg0.N) (s : Fin 448) (e : Fin 1536) : uB m c ⟨n, h⟩ (ix2 s e) = Val m c (n * 432 + s.val) e := by
  have hs := s.isLt
  have hN := lt_of_lt_of_eq h (show cfg0.N = 19 from N_0)
  have hp : ∀ s e, k0_pay10 (F := Ideal) (iblk m c 0 ⟨n, h⟩) (iblk m c 1 ⟨n, h⟩) (W m c : FVec Ideal S1024x1536 .bf16) (ix2 s e) = PJ m c (row n h s) e := pjB_apply m c n h
  unfold uB k0_pay11
  rw [concatenate_apply]
  pointwise [hB_apply, hp]
  split
  · rfl
  · next h16 =>
    have h16 : ¬ s.val < 16 := h16
    unfold Val
    rw [dif_pos (by omega)]
    refine congrArg (fun r => PJ m c r e) (Fin.ext ?_)
    show n * 432 + (s.val - 16) = n * 432 + s.val - 16
    omega

theorem vB_apply (n : Nat) (h : n < cfg0.N) (r : Fin 16) (j : Fin 512) : vB m c ⟨n, h⟩ (ix2 r j) = XV m c (ix2 r j) := by
  pointwise [vB, k0_pay13, blk3]

end Cert.Proof.Fpool

namespace Cert.Proof.Fpool

open Cert.Kernel9Ideal Cert.Kernel9Ideal.Gen Idealize.ShloMosaic Idealize.ShloMosaic.TcCoe

/-- A window's sum over the rows before `p`. -/
def S (k : Nat) (g : Nat → EReal) (p : Nat) : EReal := ∑ i ∈ Finset.range k, g (p - i)

theorem S_two (k : Nat) (g : Nat → EReal) (p : Nat) : S k g p + S k g (p - k) = S (k + k) g p := by
  unfold S
  rw [Finset.sum_range_add]
  refine congrArg₂ (fun a b : EReal => a + b) rfl (Finset.sum_congr rfl fun i _ => ?_)
  rw [Nat.sub_sub]

theorem S_one (g : Nat → EReal) (p : Nat) : S 1 g p = g p := by
  unfold S
  rw [Finset.sum_range_one]
  rfl

def A1 (x : FVec Ideal S448x128 .f32) : FVec Ideal S448x128 .f32 := addf x (dynamicRotate 0 1#32 none x rotates_S448x128_d0)
theorem A1_apply (x : FVec Ideal S448x128 .f32) (e : Fin 128) (g : Nat → EReal) (lo : Nat) (hx : ∀ p : Fin 448, lo ≤ p.val → x (ix2 p e) = S 1 g p.val) (p : Fin 448) (hp : lo + 1 ≤ p.val) :
    A1 x (ix2 p e) = S 2 g p.val := by
  have hl := p.isLt
  refine Eq.trans ?_ (S_two 1 g p.val)
  have h0 := hx p (by omega)
  have h1 := hx ⟨p.val - 1, by omega⟩ (by show lo ≤ p.val - 1; omega)
  rw [← h0]
  refine Eq.trans ?_ (congrArg (fun z : EReal => x (ix2 p e) + z) h1)
  have hr : ∀ q : Fin 448, q.val = p.val - 1 → x (ix2 q e) = x (ix2 ⟨p.val - 1, by omega⟩ e) := fun q hq => congrArg (fun r => x (ix2 r e)) (Fin.ext hq)
  pointwise [A1]
  exact congrArg (fun z : EReal => x (ix2 p e) + z) (hr _ (by show (p.val + 448 - 1) % 448 = p.val - 1; omega))

def A2 (x : FVec Ideal S448x128 .f32) : FVec Ideal S448x128 .f32 := addf x (dynamicRotate 0 2#32 none x rotates_S448x128_d0)
theorem A2_apply (x : FVec Ideal S448x128 .f32) (e : Fin 128) (g : Nat → EReal) (lo : Nat) (hx : ∀ p : Fin 448, lo ≤ p.val → x (ix2 p e) = S 2 g p.val) (p : Fin 448) (hp : lo + 2 ≤ p.val) :
    A2 x (ix2 p e) = S 4 g p.val := by
  have hl := p.isLt
  refine Eq.trans ?_ (S_two 2 g p.val)
  have h0 := hx p (by omega)
  have h1 := hx ⟨p.val - 2, by omega⟩ (by show lo ≤ p.val - 2; omega)
  rw [← h0]
  refine Eq.trans ?_ (congrArg (fun z : EReal => x (ix2 p e) + z) h1)
  have hr : ∀ q : Fin 448, q.val = p.val - 2 → x (ix2 q e) = x (ix2 ⟨p.val - 2, by omega⟩ e) := fun q hq => congrArg (fun r => x (ix2 r e)) (Fin.ext hq)
  pointwise [A2]
  exact congrArg (fun z : EReal => x (ix2 p e) + z) (hr _ (by show (p.val + 448 - 2) % 448 = p.val - 2; omega))

def A4 (x : FVec Ideal S448x128 .f32) : FVec Ideal S448x128 .f32 := addf x (dynamicRotate 0 4#32 none x rotates_S448x128_d0)
theorem A4_apply (x : FVec Ideal S448x128 .f32) (e : Fin 128) (g : Nat → EReal) (lo : Nat) (hx : ∀ p : Fin 448, lo ≤ p.val → x (ix2 p e) = S 4 g p.val) (p : Fin 448) (hp : lo + 4 ≤ p.val) :
    A4 x (ix2 p e) = S 8 g p.val := by
  have hl := p.isLt
  refine Eq.trans ?_ (S_two 4 g p.val)
  have h0 := hx p (by omega)
  have h1 := hx ⟨p.val - 4, by omega⟩ (by show lo ≤ p.val - 4; omega)
  rw [← h0]
  refine Eq.trans ?_ (congrArg (fun z : EReal => x (ix2 p e) + z) h1)
  have hr : ∀ q : Fin 448, q.val = p.val - 4 → x (ix2 q e) = x (ix2 ⟨p.val - 4, by omega⟩ e) := fun q hq => congrArg (fun r => x (ix2 r e)) (Fin.ext hq)
  pointwise [A4]
  exact congrArg (fun z : EReal => x (ix2 p e) + z) (hr _ (by show (p.val + 448 - 4) % 448 = p.val - 4; omega))

def A8 (x : FVec Ideal S448x128 .f32) : FVec Ideal S448x128 .f32 := addf x (dynamicRotate 0 8#32 none x rotates_S448x128_d0)
theorem A8_apply (x : FVec Ideal S448x128 .f32) (e : Fin 128) (g : Nat → EReal) (lo : Nat) (hx : ∀ p : Fin 448, lo ≤ p.val → x (ix2 p e) = S 8 g p.val) (p : Fin 448) (hp : lo + 8 ≤ p.val) :
    A8 x (ix2 p e) = S 16 g p.val := by
  have hl := p.isLt
  refine Eq.trans ?_ (S_two 8 g p.val)
  have h0 := hx p (by omega)
  have h1 := hx ⟨p.val - 8, by omega⟩ (by show lo ≤ p.val - 8; omega)
  rw [← h0]
  refine Eq.trans ?_ (congrArg (fun z : EReal => x (ix2 p e) + z) h1)
  have hr : ∀ q : Fin 448, q.val = p.val - 8 → x (ix2 q e) = x (ix2 ⟨p.val - 8, by omega⟩ e) := fun q hq => congrArg (fun r => x (ix2 r e)) (Fin.ext hq)
  pointwise [A8]
  exact congrArg (fun z : EReal => x (ix2 p e) + z) (hr _ (by show (p.val + 448 - 8) % 448 = p.val - 8; omega))

/-- The window's sum over the count less the row. -/
def tailP (w x : FVec Ideal S448x128 .f32) (cnt : FVec Ideal S432x1 .f32) (b : BitVec 32) : FVec Ideal S432x128 .f32 :=
  subf (mulf (extractStridedSlice S432x128 ![16, 0] w slices_S448x128_o16_0_S432x128)
    (broadcastTo S432x128 (divf (broadcast S432x1 (Scalar.ofBits (F := Ideal) .f32 0x3F800000#32)) (minimumf cnt (broadcast S432x1 (Scalar.ofBits (F := Ideal) .f32 b)))) broadcasts_S432x1_S432x128))
    (extractStridedSlice S432x128 ![16, 0] x slices_S448x128_o16_0_S432x128)

theorem tailP_apply (w x : FVec Ideal S448x128 .f32) (cnt : FVec Ideal S432x1 .f32) (b : BitVec 32) (s : Fin 432) (e : Fin 128) :
    tailP w x cnt b (ix2 s e) = w (ix2 ⟨16 + s.val, by have := s.isLt; omega⟩ e) * Ideal.div (Ideal.ofBits .f32 0x3F800000#32) (min (cnt (ix2 s 0)) (Ideal.ofBits .f32 b))
      - x (ix2 ⟨16 + s.val, by have := s.isLt; omega⟩ e) := by
  pointwise [tailP]

/-- One over the count. -/
theorem inv_of {k : Nat} (hk : 0 < k) (z : EReal) (t : Nat) (hz : z = ((t : ℝ) : EReal) + ((1 : ℝ) : EReal)) (b : EReal) (hb : b = (((k : ℕ) : ℝ) : EReal)) :
    Ideal.div (Ideal.ofBits .f32 0x3F800000#32) (min z b) = Pool.inv k t := by
  rw [Pool.bits_one, hz, hb, Pool.min_cnt, Ideal.div_coe (Pool.cnt_ne hk)]
  unfold Pool.inv
  rw [← EReal.coe_mul, one_mul]

section Tile

variable (P : S8208x1536.Idx → EReal) (PW : S4x128x128.Idx → EReal) (PB PS : S512.Idx → EReal) (GN : S1024.Idx → EReal)
  (t : Fin 8208)

/-- The padded column as a sequence. -/
def Z (j : Fin 512) (n : Nat) : EReal := if 16 ≤ n then seq (fun s => Pool.U P s j) (n - 16) else 0

variable (n : Nat) (s : Fin 432) (ht : t.val = n * 432 + s.val)

include ht in
theorem pool_at (g : Fin 4) (e : Fin 128) (k : Nat) (hk : k = Pool.K g) (hk' : k ≤ 16) (hk0 : 0 < k) (w x : FVec Ideal S448x128 .f32) (cnt : FVec Ideal S432x1 .f32) (b : BitVec 32)
    (hb : Ideal.ofBits .f32 b = (((k : ℕ) : ℝ) : EReal)) (hc : cnt (ix2 s 0) = ((t.val : ℝ) : EReal) + ((1 : ℝ) : EReal))
    (hx : ∀ p : Fin 448, x (ix2 p e) = Z P (Pool.col g e) (n * 432 + p.val))
    (hw : ∀ p : Fin 448, 16 ≤ p.val → w (ix2 p e) = S k (fun q => Z P (Pool.col g e) (n * 432 + q)) p.val) :
    tailP w x cnt b (ix2 s e) = Pool.PL P t (Pool.col g e) := by
  have hs := s.isLt
  have htl := t.isLt
  rw [tailP_apply, hw _ (by show 16 ≤ 16 + s.val; omega), hx, inv_of hk0 _ _ hc _ hb]
  unfold Pool.PL
  rw [Pool.grp_col, ← hk]
  refine congrArg₂ (fun a b : EReal => a * _ - b) (Finset.sum_congr rfl fun i hi => ?_) ?_
  · have hi := Finset.mem_range.mp hi
    show Z P (Pool.col g e) (n * 432 + (16 + s.val - i)) = _
    unfold Z
    by_cases h : i ≤ t.val
    · rw [if_pos (by omega), if_pos h, show n * 432 + (16 + s.val - i) - 16 = t.val - i by omega]
    · rw [if_neg (by omega), if_neg h]
  · show Z P (Pool.col g e) (n * 432 + (16 + s.val)) = _
    unfold Z
    rw [if_pos (by omega), show n * 432 + (16 + s.val) - 16 = t.val by omega, seq_of_lt _ htl]

variable (u : FVec Ideal S448x1536 .f32) (v : FVec Ideal S16x512 .f32) (a : BitVec 32) (b : IVec S432x1 32)
  (hu : ∀ (p : Fin 448) (j : Fin 512), u (ix2 p ⟨j.val, by have := j.isLt; omega⟩) = Z P j (n * 432 + p.val))
  (hc : k0_pay14 (F := Ideal) a b (ix2 s 0) = ((t.val : ℝ) : EReal) + ((1 : ℝ) : EReal))

def G0 (u : FVec Ideal S448x1536 .f32) : FVec Ideal S448x128 .f32 := extractStridedSlice S448x128 ![0, 0] u slices_S448x1536_o0_0_S448x128
theorem pay0_eq : k0_pay17 (F := Ideal) u a b = tailP (A1 (G0 u)) (G0 u) (k0_pay14 (F := Ideal) a b) 0x40000000#32 := rfl
include hu in
theorem G0_apply (p : Fin 448) (e : Fin 128) : G0 u (ix2 p e) = Z P (Pool.col 0 e) (n * 432 + p.val) := by
  refine Eq.trans ?_ (hu p (Pool.col 0 e))
  have hq : ∀ q : Fin 1536, q.val = 0 * 128 + e.val → u (ix2 p q) = u (ix2 p ⟨(Pool.col 0 e).val, by have := (Pool.col 0 e).isLt; omega⟩) := fun q h => congrArg (fun r => u (ix2 p r)) (Fin.ext h)
  pointwise [G0]
include hu hc ht in
theorem pool0 (e : Fin 128) : k0_pay17 (F := Ideal) u a b (ix2 s e) = Pool.PL P t (Pool.col 0 e) := by
  rw [pay0_eq]
  have gx : ∀ p, G0 u (ix2 p e) = Z P (Pool.col 0 e) (n * 432 + p.val) := fun p => by first | exact G0_apply P n u hu p e | exact G0_apply P t n u hu p e | exact G0_apply P t n s u hu p e | exact G0_apply P t n s ht u hu p e
  refine pool_at P t n s ht 0 e 2 (by decide) (by decide) (by decide) _ _ _ _ Pool.bits_2 hc gx fun p hp => ?_
  exact (A1_apply _ e _ (0) (fun p _ => (gx p).trans (S_one _ _).symm)) p (by omega)

def G1 (u : FVec Ideal S448x1536 .f32) : FVec Ideal S448x128 .f32 := extractStridedSlice S448x128 ![0, 128] u slices_S448x1536_o0_128_S448x128
theorem pay1_eq : k0_pay19 (F := Ideal) u a b = tailP (A2 (A1 (G1 u))) (G1 u) (k0_pay14 (F := Ideal) a b) 0x40800000#32 := rfl
include hu in
theorem G1_apply (p : Fin 448) (e : Fin 128) : G1 u (ix2 p e) = Z P (Pool.col 1 e) (n * 432 + p.val) := by
  refine Eq.trans ?_ (hu p (Pool.col 1 e))
  have hq : ∀ q : Fin 1536, q.val = 1 * 128 + e.val → u (ix2 p q) = u (ix2 p ⟨(Pool.col 1 e).val, by have := (Pool.col 1 e).isLt; omega⟩) := fun q h => congrArg (fun r => u (ix2 p r)) (Fin.ext h)
  pointwise [G1]
include hu hc ht in
theorem pool1 (e : Fin 128) : k0_pay19 (F := Ideal) u a b (ix2 s e) = Pool.PL P t (Pool.col 1 e) := by
  rw [pay1_eq]
  have gx : ∀ p, G1 u (ix2 p e) = Z P (Pool.col 1 e) (n * 432 + p.val) := fun p => by first | exact G1_apply P n u hu p e | exact G1_apply P t n u hu p e | exact G1_apply P t n s u hu p e | exact G1_apply P t n s ht u hu p e
  refine pool_at P t n s ht 1 e 4 (by decide) (by decide) (by decide) _ _ _ _ Pool.bits_4 hc gx fun p hp => ?_
  exact (A2_apply _ e _ (0 + 1) (A1_apply _ e _ (0) (fun p _ => (gx p).trans (S_one _ _).symm))) p (by omega)

def G2 (u : FVec Ideal S448x1536 .f32) : FVec Ideal S448x128 .f32 := extractStridedSlice S448x128 ![0, 256] u slices_S448x1536_o0_256_S448x128
theorem pay2_eq : k0_pay22 (F := Ideal) u (k0_pay14 a b) = tailP (A4 (A2 (A1 (G2 u)))) (G2 u) (k0_pay14 (F := Ideal) a b) 0x41000000#32 := rfl
include hu in
theorem G2_apply (p : Fin 448) (e : Fin 128) : G2 u (ix2 p e) = Z P (Pool.col 2 e) (n * 432 + p.val) := by
  refine Eq.trans ?_ (hu p (Pool.col 2 e))
  have hq : ∀ q : Fin 1536, q.val = 2 * 128 + e.val → u (ix2 p q) = u (ix2 p ⟨(Pool.col 2 e).val, by have := (Pool.col 2 e).isLt; omega⟩) := fun q h => congrArg (fun r => u (ix2 p r)) (Fin.ext h)
  pointwise [G2]
include hu hc ht in
theorem pool2 (e : Fin 128) : k0_pay22 (F := Ideal) u (k0_pay14 a b) (ix2 s e) = Pool.PL P t (Pool.col 2 e) := by
  rw [pay2_eq]
  have gx : ∀ p, G2 u (ix2 p e) = Z P (Pool.col 2 e) (n * 432 + p.val) := fun p => by first | exact G2_apply P n u hu p e | exact G2_apply P t n u hu p e | exact G2_apply P t n s u hu p e | exact G2_apply P t n s ht u hu p e
  refine pool_at P t n s ht 2 e 8 (by decide) (by decide) (by decide) _ _ _ _ Pool.bits_8 hc gx fun p hp => ?_
  exact (A4_apply _ e _ (0 + 1 + 2) (A2_apply _ e _ (0 + 1) (A1_apply _ e _ (0) (fun p _ => (gx p).trans (S_one _ _).symm)))) p (by omega)

def G3 (u : FVec Ideal S448x1536 .f32) : FVec Ideal S448x128 .f32 := extractStridedSlice S448x128 ![0, 384] u slices_S448x1536_o0_384_S448x128
theorem pay3_eq : k0_pay24 (F := Ideal) u (k0_pay14 a b) = tailP (A8 (A4 (A2 (A1 (G3 u))))) (G3 u) (k0_pay14 (F := Ideal) a b) 0x41800000#32 := rfl
include hu in
theorem G3_apply (p : Fin 448) (e : Fin 128) : G3 u (ix2 p e) = Z P (Pool.col 3 e) (n * 432 + p.val) := by
  refine Eq.trans ?_ (hu p (Pool.col 3 e))
  have hq : ∀ q : Fin 1536, q.val = 3 * 128 + e.val → u (ix2 p q) = u (ix2 p ⟨(Pool.col 3 e).val, by have := (Pool.col 3 e).isLt; omega⟩) := fun q h => congrArg (fun r => u (ix2 p r)) (Fin.ext h)
  pointwise [G3]
include hu hc ht in
theorem pool3 (e : Fin 128) : k0_pay24 (F := Ideal) u (k0_pay14 a b) (ix2 s e) = Pool.PL P t (Pool.col 3 e) := by
  rw [pay3_eq]
  have gx : ∀ p, G3 u (ix2 p e) = Z P (Pool.col 3 e) (n * 432 + p.val) := fun p => by first | exact G3_apply P n u hu p e | exact G3_apply P t n u hu p e | exact G3_apply P t n s u hu p e | exact G3_apply P t n s ht u hu p e
  refine pool_at P t n s ht 3 e 16 (by decide) (by decide) (by decide) _ _ _ _ Pool.bits_16 hc gx fun p hp => ?_
  exact (A8_apply _ e _ (0 + 1 + 2 + 4) (A4_apply _ e _ (0 + 1 + 2) (A2_apply _ e _ (0 + 1) (A1_apply _ e _ (0) (fun p _ => (gx p).trans (S_one _ _).symm))))) p (by omega)

variable (hv0 : ∀ j : Fin 512, v (ix2 0 j) = PB (ix1 j)) (hv1 : ∀ j : Fin 512, v (ix2 1 j) = PS (ix1 j)) (hv10 : ∀ j : Fin 512, v (ix2 10 j) = GN (ix1 (Pool.wide j)))
  (w0 w1 w2 w3 : FVec Ideal S1x128x128 .bf16)
  (hw0 : ∀ i e, w0 (ix3 0 i e) = PW (ix3 0 i e)) (hw1 : ∀ i e, w1 (ix3 0 i e) = PW (ix3 1 i e))
  (hw2 : ∀ i e, w2 (ix3 0 i e) = PW (ix3 2 i e)) (hw3 : ∀ i e, w3 (ix3 0 i e) = PW (ix3 3 i e))

def y0 (u : FVec Ideal S448x1536 .f32) (v : FVec Ideal S16x512 .f32) (a : BitVec 32) (b : IVec S432x1 32) (w0 : FVec Ideal S1x128x128 .bf16) : FVec Ideal S432x128 .f32 :=
  k0_pay27 (F := Ideal) (k0_pay16 v) (k0_pay18 u v a b w0)
include ht hu hc hv0 hv1 hw0 in
theorem y0_apply (e : Fin 128) : y0 u v a b w0 (ix2 s e) = Pool.Y P PW PB PS t (Pool.col 0 e) := by
  have hp := pool0 P t n s ht u a b hu hc
  unfold Pool.Y Pool.M
  rw [Pool.grp_col, Pool.lane_col, ← hv0, ← hv1]
  have hq : ∀ (r : Fin 16) (q : Fin 512), q.val = 0 * 128 + e.val → v (ix2 r q) = v (ix2 r (Pool.col 0 e)) := fun r q h => congrArg (fun z => v (ix2 r z)) (Fin.ext h)
  pointwise [y0, k0_pay27, k0_pay18, k0_pay16, k0_pay15, hp, hw0]
  refine congrArg₂ (fun a b : EReal => a * b) (congrArg₂ (fun a b : EReal => a + b) (Finset.sum_congr rfl fun i _ => mul_comm _ _) (hq 0 _ ?_)) (hq 1 _ ?_)
  all_goals first | (show 0 + e.val = _; omega) | (show e.val = _; omega)

def y1 (u : FVec Ideal S448x1536 .f32) (v : FVec Ideal S16x512 .f32) (a : BitVec 32) (b : IVec S432x1 32) (w1 : FVec Ideal S1x128x128 .bf16) : FVec Ideal S432x128 .f32 :=
  k0_pay28 (F := Ideal) (k0_pay16 v) (k0_pay21 (k0_pay15 v) (k0_pay20 u a b w1))
include ht hu hc hv0 hv1 hw1 in
theorem y1_apply (e : Fin 128) : y1 u v a b w1 (ix2 s e) = Pool.Y P PW PB PS t (Pool.col 1 e) := by
  have hp := pool1 P t n s ht u a b hu hc
  unfold Pool.Y Pool.M
  rw [Pool.grp_col, Pool.lane_col, ← hv0, ← hv1]
  have hq : ∀ (r : Fin 16) (q : Fin 512), q.val = 1 * 128 + e.val → v (ix2 r q) = v (ix2 r (Pool.col 1 e)) := fun r q h => congrArg (fun z => v (ix2 r z)) (Fin.ext h)
  pointwise [y1, k0_pay28, k0_pay21, k0_pay20, k0_pay16, k0_pay15, hp, hw1]
  refine congrArg₂ (fun a b : EReal => a * b) (congrArg₂ (fun a b : EReal => a + b) (Finset.sum_congr rfl fun i _ => mul_comm _ _) (hq 0 _ ?_)) (hq 1 _ ?_)
  all_goals first | (show 128 + e.val = _; omega) | (show e.val = _; omega)

def y2 (u : FVec Ideal S448x1536 .f32) (v : FVec Ideal S16x512 .f32) (a : BitVec 32) (b : IVec S432x1 32) (w2 : FVec Ideal S1x128x128 .bf16) : FVec Ideal S432x128 .f32 :=
  k0_pay29 (F := Ideal) (k0_pay16 v) (k0_pay23 u (k0_pay14 a b) (k0_pay15 v) w2)
include ht hu hc hv0 hv1 hw2 in
theorem y2_apply (e : Fin 128) : y2 u v a b w2 (ix2 s e) = Pool.Y P PW PB PS t (Pool.col 2 e) := by
  have hp := pool2 P t n s ht u a b hu hc
  unfold Pool.Y Pool.M
  rw [Pool.grp_col, Pool.lane_col, ← hv0, ← hv1]
  have hq : ∀ (r : Fin 16) (q : Fin 512), q.val = 2 * 128 + e.val → v (ix2 r q) = v (ix2 r (Pool.col 2 e)) := fun r q h => congrArg (fun z => v (ix2 r z)) (Fin.ext h)
  pointwise [y2, k0_pay29, k0_pay23, k0_pay16, k0_pay15, hp, hw2]
  refine congrArg₂ (fun a b : EReal => a * b) (congrArg₂ (fun a b : EReal => a + b) (Finset.sum_congr rfl fun i _ => mul_comm _ _) (hq 0 _ ?_)) (hq 1 _ ?_)
  all_goals first | (show 256 + e.val = _; omega) | (show e.val = _; omega)

def y3 (u : FVec Ideal S448x1536 .f32) (v : FVec Ideal S16x512 .f32) (a : BitVec 32) (b : IVec S432x1 32) (w3 : FVec Ideal S1x128x128 .bf16) : FVec Ideal S432x128 .f32 :=
  k0_pay30 (F := Ideal) (k0_pay15 v) (k0_pay16 v) (k0_pay25 u (k0_pay14 a b)) w3
include ht hu hc hv0 hv1 hw3 in
theorem y3_apply (e : Fin 128) : y3 u v a b w3 (ix2 s e) = Pool.Y P PW PB PS t (Pool.col 3 e) := by
  have hp := pool3 P t n s ht u a b hu hc
  unfold Pool.Y Pool.M
  rw [Pool.grp_col, Pool.lane_col, ← hv0, ← hv1]
  have hq : ∀ (r : Fin 16) (q : Fin 512), q.val = 3 * 128 + e.val → v (ix2 r q) = v (ix2 r (Pool.col 3 e)) := fun r q h => congrArg (fun z => v (ix2 r z)) (Fin.ext h)
  pointwise [y3, k0_pay30, k0_pay26, k0_pay25, k0_pay16, k0_pay15, hp, hw3]
  refine congrArg₂ (fun a b : EReal => a * b) (congrArg₂ (fun a b : EReal => a + b) (Finset.sum_congr rfl fun i _ => mul_comm _ _) (hq 0 _ ?_)) (hq 1 _ ?_)
  all_goals first | (show 384 + e.val = _; omega) | (show e.val = _; omega)

end Tile

section Norm

variable (P : S8208x1536.Idx → EReal) (PW : S4x128x128.Idx → EReal) (PB PS : S512.Idx → EReal) (GN : S1024.Idx → EReal)
  (t : Fin 8208) (s : Fin 432) (v : FVec Ideal S16x512 .f32) (hv10 : ∀ j : Fin 512, v (ix2 10 j) = GN (ix1 (Pool.wide j)))
  (z0 z1 z2 z3 : FVec Ideal S432x128 .f32)
  (h0 : ∀ e, z0 (ix2 s e) = Pool.Y P PW PB PS t (Pool.col 0 e)) (h1 : ∀ e, z1 (ix2 s e) = Pool.Y P PW PB PS t (Pool.col 1 e))
  (h2 : ∀ e, z2 (ix2 s e) = Pool.Y P PW PB PS t (Pool.col 2 e)) (h3 : ∀ e, z3 (ix2 s e) = Pool.Y P PW PB PS t (Pool.col 3 e))

include h0 h1 h2 h3 in
theorem scale_apply : k0_pay108 (F := Ideal) z0 z1 z2 z3 (ix2 s 0) = Ideal.rsqrt (Pool.VV P PW PB PS t) := by
  unfold Pool.VV
  rw [Fin.sum_univ_tiles 4 128 rfl, Fin.sum_univ_four]
  pointwise [k0_pay108, h0, h1, h2, h3]
  try rfl

include h0 h1 h2 h3 hv10 in
theorem o0 (e : Fin 128) : k0_pay110 (F := Ideal) v z0 z1 z2 z3 (ix2 s e) = Pool.N P PW PB PS t (Pool.col 0 e) * GN (ix1 (Pool.wide (Pool.col 0 e))) := by
  have hr := scale_apply P PW PB PS t s z0 z1 z2 z3 h0 h1 h2 h3
  unfold Pool.N
  rw [← hv10]
  have hq : ∀ q : Fin 512, q.val = 0 * 128 + e.val → v (ix2 10 q) = v (ix2 10 (Pool.col 0 e)) := fun q h => congrArg (fun z => v (ix2 10 z)) (Fin.ext h)
  pointwise [k0_pay110, k0_pay111, k0_pay1, k0_pay2, k0_pay109, k0_pay112, hr, h0, h1, h2, h3]
  refine congrArg (fun b : EReal => _ * b) (hq _ ?_)
  first | (show 0 + e.val = _; omega) | (show e.val = _; omega)

include h0 h1 h2 h3 hv10 in
theorem o1 (e : Fin 128) : k0_pay111 (F := Ideal) v z0 z1 z2 z3 (ix2 s e) = Pool.N P PW PB PS t (Pool.col 1 e) * GN (ix1 (Pool.wide (Pool.col 1 e))) := by
  have hr := scale_apply P PW PB PS t s z0 z1 z2 z3 h0 h1 h2 h3
  unfold Pool.N
  rw [← hv10]
  have hq : ∀ q : Fin 512, q.val = 1 * 128 + e.val → v (ix2 10 q) = v (ix2 10 (Pool.col 1 e)) := fun q h => congrArg (fun z => v (ix2 10 z)) (Fin.ext h)
  pointwise [k0_pay110, k0_pay111, k0_pay1, k0_pay2, k0_pay109, k0_pay112, hr, h0, h1, h2, h3]
  refine congrArg (fun b : EReal => _ * b) (hq _ ?_)
  first | (show 128 + e.val = _; omega) | (show e.val = _; omega)

include h0 h1 h2 h3 hv10 in
theorem o2 (e : Fin 128) : k0_pay1 (F := Ideal) z2 (k0_pay109 v) (k0_pay112 z0 z1 z2 z3) (ix2 s e) = Pool.N P PW PB PS t (Pool.col 2 e) * GN (ix1 (Pool.wide (Pool.col 2 e))) := by
  have hr := scale_apply P PW PB PS t s z0 z1 z2 z3 h0 h1 h2 h3
  unfold Pool.N
  rw [← hv10]
  have hq : ∀ q : Fin 512, q.val = 2 * 128 + e.val → v (ix2 10 q) = v (ix2 10 (Pool.col 2 e)) := fun q h => congrArg (fun z => v (ix2 10 z)) (Fin.ext h)
  pointwise [k0_pay110, k0_pay111, k0_pay1, k0_pay2, k0_pay109, k0_pay112, hr, h0, h1, h2, h3]
  refine congrArg (fun b : EReal => _ * b) (hq _ ?_)
  first | (show 256 + e.val = _; omega) | (show e.val = _; omega)

include h0 h1 h2 h3 hv10 in
theorem o3 (e : Fin 128) : k0_pay2 (F := Ideal) z3 (k0_pay108 z0 z1 z2 z3) (k0_pay109 v) (ix2 s e) = Pool.N P PW PB PS t (Pool.col 3 e) * GN (ix1 (Pool.wide (Pool.col 3 e))) := by
  have hr := scale_apply P PW PB PS t s z0 z1 z2 z3 h0 h1 h2 h3
  unfold Pool.N
  rw [← hv10]
  have hq : ∀ q : Fin 512, q.val = 3 * 128 + e.val → v (ix2 10 q) = v (ix2 10 (Pool.col 3 e)) := fun q h => congrArg (fun z => v (ix2 10 z)) (Fin.ext h)
  pointwise [k0_pay110, k0_pay111, k0_pay1, k0_pay2, k0_pay109, k0_pay112, hr, h0, h1, h2, h3]
  refine congrArg (fun b : EReal => _ * b) (hq _ ?_)
  first | (show 384 + e.val = _; omega) | (show e.val = _; omega)

end Norm

open Cert.Reference9Ideal.Read

variable (m : (ℓ : Loc nD τ sig) → Buf (Elt Ideal) ℓ) (c : Dev nD)

/-- The projected rows as an array, and the pool half of the output. -/
def PR : S8208x1536.Idx → EReal := val_main_v13 (F := Ideal) (H m c) (G m c) (W m c)
def OUT (t : Fin 8208) (j : Fin 512) : EReal := Pool.N (PR m c) (PW m c) (PB m c) (PS m c) t j * GN m c (ix1 (Pool.wide j))

theorem first_row : ∀ t : Fin cfg0.N, Scalar.muli (BitVec.ofNat 32 ((grid0.coords t) 0).val) 432#32 = BitVec.ofNat 32 (t.val * 432) :=
  (by decide +kernel : ∀ t : Fin grid0.N, _)

/-- The rows' numbers plus one. -/
theorem num (n : Nat) (h : n < cfg0.N) (r : Fin 432) :
    k0_pay14 (F := Ideal) (Scalar.muli (BitVec.ofNat 32 ((grid0.coords ⟨n, h⟩) 0).val) 432#32) (iota Kind.tc S432x1 32 [0] iota_S432x1_d0_w32) (ix2 r 0)
      = (((row n h r).val : ℝ) : EReal) + ((1 : ℝ) : EReal) := by
  have hr := r.isLt
  have hN := lt_of_lt_of_eq h (show cfg0.N = 19 from N_0)
  have e : ((Scalar.muli (BitVec.ofNat 32 ((grid0.coords ⟨n, h⟩) 0).val) 432#32 + BitVec.ofNat 32 r.val).toInt : ℝ) = ((row n h r).val : ℝ) := by
    rw [first_row ⟨n, h⟩, ← BitVec.ofNat_add]
    have : (BitVec.ofNat 32 (n * 432 + r.val)).toInt = ((n * 432 + r.val : Nat) : Int) := by
      have hl : (n * 432 + r.val) % 2 ^ 32 = n * 432 + r.val := Nat.mod_eq_of_lt (by omega)
      rw [BitVec.toInt_eq_toNat_of_lt (by rw [BitVec.toNat_ofNat, hl]; omega), BitVec.toNat_ofNat, hl]
    show ((BitVec.ofNat 32 (n * 432 + r.val)).toInt : ℝ) = _
    rw [this]
    push_cast
    rfl
  rw [← e, ← Pool.bits_one]
  pointwise [k0_pay14]
  rfl

theorem hu (n : Nat) (h : n < cfg0.N) (p : Fin 448) (j : Fin 512) :
    uB m c ⟨n, h⟩ (ix2 p ⟨j.val, by have := j.isLt; omega⟩) = Z (PR m c) j (n * 432 + p.val) := by
  have hp := p.isLt
  have hN := lt_of_lt_of_eq h (show cfg0.N = 19 from N_0)
  rw [uB_apply]
  unfold Val Z
  by_cases hk : 16 ≤ n * 432 + p.val
  · rw [dif_pos ⟨hk, by omega⟩, if_pos hk, seq_of_lt _ (by omega)]
    exact (ref_pj m c _ _).symm
  · rw [dif_neg (fun q => hk q.1), if_neg hk]

/-- One matrix of the four, loaded. -/
theorem slab (n : Nat) (h : n < cfg0.N) (q : Fin 4) (o : Nat) (ho : o = q.val) (inb) (k e : Fin 128) :
    (View.ld (iblk m c 4 ⟨n, h⟩ : FVec Ideal S4x128x128 .bf16) (Rect.unit ![o, 0, 0] ![1, 128, 128] inb) : FVec Ideal S1x128x128 .bf16) (ix3 0 k e) = PW m c (ix3 q k e) := by
  subst ho
  refine Eq.trans (congrArg (iblk m c 4 ⟨n, h⟩ : FVec Ideal S4x128x128 .bf16) ?_) (blk4 m c n h q k e)
  funext a
  apply Fin.ext
  match a with
  | ⟨0, _⟩ => show q.val + 1 * 0 = q.val; omega
  | ⟨1, _⟩ => show 0 + 1 * k.val = k.val; omega
  | ⟨2, _⟩ => show 0 + 1 * e.val = e.val; omega

theorem ya0 (n : Nat) (h : n < cfg0.N) (i0) (s : Fin 432) (e : Fin 128) :
    y0 (uB m c ⟨n, h⟩) (vB m c ⟨n, h⟩) (Scalar.muli (BitVec.ofNat 32 ((grid0.coords ⟨n, h⟩) 0).val) 432#32) (iota Kind.tc S432x1 32 [0] iota_S432x1_d0_w32) (View.ld (iblk m c 4 ⟨n, h⟩ : FVec Ideal S4x128x128 .bf16) (Rect.unit ![0, 0, 0] ![1, 128, 128] i0)) (ix2 s e) = Pool.Y (PR m c) (PW m c) (PB m c) (PS m c) (row n h s) (Pool.col 0 e) := by
  have q0 := slab m c n h 0 0 rfl i0
  have q1 : ∀ j : Fin 512, vB m c ⟨n, h⟩ (ix2 0 j) = PB m c (ix1 j) := fun j => (vB_apply m c n h 0 j).trans (xv0 m c j)
  have q2 : ∀ j : Fin 512, vB m c ⟨n, h⟩ (ix2 1 j) = PS m c (ix1 j) := fun j => (vB_apply m c n h 1 j).trans (xv1 m c j)
  exact y0_apply (PR m c) (PW m c) (PB m c) (PS m c) (row n h s) n s rfl _ _ _ _ (hu m c n h) (num n h s) q1 q2 _ q0 e
theorem ya1 (n : Nat) (h : n < cfg0.N) (i1) (s : Fin 432) (e : Fin 128) :
    y1 (uB m c ⟨n, h⟩) (vB m c ⟨n, h⟩) (Scalar.muli (BitVec.ofNat 32 ((grid0.coords ⟨n, h⟩) 0).val) 432#32) (iota Kind.tc S432x1 32 [0] iota_S432x1_d0_w32) (View.ld (iblk m c 4 ⟨n, h⟩ : FVec Ideal S4x128x128 .bf16) (Rect.unit ![1, 0, 0] ![1, 128, 128] i1)) (ix2 s e) = Pool.Y (PR m c) (PW m c) (PB m c) (PS m c) (row n h s) (Pool.col 1 e) := by
  have q0 := slab m c n h 1 1 rfl i1
  have q1 : ∀ j : Fin 512, vB m c ⟨n, h⟩ (ix2 0 j) = PB m c (ix1 j) := fun j => (vB_apply m c n h 0 j).trans (xv0 m c j)
  have q2 : ∀ j : Fin 512, vB m c ⟨n, h⟩ (ix2 1 j) = PS m c (ix1 j) := fun j => (vB_apply m c n h 1 j).trans (xv1 m c j)
  exact y1_apply (PR m c) (PW m c) (PB m c) (PS m c) (row n h s) n s rfl _ _ _ _ (hu m c n h) (num n h s) q1 q2 _ q0 e
theorem ya2 (n : Nat) (h : n < cfg0.N) (i2) (s : Fin 432) (e : Fin 128) :
    y2 (uB m c ⟨n, h⟩) (vB m c ⟨n, h⟩) (Scalar.muli (BitVec.ofNat 32 ((grid0.coords ⟨n, h⟩) 0).val) 432#32) (iota Kind.tc S432x1 32 [0] iota_S432x1_d0_w32) (View.ld (iblk m c 4 ⟨n, h⟩ : FVec Ideal S4x128x128 .bf16) (Rect.unit ![2, 0, 0] ![1, 128, 128] i2)) (ix2 s e) = Pool.Y (PR m c) (PW m c) (PB m c) (PS m c) (row n h s) (Pool.col 2 e) := by
  have q0 := slab m c n h 2 2 rfl i2
  have q1 : ∀ j : Fin 512, vB m c ⟨n, h⟩ (ix2 0 j) = PB m c (ix1 j) := fun j => (vB_apply m c n h 0 j).trans (xv0 m c j)
  have q2 : ∀ j : Fin 512, vB m c ⟨n, h⟩ (ix2 1 j) = PS m c (ix1 j) := fun j => (vB_apply m c n h 1 j).trans (xv1 m c j)
  exact y2_apply (PR m c) (PW m c) (PB m c) (PS m c) (row n h s) n s rfl _ _ _ _ (hu m c n h) (num n h s) q1 q2 _ q0 e
theorem ya3 (n : Nat) (h : n < cfg0.N) (i3) (s : Fin 432) (e : Fin 128) :
    y3 (uB m c ⟨n, h⟩) (vB m c ⟨n, h⟩) (Scalar.muli (BitVec.ofNat 32 ((grid0.coords ⟨n, h⟩) 0).val) 432#32) (iota Kind.tc S432x1 32 [0] iota_S432x1_d0_w32) (View.ld (iblk m c 4 ⟨n, h⟩ : FVec Ideal S4x128x128 .bf16) (Rect.unit ![3, 0, 0] ![1, 128, 128] i3)) (ix2 s e) = Pool.Y (PR m c) (PW m c) (PB m c) (PS m c) (row n h s) (Pool.col 3 e) := by
  have q0 := slab m c n h 3 3 rfl i3
  have q1 : ∀ j : Fin 512, vB m c ⟨n, h⟩ (ix2 0 j) = PB m c (ix1 j) := fun j => (vB_apply m c n h 0 j).trans (xv0 m c j)
  have q2 : ∀ j : Fin 512, vB m c ⟨n, h⟩ (ix2 1 j) = PS m c (ix1 j) := fun j => (vB_apply m c n h 1 j).trans (xv1 m c j)
  exact y3_apply (PR m c) (PW m c) (PB m c) (PS m c) (row n h s) n s rfl _ _ _ _ (hu m c n h) (num n h s) q1 q2 _ q0 e
theorem p0 (n : Nat) (h : n < cfg0.N) (w u) (hw : w = W m c) (hb : u = hB m c n h) (i0 i1 i2 i3) (x : S432x128.Idx) (s : Fin 432) (j : Fin 512) (e0 : s.val = (x 0).val) (e1 : j.val = 0 + (x 1).val) :
    k0_pay110 (F := Ideal) (k0_pay13 (iblk m c 3 ⟨n, h⟩)) (y0 (k0_pay11 (iblk m c 0 ⟨n, h⟩) (iblk m c 1 ⟨n, h⟩) w u) (k0_pay13 (iblk m c 3 ⟨n, h⟩)) (Scalar.muli (BitVec.ofNat 32 ((grid0.coords ⟨n, h⟩) 0).val) 432#32) (iota Kind.tc S432x1 32 [0] iota_S432x1_d0_w32) (View.ld (iblk m c 4 ⟨n, h⟩ : FVec Ideal S4x128x128 .bf16) (Rect.unit ![0, 0, 0] ![1, 128, 128] i0))) (y1 (k0_pay11 (iblk m c 0 ⟨n, h⟩) (iblk m c 1 ⟨n, h⟩) w u) (k0_pay13 (iblk m c 3 ⟨n, h⟩)) (Scalar.muli (BitVec.ofNat 32 ((grid0.coords ⟨n, h⟩) 0).val) 432#32) (iota Kind.tc S432x1 32 [0] iota_S432x1_d0_w32) (View.ld (iblk m c 4 ⟨n, h⟩ : FVec Ideal S4x128x128 .bf16) (Rect.unit ![1, 0, 0] ![1, 128, 128] i1))) (y2 (k0_pay11 (iblk m c 0 ⟨n, h⟩) (iblk m c 1 ⟨n, h⟩) w u) (k0_pay13 (iblk m c 3 ⟨n, h⟩)) (Scalar.muli (BitVec.ofNat 32 ((grid0.coords ⟨n, h⟩) 0).val) 432#32) (iota Kind.tc S432x1 32 [0] iota_S432x1_d0_w32) (View.ld (iblk m c 4 ⟨n, h⟩ : FVec Ideal S4x128x128 .bf16) (Rect.unit ![2, 0, 0] ![1, 128, 128] i2))) (y3 (k0_pay11 (iblk m c 0 ⟨n, h⟩) (iblk m c 1 ⟨n, h⟩) w u) (k0_pay13 (iblk m c 3 ⟨n, h⟩)) (Scalar.muli (BitVec.ofNat 32 ((grid0.coords ⟨n, h⟩) 0).val) 432#32) (iota Kind.tc S432x1 32 [0] iota_S432x1_d0_w32) (View.ld (iblk m c 4 ⟨n, h⟩ : FVec Ideal S4x128x128 .bf16) (Rect.unit ![3, 0, 0] ![1, 128, 128] i3))) x = OUT m c (row n h s) j := by
  subst hw hb
  idx_vars x
  obtain rfl : s = x0 := Fin.ext e0
  obtain rfl : j = Pool.col 0 x1 := Fin.ext (by have e1 : j.val = 0 + x1.val := e1; show j.val = 0 * 128 + x1.val; omega)
  exact o0 (PR m c) (PW m c) (PB m c) (PS m c) (GN m c) (row n h s) s (vB m c ⟨n, h⟩) (fun j => (vB_apply m c n h 10 j).trans (xv10 m c j)) _ _ _ _
    (ya0 m c n h i0 s) (ya1 m c n h i1 s) (ya2 m c n h i2 s) (ya3 m c n h i3 s) x1

theorem p1 (n : Nat) (h : n < cfg0.N) (w u) (hw : w = W m c) (hb : u = hB m c n h) (i0 i1 i2 i3) (x : S432x128.Idx) (s : Fin 432) (j : Fin 512) (e0 : s.val = (x 0).val) (e1 : j.val = 128 + (x 1).val) :
    k0_pay111 (F := Ideal) (k0_pay13 (iblk m c 3 ⟨n, h⟩)) (y0 (k0_pay11 (iblk m c 0 ⟨n, h⟩) (iblk m c 1 ⟨n, h⟩) w u) (k0_pay13 (iblk m c 3 ⟨n, h⟩)) (Scalar.muli (BitVec.ofNat 32 ((grid0.coords ⟨n, h⟩) 0).val) 432#32) (iota Kind.tc S432x1 32 [0] iota_S432x1_d0_w32) (View.ld (iblk m c 4 ⟨n, h⟩ : FVec Ideal S4x128x128 .bf16) (Rect.unit ![0, 0, 0] ![1, 128, 128] i0))) (y1 (k0_pay11 (iblk m c 0 ⟨n, h⟩) (iblk m c 1 ⟨n, h⟩) w u) (k0_pay13 (iblk m c 3 ⟨n, h⟩)) (Scalar.muli (BitVec.ofNat 32 ((grid0.coords ⟨n, h⟩) 0).val) 432#32) (iota Kind.tc S432x1 32 [0] iota_S432x1_d0_w32) (View.ld (iblk m c 4 ⟨n, h⟩ : FVec Ideal S4x128x128 .bf16) (Rect.unit ![1, 0, 0] ![1, 128, 128] i1))) (y2 (k0_pay11 (iblk m c 0 ⟨n, h⟩) (iblk m c 1 ⟨n, h⟩) w u) (k0_pay13 (iblk m c 3 ⟨n, h⟩)) (Scalar.muli (BitVec.ofNat 32 ((grid0.coords ⟨n, h⟩) 0).val) 432#32) (iota Kind.tc S432x1 32 [0] iota_S432x1_d0_w32) (View.ld (iblk m c 4 ⟨n, h⟩ : FVec Ideal S4x128x128 .bf16) (Rect.unit ![2, 0, 0] ![1, 128, 128] i2))) (y3 (k0_pay11 (iblk m c 0 ⟨n, h⟩) (iblk m c 1 ⟨n, h⟩) w u) (k0_pay13 (iblk m c 3 ⟨n, h⟩)) (Scalar.muli (BitVec.ofNat 32 ((grid0.coords ⟨n, h⟩) 0).val) 432#32) (iota Kind.tc S432x1 32 [0] iota_S432x1_d0_w32) (View.ld (iblk m c 4 ⟨n, h⟩ : FVec Ideal S4x128x128 .bf16) (Rect.unit ![3, 0, 0] ![1, 128, 128] i3))) x = OUT m c (row n h s) j := by
  subst hw hb
  idx_vars x
  obtain rfl : s = x0 := Fin.ext e0
  obtain rfl : j = Pool.col 1 x1 := Fin.ext (by have e1 : j.val = 128 + x1.val := e1; show j.val = 1 * 128 + x1.val; omega)
  exact o1 (PR m c) (PW m c) (PB m c) (PS m c) (GN m c) (row n h s) s (vB m c ⟨n, h⟩) (fun j => (vB_apply m c n h 10 j).trans (xv10 m c j)) _ _ _ _
    (ya0 m c n h i0 s) (ya1 m c n h i1 s) (ya2 m c n h i2 s) (ya3 m c n h i3 s) x1

theorem p2 (n : Nat) (h : n < cfg0.N) (w u) (hw : w = W m c) (hb : u = hB m c n h) (i0 i1 i2 i3) (x : S432x128.Idx) (s : Fin 432) (j : Fin 512) (e0 : s.val = (x 0).val) (e1 : j.val = 256 + (x 1).val) :
    k0_pay1 (F := Ideal) (y2 (k0_pay11 (iblk m c 0 ⟨n, h⟩) (iblk m c 1 ⟨n, h⟩) w u) (k0_pay13 (iblk m c 3 ⟨n, h⟩)) (Scalar.muli (BitVec.ofNat 32 ((grid0.coords ⟨n, h⟩) 0).val) 432#32) (iota Kind.tc S432x1 32 [0] iota_S432x1_d0_w32) (View.ld (iblk m c 4 ⟨n, h⟩ : FVec Ideal S4x128x128 .bf16) (Rect.unit ![2, 0, 0] ![1, 128, 128] i2))) (k0_pay109 (k0_pay13 (iblk m c 3 ⟨n, h⟩))) (k0_pay112 (y0 (k0_pay11 (iblk m c 0 ⟨n, h⟩) (iblk m c 1 ⟨n, h⟩) w u) (k0_pay13 (iblk m c 3 ⟨n, h⟩)) (Scalar.muli (BitVec.ofNat 32 ((grid0.coords ⟨n, h⟩) 0).val) 432#32) (iota Kind.tc S432x1 32 [0] iota_S432x1_d0_w32) (View.ld (iblk m c 4 ⟨n, h⟩ : FVec Ideal S4x128x128 .bf16) (Rect.unit ![0, 0, 0] ![1, 128, 128] i0))) (y1 (k0_pay11 (iblk m c 0 ⟨n, h⟩) (iblk m c 1 ⟨n, h⟩) w u) (k0_pay13 (iblk m c 3 ⟨n, h⟩)) (Scalar.muli (BitVec.ofNat 32 ((grid0.coords ⟨n, h⟩) 0).val) 432#32) (iota Kind.tc S432x1 32 [0] iota_S432x1_d0_w32) (View.ld (iblk m c 4 ⟨n, h⟩ : FVec Ideal S4x128x128 .bf16) (Rect.unit ![1, 0, 0] ![1, 128, 128] i1))) (y2 (k0_pay11 (iblk m c 0 ⟨n, h⟩) (iblk m c 1 ⟨n, h⟩) w u) (k0_pay13 (iblk m c 3 ⟨n, h⟩)) (Scalar.muli (BitVec.ofNat 32 ((grid0.coords ⟨n, h⟩) 0).val) 432#32) (iota Kind.tc S432x1 32 [0] iota_S432x1_d0_w32) (View.ld (iblk m c 4 ⟨n, h⟩ : FVec Ideal S4x128x128 .bf16) (Rect.unit ![2, 0, 0] ![1, 128, 128] i2))) (y3 (k0_pay11 (iblk m c 0 ⟨n, h⟩) (iblk m c 1 ⟨n, h⟩) w u) (k0_pay13 (iblk m c 3 ⟨n, h⟩)) (Scalar.muli (BitVec.ofNat 32 ((grid0.coords ⟨n, h⟩) 0).val) 432#32) (iota Kind.tc S432x1 32 [0] iota_S432x1_d0_w32) (View.ld (iblk m c 4 ⟨n, h⟩ : FVec Ideal S4x128x128 .bf16) (Rect.unit ![3, 0, 0] ![1, 128, 128] i3)))) x = OUT m c (row n h s) j := by
  subst hw hb
  idx_vars x
  obtain rfl : s = x0 := Fin.ext e0
  obtain rfl : j = Pool.col 2 x1 := Fin.ext (by have e1 : j.val = 256 + x1.val := e1; show j.val = 2 * 128 + x1.val; omega)
  exact o2 (PR m c) (PW m c) (PB m c) (PS m c) (GN m c) (row n h s) s (vB m c ⟨n, h⟩) (fun j => (vB_apply m c n h 10 j).trans (xv10 m c j)) _ _ _ _
    (ya0 m c n h i0 s) (ya1 m c n h i1 s) (ya2 m c n h i2 s) (ya3 m c n h i3 s) x1

theorem p3 (n : Nat) (h : n < cfg0.N) (w u) (hw : w = W m c) (hb : u = hB m c n h) (i0 i1 i2 i3) (x : S432x128.Idx) (s : Fin 432) (j : Fin 512) (e0 : s.val = (x 0).val) (e1 : j.val = 384 + (x 1).val) :
    k0_pay2 (F := Ideal) (y3 (k0_pay11 (iblk m c 0 ⟨n, h⟩) (iblk m c 1 ⟨n, h⟩) w u) (k0_pay13 (iblk m c 3 ⟨n, h⟩)) (Scalar.muli (BitVec.ofNat 32 ((grid0.coords ⟨n, h⟩) 0).val) 432#32) (iota Kind.tc S432x1 32 [0] iota_S432x1_d0_w32) (View.ld (iblk m c 4 ⟨n, h⟩ : FVec Ideal S4x128x128 .bf16) (Rect.unit ![3, 0, 0] ![1, 128, 128] i3))) (k0_pay108 (y0 (k0_pay11 (iblk m c 0 ⟨n, h⟩) (iblk m c 1 ⟨n, h⟩) w u) (k0_pay13 (iblk m c 3 ⟨n, h⟩)) (Scalar.muli (BitVec.ofNat 32 ((grid0.coords ⟨n, h⟩) 0).val) 432#32) (iota Kind.tc S432x1 32 [0] iota_S432x1_d0_w32) (View.ld (iblk m c 4 ⟨n, h⟩ : FVec Ideal S4x128x128 .bf16) (Rect.unit ![0, 0, 0] ![1, 128, 128] i0))) (y1 (k0_pay11 (iblk m c 0 ⟨n, h⟩) (iblk m c 1 ⟨n, h⟩) w u) (k0_pay13 (iblk m c 3 ⟨n, h⟩)) (Scalar.muli (BitVec.ofNat 32 ((grid0.coords ⟨n, h⟩) 0).val) 432#32) (iota Kind.tc S432x1 32 [0] iota_S432x1_d0_w32) (View.ld (iblk m c 4 ⟨n, h⟩ : FVec Ideal S4x128x128 .bf16) (Rect.unit ![1, 0, 0] ![1, 128, 128] i1))) (y2 (k0_pay11 (iblk m c 0 ⟨n, h⟩) (iblk m c 1 ⟨n, h⟩) w u) (k0_pay13 (iblk m c 3 ⟨n, h⟩)) (Scalar.muli (BitVec.ofNat 32 ((grid0.coords ⟨n, h⟩) 0).val) 432#32) (iota Kind.tc S432x1 32 [0] iota_S432x1_d0_w32) (View.ld (iblk m c 4 ⟨n, h⟩ : FVec Ideal S4x128x128 .bf16) (Rect.unit ![2, 0, 0] ![1, 128, 128] i2))) (y3 (k0_pay11 (iblk m c 0 ⟨n, h⟩) (iblk m c 1 ⟨n, h⟩) w u) (k0_pay13 (iblk m c 3 ⟨n, h⟩)) (Scalar.muli (BitVec.ofNat 32 ((grid0.coords ⟨n, h⟩) 0).val) 432#32) (iota Kind.tc S432x1 32 [0] iota_S432x1_d0_w32) (View.ld (iblk m c 4 ⟨n, h⟩ : FVec Ideal S4x128x128 .bf16) (Rect.unit ![3, 0, 0] ![1, 128, 128] i3)))) (k0_pay109 (k0_pay13 (iblk m c 3 ⟨n, h⟩))) x = OUT m c (row n h s) j := by
  subst hw hb
  idx_vars x
  obtain rfl : s = x0 := Fin.ext e0
  obtain rfl : j = Pool.col 3 x1 := Fin.ext (by have e1 : j.val = 384 + x1.val := e1; show j.val = 3 * 128 + x1.val; omega)
  exact o3 (PR m c) (PW m c) (PB m c) (PS m c) (GN m c) (row n h s) s (vB m c ⟨n, h⟩) (fun j => (vB_apply m c n h 10 j).trans (xv10 m c j)) _ _ _ _
    (ya0 m c n h i0 s) (ya1 m c n h i1 s) (ya2 m c n h i2 s) (ya3 m c n h i3 s) x1

theorem out8 (n : Nat) (h : n < cfg0.N) (s : Fin 432) (k : Fin 1024) (j : Fin 512) (hk : k.val = j.val) :
    (outsAt0 m c n h).2.1 (ix2 s k) = OUT m c (row n h s) j := by
  have hj := j.isLt
  by_cases z : n % 19 = 0
  · obtain rfl : n = 0 := by have := lt_of_lt_of_eq h (show cfg0.N = 19 from N_0); omega
    rw [outsAt0_A m c ⟨0, h⟩ z]
    frame_out
    canon_tiles x e using View.cover_of_tiledBy _ ![432, 128] (by sl_kernel_rfl) (ix2 s k)
    case piece4 => exact p0 m c _ h _ _ (pcs_read m c ⟨0, h⟩ _) rfl _ _ _ _ x s j e0 (by have e1 : k.val = _ := e1; omega)
    case piece3 => exact p1 m c _ h _ _ (pcs_read m c ⟨0, h⟩ _) rfl _ _ _ _ x s j e0 (by have e1 : k.val = _ := e1; omega)
    case piece2 => exact p2 m c _ h _ _ (pcs_read m c ⟨0, h⟩ _) rfl _ _ _ _ x s j e0 (by have e1 : k.val = _ := e1; omega)
    case piece1 => exact p3 m c _ h _ _ (pcs_read m c ⟨0, h⟩ _) rfl _ _ _ _ x s j e0 (by have e1 : k.val = _ := e1; omega)
    all_goals
      have e1 : k.val = _ := e1
      exfalso
      omega
  · rw [outsAt0_B m c ⟨n, h⟩ z]
    frame_out
    rw [read_unread_whole, wf, read_unread_whole]
    have hu : (outsAt0 m c (n - 1) (by omega)).2.2.2.2.2.1 = hB m c n h := by
      cases n with
      | zero => exact absurd rfl z
      | succ n => rfl
    canon_tiles x e using View.cover_of_tiledBy _ ![432, 128] (by sl_kernel_rfl) (ix2 s k)
    case piece4 => exact p0 m c _ h _ _ rfl hu _ _ _ _ x s j e0 (by have e1 : k.val = _ := e1; omega)
    case piece3 => exact p1 m c _ h _ _ rfl hu _ _ _ _ x s j e0 (by have e1 : k.val = _ := e1; omega)
    case piece2 => exact p2 m c _ h _ _ rfl hu _ _ _ _ x s j e0 (by have e1 : k.val = _ := e1; omega)
    case piece1 => exact p3 m c _ h _ _ rfl hu _ _ _ _ x s j e0 (by have e1 : k.val = _ := e1; omega)
    all_goals
      have e1 : k.val = _ := e1
      exfalso
      omega

/-- What is said of an element in the returned columns. -/
def At8 (i : S8208x1024.Idx) (v : EReal) : Prop := ∀ j : Fin 512, (i 1).val = j.val → v = OUT m c (i 0) j

theorem emb8 (n : Nat) (h : n < cfg0.N) (s : Fin 432) (k : Fin 1024) :
    (win0_8.blk ⟨n, h⟩).view.emb (ix2 s k) = (ix2 (row n h s) k : S8208x1024.Idx) := by
  blk_ext [idx ⟨n, h⟩]

theorem arr8 (i : S8208x1024.Idx) : At8 m c i ((dats m 0 c).arrAt 8 cfg0.N i) := by
  refine (dats m 0 c).arrAt_forall_of_covers 8 (At8 m c) (by decide +kernel) (fun t hf y => ?_) i
  blk_simp
  rw [after0_8]
  obtain ⟨n, h⟩ := t
  idx_vars y
  refine Eq.mpr (congrArg (fun i => At8 m c i ((outsAt0 m c n h).2.1 (ix2 y0 y1))) (emb8 n h y0 y1)) fun j hj => ?_
  exact out8 m c n h y0 y1 j hj

theorem left8 : Pipeline.withArrays spec0 c (V0 m c) (fun w => (dats m 0 c).arrAt w cfg0.N) (Proc.devRef .tc main_v40_1) = (dats m 0 c).arrAt 8 cfg0.N :=
  Pipeline.withArrays_arr spec0 (by decide +kernel) c (V0 m c) (fun w => (dats m 0 c).arrAt w cfg0.N) 8

theorem tail41 : Pipeline.afterTail₀ cfgs (dats m) 0 (V0 m) [hostOps1] c main_v41
    = extractStridedSlice S8208x512 ![0, 0] ((dats m 0 c).arrAt 8 cfg0.N : S8208x1024.Idx → EReal) slices_S8208x1024_S8208x512_0_0 := by
  unfold Pipeline.afterTail₀
  show StableHlo.after hostOps1 _ _ = _
  after_results_simp
  rw [left8]

theorem ref_pool (P : S8208x1024.Idx → EReal) (g : S1024.Idx → EReal) (w : S1024x1536.Idx → EReal) (pw : S4x128x128.Idx → EReal) (pb ps : S512.Idx → EReal) :
    val_main_v87 (F := Ideal) P g w pw pb ps = Cert.Reference5Ideal.Read.val_main_v81 (F := Ideal) (val_main_v13 (F := Ideal) P g w) pw pb ps := rfl

theorem real_pj (hH : ∀ i, IsReal (H m c i)) (hG : ∀ i, IsReal (G m c i)) (hW : ∀ i, IsReal (W m c i)) (i : S8208x1536.Idx) : IsReal (PR m c i) := by
  idx_vars i
  have e : PR m c (ix2 i0 i1) = PJ m c i0 i1 := ref_pj m c i0 i1
  rw [e]
  have hr : IsReal (Ideal.rsqrt (VV m c i0)) := rsqrt_real (fun j => H m c (ix2 i0 j)) fun j => hH _
  exact .sum _ fun k => .mul (.mul (.mul (hH _) hr) (hG _)) (hW _)

theorem ref_out (hH : ∀ i, IsReal (H m c i)) (hG : ∀ i, IsReal (G m c i)) (hW : ∀ i, IsReal (W m c i)) (t : Fin 8208) (j : Fin 512) :
    val_main_v91 (F := Ideal) (H m c) (G m c) (W m c) (PW m c) (PB m c) (PS m c) (GN m c) (ix2 t j) = OUT m c t j := by
  have hn : val_main_v87 (F := Ideal) (H m c) (G m c) (W m c) (PW m c) (PB m c) (PS m c) (ix2 t j) = Pool.N (PR m c) (PW m c) (PB m c) (PS m c) t j := by
    rw [ref_pool]
    exact Pool.ref_n (PR m c) (PW m c) (PB m c) (PS m c) (real_pj m c hH hG hW) t j
  unfold OUT
  rw [← hn]
  generalize hv : val_main_v87 (F := Ideal) (H m c) (G m c) (W m c) (PW m c) (PB m c) (PS m c) = y
  pointwise [val_main_v91, val_main_v90, val_main_v89, val_main_v88, val_main_v15, val_main_v14, hv]
  try rfl

theorem res41 (hH : ∀ i, IsReal (H m c i)) (hG : ∀ i, IsReal (G m c i)) (hW : ∀ i, IsReal (W m c i)) :
    (extractStridedSlice S8208x512 ![0, 0] ((dats m 0 c).arrAt 8 cfg0.N : S8208x1024.Idx → EReal) slices_S8208x1024_S8208x512_0_0 : S8208x512.Idx → EReal)
    = val_main_v91 (F := Ideal) (H m c) (G m c) (W m c) (PW m c) (PB m c) (PS m c) (GN m c) := by
  have ha := arr8 m c
  generalize (dats m 0 c).arrAt 8 cfg0.N = a at ha ⊢
  funext y
  idx_vars y
  rw [ref_out m c hH hG hW]
  pointwise []
  exact ha (ix2 y0 _) y1 (by first | rfl | (show y1.val = y1.val; rfl) | (show 0 + y1.val = y1.val; omega))

/-- The call returns the pool half of its output and leaves its arguments alone. -/
theorem run_named (ρ : Dev nD → PrngReg) : θ_run defs (onTc (τ := τ) (main (F := Ideal))) ⟨m, fun _ => 0, ρ⟩ (fun r => ∀ c : Dev nD,
      r.2.mem ((c.tc : Thread nD τ).loc main_v41) = Pipeline.afterTail₀ cfgs (dats m) 0 (V0 m) [hostOps1] c main_v41
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h.1 c).2 main_v41 (Pipeline.mem_restRefs_of main_v41 (by decide) (by decide)), h.2 c⟩)
    (θ_run_and (run_main m ρ) (frame_of m ρ (dats m) (A_eq m) (run_main m ρ)))

end Cert.Proof.Fpool

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Pre_finite2
public import proofs.«01_k».proof.Proof.Gen.Pre_finite3
public import proofs.«01_k».proof.Proof.Gen.Pre_finite5
public import proofs.«01_k».proof.Proof.Gen.Pre_finite9
public import proofs.«01_k».proof.Proof.MixRun
public import proofs.«01_k».proof.Proof.Dw
public import proofs.«01_k».proof.Proof.Dx
public import proofs.«01_k».proof.Proof.In
public import proofs.«01_k».proof.Proof.Post
public import proofs.«01_k».proof.Proof.MixVal
public import proofs.«01_k».proof.Proof.Fore
public import proofs.«01_k».proof.Proof.Conv
public import proofs.«01_k».proof.Proof.Out
public import proofs.«01_k».proof.Proof.Fpool
public import Idealize.ShloMosaic.Adequacy
public import Idealize.ShloMosaic.Init

@[expose] public section

noncomputable section

namespace Cert.Proof

open Idealize.ShloMosaic Idealize.ShloMosaic.TcCoe Idealize.SL.Sem

/-- The host reference of the matrix gradients runs and leaves its arguments alone. -/
theorem frame_dw : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The matrix gradients, both results. -/
theorem algebraic_dw : Cert.algebraic_KernelIdeal_ReferenceIdeal := fun m ρ m' ρ' _ hag =>
  ⟨fun c => Cert.KernelIdeal.Value.G4 m c, fun c => Cert.KernelIdeal.Value.G5 m c, Cert.KernelIdeal.Value.run m ρ,
    (θ_run _ _ _).mono (fun _ h c => by
      obtain ⟨e0, e1, e2, e3, e4, e5⟩ := hag c
      obtain ⟨r0, r1, r2⟩ := h c
      refine ⟨r0.trans ((Cert.ReferenceIdeal.Read.val_main_v22_eq _ _ _).trans (Eq.trans ?_ (Dw.dwu m c).symm)),
        r1.trans ((Cert.ReferenceIdeal.Read.val_main_v23_eq _ _ _ _).trans (Eq.trans ?_ (Dw.dwd m c).symm)), r2⟩
      · rw [e0, e1, e4]
      · rw [e0, e1, e2, e5]) (Cert.ReferenceIdeal.Value.run m' ρ')⟩

/-- The host reference of the MLP gradient runs and leaves its arguments alone. -/
theorem frame_dx : Cert.quiescent_Reference2Ideal := fun m ρ _ =>
  (θ_run Cert.Reference2Ideal.defs _ _).mono (fun r h => ⟨fun c => (h c).2.2.2.2,
      Idealize.ShloMosaic.sem_eq_zero_of_no_sems (by decide) r.2⟩)
    (Cert.Reference2Ideal.Value.run (F := Ideal) m ρ)

theorem algebraic_dx : Cert.algebraic_Kernel2Ideal_Reference2Ideal_pre_finite2 := fun m ρ m' ρ' hp hag =>
  ⟨fun c => (Cert.Kernel2Ideal.Gen.dats m 0 c).arrAt 6 Cert.Kernel2Ideal.cfg0.N, fun c => (Cert.Kernel2Ideal.Gen.dats m 0 c).arrAt 7 Cert.Kernel2Ideal.cfg0.N,
    fun c => (Cert.Kernel2Ideal.Gen.dats m 0 c).arrAt 8 Cert.Kernel2Ideal.cfg0.N, fun c => (Cert.Kernel2Ideal.Gen.dats m 0 c).arrAt 9 Cert.Kernel2Ideal.cfg0.N,
    Cert.Kernel2Ideal.Value.run_blocks m ρ,
    (θ_run _ _ _).mono (fun _ h c => by
      obtain ⟨e0, e1, e2, e3, e4⟩ := hag c
      obtain ⟨r0, r1, r2, r3, r4⟩ := h c
      obtain ⟨f0, f1, f2, f3, f4⟩ := hp c
      have hy := Dx.real_y m c (IsReal.of_finite _ _ f0) (IsReal.of_finite _ _ f1) (IsReal.of_finite _ _ f2) (IsReal.of_finite _ _ f3) (IsReal.of_finite _ _ f4)
      refine ⟨r0.trans ((Cert.Reference2Ideal.Read.val_main_v52_eq _ _).trans (Eq.trans ?_ (Dx.arr6 m c (IsReal.of_finite _ _ f0) hy).symm)),
        r1.trans ((Cert.Reference2Ideal.Read.val_main_v79_eq _ _ _ _ _).trans (Eq.trans ?_ (Dx.arr7 m c).symm)),
        r2.trans ((Cert.Reference2Ideal.Read.val_main_v80_eq _ _).trans (Eq.trans ?_ (Dx.arr8 m c).symm)),
        r3.trans ((Cert.Reference2Ideal.Read.val_main_v81_eq _ _).trans (Eq.trans ?_ (Dx.arr9 m c).symm)), r4⟩
      · rw [e0, e1, e2, e3, e4]
        rfl
      · rw [e0, e1, e2, e3, e4]
        rfl
      · rw [e0, e1]
        rfl
      · rw [e0, e1, e2, e3, e4]
        rfl) (Cert.Reference2Ideal.Value.run m' ρ')⟩

/-- The host reference of the projection gradient runs and leaves its arguments alone. -/
theorem frame_in : Cert.quiescent_Reference3Ideal := fun m ρ _ =>
  (θ_run Cert.Reference3Ideal.defs _ _).mono (fun r h => ⟨fun c => (h c).2.2.2,
      Idealize.ShloMosaic.sem_eq_zero_of_no_sems (by decide) r.2⟩)
    (Cert.Reference3Ideal.Value.run (F := Ideal) m ρ)

theorem algebraic_in : Cert.algebraic_Kernel3Ideal_Reference3Ideal_pre_finite3 := fun m ρ m' ρ' hp hag =>
  ⟨fun c => (Cert.Kernel3Ideal.Gen.dats m 0 c).arrAt 5 Cert.Kernel3Ideal.cfg0.N, fun c => (Cert.Kernel3Ideal.Gen.dats m 0 c).arrAt 6 Cert.Kernel3Ideal.cfg0.N,
    fun c => (Cert.Kernel3Ideal.Gen.dats m 0 c).arrAt 7 Cert.Kernel3Ideal.cfg0.N,
    Cert.Kernel3Ideal.Value.run_blocks m ρ,
    (θ_run _ _ _).mono (fun _ h c => by
      obtain ⟨e0, e1, e2, e3, e4⟩ := hag c
      obtain ⟨r0, r1, r2, r4⟩ := h c
      obtain ⟨f0, f1, f2, f3⟩ := hp c
      have hy := In.real_y m c (IsReal.of_finite _ _ f0) (IsReal.of_finite _ _ f2) (IsReal.of_finite _ _ f3)
      refine ⟨r0.trans ((Cert.Reference3Ideal.Read.val_main_v40_eq _ _).trans (Eq.trans ?_ (In.arr5 m c (IsReal.of_finite _ _ f1) hy).symm)),
        r1.trans ((Cert.Reference3Ideal.Read.val_main_v42_eq _ _ _).trans (Eq.trans ?_ (In.arr6 m c).symm)),
        r2.trans ((Cert.Reference3Ideal.Read.val_main_v43_eq _ _ _).trans (Eq.trans ?_ (In.arr7 m c).symm)), r4⟩
      · rw [e0, e1, e2, e3, e4]
        rfl
      · rw [e0, e1, e2]
        rfl
      · rw [e0, e1, e3]
        rfl) (Cert.Reference3Ideal.Value.run m' ρ')⟩
/-- The host reference of the loss runs and leaves its arguments alone. -/
theorem frame_post : Cert.quiescent_Reference4Ideal := fun m ρ _ =>
  (θ_run Cert.Reference4Ideal.defs _ _).mono (fun r h => ⟨fun c => (h c).2.2.2.2,
      Idealize.ShloMosaic.sem_eq_zero_of_no_sems (by decide) r.2⟩)
    (Cert.Reference4Ideal.Value.run (F := Ideal) m ρ)

/-- The call after the mixer in machine floats runs as the same text does in real arithmetic. -/
theorem frame_after [Cert.Kernel4.Facts] : Cert.quiescent_Kernel4 := fun m ρ _ =>
  Eq.mp (by sl_kernel_rfl) (Cert.Kernel4Ideal.Post.frame_any (F := Bits) m ρ)

set_option maxHeartbeats 2000000 in
/-- The call after the mixer returns the residual rows, the hidden rows, the loss and the gradient of the last gain. -/
theorem algebraic_post : Cert.algebraic_Kernel4Ideal_Reference4Ideal := fun m ρ m' ρ' _ hag =>
  ⟨fun c => (Cert.Kernel4Ideal.Post.dats m 0 c).arrAt 9 Cert.Kernel4Ideal.cfg0.N,
    fun c => (Cert.Kernel4Ideal.Post.dats m 0 c).arrAt 10 Cert.Kernel4Ideal.cfg0.N,
    fun c => (Cert.Kernel4Ideal.Post.dats m 0 c).arrAt 12 Cert.Kernel4Ideal.cfg0.N,
    fun c => (Cert.Kernel4Ideal.Post.dats m 0 c).arrAt 13 Cert.Kernel4Ideal.cfg0.N,
    Post.run_named m ρ,
    (θ_run _ _ _).mono (fun _ h c => by
      obtain ⟨e0, e1, e2, e3, e4, e5, e6, e7⟩ := hag c
      obtain ⟨r0, r1, r2, r3, r4⟩ := h c
      refine ⟨r0.trans ((Cert.Reference4Ideal.Read.val_main_v1_eq _ _ _).trans (Eq.trans ?_ (Post.arr9 m c).symm)),
        r1.trans ((Cert.Reference4Ideal.Read.val_main_v73_eq _ _ _ _ _).trans (Eq.trans ?_ (Post.arr10 m c).symm)),
        r2.trans ((Cert.Reference4Ideal.Read.val_main_v74_eq _ _).trans (Eq.trans ?_ (Post.arr12 m c).symm)),
        r3.trans ((Cert.Reference4Ideal.Read.val_main_v75_eq _ _).trans (Eq.trans ?_ (Post.arr13 m c).symm)), r4⟩
      · rw [e0, e1, e2]
        rfl
      · rw [e0, e1, e2, e3, e4]
        rfl
      · rw [e0, e1, e2, e3, e4, e5, e6, e7]
        rfl
      · rw [e0, e1, e2, e3, e4, e5, e6, e7]
        rfl) (Cert.Reference4Ideal.Value.run m' ρ')⟩

/-- The host reference of the mixer gradient runs and leaves its arguments alone. -/
theorem frame_mix : Cert.quiescent_Reference5Ideal := fun m ρ _ =>
  (θ_run Cert.Reference5Ideal.defs _ _).mono (fun r h => ⟨fun c => (h c).2.2.2.2.2,
      Idealize.ShloMosaic.sem_eq_zero_of_no_sems (by decide) r.2⟩)
    (Cert.Reference5Ideal.Value.run (F := Ideal) m ρ)

/-- The mixer's backward call in machine floats runs as the same text does in real arithmetic. -/
theorem frame_mixer [Cert.Kernel5.Facts] : Cert.quiescent_Kernel5 := fun m ρ _ =>
  Eq.mp (by sl_kernel_rfl) (Cert.Kernel5Ideal.Mix.frame_any (F := Bits) m ρ)

theorem congr5 {α β γ δ ε ζ : Sort*} (f : α → β → γ → δ → ε → ζ) {a a' : α} {b b' : β} {x x' : γ} {d d' : δ} {e e' : ε}
    (ha : a = a') (hb : b = b') (hx : x = x') (hd : d = d') (he : e = e') : f a b x d e = f a' b' x' d' e' := by
  subst ha hb hx hd he; rfl
theorem congr6 {α β γ δ ε ζ η : Sort*} (f : α → β → γ → δ → ε → ζ → η) {a a' : α} {b b' : β} {x x' : γ} {d d' : δ} {e e' : ε} {k k' : ζ}
    (ha : a = a') (hb : b = b') (hx : x = x') (hd : d = d') (he : e = e') (hk : k = k') : f a b x d e k = f a' b' x' d' e' k' := by
  subst ha hb hx hd he hk; rfl

set_option maxHeartbeats 2000000 in
/-- The pool half of the mixer's backward call returns the vector-Jacobian product of the pool, its affine map and its norm. -/
theorem algebraic_mix : Cert.algebraic_Kernel5Ideal_Reference5Ideal_pre_finite5 := fun m ρ m' ρ' hp hag =>
  ⟨fun c => Pipeline.afterTail₀ Cert.Kernel5Ideal.cfgs (Cert.Kernel5Ideal.Mix.dats m) 0 (Cert.Kernel5Ideal.Gen.V0 m) [Cert.Kernel5Ideal.Gen.hostOps1] c Cert.Kernel5Ideal.main_v304,
    fun c => Pipeline.afterTail₀ Cert.Kernel5Ideal.cfgs (Cert.Kernel5Ideal.Mix.dats m) 0 (Cert.Kernel5Ideal.Gen.V0 m) [Cert.Kernel5Ideal.Gen.hostOps1] c Cert.Kernel5Ideal.main_v305,
    fun c => Pipeline.afterTail₀ Cert.Kernel5Ideal.cfgs (Cert.Kernel5Ideal.Mix.dats m) 0 (Cert.Kernel5Ideal.Gen.V0 m) [Cert.Kernel5Ideal.Gen.hostOps1] c Cert.Kernel5Ideal.main_v306,
    fun c => Pipeline.afterTail₀ Cert.Kernel5Ideal.cfgs (Cert.Kernel5Ideal.Mix.dats m) 0 (Cert.Kernel5Ideal.Gen.V0 m) [Cert.Kernel5Ideal.Gen.hostOps1] c Cert.Kernel5Ideal.main_v307,
    fun c => (Cert.Kernel5Ideal.Mix.dats m 0 c).arrAt 12 Cert.Kernel5Ideal.cfg0.N,
    Cert.Kernel5Ideal.Mix.run_named m ρ,
    (θ_run _ _ _).mono (fun _ h c => by
      obtain ⟨e0, e1, e2, e3, e4, e5, e6, e7, e8, e9, e10, e11, e12⟩ := hag c
      obtain ⟨r0, r1, r2, r3, r4, r5⟩ := h c
      obtain ⟨f0, f1, f2, f3, f4, f5⟩ := hp c
      have hd : ∀ i, IsReal (Pool.ADY m c i) := IsReal.of_finite _ _ f0
      have hu : ∀ i, IsReal (Pool.APJ m c i) := IsReal.of_finite _ _ f1
      have hw : ∀ i, IsReal (Pool.APW m c i) := IsReal.of_finite _ _ f2
      have hb : ∀ i, IsReal (Pool.APB m c i) := IsReal.of_finite _ _ f3
      have hs : ∀ i, IsReal (Pool.APS m c i) := IsReal.of_finite _ _ f4
      have hg : ∀ i, IsReal (Pool.AGN m c i) := IsReal.of_finite _ _ f5
      refine ⟨r0.trans ((Cert.Reference5Ideal.Read.val_main_v167_eq _).trans (Eq.trans ?_ (Pool.res304 m c hd hu hw hb hs hg).symm)),
        r1.trans ((Cert.Reference5Ideal.Read.val_main_v168_eq _).trans (Eq.trans ?_ (Pool.res305 m c hd hu hw hb hs hg).symm)),
        r2.trans ((Cert.Reference5Ideal.Read.val_main_v169_eq _).trans (Eq.trans ?_ (Pool.res306 m c hd hu hw hb hs hg).symm)),
        r3.trans ((Cert.Reference5Ideal.Read.val_main_v170_eq _).trans (Eq.trans ?_ (Pool.res307 m c hu).symm)),
        r4.trans ((Cert.Reference5Ideal.Read.val_main_v120_eq _).trans (Eq.trans ?_ (Pool.resPW m c hd hu hw hb hs hg).symm)), r5⟩
      · exact congr6 (Cert.Reference5Ideal.Read.val_main_v167 (F := Ideal)) e0 e1 e2 e3 e4 e12
      · exact congr6 (Cert.Reference5Ideal.Read.val_main_v168 (F := Ideal)) e0 e1 e2 e3 e4 e12
      · exact congr6 (Cert.Reference5Ideal.Read.val_main_v169 (F := Ideal)) e0 e1 e2 e3 e4 e12
      · exact congr5 (Cert.Reference5Ideal.Read.val_main_v170 (F := Ideal)) e0 e1 e2 e3 e4
      · exact congr6 (Cert.Reference5Ideal.Read.val_main_v120 (F := Ideal)) e0 e1 e2 e3 e4 e12) (Cert.Reference5Ideal.Value.run m' ρ')⟩

/-- The host reference of the call before the next layer runs and leaves its arguments alone. -/
theorem frame_fpost : Cert.quiescent_Reference6Ideal := fun m ρ _ =>
  (θ_run Cert.Reference6Ideal.defs _ _).mono (fun r h => ⟨fun c => (h c).2.2.2,
      Idealize.ShloMosaic.sem_eq_zero_of_no_sems (by decide) r.2⟩)
    (Cert.Reference6Ideal.Value.run (F := Ideal) m ρ)

/-- The forward call after the mixer returns the residual rows, the hidden rows and the layer's rows. -/
theorem algebraic_fpost : Cert.algebraic_Kernel6Ideal_Reference6Ideal := fun m ρ m' ρ' _ hag =>
  ⟨fun c => (Cert.Kernel6Ideal.Gen.dats m 0 c).arrAt 6 Cert.Kernel6Ideal.cfg0.N,
    fun c => (Cert.Kernel6Ideal.Gen.dats m 0 c).arrAt 7 Cert.Kernel6Ideal.cfg0.N,
    fun c => (Cert.Kernel6Ideal.Gen.dats m 0 c).arrAt 8 Cert.Kernel6Ideal.cfg0.N,
    Cert.Kernel6Ideal.Value.run_blocks m ρ,
    (θ_run _ _ _).mono (fun _ h c => by
      obtain ⟨e0, e1, e2, e3, e4, e5⟩ := hag c
      obtain ⟨r0, r1, r2, r3⟩ := h c
      refine ⟨r0.trans ((Cert.Reference6Ideal.Read.val_main_v1_eq _ _ _).trans (Eq.trans ?_ (Fore.arr6 m c).symm)),
        r1.trans ((Cert.Reference6Ideal.Read.val_main_v17_eq _ _ _ _ _).trans (Eq.trans ?_ (Fore.arr7 m c).symm)),
        r2.trans ((Cert.Reference6Ideal.Read.val_main_v20_eq _ _ _ _ _ _).trans (Eq.trans ?_ (Fore.arr8 m c).symm)), r3⟩
      · rw [e0, e1, e2]
        rfl
      · rw [e0, e1, e2, e3, e4]
        rfl
      · rw [e0, e1, e2, e3, e4, e5]
        rfl) (Cert.Reference6Ideal.Value.run m' ρ')⟩

/-- The host reference of the projection, the convolution and the gates runs and leaves its arguments alone. -/
theorem frame_fmix : Cert.quiescent_Reference7Ideal := fun m ρ _ =>
  (θ_run Cert.Reference7Ideal.defs _ _).mono (fun r h => ⟨fun c => (h c).2.2.2,
      Idealize.ShloMosaic.sem_eq_zero_of_no_sems (by decide) r.2⟩)
    (Cert.Reference7Ideal.Value.run (F := Ideal) m ρ)

/-- The forward call of the mixer returns the projected rows, the convolved rows and the two gates, and the gated unit. -/
theorem algebraic_fmix : Cert.algebraic_Kernel7Ideal_Reference7Ideal := fun m ρ m' ρ' _ hag =>
  ⟨fun c => (Cert.Kernel7Ideal.Gen.dats m 0 c).arrAt 7 Cert.Kernel7Ideal.cfg0.N,
    fun c => Pipeline.afterTail₀ Cert.Kernel7Ideal.cfgs (Cert.Kernel7Ideal.Gen.dats m) 0 (Cert.Kernel7Ideal.Gen.V0 m) [Cert.Kernel7Ideal.Gen.hostOps1] c Cert.Kernel7Ideal.main_v41,
    fun c => Pipeline.afterTail₀ Cert.Kernel7Ideal.cfgs (Cert.Kernel7Ideal.Gen.dats m) 0 (Cert.Kernel7Ideal.Gen.V0 m) [Cert.Kernel7Ideal.Gen.hostOps1] c Cert.Kernel7Ideal.main_v42,
    Conv.run_named m ρ,
    (θ_run _ _ _).mono (fun _ h c => by
      obtain ⟨e0, e1, e2, e3, e4, e5, e6, e7, e8, e9, e10, e11, e12, e13⟩ := hag c
      obtain ⟨r0, r1, r2, r3⟩ := h c
      refine ⟨r0.trans ((Cert.Reference7Ideal.Read.val_main_v13_eq _ _ _).trans (Eq.trans ?_ (Conv.arr7 m c).symm)),
        r1.trans ((Cert.Reference7Ideal.Read.val_main_v73_eq m' c).trans (Eq.trans ?_ ((Conv.tail41 m c).trans (Conv.res41 m c)).symm)),
        r2.trans ((Cert.Reference7Ideal.Read.val_main_v87_eq m' c).trans (Eq.trans ?_ ((Conv.tail42 m c).trans (Conv.res42 m c)).symm)), r3⟩
      · rw [e0, e1, e2]
        rfl
      · rw [e0, e1, e2, e6, e7, e8, e9, e10, e11]
        rfl
      · rw [e0, e1, e2]
        rfl) (Cert.Reference7Ideal.Value.run m' ρ')⟩

/-- The host reference of the output projection's gradients runs and leaves its arguments alone. -/
theorem frame_out : Cert.quiescent_Reference8Ideal := fun m ρ _ =>
  (θ_run Cert.Reference8Ideal.defs _ _).mono (fun r h => ⟨fun c => (h c).2.2,
      Idealize.ShloMosaic.sem_eq_zero_of_no_sems (by decide) r.2⟩)
    (Cert.Reference8Ideal.Value.run (F := Ideal) m ρ)

/-- The output projection's gradients, both results. -/
theorem algebraic_out : Cert.algebraic_Kernel8Ideal_Reference8Ideal := fun m ρ m' ρ' _ hag =>
  ⟨fun c => (Cert.Kernel8Ideal.Gen.dats m 0 c).arrAt 3 Cert.Kernel8Ideal.cfg0.N, fun c => (Cert.Kernel8Ideal.Gen.dats m 0 c).arrAt 4 Cert.Kernel8Ideal.cfg0.N,
    Cert.Kernel8Ideal.Value.run_blocks m ρ,
    (θ_run _ _ _).mono (fun _ h c => by
      obtain ⟨e0, e1, e2⟩ := hag c
      obtain ⟨r0, r1, r2⟩ := h c
      refine ⟨r0.trans ((Cert.Reference8Ideal.Read.val_main_v3_eq _ _).trans (Eq.trans ?_ (Out.arr3 m c).symm)),
        r1.trans ((Cert.Reference8Ideal.Read.val_main_v2_eq _ _).trans (Eq.trans ?_ (Out.arr4 m c).symm)), r2⟩
      · rw [e0, e2]
        rfl
      · rw [e0, e1]
        rfl) (Cert.Reference8Ideal.Value.run m' ρ')⟩

/-- The host reference of the pool half of the mixer's forward call runs and leaves its arguments alone. -/
theorem frame_fpool : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

/-- The forward call of the mixer returns the pool half of its output, normalised and scaled. -/
theorem algebraic_fpool : Cert.algebraic_Kernel9Ideal_Reference9Ideal_pre_finite9 := fun m ρ m' ρ' hp hag =>
  ⟨fun c => Pipeline.afterTail₀ Cert.Kernel9Ideal.cfgs (Cert.Kernel9Ideal.Gen.dats m) 0 (Cert.Kernel9Ideal.Gen.V0 m) [Cert.Kernel9Ideal.Gen.hostOps1] c Cert.Kernel9Ideal.main_v41,
    Fpool.run_named m ρ,
    (θ_run _ _ _).mono (fun _ h c => by
      obtain ⟨e0, e1, e2, e3, e4, e5, e6, e7, e8, e9, e10, e11, e12, e13⟩ := hag c
      obtain ⟨r0, r1⟩ := h c
      obtain ⟨f0, f1, f2⟩ := hp c
      have hH : ∀ i, IsReal (Fpool.H m c i) := IsReal.of_finite _ _ f0
      have hG : ∀ i, IsReal (Fpool.G m c i) := IsReal.of_finite _ _ f1
      have hW : ∀ i, IsReal (Fpool.W m c i) := IsReal.of_finite _ _ f2
      refine ⟨r0.trans ((Cert.Reference9Ideal.Read.val_main_v91_eq m' c).trans (Eq.trans ?_ ((Fpool.tail41 m c).trans (Fpool.res41 m c hH hG hW)).symm)), r1⟩
      rw [e0, e1, e2, e3, e4, e5, e13]
      rfl) (Cert.Reference9Ideal.Value.run m' ρ')⟩
theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Pre_finite2.Gen.facts,
    Cert.Pre_finite3.Gen.facts,
    Cert.Pre_finite5.Gen.facts,
    Cert.Pre_finite9.Gen.facts,
    fun m ρ _ => Cert.Kernel.Gen.frame m ρ,
    fun m ρ _ => Cert.KernelIdeal.Gen.frame m ρ,
    frame_dw,
    fun m ρ _ => Cert.Kernel2.Gen.frame m ρ,
    fun m ρ _ => Cert.Kernel2Ideal.Gen.frame m ρ,
    fun m ρ _ => Cert.Kernel2Ideal.Gen.frame m ρ,
    frame_dx,
    fun m ρ _ => frame_dx m ρ trivial,
    fun m ρ _ => Cert.Kernel3.Gen.frame m ρ,
    fun m ρ _ => Cert.Kernel3Ideal.Gen.frame m ρ,
    fun m ρ _ => Cert.Kernel3Ideal.Gen.frame m ρ,
    frame_in,
    fun m ρ _ => frame_in m ρ trivial,
    frame_after,
    fun m ρ _ => Cert.Kernel4Ideal.Post.frame_any m ρ,
    frame_post,
    frame_mixer,
    fun m ρ _ => Cert.Kernel5Ideal.Mix.frame_any m ρ,
    fun m ρ _ => Cert.Kernel5Ideal.Mix.frame_any m ρ,
    frame_mix,
    fun m ρ _ => frame_mix m ρ trivial,
    fun m ρ _ => Cert.Kernel6.Gen.frame m ρ,
    fun m ρ _ => Cert.Kernel6Ideal.Gen.frame m ρ,
    frame_fpost,
    fun m ρ _ => Cert.Kernel7.Gen.frame m ρ,
    fun m ρ _ => Cert.Kernel7Ideal.Gen.frame m ρ,
    frame_fmix,
    fun m ρ _ => Cert.Kernel8.Gen.frame m ρ,
    fun m ρ _ => Cert.Kernel8Ideal.Gen.frame m ρ,
    frame_out,
    fun m ρ _ => Cert.Kernel9.Gen.frame m ρ,
    fun m ρ _ => Cert.Kernel9Ideal.Gen.frame m ρ,
    fun m ρ _ => Cert.Kernel9Ideal.Gen.frame m ρ,
    frame_fpool,
    fun m ρ _ => frame_fpool m ρ trivial,
    trivial,
    algebraic_dw,
    trivial,
    algebraic_dx,
    trivial,
    algebraic_in,
    trivial,
    algebraic_post,
    trivial,
    algebraic_mix,
    trivial,
    algebraic_fpost,
    trivial,
    algebraic_fmix,
    trivial,
    algebraic_out,
    trivial,
    algebraic_fpool⟩

end Cert.Proof

end
